-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_UpH (m : (ℓ : Loc Cert.UpH.nD Cert.UpH.τ Cert.UpH.sig) → Buf (Elt Bits) ℓ) : Prop :=
  True

def Pre_UpHIdeal (m : (ℓ : Loc Cert.UpHIdeal.nD Cert.UpHIdeal.τ Cert.UpHIdeal.sig) → Buf (Elt Ideal) ℓ) : Prop :=
  True

def Pre_UpHRefIdeal (m : (ℓ : Loc Cert.UpHRefIdeal.nD Cert.UpHRefIdeal.τ Cert.UpHRefIdeal.sig) → Buf (Elt Ideal) ℓ) : Prop :=
  True

def Pre_UpW (m : (ℓ : Loc Cert.UpW.nD Cert.UpW.τ Cert.UpW.sig) → Buf (Elt Bits) ℓ) : Prop :=
  True

def Pre_UpWIdeal (m : (ℓ : Loc Cert.UpWIdeal.nD Cert.UpWIdeal.τ Cert.UpWIdeal.sig) → Buf (Elt Ideal) ℓ) : Prop :=
  True

def Pre_UpWRefIdeal (m : (ℓ : Loc Cert.UpWRefIdeal.nD Cert.UpWRefIdeal.τ Cert.UpWRefIdeal.sig) → Buf (Elt Ideal) ℓ) : Prop :=
  True

def Pre_UpWg (m : (ℓ : Loc Cert.UpWg.nD Cert.UpWg.τ Cert.UpWg.sig) → Buf (Elt Bits) ℓ) : Prop :=
  True

def Pre_UpWgIdeal (m : (ℓ : Loc Cert.UpWgIdeal.nD Cert.UpWgIdeal.τ Cert.UpWgIdeal.sig) → Buf (Elt Ideal) ℓ) : Prop :=
  True

def Pre_UpWgRefIdeal (m : (ℓ : Loc Cert.UpWgRefIdeal.nD Cert.UpWgRefIdeal.τ Cert.UpWgRefIdeal.sig) → Buf (Elt Ideal) ℓ) : Prop :=
  True

def Pre_DownA (m : (ℓ : Loc Cert.DownA.nD Cert.DownA.τ Cert.DownA.sig) → Buf (Elt Bits) ℓ) : Prop :=
  True

def Pre_DownAIdeal (m : (ℓ : Loc Cert.DownAIdeal.nD Cert.DownAIdeal.τ Cert.DownAIdeal.sig) → Buf (Elt Ideal) ℓ) : Prop :=
  True

def Pre_DownARefIdeal (m : (ℓ : Loc Cert.DownARefIdeal.nD Cert.DownARefIdeal.τ Cert.DownARefIdeal.sig) → Buf (Elt Ideal) ℓ) : Prop :=
  True

def Pre_DownW (m : (ℓ : Loc Cert.DownW.nD Cert.DownW.τ Cert.DownW.sig) → Buf (Elt Bits) ℓ) : Prop :=
  True

def Pre_DownWIdeal (m : (ℓ : Loc Cert.DownWIdeal.nD Cert.DownWIdeal.τ Cert.DownWIdeal.sig) → Buf (Elt Ideal) ℓ) : Prop :=
  True

def Pre_DownWRefIdeal (m : (ℓ : Loc Cert.DownWRefIdeal.nD Cert.DownWRefIdeal.τ Cert.DownWRefIdeal.sig) → Buf (Elt Ideal) ℓ) : Prop :=
  True

def Pre_InDx (m : (ℓ : Loc Cert.InDx.nD Cert.InDx.τ Cert.InDx.sig) → Buf (Elt Bits) ℓ) : Prop :=
  True

def Pre_InDxIdeal (m : (ℓ : Loc Cert.InDxIdeal.nD Cert.InDxIdeal.τ Cert.InDxIdeal.sig) → Buf (Elt Ideal) ℓ) : Prop :=
  True

def Pre_InDxRefIdeal (m : (ℓ : Loc Cert.InDxRefIdeal.nD Cert.InDxRefIdeal.τ Cert.InDxRefIdeal.sig) → Buf (Elt Ideal) ℓ) : Prop :=
  True

def Pre_GateDx (m : (ℓ : Loc Cert.GateDx.nD Cert.GateDx.τ Cert.GateDx.sig) → Buf (Elt Bits) ℓ) : Prop :=
  True

def Pre_GateDxIdeal (m : (ℓ : Loc Cert.GateDxIdeal.nD Cert.GateDxIdeal.τ Cert.GateDxIdeal.sig) → Buf (Elt Ideal) ℓ) : Prop :=
  True

def Pre_GateDxRefIdeal (m : (ℓ : Loc Cert.GateDxRefIdeal.nD Cert.GateDxRefIdeal.τ Cert.GateDxRefIdeal.sig) → Buf (Elt Ideal) ℓ) : Prop :=
  True

def Pre_UpX (m : (ℓ : Loc Cert.UpX.nD Cert.UpX.τ Cert.UpX.sig) → Buf (Elt Bits) ℓ) : Prop :=
  True

def Pre_UpXIdeal (m : (ℓ : Loc Cert.UpXIdeal.nD Cert.UpXIdeal.τ Cert.UpXIdeal.sig) → Buf (Elt Ideal) ℓ) : Prop :=
  True

def Pre_UpXRefIdeal (m : (ℓ : Loc Cert.UpXRefIdeal.nD Cert.UpXRefIdeal.τ Cert.UpXRefIdeal.sig) → Buf (Elt Ideal) ℓ) : Prop :=
  True

def Pre_InDw (m : (ℓ : Loc Cert.InDw.nD Cert.InDw.τ Cert.InDw.sig) → Buf (Elt Bits) ℓ) : Prop :=
  True

def Pre_InDwIdeal (m : (ℓ : Loc Cert.InDwIdeal.nD Cert.InDwIdeal.τ Cert.InDwIdeal.sig) → Buf (Elt Ideal) ℓ) : Prop :=
  True

def Pre_InDwRefIdeal (m : (ℓ : Loc Cert.InDwRefIdeal.nD Cert.InDwRefIdeal.τ Cert.InDwRefIdeal.sig) → Buf (Elt Ideal) ℓ) : Prop :=
  True

def Pre_OutDx (m : (ℓ : Loc Cert.OutDx.nD Cert.OutDx.τ Cert.OutDx.sig) → Buf (Elt Bits) ℓ) : Prop :=
  True

def Pre_OutDxIdeal (m : (ℓ : Loc Cert.OutDxIdeal.nD Cert.OutDxIdeal.τ Cert.OutDxIdeal.sig) → Buf (Elt Ideal) ℓ) : Prop :=
  True

def Pre_OutDxRefIdeal (m : (ℓ : Loc Cert.OutDxRefIdeal.nD Cert.OutDxRefIdeal.τ Cert.OutDxRefIdeal.sig) → Buf (Elt Ideal) ℓ) : Prop :=
  True

def Pre_OutDw (m : (ℓ : Loc Cert.OutDw.nD Cert.OutDw.τ Cert.OutDw.sig) → Buf (Elt Bits) ℓ) : Prop :=
  True

def Pre_OutDwIdeal (m : (ℓ : Loc Cert.OutDwIdeal.nD Cert.OutDwIdeal.τ Cert.OutDwIdeal.sig) → Buf (Elt Ideal) ℓ) : Prop :=
  True

def Pre_OutDwRefIdeal (m : (ℓ : Loc Cert.OutDwRefIdeal.nD Cert.OutDwRefIdeal.τ Cert.OutDwRefIdeal.sig) → Buf (Elt Ideal) ℓ) : Prop :=
  True

def Pre_GateDw (m : (ℓ : Loc Cert.GateDw.nD Cert.GateDw.τ Cert.GateDw.sig) → Buf (Elt Bits) ℓ) : Prop :=
  True

def Pre_GateDwIdeal (m : (ℓ : Loc Cert.GateDwIdeal.nD Cert.GateDwIdeal.τ Cert.GateDwIdeal.sig) → Buf (Elt Ideal) ℓ) : Prop :=
  True

def Pre_GateDwRefIdeal (m : (ℓ : Loc Cert.GateDwRefIdeal.nD Cert.GateDwRefIdeal.τ Cert.GateDwRefIdeal.sig) → Buf (Elt Ideal) ℓ) : Prop :=
  True

def Pre_ProjDw (m : (ℓ : Loc Cert.ProjDw.nD Cert.ProjDw.τ Cert.ProjDw.sig) → Buf (Elt Bits) ℓ) : Prop :=
  True

def Pre_ProjDwIdeal (m : (ℓ : Loc Cert.ProjDwIdeal.nD Cert.ProjDwIdeal.τ Cert.ProjDwIdeal.sig) → Buf (Elt Ideal) ℓ) : Prop :=
  True

def Pre_ProjDwRefIdeal (m : (ℓ : Loc Cert.ProjDwRefIdeal.nD Cert.ProjDwRefIdeal.τ Cert.ProjDwRefIdeal.sig) → Buf (Elt Ideal) ℓ) : Prop :=
  True

def Pre_MmUp (m : (ℓ : Loc Cert.MmUp.nD Cert.MmUp.τ Cert.MmUp.sig) → Buf (Elt Bits) ℓ) : Prop :=
  True

def Pre_MmUpIdeal (m : (ℓ : Loc Cert.MmUpIdeal.nD Cert.MmUpIdeal.τ Cert.MmUpIdeal.sig) → Buf (Elt Ideal) ℓ) : Prop :=
  True

def Pre_MmUpRefIdeal (m : (ℓ : Loc Cert.MmUpRefIdeal.nD Cert.MmUpRefIdeal.τ Cert.MmUpRefIdeal.sig) → Buf (Elt Ideal) ℓ) : Prop :=
  True

def Pre_MmDown (m : (ℓ : Loc Cert.MmDown.nD Cert.MmDown.τ Cert.MmDown.sig) → Buf (Elt Bits) ℓ) : Prop :=
  True

def Pre_MmDownIdeal (m : (ℓ : Loc Cert.MmDownIdeal.nD Cert.MmDownIdeal.τ Cert.MmDownIdeal.sig) → Buf (Elt Ideal) ℓ) : Prop :=
  True

def Pre_MmDownRefIdeal (m : (ℓ : Loc Cert.MmDownRefIdeal.nD Cert.MmDownRefIdeal.τ Cert.MmDownRefIdeal.sig) → Buf (Elt Ideal) ℓ) : Prop :=
  True

def Pre_MmIn (m : (ℓ : Loc Cert.MmIn.nD Cert.MmIn.τ Cert.MmIn.sig) → Buf (Elt Bits) ℓ) : Prop :=
  True

def Pre_MmInIdeal (m : (ℓ : Loc Cert.MmInIdeal.nD Cert.MmInIdeal.τ Cert.MmInIdeal.sig) → Buf (Elt Ideal) ℓ) : Prop :=
  True

def Pre_MmInRefIdeal (m : (ℓ : Loc Cert.MmInRefIdeal.nD Cert.MmInRefIdeal.τ Cert.MmInRefIdeal.sig) → Buf (Elt Ideal) ℓ) : Prop :=
  True

def Pre_MmOut (m : (ℓ : Loc Cert.MmOut.nD Cert.MmOut.τ Cert.MmOut.sig) → Buf (Elt Bits) ℓ) : Prop :=
  True

def Pre_MmOutIdeal (m : (ℓ : Loc Cert.MmOutIdeal.nD Cert.MmOutIdeal.τ Cert.MmOutIdeal.sig) → Buf (Elt Ideal) ℓ) : Prop :=
  True

def Pre_MmOutRefIdeal (m : (ℓ : Loc Cert.MmOutRefIdeal.nD Cert.MmOutRefIdeal.τ Cert.MmOutRefIdeal.sig) → Buf (Elt Ideal) ℓ) : Prop :=
  True

def Pre_MmGate (m : (ℓ : Loc Cert.MmGate.nD Cert.MmGate.τ Cert.MmGate.sig) → Buf (Elt Bits) ℓ) : Prop :=
  True

def Pre_MmGateIdeal (m : (ℓ : Loc Cert.MmGateIdeal.nD Cert.MmGateIdeal.τ Cert.MmGateIdeal.sig) → Buf (Elt Ideal) ℓ) : Prop :=
  True

def Pre_MmGateRefIdeal (m : (ℓ : Loc Cert.MmGateRefIdeal.nD Cert.MmGateRefIdeal.τ Cert.MmGateRefIdeal.sig) → Buf (Elt Ideal) ℓ) : Prop :=
  True

def Pre_MmProj (m : (ℓ : Loc Cert.MmProj.nD Cert.MmProj.τ Cert.MmProj.sig) → Buf (Elt Bits) ℓ) : Prop :=
  True

def Pre_MmProjIdeal (m : (ℓ : Loc Cert.MmProjIdeal.nD Cert.MmProjIdeal.τ Cert.MmProjIdeal.sig) → Buf (Elt Ideal) ℓ) : Prop :=
  True

def Pre_MmProjRefIdeal (m : (ℓ : Loc Cert.MmProjRefIdeal.nD Cert.MmProjRefIdeal.τ Cert.MmProjRefIdeal.sig) → Buf (Elt Ideal) ℓ) : Prop :=
  True

def Pre_PleB (m : (ℓ : Loc Cert.PleB.nD Cert.PleB.τ Cert.PleB.sig) → Buf (Elt Bits) ℓ) : Prop :=
  True

def Pre_PleBIdeal (m : (ℓ : Loc Cert.PleBIdeal.nD Cert.PleBIdeal.τ Cert.PleBIdeal.sig) → Buf (Elt Ideal) ℓ) : Prop :=
  True

def Pre_PleBRefIdeal (m : (ℓ : Loc Cert.PleBRefIdeal.nD Cert.PleBRefIdeal.τ Cert.PleBRefIdeal.sig) → Buf (Elt Ideal) ℓ) : Prop :=
  True

def Pre_GnormB (m : (ℓ : Loc Cert.GnormB.nD Cert.GnormB.τ Cert.GnormB.sig) → Buf (Elt Bits) ℓ) : Prop :=
  True

def Pre_GnormBIdeal (m : (ℓ : Loc Cert.GnormBIdeal.nD Cert.GnormBIdeal.τ Cert.GnormBIdeal.sig) → Buf (Elt Ideal) ℓ) : Prop :=
  True

def Pre_GnormBRefIdeal (m : (ℓ : Loc Cert.GnormBRefIdeal.nD Cert.GnormBRefIdeal.τ Cert.GnormBRefIdeal.sig) → Buf (Elt Ideal) ℓ) : Prop :=
  True

def Pre_AttnF (m : (ℓ : Loc Cert.AttnF.nD Cert.AttnF.τ Cert.AttnF.sig) → Buf (Elt Bits) ℓ) : Prop :=
  True

def Pre_AttnFIdeal (m : (ℓ : Loc Cert.AttnFIdeal.nD Cert.AttnFIdeal.τ Cert.AttnFIdeal.sig) → Buf (Elt Ideal) ℓ) : Prop :=
  True

def Pre_AttnFIdeal_finite_scores [hPre_finite_scores : Cert.Pre_finite_scores.Facts] (m : (ℓ : Loc Cert.AttnFIdeal.nD Cert.AttnFIdeal.τ Cert.AttnFIdeal.sig) → Buf (Elt Ideal) ℓ) : Prop :=
  ∀ c : Dev Cert.AttnFIdeal.nD,
    (Cert.Pre_finite_scores.fn (F := Ideal) (m ((c.tc : Thread Cert.AttnFIdeal.nD Cert.AttnFIdeal.τ).loc Cert.AttnFIdeal.main_arg0)) (m ((c.tc : Thread Cert.AttnFIdeal.nD Cert.AttnFIdeal.τ).loc Cert.AttnFIdeal.main_arg1)) (m ((c.tc : Thread Cert.AttnFIdeal.nD Cert.AttnFIdeal.τ).loc Cert.AttnFIdeal.main_arg2))) = (fun _ => 1#1)

def Pre_AttnFRefIdeal (m : (ℓ : Loc Cert.AttnFRefIdeal.nD Cert.AttnFRefIdeal.τ Cert.AttnFRefIdeal.sig) → Buf (Elt Ideal) ℓ) : Prop :=
  True

def Pre_AttnFRefIdeal_finite_scores [hPre_finite_scores : Cert.Pre_finite_scores.Facts] (m : (ℓ : Loc Cert.AttnFRefIdeal.nD Cert.AttnFRefIdeal.τ Cert.AttnFRefIdeal.sig) → Buf (Elt Ideal) ℓ) : Prop :=
  ∀ c : Dev Cert.AttnFRefIdeal.nD,
    (Cert.Pre_finite_scores.fn (F := Ideal) (m ((c.tc : Thread Cert.AttnFRefIdeal.nD Cert.AttnFRefIdeal.τ).loc Cert.AttnFRefIdeal.main_arg0)) (m ((c.tc : Thread Cert.AttnFRefIdeal.nD Cert.AttnFRefIdeal.τ).loc Cert.AttnFRefIdeal.main_arg1)) (m ((c.tc : Thread Cert.AttnFRefIdeal.nD Cert.AttnFRefIdeal.τ).loc Cert.AttnFRefIdeal.main_arg2))) = (fun _ => 1#1)

def Pre_MixB (m : (ℓ : Loc Cert.MixB.nD Cert.MixB.τ Cert.MixB.sig) → Buf (Elt Bits) ℓ) : Prop :=
  True

def Pre_MixBIdeal (m : (ℓ : Loc Cert.MixBIdeal.nD Cert.MixBIdeal.τ Cert.MixBIdeal.sig) → Buf (Elt Ideal) ℓ) : Prop :=
  True

def Pre_MixBIdeal_finite_sums [hPre_finite_sums : Cert.Pre_finite_sums.Facts] (m : (ℓ : Loc Cert.MixBIdeal.nD Cert.MixBIdeal.τ Cert.MixBIdeal.sig) → Buf (Elt Ideal) ℓ) : Prop :=
  ∀ c : Dev Cert.MixBIdeal.nD,
    (Cert.Pre_finite_sums.fn (F := Ideal) (m ((c.tc : Thread Cert.MixBIdeal.nD Cert.MixBIdeal.τ).loc Cert.MixBIdeal.main_arg0)) (m ((c.tc : Thread Cert.MixBIdeal.nD Cert.MixBIdeal.τ).loc Cert.MixBIdeal.main_arg1)) (m ((c.tc : Thread Cert.MixBIdeal.nD Cert.MixBIdeal.τ).loc Cert.MixBIdeal.main_arg2)) (m ((c.tc : Thread Cert.MixBIdeal.nD Cert.MixBIdeal.τ).loc Cert.MixBIdeal.main_arg3)) (m ((c.tc : Thread Cert.MixBIdeal.nD Cert.MixBIdeal.τ).loc Cert.MixBIdeal.main_arg4)) (m ((c.tc : Thread Cert.MixBIdeal.nD Cert.MixBIdeal.τ).loc Cert.MixBIdeal.main_arg5)) (m ((c.tc : Thread Cert.MixBIdeal.nD Cert.MixBIdeal.τ).loc Cert.MixBIdeal.main_arg6))) = (fun _ => 1#1)

def Pre_MixBRefIdeal (m : (ℓ : Loc Cert.MixBRefIdeal.nD Cert.MixBRefIdeal.τ Cert.MixBRefIdeal.sig) → Buf (Elt Ideal) ℓ) : Prop :=
  True

def Pre_MixBRefIdeal_finite_sums [hPre_finite_sums : Cert.Pre_finite_sums.Facts] (m : (ℓ : Loc Cert.MixBRefIdeal.nD Cert.MixBRefIdeal.τ Cert.MixBRefIdeal.sig) → Buf (Elt Ideal) ℓ) : Prop :=
  ∀ c : Dev Cert.MixBRefIdeal.nD,
    (Cert.Pre_finite_sums.fn (F := Ideal) (m ((c.tc : Thread Cert.MixBRefIdeal.nD Cert.MixBRefIdeal.τ).loc Cert.MixBRefIdeal.main_arg0)) (m ((c.tc : Thread Cert.MixBRefIdeal.nD Cert.MixBRefIdeal.τ).loc Cert.MixBRefIdeal.main_arg1)) (m ((c.tc : Thread Cert.MixBRefIdeal.nD Cert.MixBRefIdeal.τ).loc Cert.MixBRefIdeal.main_arg2)) (m ((c.tc : Thread Cert.MixBRefIdeal.nD Cert.MixBRefIdeal.τ).loc Cert.MixBRefIdeal.main_arg3)) (m ((c.tc : Thread Cert.MixBRefIdeal.nD Cert.MixBRefIdeal.τ).loc Cert.MixBRefIdeal.main_arg4)) (m ((c.tc : Thread Cert.MixBRefIdeal.nD Cert.MixBRefIdeal.τ).loc Cert.MixBRefIdeal.main_arg5)) (m ((c.tc : Thread Cert.MixBRefIdeal.nD Cert.MixBRefIdeal.τ).loc Cert.MixBRefIdeal.main_arg6))) = (fun _ => 1#1)

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_PleF (m : (ℓ : Loc Cert.PleF.nD Cert.PleF.τ Cert.PleF.sig) → Buf (Elt Bits) ℓ) : Prop :=
  True

def Pre_PleFIdeal (m : (ℓ : Loc Cert.PleFIdeal.nD Cert.PleFIdeal.τ Cert.PleFIdeal.sig) → Buf (Elt Ideal) ℓ) : Prop :=
  True

def Pre_PleFRefIdeal (m : (ℓ : Loc Cert.PleFRefIdeal.nD Cert.PleFRefIdeal.τ Cert.PleFRefIdeal.sig) → Buf (Elt Ideal) ℓ) : Prop :=
  True

def Pre_RmsF (m : (ℓ : Loc Cert.RmsF.nD Cert.RmsF.τ Cert.RmsF.sig) → Buf (Elt Bits) ℓ) : Prop :=
  True

def Pre_RmsFIdeal (m : (ℓ : Loc Cert.RmsFIdeal.nD Cert.RmsFIdeal.τ Cert.RmsFIdeal.sig) → Buf (Elt Ideal) ℓ) : Prop :=
  True

def Pre_RmsFRefIdeal (m : (ℓ : Loc Cert.RmsFRefIdeal.nD Cert.RmsFRefIdeal.τ Cert.RmsFRefIdeal.sig) → Buf (Elt Ideal) ℓ) : Prop :=
  True

def Pre_GnormF (m : (ℓ : Loc Cert.GnormF.nD Cert.GnormF.τ Cert.GnormF.sig) → Buf (Elt Bits) ℓ) : Prop :=
  True

def Pre_GnormFIdeal (m : (ℓ : Loc Cert.GnormFIdeal.nD Cert.GnormFIdeal.τ Cert.GnormFIdeal.sig) → Buf (Elt Ideal) ℓ) : Prop :=
  True

def Pre_GnormFRefIdeal (m : (ℓ : Loc Cert.GnormFRefIdeal.nD Cert.GnormFRefIdeal.τ Cert.GnormFRefIdeal.sig) → Buf (Elt Ideal) ℓ) : Prop :=
  True

def Pre_MixF (m : (ℓ : Loc Cert.MixF.nD Cert.MixF.τ Cert.MixF.sig) → Buf (Elt Bits) ℓ) : Prop :=
  True

def Pre_MixFIdeal (m : (ℓ : Loc Cert.MixFIdeal.nD Cert.MixFIdeal.τ Cert.MixFIdeal.sig) → Buf (Elt Ideal) ℓ) : Prop :=
  True

def Pre_MixFIdeal_finite_logs [hPre_finite_logs : Cert.Pre_finite_logs.Facts] (m : (ℓ : Loc Cert.MixFIdeal.nD Cert.MixFIdeal.τ Cert.MixFIdeal.sig) → Buf (Elt Ideal) ℓ) : Prop :=
  ∀ c : Dev Cert.MixFIdeal.nD,
    (Cert.Pre_finite_logs.fn (F := Ideal) (m ((c.tc : Thread Cert.MixFIdeal.nD Cert.MixFIdeal.τ).loc Cert.MixFIdeal.main_arg0)) (m ((c.tc : Thread Cert.MixFIdeal.nD Cert.MixFIdeal.τ).loc Cert.MixFIdeal.main_arg1)) (m ((c.tc : Thread Cert.MixFIdeal.nD Cert.MixFIdeal.τ).loc Cert.MixFIdeal.main_arg2)) (m ((c.tc : Thread Cert.MixFIdeal.nD Cert.MixFIdeal.τ).loc Cert.MixFIdeal.main_arg3)) (m ((c.tc : Thread Cert.MixFIdeal.nD Cert.MixFIdeal.τ).loc Cert.MixFIdeal.main_arg4)) (m ((c.tc : Thread Cert.MixFIdeal.nD Cert.MixFIdeal.τ).loc Cert.MixFIdeal.main_arg5))) = (fun _ => 1#1)

def Pre_MixFRefIdeal (m : (ℓ : Loc Cert.MixFRefIdeal.nD Cert.MixFRefIdeal.τ Cert.MixFRefIdeal.sig) → Buf (Elt Ideal) ℓ) : Prop :=
  True

def Pre_MixFRefIdeal_finite_logs [hPre_finite_logs : Cert.Pre_finite_logs.Facts] (m : (ℓ : Loc Cert.MixFRefIdeal.nD Cert.MixFRefIdeal.τ Cert.MixFRefIdeal.sig) → Buf (Elt Ideal) ℓ) : Prop :=
  ∀ c : Dev Cert.MixFRefIdeal.nD,
    (Cert.Pre_finite_logs.fn (F := Ideal) (m ((c.tc : Thread Cert.MixFRefIdeal.nD Cert.MixFRefIdeal.τ).loc Cert.MixFRefIdeal.main_arg0)) (m ((c.tc : Thread Cert.MixFRefIdeal.nD Cert.MixFRefIdeal.τ).loc Cert.MixFRefIdeal.main_arg1)) (m ((c.tc : Thread Cert.MixFRefIdeal.nD Cert.MixFRefIdeal.τ).loc Cert.MixFRefIdeal.main_arg2)) (m ((c.tc : Thread Cert.MixFRefIdeal.nD Cert.MixFRefIdeal.τ).loc Cert.MixFRefIdeal.main_arg3)) (m ((c.tc : Thread Cert.MixFRefIdeal.nD Cert.MixFRefIdeal.τ).loc Cert.MixFRefIdeal.main_arg4)) (m ((c.tc : Thread Cert.MixFRefIdeal.nD Cert.MixFRefIdeal.τ).loc Cert.MixFRefIdeal.main_arg5))) = (fun _ => 1#1)

def Pre_GateF (m : (ℓ : Loc Cert.GateF.nD Cert.GateF.τ Cert.GateF.sig) → Buf (Elt Bits) ℓ) : Prop :=
  True

def Pre_GateFIdeal (m : (ℓ : Loc Cert.GateFIdeal.nD Cert.GateFIdeal.τ Cert.GateFIdeal.sig) → Buf (Elt Ideal) ℓ) : Prop :=
  True

def Pre_GateFRefIdeal (m : (ℓ : Loc Cert.GateFRefIdeal.nD Cert.GateFRefIdeal.τ Cert.GateFRefIdeal.sig) → Buf (Elt Ideal) ℓ) : Prop :=
  True

def Pre_ConvF (m : (ℓ : Loc Cert.ConvF.nD Cert.ConvF.τ Cert.ConvF.sig) → Buf (Elt Bits) ℓ) : Prop :=
  True

def Pre_ConvFIdeal (m : (ℓ : Loc Cert.ConvFIdeal.nD Cert.ConvFIdeal.τ Cert.ConvFIdeal.sig) → Buf (Elt Ideal) ℓ) : Prop :=
  True

def Pre_ConvFRefIdeal (m : (ℓ : Loc Cert.ConvFRefIdeal.nD Cert.ConvFRefIdeal.τ Cert.ConvFRefIdeal.sig) → Buf (Elt Ideal) ℓ) : Prop :=
  True

def Pre_AdWs (m : (ℓ : Loc Cert.AdWs.nD Cert.AdWs.τ Cert.AdWs.sig) → Buf (Elt Bits) ℓ) : Prop :=
  True

def Pre_AdWsIdeal (m : (ℓ : Loc Cert.AdWsIdeal.nD Cert.AdWsIdeal.τ Cert.AdWsIdeal.sig) → Buf (Elt Ideal) ℓ) : Prop :=
  True

def Pre_AdWsRefIdeal (m : (ℓ : Loc Cert.AdWsRefIdeal.nD Cert.AdWsRefIdeal.τ Cert.AdWsRefIdeal.sig) → Buf (Elt Ideal) ℓ) : Prop :=
  True

def Pre_PrepF (m : (ℓ : Loc Cert.PrepF.nD Cert.PrepF.τ Cert.PrepF.sig) → Buf (Elt Bits) ℓ) : Prop :=
  True

def Pre_PrepFIdeal (m : (ℓ : Loc Cert.PrepFIdeal.nD Cert.PrepFIdeal.τ Cert.PrepFIdeal.sig) → Buf (Elt Ideal) ℓ) : Prop :=
  True

def Pre_PrepFRefIdeal (m : (ℓ : Loc Cert.PrepFRefIdeal.nD Cert.PrepFRefIdeal.τ Cert.PrepFRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_UpH [hUpH : Cert.UpH.Facts] : Prop :=
  ∀ (m : (ℓ : Loc Cert.UpH.nD Cert.UpH.τ Cert.UpH.sig) → Buf (Elt Bits) ℓ) (g : Dev Cert.UpH.nD → PrngReg), Pre_UpH m →
    θ_run (Cert.UpH.defs (F := Bits)) (onTc (τ := Cert.UpH.τ) (Cert.UpH.main (F := Bits))) ⟨m, fun _ => 0, g⟩ (fun r => (∀ c : Dev Cert.UpH.nD,
      r.2.mem ((c.tc : Thread Cert.UpH.nD Cert.UpH.τ).loc Cert.UpH.main_arg0) = m ((c.tc : Thread Cert.UpH.nD Cert.UpH.τ).loc Cert.UpH.main_arg0)
      ∧ r.2.mem ((c.tc : Thread Cert.UpH.nD Cert.UpH.τ).loc Cert.UpH.main_arg1) = m ((c.tc : Thread Cert.UpH.nD Cert.UpH.τ).loc Cert.UpH.main_arg1))
      ∧ r.2.sem = fun _ => 0)

def quiescent_UpHIdeal [hUpHIdeal : Cert.UpHIdeal.Facts] : Prop :=
  ∀ (m : (ℓ : Loc Cert.UpHIdeal.nD Cert.UpHIdeal.τ Cert.UpHIdeal.sig) → Buf (Elt Ideal) ℓ) (g : Dev Cert.UpHIdeal.nD → PrngReg), Pre_UpHIdeal m →
    θ_run (Cert.UpHIdeal.defs (F := Ideal)) (onTc (τ := Cert.UpHIdeal.τ) (Cert.UpHIdeal.main (F := Ideal))) ⟨m, fun _ => 0, g⟩ (fun r => (∀ c : Dev Cert.UpHIdeal.nD,
      r.2.mem ((c.tc : Thread Cert.UpHIdeal.nD Cert.UpHIdeal.τ).loc Cert.UpHIdeal.main_arg0) = m ((c.tc : Thread Cert.UpHIdeal.nD Cert.UpHIdeal.τ).loc Cert.UpHIdeal.main_arg0)
      ∧ r.2.mem ((c.tc : Thread Cert.UpHIdeal.nD Cert.UpHIdeal.τ).loc Cert.UpHIdeal.main_arg1) = m ((c.tc : Thread Cert.UpHIdeal.nD Cert.UpHIdeal.τ).loc Cert.UpHIdeal.main_arg1))
      ∧ r.2.sem = fun _ => 0)

def quiescent_UpHRefIdeal [hUpHRefIdeal : Cert.UpHRefIdeal.Facts] : Prop :=
  ∀ (m : (ℓ : Loc Cert.UpHRefIdeal.nD Cert.UpHRefIdeal.τ Cert.UpHRefIdeal.sig) → Buf (Elt Ideal) ℓ) (g : Dev Cert.UpHRefIdeal.nD → PrngReg), Pre_UpHRefIdeal m →
    θ_run (Cert.UpHRefIdeal.defs (F := Ideal)) (onTc (τ := Cert.UpHRefIdeal.τ) (Cert.UpHRefIdeal.main (F := Ideal))) ⟨m, fun _ => 0, g⟩ (fun r => (∀ c : Dev Cert.UpHRefIdeal.nD,
      r.2.mem ((c.tc : Thread Cert.UpHRefIdeal.nD Cert.UpHRefIdeal.τ).loc Cert.UpHRefIdeal.main_arg0) = m ((c.tc : Thread Cert.UpHRefIdeal.nD Cert.UpHRefIdeal.τ).loc Cert.UpHRefIdeal.main_arg0)
      ∧ r.2.mem ((c.tc : Thread Cert.UpHRefIdeal.nD Cert.UpHRefIdeal.τ).loc Cert.UpHRefIdeal.main_arg1) = m ((c.tc : Thread Cert.UpHRefIdeal.nD Cert.UpHRefIdeal.τ).loc Cert.UpHRefIdeal.main_arg1))
      ∧ r.2.sem = fun _ => 0)

def quiescent_UpW [hUpW : Cert.UpW.Facts] : Prop :=
  ∀ (m : (ℓ : Loc Cert.UpW.nD Cert.UpW.τ Cert.UpW.sig) → Buf (Elt Bits) ℓ) (g : Dev Cert.UpW.nD → PrngReg), Pre_UpW m →
    θ_run (Cert.UpW.defs (F := Bits)) (onTc (τ := Cert.UpW.τ) (Cert.UpW.main (F := Bits))) ⟨m, fun _ => 0, g⟩ (fun r => (∀ c : Dev Cert.UpW.nD,
      r.2.mem ((c.tc : Thread Cert.UpW.nD Cert.UpW.τ).loc Cert.UpW.main_arg0) = m ((c.tc : Thread Cert.UpW.nD Cert.UpW.τ).loc Cert.UpW.main_arg0)
      ∧ r.2.mem ((c.tc : Thread Cert.UpW.nD Cert.UpW.τ).loc Cert.UpW.main_arg1) = m ((c.tc : Thread Cert.UpW.nD Cert.UpW.τ).loc Cert.UpW.main_arg1)
      ∧ r.2.mem ((c.tc : Thread Cert.UpW.nD Cert.UpW.τ).loc Cert.UpW.main_arg2) = m ((c.tc : Thread Cert.UpW.nD Cert.UpW.τ).loc Cert.UpW.main_arg2))
      ∧ r.2.sem = fun _ => 0)

def quiescent_UpWIdeal [hUpWIdeal : Cert.UpWIdeal.Facts] : Prop :=
  ∀ (m : (ℓ : Loc Cert.UpWIdeal.nD Cert.UpWIdeal.τ Cert.UpWIdeal.sig) → Buf (Elt Ideal) ℓ) (g : Dev Cert.UpWIdeal.nD → PrngReg), Pre_UpWIdeal m →
    θ_run (Cert.UpWIdeal.defs (F := Ideal)) (onTc (τ := Cert.UpWIdeal.τ) (Cert.UpWIdeal.main (F := Ideal))) ⟨m, fun _ => 0, g⟩ (fun r => (∀ c : Dev Cert.UpWIdeal.nD,
      r.2.mem ((c.tc : Thread Cert.UpWIdeal.nD Cert.UpWIdeal.τ).loc Cert.UpWIdeal.main_arg0) = m ((c.tc : Thread Cert.UpWIdeal.nD Cert.UpWIdeal.τ).loc Cert.UpWIdeal.main_arg0)
      ∧ r.2.mem ((c.tc : Thread Cert.UpWIdeal.nD Cert.UpWIdeal.τ).loc Cert.UpWIdeal.main_arg1) = m ((c.tc : Thread Cert.UpWIdeal.nD Cert.UpWIdeal.τ).loc Cert.UpWIdeal.main_arg1)
      ∧ r.2.mem ((c.tc : Thread Cert.UpWIdeal.nD Cert.UpWIdeal.τ).loc Cert.UpWIdeal.main_arg2) = m ((c.tc : Thread Cert.UpWIdeal.nD Cert.UpWIdeal.τ).loc Cert.UpWIdeal.main_arg2))
      ∧ r.2.sem = fun _ => 0)

def quiescent_UpWRefIdeal [hUpWRefIdeal : Cert.UpWRefIdeal.Facts] : Prop :=
  ∀ (m : (ℓ : Loc Cert.UpWRefIdeal.nD Cert.UpWRefIdeal.τ Cert.UpWRefIdeal.sig) → Buf (Elt Ideal) ℓ) (g : Dev Cert.UpWRefIdeal.nD → PrngReg), Pre_UpWRefIdeal m →
    θ_run (Cert.UpWRefIdeal.defs (F := Ideal)) (onTc (τ := Cert.UpWRefIdeal.τ) (Cert.UpWRefIdeal.main (F := Ideal))) ⟨m, fun _ => 0, g⟩ (fun r => (∀ c : Dev Cert.UpWRefIdeal.nD,
      r.2.mem ((c.tc : Thread Cert.UpWRefIdeal.nD Cert.UpWRefIdeal.τ).loc Cert.UpWRefIdeal.main_arg0) = m ((c.tc : Thread Cert.UpWRefIdeal.nD Cert.UpWRefIdeal.τ).loc Cert.UpWRefIdeal.main_arg0)
      ∧ r.2.mem ((c.tc : Thread Cert.UpWRefIdeal.nD Cert.UpWRefIdeal.τ).loc Cert.UpWRefIdeal.main_arg1) = m ((c.tc : Thread Cert.UpWRefIdeal.nD Cert.UpWRefIdeal.τ).loc Cert.UpWRefIdeal.main_arg1)
      ∧ r.2.mem ((c.tc : Thread Cert.UpWRefIdeal.nD Cert.UpWRefIdeal.τ).loc Cert.UpWRefIdeal.main_arg2) = m ((c.tc : Thread Cert.UpWRefIdeal.nD Cert.UpWRefIdeal.τ).loc Cert.UpWRefIdeal.main_arg2))
      ∧ r.2.sem = fun _ => 0)

def quiescent_UpWg [hUpWg : Cert.UpWg.Facts] : Prop :=
  ∀ (m : (ℓ : Loc Cert.UpWg.nD Cert.UpWg.τ Cert.UpWg.sig) → Buf (Elt Bits) ℓ) (g : Dev Cert.UpWg.nD → PrngReg), Pre_UpWg m →
    θ_run (Cert.UpWg.defs (F := Bits)) (onTc (τ := Cert.UpWg.τ) (Cert.UpWg.main (F := Bits))) ⟨m, fun _ => 0, g⟩ (fun r => (∀ c : Dev Cert.UpWg.nD,
      r.2.mem ((c.tc : Thread Cert.UpWg.nD Cert.UpWg.τ).loc Cert.UpWg.main_arg0) = m ((c.tc : Thread Cert.UpWg.nD Cert.UpWg.τ).loc Cert.UpWg.main_arg0)
      ∧ r.2.mem ((c.tc : Thread Cert.UpWg.nD Cert.UpWg.τ).loc Cert.UpWg.main_arg1) = m ((c.tc : Thread Cert.UpWg.nD Cert.UpWg.τ).loc Cert.UpWg.main_arg1)
      ∧ r.2.mem ((c.tc : Thread Cert.UpWg.nD Cert.UpWg.τ).loc Cert.UpWg.main_arg2) = m ((c.tc : Thread Cert.UpWg.nD Cert.UpWg.τ).loc Cert.UpWg.main_arg2))
      ∧ r.2.sem = fun _ => 0)

def quiescent_UpWgIdeal [hUpWgIdeal : Cert.UpWgIdeal.Facts] : Prop :=
  ∀ (m : (ℓ : Loc Cert.UpWgIdeal.nD Cert.UpWgIdeal.τ Cert.UpWgIdeal.sig) → Buf (Elt Ideal) ℓ) (g : Dev Cert.UpWgIdeal.nD → PrngReg), Pre_UpWgIdeal m →
    θ_run (Cert.UpWgIdeal.defs (F := Ideal)) (onTc (τ := Cert.UpWgIdeal.τ) (Cert.UpWgIdeal.main (F := Ideal))) ⟨m, fun _ => 0, g⟩ (fun r => (∀ c : Dev Cert.UpWgIdeal.nD,
      r.2.mem ((c.tc : Thread Cert.UpWgIdeal.nD Cert.UpWgIdeal.τ).loc Cert.UpWgIdeal.main_arg0) = m ((c.tc : Thread Cert.UpWgIdeal.nD Cert.UpWgIdeal.τ).loc Cert.UpWgIdeal.main_arg0)
      ∧ r.2.mem ((c.tc : Thread Cert.UpWgIdeal.nD Cert.UpWgIdeal.τ).loc Cert.UpWgIdeal.main_arg1) = m ((c.tc : Thread Cert.UpWgIdeal.nD Cert.UpWgIdeal.τ).loc Cert.UpWgIdeal.main_arg1)
      ∧ r.2.mem ((c.tc : Thread Cert.UpWgIdeal.nD Cert.UpWgIdeal.τ).loc Cert.UpWgIdeal.main_arg2) = m ((c.tc : Thread Cert.UpWgIdeal.nD Cert.UpWgIdeal.τ).loc Cert.UpWgIdeal.main_arg2))
      ∧ r.2.sem = fun _ => 0)

def quiescent_UpWgRefIdeal [hUpWgRefIdeal : Cert.UpWgRefIdeal.Facts] : Prop :=
  ∀ (m : (ℓ : Loc Cert.UpWgRefIdeal.nD Cert.UpWgRefIdeal.τ Cert.UpWgRefIdeal.sig) → Buf (Elt Ideal) ℓ) (g : Dev Cert.UpWgRefIdeal.nD → PrngReg), Pre_UpWgRefIdeal m →
    θ_run (Cert.UpWgRefIdeal.defs (F := Ideal)) (onTc (τ := Cert.UpWgRefIdeal.τ) (Cert.UpWgRefIdeal.main (F := Ideal))) ⟨m, fun _ => 0, g⟩ (fun r => (∀ c : Dev Cert.UpWgRefIdeal.nD,
      r.2.mem ((c.tc : Thread Cert.UpWgRefIdeal.nD Cert.UpWgRefIdeal.τ).loc Cert.UpWgRefIdeal.main_arg0) = m ((c.tc : Thread Cert.UpWgRefIdeal.nD Cert.UpWgRefIdeal.τ).loc Cert.UpWgRefIdeal.main_arg0)
      ∧ r.2.mem ((c.tc : Thread Cert.UpWgRefIdeal.nD Cert.UpWgRefIdeal.τ).loc Cert.UpWgRefIdeal.main_arg1) = m ((c.tc : Thread Cert.UpWgRefIdeal.nD Cert.UpWgRefIdeal.τ).loc Cert.UpWgRefIdeal.main_arg1)
      ∧ r.2.mem ((c.tc : Thread Cert.UpWgRefIdeal.nD Cert.UpWgRefIdeal.τ).loc Cert.UpWgRefIdeal.main_arg2) = m ((c.tc : Thread Cert.UpWgRefIdeal.nD Cert.UpWgRefIdeal.τ).loc Cert.UpWgRefIdeal.main_arg2))
      ∧ r.2.sem = fun _ => 0)

def quiescent_DownA [hDownA : Cert.DownA.Facts] : Prop :=
  ∀ (m : (ℓ : Loc Cert.DownA.nD Cert.DownA.τ Cert.DownA.sig) → Buf (Elt Bits) ℓ) (g : Dev Cert.DownA.nD → PrngReg), Pre_DownA m →
    θ_run (Cert.DownA.defs (F := Bits)) (onTc (τ := Cert.DownA.τ) (Cert.DownA.main (F := Bits))) ⟨m, fun _ => 0, g⟩ (fun r => (∀ c : Dev Cert.DownA.nD,
      r.2.mem ((c.tc : Thread Cert.DownA.nD Cert.DownA.τ).loc Cert.DownA.main_arg0) = m ((c.tc : Thread Cert.DownA.nD Cert.DownA.τ).loc Cert.DownA.main_arg0)
      ∧ r.2.mem ((c.tc : Thread Cert.DownA.nD Cert.DownA.τ).loc Cert.DownA.main_arg1) = m ((c.tc : Thread Cert.DownA.nD Cert.DownA.τ).loc Cert.DownA.main_arg1))
      ∧ r.2.sem = fun _ => 0)

def quiescent_DownAIdeal [hDownAIdeal : Cert.DownAIdeal.Facts] : Prop :=
  ∀ (m : (ℓ : Loc Cert.DownAIdeal.nD Cert.DownAIdeal.τ Cert.DownAIdeal.sig) → Buf (Elt Ideal) ℓ) (g : Dev Cert.DownAIdeal.nD → PrngReg), Pre_DownAIdeal m →
    θ_run (Cert.DownAIdeal.defs (F := Ideal)) (onTc (τ := Cert.DownAIdeal.τ) (Cert.DownAIdeal.main (F := Ideal))) ⟨m, fun _ => 0, g⟩ (fun r => (∀ c : Dev Cert.DownAIdeal.nD,
      r.2.mem ((c.tc : Thread Cert.DownAIdeal.nD Cert.DownAIdeal.τ).loc Cert.DownAIdeal.main_arg0) = m ((c.tc : Thread Cert.DownAIdeal.nD Cert.DownAIdeal.τ).loc Cert.DownAIdeal.main_arg0)
      ∧ r.2.mem ((c.tc : Thread Cert.DownAIdeal.nD Cert.DownAIdeal.τ).loc Cert.DownAIdeal.main_arg1) = m ((c.tc : Thread Cert.DownAIdeal.nD Cert.DownAIdeal.τ).loc Cert.DownAIdeal.main_arg1))
      ∧ r.2.sem = fun _ => 0)

def quiescent_DownARefIdeal [hDownARefIdeal : Cert.DownARefIdeal.Facts] : Prop :=
  ∀ (m : (ℓ : Loc Cert.DownARefIdeal.nD Cert.DownARefIdeal.τ Cert.DownARefIdeal.sig) → Buf (Elt Ideal) ℓ) (g : Dev Cert.DownARefIdeal.nD → PrngReg), Pre_DownARefIdeal m →
    θ_run (Cert.DownARefIdeal.defs (F := Ideal)) (onTc (τ := Cert.DownARefIdeal.τ) (Cert.DownARefIdeal.main (F := Ideal))) ⟨m, fun _ => 0, g⟩ (fun r => (∀ c : Dev Cert.DownARefIdeal.nD,
      r.2.mem ((c.tc : Thread Cert.DownARefIdeal.nD Cert.DownARefIdeal.τ).loc Cert.DownARefIdeal.main_arg0) = m ((c.tc : Thread Cert.DownARefIdeal.nD Cert.DownARefIdeal.τ).loc Cert.DownARefIdeal.main_arg0)
      ∧ r.2.mem ((c.tc : Thread Cert.DownARefIdeal.nD Cert.DownARefIdeal.τ).loc Cert.DownARefIdeal.main_arg1) = m ((c.tc : Thread Cert.DownARefIdeal.nD Cert.DownARefIdeal.τ).loc Cert.DownARefIdeal.main_arg1))
      ∧ r.2.sem = fun _ => 0)

def quiescent_DownW [hDownW : Cert.DownW.Facts] : Prop :=
  ∀ (m : (ℓ : Loc Cert.DownW.nD Cert.DownW.τ Cert.DownW.sig) → Buf (Elt Bits) ℓ) (g : Dev Cert.DownW.nD → PrngReg), Pre_DownW m →
    θ_run (Cert.DownW.defs (F := Bits)) (onTc (τ := Cert.DownW.τ) (Cert.DownW.main (F := Bits))) ⟨m, fun _ => 0, g⟩ (fun r => (∀ c : Dev Cert.DownW.nD,
      r.2.mem ((c.tc : Thread Cert.DownW.nD Cert.DownW.τ).loc Cert.DownW.main_arg0) = m ((c.tc : Thread Cert.DownW.nD Cert.DownW.τ).loc Cert.DownW.main_arg0)
      ∧ r.2.mem ((c.tc : Thread Cert.DownW.nD Cert.DownW.τ).loc Cert.DownW.main_arg1) = m ((c.tc : Thread Cert.DownW.nD Cert.DownW.τ).loc Cert.DownW.main_arg1))
      ∧ r.2.sem = fun _ => 0)

def quiescent_DownWIdeal [hDownWIdeal : Cert.DownWIdeal.Facts] : Prop :=
  ∀ (m : (ℓ : Loc Cert.DownWIdeal.nD Cert.DownWIdeal.τ Cert.DownWIdeal.sig) → Buf (Elt Ideal) ℓ) (g : Dev Cert.DownWIdeal.nD → PrngReg), Pre_DownWIdeal m →
    θ_run (Cert.DownWIdeal.defs (F := Ideal)) (onTc (τ := Cert.DownWIdeal.τ) (Cert.DownWIdeal.main (F := Ideal))) ⟨m, fun _ => 0, g⟩ (fun r => (∀ c : Dev Cert.DownWIdeal.nD,
      r.2.mem ((c.tc : Thread Cert.DownWIdeal.nD Cert.DownWIdeal.τ).loc Cert.DownWIdeal.main_arg0) = m ((c.tc : Thread Cert.DownWIdeal.nD Cert.DownWIdeal.τ).loc Cert.DownWIdeal.main_arg0)
      ∧ r.2.mem ((c.tc : Thread Cert.DownWIdeal.nD Cert.DownWIdeal.τ).loc Cert.DownWIdeal.main_arg1) = m ((c.tc : Thread Cert.DownWIdeal.nD Cert.DownWIdeal.τ).loc Cert.DownWIdeal.main_arg1))
      ∧ r.2.sem = fun _ => 0)

def quiescent_DownWRefIdeal [hDownWRefIdeal : Cert.DownWRefIdeal.Facts] : Prop :=
  ∀ (m : (ℓ : Loc Cert.DownWRefIdeal.nD Cert.DownWRefIdeal.τ Cert.DownWRefIdeal.sig) → Buf (Elt Ideal) ℓ) (g : Dev Cert.DownWRefIdeal.nD → PrngReg), Pre_DownWRefIdeal m →
    θ_run (Cert.DownWRefIdeal.defs (F := Ideal)) (onTc (τ := Cert.DownWRefIdeal.τ) (Cert.DownWRefIdeal.main (F := Ideal))) ⟨m, fun _ => 0, g⟩ (fun r => (∀ c : Dev Cert.DownWRefIdeal.nD,
      r.2.mem ((c.tc : Thread Cert.DownWRefIdeal.nD Cert.DownWRefIdeal.τ).loc Cert.DownWRefIdeal.main_arg0) = m ((c.tc : Thread Cert.DownWRefIdeal.nD Cert.DownWRefIdeal.τ).loc Cert.DownWRefIdeal.main_arg0)
      ∧ r.2.mem ((c.tc : Thread Cert.DownWRefIdeal.nD Cert.DownWRefIdeal.τ).loc Cert.DownWRefIdeal.main_arg1) = m ((c.tc : Thread Cert.DownWRefIdeal.nD Cert.DownWRefIdeal.τ).loc Cert.DownWRefIdeal.main_arg1))
      ∧ r.2.sem = fun _ => 0)

def quiescent_InDx [hInDx : Cert.InDx.Facts] : Prop :=
  ∀ (m : (ℓ : Loc Cert.InDx.nD Cert.InDx.τ Cert.InDx.sig) → Buf (Elt Bits) ℓ) (g : Dev Cert.InDx.nD → PrngReg), Pre_InDx m →
    θ_run (Cert.InDx.defs (F := Bits)) (onTc (τ := Cert.InDx.τ) (Cert.InDx.main (F := Bits))) ⟨m, fun _ => 0, g⟩ (fun r => (∀ c : Dev Cert.InDx.nD,
      r.2.mem ((c.tc : Thread Cert.InDx.nD Cert.InDx.τ).loc Cert.InDx.main_arg0) = m ((c.tc : Thread Cert.InDx.nD Cert.InDx.τ).loc Cert.InDx.main_arg0)
      ∧ r.2.mem ((c.tc : Thread Cert.InDx.nD Cert.InDx.τ).loc Cert.InDx.main_arg1) = m ((c.tc : Thread Cert.InDx.nD Cert.InDx.τ).loc Cert.InDx.main_arg1)
      ∧ r.2.mem ((c.tc : Thread Cert.InDx.nD Cert.InDx.τ).loc Cert.InDx.main_arg2) = m ((c.tc : Thread Cert.InDx.nD Cert.InDx.τ).loc Cert.InDx.main_arg2)
      ∧ r.2.mem ((c.tc : Thread Cert.InDx.nD Cert.InDx.τ).loc Cert.InDx.main_arg3) = m ((c.tc : Thread Cert.InDx.nD Cert.InDx.τ).loc Cert.InDx.main_arg3)
      ∧ r.2.mem ((c.tc : Thread Cert.InDx.nD Cert.InDx.τ).loc Cert.InDx.main_arg4) = m ((c.tc : Thread Cert.InDx.nD Cert.InDx.τ).loc Cert.InDx.main_arg4))
      ∧ r.2.sem = fun _ => 0)

def quiescent_InDxIdeal [hInDxIdeal : Cert.InDxIdeal.Facts] : Prop :=
  ∀ (m : (ℓ : Loc Cert.InDxIdeal.nD Cert.InDxIdeal.τ Cert.InDxIdeal.sig) → Buf (Elt Ideal) ℓ) (g : Dev Cert.InDxIdeal.nD → PrngReg), Pre_InDxIdeal m →
    θ_run (Cert.InDxIdeal.defs (F := Ideal)) (onTc (τ := Cert.InDxIdeal.τ) (Cert.InDxIdeal.main (F := Ideal))) ⟨m, fun _ => 0, g⟩ (fun r => (∀ c : Dev Cert.InDxIdeal.nD,
      r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
      ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1)
      ∧ r.2.mem ((c.tc : Thread Cert.InDxIdeal.nD Cert.InDxIdeal.τ).loc Cert.InDxIdeal.main_arg2) = m ((c.tc : Thread Cert.InDxIdeal.nD Cert.InDxIdeal.τ).loc Cert.InDxIdeal.main_arg2)
      ∧ r.2.mem ((c.tc : Thread Cert.InDxIdeal.nD Cert.InDxIdeal.τ).loc Cert.InDxIdeal.main_arg3) = m ((c.tc : Thread Cert.InDxIdeal.nD Cert.InDxIdeal.τ).loc Cert.InDxIdeal.main_arg3)
      ∧ r.2.mem ((c.tc : Thread Cert.InDxIdeal.nD Cert.InDxIdeal.τ).loc Cert.InDxIdeal.main_arg4) = m ((c.tc : Thread Cert.InDxIdeal.nD Cert.InDxIdeal.τ).loc Cert.InDxIdeal.main_arg4))
      ∧ r.2.sem = fun _ => 0)

def quiescent_InDxRefIdeal [hInDxRefIdeal : Cert.InDxRefIdeal.Facts] : Prop :=
  ∀ (m : (ℓ : Loc Cert.InDxRefIdeal.nD Cert.InDxRefIdeal.τ Cert.InDxRefIdeal.sig) → Buf (Elt Ideal) ℓ) (g : Dev Cert.InDxRefIdeal.nD → PrngReg), Pre_InDxRefIdeal m →
    θ_run (Cert.InDxRefIdeal.defs (F := Ideal)) (onTc (τ := Cert.InDxRefIdeal.τ) (Cert.InDxRefIdeal.main (F := Ideal))) ⟨m, fun _ => 0, g⟩ (fun r => (∀ c : Dev Cert.InDxRefIdeal.nD,
      r.2.mem ((c.tc : Thread Cert.InDxRefIdeal.nD Cert.InDxRefIdeal.τ).loc Cert.InDxRefIdeal.main_arg0) = m ((c.tc : Thread Cert.InDxRefIdeal.nD Cert.InDxRefIdeal.τ).loc Cert.InDxRefIdeal.main_arg0)
      ∧ r.2.mem ((c.tc : Thread Cert.InDxRefIdeal.nD Cert.InDxRefIdeal.τ).loc Cert.InDxRefIdeal.main_arg1) = m ((c.tc : Thread Cert.InDxRefIdeal.nD Cert.InDxRefIdeal.τ).loc Cert.InDxRefIdeal.main_arg1)
      ∧ r.2.mem ((c.tc : Thread Cert.InDxRefIdeal.nD Cert.InDxRefIdeal.τ).loc Cert.InDxRefIdeal.main_arg2) = m ((c.tc : Thread Cert.InDxRefIdeal.nD Cert.InDxRefIdeal.τ).loc Cert.InDxRefIdeal.main_arg2)
      ∧ r.2.mem ((c.tc : Thread Cert.InDxRefIdeal.nD Cert.InDxRefIdeal.τ).loc Cert.InDxRefIdeal.main_arg3) = m ((c.tc : Thread Cert.InDxRefIdeal.nD Cert.InDxRefIdeal.τ).loc Cert.InDxRefIdeal.main_arg3)
      ∧ r.2.mem ((c.tc : Thread Cert.InDxRefIdeal.nD Cert.InDxRefIdeal.τ).loc Cert.InDxRefIdeal.main_arg4) = m ((c.tc : Thread Cert.InDxRefIdeal.nD Cert.InDxRefIdeal.τ).loc Cert.InDxRefIdeal.main_arg4))
      ∧ r.2.sem = fun _ => 0)

def quiescent_GateDx [hGateDx : Cert.GateDx.Facts] : Prop :=
  ∀ (m : (ℓ : Loc Cert.GateDx.nD Cert.GateDx.τ Cert.GateDx.sig) → Buf (Elt Bits) ℓ) (g : Dev Cert.GateDx.nD → PrngReg), Pre_GateDx m →
    θ_run (Cert.GateDx.defs (F := Bits)) (onTc (τ := Cert.GateDx.τ) (Cert.GateDx.main (F := Bits))) ⟨m, fun _ => 0, g⟩ (fun r => (∀ c : Dev Cert.GateDx.nD,
      r.2.mem ((c.tc : Thread Cert.GateDx.nD Cert.GateDx.τ).loc Cert.GateDx.main_arg0) = m ((c.tc : Thread Cert.GateDx.nD Cert.GateDx.τ).loc Cert.GateDx.main_arg0)
      ∧ r.2.mem ((c.tc : Thread Cert.GateDx.nD Cert.GateDx.τ).loc Cert.GateDx.main_arg1) = m ((c.tc : Thread Cert.GateDx.nD Cert.GateDx.τ).loc Cert.GateDx.main_arg1)
      ∧ r.2.mem ((c.tc : Thread Cert.GateDx.nD Cert.GateDx.τ).loc Cert.GateDx.main_arg2) = m ((c.tc : Thread Cert.GateDx.nD Cert.GateDx.τ).loc Cert.GateDx.main_arg2)
      ∧ r.2.mem ((c.tc : Thread Cert.GateDx.nD Cert.GateDx.τ).loc Cert.GateDx.main_arg3) = m ((c.tc : Thread Cert.GateDx.nD Cert.GateDx.τ).loc Cert.GateDx.main_arg3)
      ∧ r.2.mem ((c.tc : Thread Cert.GateDx.nD Cert.GateDx.τ).loc Cert.GateDx.main_arg4) = m ((c.tc : Thread Cert.GateDx.nD Cert.GateDx.τ).loc Cert.GateDx.main_arg4))
      ∧ r.2.sem = fun _ => 0)

def quiescent_GateDxIdeal [hGateDxIdeal : Cert.GateDxIdeal.Facts] : Prop :=
  ∀ (m : (ℓ : Loc Cert.GateDxIdeal.nD Cert.GateDxIdeal.τ Cert.GateDxIdeal.sig) → Buf (Elt Ideal) ℓ) (g : Dev Cert.GateDxIdeal.nD → PrngReg), Pre_GateDxIdeal m →
    θ_run (Cert.GateDxIdeal.defs (F := Ideal)) (onTc (τ := Cert.GateDxIdeal.τ) (Cert.GateDxIdeal.main (F := Ideal))) ⟨m, fun _ => 0, g⟩ (fun r => (∀ c : Dev Cert.GateDxIdeal.nD,
      r.2.mem ((c.tc : Thread Cert.GateDxIdeal.nD Cert.GateDxIdeal.τ).loc Cert.GateDxIdeal.main_arg0) = m ((c.tc : Thread Cert.GateDxIdeal.nD Cert.GateDxIdeal.τ).loc Cert.GateDxIdeal.main_arg0)
      ∧ r.2.mem ((c.tc : Thread Cert.GateDxIdeal.nD Cert.GateDxIdeal.τ).loc Cert.GateDxIdeal.main_arg1) = m ((c.tc : Thread Cert.GateDxIdeal.nD Cert.GateDxIdeal.τ).loc Cert.GateDxIdeal.main_arg1)
      ∧ r.2.mem ((c.tc : Thread Cert.GateDxIdeal.nD Cert.GateDxIdeal.τ).loc Cert.GateDxIdeal.main_arg2) = m ((c.tc : Thread Cert.GateDxIdeal.nD Cert.GateDxIdeal.τ).loc Cert.GateDxIdeal.main_arg2)
      ∧ r.2.mem ((c.tc : Thread Cert.GateDxIdeal.nD Cert.GateDxIdeal.τ).loc Cert.GateDxIdeal.main_arg3) = m ((c.tc : Thread Cert.GateDxIdeal.nD Cert.GateDxIdeal.τ).loc Cert.GateDxIdeal.main_arg3)
      ∧ r.2.mem ((c.tc : Thread Cert.GateDxIdeal.nD Cert.GateDxIdeal.τ).loc Cert.GateDxIdeal.main_arg4) = m ((c.tc : Thread Cert.GateDxIdeal.nD Cert.GateDxIdeal.τ).loc Cert.GateDxIdeal.main_arg4))
      ∧ r.2.sem = fun _ => 0)

def quiescent_GateDxRefIdeal [hGateDxRefIdeal : Cert.GateDxRefIdeal.Facts] : Prop :=
  ∀ (m : (ℓ : Loc Cert.GateDxRefIdeal.nD Cert.GateDxRefIdeal.τ Cert.GateDxRefIdeal.sig) → Buf (Elt Ideal) ℓ) (g : Dev Cert.GateDxRefIdeal.nD → PrngReg), Pre_GateDxRefIdeal m →
    θ_run (Cert.GateDxRefIdeal.defs (F := Ideal)) (onTc (τ := Cert.GateDxRefIdeal.τ) (Cert.GateDxRefIdeal.main (F := Ideal))) ⟨m, fun _ => 0, g⟩ (fun r => (∀ c : Dev Cert.GateDxRefIdeal.nD,
      r.2.mem ((c.tc : Thread Cert.GateDxRefIdeal.nD Cert.GateDxRefIdeal.τ).loc Cert.GateDxRefIdeal.main_arg0) = m ((c.tc : Thread Cert.GateDxRefIdeal.nD Cert.GateDxRefIdeal.τ).loc Cert.GateDxRefIdeal.main_arg0)
      ∧ r.2.mem ((c.tc : Thread Cert.GateDxRefIdeal.nD Cert.GateDxRefIdeal.τ).loc Cert.GateDxRefIdeal.main_arg1) = m ((c.tc : Thread Cert.GateDxRefIdeal.nD Cert.GateDxRefIdeal.τ).loc Cert.GateDxRefIdeal.main_arg1)
      ∧ r.2.mem ((c.tc : Thread Cert.GateDxRefIdeal.nD Cert.GateDxRefIdeal.τ).loc Cert.GateDxRefIdeal.main_arg2) = m ((c.tc : Thread Cert.GateDxRefIdeal.nD Cert.GateDxRefIdeal.τ).loc Cert.GateDxRefIdeal.main_arg2)
      ∧ r.2.mem ((c.tc : Thread Cert.GateDxRefIdeal.nD Cert.GateDxRefIdeal.τ).loc Cert.GateDxRefIdeal.main_arg3) = m ((c.tc : Thread Cert.GateDxRefIdeal.nD Cert.GateDxRefIdeal.τ).loc Cert.GateDxRefIdeal.main_arg3)
      ∧ r.2.mem ((c.tc : Thread Cert.GateDxRefIdeal.nD Cert.GateDxRefIdeal.τ).loc Cert.GateDxRefIdeal.main_arg4) = m ((c.tc : Thread Cert.GateDxRefIdeal.nD Cert.GateDxRefIdeal.τ).loc Cert.GateDxRefIdeal.main_arg4))
      ∧ r.2.sem = fun _ => 0)

def quiescent_UpX [hUpX : Cert.UpX.Facts] : Prop :=
  ∀ (m : (ℓ : Loc Cert.UpX.nD Cert.UpX.τ Cert.UpX.sig) → Buf (Elt Bits) ℓ) (g : Dev Cert.UpX.nD → PrngReg), Pre_UpX m →
    θ_run (Cert.UpX.defs (F := Bits)) (onTc (τ := Cert.UpX.τ) (Cert.UpX.main (F := Bits))) ⟨m, fun _ => 0, g⟩ (fun r => (∀ c : Dev Cert.UpX.nD,
      r.2.mem ((c.tc : Thread Cert.UpX.nD Cert.UpX.τ).loc Cert.UpX.main_arg0) = m ((c.tc : Thread Cert.UpX.nD Cert.UpX.τ).loc Cert.UpX.main_arg0)
      ∧ r.2.mem ((c.tc : Thread Cert.UpX.nD Cert.UpX.τ).loc Cert.UpX.main_arg1) = m ((c.tc : Thread Cert.UpX.nD Cert.UpX.τ).loc Cert.UpX.main_arg1)
      ∧ r.2.mem ((c.tc : Thread Cert.UpX.nD Cert.UpX.τ).loc Cert.UpX.main_arg2) = m ((c.tc : Thread Cert.UpX.nD Cert.UpX.τ).loc Cert.UpX.main_arg2)
      ∧ r.2.mem ((c.tc : Thread Cert.UpX.nD Cert.UpX.τ).loc Cert.UpX.main_arg3) = m ((c.tc : Thread Cert.UpX.nD Cert.UpX.τ).loc Cert.UpX.main_arg3)
      ∧ r.2.mem ((c.tc : Thread Cert.UpX.nD Cert.UpX.τ).loc Cert.UpX.main_arg4) = m ((c.tc : Thread Cert.UpX.nD Cert.UpX.τ).loc Cert.UpX.main_arg4)
      ∧ r.2.mem ((c.tc : Thread Cert.UpX.nD Cert.UpX.τ).loc Cert.UpX.main_arg5) = m ((c.tc : Thread Cert.UpX.nD Cert.UpX.τ).loc Cert.UpX.main_arg5))
      ∧ r.2.sem = fun _ => 0)

def quiescent_UpXIdeal [hUpXIdeal : Cert.UpXIdeal.Facts] : Prop :=
  ∀ (m : (ℓ : Loc Cert.UpXIdeal.nD Cert.UpXIdeal.τ Cert.UpXIdeal.sig) → Buf (Elt Ideal) ℓ) (g : Dev Cert.UpXIdeal.nD → PrngReg), Pre_UpXIdeal m →
    θ_run (Cert.UpXIdeal.defs (F := Ideal)) (onTc (τ := Cert.UpXIdeal.τ) (Cert.UpXIdeal.main (F := Ideal))) ⟨m, fun _ => 0, g⟩ (fun r => (∀ c : Dev Cert.UpXIdeal.nD,
      r.2.mem ((c.tc : Thread Cert.UpXIdeal.nD Cert.UpXIdeal.τ).loc Cert.UpXIdeal.main_arg0) = m ((c.tc : Thread Cert.UpXIdeal.nD Cert.UpXIdeal.τ).loc Cert.UpXIdeal.main_arg0)
      ∧ r.2.mem ((c.tc : Thread Cert.UpXIdeal.nD Cert.UpXIdeal.τ).loc Cert.UpXIdeal.main_arg1) = m ((c.tc : Thread Cert.UpXIdeal.nD Cert.UpXIdeal.τ).loc Cert.UpXIdeal.main_arg1)
      ∧ r.2.mem ((c.tc : Thread Cert.UpXIdeal.nD Cert.UpXIdeal.τ).loc Cert.UpXIdeal.main_arg2) = m ((c.tc : Thread Cert.UpXIdeal.nD Cert.UpXIdeal.τ).loc Cert.UpXIdeal.main_arg2)
      ∧ r.2.mem ((c.tc : Thread Cert.UpXIdeal.nD Cert.UpXIdeal.τ).loc Cert.UpXIdeal.main_arg3) = m ((c.tc : Thread Cert.UpXIdeal.nD Cert.UpXIdeal.τ).loc Cert.UpXIdeal.main_arg3)
      ∧ r.2.mem ((c.tc : Thread Cert.UpXIdeal.nD Cert.UpXIdeal.τ).loc Cert.UpXIdeal.main_arg4) = m ((c.tc : Thread Cert.UpXIdeal.nD Cert.UpXIdeal.τ).loc Cert.UpXIdeal.main_arg4)
      ∧ r.2.mem ((c.tc : Thread Cert.UpXIdeal.nD Cert.UpXIdeal.τ).loc Cert.UpXIdeal.main_arg5) = m ((c.tc : Thread Cert.UpXIdeal.nD Cert.UpXIdeal.τ).loc Cert.UpXIdeal.main_arg5))
      ∧ r.2.sem = fun _ => 0)

def quiescent_UpXRefIdeal [hUpXRefIdeal : Cert.UpXRefIdeal.Facts] : Prop :=
  ∀ (m : (ℓ : Loc Cert.UpXRefIdeal.nD Cert.UpXRefIdeal.τ Cert.UpXRefIdeal.sig) → Buf (Elt Ideal) ℓ) (g : Dev Cert.UpXRefIdeal.nD → PrngReg), Pre_UpXRefIdeal m →
    θ_run (Cert.UpXRefIdeal.defs (F := Ideal)) (onTc (τ := Cert.UpXRefIdeal.τ) (Cert.UpXRefIdeal.main (F := Ideal))) ⟨m, fun _ => 0, g⟩ (fun r => (∀ c : Dev Cert.UpXRefIdeal.nD,
      r.2.mem ((c.tc : Thread Cert.UpXRefIdeal.nD Cert.UpXRefIdeal.τ).loc Cert.UpXRefIdeal.main_arg0) = m ((c.tc : Thread Cert.UpXRefIdeal.nD Cert.UpXRefIdeal.τ).loc Cert.UpXRefIdeal.main_arg0)
      ∧ r.2.mem ((c.tc : Thread Cert.UpXRefIdeal.nD Cert.UpXRefIdeal.τ).loc Cert.UpXRefIdeal.main_arg1) = m ((c.tc : Thread Cert.UpXRefIdeal.nD Cert.UpXRefIdeal.τ).loc Cert.UpXRefIdeal.main_arg1)
      ∧ r.2.mem ((c.tc : Thread Cert.UpXRefIdeal.nD Cert.UpXRefIdeal.τ).loc Cert.UpXRefIdeal.main_arg2) = m ((c.tc : Thread Cert.UpXRefIdeal.nD Cert.UpXRefIdeal.τ).loc Cert.UpXRefIdeal.main_arg2)
      ∧ r.2.mem ((c.tc : Thread Cert.UpXRefIdeal.nD Cert.UpXRefIdeal.τ).loc Cert.UpXRefIdeal.main_arg3) = m ((c.tc : Thread Cert.UpXRefIdeal.nD Cert.UpXRefIdeal.τ).loc Cert.UpXRefIdeal.main_arg3)
      ∧ r.2.mem ((c.tc : Thread Cert.UpXRefIdeal.nD Cert.UpXRefIdeal.τ).loc Cert.UpXRefIdeal.main_arg4) = m ((c.tc : Thread Cert.UpXRefIdeal.nD Cert.UpXRefIdeal.τ).loc Cert.UpXRefIdeal.main_arg4)
      ∧ r.2.mem ((c.tc : Thread Cert.UpXRefIdeal.nD Cert.UpXRefIdeal.τ).loc Cert.UpXRefIdeal.main_arg5) = m ((c.tc : Thread Cert.UpXRefIdeal.nD Cert.UpXRefIdeal.τ).loc Cert.UpXRefIdeal.main_arg5))
      ∧ r.2.sem = fun _ => 0)

def quiescent_InDw [hInDw : Cert.InDw.Facts] : Prop :=
  ∀ (m : (ℓ : Loc Cert.InDw.nD Cert.InDw.τ Cert.InDw.sig) → Buf (Elt Bits) ℓ) (g : Dev Cert.InDw.nD → PrngReg), Pre_InDw m →
    θ_run (Cert.InDw.defs (F := Bits)) (onTc (τ := Cert.InDw.τ) (Cert.InDw.main (F := Bits))) ⟨m, fun _ => 0, g⟩ (fun r => (∀ c : Dev Cert.InDw.nD,
      r.2.mem ((c.tc : Thread Cert.InDw.nD Cert.InDw.τ).loc Cert.InDw.main_arg0) = m ((c.tc : Thread Cert.InDw.nD Cert.InDw.τ).loc Cert.InDw.main_arg0)
      ∧ r.2.mem ((c.tc : Thread Cert.InDw.nD Cert.InDw.τ).loc Cert.InDw.main_arg1) = m ((c.tc : Thread Cert.InDw.nD Cert.InDw.τ).loc Cert.InDw.main_arg1))
      ∧ r.2.sem = fun _ => 0)

def quiescent_InDwIdeal [hInDwIdeal : Cert.InDwIdeal.Facts] : Prop :=
  ∀ (m : (ℓ : Loc Cert.InDwIdeal.nD Cert.InDwIdeal.τ Cert.InDwIdeal.sig) → Buf (Elt Ideal) ℓ) (g : Dev Cert.InDwIdeal.nD → PrngReg), Pre_InDwIdeal m →
    θ_run (Cert.InDwIdeal.defs (F := Ideal)) (onTc (τ := Cert.InDwIdeal.τ) (Cert.InDwIdeal.main (F := Ideal))) ⟨m, fun _ => 0, g⟩ (fun r => (∀ c : Dev Cert.InDwIdeal.nD,
      r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
      ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ r.2.sem = fun _ => 0)

def quiescent_InDwRefIdeal [hInDwRefIdeal : Cert.InDwRefIdeal.Facts] : Prop :=
  ∀ (m : (ℓ : Loc Cert.InDwRefIdeal.nD Cert.InDwRefIdeal.τ Cert.InDwRefIdeal.sig) → Buf (Elt Ideal) ℓ) (g : Dev Cert.InDwRefIdeal.nD → PrngReg), Pre_InDwRefIdeal m →
    θ_run (Cert.InDwRefIdeal.defs (F := Ideal)) (onTc (τ := Cert.InDwRefIdeal.τ) (Cert.InDwRefIdeal.main (F := Ideal))) ⟨m, fun _ => 0, g⟩ (fun r => (∀ c : Dev Cert.InDwRefIdeal.nD,
      r.2.mem ((c.tc : Thread Cert.InDwRefIdeal.nD Cert.InDwRefIdeal.τ).loc Cert.InDwRefIdeal.main_arg0) = m ((c.tc : Thread Cert.InDwRefIdeal.nD Cert.InDwRefIdeal.τ).loc Cert.InDwRefIdeal.main_arg0)
      ∧ r.2.mem ((c.tc : Thread Cert.InDwRefIdeal.nD Cert.InDwRefIdeal.τ).loc Cert.InDwRefIdeal.main_arg1) = m ((c.tc : Thread Cert.InDwRefIdeal.nD Cert.InDwRefIdeal.τ).loc Cert.InDwRefIdeal.main_arg1))
      ∧ r.2.sem = fun _ => 0)

def quiescent_OutDx [hOutDx : Cert.OutDx.Facts] : Prop :=
  ∀ (m : (ℓ : Loc Cert.OutDx.nD Cert.OutDx.τ Cert.OutDx.sig) → Buf (Elt Bits) ℓ) (g : Dev Cert.OutDx.nD → PrngReg), Pre_OutDx m →
    θ_run (Cert.OutDx.defs (F := Bits)) (onTc (τ := Cert.OutDx.τ) (Cert.OutDx.main (F := Bits))) ⟨m, fun _ => 0, g⟩ (fun r => (∀ c : Dev Cert.OutDx.nD,
      r.2.mem ((c.tc : Thread Cert.OutDx.nD Cert.OutDx.τ).loc Cert.OutDx.main_arg0) = m ((c.tc : Thread Cert.OutDx.nD Cert.OutDx.τ).loc Cert.OutDx.main_arg0)
      ∧ r.2.mem ((c.tc : Thread Cert.OutDx.nD Cert.OutDx.τ).loc Cert.OutDx.main_arg1) = m ((c.tc : Thread Cert.OutDx.nD Cert.OutDx.τ).loc Cert.OutDx.main_arg1))
      ∧ r.2.sem = fun _ => 0)

def quiescent_OutDxIdeal [hOutDxIdeal : Cert.OutDxIdeal.Facts] : Prop :=
  ∀ (m : (ℓ : Loc Cert.OutDxIdeal.nD Cert.OutDxIdeal.τ Cert.OutDxIdeal.sig) → Buf (Elt Ideal) ℓ) (g : Dev Cert.OutDxIdeal.nD → PrngReg), Pre_OutDxIdeal m →
    θ_run (Cert.OutDxIdeal.defs (F := Ideal)) (onTc (τ := Cert.OutDxIdeal.τ) (Cert.OutDxIdeal.main (F := Ideal))) ⟨m, fun _ => 0, g⟩ (fun r => (∀ c : Dev Cert.OutDxIdeal.nD,
      r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
      ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ r.2.sem = fun _ => 0)

def quiescent_OutDxRefIdeal [hOutDxRefIdeal : Cert.OutDxRefIdeal.Facts] : Prop :=
  ∀ (m : (ℓ : Loc Cert.OutDxRefIdeal.nD Cert.OutDxRefIdeal.τ Cert.OutDxRefIdeal.sig) → Buf (Elt Ideal) ℓ) (g : Dev Cert.OutDxRefIdeal.nD → PrngReg), Pre_OutDxRefIdeal m →
    θ_run (Cert.OutDxRefIdeal.defs (F := Ideal)) (onTc (τ := Cert.OutDxRefIdeal.τ) (Cert.OutDxRefIdeal.main (F := Ideal))) ⟨m, fun _ => 0, g⟩ (fun r => (∀ c : Dev Cert.OutDxRefIdeal.nD,
      r.2.mem ((c.tc : Thread Cert.OutDxRefIdeal.nD Cert.OutDxRefIdeal.τ).loc Cert.OutDxRefIdeal.main_arg0) = m ((c.tc : Thread Cert.OutDxRefIdeal.nD Cert.OutDxRefIdeal.τ).loc Cert.OutDxRefIdeal.main_arg0)
      ∧ r.2.mem ((c.tc : Thread Cert.OutDxRefIdeal.nD Cert.OutDxRefIdeal.τ).loc Cert.OutDxRefIdeal.main_arg1) = m ((c.tc : Thread Cert.OutDxRefIdeal.nD Cert.OutDxRefIdeal.τ).loc Cert.OutDxRefIdeal.main_arg1))
      ∧ r.2.sem = fun _ => 0)

def quiescent_OutDw [hOutDw : Cert.OutDw.Facts] : Prop :=
  ∀ (m : (ℓ : Loc Cert.OutDw.nD Cert.OutDw.τ Cert.OutDw.sig) → Buf (Elt Bits) ℓ) (g : Dev Cert.OutDw.nD → PrngReg), Pre_OutDw m →
    θ_run (Cert.OutDw.defs (F := Bits)) (onTc (τ := Cert.OutDw.τ) (Cert.OutDw.main (F := Bits))) ⟨m, fun _ => 0, g⟩ (fun r => (∀ c : Dev Cert.OutDw.nD,
      r.2.mem ((c.tc : Thread Cert.OutDw.nD Cert.OutDw.τ).loc Cert.OutDw.main_arg0) = m ((c.tc : Thread Cert.OutDw.nD Cert.OutDw.τ).loc Cert.OutDw.main_arg0)
      ∧ r.2.mem ((c.tc : Thread Cert.OutDw.nD Cert.OutDw.τ).loc Cert.OutDw.main_arg1) = m ((c.tc : Thread Cert.OutDw.nD Cert.OutDw.τ).loc Cert.OutDw.main_arg1))
      ∧ r.2.sem = fun _ => 0)

def quiescent_OutDwIdeal [hOutDwIdeal : Cert.OutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg), Pre_OutDwIdeal m →
    θ_run (Cert.OutDwIdeal.defs (F := Ideal)) (onTc (τ := Cert.OutDwIdeal.τ) (Cert.OutDwIdeal.main (F := Ideal))) ⟨m, fun _ => 0, g⟩ (fun r => (∀ c : Dev Cert.OutDwIdeal.nD,
      r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
      ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ r.2.sem = fun _ => 0)

def quiescent_OutDwRefIdeal [hOutDwRefIdeal : Cert.OutDwRefIdeal.Facts] : Prop :=
  ∀ (m : (ℓ : Loc Cert.OutDwRefIdeal.nD Cert.OutDwRefIdeal.τ Cert.OutDwRefIdeal.sig) → Buf (Elt Ideal) ℓ) (g : Dev Cert.OutDwRefIdeal.nD → PrngReg), Pre_OutDwRefIdeal m →
    θ_run (Cert.OutDwRefIdeal.defs (F := Ideal)) (onTc (τ := Cert.OutDwRefIdeal.τ) (Cert.OutDwRefIdeal.main (F := Ideal))) ⟨m, fun _ => 0, g⟩ (fun r => (∀ c : Dev Cert.OutDwRefIdeal.nD,
      r.2.mem ((c.tc : Thread Cert.OutDwRefIdeal.nD Cert.OutDwRefIdeal.τ).loc Cert.OutDwRefIdeal.main_arg0) = m ((c.tc : Thread Cert.OutDwRefIdeal.nD Cert.OutDwRefIdeal.τ).loc Cert.OutDwRefIdeal.main_arg0)
      ∧ r.2.mem ((c.tc : Thread Cert.OutDwRefIdeal.nD Cert.OutDwRefIdeal.τ).loc Cert.OutDwRefIdeal.main_arg1) = m ((c.tc : Thread Cert.OutDwRefIdeal.nD Cert.OutDwRefIdeal.τ).loc Cert.OutDwRefIdeal.main_arg1))
      ∧ r.2.sem = fun _ => 0)

def quiescent_GateDw [hGateDw : Cert.GateDw.Facts] : Prop :=
  ∀ (m : (ℓ : Loc Cert.GateDw.nD Cert.GateDw.τ Cert.GateDw.sig) → Buf (Elt Bits) ℓ) (g : Dev Cert.GateDw.nD → PrngReg), Pre_GateDw m →
    θ_run (Cert.GateDw.defs (F := Bits)) (onTc (τ := Cert.GateDw.τ) (Cert.GateDw.main (F := Bits))) ⟨m, fun _ => 0, g⟩ (fun r => (∀ c : Dev Cert.GateDw.nD,
      r.2.mem ((c.tc : Thread Cert.GateDw.nD Cert.GateDw.τ).loc Cert.GateDw.main_arg0) = m ((c.tc : Thread Cert.GateDw.nD Cert.GateDw.τ).loc Cert.GateDw.main_arg0)
      ∧ r.2.mem ((c.tc : Thread Cert.GateDw.nD Cert.GateDw.τ).loc Cert.GateDw.main_arg1) = m ((c.tc : Thread Cert.GateDw.nD Cert.GateDw.τ).loc Cert.GateDw.main_arg1))
      ∧ r.2.sem = fun _ => 0)

def quiescent_GateDwIdeal [hGateDwIdeal : Cert.GateDwIdeal.Facts] : Prop :=
  ∀ (m : (ℓ : Loc Cert.GateDwIdeal.nD Cert.GateDwIdeal.τ Cert.GateDwIdeal.sig) → Buf (Elt Ideal) ℓ) (g : Dev Cert.GateDwIdeal.nD → PrngReg), Pre_GateDwIdeal m →
    θ_run (Cert.GateDwIdeal.defs (F := Ideal)) (onTc (τ := Cert.GateDwIdeal.τ) (Cert.GateDwIdeal.main (F := Ideal))) ⟨m, fun _ => 0, g⟩ (fun r => (∀ c : Dev Cert.GateDwIdeal.nD,
      r.2.mem ((c.tc : Thread Cert.GateDwIdeal.nD Cert.GateDwIdeal.τ).loc Cert.GateDwIdeal.main_arg0) = m ((c.tc : Thread Cert.GateDwIdeal.nD Cert.GateDwIdeal.τ).loc Cert.GateDwIdeal.main_arg0)
      ∧ r.2.mem ((c.tc : Thread Cert.GateDwIdeal.nD Cert.GateDwIdeal.τ).loc Cert.GateDwIdeal.main_arg1) = m ((c.tc : Thread Cert.GateDwIdeal.nD Cert.GateDwIdeal.τ).loc Cert.GateDwIdeal.main_arg1))
      ∧ r.2.sem = fun _ => 0)

def quiescent_GateDwRefIdeal [hGateDwRefIdeal : Cert.GateDwRefIdeal.Facts] : Prop :=
  ∀ (m : (ℓ : Loc Cert.GateDwRefIdeal.nD Cert.GateDwRefIdeal.τ Cert.GateDwRefIdeal.sig) → Buf (Elt Ideal) ℓ) (g : Dev Cert.GateDwRefIdeal.nD → PrngReg), Pre_GateDwRefIdeal m →
    θ_run (Cert.GateDwRefIdeal.defs (F := Ideal)) (onTc (τ := Cert.GateDwRefIdeal.τ) (Cert.GateDwRefIdeal.main (F := Ideal))) ⟨m, fun _ => 0, g⟩ (fun r => (∀ c : Dev Cert.GateDwRefIdeal.nD,
      r.2.mem ((c.tc : Thread Cert.GateDwRefIdeal.nD Cert.GateDwRefIdeal.τ).loc Cert.GateDwRefIdeal.main_arg0) = m ((c.tc : Thread Cert.GateDwRefIdeal.nD Cert.GateDwRefIdeal.τ).loc Cert.GateDwRefIdeal.main_arg0)
      ∧ r.2.mem ((c.tc : Thread Cert.GateDwRefIdeal.nD Cert.GateDwRefIdeal.τ).loc Cert.GateDwRefIdeal.main_arg1) = m ((c.tc : Thread Cert.GateDwRefIdeal.nD Cert.GateDwRefIdeal.τ).loc Cert.GateDwRefIdeal.main_arg1))
      ∧ r.2.sem = fun _ => 0)

def quiescent_ProjDw [hProjDw : Cert.ProjDw.Facts] : Prop :=
  ∀ (m : (ℓ : Loc Cert.ProjDw.nD Cert.ProjDw.τ Cert.ProjDw.sig) → Buf (Elt Bits) ℓ) (g : Dev Cert.ProjDw.nD → PrngReg), Pre_ProjDw m →
    θ_run (Cert.ProjDw.defs (F := Bits)) (onTc (τ := Cert.ProjDw.τ) (Cert.ProjDw.main (F := Bits))) ⟨m, fun _ => 0, g⟩ (fun r => (∀ c : Dev Cert.ProjDw.nD,
      r.2.mem ((c.tc : Thread Cert.ProjDw.nD Cert.ProjDw.τ).loc Cert.ProjDw.main_arg0) = m ((c.tc : Thread Cert.ProjDw.nD Cert.ProjDw.τ).loc Cert.ProjDw.main_arg0)
      ∧ r.2.mem ((c.tc : Thread Cert.ProjDw.nD Cert.ProjDw.τ).loc Cert.ProjDw.main_arg1) = m ((c.tc : Thread Cert.ProjDw.nD Cert.ProjDw.τ).loc Cert.ProjDw.main_arg1))
      ∧ r.2.sem = fun _ => 0)

def quiescent_ProjDwIdeal [hProjDwIdeal : Cert.ProjDwIdeal.Facts] : Prop :=
  ∀ (m : (ℓ : Loc Cert.ProjDwIdeal.nD Cert.ProjDwIdeal.τ Cert.ProjDwIdeal.sig) → Buf (Elt Ideal) ℓ) (g : Dev Cert.ProjDwIdeal.nD → PrngReg), Pre_ProjDwIdeal m →
    θ_run (Cert.ProjDwIdeal.defs (F := Ideal)) (onTc (τ := Cert.ProjDwIdeal.τ) (Cert.ProjDwIdeal.main (F := Ideal))) ⟨m, fun _ => 0, g⟩ (fun r => (∀ c : Dev Cert.ProjDwIdeal.nD,
      r.2.mem ((c.tc : Thread Cert.ProjDwIdeal.nD Cert.ProjDwIdeal.τ).loc Cert.ProjDwIdeal.main_arg0) = m ((c.tc : Thread Cert.ProjDwIdeal.nD Cert.ProjDwIdeal.τ).loc Cert.ProjDwIdeal.main_arg0)
      ∧ r.2.mem ((c.tc : Thread Cert.ProjDwIdeal.nD Cert.ProjDwIdeal.τ).loc Cert.ProjDwIdeal.main_arg1) = m ((c.tc : Thread Cert.ProjDwIdeal.nD Cert.ProjDwIdeal.τ).loc Cert.ProjDwIdeal.main_arg1))
      ∧ r.2.sem = fun _ => 0)

def quiescent_ProjDwRefIdeal [hProjDwRefIdeal : Cert.ProjDwRefIdeal.Facts] : Prop :=
  ∀ (m : (ℓ : Loc Cert.ProjDwRefIdeal.nD Cert.ProjDwRefIdeal.τ Cert.ProjDwRefIdeal.sig) → Buf (Elt Ideal) ℓ) (g : Dev Cert.ProjDwRefIdeal.nD → PrngReg), Pre_ProjDwRefIdeal m →
    θ_run (Cert.ProjDwRefIdeal.defs (F := Ideal)) (onTc (τ := Cert.ProjDwRefIdeal.τ) (Cert.ProjDwRefIdeal.main (F := Ideal))) ⟨m, fun _ => 0, g⟩ (fun r => (∀ c : Dev Cert.ProjDwRefIdeal.nD,
      r.2.mem ((c.tc : Thread Cert.ProjDwRefIdeal.nD Cert.ProjDwRefIdeal.τ).loc Cert.ProjDwRefIdeal.main_arg0) = m ((c.tc : Thread Cert.ProjDwRefIdeal.nD Cert.ProjDwRefIdeal.τ).loc Cert.ProjDwRefIdeal.main_arg0)
      ∧ r.2.mem ((c.tc : Thread Cert.ProjDwRefIdeal.nD Cert.ProjDwRefIdeal.τ).loc Cert.ProjDwRefIdeal.main_arg1) = m ((c.tc : Thread Cert.ProjDwRefIdeal.nD Cert.ProjDwRefIdeal.τ).loc Cert.ProjDwRefIdeal.main_arg1))
      ∧ r.2.sem = fun _ => 0)

def quiescent_MmUp [hMmUp : Cert.MmUp.Facts] : Prop :=
  ∀ (m : (ℓ : Loc Cert.MmUp.nD Cert.MmUp.τ Cert.MmUp.sig) → Buf (Elt Bits) ℓ) (g : Dev Cert.MmUp.nD → PrngReg), Pre_MmUp m →
    θ_run (Cert.MmUp.defs (F := Bits)) (onTc (τ := Cert.MmUp.τ) (Cert.MmUp.main (F := Bits))) ⟨m, fun _ => 0, g⟩ (fun r => (∀ c : Dev Cert.MmUp.nD,
      r.2.mem ((c.tc : Thread Cert.MmUp.nD Cert.MmUp.τ).loc Cert.MmUp.main_arg0) = m ((c.tc : Thread Cert.MmUp.nD Cert.MmUp.τ).loc Cert.MmUp.main_arg0)
      ∧ r.2.mem ((c.tc : Thread Cert.MmUp.nD Cert.MmUp.τ).loc Cert.MmUp.main_arg1) = m ((c.tc : Thread Cert.MmUp.nD Cert.MmUp.τ).loc Cert.MmUp.main_arg1))
      ∧ r.2.sem = fun _ => 0)

def quiescent_MmUpIdeal [hMmUpIdeal : Cert.MmUpIdeal.Facts] : Prop :=
  ∀ (m : (ℓ : Loc Cert.MmUpIdeal.nD Cert.MmUpIdeal.τ Cert.MmUpIdeal.sig) → Buf (Elt Ideal) ℓ) (g : Dev Cert.MmUpIdeal.nD → PrngReg), Pre_MmUpIdeal m →
    θ_run (Cert.MmUpIdeal.defs (F := Ideal)) (onTc (τ := Cert.MmUpIdeal.τ) (Cert.MmUpIdeal.main (F := Ideal))) ⟨m, fun _ => 0, g⟩ (fun r => (∀ c : Dev Cert.MmUpIdeal.nD,
      r.2.mem ((c.tc : Thread Cert.MmUpIdeal.nD Cert.MmUpIdeal.τ).loc Cert.MmUpIdeal.main_arg0) = m ((c.tc : Thread Cert.MmUpIdeal.nD Cert.MmUpIdeal.τ).loc Cert.MmUpIdeal.main_arg0)
      ∧ r.2.mem ((c.tc : Thread Cert.MmUpIdeal.nD Cert.MmUpIdeal.τ).loc Cert.MmUpIdeal.main_arg1) = m ((c.tc : Thread Cert.MmUpIdeal.nD Cert.MmUpIdeal.τ).loc Cert.MmUpIdeal.main_arg1))
      ∧ r.2.sem = fun _ => 0)

def quiescent_MmUpRefIdeal [hMmUpRefIdeal : Cert.MmUpRefIdeal.Facts] : Prop :=
  ∀ (m : (ℓ : Loc Cert.MmUpRefIdeal.nD Cert.MmUpRefIdeal.τ Cert.MmUpRefIdeal.sig) → Buf (Elt Ideal) ℓ) (g : Dev Cert.MmUpRefIdeal.nD → PrngReg), Pre_MmUpRefIdeal m →
    θ_run (Cert.MmUpRefIdeal.defs (F := Ideal)) (onTc (τ := Cert.MmUpRefIdeal.τ) (Cert.MmUpRefIdeal.main (F := Ideal))) ⟨m, fun _ => 0, g⟩ (fun r => (∀ c : Dev Cert.MmUpRefIdeal.nD,
      r.2.mem ((c.tc : Thread Cert.MmUpRefIdeal.nD Cert.MmUpRefIdeal.τ).loc Cert.MmUpRefIdeal.main_arg0) = m ((c.tc : Thread Cert.MmUpRefIdeal.nD Cert.MmUpRefIdeal.τ).loc Cert.MmUpRefIdeal.main_arg0)
      ∧ r.2.mem ((c.tc : Thread Cert.MmUpRefIdeal.nD Cert.MmUpRefIdeal.τ).loc Cert.MmUpRefIdeal.main_arg1) = m ((c.tc : Thread Cert.MmUpRefIdeal.nD Cert.MmUpRefIdeal.τ).loc Cert.MmUpRefIdeal.main_arg1))
      ∧ r.2.sem = fun _ => 0)

def quiescent_MmDown [hMmDown : Cert.MmDown.Facts] : Prop :=
  ∀ (m : (ℓ : Loc Cert.MmDown.nD Cert.MmDown.τ Cert.MmDown.sig) → Buf (Elt Bits) ℓ) (g : Dev Cert.MmDown.nD → PrngReg), Pre_MmDown m →
    θ_run (Cert.MmDown.defs (F := Bits)) (onTc (τ := Cert.MmDown.τ) (Cert.MmDown.main (F := Bits))) ⟨m, fun _ => 0, g⟩ (fun r => (∀ c : Dev Cert.MmDown.nD,
      r.2.mem ((c.tc : Thread Cert.MmDown.nD Cert.MmDown.τ).loc Cert.MmDown.main_arg0) = m ((c.tc : Thread Cert.MmDown.nD Cert.MmDown.τ).loc Cert.MmDown.main_arg0)
      ∧ r.2.mem ((c.tc : Thread Cert.MmDown.nD Cert.MmDown.τ).loc Cert.MmDown.main_arg1) = m ((c.tc : Thread Cert.MmDown.nD Cert.MmDown.τ).loc Cert.MmDown.main_arg1)
      ∧ r.2.mem ((c.tc : Thread Cert.MmDown.nD Cert.MmDown.τ).loc Cert.MmDown.main_arg2) = m ((c.tc : Thread Cert.MmDown.nD Cert.MmDown.τ).loc Cert.MmDown.main_arg2))
      ∧ r.2.sem = fun _ => 0)

def quiescent_MmDownIdeal [hMmDownIdeal : Cert.MmDownIdeal.Facts] : Prop :=
  ∀ (m : (ℓ : Loc Cert.MmDownIdeal.nD Cert.MmDownIdeal.τ Cert.MmDownIdeal.sig) → Buf (Elt Ideal) ℓ) (g : Dev Cert.MmDownIdeal.nD → PrngReg), Pre_MmDownIdeal m →
    θ_run (Cert.MmDownIdeal.defs (F := Ideal)) (onTc (τ := Cert.MmDownIdeal.τ) (Cert.MmDownIdeal.main (F := Ideal))) ⟨m, fun _ => 0, g⟩ (fun r => (∀ c : Dev Cert.MmDownIdeal.nD,
      r.2.mem ((c.tc : Thread Cert.MmDownIdeal.nD Cert.MmDownIdeal.τ).loc Cert.MmDownIdeal.main_arg0) = m ((c.tc : Thread Cert.MmDownIdeal.nD Cert.MmDownIdeal.τ).loc Cert.MmDownIdeal.main_arg0)
      ∧ r.2.mem ((c.tc : Thread Cert.MmDownIdeal.nD Cert.MmDownIdeal.τ).loc Cert.MmDownIdeal.main_arg1) = m ((c.tc : Thread Cert.MmDownIdeal.nD Cert.MmDownIdeal.τ).loc Cert.MmDownIdeal.main_arg1)
      ∧ r.2.mem ((c.tc : Thread Cert.MmDownIdeal.nD Cert.MmDownIdeal.τ).loc Cert.MmDownIdeal.main_arg2) = m ((c.tc : Thread Cert.MmDownIdeal.nD Cert.MmDownIdeal.τ).loc Cert.MmDownIdeal.main_arg2))
      ∧ r.2.sem = fun _ => 0)

def quiescent_MmDownRefIdeal [hMmDownRefIdeal : Cert.MmDownRefIdeal.Facts] : Prop :=
  ∀ (m : (ℓ : Loc Cert.MmDownRefIdeal.nD Cert.MmDownRefIdeal.τ Cert.MmDownRefIdeal.sig) → Buf (Elt Ideal) ℓ) (g : Dev Cert.MmDownRefIdeal.nD → PrngReg), Pre_MmDownRefIdeal m →
    θ_run (Cert.MmDownRefIdeal.defs (F := Ideal)) (onTc (τ := Cert.MmDownRefIdeal.τ) (Cert.MmDownRefIdeal.main (F := Ideal))) ⟨m, fun _ => 0, g⟩ (fun r => (∀ c : Dev Cert.MmDownRefIdeal.nD,
      r.2.mem ((c.tc : Thread Cert.MmDownRefIdeal.nD Cert.MmDownRefIdeal.τ).loc Cert.MmDownRefIdeal.main_arg0) = m ((c.tc : Thread Cert.MmDownRefIdeal.nD Cert.MmDownRefIdeal.τ).loc Cert.MmDownRefIdeal.main_arg0)
      ∧ r.2.mem ((c.tc : Thread Cert.MmDownRefIdeal.nD Cert.MmDownRefIdeal.τ).loc Cert.MmDownRefIdeal.main_arg1) = m ((c.tc : Thread Cert.MmDownRefIdeal.nD Cert.MmDownRefIdeal.τ).loc Cert.MmDownRefIdeal.main_arg1)
      ∧ r.2.mem ((c.tc : Thread Cert.MmDownRefIdeal.nD Cert.MmDownRefIdeal.τ).loc Cert.MmDownRefIdeal.main_arg2) = m ((c.tc : Thread Cert.MmDownRefIdeal.nD Cert.MmDownRefIdeal.τ).loc Cert.MmDownRefIdeal.main_arg2))
      ∧ r.2.sem = fun _ => 0)

def quiescent_MmIn [hMmIn : Cert.MmIn.Facts] : Prop :=
  ∀ (m : (ℓ : Loc Cert.MmIn.nD Cert.MmIn.τ Cert.MmIn.sig) → Buf (Elt Bits) ℓ) (g : Dev Cert.MmIn.nD → PrngReg), Pre_MmIn m →
    θ_run (Cert.MmIn.defs (F := Bits)) (onTc (τ := Cert.MmIn.τ) (Cert.MmIn.main (F := Bits))) ⟨m, fun _ => 0, g⟩ (fun r => (∀ c : Dev Cert.MmIn.nD,
      r.2.mem ((c.tc : Thread Cert.MmIn.nD Cert.MmIn.τ).loc Cert.MmIn.main_arg0) = m ((c.tc : Thread Cert.MmIn.nD Cert.MmIn.τ).loc Cert.MmIn.main_arg0)
      ∧ r.2.mem ((c.tc : Thread Cert.MmIn.nD Cert.MmIn.τ).loc Cert.MmIn.main_arg1) = m ((c.tc : Thread Cert.MmIn.nD Cert.MmIn.τ).loc Cert.MmIn.main_arg1))
      ∧ r.2.sem = fun _ => 0)

def quiescent_MmInIdeal [hMmInIdeal : Cert.MmInIdeal.Facts] : Prop :=
  ∀ (m : (ℓ : Loc Cert.MmInIdeal.nD Cert.MmInIdeal.τ Cert.MmInIdeal.sig) → Buf (Elt Ideal) ℓ) (g : Dev Cert.MmInIdeal.nD → PrngReg), Pre_MmInIdeal m →
    θ_run (Cert.MmInIdeal.defs (F := Ideal)) (onTc (τ := Cert.MmInIdeal.τ) (Cert.MmInIdeal.main (F := Ideal))) ⟨m, fun _ => 0, g⟩ (fun r => (∀ c : Dev Cert.MmInIdeal.nD,
      r.2.mem ((c.tc : Thread Cert.MmInIdeal.nD Cert.MmInIdeal.τ).loc Cert.MmInIdeal.main_arg0) = m ((c.tc : Thread Cert.MmInIdeal.nD Cert.MmInIdeal.τ).loc Cert.MmInIdeal.main_arg0)
      ∧ r.2.mem ((c.tc : Thread Cert.MmInIdeal.nD Cert.MmInIdeal.τ).loc Cert.MmInIdeal.main_arg1) = m ((c.tc : Thread Cert.MmInIdeal.nD Cert.MmInIdeal.τ).loc Cert.MmInIdeal.main_arg1))
      ∧ r.2.sem = fun _ => 0)

def quiescent_MmInRefIdeal [hMmInRefIdeal : Cert.MmInRefIdeal.Facts] : Prop :=
  ∀ (m : (ℓ : Loc Cert.MmInRefIdeal.nD Cert.MmInRefIdeal.τ Cert.MmInRefIdeal.sig) → Buf (Elt Ideal) ℓ) (g : Dev Cert.MmInRefIdeal.nD → PrngReg), Pre_MmInRefIdeal m →
    θ_run (Cert.MmInRefIdeal.defs (F := Ideal)) (onTc (τ := Cert.MmInRefIdeal.τ) (Cert.MmInRefIdeal.main (F := Ideal))) ⟨m, fun _ => 0, g⟩ (fun r => (∀ c : Dev Cert.MmInRefIdeal.nD,
      r.2.mem ((c.tc : Thread Cert.MmInRefIdeal.nD Cert.MmInRefIdeal.τ).loc Cert.MmInRefIdeal.main_arg0) = m ((c.tc : Thread Cert.MmInRefIdeal.nD Cert.MmInRefIdeal.τ).loc Cert.MmInRefIdeal.main_arg0)
      ∧ r.2.mem ((c.tc : Thread Cert.MmInRefIdeal.nD Cert.MmInRefIdeal.τ).loc Cert.MmInRefIdeal.main_arg1) = m ((c.tc : Thread Cert.MmInRefIdeal.nD Cert.MmInRefIdeal.τ).loc Cert.MmInRefIdeal.main_arg1))
      ∧ r.2.sem = fun _ => 0)

def quiescent_MmOut [hMmOut : Cert.MmOut.Facts] : Prop :=
  ∀ (m : (ℓ : Loc Cert.MmOut.nD Cert.MmOut.τ Cert.MmOut.sig) → Buf (Elt Bits) ℓ) (g : Dev Cert.MmOut.nD → PrngReg), Pre_MmOut m →
    θ_run (Cert.MmOut.defs (F := Bits)) (onTc (τ := Cert.MmOut.τ) (Cert.MmOut.main (F := Bits))) ⟨m, fun _ => 0, g⟩ (fun r => (∀ c : Dev Cert.MmOut.nD,
      r.2.mem ((c.tc : Thread Cert.MmOut.nD Cert.MmOut.τ).loc Cert.MmOut.main_arg0) = m ((c.tc : Thread Cert.MmOut.nD Cert.MmOut.τ).loc Cert.MmOut.main_arg0)
      ∧ r.2.mem ((c.tc : Thread Cert.MmOut.nD Cert.MmOut.τ).loc Cert.MmOut.main_arg1) = m ((c.tc : Thread Cert.MmOut.nD Cert.MmOut.τ).loc Cert.MmOut.main_arg1)
      ∧ r.2.mem ((c.tc : Thread Cert.MmOut.nD Cert.MmOut.τ).loc Cert.MmOut.main_arg2) = m ((c.tc : Thread Cert.MmOut.nD Cert.MmOut.τ).loc Cert.MmOut.main_arg2))
      ∧ r.2.sem = fun _ => 0)

def quiescent_MmOutIdeal [hMmOutIdeal : Cert.MmOutIdeal.Facts] : Prop :=
  ∀ (m : (ℓ : Loc Cert.MmOutIdeal.nD Cert.MmOutIdeal.τ Cert.MmOutIdeal.sig) → Buf (Elt Ideal) ℓ) (g : Dev Cert.MmOutIdeal.nD → PrngReg), Pre_MmOutIdeal m →
    θ_run (Cert.MmOutIdeal.defs (F := Ideal)) (onTc (τ := Cert.MmOutIdeal.τ) (Cert.MmOutIdeal.main (F := Ideal))) ⟨m, fun _ => 0, g⟩ (fun r => (∀ c : Dev Cert.MmOutIdeal.nD,
      r.2.mem ((c.tc : Thread Cert.MmOutIdeal.nD Cert.MmOutIdeal.τ).loc Cert.MmOutIdeal.main_arg0) = m ((c.tc : Thread Cert.MmOutIdeal.nD Cert.MmOutIdeal.τ).loc Cert.MmOutIdeal.main_arg0)
      ∧ r.2.mem ((c.tc : Thread Cert.MmOutIdeal.nD Cert.MmOutIdeal.τ).loc Cert.MmOutIdeal.main_arg1) = m ((c.tc : Thread Cert.MmOutIdeal.nD Cert.MmOutIdeal.τ).loc Cert.MmOutIdeal.main_arg1)
      ∧ r.2.mem ((c.tc : Thread Cert.MmOutIdeal.nD Cert.MmOutIdeal.τ).loc Cert.MmOutIdeal.main_arg2) = m ((c.tc : Thread Cert.MmOutIdeal.nD Cert.MmOutIdeal.τ).loc Cert.MmOutIdeal.main_arg2))
      ∧ r.2.sem = fun _ => 0)

def quiescent_MmOutRefIdeal [hMmOutRefIdeal : Cert.MmOutRefIdeal.Facts] : Prop :=
  ∀ (m : (ℓ : Loc Cert.MmOutRefIdeal.nD Cert.MmOutRefIdeal.τ Cert.MmOutRefIdeal.sig) → Buf (Elt Ideal) ℓ) (g : Dev Cert.MmOutRefIdeal.nD → PrngReg), Pre_MmOutRefIdeal m →
    θ_run (Cert.MmOutRefIdeal.defs (F := Ideal)) (onTc (τ := Cert.MmOutRefIdeal.τ) (Cert.MmOutRefIdeal.main (F := Ideal))) ⟨m, fun _ => 0, g⟩ (fun r => (∀ c : Dev Cert.MmOutRefIdeal.nD,
      r.2.mem ((c.tc : Thread Cert.MmOutRefIdeal.nD Cert.MmOutRefIdeal.τ).loc Cert.MmOutRefIdeal.main_arg0) = m ((c.tc : Thread Cert.MmOutRefIdeal.nD Cert.MmOutRefIdeal.τ).loc Cert.MmOutRefIdeal.main_arg0)
      ∧ r.2.mem ((c.tc : Thread Cert.MmOutRefIdeal.nD Cert.MmOutRefIdeal.τ).loc Cert.MmOutRefIdeal.main_arg1) = m ((c.tc : Thread Cert.MmOutRefIdeal.nD Cert.MmOutRefIdeal.τ).loc Cert.MmOutRefIdeal.main_arg1)
      ∧ r.2.mem ((c.tc : Thread Cert.MmOutRefIdeal.nD Cert.MmOutRefIdeal.τ).loc Cert.MmOutRefIdeal.main_arg2) = m ((c.tc : Thread Cert.MmOutRefIdeal.nD Cert.MmOutRefIdeal.τ).loc Cert.MmOutRefIdeal.main_arg2))
      ∧ r.2.sem = fun _ => 0)

def quiescent_MmGate [hMmGate : Cert.MmGate.Facts] : Prop :=
  ∀ (m : (ℓ : Loc Cert.MmGate.nD Cert.MmGate.τ Cert.MmGate.sig) → Buf (Elt Bits) ℓ) (g : Dev Cert.MmGate.nD → PrngReg), Pre_MmGate m →
    θ_run (Cert.MmGate.defs (F := Bits)) (onTc (τ := Cert.MmGate.τ) (Cert.MmGate.main (F := Bits))) ⟨m, fun _ => 0, g⟩ (fun r => (∀ c : Dev Cert.MmGate.nD,
      r.2.mem ((c.tc : Thread Cert.MmGate.nD Cert.MmGate.τ).loc Cert.MmGate.main_arg0) = m ((c.tc : Thread Cert.MmGate.nD Cert.MmGate.τ).loc Cert.MmGate.main_arg0)
      ∧ r.2.mem ((c.tc : Thread Cert.MmGate.nD Cert.MmGate.τ).loc Cert.MmGate.main_arg1) = m ((c.tc : Thread Cert.MmGate.nD Cert.MmGate.τ).loc Cert.MmGate.main_arg1))
      ∧ r.2.sem = fun _ => 0)

def quiescent_MmGateIdeal [hMmGateIdeal : Cert.MmGateIdeal.Facts] : Prop :=
  ∀ (m : (ℓ : Loc Cert.MmGateIdeal.nD Cert.MmGateIdeal.τ Cert.MmGateIdeal.sig) → Buf (Elt Ideal) ℓ) (g : Dev Cert.MmGateIdeal.nD → PrngReg), Pre_MmGateIdeal m →
    θ_run (Cert.MmGateIdeal.defs (F := Ideal)) (onTc (τ := Cert.MmGateIdeal.τ) (Cert.MmGateIdeal.main (F := Ideal))) ⟨m, fun _ => 0, g⟩ (fun r => (∀ c : Dev Cert.MmGateIdeal.nD,
      r.2.mem ((c.tc : Thread Cert.MmGateIdeal.nD Cert.MmGateIdeal.τ).loc Cert.MmGateIdeal.main_arg0) = m ((c.tc : Thread Cert.MmGateIdeal.nD Cert.MmGateIdeal.τ).loc Cert.MmGateIdeal.main_arg0)
      ∧ r.2.mem ((c.tc : Thread Cert.MmGateIdeal.nD Cert.MmGateIdeal.τ).loc Cert.MmGateIdeal.main_arg1) = m ((c.tc : Thread Cert.MmGateIdeal.nD Cert.MmGateIdeal.τ).loc Cert.MmGateIdeal.main_arg1))
      ∧ r.2.sem = fun _ => 0)

def quiescent_MmGateRefIdeal [hMmGateRefIdeal : Cert.MmGateRefIdeal.Facts] : Prop :=
  ∀ (m : (ℓ : Loc Cert.MmGateRefIdeal.nD Cert.MmGateRefIdeal.τ Cert.MmGateRefIdeal.sig) → Buf (Elt Ideal) ℓ) (g : Dev Cert.MmGateRefIdeal.nD → PrngReg), Pre_MmGateRefIdeal m →
    θ_run (Cert.MmGateRefIdeal.defs (F := Ideal)) (onTc (τ := Cert.MmGateRefIdeal.τ) (Cert.MmGateRefIdeal.main (F := Ideal))) ⟨m, fun _ => 0, g⟩ (fun r => (∀ c : Dev Cert.MmGateRefIdeal.nD,
      r.2.mem ((c.tc : Thread Cert.MmGateRefIdeal.nD Cert.MmGateRefIdeal.τ).loc Cert.MmGateRefIdeal.main_arg0) = m ((c.tc : Thread Cert.MmGateRefIdeal.nD Cert.MmGateRefIdeal.τ).loc Cert.MmGateRefIdeal.main_arg0)
      ∧ r.2.mem ((c.tc : Thread Cert.MmGateRefIdeal.nD Cert.MmGateRefIdeal.τ).loc Cert.MmGateRefIdeal.main_arg1) = m ((c.tc : Thread Cert.MmGateRefIdeal.nD Cert.MmGateRefIdeal.τ).loc Cert.MmGateRefIdeal.main_arg1))
      ∧ r.2.sem = fun _ => 0)

def quiescent_MmProj [hMmProj : Cert.MmProj.Facts] : Prop :=
  ∀ (m : (ℓ : Loc Cert.MmProj.nD Cert.MmProj.τ Cert.MmProj.sig) → Buf (Elt Bits) ℓ) (g : Dev Cert.MmProj.nD → PrngReg), Pre_MmProj m →
    θ_run (Cert.MmProj.defs (F := Bits)) (onTc (τ := Cert.MmProj.τ) (Cert.MmProj.main (F := Bits))) ⟨m, fun _ => 0, g⟩ (fun r => (∀ c : Dev Cert.MmProj.nD,
      r.2.mem ((c.tc : Thread Cert.MmProj.nD Cert.MmProj.τ).loc Cert.MmProj.main_arg0) = m ((c.tc : Thread Cert.MmProj.nD Cert.MmProj.τ).loc Cert.MmProj.main_arg0)
      ∧ r.2.mem ((c.tc : Thread Cert.MmProj.nD Cert.MmProj.τ).loc Cert.MmProj.main_arg1) = m ((c.tc : Thread Cert.MmProj.nD Cert.MmProj.τ).loc Cert.MmProj.main_arg1))
      ∧ r.2.sem = fun _ => 0)

def quiescent_MmProjIdeal [hMmProjIdeal : Cert.MmProjIdeal.Facts] : Prop :=
  ∀ (m : (ℓ : Loc Cert.MmProjIdeal.nD Cert.MmProjIdeal.τ Cert.MmProjIdeal.sig) → Buf (Elt Ideal) ℓ) (g : Dev Cert.MmProjIdeal.nD → PrngReg), Pre_MmProjIdeal m →
    θ_run (Cert.MmProjIdeal.defs (F := Ideal)) (onTc (τ := Cert.MmProjIdeal.τ) (Cert.MmProjIdeal.main (F := Ideal))) ⟨m, fun _ => 0, g⟩ (fun r => (∀ c : Dev Cert.MmProjIdeal.nD,
      r.2.mem ((c.tc : Thread Cert.MmProjIdeal.nD Cert.MmProjIdeal.τ).loc Cert.MmProjIdeal.main_arg0) = m ((c.tc : Thread Cert.MmProjIdeal.nD Cert.MmProjIdeal.τ).loc Cert.MmProjIdeal.main_arg0)
      ∧ r.2.mem ((c.tc : Thread Cert.MmProjIdeal.nD Cert.MmProjIdeal.τ).loc Cert.MmProjIdeal.main_arg1) = m ((c.tc : Thread Cert.MmProjIdeal.nD Cert.MmProjIdeal.τ).loc Cert.MmProjIdeal.main_arg1))
      ∧ r.2.sem = fun _ => 0)

def quiescent_MmProjRefIdeal [hMmProjRefIdeal : Cert.MmProjRefIdeal.Facts] : Prop :=
  ∀ (m : (ℓ : Loc Cert.MmProjRefIdeal.nD Cert.MmProjRefIdeal.τ Cert.MmProjRefIdeal.sig) → Buf (Elt Ideal) ℓ) (g : Dev Cert.MmProjRefIdeal.nD → PrngReg), Pre_MmProjRefIdeal m →
    θ_run (Cert.MmProjRefIdeal.defs (F := Ideal)) (onTc (τ := Cert.MmProjRefIdeal.τ) (Cert.MmProjRefIdeal.main (F := Ideal))) ⟨m, fun _ => 0, g⟩ (fun r => (∀ c : Dev Cert.MmProjRefIdeal.nD,
      r.2.mem ((c.tc : Thread Cert.MmProjRefIdeal.nD Cert.MmProjRefIdeal.τ).loc Cert.MmProjRefIdeal.main_arg0) = m ((c.tc : Thread Cert.MmProjRefIdeal.nD Cert.MmProjRefIdeal.τ).loc Cert.MmProjRefIdeal.main_arg0)
      ∧ r.2.mem ((c.tc : Thread Cert.MmProjRefIdeal.nD Cert.MmProjRefIdeal.τ).loc Cert.MmProjRefIdeal.main_arg1) = m ((c.tc : Thread Cert.MmProjRefIdeal.nD Cert.MmProjRefIdeal.τ).loc Cert.MmProjRefIdeal.main_arg1))
      ∧ r.2.sem = fun _ => 0)

def quiescent_PleB [hPleB : Cert.PleB.Facts] : Prop :=
  ∀ (m : (ℓ : Loc Cert.PleB.nD Cert.PleB.τ Cert.PleB.sig) → Buf (Elt Bits) ℓ) (g : Dev Cert.PleB.nD → PrngReg), Pre_PleB m →
    θ_run (Cert.PleB.defs (F := Bits)) (onTc (τ := Cert.PleB.τ) (Cert.PleB.main (F := Bits))) ⟨m, fun _ => 0, g⟩ (fun r => (∀ c : Dev Cert.PleB.nD,
      r.2.mem ((c.tc : Thread Cert.PleB.nD Cert.PleB.τ).loc Cert.PleB.main_arg0) = m ((c.tc : Thread Cert.PleB.nD Cert.PleB.τ).loc Cert.PleB.main_arg0)
      ∧ r.2.mem ((c.tc : Thread Cert.PleB.nD Cert.PleB.τ).loc Cert.PleB.main_arg1) = m ((c.tc : Thread Cert.PleB.nD Cert.PleB.τ).loc Cert.PleB.main_arg1)
      ∧ r.2.mem ((c.tc : Thread Cert.PleB.nD Cert.PleB.τ).loc Cert.PleB.main_arg2) = m ((c.tc : Thread Cert.PleB.nD Cert.PleB.τ).loc Cert.PleB.main_arg2))
      ∧ r.2.sem = fun _ => 0)

def quiescent_PleBIdeal [hPleBIdeal : Cert.PleBIdeal.Facts] : Prop :=
  ∀ (m : (ℓ : Loc Cert.PleBIdeal.nD Cert.PleBIdeal.τ Cert.PleBIdeal.sig) → Buf (Elt Ideal) ℓ) (g : Dev Cert.PleBIdeal.nD → PrngReg), Pre_PleBIdeal m →
    θ_run (Cert.PleBIdeal.defs (F := Ideal)) (onTc (τ := Cert.PleBIdeal.τ) (Cert.PleBIdeal.main (F := Ideal))) ⟨m, fun _ => 0, g⟩ (fun r => (∀ c : Dev Cert.PleBIdeal.nD,
      r.2.mem ((c.tc : Thread Cert.PleBIdeal.nD Cert.PleBIdeal.τ).loc Cert.PleBIdeal.main_arg0) = m ((c.tc : Thread Cert.PleBIdeal.nD Cert.PleBIdeal.τ).loc Cert.PleBIdeal.main_arg0)
      ∧ r.2.mem ((c.tc : Thread Cert.PleBIdeal.nD Cert.PleBIdeal.τ).loc Cert.PleBIdeal.main_arg1) = m ((c.tc : Thread Cert.PleBIdeal.nD Cert.PleBIdeal.τ).loc Cert.PleBIdeal.main_arg1)
      ∧ r.2.mem ((c.tc : Thread Cert.PleBIdeal.nD Cert.PleBIdeal.τ).loc Cert.PleBIdeal.main_arg2) = m ((c.tc : Thread Cert.PleBIdeal.nD Cert.PleBIdeal.τ).loc Cert.PleBIdeal.main_arg2))
      ∧ r.2.sem = fun _ => 0)

def quiescent_PleBRefIdeal [hPleBRefIdeal : Cert.PleBRefIdeal.Facts] : Prop :=
  ∀ (m : (ℓ : Loc Cert.PleBRefIdeal.nD Cert.PleBRefIdeal.τ Cert.PleBRefIdeal.sig) → Buf (Elt Ideal) ℓ) (g : Dev Cert.PleBRefIdeal.nD → PrngReg), Pre_PleBRefIdeal m →
    θ_run (Cert.PleBRefIdeal.defs (F := Ideal)) (onTc (τ := Cert.PleBRefIdeal.τ) (Cert.PleBRefIdeal.main (F := Ideal))) ⟨m, fun _ => 0, g⟩ (fun r => (∀ c : Dev Cert.PleBRefIdeal.nD,
      r.2.mem ((c.tc : Thread Cert.PleBRefIdeal.nD Cert.PleBRefIdeal.τ).loc Cert.PleBRefIdeal.main_arg0) = m ((c.tc : Thread Cert.PleBRefIdeal.nD Cert.PleBRefIdeal.τ).loc Cert.PleBRefIdeal.main_arg0)
      ∧ r.2.mem ((c.tc : Thread Cert.PleBRefIdeal.nD Cert.PleBRefIdeal.τ).loc Cert.PleBRefIdeal.main_arg1) = m ((c.tc : Thread Cert.PleBRefIdeal.nD Cert.PleBRefIdeal.τ).loc Cert.PleBRefIdeal.main_arg1)
      ∧ r.2.mem ((c.tc : Thread Cert.PleBRefIdeal.nD Cert.PleBRefIdeal.τ).loc Cert.PleBRefIdeal.main_arg2) = m ((c.tc : Thread Cert.PleBRefIdeal.nD Cert.PleBRefIdeal.τ).loc Cert.PleBRefIdeal.main_arg2))
      ∧ r.2.sem = fun _ => 0)

def quiescent_GnormB [hGnormB : Cert.GnormB.Facts] : Prop :=
  ∀ (m : (ℓ : Loc Cert.GnormB.nD Cert.GnormB.τ Cert.GnormB.sig) → Buf (Elt Bits) ℓ) (g : Dev Cert.GnormB.nD → PrngReg), Pre_GnormB m →
    θ_run (Cert.GnormB.defs (F := Bits)) (onTc (τ := Cert.GnormB.τ) (Cert.GnormB.main (F := Bits))) ⟨m, fun _ => 0, g⟩ (fun r => (∀ c : Dev Cert.GnormB.nD,
      r.2.mem ((c.tc : Thread Cert.GnormB.nD Cert.GnormB.τ).loc Cert.GnormB.main_arg0) = m ((c.tc : Thread Cert.GnormB.nD Cert.GnormB.τ).loc Cert.GnormB.main_arg0)
      ∧ r.2.mem ((c.tc : Thread Cert.GnormB.nD Cert.GnormB.τ).loc Cert.GnormB.main_arg1) = m ((c.tc : Thread Cert.GnormB.nD Cert.GnormB.τ).loc Cert.GnormB.main_arg1)
      ∧ r.2.mem ((c.tc : Thread Cert.GnormB.nD Cert.GnormB.τ).loc Cert.GnormB.main_arg2) = m ((c.tc : Thread Cert.GnormB.nD Cert.GnormB.τ).loc Cert.GnormB.main_arg2)
      ∧ r.2.mem ((c.tc : Thread Cert.GnormB.nD Cert.GnormB.τ).loc Cert.GnormB.main_arg3) = m ((c.tc : Thread Cert.GnormB.nD Cert.GnormB.τ).loc Cert.GnormB.main_arg3)
      ∧ r.2.mem ((c.tc : Thread Cert.GnormB.nD Cert.GnormB.τ).loc Cert.GnormB.main_arg4) = m ((c.tc : Thread Cert.GnormB.nD Cert.GnormB.τ).loc Cert.GnormB.main_arg4)
      ∧ r.2.mem ((c.tc : Thread Cert.GnormB.nD Cert.GnormB.τ).loc Cert.GnormB.main_arg5) = m ((c.tc : Thread Cert.GnormB.nD Cert.GnormB.τ).loc Cert.GnormB.main_arg5))
      ∧ r.2.sem = fun _ => 0)

def quiescent_GnormBIdeal [hGnormBIdeal : Cert.GnormBIdeal.Facts] : Prop :=
  ∀ (m : (ℓ : Loc Cert.GnormBIdeal.nD Cert.GnormBIdeal.τ Cert.GnormBIdeal.sig) → Buf (Elt Ideal) ℓ) (g : Dev Cert.GnormBIdeal.nD → PrngReg), Pre_GnormBIdeal m →
    θ_run (Cert.GnormBIdeal.defs (F := Ideal)) (onTc (τ := Cert.GnormBIdeal.τ) (Cert.GnormBIdeal.main (F := Ideal))) ⟨m, fun _ => 0, g⟩ (fun r => (∀ c : Dev Cert.GnormBIdeal.nD,
      r.2.mem ((c.tc : Thread Cert.GnormBIdeal.nD Cert.GnormBIdeal.τ).loc Cert.GnormBIdeal.main_arg0) = m ((c.tc : Thread Cert.GnormBIdeal.nD Cert.GnormBIdeal.τ).loc Cert.GnormBIdeal.main_arg0)
      ∧ r.2.mem ((c.tc : Thread Cert.GnormBIdeal.nD Cert.GnormBIdeal.τ).loc Cert.GnormBIdeal.main_arg1) = m ((c.tc : Thread Cert.GnormBIdeal.nD Cert.GnormBIdeal.τ).loc Cert.GnormBIdeal.main_arg1)
      ∧ r.2.mem ((c.tc : Thread Cert.GnormBIdeal.nD Cert.GnormBIdeal.τ).loc Cert.GnormBIdeal.main_arg2) = m ((c.tc : Thread Cert.GnormBIdeal.nD Cert.GnormBIdeal.τ).loc Cert.GnormBIdeal.main_arg2)
      ∧ r.2.mem ((c.tc : Thread Cert.GnormBIdeal.nD Cert.GnormBIdeal.τ).loc Cert.GnormBIdeal.main_arg3) = m ((c.tc : Thread Cert.GnormBIdeal.nD Cert.GnormBIdeal.τ).loc Cert.GnormBIdeal.main_arg3)
      ∧ r.2.mem ((c.tc : Thread Cert.GnormBIdeal.nD Cert.GnormBIdeal.τ).loc Cert.GnormBIdeal.main_arg4) = m ((c.tc : Thread Cert.GnormBIdeal.nD Cert.GnormBIdeal.τ).loc Cert.GnormBIdeal.main_arg4)
      ∧ r.2.mem ((c.tc : Thread Cert.GnormBIdeal.nD Cert.GnormBIdeal.τ).loc Cert.GnormBIdeal.main_arg5) = m ((c.tc : Thread Cert.GnormBIdeal.nD Cert.GnormBIdeal.τ).loc Cert.GnormBIdeal.main_arg5))
      ∧ r.2.sem = fun _ => 0)

def quiescent_GnormBRefIdeal [hGnormBRefIdeal : Cert.GnormBRefIdeal.Facts] : Prop :=
  ∀ (m : (ℓ : Loc Cert.GnormBRefIdeal.nD Cert.GnormBRefIdeal.τ Cert.GnormBRefIdeal.sig) → Buf (Elt Ideal) ℓ) (g : Dev Cert.GnormBRefIdeal.nD → PrngReg), Pre_GnormBRefIdeal m →
    θ_run (Cert.GnormBRefIdeal.defs (F := Ideal)) (onTc (τ := Cert.GnormBRefIdeal.τ) (Cert.GnormBRefIdeal.main (F := Ideal))) ⟨m, fun _ => 0, g⟩ (fun r => (∀ c : Dev Cert.GnormBRefIdeal.nD,
      r.2.mem ((c.tc : Thread Cert.GnormBRefIdeal.nD Cert.GnormBRefIdeal.τ).loc Cert.GnormBRefIdeal.main_arg0) = m ((c.tc : Thread Cert.GnormBRefIdeal.nD Cert.GnormBRefIdeal.τ).loc Cert.GnormBRefIdeal.main_arg0)
      ∧ r.2.mem ((c.tc : Thread Cert.GnormBRefIdeal.nD Cert.GnormBRefIdeal.τ).loc Cert.GnormBRefIdeal.main_arg1) = m ((c.tc : Thread Cert.GnormBRefIdeal.nD Cert.GnormBRefIdeal.τ).loc Cert.GnormBRefIdeal.main_arg1)
      ∧ r.2.mem ((c.tc : Thread Cert.GnormBRefIdeal.nD Cert.GnormBRefIdeal.τ).loc Cert.GnormBRefIdeal.main_arg2) = m ((c.tc : Thread Cert.GnormBRefIdeal.nD Cert.GnormBRefIdeal.τ).loc Cert.GnormBRefIdeal.main_arg2)
      ∧ r.2.mem ((c.tc : Thread Cert.GnormBRefIdeal.nD Cert.GnormBRefIdeal.τ).loc Cert.GnormBRefIdeal.main_arg3) = m ((c.tc : Thread Cert.GnormBRefIdeal.nD Cert.GnormBRefIdeal.τ).loc Cert.GnormBRefIdeal.main_arg3)
      ∧ r.2.mem ((c.tc : Thread Cert.GnormBRefIdeal.nD Cert.GnormBRefIdeal.τ).loc Cert.GnormBRefIdeal.main_arg4) = m ((c.tc : Thread Cert.GnormBRefIdeal.nD Cert.GnormBRefIdeal.τ).loc Cert.GnormBRefIdeal.main_arg4)
      ∧ r.2.mem ((c.tc : Thread Cert.GnormBRefIdeal.nD Cert.GnormBRefIdeal.τ).loc Cert.GnormBRefIdeal.main_arg5) = m ((c.tc : Thread Cert.GnormBRefIdeal.nD Cert.GnormBRefIdeal.τ).loc Cert.GnormBRefIdeal.main_arg5))
      ∧ r.2.sem = fun _ => 0)

def quiescent_AttnF [hAttnF : Cert.AttnF.Facts] : Prop :=
  ∀ (m : (ℓ : Loc Cert.AttnF.nD Cert.AttnF.τ Cert.AttnF.sig) → Buf (Elt Bits) ℓ) (g : Dev Cert.AttnF.nD → PrngReg), Pre_AttnF m →
    θ_run (Cert.AttnF.defs (F := Bits)) (onTc (τ := Cert.AttnF.τ) (Cert.AttnF.main (F := Bits))) ⟨m, fun _ => 0, g⟩ (fun r => (∀ c : Dev Cert.AttnF.nD,
      r.2.mem ((c.tc : Thread Cert.AttnF.nD Cert.AttnF.τ).loc Cert.AttnF.main_arg0) = m ((c.tc : Thread Cert.AttnF.nD Cert.AttnF.τ).loc Cert.AttnF.main_arg0)
      ∧ r.2.mem ((c.tc : Thread Cert.AttnF.nD Cert.AttnF.τ).loc Cert.AttnF.main_arg1) = m ((c.tc : Thread Cert.AttnF.nD Cert.AttnF.τ).loc Cert.AttnF.main_arg1)
      ∧ r.2.mem ((c.tc : Thread Cert.AttnF.nD Cert.AttnF.τ).loc Cert.AttnF.main_arg2) = m ((c.tc : Thread Cert.AttnF.nD Cert.AttnF.τ).loc Cert.AttnF.main_arg2))
      ∧ r.2.sem = fun _ => 0)

def quiescent_AttnFIdeal [hAttnFIdeal : Cert.AttnFIdeal.Facts] : Prop :=
  ∀ (m : (ℓ : Loc Cert.AttnFIdeal.nD Cert.AttnFIdeal.τ Cert.AttnFIdeal.sig) → Buf (Elt Ideal) ℓ) (g : Dev Cert.AttnFIdeal.nD → PrngReg), Pre_AttnFIdeal m →
    θ_run (Cert.AttnFIdeal.defs (F := Ideal)) (onTc (τ := Cert.AttnFIdeal.τ) (Cert.AttnFIdeal.main (F := Ideal))) ⟨m, fun _ => 0, g⟩ (fun r => (∀ c : Dev Cert.AttnFIdeal.nD,
      r.2.mem ((c.tc : Thread Cert.AttnFIdeal.nD Cert.AttnFIdeal.τ).loc Cert.AttnFIdeal.main_arg0) = m ((c.tc : Thread Cert.AttnFIdeal.nD Cert.AttnFIdeal.τ).loc Cert.AttnFIdeal.main_arg0)
      ∧ r.2.mem ((c.tc : Thread Cert.AttnFIdeal.nD Cert.AttnFIdeal.τ).loc Cert.AttnFIdeal.main_arg1) = m ((c.tc : Thread Cert.AttnFIdeal.nD Cert.AttnFIdeal.τ).loc Cert.AttnFIdeal.main_arg1)
      ∧ r.2.mem ((c.tc : Thread Cert.AttnFIdeal.nD Cert.AttnFIdeal.τ).loc Cert.AttnFIdeal.main_arg2) = m ((c.tc : Thread Cert.AttnFIdeal.nD Cert.AttnFIdeal.τ).loc Cert.AttnFIdeal.main_arg2))
      ∧ r.2.sem = fun _ => 0)

def quiescent_AttnFIdeal_pre_finite_scores [hAttnFIdeal : Cert.AttnFIdeal.Facts] [hPre_finite_scores : Cert.Pre_finite_scores.Facts] : Prop :=
  ∀ (m : (ℓ : Loc Cert.AttnFIdeal.nD Cert.AttnFIdeal.τ Cert.AttnFIdeal.sig) → Buf (Elt Ideal) ℓ) (g : Dev Cert.AttnFIdeal.nD → PrngReg), Pre_AttnFIdeal_finite_scores m →
    θ_run (Cert.AttnFIdeal.defs (F := Ideal)) (onTc (τ := Cert.AttnFIdeal.τ) (Cert.AttnFIdeal.main (F := Ideal))) ⟨m, fun _ => 0, g⟩ (fun r => (∀ c : Dev Cert.AttnFIdeal.nD,
      r.2.mem ((c.tc : Thread Cert.AttnFIdeal.nD Cert.AttnFIdeal.τ).loc Cert.AttnFIdeal.main_arg0) = m ((c.tc : Thread Cert.AttnFIdeal.nD Cert.AttnFIdeal.τ).loc Cert.AttnFIdeal.main_arg0)
      ∧ r.2.mem ((c.tc : Thread Cert.AttnFIdeal.nD Cert.AttnFIdeal.τ).loc Cert.AttnFIdeal.main_arg1) = m ((c.tc : Thread Cert.AttnFIdeal.nD Cert.AttnFIdeal.τ).loc Cert.AttnFIdeal.main_arg1)
      ∧ r.2.mem ((c.tc : Thread Cert.AttnFIdeal.nD Cert.AttnFIdeal.τ).loc Cert.AttnFIdeal.main_arg2) = m ((c.tc : Thread Cert.AttnFIdeal.nD Cert.AttnFIdeal.τ).loc Cert.AttnFIdeal.main_arg2))
      ∧ r.2.sem = fun _ => 0)

def quiescent_AttnFRefIdeal [hAttnFRefIdeal : Cert.AttnFRefIdeal.Facts] : Prop :=
  ∀ (m : (ℓ : Loc Cert.AttnFRefIdeal.nD Cert.AttnFRefIdeal.τ Cert.AttnFRefIdeal.sig) → Buf (Elt Ideal) ℓ) (g : Dev Cert.AttnFRefIdeal.nD → PrngReg), Pre_AttnFRefIdeal m →
    θ_run (Cert.AttnFRefIdeal.defs (F := Ideal)) (onTc (τ := Cert.AttnFRefIdeal.τ) (Cert.AttnFRefIdeal.main (F := Ideal))) ⟨m, fun _ => 0, g⟩ (fun r => (∀ c : Dev Cert.AttnFRefIdeal.nD,
      r.2.mem ((c.tc : Thread Cert.AttnFRefIdeal.nD Cert.AttnFRefIdeal.τ).loc Cert.AttnFRefIdeal.main_arg0) = m ((c.tc : Thread Cert.AttnFRefIdeal.nD Cert.AttnFRefIdeal.τ).loc Cert.AttnFRefIdeal.main_arg0)
      ∧ r.2.mem ((c.tc : Thread Cert.AttnFRefIdeal.nD Cert.AttnFRefIdeal.τ).loc Cert.AttnFRefIdeal.main_arg1) = m ((c.tc : Thread Cert.AttnFRefIdeal.nD Cert.AttnFRefIdeal.τ).loc Cert.AttnFRefIdeal.main_arg1)
      ∧ r.2.mem ((c.tc : Thread Cert.AttnFRefIdeal.nD Cert.AttnFRefIdeal.τ).loc Cert.AttnFRefIdeal.main_arg2) = m ((c.tc : Thread Cert.AttnFRefIdeal.nD Cert.AttnFRefIdeal.τ).loc Cert.AttnFRefIdeal.main_arg2))
      ∧ r.2.sem = fun _ => 0)

def quiescent_AttnFRefIdeal_pre_finite_scores [hAttnFRefIdeal : Cert.AttnFRefIdeal.Facts] [hPre_finite_scores : Cert.Pre_finite_scores.Facts] : Prop :=
  ∀ (m : (ℓ : Loc Cert.AttnFRefIdeal.nD Cert.AttnFRefIdeal.τ Cert.AttnFRefIdeal.sig) → Buf (Elt Ideal) ℓ) (g : Dev Cert.AttnFRefIdeal.nD → PrngReg), Pre_AttnFRefIdeal_finite_scores m →
    θ_run (Cert.AttnFRefIdeal.defs (F := Ideal)) (onTc (τ := Cert.AttnFRefIdeal.τ) (Cert.AttnFRefIdeal.main (F := Ideal))) ⟨m, fun _ => 0, g⟩ (fun r => (∀ c : Dev Cert.AttnFRefIdeal.nD,
      r.2.mem ((c.tc : Thread Cert.AttnFRefIdeal.nD Cert.AttnFRefIdeal.τ).loc Cert.AttnFRefIdeal.main_arg0) = m ((c.tc : Thread Cert.AttnFRefIdeal.nD Cert.AttnFRefIdeal.τ).loc Cert.AttnFRefIdeal.main_arg0)
      ∧ r.2.mem ((c.tc : Thread Cert.AttnFRefIdeal.nD Cert.AttnFRefIdeal.τ).loc Cert.AttnFRefIdeal.main_arg1) = m ((c.tc : Thread Cert.AttnFRefIdeal.nD Cert.AttnFRefIdeal.τ).loc Cert.AttnFRefIdeal.main_arg1)
      ∧ r.2.mem ((c.tc : Thread Cert.AttnFRefIdeal.nD Cert.AttnFRefIdeal.τ).loc Cert.AttnFRefIdeal.main_arg2) = m ((c.tc : Thread Cert.AttnFRefIdeal.nD Cert.AttnFRefIdeal.τ).loc Cert.AttnFRefIdeal.main_arg2))
      ∧ r.2.sem = fun _ => 0)

def quiescent_MixB [hMixB : Cert.MixB.Facts] : Prop :=
  ∀ (m : (ℓ : Loc Cert.MixB.nD Cert.MixB.τ Cert.MixB.sig) → Buf (Elt Bits) ℓ) (g : Dev Cert.MixB.nD → PrngReg), Pre_MixB m →
    θ_run (Cert.MixB.defs (F := Bits)) (onTc (τ := Cert.MixB.τ) (Cert.MixB.main (F := Bits))) ⟨m, fun _ => 0, g⟩ (fun r => (∀ c : Dev Cert.MixB.nD,
      r.2.mem ((c.tc : Thread Cert.MixB.nD Cert.MixB.τ).loc Cert.MixB.main_arg0) = m ((c.tc : Thread Cert.MixB.nD Cert.MixB.τ).loc Cert.MixB.main_arg0)
      ∧ r.2.mem ((c.tc : Thread Cert.MixB.nD Cert.MixB.τ).loc Cert.MixB.main_arg1) = m ((c.tc : Thread Cert.MixB.nD Cert.MixB.τ).loc Cert.MixB.main_arg1)
      ∧ r.2.mem ((c.tc : Thread Cert.MixB.nD Cert.MixB.τ).loc Cert.MixB.main_arg2) = m ((c.tc : Thread Cert.MixB.nD Cert.MixB.τ).loc Cert.MixB.main_arg2)
      ∧ r.2.mem ((c.tc : Thread Cert.MixB.nD Cert.MixB.τ).loc Cert.MixB.main_arg3) = m ((c.tc : Thread Cert.MixB.nD Cert.MixB.τ).loc Cert.MixB.main_arg3)
      ∧ r.2.mem ((c.tc : Thread Cert.MixB.nD Cert.MixB.τ).loc Cert.MixB.main_arg4) = m ((c.tc : Thread Cert.MixB.nD Cert.MixB.τ).loc Cert.MixB.main_arg4)
      ∧ r.2.mem ((c.tc : Thread Cert.MixB.nD Cert.MixB.τ).loc Cert.MixB.main_arg5) = m ((c.tc : Thread Cert.MixB.nD Cert.MixB.τ).loc Cert.MixB.main_arg5)
      ∧ r.2.mem ((c.tc : Thread Cert.MixB.nD Cert.MixB.τ).loc Cert.MixB.main_arg6) = m ((c.tc : Thread Cert.MixB.nD Cert.MixB.τ).loc Cert.MixB.main_arg6))
      ∧ r.2.sem = fun _ => 0)

def quiescent_MixBIdeal [hMixBIdeal : Cert.MixBIdeal.Facts] : Prop :=
  ∀ (m : (ℓ : Loc Cert.MixBIdeal.nD Cert.MixBIdeal.τ Cert.MixBIdeal.sig) → Buf (Elt Ideal) ℓ) (g : Dev Cert.MixBIdeal.nD → PrngReg), Pre_MixBIdeal m →
    θ_run (Cert.MixBIdeal.defs (F := Ideal)) (onTc (τ := Cert.MixBIdeal.τ) (Cert.MixBIdeal.main (F := Ideal))) ⟨m, fun _ => 0, g⟩ (fun r => (∀ c : Dev Cert.MixBIdeal.nD,
      r.2.mem ((c.tc : Thread Cert.MixBIdeal.nD Cert.MixBIdeal.τ).loc Cert.MixBIdeal.main_arg0) = m ((c.tc : Thread Cert.MixBIdeal.nD Cert.MixBIdeal.τ).loc Cert.MixBIdeal.main_arg0)
      ∧ r.2.mem ((c.tc : Thread Cert.MixBIdeal.nD Cert.MixBIdeal.τ).loc Cert.MixBIdeal.main_arg1) = m ((c.tc : Thread Cert.MixBIdeal.nD Cert.MixBIdeal.τ).loc Cert.MixBIdeal.main_arg1)
      ∧ r.2.mem ((c.tc : Thread Cert.MixBIdeal.nD Cert.MixBIdeal.τ).loc Cert.MixBIdeal.main_arg2) = m ((c.tc : Thread Cert.MixBIdeal.nD Cert.MixBIdeal.τ).loc Cert.MixBIdeal.main_arg2)
      ∧ r.2.mem ((c.tc : Thread Cert.MixBIdeal.nD Cert.MixBIdeal.τ).loc Cert.MixBIdeal.main_arg3) = m ((c.tc : Thread Cert.MixBIdeal.nD Cert.MixBIdeal.τ).loc Cert.MixBIdeal.main_arg3)
      ∧ r.2.mem ((c.tc : Thread Cert.MixBIdeal.nD Cert.MixBIdeal.τ).loc Cert.MixBIdeal.main_arg4) = m ((c.tc : Thread Cert.MixBIdeal.nD Cert.MixBIdeal.τ).loc Cert.MixBIdeal.main_arg4)
      ∧ r.2.mem ((c.tc : Thread Cert.MixBIdeal.nD Cert.MixBIdeal.τ).loc Cert.MixBIdeal.main_arg5) = m ((c.tc : Thread Cert.MixBIdeal.nD Cert.MixBIdeal.τ).loc Cert.MixBIdeal.main_arg5)
      ∧ r.2.mem ((c.tc : Thread Cert.MixBIdeal.nD Cert.MixBIdeal.τ).loc Cert.MixBIdeal.main_arg6) = m ((c.tc : Thread Cert.MixBIdeal.nD Cert.MixBIdeal.τ).loc Cert.MixBIdeal.main_arg6))
      ∧ r.2.sem = fun _ => 0)

def quiescent_MixBIdeal_pre_finite_sums [hMixBIdeal : Cert.MixBIdeal.Facts] [hPre_finite_sums : Cert.Pre_finite_sums.Facts] : Prop :=
  ∀ (m : (ℓ : Loc Cert.MixBIdeal.nD Cert.MixBIdeal.τ Cert.MixBIdeal.sig) → Buf (Elt Ideal) ℓ) (g : Dev Cert.MixBIdeal.nD → PrngReg), Pre_MixBIdeal_finite_sums m →
    θ_run (Cert.MixBIdeal.defs (F := Ideal)) (onTc (τ := Cert.MixBIdeal.τ) (Cert.MixBIdeal.main (F := Ideal))) ⟨m, fun _ => 0, g⟩ (fun r => (∀ c : Dev Cert.MixBIdeal.nD,
      r.2.mem ((c.tc : Thread Cert.MixBIdeal.nD Cert.MixBIdeal.τ).loc Cert.MixBIdeal.main_arg0) = m ((c.tc : Thread Cert.MixBIdeal.nD Cert.MixBIdeal.τ).loc Cert.MixBIdeal.main_arg0)
      ∧ r.2.mem ((c.tc : Thread Cert.MixBIdeal.nD Cert.MixBIdeal.τ).loc Cert.MixBIdeal.main_arg1) = m ((c.tc : Thread Cert.MixBIdeal.nD Cert.MixBIdeal.τ).loc Cert.MixBIdeal.main_arg1)
      ∧ r.2.mem ((c.tc : Thread Cert.MixBIdeal.nD Cert.MixBIdeal.τ).loc Cert.MixBIdeal.main_arg2) = m ((c.tc : Thread Cert.MixBIdeal.nD Cert.MixBIdeal.τ).loc Cert.MixBIdeal.main_arg2)
      ∧ r.2.mem ((c.tc : Thread Cert.MixBIdeal.nD Cert.MixBIdeal.τ).loc Cert.MixBIdeal.main_arg3) = m ((c.tc : Thread Cert.MixBIdeal.nD Cert.MixBIdeal.τ).loc Cert.MixBIdeal.main_arg3)
      ∧ r.2.mem ((c.tc : Thread Cert.MixBIdeal.nD Cert.MixBIdeal.τ).loc Cert.MixBIdeal.main_arg4) = m ((c.tc : Thread Cert.MixBIdeal.nD Cert.MixBIdeal.τ).loc Cert.MixBIdeal.main_arg4)
      ∧ r.2.mem ((c.tc : Thread Cert.MixBIdeal.nD Cert.MixBIdeal.τ).loc Cert.MixBIdeal.main_arg5) = m ((c.tc : Thread Cert.MixBIdeal.nD Cert.MixBIdeal.τ).loc Cert.MixBIdeal.main_arg5)
      ∧ r.2.mem ((c.tc : Thread Cert.MixBIdeal.nD Cert.MixBIdeal.τ).loc Cert.MixBIdeal.main_arg6) = m ((c.tc : Thread Cert.MixBIdeal.nD Cert.MixBIdeal.τ).loc Cert.MixBIdeal.main_arg6))
      ∧ r.2.sem = fun _ => 0)

def quiescent_MixBRefIdeal [hMixBRefIdeal : Cert.MixBRefIdeal.Facts] : Prop :=
  ∀ (m : (ℓ : Loc Cert.MixBRefIdeal.nD Cert.MixBRefIdeal.τ Cert.MixBRefIdeal.sig) → Buf (Elt Ideal) ℓ) (g : Dev Cert.MixBRefIdeal.nD → PrngReg), Pre_MixBRefIdeal m →
    θ_run (Cert.MixBRefIdeal.defs (F := Ideal)) (onTc (τ := Cert.MixBRefIdeal.τ) (Cert.MixBRefIdeal.main (F := Ideal))) ⟨m, fun _ => 0, g⟩ (fun r => (∀ c : Dev Cert.MixBRefIdeal.nD,
      r.2.mem ((c.tc : Thread Cert.MixBRefIdeal.nD Cert.MixBRefIdeal.τ).loc Cert.MixBRefIdeal.main_arg0) = m ((c.tc : Thread Cert.MixBRefIdeal.nD Cert.MixBRefIdeal.τ).loc Cert.MixBRefIdeal.main_arg0)
      ∧ r.2.mem ((c.tc : Thread Cert.MixBRefIdeal.nD Cert.MixBRefIdeal.τ).loc Cert.MixBRefIdeal.main_arg1) = m ((c.tc : Thread Cert.MixBRefIdeal.nD Cert.MixBRefIdeal.τ).loc Cert.MixBRefIdeal.main_arg1)
      ∧ r.2.mem ((c.tc : Thread Cert.MixBRefIdeal.nD Cert.MixBRefIdeal.τ).loc Cert.MixBRefIdeal.main_arg2) = m ((c.tc : Thread Cert.MixBRefIdeal.nD Cert.MixBRefIdeal.τ).loc Cert.MixBRefIdeal.main_arg2)
      ∧ r.2.mem ((c.tc : Thread Cert.MixBRefIdeal.nD Cert.MixBRefIdeal.τ).loc Cert.MixBRefIdeal.main_arg3) = m ((c.tc : Thread Cert.MixBRefIdeal.nD Cert.MixBRefIdeal.τ).loc Cert.MixBRefIdeal.main_arg3)
      ∧ r.2.mem ((c.tc : Thread Cert.MixBRefIdeal.nD Cert.MixBRefIdeal.τ).loc Cert.MixBRefIdeal.main_arg4) = m ((c.tc : Thread Cert.MixBRefIdeal.nD Cert.MixBRefIdeal.τ).loc Cert.MixBRefIdeal.main_arg4)
      ∧ r.2.mem ((c.tc : Thread Cert.MixBRefIdeal.nD Cert.MixBRefIdeal.τ).loc Cert.MixBRefIdeal.main_arg5) = m ((c.tc : Thread Cert.MixBRefIdeal.nD Cert.MixBRefIdeal.τ).loc Cert.MixBRefIdeal.main_arg5)
      ∧ r.2.mem ((c.tc : Thread Cert.MixBRefIdeal.nD Cert.MixBRefIdeal.τ).loc Cert.MixBRefIdeal.main_arg6) = m ((c.tc : Thread Cert.MixBRefIdeal.nD Cert.MixBRefIdeal.τ).loc Cert.MixBRefIdeal.main_arg6))
      ∧ r.2.sem = fun _ => 0)

def quiescent_MixBRefIdeal_pre_finite_sums [hMixBRefIdeal : Cert.MixBRefIdeal.Facts] [hPre_finite_sums : Cert.Pre_finite_sums.Facts] : Prop :=
  ∀ (m : (ℓ : Loc Cert.MixBRefIdeal.nD Cert.MixBRefIdeal.τ Cert.MixBRefIdeal.sig) → Buf (Elt Ideal) ℓ) (g : Dev Cert.MixBRefIdeal.nD → PrngReg), Pre_MixBRefIdeal_finite_sums m →
    θ_run (Cert.MixBRefIdeal.defs (F := Ideal)) (onTc (τ := Cert.MixBRefIdeal.τ) (Cert.MixBRefIdeal.main (F := Ideal))) ⟨m, fun _ => 0, g⟩ (fun r => (∀ c : Dev Cert.MixBRefIdeal.nD,
      r.2.mem ((c.tc : Thread Cert.MixBRefIdeal.nD Cert.MixBRefIdeal.τ).loc Cert.MixBRefIdeal.main_arg0) = m ((c.tc : Thread Cert.MixBRefIdeal.nD Cert.MixBRefIdeal.τ).loc Cert.MixBRefIdeal.main_arg0)
      ∧ r.2.mem ((c.tc : Thread Cert.MixBRefIdeal.nD Cert.MixBRefIdeal.τ).loc Cert.MixBRefIdeal.main_arg1) = m ((c.tc : Thread Cert.MixBRefIdeal.nD Cert.MixBRefIdeal.τ).loc Cert.MixBRefIdeal.main_arg1)
      ∧ r.2.mem ((c.tc : Thread Cert.MixBRefIdeal.nD Cert.MixBRefIdeal.τ).loc Cert.MixBRefIdeal.main_arg2) = m ((c.tc : Thread Cert.MixBRefIdeal.nD Cert.MixBRefIdeal.τ).loc Cert.MixBRefIdeal.main_arg2)
      ∧ r.2.mem ((c.tc : Thread Cert.MixBRefIdeal.nD Cert.MixBRefIdeal.τ).loc Cert.MixBRefIdeal.main_arg3) = m ((c.tc : Thread Cert.MixBRefIdeal.nD Cert.MixBRefIdeal.τ).loc Cert.MixBRefIdeal.main_arg3)
      ∧ r.2.mem ((c.tc : Thread Cert.MixBRefIdeal.nD Cert.MixBRefIdeal.τ).loc Cert.MixBRefIdeal.main_arg4) = m ((c.tc : Thread Cert.MixBRefIdeal.nD Cert.MixBRefIdeal.τ).loc Cert.MixBRefIdeal.main_arg4)
      ∧ r.2.mem ((c.tc : Thread Cert.MixBRefIdeal.nD Cert.MixBRefIdeal.τ).loc Cert.MixBRefIdeal.main_arg5) = m ((c.tc : Thread Cert.MixBRefIdeal.nD Cert.MixBRefIdeal.τ).loc Cert.MixBRefIdeal.main_arg5)
      ∧ r.2.mem ((c.tc : Thread Cert.MixBRefIdeal.nD Cert.MixBRefIdeal.τ).loc Cert.MixBRefIdeal.main_arg6) = m ((c.tc : Thread Cert.MixBRefIdeal.nD Cert.MixBRefIdeal.τ).loc Cert.MixBRefIdeal.main_arg6))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1))
      ∧ r.2.sem = fun _ => 0)

def quiescent_PleF [hPleF : Cert.PleF.Facts] : Prop :=
  ∀ (m : (ℓ : Loc Cert.PleF.nD Cert.PleF.τ Cert.PleF.sig) → Buf (Elt Bits) ℓ) (g : Dev Cert.PleF.nD → PrngReg), Pre_PleF m →
    θ_run (Cert.PleF.defs (F := Bits)) (onTc (τ := Cert.PleF.τ) (Cert.PleF.main (F := Bits))) ⟨m, fun _ => 0, g⟩ (fun r => (∀ c : Dev Cert.PleF.nD,
      r.2.mem ((c.tc : Thread Cert.PleF.nD Cert.PleF.τ).loc Cert.PleF.main_arg0) = m ((c.tc : Thread Cert.PleF.nD Cert.PleF.τ).loc Cert.PleF.main_arg0)
      ∧ r.2.mem ((c.tc : Thread Cert.PleF.nD Cert.PleF.τ).loc Cert.PleF.main_arg1) = m ((c.tc : Thread Cert.PleF.nD Cert.PleF.τ).loc Cert.PleF.main_arg1)
      ∧ r.2.mem ((c.tc : Thread Cert.PleF.nD Cert.PleF.τ).loc Cert.PleF.main_arg2) = m ((c.tc : Thread Cert.PleF.nD Cert.PleF.τ).loc Cert.PleF.main_arg2))
      ∧ r.2.sem = fun _ => 0)

def quiescent_PleFIdeal [hPleFIdeal : Cert.PleFIdeal.Facts] : Prop :=
  ∀ (m : (ℓ : Loc Cert.PleFIdeal.nD Cert.PleFIdeal.τ Cert.PleFIdeal.sig) → Buf (Elt Ideal) ℓ) (g : Dev Cert.PleFIdeal.nD → PrngReg), Pre_PleFIdeal m →
    θ_run (Cert.PleFIdeal.defs (F := Ideal)) (onTc (τ := Cert.PleFIdeal.τ) (Cert.PleFIdeal.main (F := Ideal))) ⟨m, fun _ => 0, g⟩ (fun r => (∀ c : Dev Cert.PleFIdeal.nD,
      r.2.mem ((c.tc : Thread Cert.PleFIdeal.nD Cert.PleFIdeal.τ).loc Cert.PleFIdeal.main_arg0) = m ((c.tc : Thread Cert.PleFIdeal.nD Cert.PleFIdeal.τ).loc Cert.PleFIdeal.main_arg0)
      ∧ r.2.mem ((c.tc : Thread Cert.PleFIdeal.nD Cert.PleFIdeal.τ).loc Cert.PleFIdeal.main_arg1) = m ((c.tc : Thread Cert.PleFIdeal.nD Cert.PleFIdeal.τ).loc Cert.PleFIdeal.main_arg1)
      ∧ r.2.mem ((c.tc : Thread Cert.PleFIdeal.nD Cert.PleFIdeal.τ).loc Cert.PleFIdeal.main_arg2) = m ((c.tc : Thread Cert.PleFIdeal.nD Cert.PleFIdeal.τ).loc Cert.PleFIdeal.main_arg2))
      ∧ r.2.sem = fun _ => 0)

def quiescent_PleFRefIdeal [hPleFRefIdeal : Cert.PleFRefIdeal.Facts] : Prop :=
  ∀ (m : (ℓ : Loc Cert.PleFRefIdeal.nD Cert.PleFRefIdeal.τ Cert.PleFRefIdeal.sig) → Buf (Elt Ideal) ℓ) (g : Dev Cert.PleFRefIdeal.nD → PrngReg), Pre_PleFRefIdeal m →
    θ_run (Cert.PleFRefIdeal.defs (F := Ideal)) (onTc (τ := Cert.PleFRefIdeal.τ) (Cert.PleFRefIdeal.main (F := Ideal))) ⟨m, fun _ => 0, g⟩ (fun r => (∀ c : Dev Cert.PleFRefIdeal.nD,
      r.2.mem ((c.tc : Thread Cert.PleFRefIdeal.nD Cert.PleFRefIdeal.τ).loc Cert.PleFRefIdeal.main_arg0) = m ((c.tc : Thread Cert.PleFRefIdeal.nD Cert.PleFRefIdeal.τ).loc Cert.PleFRefIdeal.main_arg0)
      ∧ r.2.mem ((c.tc : Thread Cert.PleFRefIdeal.nD Cert.PleFRefIdeal.τ).loc Cert.PleFRefIdeal.main_arg1) = m ((c.tc : Thread Cert.PleFRefIdeal.nD Cert.PleFRefIdeal.τ).loc Cert.PleFRefIdeal.main_arg1)
      ∧ r.2.mem ((c.tc : Thread Cert.PleFRefIdeal.nD Cert.PleFRefIdeal.τ).loc Cert.PleFRefIdeal.main_arg2) = m ((c.tc : Thread Cert.PleFRefIdeal.nD Cert.PleFRefIdeal.τ).loc Cert.PleFRefIdeal.main_arg2))
      ∧ r.2.sem = fun _ => 0)

def quiescent_RmsF [hRmsF : Cert.RmsF.Facts] : Prop :=
  ∀ (m : (ℓ : Loc Cert.RmsF.nD Cert.RmsF.τ Cert.RmsF.sig) → Buf (Elt Bits) ℓ) (g : Dev Cert.RmsF.nD → PrngReg), Pre_RmsF m →
    θ_run (Cert.RmsF.defs (F := Bits)) (onTc (τ := Cert.RmsF.τ) (Cert.RmsF.main (F := Bits))) ⟨m, fun _ => 0, g⟩ (fun r => (∀ c : Dev Cert.RmsF.nD,
      r.2.mem ((c.tc : Thread Cert.RmsF.nD Cert.RmsF.τ).loc Cert.RmsF.main_arg0) = m ((c.tc : Thread Cert.RmsF.nD Cert.RmsF.τ).loc Cert.RmsF.main_arg0)
      ∧ r.2.mem ((c.tc : Thread Cert.RmsF.nD Cert.RmsF.τ).loc Cert.RmsF.main_arg1) = m ((c.tc : Thread Cert.RmsF.nD Cert.RmsF.τ).loc Cert.RmsF.main_arg1))
      ∧ r.2.sem = fun _ => 0)

def quiescent_RmsFIdeal [hRmsFIdeal : Cert.RmsFIdeal.Facts] : Prop :=
  ∀ (m : (ℓ : Loc Cert.RmsFIdeal.nD Cert.RmsFIdeal.τ Cert.RmsFIdeal.sig) → Buf (Elt Ideal) ℓ) (g : Dev Cert.RmsFIdeal.nD → PrngReg), Pre_RmsFIdeal m →
    θ_run (Cert.RmsFIdeal.defs (F := Ideal)) (onTc (τ := Cert.RmsFIdeal.τ) (Cert.RmsFIdeal.main (F := Ideal))) ⟨m, fun _ => 0, g⟩ (fun r => (∀ c : Dev Cert.RmsFIdeal.nD,
      r.2.mem ((c.tc : Thread Cert.RmsFIdeal.nD Cert.RmsFIdeal.τ).loc Cert.RmsFIdeal.main_arg0) = m ((c.tc : Thread Cert.RmsFIdeal.nD Cert.RmsFIdeal.τ).loc Cert.RmsFIdeal.main_arg0)
      ∧ r.2.mem ((c.tc : Thread Cert.RmsFIdeal.nD Cert.RmsFIdeal.τ).loc Cert.RmsFIdeal.main_arg1) = m ((c.tc : Thread Cert.RmsFIdeal.nD Cert.RmsFIdeal.τ).loc Cert.RmsFIdeal.main_arg1))
      ∧ r.2.sem = fun _ => 0)

def quiescent_RmsFRefIdeal [hRmsFRefIdeal : Cert.RmsFRefIdeal.Facts] : Prop :=
  ∀ (m : (ℓ : Loc Cert.RmsFRefIdeal.nD Cert.RmsFRefIdeal.τ Cert.RmsFRefIdeal.sig) → Buf (Elt Ideal) ℓ) (g : Dev Cert.RmsFRefIdeal.nD → PrngReg), Pre_RmsFRefIdeal m →
    θ_run (Cert.RmsFRefIdeal.defs (F := Ideal)) (onTc (τ := Cert.RmsFRefIdeal.τ) (Cert.RmsFRefIdeal.main (F := Ideal))) ⟨m, fun _ => 0, g⟩ (fun r => (∀ c : Dev Cert.RmsFRefIdeal.nD,
      r.2.mem ((c.tc : Thread Cert.RmsFRefIdeal.nD Cert.RmsFRefIdeal.τ).loc Cert.RmsFRefIdeal.main_arg0) = m ((c.tc : Thread Cert.RmsFRefIdeal.nD Cert.RmsFRefIdeal.τ).loc Cert.RmsFRefIdeal.main_arg0)
      ∧ r.2.mem ((c.tc : Thread Cert.RmsFRefIdeal.nD Cert.RmsFRefIdeal.τ).loc Cert.RmsFRefIdeal.main_arg1) = m ((c.tc : Thread Cert.RmsFRefIdeal.nD Cert.RmsFRefIdeal.τ).loc Cert.RmsFRefIdeal.main_arg1))
      ∧ r.2.sem = fun _ => 0)

def quiescent_GnormF [hGnormF : Cert.GnormF.Facts] : Prop :=
  ∀ (m : (ℓ : Loc Cert.GnormF.nD Cert.GnormF.τ Cert.GnormF.sig) → Buf (Elt Bits) ℓ) (g : Dev Cert.GnormF.nD → PrngReg), Pre_GnormF m →
    θ_run (Cert.GnormF.defs (F := Bits)) (onTc (τ := Cert.GnormF.τ) (Cert.GnormF.main (F := Bits))) ⟨m, fun _ => 0, g⟩ (fun r => (∀ c : Dev Cert.GnormF.nD,
      r.2.mem ((c.tc : Thread Cert.GnormF.nD Cert.GnormF.τ).loc Cert.GnormF.main_arg0) = m ((c.tc : Thread Cert.GnormF.nD Cert.GnormF.τ).loc Cert.GnormF.main_arg0)
      ∧ r.2.mem ((c.tc : Thread Cert.GnormF.nD Cert.GnormF.τ).loc Cert.GnormF.main_arg1) = m ((c.tc : Thread Cert.GnormF.nD Cert.GnormF.τ).loc Cert.GnormF.main_arg1)
      ∧ r.2.mem ((c.tc : Thread Cert.GnormF.nD Cert.GnormF.τ).loc Cert.GnormF.main_arg2) = m ((c.tc : Thread Cert.GnormF.nD Cert.GnormF.τ).loc Cert.GnormF.main_arg2)
      ∧ r.2.mem ((c.tc : Thread Cert.GnormF.nD Cert.GnormF.τ).loc Cert.GnormF.main_arg3) = m ((c.tc : Thread Cert.GnormF.nD Cert.GnormF.τ).loc Cert.GnormF.main_arg3)
      ∧ r.2.mem ((c.tc : Thread Cert.GnormF.nD Cert.GnormF.τ).loc Cert.GnormF.main_arg4) = m ((c.tc : Thread Cert.GnormF.nD Cert.GnormF.τ).loc Cert.GnormF.main_arg4))
      ∧ r.2.sem = fun _ => 0)

def quiescent_GnormFIdeal [hGnormFIdeal : Cert.GnormFIdeal.Facts] : Prop :=
  ∀ (m : (ℓ : Loc Cert.GnormFIdeal.nD Cert.GnormFIdeal.τ Cert.GnormFIdeal.sig) → Buf (Elt Ideal) ℓ) (g : Dev Cert.GnormFIdeal.nD → PrngReg), Pre_GnormFIdeal m →
    θ_run (Cert.GnormFIdeal.defs (F := Ideal)) (onTc (τ := Cert.GnormFIdeal.τ) (Cert.GnormFIdeal.main (F := Ideal))) ⟨m, fun _ => 0, g⟩ (fun r => (∀ c : Dev Cert.GnormFIdeal.nD,
      r.2.mem ((c.tc : Thread Cert.GnormFIdeal.nD Cert.GnormFIdeal.τ).loc Cert.GnormFIdeal.main_arg0) = m ((c.tc : Thread Cert.GnormFIdeal.nD Cert.GnormFIdeal.τ).loc Cert.GnormFIdeal.main_arg0)
      ∧ r.2.mem ((c.tc : Thread Cert.GnormFIdeal.nD Cert.GnormFIdeal.τ).loc Cert.GnormFIdeal.main_arg1) = m ((c.tc : Thread Cert.GnormFIdeal.nD Cert.GnormFIdeal.τ).loc Cert.GnormFIdeal.main_arg1)
      ∧ r.2.mem ((c.tc : Thread Cert.GnormFIdeal.nD Cert.GnormFIdeal.τ).loc Cert.GnormFIdeal.main_arg2) = m ((c.tc : Thread Cert.GnormFIdeal.nD Cert.GnormFIdeal.τ).loc Cert.GnormFIdeal.main_arg2)
      ∧ r.2.mem ((c.tc : Thread Cert.GnormFIdeal.nD Cert.GnormFIdeal.τ).loc Cert.GnormFIdeal.main_arg3) = m ((c.tc : Thread Cert.GnormFIdeal.nD Cert.GnormFIdeal.τ).loc Cert.GnormFIdeal.main_arg3)
      ∧ r.2.mem ((c.tc : Thread Cert.GnormFIdeal.nD Cert.GnormFIdeal.τ).loc Cert.GnormFIdeal.main_arg4) = m ((c.tc : Thread Cert.GnormFIdeal.nD Cert.GnormFIdeal.τ).loc Cert.GnormFIdeal.main_arg4))
      ∧ r.2.sem = fun _ => 0)

def quiescent_GnormFRefIdeal [hGnormFRefIdeal : Cert.GnormFRefIdeal.Facts] : Prop :=
  ∀ (m : (ℓ : Loc Cert.GnormFRefIdeal.nD Cert.GnormFRefIdeal.τ Cert.GnormFRefIdeal.sig) → Buf (Elt Ideal) ℓ) (g : Dev Cert.GnormFRefIdeal.nD → PrngReg), Pre_GnormFRefIdeal m →
    θ_run (Cert.GnormFRefIdeal.defs (F := Ideal)) (onTc (τ := Cert.GnormFRefIdeal.τ) (Cert.GnormFRefIdeal.main (F := Ideal))) ⟨m, fun _ => 0, g⟩ (fun r => (∀ c : Dev Cert.GnormFRefIdeal.nD,
      r.2.mem ((c.tc : Thread Cert.GnormFRefIdeal.nD Cert.GnormFRefIdeal.τ).loc Cert.GnormFRefIdeal.main_arg0) = m ((c.tc : Thread Cert.GnormFRefIdeal.nD Cert.GnormFRefIdeal.τ).loc Cert.GnormFRefIdeal.main_arg0)
      ∧ r.2.mem ((c.tc : Thread Cert.GnormFRefIdeal.nD Cert.GnormFRefIdeal.τ).loc Cert.GnormFRefIdeal.main_arg1) = m ((c.tc : Thread Cert.GnormFRefIdeal.nD Cert.GnormFRefIdeal.τ).loc Cert.GnormFRefIdeal.main_arg1)
      ∧ r.2.mem ((c.tc : Thread Cert.GnormFRefIdeal.nD Cert.GnormFRefIdeal.τ).loc Cert.GnormFRefIdeal.main_arg2) = m ((c.tc : Thread Cert.GnormFRefIdeal.nD Cert.GnormFRefIdeal.τ).loc Cert.GnormFRefIdeal.main_arg2)
      ∧ r.2.mem ((c.tc : Thread Cert.GnormFRefIdeal.nD Cert.GnormFRefIdeal.τ).loc Cert.GnormFRefIdeal.main_arg3) = m ((c.tc : Thread Cert.GnormFRefIdeal.nD Cert.GnormFRefIdeal.τ).loc Cert.GnormFRefIdeal.main_arg3)
      ∧ r.2.mem ((c.tc : Thread Cert.GnormFRefIdeal.nD Cert.GnormFRefIdeal.τ).loc Cert.GnormFRefIdeal.main_arg4) = m ((c.tc : Thread Cert.GnormFRefIdeal.nD Cert.GnormFRefIdeal.τ).loc Cert.GnormFRefIdeal.main_arg4))
      ∧ r.2.sem = fun _ => 0)

def quiescent_MixF [hMixF : Cert.MixF.Facts] : Prop :=
  ∀ (m : (ℓ : Loc Cert.MixF.nD Cert.MixF.τ Cert.MixF.sig) → Buf (Elt Bits) ℓ) (g : Dev Cert.MixF.nD → PrngReg), Pre_MixF m →
    θ_run (Cert.MixF.defs (F := Bits)) (onTc (τ := Cert.MixF.τ) (Cert.MixF.main (F := Bits))) ⟨m, fun _ => 0, g⟩ (fun r => (∀ c : Dev Cert.MixF.nD,
      r.2.mem ((c.tc : Thread Cert.MixF.nD Cert.MixF.τ).loc Cert.MixF.main_arg0) = m ((c.tc : Thread Cert.MixF.nD Cert.MixF.τ).loc Cert.MixF.main_arg0)
      ∧ r.2.mem ((c.tc : Thread Cert.MixF.nD Cert.MixF.τ).loc Cert.MixF.main_arg1) = m ((c.tc : Thread Cert.MixF.nD Cert.MixF.τ).loc Cert.MixF.main_arg1)
      ∧ r.2.mem ((c.tc : Thread Cert.MixF.nD Cert.MixF.τ).loc Cert.MixF.main_arg2) = m ((c.tc : Thread Cert.MixF.nD Cert.MixF.τ).loc Cert.MixF.main_arg2)
      ∧ r.2.mem ((c.tc : Thread Cert.MixF.nD Cert.MixF.τ).loc Cert.MixF.main_arg3) = m ((c.tc : Thread Cert.MixF.nD Cert.MixF.τ).loc Cert.MixF.main_arg3)
      ∧ r.2.mem ((c.tc : Thread Cert.MixF.nD Cert.MixF.τ).loc Cert.MixF.main_arg4) = m ((c.tc : Thread Cert.MixF.nD Cert.MixF.τ).loc Cert.MixF.main_arg4)
      ∧ r.2.mem ((c.tc : Thread Cert.MixF.nD Cert.MixF.τ).loc Cert.MixF.main_arg5) = m ((c.tc : Thread Cert.MixF.nD Cert.MixF.τ).loc Cert.MixF.main_arg5))
      ∧ r.2.sem = fun _ => 0)

def quiescent_MixFIdeal [hMixFIdeal : Cert.MixFIdeal.Facts] : Prop :=
  ∀ (m : (ℓ : Loc Cert.MixFIdeal.nD Cert.MixFIdeal.τ Cert.MixFIdeal.sig) → Buf (Elt Ideal) ℓ) (g : Dev Cert.MixFIdeal.nD → PrngReg), Pre_MixFIdeal m →
    θ_run (Cert.MixFIdeal.defs (F := Ideal)) (onTc (τ := Cert.MixFIdeal.τ) (Cert.MixFIdeal.main (F := Ideal))) ⟨m, fun _ => 0, g⟩ (fun r => (∀ c : Dev Cert.MixFIdeal.nD,
      r.2.mem ((c.tc : Thread Cert.MixFIdeal.nD Cert.MixFIdeal.τ).loc Cert.MixFIdeal.main_arg0) = m ((c.tc : Thread Cert.MixFIdeal.nD Cert.MixFIdeal.τ).loc Cert.MixFIdeal.main_arg0)
      ∧ r.2.mem ((c.tc : Thread Cert.MixFIdeal.nD Cert.MixFIdeal.τ).loc Cert.MixFIdeal.main_arg1) = m ((c.tc : Thread Cert.MixFIdeal.nD Cert.MixFIdeal.τ).loc Cert.MixFIdeal.main_arg1)
      ∧ r.2.mem ((c.tc : Thread Cert.MixFIdeal.nD Cert.MixFIdeal.τ).loc Cert.MixFIdeal.main_arg2) = m ((c.tc : Thread Cert.MixFIdeal.nD Cert.MixFIdeal.τ).loc Cert.MixFIdeal.main_arg2)
      ∧ r.2.mem ((c.tc : Thread Cert.MixFIdeal.nD Cert.MixFIdeal.τ).loc Cert.MixFIdeal.main_arg3) = m ((c.tc : Thread Cert.MixFIdeal.nD Cert.MixFIdeal.τ).loc Cert.MixFIdeal.main_arg3)
      ∧ r.2.mem ((c.tc : Thread Cert.MixFIdeal.nD Cert.MixFIdeal.τ).loc Cert.MixFIdeal.main_arg4) = m ((c.tc : Thread Cert.MixFIdeal.nD Cert.MixFIdeal.τ).loc Cert.MixFIdeal.main_arg4)
      ∧ r.2.mem ((c.tc : Thread Cert.MixFIdeal.nD Cert.MixFIdeal.τ).loc Cert.MixFIdeal.main_arg5) = m ((c.tc : Thread Cert.MixFIdeal.nD Cert.MixFIdeal.τ).loc Cert.MixFIdeal.main_arg5))
      ∧ r.2.sem = fun _ => 0)

def quiescent_MixFIdeal_pre_finite_logs [hMixFIdeal : Cert.MixFIdeal.Facts] [hPre_finite_logs : Cert.Pre_finite_logs.Facts] : Prop :=
  ∀ (m : (ℓ : Loc Cert.MixFIdeal.nD Cert.MixFIdeal.τ Cert.MixFIdeal.sig) → Buf (Elt Ideal) ℓ) (g : Dev Cert.MixFIdeal.nD → PrngReg), Pre_MixFIdeal_finite_logs m →
    θ_run (Cert.MixFIdeal.defs (F := Ideal)) (onTc (τ := Cert.MixFIdeal.τ) (Cert.MixFIdeal.main (F := Ideal))) ⟨m, fun _ => 0, g⟩ (fun r => (∀ c : Dev Cert.MixFIdeal.nD,
      r.2.mem ((c.tc : Thread Cert.MixFIdeal.nD Cert.MixFIdeal.τ).loc Cert.MixFIdeal.main_arg0) = m ((c.tc : Thread Cert.MixFIdeal.nD Cert.MixFIdeal.τ).loc Cert.MixFIdeal.main_arg0)
      ∧ r.2.mem ((c.tc : Thread Cert.MixFIdeal.nD Cert.MixFIdeal.τ).loc Cert.MixFIdeal.main_arg1) = m ((c.tc : Thread Cert.MixFIdeal.nD Cert.MixFIdeal.τ).loc Cert.MixFIdeal.main_arg1)
      ∧ r.2.mem ((c.tc : Thread Cert.MixFIdeal.nD Cert.MixFIdeal.τ).loc Cert.MixFIdeal.main_arg2) = m ((c.tc : Thread Cert.MixFIdeal.nD Cert.MixFIdeal.τ).loc Cert.MixFIdeal.main_arg2)
      ∧ r.2.mem ((c.tc : Thread Cert.MixFIdeal.nD Cert.MixFIdeal.τ).loc Cert.MixFIdeal.main_arg3) = m ((c.tc : Thread Cert.MixFIdeal.nD Cert.MixFIdeal.τ).loc Cert.MixFIdeal.main_arg3)
      ∧ r.2.mem ((c.tc : Thread Cert.MixFIdeal.nD Cert.MixFIdeal.τ).loc Cert.MixFIdeal.main_arg4) = m ((c.tc : Thread Cert.MixFIdeal.nD Cert.MixFIdeal.τ).loc Cert.MixFIdeal.main_arg4)
      ∧ r.2.mem ((c.tc : Thread Cert.MixFIdeal.nD Cert.MixFIdeal.τ).loc Cert.MixFIdeal.main_arg5) = m ((c.tc : Thread Cert.MixFIdeal.nD Cert.MixFIdeal.τ).loc Cert.MixFIdeal.main_arg5))
      ∧ r.2.sem = fun _ => 0)

def quiescent_MixFRefIdeal [hMixFRefIdeal : Cert.MixFRefIdeal.Facts] : Prop :=
  ∀ (m : (ℓ : Loc Cert.MixFRefIdeal.nD Cert.MixFRefIdeal.τ Cert.MixFRefIdeal.sig) → Buf (Elt Ideal) ℓ) (g : Dev Cert.MixFRefIdeal.nD → PrngReg), Pre_MixFRefIdeal m →
    θ_run (Cert.MixFRefIdeal.defs (F := Ideal)) (onTc (τ := Cert.MixFRefIdeal.τ) (Cert.MixFRefIdeal.main (F := Ideal))) ⟨m, fun _ => 0, g⟩ (fun r => (∀ c : Dev Cert.MixFRefIdeal.nD,
      r.2.mem ((c.tc : Thread Cert.MixFRefIdeal.nD Cert.MixFRefIdeal.τ).loc Cert.MixFRefIdeal.main_arg0) = m ((c.tc : Thread Cert.MixFRefIdeal.nD Cert.MixFRefIdeal.τ).loc Cert.MixFRefIdeal.main_arg0)
      ∧ r.2.mem ((c.tc : Thread Cert.MixFRefIdeal.nD Cert.MixFRefIdeal.τ).loc Cert.MixFRefIdeal.main_arg1) = m ((c.tc : Thread Cert.MixFRefIdeal.nD Cert.MixFRefIdeal.τ).loc Cert.MixFRefIdeal.main_arg1)
      ∧ r.2.mem ((c.tc : Thread Cert.MixFRefIdeal.nD Cert.MixFRefIdeal.τ).loc Cert.MixFRefIdeal.main_arg2) = m ((c.tc : Thread Cert.MixFRefIdeal.nD Cert.MixFRefIdeal.τ).loc Cert.MixFRefIdeal.main_arg2)
      ∧ r.2.mem ((c.tc : Thread Cert.MixFRefIdeal.nD Cert.MixFRefIdeal.τ).loc Cert.MixFRefIdeal.main_arg3) = m ((c.tc : Thread Cert.MixFRefIdeal.nD Cert.MixFRefIdeal.τ).loc Cert.MixFRefIdeal.main_arg3)
      ∧ r.2.mem ((c.tc : Thread Cert.MixFRefIdeal.nD Cert.MixFRefIdeal.τ).loc Cert.MixFRefIdeal.main_arg4) = m ((c.tc : Thread Cert.MixFRefIdeal.nD Cert.MixFRefIdeal.τ).loc Cert.MixFRefIdeal.main_arg4)
      ∧ r.2.mem ((c.tc : Thread Cert.MixFRefIdeal.nD Cert.MixFRefIdeal.τ).loc Cert.MixFRefIdeal.main_arg5) = m ((c.tc : Thread Cert.MixFRefIdeal.nD Cert.MixFRefIdeal.τ).loc Cert.MixFRefIdeal.main_arg5))
      ∧ r.2.sem = fun _ => 0)

def quiescent_MixFRefIdeal_pre_finite_logs [hMixFRefIdeal : Cert.MixFRefIdeal.Facts] [hPre_finite_logs : Cert.Pre_finite_logs.Facts] : Prop :=
  ∀ (m : (ℓ : Loc Cert.MixFRefIdeal.nD Cert.MixFRefIdeal.τ Cert.MixFRefIdeal.sig) → Buf (Elt Ideal) ℓ) (g : Dev Cert.MixFRefIdeal.nD → PrngReg), Pre_MixFRefIdeal_finite_logs m →
    θ_run (Cert.MixFRefIdeal.defs (F := Ideal)) (onTc (τ := Cert.MixFRefIdeal.τ) (Cert.MixFRefIdeal.main (F := Ideal))) ⟨m, fun _ => 0, g⟩ (fun r => (∀ c : Dev Cert.MixFRefIdeal.nD,
      r.2.mem ((c.tc : Thread Cert.MixFRefIdeal.nD Cert.MixFRefIdeal.τ).loc Cert.MixFRefIdeal.main_arg0) = m ((c.tc : Thread Cert.MixFRefIdeal.nD Cert.MixFRefIdeal.τ).loc Cert.MixFRefIdeal.main_arg0)
      ∧ r.2.mem ((c.tc : Thread Cert.MixFRefIdeal.nD Cert.MixFRefIdeal.τ).loc Cert.MixFRefIdeal.main_arg1) = m ((c.tc : Thread Cert.MixFRefIdeal.nD Cert.MixFRefIdeal.τ).loc Cert.MixFRefIdeal.main_arg1)
      ∧ r.2.mem ((c.tc : Thread Cert.MixFRefIdeal.nD Cert.MixFRefIdeal.τ).loc Cert.MixFRefIdeal.main_arg2) = m ((c.tc : Thread Cert.MixFRefIdeal.nD Cert.MixFRefIdeal.τ).loc Cert.MixFRefIdeal.main_arg2)
      ∧ r.2.mem ((c.tc : Thread Cert.MixFRefIdeal.nD Cert.MixFRefIdeal.τ).loc Cert.MixFRefIdeal.main_arg3) = m ((c.tc : Thread Cert.MixFRefIdeal.nD Cert.MixFRefIdeal.τ).loc Cert.MixFRefIdeal.main_arg3)
      ∧ r.2.mem ((c.tc : Thread Cert.MixFRefIdeal.nD Cert.MixFRefIdeal.τ).loc Cert.MixFRefIdeal.main_arg4) = m ((c.tc : Thread Cert.MixFRefIdeal.nD Cert.MixFRefIdeal.τ).loc Cert.MixFRefIdeal.main_arg4)
      ∧ r.2.mem ((c.tc : Thread Cert.MixFRefIdeal.nD Cert.MixFRefIdeal.τ).loc Cert.MixFRefIdeal.main_arg5) = m ((c.tc : Thread Cert.MixFRefIdeal.nD Cert.MixFRefIdeal.τ).loc Cert.MixFRefIdeal.main_arg5))
      ∧ r.2.sem = fun _ => 0)

def quiescent_GateF [hGateF : Cert.GateF.Facts] : Prop :=
  ∀ (m : (ℓ : Loc Cert.GateF.nD Cert.GateF.τ Cert.GateF.sig) → Buf (Elt Bits) ℓ) (g : Dev Cert.GateF.nD → PrngReg), Pre_GateF m →
    θ_run (Cert.GateF.defs (F := Bits)) (onTc (τ := Cert.GateF.τ) (Cert.GateF.main (F := Bits))) ⟨m, fun _ => 0, g⟩ (fun r => (∀ c : Dev Cert.GateF.nD,
      r.2.mem ((c.tc : Thread Cert.GateF.nD Cert.GateF.τ).loc Cert.GateF.main_arg0) = m ((c.tc : Thread Cert.GateF.nD Cert.GateF.τ).loc Cert.GateF.main_arg0)
      ∧ r.2.mem ((c.tc : Thread Cert.GateF.nD Cert.GateF.τ).loc Cert.GateF.main_arg1) = m ((c.tc : Thread Cert.GateF.nD Cert.GateF.τ).loc Cert.GateF.main_arg1)
      ∧ r.2.mem ((c.tc : Thread Cert.GateF.nD Cert.GateF.τ).loc Cert.GateF.main_arg2) = m ((c.tc : Thread Cert.GateF.nD Cert.GateF.τ).loc Cert.GateF.main_arg2)
      ∧ r.2.mem ((c.tc : Thread Cert.GateF.nD Cert.GateF.τ).loc Cert.GateF.main_arg3) = m ((c.tc : Thread Cert.GateF.nD Cert.GateF.τ).loc Cert.GateF.main_arg3)
      ∧ r.2.mem ((c.tc : Thread Cert.GateF.nD Cert.GateF.τ).loc Cert.GateF.main_arg4) = m ((c.tc : Thread Cert.GateF.nD Cert.GateF.τ).loc Cert.GateF.main_arg4))
      ∧ r.2.sem = fun _ => 0)

def quiescent_GateFIdeal [hGateFIdeal : Cert.GateFIdeal.Facts] : Prop :=
  ∀ (m : (ℓ : Loc Cert.GateFIdeal.nD Cert.GateFIdeal.τ Cert.GateFIdeal.sig) → Buf (Elt Ideal) ℓ) (g : Dev Cert.GateFIdeal.nD → PrngReg), Pre_GateFIdeal m →
    θ_run (Cert.GateFIdeal.defs (F := Ideal)) (onTc (τ := Cert.GateFIdeal.τ) (Cert.GateFIdeal.main (F := Ideal))) ⟨m, fun _ => 0, g⟩ (fun r => (∀ c : Dev Cert.GateFIdeal.nD,
      r.2.mem ((c.tc : Thread Cert.GateFIdeal.nD Cert.GateFIdeal.τ).loc Cert.GateFIdeal.main_arg0) = m ((c.tc : Thread Cert.GateFIdeal.nD Cert.GateFIdeal.τ).loc Cert.GateFIdeal.main_arg0)
      ∧ r.2.mem ((c.tc : Thread Cert.GateFIdeal.nD Cert.GateFIdeal.τ).loc Cert.GateFIdeal.main_arg1) = m ((c.tc : Thread Cert.GateFIdeal.nD Cert.GateFIdeal.τ).loc Cert.GateFIdeal.main_arg1)
      ∧ r.2.mem ((c.tc : Thread Cert.GateFIdeal.nD Cert.GateFIdeal.τ).loc Cert.GateFIdeal.main_arg2) = m ((c.tc : Thread Cert.GateFIdeal.nD Cert.GateFIdeal.τ).loc Cert.GateFIdeal.main_arg2)
      ∧ r.2.mem ((c.tc : Thread Cert.GateFIdeal.nD Cert.GateFIdeal.τ).loc Cert.GateFIdeal.main_arg3) = m ((c.tc : Thread Cert.GateFIdeal.nD Cert.GateFIdeal.τ).loc Cert.GateFIdeal.main_arg3)
      ∧ r.2.mem ((c.tc : Thread Cert.GateFIdeal.nD Cert.GateFIdeal.τ).loc Cert.GateFIdeal.main_arg4) = m ((c.tc : Thread Cert.GateFIdeal.nD Cert.GateFIdeal.τ).loc Cert.GateFIdeal.main_arg4))
      ∧ r.2.sem = fun _ => 0)

def quiescent_GateFRefIdeal [hGateFRefIdeal : Cert.GateFRefIdeal.Facts] : Prop :=
  ∀ (m : (ℓ : Loc Cert.GateFRefIdeal.nD Cert.GateFRefIdeal.τ Cert.GateFRefIdeal.sig) → Buf (Elt Ideal) ℓ) (g : Dev Cert.GateFRefIdeal.nD → PrngReg), Pre_GateFRefIdeal m →
    θ_run (Cert.GateFRefIdeal.defs (F := Ideal)) (onTc (τ := Cert.GateFRefIdeal.τ) (Cert.GateFRefIdeal.main (F := Ideal))) ⟨m, fun _ => 0, g⟩ (fun r => (∀ c : Dev Cert.GateFRefIdeal.nD,
      r.2.mem ((c.tc : Thread Cert.GateFRefIdeal.nD Cert.GateFRefIdeal.τ).loc Cert.GateFRefIdeal.main_arg0) = m ((c.tc : Thread Cert.GateFRefIdeal.nD Cert.GateFRefIdeal.τ).loc Cert.GateFRefIdeal.main_arg0)
      ∧ r.2.mem ((c.tc : Thread Cert.GateFRefIdeal.nD Cert.GateFRefIdeal.τ).loc Cert.GateFRefIdeal.main_arg1) = m ((c.tc : Thread Cert.GateFRefIdeal.nD Cert.GateFRefIdeal.τ).loc Cert.GateFRefIdeal.main_arg1)
      ∧ r.2.mem ((c.tc : Thread Cert.GateFRefIdeal.nD Cert.GateFRefIdeal.τ).loc Cert.GateFRefIdeal.main_arg2) = m ((c.tc : Thread Cert.GateFRefIdeal.nD Cert.GateFRefIdeal.τ).loc Cert.GateFRefIdeal.main_arg2)
      ∧ r.2.mem ((c.tc : Thread Cert.GateFRefIdeal.nD Cert.GateFRefIdeal.τ).loc Cert.GateFRefIdeal.main_arg3) = m ((c.tc : Thread Cert.GateFRefIdeal.nD Cert.GateFRefIdeal.τ).loc Cert.GateFRefIdeal.main_arg3)
      ∧ r.2.mem ((c.tc : Thread Cert.GateFRefIdeal.nD Cert.GateFRefIdeal.τ).loc Cert.GateFRefIdeal.main_arg4) = m ((c.tc : Thread Cert.GateFRefIdeal.nD Cert.GateFRefIdeal.τ).loc Cert.GateFRefIdeal.main_arg4))
      ∧ r.2.sem = fun _ => 0)

def quiescent_ConvF [hConvF : Cert.ConvF.Facts] : Prop :=
  ∀ (m : (ℓ : Loc Cert.ConvF.nD Cert.ConvF.τ Cert.ConvF.sig) → Buf (Elt Bits) ℓ) (g : Dev Cert.ConvF.nD → PrngReg), Pre_ConvF m →
    θ_run (Cert.ConvF.defs (F := Bits)) (onTc (τ := Cert.ConvF.τ) (Cert.ConvF.main (F := Bits))) ⟨m, fun _ => 0, g⟩ (fun r => (∀ c : Dev Cert.ConvF.nD,
      r.2.mem ((c.tc : Thread Cert.ConvF.nD Cert.ConvF.τ).loc Cert.ConvF.main_arg0) = m ((c.tc : Thread Cert.ConvF.nD Cert.ConvF.τ).loc Cert.ConvF.main_arg0)
      ∧ r.2.mem ((c.tc : Thread Cert.ConvF.nD Cert.ConvF.τ).loc Cert.ConvF.main_arg1) = m ((c.tc : Thread Cert.ConvF.nD Cert.ConvF.τ).loc Cert.ConvF.main_arg1)
      ∧ r.2.mem ((c.tc : Thread Cert.ConvF.nD Cert.ConvF.τ).loc Cert.ConvF.main_arg2) = m ((c.tc : Thread Cert.ConvF.nD Cert.ConvF.τ).loc Cert.ConvF.main_arg2))
      ∧ r.2.sem = fun _ => 0)

def quiescent_ConvFIdeal [hConvFIdeal : Cert.ConvFIdeal.Facts] : Prop :=
  ∀ (m : (ℓ : Loc Cert.ConvFIdeal.nD Cert.ConvFIdeal.τ Cert.ConvFIdeal.sig) → Buf (Elt Ideal) ℓ) (g : Dev Cert.ConvFIdeal.nD → PrngReg), Pre_ConvFIdeal m →
    θ_run (Cert.ConvFIdeal.defs (F := Ideal)) (onTc (τ := Cert.ConvFIdeal.τ) (Cert.ConvFIdeal.main (F := Ideal))) ⟨m, fun _ => 0, g⟩ (fun r => (∀ c : Dev Cert.ConvFIdeal.nD,
      r.2.mem ((c.tc : Thread Cert.ConvFIdeal.nD Cert.ConvFIdeal.τ).loc Cert.ConvFIdeal.main_arg0) = m ((c.tc : Thread Cert.ConvFIdeal.nD Cert.ConvFIdeal.τ).loc Cert.ConvFIdeal.main_arg0)
      ∧ r.2.mem ((c.tc : Thread Cert.ConvFIdeal.nD Cert.ConvFIdeal.τ).loc Cert.ConvFIdeal.main_arg1) = m ((c.tc : Thread Cert.ConvFIdeal.nD Cert.ConvFIdeal.τ).loc Cert.ConvFIdeal.main_arg1)
      ∧ r.2.mem ((c.tc : Thread Cert.ConvFIdeal.nD Cert.ConvFIdeal.τ).loc Cert.ConvFIdeal.main_arg2) = m ((c.tc : Thread Cert.ConvFIdeal.nD Cert.ConvFIdeal.τ).loc Cert.ConvFIdeal.main_arg2))
      ∧ r.2.sem = fun _ => 0)

def quiescent_ConvFRefIdeal [hConvFRefIdeal : Cert.ConvFRefIdeal.Facts] : Prop :=
  ∀ (m : (ℓ : Loc Cert.ConvFRefIdeal.nD Cert.ConvFRefIdeal.τ Cert.ConvFRefIdeal.sig) → Buf (Elt Ideal) ℓ) (g : Dev Cert.ConvFRefIdeal.nD → PrngReg), Pre_ConvFRefIdeal m →
    θ_run (Cert.ConvFRefIdeal.defs (F := Ideal)) (onTc (τ := Cert.ConvFRefIdeal.τ) (Cert.ConvFRefIdeal.main (F := Ideal))) ⟨m, fun _ => 0, g⟩ (fun r => (∀ c : Dev Cert.ConvFRefIdeal.nD,
      r.2.mem ((c.tc : Thread Cert.ConvFRefIdeal.nD Cert.ConvFRefIdeal.τ).loc Cert.ConvFRefIdeal.main_arg0) = m ((c.tc : Thread Cert.ConvFRefIdeal.nD Cert.ConvFRefIdeal.τ).loc Cert.ConvFRefIdeal.main_arg0)
      ∧ r.2.mem ((c.tc : Thread Cert.ConvFRefIdeal.nD Cert.ConvFRefIdeal.τ).loc Cert.ConvFRefIdeal.main_arg1) = m ((c.tc : Thread Cert.ConvFRefIdeal.nD Cert.ConvFRefIdeal.τ).loc Cert.ConvFRefIdeal.main_arg1)
      ∧ r.2.mem ((c.tc : Thread Cert.ConvFRefIdeal.nD Cert.ConvFRefIdeal.τ).loc Cert.ConvFRefIdeal.main_arg2) = m ((c.tc : Thread Cert.ConvFRefIdeal.nD Cert.ConvFRefIdeal.τ).loc Cert.ConvFRefIdeal.main_arg2))
      ∧ r.2.sem = fun _ => 0)

def quiescent_AdWs [hAdWs : Cert.AdWs.Facts] : Prop :=
  ∀ (m : (ℓ : Loc Cert.AdWs.nD Cert.AdWs.τ Cert.AdWs.sig) → Buf (Elt Bits) ℓ) (g : Dev Cert.AdWs.nD → PrngReg), Pre_AdWs m →
    θ_run (Cert.AdWs.defs (F := Bits)) (onTc (τ := Cert.AdWs.τ) (Cert.AdWs.main (F := Bits))) ⟨m, fun _ => 0, g⟩ (fun r => (∀ c : Dev Cert.AdWs.nD,
      r.2.mem ((c.tc : Thread Cert.AdWs.nD Cert.AdWs.τ).loc Cert.AdWs.main_arg0) = m ((c.tc : Thread Cert.AdWs.nD Cert.AdWs.τ).loc Cert.AdWs.main_arg0)
      ∧ r.2.mem ((c.tc : Thread Cert.AdWs.nD Cert.AdWs.τ).loc Cert.AdWs.main_arg1) = m ((c.tc : Thread Cert.AdWs.nD Cert.AdWs.τ).loc Cert.AdWs.main_arg1)
      ∧ r.2.mem ((c.tc : Thread Cert.AdWs.nD Cert.AdWs.τ).loc Cert.AdWs.main_arg2) = m ((c.tc : Thread Cert.AdWs.nD Cert.AdWs.τ).loc Cert.AdWs.main_arg2)
      ∧ r.2.mem ((c.tc : Thread Cert.AdWs.nD Cert.AdWs.τ).loc Cert.AdWs.main_arg3) = m ((c.tc : Thread Cert.AdWs.nD Cert.AdWs.τ).loc Cert.AdWs.main_arg3))
      ∧ r.2.sem = fun _ => 0)

def quiescent_AdWsIdeal [hAdWsIdeal : Cert.AdWsIdeal.Facts] : Prop :=
  ∀ (m : (ℓ : Loc Cert.AdWsIdeal.nD Cert.AdWsIdeal.τ Cert.AdWsIdeal.sig) → Buf (Elt Ideal) ℓ) (g : Dev Cert.AdWsIdeal.nD → PrngReg), Pre_AdWsIdeal m →
    θ_run (Cert.AdWsIdeal.defs (F := Ideal)) (onTc (τ := Cert.AdWsIdeal.τ) (Cert.AdWsIdeal.main (F := Ideal))) ⟨m, fun _ => 0, g⟩ (fun r => (∀ c : Dev Cert.AdWsIdeal.nD,
      r.2.mem ((c.tc : Thread Cert.AdWsIdeal.nD Cert.AdWsIdeal.τ).loc Cert.AdWsIdeal.main_arg0) = m ((c.tc : Thread Cert.AdWsIdeal.nD Cert.AdWsIdeal.τ).loc Cert.AdWsIdeal.main_arg0)
      ∧ r.2.mem ((c.tc : Thread Cert.AdWsIdeal.nD Cert.AdWsIdeal.τ).loc Cert.AdWsIdeal.main_arg1) = m ((c.tc : Thread Cert.AdWsIdeal.nD Cert.AdWsIdeal.τ).loc Cert.AdWsIdeal.main_arg1)
      ∧ r.2.mem ((c.tc : Thread Cert.AdWsIdeal.nD Cert.AdWsIdeal.τ).loc Cert.AdWsIdeal.main_arg2) = m ((c.tc : Thread Cert.AdWsIdeal.nD Cert.AdWsIdeal.τ).loc Cert.AdWsIdeal.main_arg2)
      ∧ r.2.mem ((c.tc : Thread Cert.AdWsIdeal.nD Cert.AdWsIdeal.τ).loc Cert.AdWsIdeal.main_arg3) = m ((c.tc : Thread Cert.AdWsIdeal.nD Cert.AdWsIdeal.τ).loc Cert.AdWsIdeal.main_arg3))
      ∧ r.2.sem = fun _ => 0)

def quiescent_AdWsRefIdeal [hAdWsRefIdeal : Cert.AdWsRefIdeal.Facts] : Prop :=
  ∀ (m : (ℓ : Loc Cert.AdWsRefIdeal.nD Cert.AdWsRefIdeal.τ Cert.AdWsRefIdeal.sig) → Buf (Elt Ideal) ℓ) (g : Dev Cert.AdWsRefIdeal.nD → PrngReg), Pre_AdWsRefIdeal m →
    θ_run (Cert.AdWsRefIdeal.defs (F := Ideal)) (onTc (τ := Cert.AdWsRefIdeal.τ) (Cert.AdWsRefIdeal.main (F := Ideal))) ⟨m, fun _ => 0, g⟩ (fun r => (∀ c : Dev Cert.AdWsRefIdeal.nD,
      r.2.mem ((c.tc : Thread Cert.AdWsRefIdeal.nD Cert.AdWsRefIdeal.τ).loc Cert.AdWsRefIdeal.main_arg0) = m ((c.tc : Thread Cert.AdWsRefIdeal.nD Cert.AdWsRefIdeal.τ).loc Cert.AdWsRefIdeal.main_arg0)
      ∧ r.2.mem ((c.tc : Thread Cert.AdWsRefIdeal.nD Cert.AdWsRefIdeal.τ).loc Cert.AdWsRefIdeal.main_arg1) = m ((c.tc : Thread Cert.AdWsRefIdeal.nD Cert.AdWsRefIdeal.τ).loc Cert.AdWsRefIdeal.main_arg1)
      ∧ r.2.mem ((c.tc : Thread Cert.AdWsRefIdeal.nD Cert.AdWsRefIdeal.τ).loc Cert.AdWsRefIdeal.main_arg2) = m ((c.tc : Thread Cert.AdWsRefIdeal.nD Cert.AdWsRefIdeal.τ).loc Cert.AdWsRefIdeal.main_arg2)
      ∧ r.2.mem ((c.tc : Thread Cert.AdWsRefIdeal.nD Cert.AdWsRefIdeal.τ).loc Cert.AdWsRefIdeal.main_arg3) = m ((c.tc : Thread Cert.AdWsRefIdeal.nD Cert.AdWsRefIdeal.τ).loc Cert.AdWsRefIdeal.main_arg3))
      ∧ r.2.sem = fun _ => 0)

def quiescent_PrepF [hPrepF : Cert.PrepF.Facts] : Prop :=
  ∀ (m : (ℓ : Loc Cert.PrepF.nD Cert.PrepF.τ Cert.PrepF.sig) → Buf (Elt Bits) ℓ) (g : Dev Cert.PrepF.nD → PrngReg), Pre_PrepF m →
    θ_run (Cert.PrepF.defs (F := Bits)) (onTc (τ := Cert.PrepF.τ) (Cert.PrepF.main (F := Bits))) ⟨m, fun _ => 0, g⟩ (fun r => (∀ c : Dev Cert.PrepF.nD,
      r.2.mem ((c.tc : Thread Cert.PrepF.nD Cert.PrepF.τ).loc Cert.PrepF.main_arg0) = m ((c.tc : Thread Cert.PrepF.nD Cert.PrepF.τ).loc Cert.PrepF.main_arg0)
      ∧ r.2.mem ((c.tc : Thread Cert.PrepF.nD Cert.PrepF.τ).loc Cert.PrepF.main_arg1) = m ((c.tc : Thread Cert.PrepF.nD Cert.PrepF.τ).loc Cert.PrepF.main_arg1)
      ∧ r.2.mem ((c.tc : Thread Cert.PrepF.nD Cert.PrepF.τ).loc Cert.PrepF.main_arg2) = m ((c.tc : Thread Cert.PrepF.nD Cert.PrepF.τ).loc Cert.PrepF.main_arg2)
      ∧ r.2.mem ((c.tc : Thread Cert.PrepF.nD Cert.PrepF.τ).loc Cert.PrepF.main_arg3) = m ((c.tc : Thread Cert.PrepF.nD Cert.PrepF.τ).loc Cert.PrepF.main_arg3)
      ∧ r.2.mem ((c.tc : Thread Cert.PrepF.nD Cert.PrepF.τ).loc Cert.PrepF.main_arg4) = m ((c.tc : Thread Cert.PrepF.nD Cert.PrepF.τ).loc Cert.PrepF.main_arg4)
      ∧ r.2.mem ((c.tc : Thread Cert.PrepF.nD Cert.PrepF.τ).loc Cert.PrepF.main_arg5) = m ((c.tc : Thread Cert.PrepF.nD Cert.PrepF.τ).loc Cert.PrepF.main_arg5))
      ∧ r.2.sem = fun _ => 0)

def quiescent_PrepFIdeal [hPrepFIdeal : Cert.PrepFIdeal.Facts] : Prop :=
  ∀ (m : (ℓ : Loc Cert.PrepFIdeal.nD Cert.PrepFIdeal.τ Cert.PrepFIdeal.sig) → Buf (Elt Ideal) ℓ) (g : Dev Cert.PrepFIdeal.nD → PrngReg), Pre_PrepFIdeal m →
    θ_run (Cert.PrepFIdeal.defs (F := Ideal)) (onTc (τ := Cert.PrepFIdeal.τ) (Cert.PrepFIdeal.main (F := Ideal))) ⟨m, fun _ => 0, g⟩ (fun r => (∀ c : Dev Cert.PrepFIdeal.nD,
      r.2.mem ((c.tc : Thread Cert.PrepFIdeal.nD Cert.PrepFIdeal.τ).loc Cert.PrepFIdeal.main_arg0) = m ((c.tc : Thread Cert.PrepFIdeal.nD Cert.PrepFIdeal.τ).loc Cert.PrepFIdeal.main_arg0)
      ∧ r.2.mem ((c.tc : Thread Cert.PrepFIdeal.nD Cert.PrepFIdeal.τ).loc Cert.PrepFIdeal.main_arg1) = m ((c.tc : Thread Cert.PrepFIdeal.nD Cert.PrepFIdeal.τ).loc Cert.PrepFIdeal.main_arg1)
      ∧ r.2.mem ((c.tc : Thread Cert.PrepFIdeal.nD Cert.PrepFIdeal.τ).loc Cert.PrepFIdeal.main_arg2) = m ((c.tc : Thread Cert.PrepFIdeal.nD Cert.PrepFIdeal.τ).loc Cert.PrepFIdeal.main_arg2)
      ∧ r.2.mem ((c.tc : Thread Cert.PrepFIdeal.nD Cert.PrepFIdeal.τ).loc Cert.PrepFIdeal.main_arg3) = m ((c.tc : Thread Cert.PrepFIdeal.nD Cert.PrepFIdeal.τ).loc Cert.PrepFIdeal.main_arg3)
      ∧ r.2.mem ((c.tc : Thread Cert.PrepFIdeal.nD Cert.PrepFIdeal.τ).loc Cert.PrepFIdeal.main_arg4) = m ((c.tc : Thread Cert.PrepFIdeal.nD Cert.PrepFIdeal.τ).loc Cert.PrepFIdeal.main_arg4)
      ∧ r.2.mem ((c.tc : Thread Cert.PrepFIdeal.nD Cert.PrepFIdeal.τ).loc Cert.PrepFIdeal.main_arg5) = m ((c.tc : Thread Cert.PrepFIdeal.nD Cert.PrepFIdeal.τ).loc Cert.PrepFIdeal.main_arg5))
      ∧ r.2.sem = fun _ => 0)

def quiescent_PrepFRefIdeal [hPrepFRefIdeal : Cert.PrepFRefIdeal.Facts] : Prop :=
  ∀ (m : (ℓ : Loc Cert.PrepFRefIdeal.nD Cert.PrepFRefIdeal.τ Cert.PrepFRefIdeal.sig) → Buf (Elt Ideal) ℓ) (g : Dev Cert.PrepFRefIdeal.nD → PrngReg), Pre_PrepFRefIdeal m →
    θ_run (Cert.PrepFRefIdeal.defs (F := Ideal)) (onTc (τ := Cert.PrepFRefIdeal.τ) (Cert.PrepFRefIdeal.main (F := Ideal))) ⟨m, fun _ => 0, g⟩ (fun r => (∀ c : Dev Cert.PrepFRefIdeal.nD,
      r.2.mem ((c.tc : Thread Cert.PrepFRefIdeal.nD Cert.PrepFRefIdeal.τ).loc Cert.PrepFRefIdeal.main_arg0) = m ((c.tc : Thread Cert.PrepFRefIdeal.nD Cert.PrepFRefIdeal.τ).loc Cert.PrepFRefIdeal.main_arg0)
      ∧ r.2.mem ((c.tc : Thread Cert.PrepFRefIdeal.nD Cert.PrepFRefIdeal.τ).loc Cert.PrepFRefIdeal.main_arg1) = m ((c.tc : Thread Cert.PrepFRefIdeal.nD Cert.PrepFRefIdeal.τ).loc Cert.PrepFRefIdeal.main_arg1)
      ∧ r.2.mem ((c.tc : Thread Cert.PrepFRefIdeal.nD Cert.PrepFRefIdeal.τ).loc Cert.PrepFRefIdeal.main_arg2) = m ((c.tc : Thread Cert.PrepFRefIdeal.nD Cert.PrepFRefIdeal.τ).loc Cert.PrepFRefIdeal.main_arg2)
      ∧ r.2.mem ((c.tc : Thread Cert.PrepFRefIdeal.nD Cert.PrepFRefIdeal.τ).loc Cert.PrepFRefIdeal.main_arg3) = m ((c.tc : Thread Cert.PrepFRefIdeal.nD Cert.PrepFRefIdeal.τ).loc Cert.PrepFRefIdeal.main_arg3)
      ∧ r.2.mem ((c.tc : Thread Cert.PrepFRefIdeal.nD Cert.PrepFRefIdeal.τ).loc Cert.PrepFRefIdeal.main_arg4) = m ((c.tc : Thread Cert.PrepFRefIdeal.nD Cert.PrepFRefIdeal.τ).loc Cert.PrepFRefIdeal.main_arg4)
      ∧ r.2.mem ((c.tc : Thread Cert.PrepFRefIdeal.nD Cert.PrepFRefIdeal.τ).loc Cert.PrepFRefIdeal.main_arg5) = m ((c.tc : Thread Cert.PrepFRefIdeal.nD Cert.PrepFRefIdeal.τ).loc Cert.PrepFRefIdeal.main_arg5))
      ∧ r.2.sem = fun _ => 0)

def preserves_Kernel_KernelIdeal : Prop :=
  IdealRules.named_const.Statement Cert.KernelIdeal.κ "never" .f32 0xFF61B1E6#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v49_0)) (v1 : (c : Dev Cert.KernelIdeal.nD) → Buf (Elt Ideal) ((c.tc : Thread Cert.KernelIdeal.nD Cert.KernelIdeal.τ).loc Cert.KernelIdeal.main_v49_1)) (v2 : (c : Dev Cert.KernelIdeal.nD) → Buf (Elt Ideal) ((c.tc : Thread Cert.KernelIdeal.nD Cert.KernelIdeal.τ).loc Cert.KernelIdeal.main_v49_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49_0) = v0 c
          ∧ r.2.mem ((c.tc : Thread Cert.KernelIdeal.nD Cert.KernelIdeal.τ).loc Cert.KernelIdeal.main_v49_1) = v1 c
          ∧ r.2.mem ((c.tc : Thread Cert.KernelIdeal.nD Cert.KernelIdeal.τ).loc Cert.KernelIdeal.main_v49_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_v62) = v1 c
          ∧ r.2.mem ((c.tc : Thread Cert.ReferenceIdeal.nD Cert.ReferenceIdeal.τ).loc Cert.ReferenceIdeal.main_v63) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_UpH_UpHIdeal : Prop :=
  True

def algebraic_UpHIdeal_UpHRefIdeal [hUpHIdeal : Cert.UpHIdeal.Facts] [hUpHRefIdeal : Cert.UpHRefIdeal.Facts] : Prop :=
  ∀ (m : (ℓ : Loc Cert.UpHIdeal.nD Cert.UpHIdeal.τ Cert.UpHIdeal.sig) → Buf (Elt Ideal) ℓ) (g : Dev Cert.UpHIdeal.nD → PrngReg)
    (m' : (ℓ : Loc Cert.UpHRefIdeal.nD Cert.UpHRefIdeal.τ Cert.UpHRefIdeal.sig) → Buf (Elt Ideal) ℓ) (g' : Dev Cert.UpHRefIdeal.nD → PrngReg), Pre_UpHIdeal m →
    (∀ c : Dev Cert.UpHIdeal.nD,
      m' ((c.tc : Thread Cert.UpHRefIdeal.nD Cert.UpHRefIdeal.τ).loc Cert.UpHRefIdeal.main_arg0) = m ((c.tc : Thread Cert.UpHIdeal.nD Cert.UpHIdeal.τ).loc Cert.UpHIdeal.main_arg0)
      ∧ m' ((c.tc : Thread Cert.UpHRefIdeal.nD Cert.UpHRefIdeal.τ).loc Cert.UpHRefIdeal.main_arg1) = m ((c.tc : Thread Cert.UpHIdeal.nD Cert.UpHIdeal.τ).loc Cert.UpHIdeal.main_arg1)) →
    ∃ (v0 : (c : Dev Cert.UpHIdeal.nD) → Buf (Elt Ideal) ((c.tc : Thread Cert.UpHIdeal.nD Cert.UpHIdeal.τ).loc Cert.UpHIdeal.main_v11)),
      θ_run (Cert.UpHIdeal.defs (F := Ideal)) (onTc (τ := Cert.UpHIdeal.τ) (Cert.UpHIdeal.main (F := Ideal))) ⟨m, fun _ => 0, g⟩ (fun r => ∀ c : Dev Cert.UpHIdeal.nD,
          r.2.mem ((c.tc : Thread Cert.UpHIdeal.nD Cert.UpHIdeal.τ).loc Cert.UpHIdeal.main_v11) = v0 c
          ∧ r.2.mem ((c.tc : Thread Cert.UpHIdeal.nD Cert.UpHIdeal.τ).loc Cert.UpHIdeal.main_arg0) = m ((c.tc : Thread Cert.UpHIdeal.nD Cert.UpHIdeal.τ).loc Cert.UpHIdeal.main_arg0)
          ∧ r.2.mem ((c.tc : Thread Cert.UpHIdeal.nD Cert.UpHIdeal.τ).loc Cert.UpHIdeal.main_arg1) = m ((c.tc : Thread Cert.UpHIdeal.nD Cert.UpHIdeal.τ).loc Cert.UpHIdeal.main_arg1))
      ∧ θ_run (Cert.UpHRefIdeal.defs (F := Ideal)) (onTc (τ := Cert.UpHRefIdeal.τ) (Cert.UpHRefIdeal.main (F := Ideal))) ⟨m', fun _ => 0, g'⟩ (fun r => ∀ c : Dev Cert.UpHRefIdeal.nD,
          r.2.mem ((c.tc : Thread Cert.UpHRefIdeal.nD Cert.UpHRefIdeal.τ).loc Cert.UpHRefIdeal.main_v3) = v0 c
          ∧ r.2.mem ((c.tc : Thread Cert.UpHRefIdeal.nD Cert.UpHRefIdeal.τ).loc Cert.UpHRefIdeal.main_arg0) = m' ((c.tc : Thread Cert.UpHRefIdeal.nD Cert.UpHRefIdeal.τ).loc Cert.UpHRefIdeal.main_arg0)
          ∧ r.2.mem ((c.tc : Thread Cert.UpHRefIdeal.nD Cert.UpHRefIdeal.τ).loc Cert.UpHRefIdeal.main_arg1) = m' ((c.tc : Thread Cert.UpHRefIdeal.nD Cert.UpHRefIdeal.τ).loc Cert.UpHRefIdeal.main_arg1))

def preserves_UpW_UpWIdeal : Prop :=
  True

def algebraic_UpWIdeal_UpWRefIdeal [hUpWIdeal : Cert.UpWIdeal.Facts] [hUpWRefIdeal : Cert.UpWRefIdeal.Facts] : Prop :=
  ∀ (m : (ℓ : Loc Cert.UpWIdeal.nD Cert.UpWIdeal.τ Cert.UpWIdeal.sig) → Buf (Elt Ideal) ℓ) (g : Dev Cert.UpWIdeal.nD → PrngReg)
    (m' : (ℓ : Loc Cert.UpWRefIdeal.nD Cert.UpWRefIdeal.τ Cert.UpWRefIdeal.sig) → Buf (Elt Ideal) ℓ) (g' : Dev Cert.UpWRefIdeal.nD → PrngReg), Pre_UpWIdeal m →
    (∀ c : Dev Cert.UpWIdeal.nD,
      m' ((c.tc : Thread Cert.UpWRefIdeal.nD Cert.UpWRefIdeal.τ).loc Cert.UpWRefIdeal.main_arg0) = m ((c.tc : Thread Cert.UpWIdeal.nD Cert.UpWIdeal.τ).loc Cert.UpWIdeal.main_arg0)
      ∧ m' ((c.tc : Thread Cert.UpWRefIdeal.nD Cert.UpWRefIdeal.τ).loc Cert.UpWRefIdeal.main_arg1) = m ((c.tc : Thread Cert.UpWIdeal.nD Cert.UpWIdeal.τ).loc Cert.UpWIdeal.main_arg1)
      ∧ m' ((c.tc : Thread Cert.UpWRefIdeal.nD Cert.UpWRefIdeal.τ).loc Cert.UpWRefIdeal.main_arg2) = m ((c.tc : Thread Cert.UpWIdeal.nD Cert.UpWIdeal.τ).loc Cert.UpWIdeal.main_arg2)) →
    ∃ (v0 : (c : Dev Cert.UpWIdeal.nD) → Buf (Elt Ideal) ((c.tc : Thread Cert.UpWIdeal.nD Cert.UpWIdeal.τ).loc Cert.UpWIdeal.main_v3)),
      θ_run (Cert.UpWIdeal.defs (F := Ideal)) (onTc (τ := Cert.UpWIdeal.τ) (Cert.UpWIdeal.main (F := Ideal))) ⟨m, fun _ => 0, g⟩ (fun r => ∀ c : Dev Cert.UpWIdeal.nD,
          r.2.mem ((c.tc : Thread Cert.UpWIdeal.nD Cert.UpWIdeal.τ).loc Cert.UpWIdeal.main_v3) = v0 c
          ∧ r.2.mem ((c.tc : Thread Cert.UpWIdeal.nD Cert.UpWIdeal.τ).loc Cert.UpWIdeal.main_arg0) = m ((c.tc : Thread Cert.UpWIdeal.nD Cert.UpWIdeal.τ).loc Cert.UpWIdeal.main_arg0)
          ∧ r.2.mem ((c.tc : Thread Cert.UpWIdeal.nD Cert.UpWIdeal.τ).loc Cert.UpWIdeal.main_arg1) = m ((c.tc : Thread Cert.UpWIdeal.nD Cert.UpWIdeal.τ).loc Cert.UpWIdeal.main_arg1)
          ∧ r.2.mem ((c.tc : Thread Cert.UpWIdeal.nD Cert.UpWIdeal.τ).loc Cert.UpWIdeal.main_arg2) = m ((c.tc : Thread Cert.UpWIdeal.nD Cert.UpWIdeal.τ).loc Cert.UpWIdeal.main_arg2))
      ∧ θ_run (Cert.UpWRefIdeal.defs (F := Ideal)) (onTc (τ := Cert.UpWRefIdeal.τ) (Cert.UpWRefIdeal.main (F := Ideal))) ⟨m', fun _ => 0, g'⟩ (fun r => ∀ c : Dev Cert.UpWRefIdeal.nD,
          r.2.mem ((c.tc : Thread Cert.UpWRefIdeal.nD Cert.UpWRefIdeal.τ).loc Cert.UpWRefIdeal.main_v14) = v0 c
          ∧ r.2.mem ((c.tc : Thread Cert.UpWRefIdeal.nD Cert.UpWRefIdeal.τ).loc Cert.UpWRefIdeal.main_arg0) = m' ((c.tc : Thread Cert.UpWRefIdeal.nD Cert.UpWRefIdeal.τ).loc Cert.UpWRefIdeal.main_arg0)
          ∧ r.2.mem ((c.tc : Thread Cert.UpWRefIdeal.nD Cert.UpWRefIdeal.τ).loc Cert.UpWRefIdeal.main_arg1) = m' ((c.tc : Thread Cert.UpWRefIdeal.nD Cert.UpWRefIdeal.τ).loc Cert.UpWRefIdeal.main_arg1)
          ∧ r.2.mem ((c.tc : Thread Cert.UpWRefIdeal.nD Cert.UpWRefIdeal.τ).loc Cert.UpWRefIdeal.main_arg2) = m' ((c.tc : Thread Cert.UpWRefIdeal.nD Cert.UpWRefIdeal.τ).loc Cert.UpWRefIdeal.main_arg2))

def preserves_UpWg_UpWgIdeal : Prop :=
  True

def algebraic_UpWgIdeal_UpWgRefIdeal [hUpWgIdeal : Cert.UpWgIdeal.Facts] [hUpWgRefIdeal : Cert.UpWgRefIdeal.Facts] : Prop :=
  ∀ (m : (ℓ : Loc Cert.UpWgIdeal.nD Cert.UpWgIdeal.τ Cert.UpWgIdeal.sig) → Buf (Elt Ideal) ℓ) (g : Dev Cert.UpWgIdeal.nD → PrngReg)
    (m' : (ℓ : Loc Cert.UpWgRefIdeal.nD Cert.UpWgRefIdeal.τ Cert.UpWgRefIdeal.sig) → Buf (Elt Ideal) ℓ) (g' : Dev Cert.UpWgRefIdeal.nD → PrngReg), Pre_UpWgIdeal m →
    (∀ c : Dev Cert.UpWgIdeal.nD,
      m' ((c.tc : Thread Cert.UpWgRefIdeal.nD Cert.UpWgRefIdeal.τ).loc Cert.UpWgRefIdeal.main_arg0) = m ((c.tc : Thread Cert.UpWgIdeal.nD Cert.UpWgIdeal.τ).loc Cert.UpWgIdeal.main_arg0)
      ∧ m' ((c.tc : Thread Cert.UpWgRefIdeal.nD Cert.UpWgRefIdeal.τ).loc Cert.UpWgRefIdeal.main_arg1) = m ((c.tc : Thread Cert.UpWgIdeal.nD Cert.UpWgIdeal.τ).loc Cert.UpWgIdeal.main_arg1)
      ∧ m' ((c.tc : Thread Cert.UpWgRefIdeal.nD Cert.UpWgRefIdeal.τ).loc Cert.UpWgRefIdeal.main_arg2) = m ((c.tc : Thread Cert.UpWgIdeal.nD Cert.UpWgIdeal.τ).loc Cert.UpWgIdeal.main_arg2)) →
    ∃ (v0 : (c : Dev Cert.UpWgIdeal.nD) → Buf (Elt Ideal) ((c.tc : Thread Cert.UpWgIdeal.nD Cert.UpWgIdeal.τ).loc Cert.UpWgIdeal.main_v3)),
      θ_run (Cert.UpWgIdeal.defs (F := Ideal)) (onTc (τ := Cert.UpWgIdeal.τ) (Cert.UpWgIdeal.main (F := Ideal))) ⟨m, fun _ => 0, g⟩ (fun r => ∀ c : Dev Cert.UpWgIdeal.nD,
          r.2.mem ((c.tc : Thread Cert.UpWgIdeal.nD Cert.UpWgIdeal.τ).loc Cert.UpWgIdeal.main_v3) = v0 c
          ∧ r.2.mem ((c.tc : Thread Cert.UpWgIdeal.nD Cert.UpWgIdeal.τ).loc Cert.UpWgIdeal.main_arg0) = m ((c.tc : Thread Cert.UpWgIdeal.nD Cert.UpWgIdeal.τ).loc Cert.UpWgIdeal.main_arg0)
          ∧ r.2.mem ((c.tc : Thread Cert.UpWgIdeal.nD Cert.UpWgIdeal.τ).loc Cert.UpWgIdeal.main_arg1) = m ((c.tc : Thread Cert.UpWgIdeal.nD Cert.UpWgIdeal.τ).loc Cert.UpWgIdeal.main_arg1)
          ∧ r.2.mem ((c.tc : Thread Cert.UpWgIdeal.nD Cert.UpWgIdeal.τ).loc Cert.UpWgIdeal.main_arg2) = m ((c.tc : Thread Cert.UpWgIdeal.nD Cert.UpWgIdeal.τ).loc Cert.UpWgIdeal.main_arg2))
      ∧ θ_run (Cert.UpWgRefIdeal.defs (F := Ideal)) (onTc (τ := Cert.UpWgRefIdeal.τ) (Cert.UpWgRefIdeal.main (F := Ideal))) ⟨m', fun _ => 0, g'⟩ (fun r => ∀ c : Dev Cert.UpWgRefIdeal.nD,
          r.2.mem ((c.tc : Thread Cert.UpWgRefIdeal.nD Cert.UpWgRefIdeal.τ).loc Cert.UpWgRefIdeal.main_v14) = v0 c
          ∧ r.2.mem ((c.tc : Thread Cert.UpWgRefIdeal.nD Cert.UpWgRefIdeal.τ).loc Cert.UpWgRefIdeal.main_arg0) = m' ((c.tc : Thread Cert.UpWgRefIdeal.nD Cert.UpWgRefIdeal.τ).loc Cert.UpWgRefIdeal.main_arg0)
          ∧ r.2.mem ((c.tc : Thread Cert.UpWgRefIdeal.nD Cert.UpWgRefIdeal.τ).loc Cert.UpWgRefIdeal.main_arg1) = m' ((c.tc : Thread Cert.UpWgRefIdeal.nD Cert.UpWgRefIdeal.τ).loc Cert.UpWgRefIdeal.main_arg1)
          ∧ r.2.mem ((c.tc : Thread Cert.UpWgRefIdeal.nD Cert.UpWgRefIdeal.τ).loc Cert.UpWgRefIdeal.main_arg2) = m' ((c.tc : Thread Cert.UpWgRefIdeal.nD Cert.UpWgRefIdeal.τ).loc Cert.UpWgRefIdeal.main_arg2))

def preserves_DownA_DownAIdeal : Prop :=
  True

def algebraic_DownAIdeal_DownARefIdeal [hDownAIdeal : Cert.DownAIdeal.Facts] [hDownARefIdeal : Cert.DownARefIdeal.Facts] : Prop :=
  ∀ (m : (ℓ : Loc Cert.DownAIdeal.nD Cert.DownAIdeal.τ Cert.DownAIdeal.sig) → Buf (Elt Ideal) ℓ) (g : Dev Cert.DownAIdeal.nD → PrngReg)
    (m' : (ℓ : Loc Cert.DownARefIdeal.nD Cert.DownARefIdeal.τ Cert.DownARefIdeal.sig) → Buf (Elt Ideal) ℓ) (g' : Dev Cert.DownARefIdeal.nD → PrngReg), Pre_DownAIdeal m →
    (∀ c : Dev Cert.DownAIdeal.nD,
      m' ((c.tc : Thread Cert.DownARefIdeal.nD Cert.DownARefIdeal.τ).loc Cert.DownARefIdeal.main_arg0) = m ((c.tc : Thread Cert.DownAIdeal.nD Cert.DownAIdeal.τ).loc Cert.DownAIdeal.main_arg0)
      ∧ m' ((c.tc : Thread Cert.DownARefIdeal.nD Cert.DownARefIdeal.τ).loc Cert.DownARefIdeal.main_arg1) = m ((c.tc : Thread Cert.DownAIdeal.nD Cert.DownAIdeal.τ).loc Cert.DownAIdeal.main_arg1)) →
    ∃ (v0 : (c : Dev Cert.DownAIdeal.nD) → Buf (Elt Ideal) ((c.tc : Thread Cert.DownAIdeal.nD Cert.DownAIdeal.τ).loc Cert.DownAIdeal.main_v2)),
      θ_run (Cert.DownAIdeal.defs (F := Ideal)) (onTc (τ := Cert.DownAIdeal.τ) (Cert.DownAIdeal.main (F := Ideal))) ⟨m, fun _ => 0, g⟩ (fun r => ∀ c : Dev Cert.DownAIdeal.nD,
          r.2.mem ((c.tc : Thread Cert.DownAIdeal.nD Cert.DownAIdeal.τ).loc Cert.DownAIdeal.main_v2) = v0 c
          ∧ r.2.mem ((c.tc : Thread Cert.DownAIdeal.nD Cert.DownAIdeal.τ).loc Cert.DownAIdeal.main_arg0) = m ((c.tc : Thread Cert.DownAIdeal.nD Cert.DownAIdeal.τ).loc Cert.DownAIdeal.main_arg0)
          ∧ r.2.mem ((c.tc : Thread Cert.DownAIdeal.nD Cert.DownAIdeal.τ).loc Cert.DownAIdeal.main_arg1) = m ((c.tc : Thread Cert.DownAIdeal.nD Cert.DownAIdeal.τ).loc Cert.DownAIdeal.main_arg1))
      ∧ θ_run (Cert.DownARefIdeal.defs (F := Ideal)) (onTc (τ := Cert.DownARefIdeal.τ) (Cert.DownARefIdeal.main (F := Ideal))) ⟨m', fun _ => 0, g'⟩ (fun r => ∀ c : Dev Cert.DownARefIdeal.nD,
          r.2.mem ((c.tc : Thread Cert.DownARefIdeal.nD Cert.DownARefIdeal.τ).loc Cert.DownARefIdeal.main_v2) = v0 c
          ∧ r.2.mem ((c.tc : Thread Cert.DownARefIdeal.nD Cert.DownARefIdeal.τ).loc Cert.DownARefIdeal.main_arg0) = m' ((c.tc : Thread Cert.DownARefIdeal.nD Cert.DownARefIdeal.τ).loc Cert.DownARefIdeal.main_arg0)
          ∧ r.2.mem ((c.tc : Thread Cert.DownARefIdeal.nD Cert.DownARefIdeal.τ).loc Cert.DownARefIdeal.main_arg1) = m' ((c.tc : Thread Cert.DownARefIdeal.nD Cert.DownARefIdeal.τ).loc Cert.DownARefIdeal.main_arg1))

def preserves_DownW_DownWIdeal : Prop :=
  True

def algebraic_DownWIdeal_DownWRefIdeal [hDownWIdeal : Cert.DownWIdeal.Facts] [hDownWRefIdeal : Cert.DownWRefIdeal.Facts] : Prop :=
  ∀ (m : (ℓ : Loc Cert.DownWIdeal.nD Cert.DownWIdeal.τ Cert.DownWIdeal.sig) → Buf (Elt Ideal) ℓ) (g : Dev Cert.DownWIdeal.nD → PrngReg)
    (m' : (ℓ : Loc Cert.DownWRefIdeal.nD Cert.DownWRefIdeal.τ Cert.DownWRefIdeal.sig) → Buf (Elt Ideal) ℓ) (g' : Dev Cert.DownWRefIdeal.nD → PrngReg), Pre_DownWIdeal m →
    (∀ c : Dev Cert.DownWIdeal.nD,
      m' ((c.tc : Thread Cert.DownWRefIdeal.nD Cert.DownWRefIdeal.τ).loc Cert.DownWRefIdeal.main_arg0) = m ((c.tc : Thread Cert.DownWIdeal.nD Cert.DownWIdeal.τ).loc Cert.DownWIdeal.main_arg0)
      ∧ m' ((c.tc : Thread Cert.DownWRefIdeal.nD Cert.DownWRefIdeal.τ).loc Cert.DownWRefIdeal.main_arg1) = m ((c.tc : Thread Cert.DownWIdeal.nD Cert.DownWIdeal.τ).loc Cert.DownWIdeal.main_arg1)) →
    ∃ (v0 : (c : Dev Cert.DownWIdeal.nD) → Buf (Elt Ideal) ((c.tc : Thread Cert.DownWIdeal.nD Cert.DownWIdeal.τ).loc Cert.DownWIdeal.main_v2)),
      θ_run (Cert.DownWIdeal.defs (F := Ideal)) (onTc (τ := Cert.DownWIdeal.τ) (Cert.DownWIdeal.main (F := Ideal))) ⟨m, fun _ => 0, g⟩ (fun r => ∀ c : Dev Cert.DownWIdeal.nD,
          r.2.mem ((c.tc : Thread Cert.DownWIdeal.nD Cert.DownWIdeal.τ).loc Cert.DownWIdeal.main_v2) = v0 c
          ∧ r.2.mem ((c.tc : Thread Cert.DownWIdeal.nD Cert.DownWIdeal.τ).loc Cert.DownWIdeal.main_arg0) = m ((c.tc : Thread Cert.DownWIdeal.nD Cert.DownWIdeal.τ).loc Cert.DownWIdeal.main_arg0)
          ∧ r.2.mem ((c.tc : Thread Cert.DownWIdeal.nD Cert.DownWIdeal.τ).loc Cert.DownWIdeal.main_arg1) = m ((c.tc : Thread Cert.DownWIdeal.nD Cert.DownWIdeal.τ).loc Cert.DownWIdeal.main_arg1))
      ∧ θ_run (Cert.DownWRefIdeal.defs (F := Ideal)) (onTc (τ := Cert.DownWRefIdeal.τ) (Cert.DownWRefIdeal.main (F := Ideal))) ⟨m', fun _ => 0, g'⟩ (fun r => ∀ c : Dev Cert.DownWRefIdeal.nD,
          r.2.mem ((c.tc : Thread Cert.DownWRefIdeal.nD Cert.DownWRefIdeal.τ).loc Cert.DownWRefIdeal.main_v3) = v0 c
          ∧ r.2.mem ((c.tc : Thread Cert.DownWRefIdeal.nD Cert.DownWRefIdeal.τ).loc Cert.DownWRefIdeal.main_arg0) = m' ((c.tc : Thread Cert.DownWRefIdeal.nD Cert.DownWRefIdeal.τ).loc Cert.DownWRefIdeal.main_arg0)
          ∧ r.2.mem ((c.tc : Thread Cert.DownWRefIdeal.nD Cert.DownWRefIdeal.τ).loc Cert.DownWRefIdeal.main_arg1) = m' ((c.tc : Thread Cert.DownWRefIdeal.nD Cert.DownWRefIdeal.τ).loc Cert.DownWRefIdeal.main_arg1))

def preserves_InDx_InDxIdeal : Prop :=
  True

def algebraic_InDxIdeal_InDxRefIdeal [hInDxIdeal : Cert.InDxIdeal.Facts] [hInDxRefIdeal : Cert.InDxRefIdeal.Facts] : Prop :=
  ∀ (m : (ℓ : Loc Cert.InDxIdeal.nD Cert.InDxIdeal.τ Cert.InDxIdeal.sig) → Buf (Elt Ideal) ℓ) (g : Dev Cert.InDxIdeal.nD → PrngReg)
    (m' : (ℓ : Loc Cert.InDxRefIdeal.nD Cert.InDxRefIdeal.τ Cert.InDxRefIdeal.sig) → Buf (Elt Ideal) ℓ) (g' : Dev Cert.InDxRefIdeal.nD → PrngReg), Pre_InDxIdeal m →
    (∀ c : Dev Cert.InDxIdeal.nD,
      m' ((c.tc : Thread Cert.InDxRefIdeal.nD Cert.InDxRefIdeal.τ).loc Cert.InDxRefIdeal.main_arg0) = m ((c.tc : Thread Cert.InDxIdeal.nD Cert.InDxIdeal.τ).loc Cert.InDxIdeal.main_arg0)
      ∧ m' ((c.tc : Thread Cert.InDxRefIdeal.nD Cert.InDxRefIdeal.τ).loc Cert.InDxRefIdeal.main_arg1) = m ((c.tc : Thread Cert.InDxIdeal.nD Cert.InDxIdeal.τ).loc Cert.InDxIdeal.main_arg1)
      ∧ m' ((c.tc : Thread Cert.InDxRefIdeal.nD Cert.InDxRefIdeal.τ).loc Cert.InDxRefIdeal.main_arg2) = m ((c.tc : Thread Cert.InDxIdeal.nD Cert.InDxIdeal.τ).loc Cert.InDxIdeal.main_arg2)
      ∧ m' ((c.tc : Thread Cert.InDxRefIdeal.nD Cert.InDxRefIdeal.τ).loc Cert.InDxRefIdeal.main_arg3) = m ((c.tc : Thread Cert.InDxIdeal.nD Cert.InDxIdeal.τ).loc Cert.InDxIdeal.main_arg3)
      ∧ m' ((c.tc : Thread Cert.InDxRefIdeal.nD Cert.InDxRefIdeal.τ).loc Cert.InDxRefIdeal.main_arg4) = m ((c.tc : Thread Cert.InDxIdeal.nD Cert.InDxIdeal.τ).loc Cert.InDxIdeal.main_arg4)) →
    ∃ (v0 : (c : Dev Cert.InDxIdeal.nD) → Buf (Elt Ideal) ((c.tc : Thread Cert.InDxIdeal.nD Cert.InDxIdeal.τ).loc Cert.InDxIdeal.main_v3_0)) (v1 : (c : Dev Cert.InDxIdeal.nD) → Buf (Elt Ideal) ((c.tc : Thread Cert.InDxIdeal.nD Cert.InDxIdeal.τ).loc Cert.InDxIdeal.main_v3_1)) (v2 : (c : Dev Cert.InDxIdeal.nD) → Buf (Elt Ideal) ((c.tc : Thread Cert.InDxIdeal.nD Cert.InDxIdeal.τ).loc Cert.InDxIdeal.main_v3_2)),
      θ_run (Cert.InDxIdeal.defs (F := Ideal)) (onTc (τ := Cert.InDxIdeal.τ) (Cert.InDxIdeal.main (F := Ideal))) ⟨m, fun _ => 0, g⟩ (fun r => ∀ c : Dev Cert.InDxIdeal.nD,
          r.2.mem ((c.tc : Thread Cert.InDxIdeal.nD Cert.InDxIdeal.τ).loc Cert.InDxIdeal.main_v3_0) = v0 c
          ∧ r.2.mem ((c.tc : Thread Cert.InDxIdeal.nD Cert.InDxIdeal.τ).loc Cert.InDxIdeal.main_v3_1) = v1 c
          ∧ r.2.mem ((c.tc : Thread Cert.InDxIdeal.nD Cert.InDxIdeal.τ).loc Cert.InDxIdeal.main_v3_2) = v2 c
          ∧ r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
          ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1)
          ∧ r.2.mem ((c.tc : Thread Cert.InDxIdeal.nD Cert.InDxIdeal.τ).loc Cert.InDxIdeal.main_arg2) = m ((c.tc : Thread Cert.InDxIdeal.nD Cert.InDxIdeal.τ).loc Cert.InDxIdeal.main_arg2)
          ∧ r.2.mem ((c.tc : Thread Cert.InDxIdeal.nD Cert.InDxIdeal.τ).loc Cert.InDxIdeal.main_arg3) = m ((c.tc : Thread Cert.InDxIdeal.nD Cert.InDxIdeal.τ).loc Cert.InDxIdeal.main_arg3)
          ∧ r.2.mem ((c.tc : Thread Cert.InDxIdeal.nD Cert.InDxIdeal.τ).loc Cert.InDxIdeal.main_arg4) = m ((c.tc : Thread Cert.InDxIdeal.nD Cert.InDxIdeal.τ).loc Cert.InDxIdeal.main_arg4))
      ∧ θ_run (Cert.InDxRefIdeal.defs (F := Ideal)) (onTc (τ := Cert.InDxRefIdeal.τ) (Cert.InDxRefIdeal.main (F := Ideal))) ⟨m', fun _ => 0, g'⟩ (fun r => ∀ c : Dev Cert.InDxRefIdeal.nD,
          r.2.mem ((c.tc : Thread Cert.InDxRefIdeal.nD Cert.InDxRefIdeal.τ).loc Cert.InDxRefIdeal.main_v38) = v0 c
          ∧ r.2.mem ((c.tc : Thread Cert.InDxRefIdeal.nD Cert.InDxRefIdeal.τ).loc Cert.InDxRefIdeal.main_v39) = v1 c
          ∧ r.2.mem ((c.tc : Thread Cert.InDxRefIdeal.nD Cert.InDxRefIdeal.τ).loc Cert.InDxRefIdeal.main_v40) = v2 c
          ∧ r.2.mem ((c.tc : Thread Cert.InDxRefIdeal.nD Cert.InDxRefIdeal.τ).loc Cert.InDxRefIdeal.main_arg0) = m' ((c.tc : Thread Cert.InDxRefIdeal.nD Cert.InDxRefIdeal.τ).loc Cert.InDxRefIdeal.main_arg0)
          ∧ r.2.mem ((c.tc : Thread Cert.InDxRefIdeal.nD Cert.InDxRefIdeal.τ).loc Cert.InDxRefIdeal.main_arg1) = m' ((c.tc : Thread Cert.InDxRefIdeal.nD Cert.InDxRefIdeal.τ).loc Cert.InDxRefIdeal.main_arg1)
          ∧ r.2.mem ((c.tc : Thread Cert.InDxRefIdeal.nD Cert.InDxRefIdeal.τ).loc Cert.InDxRefIdeal.main_arg2) = m' ((c.tc : Thread Cert.InDxRefIdeal.nD Cert.InDxRefIdeal.τ).loc Cert.InDxRefIdeal.main_arg2)
          ∧ r.2.mem ((c.tc : Thread Cert.InDxRefIdeal.nD Cert.InDxRefIdeal.τ).loc Cert.InDxRefIdeal.main_arg3) = m' ((c.tc : Thread Cert.InDxRefIdeal.nD Cert.InDxRefIdeal.τ).loc Cert.InDxRefIdeal.main_arg3)
          ∧ r.2.mem ((c.tc : Thread Cert.InDxRefIdeal.nD Cert.InDxRefIdeal.τ).loc Cert.InDxRefIdeal.main_arg4) = m' ((c.tc : Thread Cert.InDxRefIdeal.nD Cert.InDxRefIdeal.τ).loc Cert.InDxRefIdeal.main_arg4))

def preserves_GateDx_GateDxIdeal : Prop :=
  True

def algebraic_GateDxIdeal_GateDxRefIdeal [hGateDxIdeal : Cert.GateDxIdeal.Facts] [hGateDxRefIdeal : Cert.GateDxRefIdeal.Facts] : Prop :=
  ∀ (m : (ℓ : Loc Cert.GateDxIdeal.nD Cert.GateDxIdeal.τ Cert.GateDxIdeal.sig) → Buf (Elt Ideal) ℓ) (g : Dev Cert.GateDxIdeal.nD → PrngReg)
    (m' : (ℓ : Loc Cert.GateDxRefIdeal.nD Cert.GateDxRefIdeal.τ Cert.GateDxRefIdeal.sig) → Buf (Elt Ideal) ℓ) (g' : Dev Cert.GateDxRefIdeal.nD → PrngReg), Pre_GateDxIdeal m →
    (∀ c : Dev Cert.GateDxIdeal.nD,
      m' ((c.tc : Thread Cert.GateDxRefIdeal.nD Cert.GateDxRefIdeal.τ).loc Cert.GateDxRefIdeal.main_arg0) = m ((c.tc : Thread Cert.GateDxIdeal.nD Cert.GateDxIdeal.τ).loc Cert.GateDxIdeal.main_arg0)
      ∧ m' ((c.tc : Thread Cert.GateDxRefIdeal.nD Cert.GateDxRefIdeal.τ).loc Cert.GateDxRefIdeal.main_arg1) = m ((c.tc : Thread Cert.GateDxIdeal.nD Cert.GateDxIdeal.τ).loc Cert.GateDxIdeal.main_arg1)
      ∧ m' ((c.tc : Thread Cert.GateDxRefIdeal.nD Cert.GateDxRefIdeal.τ).loc Cert.GateDxRefIdeal.main_arg2) = m ((c.tc : Thread Cert.GateDxIdeal.nD Cert.GateDxIdeal.τ).loc Cert.GateDxIdeal.main_arg2)
      ∧ m' ((c.tc : Thread Cert.GateDxRefIdeal.nD Cert.GateDxRefIdeal.τ).loc Cert.GateDxRefIdeal.main_arg3) = m ((c.tc : Thread Cert.GateDxIdeal.nD Cert.GateDxIdeal.τ).loc Cert.GateDxIdeal.main_arg3)
      ∧ m' ((c.tc : Thread Cert.GateDxRefIdeal.nD Cert.GateDxRefIdeal.τ).loc Cert.GateDxRefIdeal.main_arg4) = m ((c.tc : Thread Cert.GateDxIdeal.nD Cert.GateDxIdeal.τ).loc Cert.GateDxIdeal.main_arg4)) →
    ∃ (v0 : (c : Dev Cert.GateDxIdeal.nD) → Buf (Elt Ideal) ((c.tc : Thread Cert.GateDxIdeal.nD Cert.GateDxIdeal.τ).loc Cert.GateDxIdeal.main_v3_0)) (v1 : (c : Dev Cert.GateDxIdeal.nD) → Buf (Elt Ideal) ((c.tc : Thread Cert.GateDxIdeal.nD Cert.GateDxIdeal.τ).loc Cert.GateDxIdeal.main_v3_1)) (v2 : (c : Dev Cert.GateDxIdeal.nD) → Buf (Elt Ideal) ((c.tc : Thread Cert.GateDxIdeal.nD Cert.GateDxIdeal.τ).loc Cert.GateDxIdeal.main_v3_2)),
      θ_run (Cert.GateDxIdeal.defs (F := Ideal)) (onTc (τ := Cert.GateDxIdeal.τ) (Cert.GateDxIdeal.main (F := Ideal))) ⟨m, fun _ => 0, g⟩ (fun r => ∀ c : Dev Cert.GateDxIdeal.nD,
          r.2.mem ((c.tc : Thread Cert.GateDxIdeal.nD Cert.GateDxIdeal.τ).loc Cert.GateDxIdeal.main_v3_0) = v0 c
          ∧ r.2.mem ((c.tc : Thread Cert.GateDxIdeal.nD Cert.GateDxIdeal.τ).loc Cert.GateDxIdeal.main_v3_1) = v1 c
          ∧ r.2.mem ((c.tc : Thread Cert.GateDxIdeal.nD Cert.GateDxIdeal.τ).loc Cert.GateDxIdeal.main_v3_2) = v2 c
          ∧ r.2.mem ((c.tc : Thread Cert.GateDxIdeal.nD Cert.GateDxIdeal.τ).loc Cert.GateDxIdeal.main_arg0) = m ((c.tc : Thread Cert.GateDxIdeal.nD Cert.GateDxIdeal.τ).loc Cert.GateDxIdeal.main_arg0)
          ∧ r.2.mem ((c.tc : Thread Cert.GateDxIdeal.nD Cert.GateDxIdeal.τ).loc Cert.GateDxIdeal.main_arg1) = m ((c.tc : Thread Cert.GateDxIdeal.nD Cert.GateDxIdeal.τ).loc Cert.GateDxIdeal.main_arg1)
          ∧ r.2.mem ((c.tc : Thread Cert.GateDxIdeal.nD Cert.GateDxIdeal.τ).loc Cert.GateDxIdeal.main_arg2) = m ((c.tc : Thread Cert.GateDxIdeal.nD Cert.GateDxIdeal.τ).loc Cert.GateDxIdeal.main_arg2)
          ∧ r.2.mem ((c.tc : Thread Cert.GateDxIdeal.nD Cert.GateDxIdeal.τ).loc Cert.GateDxIdeal.main_arg3) = m ((c.tc : Thread Cert.GateDxIdeal.nD Cert.GateDxIdeal.τ).loc Cert.GateDxIdeal.main_arg3)
          ∧ r.2.mem ((c.tc : Thread Cert.GateDxIdeal.nD Cert.GateDxIdeal.τ).loc Cert.GateDxIdeal.main_arg4) = m ((c.tc : Thread Cert.GateDxIdeal.nD Cert.GateDxIdeal.τ).loc Cert.GateDxIdeal.main_arg4))
      ∧ θ_run (Cert.GateDxRefIdeal.defs (F := Ideal)) (onTc (τ := Cert.GateDxRefIdeal.τ) (Cert.GateDxRefIdeal.main (F := Ideal))) ⟨m', fun _ => 0, g'⟩ (fun r => ∀ c : Dev Cert.GateDxRefIdeal.nD,
          r.2.mem ((c.tc : Thread Cert.GateDxRefIdeal.nD Cert.GateDxRefIdeal.τ).loc Cert.GateDxRefIdeal.main_v38) = v0 c
          ∧ r.2.mem ((c.tc : Thread Cert.GateDxRefIdeal.nD Cert.GateDxRefIdeal.τ).loc Cert.GateDxRefIdeal.main_v39) = v1 c
          ∧ r.2.mem ((c.tc : Thread Cert.GateDxRefIdeal.nD Cert.GateDxRefIdeal.τ).loc Cert.GateDxRefIdeal.main_v40) = v2 c
          ∧ r.2.mem ((c.tc : Thread Cert.GateDxRefIdeal.nD Cert.GateDxRefIdeal.τ).loc Cert.GateDxRefIdeal.main_arg0) = m' ((c.tc : Thread Cert.GateDxRefIdeal.nD Cert.GateDxRefIdeal.τ).loc Cert.GateDxRefIdeal.main_arg0)
          ∧ r.2.mem ((c.tc : Thread Cert.GateDxRefIdeal.nD Cert.GateDxRefIdeal.τ).loc Cert.GateDxRefIdeal.main_arg1) = m' ((c.tc : Thread Cert.GateDxRefIdeal.nD Cert.GateDxRefIdeal.τ).loc Cert.GateDxRefIdeal.main_arg1)
          ∧ r.2.mem ((c.tc : Thread Cert.GateDxRefIdeal.nD Cert.GateDxRefIdeal.τ).loc Cert.GateDxRefIdeal.main_arg2) = m' ((c.tc : Thread Cert.GateDxRefIdeal.nD Cert.GateDxRefIdeal.τ).loc Cert.GateDxRefIdeal.main_arg2)
          ∧ r.2.mem ((c.tc : Thread Cert.GateDxRefIdeal.nD Cert.GateDxRefIdeal.τ).loc Cert.GateDxRefIdeal.main_arg3) = m' ((c.tc : Thread Cert.GateDxRefIdeal.nD Cert.GateDxRefIdeal.τ).loc Cert.GateDxRefIdeal.main_arg3)
          ∧ r.2.mem ((c.tc : Thread Cert.GateDxRefIdeal.nD Cert.GateDxRefIdeal.τ).loc Cert.GateDxRefIdeal.main_arg4) = m' ((c.tc : Thread Cert.GateDxRefIdeal.nD Cert.GateDxRefIdeal.τ).loc Cert.GateDxRefIdeal.main_arg4))

def preserves_UpX_UpXIdeal : Prop :=
  True

def algebraic_UpXIdeal_UpXRefIdeal [hUpXIdeal : Cert.UpXIdeal.Facts] [hUpXRefIdeal : Cert.UpXRefIdeal.Facts] : Prop :=
  ∀ (m : (ℓ : Loc Cert.UpXIdeal.nD Cert.UpXIdeal.τ Cert.UpXIdeal.sig) → Buf (Elt Ideal) ℓ) (g : Dev Cert.UpXIdeal.nD → PrngReg)
    (m' : (ℓ : Loc Cert.UpXRefIdeal.nD Cert.UpXRefIdeal.τ Cert.UpXRefIdeal.sig) → Buf (Elt Ideal) ℓ) (g' : Dev Cert.UpXRefIdeal.nD → PrngReg), Pre_UpXIdeal m →
    (∀ c : Dev Cert.UpXIdeal.nD,
      m' ((c.tc : Thread Cert.UpXRefIdeal.nD Cert.UpXRefIdeal.τ).loc Cert.UpXRefIdeal.main_arg0) = m ((c.tc : Thread Cert.UpXIdeal.nD Cert.UpXIdeal.τ).loc Cert.UpXIdeal.main_arg0)
      ∧ m' ((c.tc : Thread Cert.UpXRefIdeal.nD Cert.UpXRefIdeal.τ).loc Cert.UpXRefIdeal.main_arg1) = m ((c.tc : Thread Cert.UpXIdeal.nD Cert.UpXIdeal.τ).loc Cert.UpXIdeal.main_arg1)
      ∧ m' ((c.tc : Thread Cert.UpXRefIdeal.nD Cert.UpXRefIdeal.τ).loc Cert.UpXRefIdeal.main_arg2) = m ((c.tc : Thread Cert.UpXIdeal.nD Cert.UpXIdeal.τ).loc Cert.UpXIdeal.main_arg2)
      ∧ m' ((c.tc : Thread Cert.UpXRefIdeal.nD Cert.UpXRefIdeal.τ).loc Cert.UpXRefIdeal.main_arg3) = m ((c.tc : Thread Cert.UpXIdeal.nD Cert.UpXIdeal.τ).loc Cert.UpXIdeal.main_arg3)
      ∧ m' ((c.tc : Thread Cert.UpXRefIdeal.nD Cert.UpXRefIdeal.τ).loc Cert.UpXRefIdeal.main_arg4) = m ((c.tc : Thread Cert.UpXIdeal.nD Cert.UpXIdeal.τ).loc Cert.UpXIdeal.main_arg4)
      ∧ m' ((c.tc : Thread Cert.UpXRefIdeal.nD Cert.UpXRefIdeal.τ).loc Cert.UpXRefIdeal.main_arg5) = m ((c.tc : Thread Cert.UpXIdeal.nD Cert.UpXIdeal.τ).loc Cert.UpXIdeal.main_arg5)) →
    ∃ (v0 : (c : Dev Cert.UpXIdeal.nD) → Buf (Elt Ideal) ((c.tc : Thread Cert.UpXIdeal.nD Cert.UpXIdeal.τ).loc Cert.UpXIdeal.main_v15_0)) (v1 : (c : Dev Cert.UpXIdeal.nD) → Buf (Elt Ideal) ((c.tc : Thread Cert.UpXIdeal.nD Cert.UpXIdeal.τ).loc Cert.UpXIdeal.main_v15_1)) (v2 : (c : Dev Cert.UpXIdeal.nD) → Buf (Elt Ideal) ((c.tc : Thread Cert.UpXIdeal.nD Cert.UpXIdeal.τ).loc Cert.UpXIdeal.main_v15_2)),
      θ_run (Cert.UpXIdeal.defs (F := Ideal)) (onTc (τ := Cert.UpXIdeal.τ) (Cert.UpXIdeal.main (F := Ideal))) ⟨m, fun _ => 0, g⟩ (fun r => ∀ c : Dev Cert.UpXIdeal.nD,
          r.2.mem ((c.tc : Thread Cert.UpXIdeal.nD Cert.UpXIdeal.τ).loc Cert.UpXIdeal.main_v15_0) = v0 c
          ∧ r.2.mem ((c.tc : Thread Cert.UpXIdeal.nD Cert.UpXIdeal.τ).loc Cert.UpXIdeal.main_v15_1) = v1 c
          ∧ r.2.mem ((c.tc : Thread Cert.UpXIdeal.nD Cert.UpXIdeal.τ).loc Cert.UpXIdeal.main_v15_2) = v2 c
          ∧ r.2.mem ((c.tc : Thread Cert.UpXIdeal.nD Cert.UpXIdeal.τ).loc Cert.UpXIdeal.main_arg0) = m ((c.tc : Thread Cert.UpXIdeal.nD Cert.UpXIdeal.τ).loc Cert.UpXIdeal.main_arg0)
          ∧ r.2.mem ((c.tc : Thread Cert.UpXIdeal.nD Cert.UpXIdeal.τ).loc Cert.UpXIdeal.main_arg1) = m ((c.tc : Thread Cert.UpXIdeal.nD Cert.UpXIdeal.τ).loc Cert.UpXIdeal.main_arg1)
          ∧ r.2.mem ((c.tc : Thread Cert.UpXIdeal.nD Cert.UpXIdeal.τ).loc Cert.UpXIdeal.main_arg2) = m ((c.tc : Thread Cert.UpXIdeal.nD Cert.UpXIdeal.τ).loc Cert.UpXIdeal.main_arg2)
          ∧ r.2.mem ((c.tc : Thread Cert.UpXIdeal.nD Cert.UpXIdeal.τ).loc Cert.UpXIdeal.main_arg3) = m ((c.tc : Thread Cert.UpXIdeal.nD Cert.UpXIdeal.τ).loc Cert.UpXIdeal.main_arg3)
          ∧ r.2.mem ((c.tc : Thread Cert.UpXIdeal.nD Cert.UpXIdeal.τ).loc Cert.UpXIdeal.main_arg4) = m ((c.tc : Thread Cert.UpXIdeal.nD Cert.UpXIdeal.τ).loc Cert.UpXIdeal.main_arg4)
          ∧ r.2.mem ((c.tc : Thread Cert.UpXIdeal.nD Cert.UpXIdeal.τ).loc Cert.UpXIdeal.main_arg5) = m ((c.tc : Thread Cert.UpXIdeal.nD Cert.UpXIdeal.τ).loc Cert.UpXIdeal.main_arg5))
      ∧ θ_run (Cert.UpXRefIdeal.defs (F := Ideal)) (onTc (τ := Cert.UpXRefIdeal.τ) (Cert.UpXRefIdeal.main (F := Ideal))) ⟨m', fun _ => 0, g'⟩ (fun r => ∀ c : Dev Cert.UpXRefIdeal.nD,
          r.2.mem ((c.tc : Thread Cert.UpXRefIdeal.nD Cert.UpXRefIdeal.τ).loc Cert.UpXRefIdeal.main_v39) = v0 c
          ∧ r.2.mem ((c.tc : Thread Cert.UpXRefIdeal.nD Cert.UpXRefIdeal.τ).loc Cert.UpXRefIdeal.main_v40) = v1 c
          ∧ r.2.mem ((c.tc : Thread Cert.UpXRefIdeal.nD Cert.UpXRefIdeal.τ).loc Cert.UpXRefIdeal.main_v41) = v2 c
          ∧ r.2.mem ((c.tc : Thread Cert.UpXRefIdeal.nD Cert.UpXRefIdeal.τ).loc Cert.UpXRefIdeal.main_arg0) = m' ((c.tc : Thread Cert.UpXRefIdeal.nD Cert.UpXRefIdeal.τ).loc Cert.UpXRefIdeal.main_arg0)
          ∧ r.2.mem ((c.tc : Thread Cert.UpXRefIdeal.nD Cert.UpXRefIdeal.τ).loc Cert.UpXRefIdeal.main_arg1) = m' ((c.tc : Thread Cert.UpXRefIdeal.nD Cert.UpXRefIdeal.τ).loc Cert.UpXRefIdeal.main_arg1)
          ∧ r.2.mem ((c.tc : Thread Cert.UpXRefIdeal.nD Cert.UpXRefIdeal.τ).loc Cert.UpXRefIdeal.main_arg2) = m' ((c.tc : Thread Cert.UpXRefIdeal.nD Cert.UpXRefIdeal.τ).loc Cert.UpXRefIdeal.main_arg2)
          ∧ r.2.mem ((c.tc : Thread Cert.UpXRefIdeal.nD Cert.UpXRefIdeal.τ).loc Cert.UpXRefIdeal.main_arg3) = m' ((c.tc : Thread Cert.UpXRefIdeal.nD Cert.UpXRefIdeal.τ).loc Cert.UpXRefIdeal.main_arg3)
          ∧ r.2.mem ((c.tc : Thread Cert.UpXRefIdeal.nD Cert.UpXRefIdeal.τ).loc Cert.UpXRefIdeal.main_arg4) = m' ((c.tc : Thread Cert.UpXRefIdeal.nD Cert.UpXRefIdeal.τ).loc Cert.UpXRefIdeal.main_arg4)
          ∧ r.2.mem ((c.tc : Thread Cert.UpXRefIdeal.nD Cert.UpXRefIdeal.τ).loc Cert.UpXRefIdeal.main_arg5) = m' ((c.tc : Thread Cert.UpXRefIdeal.nD Cert.UpXRefIdeal.τ).loc Cert.UpXRefIdeal.main_arg5))

def preserves_InDw_InDwIdeal : Prop :=
  True

def algebraic_InDwIdeal_InDwRefIdeal [hInDwIdeal : Cert.InDwIdeal.Facts] [hInDwRefIdeal : Cert.InDwRefIdeal.Facts] : Prop :=
  ∀ (m : (ℓ : Loc Cert.InDwIdeal.nD Cert.InDwIdeal.τ Cert.InDwIdeal.sig) → Buf (Elt Ideal) ℓ) (g : Dev Cert.InDwIdeal.nD → PrngReg)
    (m' : (ℓ : Loc Cert.InDwRefIdeal.nD Cert.InDwRefIdeal.τ Cert.InDwRefIdeal.sig) → Buf (Elt Ideal) ℓ) (g' : Dev Cert.InDwRefIdeal.nD → PrngReg), Pre_InDwIdeal m →
    (∀ c : Dev Cert.InDwIdeal.nD,
      m' ((c.tc : Thread Cert.InDwRefIdeal.nD Cert.InDwRefIdeal.τ).loc Cert.InDwRefIdeal.main_arg0) = m ((c.tc : Thread Cert.InDwIdeal.nD Cert.InDwIdeal.τ).loc Cert.InDwIdeal.main_arg0)
      ∧ m' ((c.tc : Thread Cert.InDwRefIdeal.nD Cert.InDwRefIdeal.τ).loc Cert.InDwRefIdeal.main_arg1) = m ((c.tc : Thread Cert.InDwIdeal.nD Cert.InDwIdeal.τ).loc Cert.InDwIdeal.main_arg1)) →
    ∃ (v0 : (c : Dev Cert.InDwIdeal.nD) → Buf (Elt Ideal) ((c.tc : Thread Cert.InDwIdeal.nD Cert.InDwIdeal.τ).loc Cert.InDwIdeal.main_v3)),
      θ_run (Cert.InDwIdeal.defs (F := Ideal)) (onTc (τ := Cert.InDwIdeal.τ) (Cert.InDwIdeal.main (F := Ideal))) ⟨m, fun _ => 0, g⟩ (fun r => ∀ c : Dev Cert.InDwIdeal.nD,
          r.2.mem ((c.tc : Thread Cert.InDwIdeal.nD Cert.InDwIdeal.τ).loc Cert.InDwIdeal.main_v3) = v0 c
          ∧ r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
          ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ θ_run (Cert.InDwRefIdeal.defs (F := Ideal)) (onTc (τ := Cert.InDwRefIdeal.τ) (Cert.InDwRefIdeal.main (F := Ideal))) ⟨m', fun _ => 0, g'⟩ (fun r => ∀ c : Dev Cert.InDwRefIdeal.nD,
          r.2.mem ((c.tc : Thread Cert.InDwRefIdeal.nD Cert.InDwRefIdeal.τ).loc Cert.InDwRefIdeal.main_v3) = v0 c
          ∧ r.2.mem ((c.tc : Thread Cert.InDwRefIdeal.nD Cert.InDwRefIdeal.τ).loc Cert.InDwRefIdeal.main_arg0) = m' ((c.tc : Thread Cert.InDwRefIdeal.nD Cert.InDwRefIdeal.τ).loc Cert.InDwRefIdeal.main_arg0)
          ∧ r.2.mem ((c.tc : Thread Cert.InDwRefIdeal.nD Cert.InDwRefIdeal.τ).loc Cert.InDwRefIdeal.main_arg1) = m' ((c.tc : Thread Cert.InDwRefIdeal.nD Cert.InDwRefIdeal.τ).loc Cert.InDwRefIdeal.main_arg1))

def preserves_OutDx_OutDxIdeal : Prop :=
  True

def algebraic_OutDxIdeal_OutDxRefIdeal [hOutDxIdeal : Cert.OutDxIdeal.Facts] [hOutDxRefIdeal : Cert.OutDxRefIdeal.Facts] : Prop :=
  ∀ (m : (ℓ : Loc Cert.OutDxIdeal.nD Cert.OutDxIdeal.τ Cert.OutDxIdeal.sig) → Buf (Elt Ideal) ℓ) (g : Dev Cert.OutDxIdeal.nD → PrngReg)
    (m' : (ℓ : Loc Cert.OutDxRefIdeal.nD Cert.OutDxRefIdeal.τ Cert.OutDxRefIdeal.sig) → Buf (Elt Ideal) ℓ) (g' : Dev Cert.OutDxRefIdeal.nD → PrngReg), Pre_OutDxIdeal m →
    (∀ c : Dev Cert.OutDxIdeal.nD,
      m' ((c.tc : Thread Cert.OutDxRefIdeal.nD Cert.OutDxRefIdeal.τ).loc Cert.OutDxRefIdeal.main_arg0) = m ((c.tc : Thread Cert.OutDxIdeal.nD Cert.OutDxIdeal.τ).loc Cert.OutDxIdeal.main_arg0)
      ∧ m' ((c.tc : Thread Cert.OutDxRefIdeal.nD Cert.OutDxRefIdeal.τ).loc Cert.OutDxRefIdeal.main_arg1) = m ((c.tc : Thread Cert.OutDxIdeal.nD Cert.OutDxIdeal.τ).loc Cert.OutDxIdeal.main_arg1)) →
    ∃ (v0 : (c : Dev Cert.OutDxIdeal.nD) → Buf (Elt Ideal) ((c.tc : Thread Cert.OutDxIdeal.nD Cert.OutDxIdeal.τ).loc Cert.OutDxIdeal.main_v2)),
      θ_run (Cert.OutDxIdeal.defs (F := Ideal)) (onTc (τ := Cert.OutDxIdeal.τ) (Cert.OutDxIdeal.main (F := Ideal))) ⟨m, fun _ => 0, g⟩ (fun r => ∀ c : Dev Cert.OutDxIdeal.nD,
          r.2.mem ((c.tc : Thread Cert.OutDxIdeal.nD Cert.OutDxIdeal.τ).loc Cert.OutDxIdeal.main_v2) = v0 c
          ∧ r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
          ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ θ_run (Cert.OutDxRefIdeal.defs (F := Ideal)) (onTc (τ := Cert.OutDxRefIdeal.τ) (Cert.OutDxRefIdeal.main (F := Ideal))) ⟨m', fun _ => 0, g'⟩ (fun r => ∀ c : Dev Cert.OutDxRefIdeal.nD,
          r.2.mem ((c.tc : Thread Cert.OutDxRefIdeal.nD Cert.OutDxRefIdeal.τ).loc Cert.OutDxRefIdeal.main_v2) = v0 c
          ∧ r.2.mem ((c.tc : Thread Cert.OutDxRefIdeal.nD Cert.OutDxRefIdeal.τ).loc Cert.OutDxRefIdeal.main_arg0) = m' ((c.tc : Thread Cert.OutDxRefIdeal.nD Cert.OutDxRefIdeal.τ).loc Cert.OutDxRefIdeal.main_arg0)
          ∧ r.2.mem ((c.tc : Thread Cert.OutDxRefIdeal.nD Cert.OutDxRefIdeal.τ).loc Cert.OutDxRefIdeal.main_arg1) = m' ((c.tc : Thread Cert.OutDxRefIdeal.nD Cert.OutDxRefIdeal.τ).loc Cert.OutDxRefIdeal.main_arg1))

def preserves_OutDw_OutDwIdeal : Prop :=
  True

def algebraic_OutDwIdeal_OutDwRefIdeal [hOutDwIdeal : Cert.OutDwIdeal.Facts] [hOutDwRefIdeal : Cert.OutDwRefIdeal.Facts] : Prop :=
  ∀ (m : (ℓ : Loc Cert.OutDwIdeal.nD Cert.OutDwIdeal.τ Cert.OutDwIdeal.sig) → Buf (Elt Ideal) ℓ) (g : Dev Cert.OutDwIdeal.nD → PrngReg)
    (m' : (ℓ : Loc Cert.OutDwRefIdeal.nD Cert.OutDwRefIdeal.τ Cert.OutDwRefIdeal.sig) → Buf (Elt Ideal) ℓ) (g' : Dev Cert.OutDwRefIdeal.nD → PrngReg), Pre_OutDwIdeal m →
    (∀ c : Dev Cert.OutDwIdeal.nD,
      m' ((c.tc : Thread Cert.OutDwRefIdeal.nD Cert.OutDwRefIdeal.τ).loc Cert.OutDwRefIdeal.main_arg0) = m ((c.tc : Thread Cert.OutDwIdeal.nD Cert.OutDwIdeal.τ).loc Cert.OutDwIdeal.main_arg0)
      ∧ m' ((c.tc : Thread Cert.OutDwRefIdeal.nD Cert.OutDwRefIdeal.τ).loc Cert.OutDwRefIdeal.main_arg1) = m ((c.tc : Thread Cert.OutDwIdeal.nD Cert.OutDwIdeal.τ).loc Cert.OutDwIdeal.main_arg1)) →
    ∃ (v0 : (c : Dev Cert.OutDwIdeal.nD) → Buf (Elt Ideal) ((c.tc : Thread Cert.OutDwIdeal.nD Cert.OutDwIdeal.τ).loc Cert.OutDwIdeal.main_v2)),
      θ_run (Cert.OutDwIdeal.defs (F := Ideal)) (onTc (τ := Cert.OutDwIdeal.τ) (Cert.OutDwIdeal.main (F := Ideal))) ⟨m, fun _ => 0, g⟩ (fun r => ∀ c : Dev Cert.OutDwIdeal.nD,
          r.2.mem ((c.tc : Thread Cert.OutDwIdeal.nD Cert.OutDwIdeal.τ).loc Cert.OutDwIdeal.main_v2) = v0 c
          ∧ r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
          ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ θ_run (Cert.OutDwRefIdeal.defs (F := Ideal)) (onTc (τ := Cert.OutDwRefIdeal.τ) (Cert.OutDwRefIdeal.main (F := Ideal))) ⟨m', fun _ => 0, g'⟩ (fun r => ∀ c : Dev Cert.OutDwRefIdeal.nD,
          r.2.mem ((c.tc : Thread Cert.OutDwRefIdeal.nD Cert.OutDwRefIdeal.τ).loc Cert.OutDwRefIdeal.main_v3) = v0 c
          ∧ r.2.mem ((c.tc : Thread Cert.OutDwRefIdeal.nD Cert.OutDwRefIdeal.τ).loc Cert.OutDwRefIdeal.main_arg0) = m' ((c.tc : Thread Cert.OutDwRefIdeal.nD Cert.OutDwRefIdeal.τ).loc Cert.OutDwRefIdeal.main_arg0)
          ∧ r.2.mem ((c.tc : Thread Cert.OutDwRefIdeal.nD Cert.OutDwRefIdeal.τ).loc Cert.OutDwRefIdeal.main_arg1) = m' ((c.tc : Thread Cert.OutDwRefIdeal.nD Cert.OutDwRefIdeal.τ).loc Cert.OutDwRefIdeal.main_arg1))

def preserves_GateDw_GateDwIdeal : Prop :=
  True

def algebraic_GateDwIdeal_GateDwRefIdeal [hGateDwIdeal : Cert.GateDwIdeal.Facts] [hGateDwRefIdeal : Cert.GateDwRefIdeal.Facts] : Prop :=
  ∀ (m : (ℓ : Loc Cert.GateDwIdeal.nD Cert.GateDwIdeal.τ Cert.GateDwIdeal.sig) → Buf (Elt Ideal) ℓ) (g : Dev Cert.GateDwIdeal.nD → PrngReg)
    (m' : (ℓ : Loc Cert.GateDwRefIdeal.nD Cert.GateDwRefIdeal.τ Cert.GateDwRefIdeal.sig) → Buf (Elt Ideal) ℓ) (g' : Dev Cert.GateDwRefIdeal.nD → PrngReg), Pre_GateDwIdeal m →
    (∀ c : Dev Cert.GateDwIdeal.nD,
      m' ((c.tc : Thread Cert.GateDwRefIdeal.nD Cert.GateDwRefIdeal.τ).loc Cert.GateDwRefIdeal.main_arg0) = m ((c.tc : Thread Cert.GateDwIdeal.nD Cert.GateDwIdeal.τ).loc Cert.GateDwIdeal.main_arg0)
      ∧ m' ((c.tc : Thread Cert.GateDwRefIdeal.nD Cert.GateDwRefIdeal.τ).loc Cert.GateDwRefIdeal.main_arg1) = m ((c.tc : Thread Cert.GateDwIdeal.nD Cert.GateDwIdeal.τ).loc Cert.GateDwIdeal.main_arg1)) →
    ∃ (v0 : (c : Dev Cert.GateDwIdeal.nD) → Buf (Elt Ideal) ((c.tc : Thread Cert.GateDwIdeal.nD Cert.GateDwIdeal.τ).loc Cert.GateDwIdeal.main_v3)),
      θ_run (Cert.GateDwIdeal.defs (F := Ideal)) (onTc (τ := Cert.GateDwIdeal.τ) (Cert.GateDwIdeal.main (F := Ideal))) ⟨m, fun _ => 0, g⟩ (fun r => ∀ c : Dev Cert.GateDwIdeal.nD,
          r.2.mem ((c.tc : Thread Cert.GateDwIdeal.nD Cert.GateDwIdeal.τ).loc Cert.GateDwIdeal.main_v3) = v0 c
          ∧ r.2.mem ((c.tc : Thread Cert.GateDwIdeal.nD Cert.GateDwIdeal.τ).loc Cert.GateDwIdeal.main_arg0) = m ((c.tc : Thread Cert.GateDwIdeal.nD Cert.GateDwIdeal.τ).loc Cert.GateDwIdeal.main_arg0)
          ∧ r.2.mem ((c.tc : Thread Cert.GateDwIdeal.nD Cert.GateDwIdeal.τ).loc Cert.GateDwIdeal.main_arg1) = m ((c.tc : Thread Cert.GateDwIdeal.nD Cert.GateDwIdeal.τ).loc Cert.GateDwIdeal.main_arg1))
      ∧ θ_run (Cert.GateDwRefIdeal.defs (F := Ideal)) (onTc (τ := Cert.GateDwRefIdeal.τ) (Cert.GateDwRefIdeal.main (F := Ideal))) ⟨m', fun _ => 0, g'⟩ (fun r => ∀ c : Dev Cert.GateDwRefIdeal.nD,
          r.2.mem ((c.tc : Thread Cert.GateDwRefIdeal.nD Cert.GateDwRefIdeal.τ).loc Cert.GateDwRefIdeal.main_v3) = v0 c
          ∧ r.2.mem ((c.tc : Thread Cert.GateDwRefIdeal.nD Cert.GateDwRefIdeal.τ).loc Cert.GateDwRefIdeal.main_arg0) = m' ((c.tc : Thread Cert.GateDwRefIdeal.nD Cert.GateDwRefIdeal.τ).loc Cert.GateDwRefIdeal.main_arg0)
          ∧ r.2.mem ((c.tc : Thread Cert.GateDwRefIdeal.nD Cert.GateDwRefIdeal.τ).loc Cert.GateDwRefIdeal.main_arg1) = m' ((c.tc : Thread Cert.GateDwRefIdeal.nD Cert.GateDwRefIdeal.τ).loc Cert.GateDwRefIdeal.main_arg1))

def preserves_ProjDw_ProjDwIdeal : Prop :=
  True

def algebraic_ProjDwIdeal_ProjDwRefIdeal [hProjDwIdeal : Cert.ProjDwIdeal.Facts] [hProjDwRefIdeal : Cert.ProjDwRefIdeal.Facts] : Prop :=
  ∀ (m : (ℓ : Loc Cert.ProjDwIdeal.nD Cert.ProjDwIdeal.τ Cert.ProjDwIdeal.sig) → Buf (Elt Ideal) ℓ) (g : Dev Cert.ProjDwIdeal.nD → PrngReg)
    (m' : (ℓ : Loc Cert.ProjDwRefIdeal.nD Cert.ProjDwRefIdeal.τ Cert.ProjDwRefIdeal.sig) → Buf (Elt Ideal) ℓ) (g' : Dev Cert.ProjDwRefIdeal.nD → PrngReg), Pre_ProjDwIdeal m →
    (∀ c : Dev Cert.ProjDwIdeal.nD,
      m' ((c.tc : Thread Cert.ProjDwRefIdeal.nD Cert.ProjDwRefIdeal.τ).loc Cert.ProjDwRefIdeal.main_arg0) = m ((c.tc : Thread Cert.ProjDwIdeal.nD Cert.ProjDwIdeal.τ).loc Cert.ProjDwIdeal.main_arg0)
      ∧ m' ((c.tc : Thread Cert.ProjDwRefIdeal.nD Cert.ProjDwRefIdeal.τ).loc Cert.ProjDwRefIdeal.main_arg1) = m ((c.tc : Thread Cert.ProjDwIdeal.nD Cert.ProjDwIdeal.τ).loc Cert.ProjDwIdeal.main_arg1)) →
    ∃ (v0 : (c : Dev Cert.ProjDwIdeal.nD) → Buf (Elt Ideal) ((c.tc : Thread Cert.ProjDwIdeal.nD Cert.ProjDwIdeal.τ).loc Cert.ProjDwIdeal.main_v2)),
      θ_run (Cert.ProjDwIdeal.defs (F := Ideal)) (onTc (τ := Cert.ProjDwIdeal.τ) (Cert.ProjDwIdeal.main (F := Ideal))) ⟨m, fun _ => 0, g⟩ (fun r => ∀ c : Dev Cert.ProjDwIdeal.nD,
          r.2.mem ((c.tc : Thread Cert.ProjDwIdeal.nD Cert.ProjDwIdeal.τ).loc Cert.ProjDwIdeal.main_v2) = v0 c
          ∧ r.2.mem ((c.tc : Thread Cert.ProjDwIdeal.nD Cert.ProjDwIdeal.τ).loc Cert.ProjDwIdeal.main_arg0) = m ((c.tc : Thread Cert.ProjDwIdeal.nD Cert.ProjDwIdeal.τ).loc Cert.ProjDwIdeal.main_arg0)
          ∧ r.2.mem ((c.tc : Thread Cert.ProjDwIdeal.nD Cert.ProjDwIdeal.τ).loc Cert.ProjDwIdeal.main_arg1) = m ((c.tc : Thread Cert.ProjDwIdeal.nD Cert.ProjDwIdeal.τ).loc Cert.ProjDwIdeal.main_arg1))
      ∧ θ_run (Cert.ProjDwRefIdeal.defs (F := Ideal)) (onTc (τ := Cert.ProjDwRefIdeal.τ) (Cert.ProjDwRefIdeal.main (F := Ideal))) ⟨m', fun _ => 0, g'⟩ (fun r => ∀ c : Dev Cert.ProjDwRefIdeal.nD,
          r.2.mem ((c.tc : Thread Cert.ProjDwRefIdeal.nD Cert.ProjDwRefIdeal.τ).loc Cert.ProjDwRefIdeal.main_v3) = v0 c
          ∧ r.2.mem ((c.tc : Thread Cert.ProjDwRefIdeal.nD Cert.ProjDwRefIdeal.τ).loc Cert.ProjDwRefIdeal.main_arg0) = m' ((c.tc : Thread Cert.ProjDwRefIdeal.nD Cert.ProjDwRefIdeal.τ).loc Cert.ProjDwRefIdeal.main_arg0)
          ∧ r.2.mem ((c.tc : Thread Cert.ProjDwRefIdeal.nD Cert.ProjDwRefIdeal.τ).loc Cert.ProjDwRefIdeal.main_arg1) = m' ((c.tc : Thread Cert.ProjDwRefIdeal.nD Cert.ProjDwRefIdeal.τ).loc Cert.ProjDwRefIdeal.main_arg1))

def preserves_MmUp_MmUpIdeal : Prop :=
  True

def algebraic_MmUpIdeal_MmUpRefIdeal [hMmUpIdeal : Cert.MmUpIdeal.Facts] [hMmUpRefIdeal : Cert.MmUpRefIdeal.Facts] : Prop :=
  ∀ (m : (ℓ : Loc Cert.MmUpIdeal.nD Cert.MmUpIdeal.τ Cert.MmUpIdeal.sig) → Buf (Elt Ideal) ℓ) (g : Dev Cert.MmUpIdeal.nD → PrngReg)
    (m' : (ℓ : Loc Cert.MmUpRefIdeal.nD Cert.MmUpRefIdeal.τ Cert.MmUpRefIdeal.sig) → Buf (Elt Ideal) ℓ) (g' : Dev Cert.MmUpRefIdeal.nD → PrngReg), Pre_MmUpIdeal m →
    (∀ c : Dev Cert.MmUpIdeal.nD,
      m' ((c.tc : Thread Cert.MmUpRefIdeal.nD Cert.MmUpRefIdeal.τ).loc Cert.MmUpRefIdeal.main_arg0) = m ((c.tc : Thread Cert.MmUpIdeal.nD Cert.MmUpIdeal.τ).loc Cert.MmUpIdeal.main_arg0)
      ∧ m' ((c.tc : Thread Cert.MmUpRefIdeal.nD Cert.MmUpRefIdeal.τ).loc Cert.MmUpRefIdeal.main_arg1) = m ((c.tc : Thread Cert.MmUpIdeal.nD Cert.MmUpIdeal.τ).loc Cert.MmUpIdeal.main_arg1)) →
    ∃ (v0 : (c : Dev Cert.MmUpIdeal.nD) → Buf (Elt Ideal) ((c.tc : Thread Cert.MmUpIdeal.nD Cert.MmUpIdeal.τ).loc Cert.MmUpIdeal.main_v11)),
      θ_run (Cert.MmUpIdeal.defs (F := Ideal)) (onTc (τ := Cert.MmUpIdeal.τ) (Cert.MmUpIdeal.main (F := Ideal))) ⟨m, fun _ => 0, g⟩ (fun r => ∀ c : Dev Cert.MmUpIdeal.nD,
          r.2.mem ((c.tc : Thread Cert.MmUpIdeal.nD Cert.MmUpIdeal.τ).loc Cert.MmUpIdeal.main_v11) = v0 c
          ∧ r.2.mem ((c.tc : Thread Cert.MmUpIdeal.nD Cert.MmUpIdeal.τ).loc Cert.MmUpIdeal.main_arg0) = m ((c.tc : Thread Cert.MmUpIdeal.nD Cert.MmUpIdeal.τ).loc Cert.MmUpIdeal.main_arg0)
          ∧ r.2.mem ((c.tc : Thread Cert.MmUpIdeal.nD Cert.MmUpIdeal.τ).loc Cert.MmUpIdeal.main_arg1) = m ((c.tc : Thread Cert.MmUpIdeal.nD Cert.MmUpIdeal.τ).loc Cert.MmUpIdeal.main_arg1))
      ∧ θ_run (Cert.MmUpRefIdeal.defs (F := Ideal)) (onTc (τ := Cert.MmUpRefIdeal.τ) (Cert.MmUpRefIdeal.main (F := Ideal))) ⟨m', fun _ => 0, g'⟩ (fun r => ∀ c : Dev Cert.MmUpRefIdeal.nD,
          r.2.mem ((c.tc : Thread Cert.MmUpRefIdeal.nD Cert.MmUpRefIdeal.τ).loc Cert.MmUpRefIdeal.main_v0) = v0 c
          ∧ r.2.mem ((c.tc : Thread Cert.MmUpRefIdeal.nD Cert.MmUpRefIdeal.τ).loc Cert.MmUpRefIdeal.main_arg0) = m' ((c.tc : Thread Cert.MmUpRefIdeal.nD Cert.MmUpRefIdeal.τ).loc Cert.MmUpRefIdeal.main_arg0)
          ∧ r.2.mem ((c.tc : Thread Cert.MmUpRefIdeal.nD Cert.MmUpRefIdeal.τ).loc Cert.MmUpRefIdeal.main_arg1) = m' ((c.tc : Thread Cert.MmUpRefIdeal.nD Cert.MmUpRefIdeal.τ).loc Cert.MmUpRefIdeal.main_arg1))

def preserves_MmDown_MmDownIdeal : Prop :=
  True

def algebraic_MmDownIdeal_MmDownRefIdeal [hMmDownIdeal : Cert.MmDownIdeal.Facts] [hMmDownRefIdeal : Cert.MmDownRefIdeal.Facts] : Prop :=
  ∀ (m : (ℓ : Loc Cert.MmDownIdeal.nD Cert.MmDownIdeal.τ Cert.MmDownIdeal.sig) → Buf (Elt Ideal) ℓ) (g : Dev Cert.MmDownIdeal.nD → PrngReg)
    (m' : (ℓ : Loc Cert.MmDownRefIdeal.nD Cert.MmDownRefIdeal.τ Cert.MmDownRefIdeal.sig) → Buf (Elt Ideal) ℓ) (g' : Dev Cert.MmDownRefIdeal.nD → PrngReg), Pre_MmDownIdeal m →
    (∀ c : Dev Cert.MmDownIdeal.nD,
      m' ((c.tc : Thread Cert.MmDownRefIdeal.nD Cert.MmDownRefIdeal.τ).loc Cert.MmDownRefIdeal.main_arg0) = m ((c.tc : Thread Cert.MmDownIdeal.nD Cert.MmDownIdeal.τ).loc Cert.MmDownIdeal.main_arg0)
      ∧ m' ((c.tc : Thread Cert.MmDownRefIdeal.nD Cert.MmDownRefIdeal.τ).loc Cert.MmDownRefIdeal.main_arg1) = m ((c.tc : Thread Cert.MmDownIdeal.nD Cert.MmDownIdeal.τ).loc Cert.MmDownIdeal.main_arg1)
      ∧ m' ((c.tc : Thread Cert.MmDownRefIdeal.nD Cert.MmDownRefIdeal.τ).loc Cert.MmDownRefIdeal.main_arg2) = m ((c.tc : Thread Cert.MmDownIdeal.nD Cert.MmDownIdeal.τ).loc Cert.MmDownIdeal.main_arg2)) →
    ∃ (v0 : (c : Dev Cert.MmDownIdeal.nD) → Buf (Elt Ideal) ((c.tc : Thread Cert.MmDownIdeal.nD Cert.MmDownIdeal.τ).loc Cert.MmDownIdeal.main_v2)),
      θ_run (Cert.MmDownIdeal.defs (F := Ideal)) (onTc (τ := Cert.MmDownIdeal.τ) (Cert.MmDownIdeal.main (F := Ideal))) ⟨m, fun _ => 0, g⟩ (fun r => ∀ c : Dev Cert.MmDownIdeal.nD,
          r.2.mem ((c.tc : Thread Cert.MmDownIdeal.nD Cert.MmDownIdeal.τ).loc Cert.MmDownIdeal.main_v2) = v0 c
          ∧ r.2.mem ((c.tc : Thread Cert.MmDownIdeal.nD Cert.MmDownIdeal.τ).loc Cert.MmDownIdeal.main_arg0) = m ((c.tc : Thread Cert.MmDownIdeal.nD Cert.MmDownIdeal.τ).loc Cert.MmDownIdeal.main_arg0)
          ∧ r.2.mem ((c.tc : Thread Cert.MmDownIdeal.nD Cert.MmDownIdeal.τ).loc Cert.MmDownIdeal.main_arg1) = m ((c.tc : Thread Cert.MmDownIdeal.nD Cert.MmDownIdeal.τ).loc Cert.MmDownIdeal.main_arg1)
          ∧ r.2.mem ((c.tc : Thread Cert.MmDownIdeal.nD Cert.MmDownIdeal.τ).loc Cert.MmDownIdeal.main_arg2) = m ((c.tc : Thread Cert.MmDownIdeal.nD Cert.MmDownIdeal.τ).loc Cert.MmDownIdeal.main_arg2))
      ∧ θ_run (Cert.MmDownRefIdeal.defs (F := Ideal)) (onTc (τ := Cert.MmDownRefIdeal.τ) (Cert.MmDownRefIdeal.main (F := Ideal))) ⟨m', fun _ => 0, g'⟩ (fun r => ∀ c : Dev Cert.MmDownRefIdeal.nD,
          r.2.mem ((c.tc : Thread Cert.MmDownRefIdeal.nD Cert.MmDownRefIdeal.τ).loc Cert.MmDownRefIdeal.main_v1) = v0 c
          ∧ r.2.mem ((c.tc : Thread Cert.MmDownRefIdeal.nD Cert.MmDownRefIdeal.τ).loc Cert.MmDownRefIdeal.main_arg0) = m' ((c.tc : Thread Cert.MmDownRefIdeal.nD Cert.MmDownRefIdeal.τ).loc Cert.MmDownRefIdeal.main_arg0)
          ∧ r.2.mem ((c.tc : Thread Cert.MmDownRefIdeal.nD Cert.MmDownRefIdeal.τ).loc Cert.MmDownRefIdeal.main_arg1) = m' ((c.tc : Thread Cert.MmDownRefIdeal.nD Cert.MmDownRefIdeal.τ).loc Cert.MmDownRefIdeal.main_arg1)
          ∧ r.2.mem ((c.tc : Thread Cert.MmDownRefIdeal.nD Cert.MmDownRefIdeal.τ).loc Cert.MmDownRefIdeal.main_arg2) = m' ((c.tc : Thread Cert.MmDownRefIdeal.nD Cert.MmDownRefIdeal.τ).loc Cert.MmDownRefIdeal.main_arg2))

def preserves_MmIn_MmInIdeal : Prop :=
  True

def algebraic_MmInIdeal_MmInRefIdeal [hMmInIdeal : Cert.MmInIdeal.Facts] [hMmInRefIdeal : Cert.MmInRefIdeal.Facts] : Prop :=
  ∀ (m : (ℓ : Loc Cert.MmInIdeal.nD Cert.MmInIdeal.τ Cert.MmInIdeal.sig) → Buf (Elt Ideal) ℓ) (g : Dev Cert.MmInIdeal.nD → PrngReg)
    (m' : (ℓ : Loc Cert.MmInRefIdeal.nD Cert.MmInRefIdeal.τ Cert.MmInRefIdeal.sig) → Buf (Elt Ideal) ℓ) (g' : Dev Cert.MmInRefIdeal.nD → PrngReg), Pre_MmInIdeal m →
    (∀ c : Dev Cert.MmInIdeal.nD,
      m' ((c.tc : Thread Cert.MmInRefIdeal.nD Cert.MmInRefIdeal.τ).loc Cert.MmInRefIdeal.main_arg0) = m ((c.tc : Thread Cert.MmInIdeal.nD Cert.MmInIdeal.τ).loc Cert.MmInIdeal.main_arg0)
      ∧ m' ((c.tc : Thread Cert.MmInRefIdeal.nD Cert.MmInRefIdeal.τ).loc Cert.MmInRefIdeal.main_arg1) = m ((c.tc : Thread Cert.MmInIdeal.nD Cert.MmInIdeal.τ).loc Cert.MmInIdeal.main_arg1)) →
    ∃ (v0 : (c : Dev Cert.MmInIdeal.nD) → Buf (Elt Ideal) ((c.tc : Thread Cert.MmInIdeal.nD Cert.MmInIdeal.τ).loc Cert.MmInIdeal.main_v2)),
      θ_run (Cert.MmInIdeal.defs (F := Ideal)) (onTc (τ := Cert.MmInIdeal.τ) (Cert.MmInIdeal.main (F := Ideal))) ⟨m, fun _ => 0, g⟩ (fun r => ∀ c : Dev Cert.MmInIdeal.nD,
          r.2.mem ((c.tc : Thread Cert.MmInIdeal.nD Cert.MmInIdeal.τ).loc Cert.MmInIdeal.main_v2) = v0 c
          ∧ r.2.mem ((c.tc : Thread Cert.MmInIdeal.nD Cert.MmInIdeal.τ).loc Cert.MmInIdeal.main_arg0) = m ((c.tc : Thread Cert.MmInIdeal.nD Cert.MmInIdeal.τ).loc Cert.MmInIdeal.main_arg0)
          ∧ r.2.mem ((c.tc : Thread Cert.MmInIdeal.nD Cert.MmInIdeal.τ).loc Cert.MmInIdeal.main_arg1) = m ((c.tc : Thread Cert.MmInIdeal.nD Cert.MmInIdeal.τ).loc Cert.MmInIdeal.main_arg1))
      ∧ θ_run (Cert.MmInRefIdeal.defs (F := Ideal)) (onTc (τ := Cert.MmInRefIdeal.τ) (Cert.MmInRefIdeal.main (F := Ideal))) ⟨m', fun _ => 0, g'⟩ (fun r => ∀ c : Dev Cert.MmInRefIdeal.nD,
          r.2.mem ((c.tc : Thread Cert.MmInRefIdeal.nD Cert.MmInRefIdeal.τ).loc Cert.MmInRefIdeal.main_v0) = v0 c
          ∧ r.2.mem ((c.tc : Thread Cert.MmInRefIdeal.nD Cert.MmInRefIdeal.τ).loc Cert.MmInRefIdeal.main_arg0) = m' ((c.tc : Thread Cert.MmInRefIdeal.nD Cert.MmInRefIdeal.τ).loc Cert.MmInRefIdeal.main_arg0)
          ∧ r.2.mem ((c.tc : Thread Cert.MmInRefIdeal.nD Cert.MmInRefIdeal.τ).loc Cert.MmInRefIdeal.main_arg1) = m' ((c.tc : Thread Cert.MmInRefIdeal.nD Cert.MmInRefIdeal.τ).loc Cert.MmInRefIdeal.main_arg1))

def preserves_MmOut_MmOutIdeal : Prop :=
  True

def algebraic_MmOutIdeal_MmOutRefIdeal [hMmOutIdeal : Cert.MmOutIdeal.Facts] [hMmOutRefIdeal : Cert.MmOutRefIdeal.Facts] : Prop :=
  ∀ (m : (ℓ : Loc Cert.MmOutIdeal.nD Cert.MmOutIdeal.τ Cert.MmOutIdeal.sig) → Buf (Elt Ideal) ℓ) (g : Dev Cert.MmOutIdeal.nD → PrngReg)
    (m' : (ℓ : Loc Cert.MmOutRefIdeal.nD Cert.MmOutRefIdeal.τ Cert.MmOutRefIdeal.sig) → Buf (Elt Ideal) ℓ) (g' : Dev Cert.MmOutRefIdeal.nD → PrngReg), Pre_MmOutIdeal m →
    (∀ c : Dev Cert.MmOutIdeal.nD,
      m' ((c.tc : Thread Cert.MmOutRefIdeal.nD Cert.MmOutRefIdeal.τ).loc Cert.MmOutRefIdeal.main_arg0) = m ((c.tc : Thread Cert.MmOutIdeal.nD Cert.MmOutIdeal.τ).loc Cert.MmOutIdeal.main_arg0)
      ∧ m' ((c.tc : Thread Cert.MmOutRefIdeal.nD Cert.MmOutRefIdeal.τ).loc Cert.MmOutRefIdeal.main_arg1) = m ((c.tc : Thread Cert.MmOutIdeal.nD Cert.MmOutIdeal.τ).loc Cert.MmOutIdeal.main_arg1)
      ∧ m' ((c.tc : Thread Cert.MmOutRefIdeal.nD Cert.MmOutRefIdeal.τ).loc Cert.MmOutRefIdeal.main_arg2) = m ((c.tc : Thread Cert.MmOutIdeal.nD Cert.MmOutIdeal.τ).loc Cert.MmOutIdeal.main_arg2)) →
    ∃ (v0 : (c : Dev Cert.MmOutIdeal.nD) → Buf (Elt Ideal) ((c.tc : Thread Cert.MmOutIdeal.nD Cert.MmOutIdeal.τ).loc Cert.MmOutIdeal.main_v2)),
      θ_run (Cert.MmOutIdeal.defs (F := Ideal)) (onTc (τ := Cert.MmOutIdeal.τ) (Cert.MmOutIdeal.main (F := Ideal))) ⟨m, fun _ => 0, g⟩ (fun r => ∀ c : Dev Cert.MmOutIdeal.nD,
          r.2.mem ((c.tc : Thread Cert.MmOutIdeal.nD Cert.MmOutIdeal.τ).loc Cert.MmOutIdeal.main_v2) = v0 c
          ∧ r.2.mem ((c.tc : Thread Cert.MmOutIdeal.nD Cert.MmOutIdeal.τ).loc Cert.MmOutIdeal.main_arg0) = m ((c.tc : Thread Cert.MmOutIdeal.nD Cert.MmOutIdeal.τ).loc Cert.MmOutIdeal.main_arg0)
          ∧ r.2.mem ((c.tc : Thread Cert.MmOutIdeal.nD Cert.MmOutIdeal.τ).loc Cert.MmOutIdeal.main_arg1) = m ((c.tc : Thread Cert.MmOutIdeal.nD Cert.MmOutIdeal.τ).loc Cert.MmOutIdeal.main_arg1)
          ∧ r.2.mem ((c.tc : Thread Cert.MmOutIdeal.nD Cert.MmOutIdeal.τ).loc Cert.MmOutIdeal.main_arg2) = m ((c.tc : Thread Cert.MmOutIdeal.nD Cert.MmOutIdeal.τ).loc Cert.MmOutIdeal.main_arg2))
      ∧ θ_run (Cert.MmOutRefIdeal.defs (F := Ideal)) (onTc (τ := Cert.MmOutRefIdeal.τ) (Cert.MmOutRefIdeal.main (F := Ideal))) ⟨m', fun _ => 0, g'⟩ (fun r => ∀ c : Dev Cert.MmOutRefIdeal.nD,
          r.2.mem ((c.tc : Thread Cert.MmOutRefIdeal.nD Cert.MmOutRefIdeal.τ).loc Cert.MmOutRefIdeal.main_v1) = v0 c
          ∧ r.2.mem ((c.tc : Thread Cert.MmOutRefIdeal.nD Cert.MmOutRefIdeal.τ).loc Cert.MmOutRefIdeal.main_arg0) = m' ((c.tc : Thread Cert.MmOutRefIdeal.nD Cert.MmOutRefIdeal.τ).loc Cert.MmOutRefIdeal.main_arg0)
          ∧ r.2.mem ((c.tc : Thread Cert.MmOutRefIdeal.nD Cert.MmOutRefIdeal.τ).loc Cert.MmOutRefIdeal.main_arg1) = m' ((c.tc : Thread Cert.MmOutRefIdeal.nD Cert.MmOutRefIdeal.τ).loc Cert.MmOutRefIdeal.main_arg1)
          ∧ r.2.mem ((c.tc : Thread Cert.MmOutRefIdeal.nD Cert.MmOutRefIdeal.τ).loc Cert.MmOutRefIdeal.main_arg2) = m' ((c.tc : Thread Cert.MmOutRefIdeal.nD Cert.MmOutRefIdeal.τ).loc Cert.MmOutRefIdeal.main_arg2))

def preserves_MmGate_MmGateIdeal : Prop :=
  True

def algebraic_MmGateIdeal_MmGateRefIdeal [hMmGateIdeal : Cert.MmGateIdeal.Facts] [hMmGateRefIdeal : Cert.MmGateRefIdeal.Facts] : Prop :=
  ∀ (m : (ℓ : Loc Cert.MmGateIdeal.nD Cert.MmGateIdeal.τ Cert.MmGateIdeal.sig) → Buf (Elt Ideal) ℓ) (g : Dev Cert.MmGateIdeal.nD → PrngReg)
    (m' : (ℓ : Loc Cert.MmGateRefIdeal.nD Cert.MmGateRefIdeal.τ Cert.MmGateRefIdeal.sig) → Buf (Elt Ideal) ℓ) (g' : Dev Cert.MmGateRefIdeal.nD → PrngReg), Pre_MmGateIdeal m →
    (∀ c : Dev Cert.MmGateIdeal.nD,
      m' ((c.tc : Thread Cert.MmGateRefIdeal.nD Cert.MmGateRefIdeal.τ).loc Cert.MmGateRefIdeal.main_arg0) = m ((c.tc : Thread Cert.MmGateIdeal.nD Cert.MmGateIdeal.τ).loc Cert.MmGateIdeal.main_arg0)
      ∧ m' ((c.tc : Thread Cert.MmGateRefIdeal.nD Cert.MmGateRefIdeal.τ).loc Cert.MmGateRefIdeal.main_arg1) = m ((c.tc : Thread Cert.MmGateIdeal.nD Cert.MmGateIdeal.τ).loc Cert.MmGateIdeal.main_arg1)) →
    ∃ (v0 : (c : Dev Cert.MmGateIdeal.nD) → Buf (Elt Ideal) ((c.tc : Thread Cert.MmGateIdeal.nD Cert.MmGateIdeal.τ).loc Cert.MmGateIdeal.main_v2)),
      θ_run (Cert.MmGateIdeal.defs (F := Ideal)) (onTc (τ := Cert.MmGateIdeal.τ) (Cert.MmGateIdeal.main (F := Ideal))) ⟨m, fun _ => 0, g⟩ (fun r => ∀ c : Dev Cert.MmGateIdeal.nD,
          r.2.mem ((c.tc : Thread Cert.MmGateIdeal.nD Cert.MmGateIdeal.τ).loc Cert.MmGateIdeal.main_v2) = v0 c
          ∧ r.2.mem ((c.tc : Thread Cert.MmGateIdeal.nD Cert.MmGateIdeal.τ).loc Cert.MmGateIdeal.main_arg0) = m ((c.tc : Thread Cert.MmGateIdeal.nD Cert.MmGateIdeal.τ).loc Cert.MmGateIdeal.main_arg0)
          ∧ r.2.mem ((c.tc : Thread Cert.MmGateIdeal.nD Cert.MmGateIdeal.τ).loc Cert.MmGateIdeal.main_arg1) = m ((c.tc : Thread Cert.MmGateIdeal.nD Cert.MmGateIdeal.τ).loc Cert.MmGateIdeal.main_arg1))
      ∧ θ_run (Cert.MmGateRefIdeal.defs (F := Ideal)) (onTc (τ := Cert.MmGateRefIdeal.τ) (Cert.MmGateRefIdeal.main (F := Ideal))) ⟨m', fun _ => 0, g'⟩ (fun r => ∀ c : Dev Cert.MmGateRefIdeal.nD,
          r.2.mem ((c.tc : Thread Cert.MmGateRefIdeal.nD Cert.MmGateRefIdeal.τ).loc Cert.MmGateRefIdeal.main_v0) = v0 c
          ∧ r.2.mem ((c.tc : Thread Cert.MmGateRefIdeal.nD Cert.MmGateRefIdeal.τ).loc Cert.MmGateRefIdeal.main_arg0) = m' ((c.tc : Thread Cert.MmGateRefIdeal.nD Cert.MmGateRefIdeal.τ).loc Cert.MmGateRefIdeal.main_arg0)
          ∧ r.2.mem ((c.tc : Thread Cert.MmGateRefIdeal.nD Cert.MmGateRefIdeal.τ).loc Cert.MmGateRefIdeal.main_arg1) = m' ((c.tc : Thread Cert.MmGateRefIdeal.nD Cert.MmGateRefIdeal.τ).loc Cert.MmGateRefIdeal.main_arg1))

def preserves_MmProj_MmProjIdeal : Prop :=
  True

def algebraic_MmProjIdeal_MmProjRefIdeal [hMmProjIdeal : Cert.MmProjIdeal.Facts] [hMmProjRefIdeal : Cert.MmProjRefIdeal.Facts] : Prop :=
  ∀ (m : (ℓ : Loc Cert.MmProjIdeal.nD Cert.MmProjIdeal.τ Cert.MmProjIdeal.sig) → Buf (Elt Ideal) ℓ) (g : Dev Cert.MmProjIdeal.nD → PrngReg)
    (m' : (ℓ : Loc Cert.MmProjRefIdeal.nD Cert.MmProjRefIdeal.τ Cert.MmProjRefIdeal.sig) → Buf (Elt Ideal) ℓ) (g' : Dev Cert.MmProjRefIdeal.nD → PrngReg), Pre_MmProjIdeal m →
    (∀ c : Dev Cert.MmProjIdeal.nD,
      m' ((c.tc : Thread Cert.MmProjRefIdeal.nD Cert.MmProjRefIdeal.τ).loc Cert.MmProjRefIdeal.main_arg0) = m ((c.tc : Thread Cert.MmProjIdeal.nD Cert.MmProjIdeal.τ).loc Cert.MmProjIdeal.main_arg0)
      ∧ m' ((c.tc : Thread Cert.MmProjRefIdeal.nD Cert.MmProjRefIdeal.τ).loc Cert.MmProjRefIdeal.main_arg1) = m ((c.tc : Thread Cert.MmProjIdeal.nD Cert.MmProjIdeal.τ).loc Cert.MmProjIdeal.main_arg1)) →
    ∃ (v0 : (c : Dev Cert.MmProjIdeal.nD) → Buf (Elt Ideal) ((c.tc : Thread Cert.MmProjIdeal.nD Cert.MmProjIdeal.τ).loc Cert.MmProjIdeal.main_v2)),
      θ_run (Cert.MmProjIdeal.defs (F := Ideal)) (onTc (τ := Cert.MmProjIdeal.τ) (Cert.MmProjIdeal.main (F := Ideal))) ⟨m, fun _ => 0, g⟩ (fun r => ∀ c : Dev Cert.MmProjIdeal.nD,
          r.2.mem ((c.tc : Thread Cert.MmProjIdeal.nD Cert.MmProjIdeal.τ).loc Cert.MmProjIdeal.main_v2) = v0 c
          ∧ r.2.mem ((c.tc : Thread Cert.MmProjIdeal.nD Cert.MmProjIdeal.τ).loc Cert.MmProjIdeal.main_arg0) = m ((c.tc : Thread Cert.MmProjIdeal.nD Cert.MmProjIdeal.τ).loc Cert.MmProjIdeal.main_arg0)
          ∧ r.2.mem ((c.tc : Thread Cert.MmProjIdeal.nD Cert.MmProjIdeal.τ).loc Cert.MmProjIdeal.main_arg1) = m ((c.tc : Thread Cert.MmProjIdeal.nD Cert.MmProjIdeal.τ).loc Cert.MmProjIdeal.main_arg1))
      ∧ θ_run (Cert.MmProjRefIdeal.defs (F := Ideal)) (onTc (τ := Cert.MmProjRefIdeal.τ) (Cert.MmProjRefIdeal.main (F := Ideal))) ⟨m', fun _ => 0, g'⟩ (fun r => ∀ c : Dev Cert.MmProjRefIdeal.nD,
          r.2.mem ((c.tc : Thread Cert.MmProjRefIdeal.nD Cert.MmProjRefIdeal.τ).loc Cert.MmProjRefIdeal.main_v0) = v0 c
          ∧ r.2.mem ((c.tc : Thread Cert.MmProjRefIdeal.nD Cert.MmProjRefIdeal.τ).loc Cert.MmProjRefIdeal.main_arg0) = m' ((c.tc : Thread Cert.MmProjRefIdeal.nD Cert.MmProjRefIdeal.τ).loc Cert.MmProjRefIdeal.main_arg0)
          ∧ r.2.mem ((c.tc : Thread Cert.MmProjRefIdeal.nD Cert.MmProjRefIdeal.τ).loc Cert.MmProjRefIdeal.main_arg1) = m' ((c.tc : Thread Cert.MmProjRefIdeal.nD Cert.MmProjRefIdeal.τ).loc Cert.MmProjRefIdeal.main_arg1))

def preserves_PleB_PleBIdeal : Prop :=
  True

def algebraic_PleBIdeal_PleBRefIdeal [hPleBIdeal : Cert.PleBIdeal.Facts] [hPleBRefIdeal : Cert.PleBRefIdeal.Facts] : Prop :=
  ∀ (m : (ℓ : Loc Cert.PleBIdeal.nD Cert.PleBIdeal.τ Cert.PleBIdeal.sig) → Buf (Elt Ideal) ℓ) (g : Dev Cert.PleBIdeal.nD → PrngReg)
    (m' : (ℓ : Loc Cert.PleBRefIdeal.nD Cert.PleBRefIdeal.τ Cert.PleBRefIdeal.sig) → Buf (Elt Ideal) ℓ) (g' : Dev Cert.PleBRefIdeal.nD → PrngReg), Pre_PleBIdeal m →
    (∀ c : Dev Cert.PleBIdeal.nD,
      m' ((c.tc : Thread Cert.PleBRefIdeal.nD Cert.PleBRefIdeal.τ).loc Cert.PleBRefIdeal.main_arg0) = m ((c.tc : Thread Cert.PleBIdeal.nD Cert.PleBIdeal.τ).loc Cert.PleBIdeal.main_arg0)
      ∧ m' ((c.tc : Thread Cert.PleBRefIdeal.nD Cert.PleBRefIdeal.τ).loc Cert.PleBRefIdeal.main_arg1) = m ((c.tc : Thread Cert.PleBIdeal.nD Cert.PleBIdeal.τ).loc Cert.PleBIdeal.main_arg1)
      ∧ m' ((c.tc : Thread Cert.PleBRefIdeal.nD Cert.PleBRefIdeal.τ).loc Cert.PleBRefIdeal.main_arg2) = m ((c.tc : Thread Cert.PleBIdeal.nD Cert.PleBIdeal.τ).loc Cert.PleBIdeal.main_arg2)) →
    ∃ (v0 : (c : Dev Cert.PleBIdeal.nD) → Buf (Elt Ideal) ((c.tc : Thread Cert.PleBIdeal.nD Cert.PleBIdeal.τ).loc Cert.PleBIdeal.main_v0_0)) (v1 : (c : Dev Cert.PleBIdeal.nD) → Buf (Elt Ideal) ((c.tc : Thread Cert.PleBIdeal.nD Cert.PleBIdeal.τ).loc Cert.PleBIdeal.main_v0_1)),
      θ_run (Cert.PleBIdeal.defs (F := Ideal)) (onTc (τ := Cert.PleBIdeal.τ) (Cert.PleBIdeal.main (F := Ideal))) ⟨m, fun _ => 0, g⟩ (fun r => ∀ c : Dev Cert.PleBIdeal.nD,
          r.2.mem ((c.tc : Thread Cert.PleBIdeal.nD Cert.PleBIdeal.τ).loc Cert.PleBIdeal.main_v0_0) = v0 c
          ∧ r.2.mem ((c.tc : Thread Cert.PleBIdeal.nD Cert.PleBIdeal.τ).loc Cert.PleBIdeal.main_v0_1) = v1 c
          ∧ r.2.mem ((c.tc : Thread Cert.PleBIdeal.nD Cert.PleBIdeal.τ).loc Cert.PleBIdeal.main_arg0) = m ((c.tc : Thread Cert.PleBIdeal.nD Cert.PleBIdeal.τ).loc Cert.PleBIdeal.main_arg0)
          ∧ r.2.mem ((c.tc : Thread Cert.PleBIdeal.nD Cert.PleBIdeal.τ).loc Cert.PleBIdeal.main_arg1) = m ((c.tc : Thread Cert.PleBIdeal.nD Cert.PleBIdeal.τ).loc Cert.PleBIdeal.main_arg1)
          ∧ r.2.mem ((c.tc : Thread Cert.PleBIdeal.nD Cert.PleBIdeal.τ).loc Cert.PleBIdeal.main_arg2) = m ((c.tc : Thread Cert.PleBIdeal.nD Cert.PleBIdeal.τ).loc Cert.PleBIdeal.main_arg2))
      ∧ θ_run (Cert.PleBRefIdeal.defs (F := Ideal)) (onTc (τ := Cert.PleBRefIdeal.τ) (Cert.PleBRefIdeal.main (F := Ideal))) ⟨m', fun _ => 0, g'⟩ (fun r => ∀ c : Dev Cert.PleBRefIdeal.nD,
          r.2.mem ((c.tc : Thread Cert.PleBRefIdeal.nD Cert.PleBRefIdeal.τ).loc Cert.PleBRefIdeal.main_v13) = v0 c
          ∧ r.2.mem ((c.tc : Thread Cert.PleBRefIdeal.nD Cert.PleBRefIdeal.τ).loc Cert.PleBRefIdeal.main_v14) = v1 c
          ∧ r.2.mem ((c.tc : Thread Cert.PleBRefIdeal.nD Cert.PleBRefIdeal.τ).loc Cert.PleBRefIdeal.main_arg0) = m' ((c.tc : Thread Cert.PleBRefIdeal.nD Cert.PleBRefIdeal.τ).loc Cert.PleBRefIdeal.main_arg0)
          ∧ r.2.mem ((c.tc : Thread Cert.PleBRefIdeal.nD Cert.PleBRefIdeal.τ).loc Cert.PleBRefIdeal.main_arg1) = m' ((c.tc : Thread Cert.PleBRefIdeal.nD Cert.PleBRefIdeal.τ).loc Cert.PleBRefIdeal.main_arg1)
          ∧ r.2.mem ((c.tc : Thread Cert.PleBRefIdeal.nD Cert.PleBRefIdeal.τ).loc Cert.PleBRefIdeal.main_arg2) = m' ((c.tc : Thread Cert.PleBRefIdeal.nD Cert.PleBRefIdeal.τ).loc Cert.PleBRefIdeal.main_arg2))

def preserves_GnormB_GnormBIdeal : Prop :=
  True

def algebraic_GnormBIdeal_GnormBRefIdeal [hGnormBIdeal : Cert.GnormBIdeal.Facts] [hGnormBRefIdeal : Cert.GnormBRefIdeal.Facts] : Prop :=
  ∀ (m : (ℓ : Loc Cert.GnormBIdeal.nD Cert.GnormBIdeal.τ Cert.GnormBIdeal.sig) → Buf (Elt Ideal) ℓ) (g : Dev Cert.GnormBIdeal.nD → PrngReg)
    (m' : (ℓ : Loc Cert.GnormBRefIdeal.nD Cert.GnormBRefIdeal.τ Cert.GnormBRefIdeal.sig) → Buf (Elt Ideal) ℓ) (g' : Dev Cert.GnormBRefIdeal.nD → PrngReg), Pre_GnormBIdeal m →
    (∀ c : Dev Cert.GnormBIdeal.nD,
      m' ((c.tc : Thread Cert.GnormBRefIdeal.nD Cert.GnormBRefIdeal.τ).loc Cert.GnormBRefIdeal.main_arg0) = m ((c.tc : Thread Cert.GnormBIdeal.nD Cert.GnormBIdeal.τ).loc Cert.GnormBIdeal.main_arg0)
      ∧ m' ((c.tc : Thread Cert.GnormBRefIdeal.nD Cert.GnormBRefIdeal.τ).loc Cert.GnormBRefIdeal.main_arg1) = m ((c.tc : Thread Cert.GnormBIdeal.nD Cert.GnormBIdeal.τ).loc Cert.GnormBIdeal.main_arg1)
      ∧ m' ((c.tc : Thread Cert.GnormBRefIdeal.nD Cert.GnormBRefIdeal.τ).loc Cert.GnormBRefIdeal.main_arg2) = m ((c.tc : Thread Cert.GnormBIdeal.nD Cert.GnormBIdeal.τ).loc Cert.GnormBIdeal.main_arg2)
      ∧ m' ((c.tc : Thread Cert.GnormBRefIdeal.nD Cert.GnormBRefIdeal.τ).loc Cert.GnormBRefIdeal.main_arg3) = m ((c.tc : Thread Cert.GnormBIdeal.nD Cert.GnormBIdeal.τ).loc Cert.GnormBIdeal.main_arg3)
      ∧ m' ((c.tc : Thread Cert.GnormBRefIdeal.nD Cert.GnormBRefIdeal.τ).loc Cert.GnormBRefIdeal.main_arg4) = m ((c.tc : Thread Cert.GnormBIdeal.nD Cert.GnormBIdeal.τ).loc Cert.GnormBIdeal.main_arg4)
      ∧ m' ((c.tc : Thread Cert.GnormBRefIdeal.nD Cert.GnormBRefIdeal.τ).loc Cert.GnormBRefIdeal.main_arg5) = m ((c.tc : Thread Cert.GnormBIdeal.nD Cert.GnormBIdeal.τ).loc Cert.GnormBIdeal.main_arg5)) →
    ∃ (v0 : (c : Dev Cert.GnormBIdeal.nD) → Buf (Elt Ideal) ((c.tc : Thread Cert.GnormBIdeal.nD Cert.GnormBIdeal.τ).loc Cert.GnormBIdeal.main_v1_0)) (v1 : (c : Dev Cert.GnormBIdeal.nD) → Buf (Elt Ideal) ((c.tc : Thread Cert.GnormBIdeal.nD Cert.GnormBIdeal.τ).loc Cert.GnormBIdeal.main_v1_1)) (v2 : (c : Dev Cert.GnormBIdeal.nD) → Buf (Elt Ideal) ((c.tc : Thread Cert.GnormBIdeal.nD Cert.GnormBIdeal.τ).loc Cert.GnormBIdeal.main_v1_2)) (v3 : (c : Dev Cert.GnormBIdeal.nD) → Buf (Elt Ideal) ((c.tc : Thread Cert.GnormBIdeal.nD Cert.GnormBIdeal.τ).loc Cert.GnormBIdeal.main_v1_3)) (v4 : (c : Dev Cert.GnormBIdeal.nD) → Buf (Elt Ideal) ((c.tc : Thread Cert.GnormBIdeal.nD Cert.GnormBIdeal.τ).loc Cert.GnormBIdeal.main_v1_4)),
      θ_run (Cert.GnormBIdeal.defs (F := Ideal)) (onTc (τ := Cert.GnormBIdeal.τ) (Cert.GnormBIdeal.main (F := Ideal))) ⟨m, fun _ => 0, g⟩ (fun r => ∀ c : Dev Cert.GnormBIdeal.nD,
          r.2.mem ((c.tc : Thread Cert.GnormBIdeal.nD Cert.GnormBIdeal.τ).loc Cert.GnormBIdeal.main_v1_0) = v0 c
          ∧ r.2.mem ((c.tc : Thread Cert.GnormBIdeal.nD Cert.GnormBIdeal.τ).loc Cert.GnormBIdeal.main_v1_1) = v1 c
          ∧ r.2.mem ((c.tc : Thread Cert.GnormBIdeal.nD Cert.GnormBIdeal.τ).loc Cert.GnormBIdeal.main_v1_2) = v2 c
          ∧ r.2.mem ((c.tc : Thread Cert.GnormBIdeal.nD Cert.GnormBIdeal.τ).loc Cert.GnormBIdeal.main_v1_3) = v3 c
          ∧ r.2.mem ((c.tc : Thread Cert.GnormBIdeal.nD Cert.GnormBIdeal.τ).loc Cert.GnormBIdeal.main_v1_4) = v4 c
          ∧ r.2.mem ((c.tc : Thread Cert.GnormBIdeal.nD Cert.GnormBIdeal.τ).loc Cert.GnormBIdeal.main_arg0) = m ((c.tc : Thread Cert.GnormBIdeal.nD Cert.GnormBIdeal.τ).loc Cert.GnormBIdeal.main_arg0)
          ∧ r.2.mem ((c.tc : Thread Cert.GnormBIdeal.nD Cert.GnormBIdeal.τ).loc Cert.GnormBIdeal.main_arg1) = m ((c.tc : Thread Cert.GnormBIdeal.nD Cert.GnormBIdeal.τ).loc Cert.GnormBIdeal.main_arg1)
          ∧ r.2.mem ((c.tc : Thread Cert.GnormBIdeal.nD Cert.GnormBIdeal.τ).loc Cert.GnormBIdeal.main_arg2) = m ((c.tc : Thread Cert.GnormBIdeal.nD Cert.GnormBIdeal.τ).loc Cert.GnormBIdeal.main_arg2)
          ∧ r.2.mem ((c.tc : Thread Cert.GnormBIdeal.nD Cert.GnormBIdeal.τ).loc Cert.GnormBIdeal.main_arg3) = m ((c.tc : Thread Cert.GnormBIdeal.nD Cert.GnormBIdeal.τ).loc Cert.GnormBIdeal.main_arg3)
          ∧ r.2.mem ((c.tc : Thread Cert.GnormBIdeal.nD Cert.GnormBIdeal.τ).loc Cert.GnormBIdeal.main_arg4) = m ((c.tc : Thread Cert.GnormBIdeal.nD Cert.GnormBIdeal.τ).loc Cert.GnormBIdeal.main_arg4)
          ∧ r.2.mem ((c.tc : Thread Cert.GnormBIdeal.nD Cert.GnormBIdeal.τ).loc Cert.GnormBIdeal.main_arg5) = m ((c.tc : Thread Cert.GnormBIdeal.nD Cert.GnormBIdeal.τ).loc Cert.GnormBIdeal.main_arg5))
      ∧ θ_run (Cert.GnormBRefIdeal.defs (F := Ideal)) (onTc (τ := Cert.GnormBRefIdeal.τ) (Cert.GnormBRefIdeal.main (F := Ideal))) ⟨m', fun _ => 0, g'⟩ (fun r => ∀ c : Dev Cert.GnormBRefIdeal.nD,
          r.2.mem ((c.tc : Thread Cert.GnormBRefIdeal.nD Cert.GnormBRefIdeal.τ).loc Cert.GnormBRefIdeal.main_v164) = v0 c
          ∧ r.2.mem ((c.tc : Thread Cert.GnormBRefIdeal.nD Cert.GnormBRefIdeal.τ).loc Cert.GnormBRefIdeal.main_v141) = v1 c
          ∧ r.2.mem ((c.tc : Thread Cert.GnormBRefIdeal.nD Cert.GnormBRefIdeal.τ).loc Cert.GnormBRefIdeal.main_v118) = v2 c
          ∧ r.2.mem ((c.tc : Thread Cert.GnormBRefIdeal.nD Cert.GnormBRefIdeal.τ).loc Cert.GnormBRefIdeal.main_v96) = v3 c
          ∧ r.2.mem ((c.tc : Thread Cert.GnormBRefIdeal.nD Cert.GnormBRefIdeal.τ).loc Cert.GnormBRefIdeal.main_v168) = v4 c
          ∧ r.2.mem ((c.tc : Thread Cert.GnormBRefIdeal.nD Cert.GnormBRefIdeal.τ).loc Cert.GnormBRefIdeal.main_arg0) = m' ((c.tc : Thread Cert.GnormBRefIdeal.nD Cert.GnormBRefIdeal.τ).loc Cert.GnormBRefIdeal.main_arg0)
          ∧ r.2.mem ((c.tc : Thread Cert.GnormBRefIdeal.nD Cert.GnormBRefIdeal.τ).loc Cert.GnormBRefIdeal.main_arg1) = m' ((c.tc : Thread Cert.GnormBRefIdeal.nD Cert.GnormBRefIdeal.τ).loc Cert.GnormBRefIdeal.main_arg1)
          ∧ r.2.mem ((c.tc : Thread Cert.GnormBRefIdeal.nD Cert.GnormBRefIdeal.τ).loc Cert.GnormBRefIdeal.main_arg2) = m' ((c.tc : Thread Cert.GnormBRefIdeal.nD Cert.GnormBRefIdeal.τ).loc Cert.GnormBRefIdeal.main_arg2)
          ∧ r.2.mem ((c.tc : Thread Cert.GnormBRefIdeal.nD Cert.GnormBRefIdeal.τ).loc Cert.GnormBRefIdeal.main_arg3) = m' ((c.tc : Thread Cert.GnormBRefIdeal.nD Cert.GnormBRefIdeal.τ).loc Cert.GnormBRefIdeal.main_arg3)
          ∧ r.2.mem ((c.tc : Thread Cert.GnormBRefIdeal.nD Cert.GnormBRefIdeal.τ).loc Cert.GnormBRefIdeal.main_arg4) = m' ((c.tc : Thread Cert.GnormBRefIdeal.nD Cert.GnormBRefIdeal.τ).loc Cert.GnormBRefIdeal.main_arg4)
          ∧ r.2.mem ((c.tc : Thread Cert.GnormBRefIdeal.nD Cert.GnormBRefIdeal.τ).loc Cert.GnormBRefIdeal.main_arg5) = m' ((c.tc : Thread Cert.GnormBRefIdeal.nD Cert.GnormBRefIdeal.τ).loc Cert.GnormBRefIdeal.main_arg5))

def preserves_AttnF_AttnFIdeal : Prop :=
  True

def algebraic_AttnFIdeal_AttnFRefIdeal_pre_finite_scores [hAttnFIdeal : Cert.AttnFIdeal.Facts] [hAttnFRefIdeal : Cert.AttnFRefIdeal.Facts] [hPre_finite_scores : Cert.Pre_finite_scores.Facts] : Prop :=
  ∀ (m : (ℓ : Loc Cert.AttnFIdeal.nD Cert.AttnFIdeal.τ Cert.AttnFIdeal.sig) → Buf (Elt Ideal) ℓ) (g : Dev Cert.AttnFIdeal.nD → PrngReg)
    (m' : (ℓ : Loc Cert.AttnFRefIdeal.nD Cert.AttnFRefIdeal.τ Cert.AttnFRefIdeal.sig) → Buf (Elt Ideal) ℓ) (g' : Dev Cert.AttnFRefIdeal.nD → PrngReg), Pre_AttnFIdeal_finite_scores m →
    (∀ c : Dev Cert.AttnFIdeal.nD,
      m' ((c.tc : Thread Cert.AttnFRefIdeal.nD Cert.AttnFRefIdeal.τ).loc Cert.AttnFRefIdeal.main_arg0) = m ((c.tc : Thread Cert.AttnFIdeal.nD Cert.AttnFIdeal.τ).loc Cert.AttnFIdeal.main_arg0)
      ∧ m' ((c.tc : Thread Cert.AttnFRefIdeal.nD Cert.AttnFRefIdeal.τ).loc Cert.AttnFRefIdeal.main_arg1) = m ((c.tc : Thread Cert.AttnFIdeal.nD Cert.AttnFIdeal.τ).loc Cert.AttnFIdeal.main_arg1)
      ∧ m' ((c.tc : Thread Cert.AttnFRefIdeal.nD Cert.AttnFRefIdeal.τ).loc Cert.AttnFRefIdeal.main_arg2) = m ((c.tc : Thread Cert.AttnFIdeal.nD Cert.AttnFIdeal.τ).loc Cert.AttnFIdeal.main_arg2)) →
    ∃ (v0 : (c : Dev Cert.AttnFIdeal.nD) → Buf (Elt Ideal) ((c.tc : Thread Cert.AttnFIdeal.nD Cert.AttnFIdeal.τ).loc Cert.AttnFIdeal.main_v8_0)) (v1 : (c : Dev Cert.AttnFIdeal.nD) → Buf (Elt Ideal) ((c.tc : Thread Cert.AttnFIdeal.nD Cert.AttnFIdeal.τ).loc Cert.AttnFIdeal.main_v8_1)),
      θ_run (Cert.AttnFIdeal.defs (F := Ideal)) (onTc (τ := Cert.AttnFIdeal.τ) (Cert.AttnFIdeal.main (F := Ideal))) ⟨m, fun _ => 0, g⟩ (fun r => ∀ c : Dev Cert.AttnFIdeal.nD,
          r.2.mem ((c.tc : Thread Cert.AttnFIdeal.nD Cert.AttnFIdeal.τ).loc Cert.AttnFIdeal.main_v8_0) = v0 c
          ∧ r.2.mem ((c.tc : Thread Cert.AttnFIdeal.nD Cert.AttnFIdeal.τ).loc Cert.AttnFIdeal.main_v8_1) = v1 c
          ∧ r.2.mem ((c.tc : Thread Cert.AttnFIdeal.nD Cert.AttnFIdeal.τ).loc Cert.AttnFIdeal.main_arg0) = m ((c.tc : Thread Cert.AttnFIdeal.nD Cert.AttnFIdeal.τ).loc Cert.AttnFIdeal.main_arg0)
          ∧ r.2.mem ((c.tc : Thread Cert.AttnFIdeal.nD Cert.AttnFIdeal.τ).loc Cert.AttnFIdeal.main_arg1) = m ((c.tc : Thread Cert.AttnFIdeal.nD Cert.AttnFIdeal.τ).loc Cert.AttnFIdeal.main_arg1)
          ∧ r.2.mem ((c.tc : Thread Cert.AttnFIdeal.nD Cert.AttnFIdeal.τ).loc Cert.AttnFIdeal.main_arg2) = m ((c.tc : Thread Cert.AttnFIdeal.nD Cert.AttnFIdeal.τ).loc Cert.AttnFIdeal.main_arg2))
      ∧ θ_run (Cert.AttnFRefIdeal.defs (F := Ideal)) (onTc (τ := Cert.AttnFRefIdeal.τ) (Cert.AttnFRefIdeal.main (F := Ideal))) ⟨m', fun _ => 0, g'⟩ (fun r => ∀ c : Dev Cert.AttnFRefIdeal.nD,
          r.2.mem ((c.tc : Thread Cert.AttnFRefIdeal.nD Cert.AttnFRefIdeal.τ).loc Cert.AttnFRefIdeal.main_v29) = v0 c
          ∧ r.2.mem ((c.tc : Thread Cert.AttnFRefIdeal.nD Cert.AttnFRefIdeal.τ).loc Cert.AttnFRefIdeal.main_v31) = v1 c
          ∧ r.2.mem ((c.tc : Thread Cert.AttnFRefIdeal.nD Cert.AttnFRefIdeal.τ).loc Cert.AttnFRefIdeal.main_arg0) = m' ((c.tc : Thread Cert.AttnFRefIdeal.nD Cert.AttnFRefIdeal.τ).loc Cert.AttnFRefIdeal.main_arg0)
          ∧ r.2.mem ((c.tc : Thread Cert.AttnFRefIdeal.nD Cert.AttnFRefIdeal.τ).loc Cert.AttnFRefIdeal.main_arg1) = m' ((c.tc : Thread Cert.AttnFRefIdeal.nD Cert.AttnFRefIdeal.τ).loc Cert.AttnFRefIdeal.main_arg1)
          ∧ r.2.mem ((c.tc : Thread Cert.AttnFRefIdeal.nD Cert.AttnFRefIdeal.τ).loc Cert.AttnFRefIdeal.main_arg2) = m' ((c.tc : Thread Cert.AttnFRefIdeal.nD Cert.AttnFRefIdeal.τ).loc Cert.AttnFRefIdeal.main_arg2))

def preserves_MixB_MixBIdeal : Prop :=
  True

def algebraic_MixBIdeal_MixBRefIdeal_pre_finite_sums [hMixBIdeal : Cert.MixBIdeal.Facts] [hMixBRefIdeal : Cert.MixBRefIdeal.Facts] [hPre_finite_sums : Cert.Pre_finite_sums.Facts] : Prop :=
  ∀ (m : (ℓ : Loc Cert.MixBIdeal.nD Cert.MixBIdeal.τ Cert.MixBIdeal.sig) → Buf (Elt Ideal) ℓ) (g : Dev Cert.MixBIdeal.nD → PrngReg)
    (m' : (ℓ : Loc Cert.MixBRefIdeal.nD Cert.MixBRefIdeal.τ Cert.MixBRefIdeal.sig) → Buf (Elt Ideal) ℓ) (g' : Dev Cert.MixBRefIdeal.nD → PrngReg), Pre_MixBIdeal_finite_sums m →
    (∀ c : Dev Cert.MixBIdeal.nD,
      m' ((c.tc : Thread Cert.MixBRefIdeal.nD Cert.MixBRefIdeal.τ).loc Cert.MixBRefIdeal.main_arg0) = m ((c.tc : Thread Cert.MixBIdeal.nD Cert.MixBIdeal.τ).loc Cert.MixBIdeal.main_arg0)
      ∧ m' ((c.tc : Thread Cert.MixBRefIdeal.nD Cert.MixBRefIdeal.τ).loc Cert.MixBRefIdeal.main_arg1) = m ((c.tc : Thread Cert.MixBIdeal.nD Cert.MixBIdeal.τ).loc Cert.MixBIdeal.main_arg1)
      ∧ m' ((c.tc : Thread Cert.MixBRefIdeal.nD Cert.MixBRefIdeal.τ).loc Cert.MixBRefIdeal.main_arg2) = m ((c.tc : Thread Cert.MixBIdeal.nD Cert.MixBIdeal.τ).loc Cert.MixBIdeal.main_arg2)
      ∧ m' ((c.tc : Thread Cert.MixBRefIdeal.nD Cert.MixBRefIdeal.τ).loc Cert.MixBRefIdeal.main_arg3) = m ((c.tc : Thread Cert.MixBIdeal.nD Cert.MixBIdeal.τ).loc Cert.MixBIdeal.main_arg3)
      ∧ m' ((c.tc : Thread Cert.MixBRefIdeal.nD Cert.MixBRefIdeal.τ).loc Cert.MixBRefIdeal.main_arg4) = m ((c.tc : Thread Cert.MixBIdeal.nD Cert.MixBIdeal.τ).loc Cert.MixBIdeal.main_arg4)
      ∧ m' ((c.tc : Thread Cert.MixBRefIdeal.nD Cert.MixBRefIdeal.τ).loc Cert.MixBRefIdeal.main_arg5) = m ((c.tc : Thread Cert.MixBIdeal.nD Cert.MixBIdeal.τ).loc Cert.MixBIdeal.main_arg5)
      ∧ m' ((c.tc : Thread Cert.MixBRefIdeal.nD Cert.MixBRefIdeal.τ).loc Cert.MixBRefIdeal.main_arg6) = m ((c.tc : Thread Cert.MixBIdeal.nD Cert.MixBIdeal.τ).loc Cert.MixBIdeal.main_arg6)) →
    ∃ (v0 : (c : Dev Cert.MixBIdeal.nD) → Buf (Elt Ideal) ((c.tc : Thread Cert.MixBIdeal.nD Cert.MixBIdeal.τ).loc Cert.MixBIdeal.main_v12_0)) (v1 : (c : Dev Cert.MixBIdeal.nD) → Buf (Elt Ideal) ((c.tc : Thread Cert.MixBIdeal.nD Cert.MixBIdeal.τ).loc Cert.MixBIdeal.main_v12_1)) (v2 : (c : Dev Cert.MixBIdeal.nD) → Buf (Elt Ideal) ((c.tc : Thread Cert.MixBIdeal.nD Cert.MixBIdeal.τ).loc Cert.MixBIdeal.main_v12_2)) (v3 : (c : Dev Cert.MixBIdeal.nD) → Buf (Elt Ideal) ((c.tc : Thread Cert.MixBIdeal.nD Cert.MixBIdeal.τ).loc Cert.MixBIdeal.main_v12_3)) (v4 : (c : Dev Cert.MixBIdeal.nD) → Buf (Elt Ideal) ((c.tc : Thread Cert.MixBIdeal.nD Cert.MixBIdeal.τ).loc Cert.MixBIdeal.main_v12_4)) (v5 : (c : Dev Cert.MixBIdeal.nD) → Buf (Elt Ideal) ((c.tc : Thread Cert.MixBIdeal.nD Cert.MixBIdeal.τ).loc Cert.MixBIdeal.main_v12_5)),
      θ_run (Cert.MixBIdeal.defs (F := Ideal)) (onTc (τ := Cert.MixBIdeal.τ) (Cert.MixBIdeal.main (F := Ideal))) ⟨m, fun _ => 0, g⟩ (fun r => ∀ c : Dev Cert.MixBIdeal.nD,
          r.2.mem ((c.tc : Thread Cert.MixBIdeal.nD Cert.MixBIdeal.τ).loc Cert.MixBIdeal.main_v12_0) = v0 c
          ∧ r.2.mem ((c.tc : Thread Cert.MixBIdeal.nD Cert.MixBIdeal.τ).loc Cert.MixBIdeal.main_v12_1) = v1 c
          ∧ r.2.mem ((c.tc : Thread Cert.MixBIdeal.nD Cert.MixBIdeal.τ).loc Cert.MixBIdeal.main_v12_2) = v2 c
          ∧ r.2.mem ((c.tc : Thread Cert.MixBIdeal.nD Cert.MixBIdeal.τ).loc Cert.MixBIdeal.main_v12_3) = v3 c
          ∧ r.2.mem ((c.tc : Thread Cert.MixBIdeal.nD Cert.MixBIdeal.τ).loc Cert.MixBIdeal.main_v12_4) = v4 c
          ∧ r.2.mem ((c.tc : Thread Cert.MixBIdeal.nD Cert.MixBIdeal.τ).loc Cert.MixBIdeal.main_v12_5) = v5 c
          ∧ r.2.mem ((c.tc : Thread Cert.MixBIdeal.nD Cert.MixBIdeal.τ).loc Cert.MixBIdeal.main_arg0) = m ((c.tc : Thread Cert.MixBIdeal.nD Cert.MixBIdeal.τ).loc Cert.MixBIdeal.main_arg0)
          ∧ r.2.mem ((c.tc : Thread Cert.MixBIdeal.nD Cert.MixBIdeal.τ).loc Cert.MixBIdeal.main_arg1) = m ((c.tc : Thread Cert.MixBIdeal.nD Cert.MixBIdeal.τ).loc Cert.MixBIdeal.main_arg1)
          ∧ r.2.mem ((c.tc : Thread Cert.MixBIdeal.nD Cert.MixBIdeal.τ).loc Cert.MixBIdeal.main_arg2) = m ((c.tc : Thread Cert.MixBIdeal.nD Cert.MixBIdeal.τ).loc Cert.MixBIdeal.main_arg2)
          ∧ r.2.mem ((c.tc : Thread Cert.MixBIdeal.nD Cert.MixBIdeal.τ).loc Cert.MixBIdeal.main_arg3) = m ((c.tc : Thread Cert.MixBIdeal.nD Cert.MixBIdeal.τ).loc Cert.MixBIdeal.main_arg3)
          ∧ r.2.mem ((c.tc : Thread Cert.MixBIdeal.nD Cert.MixBIdeal.τ).loc Cert.MixBIdeal.main_arg4) = m ((c.tc : Thread Cert.MixBIdeal.nD Cert.MixBIdeal.τ).loc Cert.MixBIdeal.main_arg4)
          ∧ r.2.mem ((c.tc : Thread Cert.MixBIdeal.nD Cert.MixBIdeal.τ).loc Cert.MixBIdeal.main_arg5) = m ((c.tc : Thread Cert.MixBIdeal.nD Cert.MixBIdeal.τ).loc Cert.MixBIdeal.main_arg5)
          ∧ r.2.mem ((c.tc : Thread Cert.MixBIdeal.nD Cert.MixBIdeal.τ).loc Cert.MixBIdeal.main_arg6) = m ((c.tc : Thread Cert.MixBIdeal.nD Cert.MixBIdeal.τ).loc Cert.MixBIdeal.main_arg6))
      ∧ θ_run (Cert.MixBRefIdeal.defs (F := Ideal)) (onTc (τ := Cert.MixBRefIdeal.τ) (Cert.MixBRefIdeal.main (F := Ideal))) ⟨m', fun _ => 0, g'⟩ (fun r => ∀ c : Dev Cert.MixBRefIdeal.nD,
          r.2.mem ((c.tc : Thread Cert.MixBRefIdeal.nD Cert.MixBRefIdeal.τ).loc Cert.MixBRefIdeal.main_v73) = v0 c
          ∧ r.2.mem ((c.tc : Thread Cert.MixBRefIdeal.nD Cert.MixBRefIdeal.τ).loc Cert.MixBRefIdeal.main_v74) = v1 c
          ∧ r.2.mem ((c.tc : Thread Cert.MixBRefIdeal.nD Cert.MixBRefIdeal.τ).loc Cert.MixBRefIdeal.main_v75) = v2 c
          ∧ r.2.mem ((c.tc : Thread Cert.MixBRefIdeal.nD Cert.MixBRefIdeal.τ).loc Cert.MixBRefIdeal.main_v78) = v3 c
          ∧ r.2.mem ((c.tc : Thread Cert.MixBRefIdeal.nD Cert.MixBRefIdeal.τ).loc Cert.MixBRefIdeal.main_v81) = v4 c
          ∧ r.2.mem ((c.tc : Thread Cert.MixBRefIdeal.nD Cert.MixBRefIdeal.τ).loc Cert.MixBRefIdeal.main_v84) = v5 c
          ∧ r.2.mem ((c.tc : Thread Cert.MixBRefIdeal.nD Cert.MixBRefIdeal.τ).loc Cert.MixBRefIdeal.main_arg0) = m' ((c.tc : Thread Cert.MixBRefIdeal.nD Cert.MixBRefIdeal.τ).loc Cert.MixBRefIdeal.main_arg0)
          ∧ r.2.mem ((c.tc : Thread Cert.MixBRefIdeal.nD Cert.MixBRefIdeal.τ).loc Cert.MixBRefIdeal.main_arg1) = m' ((c.tc : Thread Cert.MixBRefIdeal.nD Cert.MixBRefIdeal.τ).loc Cert.MixBRefIdeal.main_arg1)
          ∧ r.2.mem ((c.tc : Thread Cert.MixBRefIdeal.nD Cert.MixBRefIdeal.τ).loc Cert.MixBRefIdeal.main_arg2) = m' ((c.tc : Thread Cert.MixBRefIdeal.nD Cert.MixBRefIdeal.τ).loc Cert.MixBRefIdeal.main_arg2)
          ∧ r.2.mem ((c.tc : Thread Cert.MixBRefIdeal.nD Cert.MixBRefIdeal.τ).loc Cert.MixBRefIdeal.main_arg3) = m' ((c.tc : Thread Cert.MixBRefIdeal.nD Cert.MixBRefIdeal.τ).loc Cert.MixBRefIdeal.main_arg3)
          ∧ r.2.mem ((c.tc : Thread Cert.MixBRefIdeal.nD Cert.MixBRefIdeal.τ).loc Cert.MixBRefIdeal.main_arg4) = m' ((c.tc : Thread Cert.MixBRefIdeal.nD Cert.MixBRefIdeal.τ).loc Cert.MixBRefIdeal.main_arg4)
          ∧ r.2.mem ((c.tc : Thread Cert.MixBRefIdeal.nD Cert.MixBRefIdeal.τ).loc Cert.MixBRefIdeal.main_arg5) = m' ((c.tc : Thread Cert.MixBRefIdeal.nD Cert.MixBRefIdeal.τ).loc Cert.MixBRefIdeal.main_arg5)
          ∧ r.2.mem ((c.tc : Thread Cert.MixBRefIdeal.nD Cert.MixBRefIdeal.τ).loc Cert.MixBRefIdeal.main_arg6) = m' ((c.tc : Thread Cert.MixBRefIdeal.nD Cert.MixBRefIdeal.τ).loc Cert.MixBRefIdeal.main_arg6))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v14) = v0 c
          ∧ r.2.mem ((c.tc : Thread Cert.LossRefIdeal.nD Cert.LossRefIdeal.τ).loc Cert.LossRefIdeal.main_v15) = v1 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1))

def preserves_PleF_PleFIdeal : Prop :=
  True

def algebraic_PleFIdeal_PleFRefIdeal [hPleFIdeal : Cert.PleFIdeal.Facts] [hPleFRefIdeal : Cert.PleFRefIdeal.Facts] : Prop :=
  ∀ (m : (ℓ : Loc Cert.PleFIdeal.nD Cert.PleFIdeal.τ Cert.PleFIdeal.sig) → Buf (Elt Ideal) ℓ) (g : Dev Cert.PleFIdeal.nD → PrngReg)
    (m' : (ℓ : Loc Cert.PleFRefIdeal.nD Cert.PleFRefIdeal.τ Cert.PleFRefIdeal.sig) → Buf (Elt Ideal) ℓ) (g' : Dev Cert.PleFRefIdeal.nD → PrngReg), Pre_PleFIdeal m →
    (∀ c : Dev Cert.PleFIdeal.nD,
      m' ((c.tc : Thread Cert.PleFRefIdeal.nD Cert.PleFRefIdeal.τ).loc Cert.PleFRefIdeal.main_arg0) = m ((c.tc : Thread Cert.PleFIdeal.nD Cert.PleFIdeal.τ).loc Cert.PleFIdeal.main_arg0)
      ∧ m' ((c.tc : Thread Cert.PleFRefIdeal.nD Cert.PleFRefIdeal.τ).loc Cert.PleFRefIdeal.main_arg1) = m ((c.tc : Thread Cert.PleFIdeal.nD Cert.PleFIdeal.τ).loc Cert.PleFIdeal.main_arg1)
      ∧ m' ((c.tc : Thread Cert.PleFRefIdeal.nD Cert.PleFRefIdeal.τ).loc Cert.PleFRefIdeal.main_arg2) = m ((c.tc : Thread Cert.PleFIdeal.nD Cert.PleFIdeal.τ).loc Cert.PleFIdeal.main_arg2)) →
    ∃ (v0 : (c : Dev Cert.PleFIdeal.nD) → Buf (Elt Ideal) ((c.tc : Thread Cert.PleFIdeal.nD Cert.PleFIdeal.τ).loc Cert.PleFIdeal.main_v0)),
      θ_run (Cert.PleFIdeal.defs (F := Ideal)) (onTc (τ := Cert.PleFIdeal.τ) (Cert.PleFIdeal.main (F := Ideal))) ⟨m, fun _ => 0, g⟩ (fun r => ∀ c : Dev Cert.PleFIdeal.nD,
          r.2.mem ((c.tc : Thread Cert.PleFIdeal.nD Cert.PleFIdeal.τ).loc Cert.PleFIdeal.main_v0) = v0 c
          ∧ r.2.mem ((c.tc : Thread Cert.PleFIdeal.nD Cert.PleFIdeal.τ).loc Cert.PleFIdeal.main_arg0) = m ((c.tc : Thread Cert.PleFIdeal.nD Cert.PleFIdeal.τ).loc Cert.PleFIdeal.main_arg0)
          ∧ r.2.mem ((c.tc : Thread Cert.PleFIdeal.nD Cert.PleFIdeal.τ).loc Cert.PleFIdeal.main_arg1) = m ((c.tc : Thread Cert.PleFIdeal.nD Cert.PleFIdeal.τ).loc Cert.PleFIdeal.main_arg1)
          ∧ r.2.mem ((c.tc : Thread Cert.PleFIdeal.nD Cert.PleFIdeal.τ).loc Cert.PleFIdeal.main_arg2) = m ((c.tc : Thread Cert.PleFIdeal.nD Cert.PleFIdeal.τ).loc Cert.PleFIdeal.main_arg2))
      ∧ θ_run (Cert.PleFRefIdeal.defs (F := Ideal)) (onTc (τ := Cert.PleFRefIdeal.τ) (Cert.PleFRefIdeal.main (F := Ideal))) ⟨m', fun _ => 0, g'⟩ (fun r => ∀ c : Dev Cert.PleFRefIdeal.nD,
          r.2.mem ((c.tc : Thread Cert.PleFRefIdeal.nD Cert.PleFRefIdeal.τ).loc Cert.PleFRefIdeal.main_v7) = v0 c
          ∧ r.2.mem ((c.tc : Thread Cert.PleFRefIdeal.nD Cert.PleFRefIdeal.τ).loc Cert.PleFRefIdeal.main_arg0) = m' ((c.tc : Thread Cert.PleFRefIdeal.nD Cert.PleFRefIdeal.τ).loc Cert.PleFRefIdeal.main_arg0)
          ∧ r.2.mem ((c.tc : Thread Cert.PleFRefIdeal.nD Cert.PleFRefIdeal.τ).loc Cert.PleFRefIdeal.main_arg1) = m' ((c.tc : Thread Cert.PleFRefIdeal.nD Cert.PleFRefIdeal.τ).loc Cert.PleFRefIdeal.main_arg1)
          ∧ r.2.mem ((c.tc : Thread Cert.PleFRefIdeal.nD Cert.PleFRefIdeal.τ).loc Cert.PleFRefIdeal.main_arg2) = m' ((c.tc : Thread Cert.PleFRefIdeal.nD Cert.PleFRefIdeal.τ).loc Cert.PleFRefIdeal.main_arg2))

def preserves_RmsF_RmsFIdeal : Prop :=
  True

def algebraic_RmsFIdeal_RmsFRefIdeal [hRmsFIdeal : Cert.RmsFIdeal.Facts] [hRmsFRefIdeal : Cert.RmsFRefIdeal.Facts] : Prop :=
  ∀ (m : (ℓ : Loc Cert.RmsFIdeal.nD Cert.RmsFIdeal.τ Cert.RmsFIdeal.sig) → Buf (Elt Ideal) ℓ) (g : Dev Cert.RmsFIdeal.nD → PrngReg)
    (m' : (ℓ : Loc Cert.RmsFRefIdeal.nD Cert.RmsFRefIdeal.τ Cert.RmsFRefIdeal.sig) → Buf (Elt Ideal) ℓ) (g' : Dev Cert.RmsFRefIdeal.nD → PrngReg), Pre_RmsFIdeal m →
    (∀ c : Dev Cert.RmsFIdeal.nD,
      m' ((c.tc : Thread Cert.RmsFRefIdeal.nD Cert.RmsFRefIdeal.τ).loc Cert.RmsFRefIdeal.main_arg0) = m ((c.tc : Thread Cert.RmsFIdeal.nD Cert.RmsFIdeal.τ).loc Cert.RmsFIdeal.main_arg0)
      ∧ m' ((c.tc : Thread Cert.RmsFRefIdeal.nD Cert.RmsFRefIdeal.τ).loc Cert.RmsFRefIdeal.main_arg1) = m ((c.tc : Thread Cert.RmsFIdeal.nD Cert.RmsFIdeal.τ).loc Cert.RmsFIdeal.main_arg1)) →
    ∃ (v0 : (c : Dev Cert.RmsFIdeal.nD) → Buf (Elt Ideal) ((c.tc : Thread Cert.RmsFIdeal.nD Cert.RmsFIdeal.τ).loc Cert.RmsFIdeal.main_v1_0)) (v1 : (c : Dev Cert.RmsFIdeal.nD) → Buf (Elt Ideal) ((c.tc : Thread Cert.RmsFIdeal.nD Cert.RmsFIdeal.τ).loc Cert.RmsFIdeal.main_v1_1)),
      θ_run (Cert.RmsFIdeal.defs (F := Ideal)) (onTc (τ := Cert.RmsFIdeal.τ) (Cert.RmsFIdeal.main (F := Ideal))) ⟨m, fun _ => 0, g⟩ (fun r => ∀ c : Dev Cert.RmsFIdeal.nD,
          r.2.mem ((c.tc : Thread Cert.RmsFIdeal.nD Cert.RmsFIdeal.τ).loc Cert.RmsFIdeal.main_v1_0) = v0 c
          ∧ r.2.mem ((c.tc : Thread Cert.RmsFIdeal.nD Cert.RmsFIdeal.τ).loc Cert.RmsFIdeal.main_v1_1) = v1 c
          ∧ r.2.mem ((c.tc : Thread Cert.RmsFIdeal.nD Cert.RmsFIdeal.τ).loc Cert.RmsFIdeal.main_arg0) = m ((c.tc : Thread Cert.RmsFIdeal.nD Cert.RmsFIdeal.τ).loc Cert.RmsFIdeal.main_arg0)
          ∧ r.2.mem ((c.tc : Thread Cert.RmsFIdeal.nD Cert.RmsFIdeal.τ).loc Cert.RmsFIdeal.main_arg1) = m ((c.tc : Thread Cert.RmsFIdeal.nD Cert.RmsFIdeal.τ).loc Cert.RmsFIdeal.main_arg1))
      ∧ θ_run (Cert.RmsFRefIdeal.defs (F := Ideal)) (onTc (τ := Cert.RmsFRefIdeal.τ) (Cert.RmsFRefIdeal.main (F := Ideal))) ⟨m', fun _ => 0, g'⟩ (fun r => ∀ c : Dev Cert.RmsFRefIdeal.nD,
          r.2.mem ((c.tc : Thread Cert.RmsFRefIdeal.nD Cert.RmsFRefIdeal.τ).loc Cert.RmsFRefIdeal.main_v13) = v0 c
          ∧ r.2.mem ((c.tc : Thread Cert.RmsFRefIdeal.nD Cert.RmsFRefIdeal.τ).loc Cert.RmsFRefIdeal.main_v15) = v1 c
          ∧ r.2.mem ((c.tc : Thread Cert.RmsFRefIdeal.nD Cert.RmsFRefIdeal.τ).loc Cert.RmsFRefIdeal.main_arg0) = m' ((c.tc : Thread Cert.RmsFRefIdeal.nD Cert.RmsFRefIdeal.τ).loc Cert.RmsFRefIdeal.main_arg0)
          ∧ r.2.mem ((c.tc : Thread Cert.RmsFRefIdeal.nD Cert.RmsFRefIdeal.τ).loc Cert.RmsFRefIdeal.main_arg1) = m' ((c.tc : Thread Cert.RmsFRefIdeal.nD Cert.RmsFRefIdeal.τ).loc Cert.RmsFRefIdeal.main_arg1))

def preserves_GnormF_GnormFIdeal : Prop :=
  True

def algebraic_GnormFIdeal_GnormFRefIdeal [hGnormFIdeal : Cert.GnormFIdeal.Facts] [hGnormFRefIdeal : Cert.GnormFRefIdeal.Facts] : Prop :=
  ∀ (m : (ℓ : Loc Cert.GnormFIdeal.nD Cert.GnormFIdeal.τ Cert.GnormFIdeal.sig) → Buf (Elt Ideal) ℓ) (g : Dev Cert.GnormFIdeal.nD → PrngReg)
    (m' : (ℓ : Loc Cert.GnormFRefIdeal.nD Cert.GnormFRefIdeal.τ Cert.GnormFRefIdeal.sig) → Buf (Elt Ideal) ℓ) (g' : Dev Cert.GnormFRefIdeal.nD → PrngReg), Pre_GnormFIdeal m →
    (∀ c : Dev Cert.GnormFIdeal.nD,
      m' ((c.tc : Thread Cert.GnormFRefIdeal.nD Cert.GnormFRefIdeal.τ).loc Cert.GnormFRefIdeal.main_arg0) = m ((c.tc : Thread Cert.GnormFIdeal.nD Cert.GnormFIdeal.τ).loc Cert.GnormFIdeal.main_arg0)
      ∧ m' ((c.tc : Thread Cert.GnormFRefIdeal.nD Cert.GnormFRefIdeal.τ).loc Cert.GnormFRefIdeal.main_arg1) = m ((c.tc : Thread Cert.GnormFIdeal.nD Cert.GnormFIdeal.τ).loc Cert.GnormFIdeal.main_arg1)
      ∧ m' ((c.tc : Thread Cert.GnormFRefIdeal.nD Cert.GnormFRefIdeal.τ).loc Cert.GnormFRefIdeal.main_arg2) = m ((c.tc : Thread Cert.GnormFIdeal.nD Cert.GnormFIdeal.τ).loc Cert.GnormFIdeal.main_arg2)
      ∧ m' ((c.tc : Thread Cert.GnormFRefIdeal.nD Cert.GnormFRefIdeal.τ).loc Cert.GnormFRefIdeal.main_arg3) = m ((c.tc : Thread Cert.GnormFIdeal.nD Cert.GnormFIdeal.τ).loc Cert.GnormFIdeal.main_arg3)
      ∧ m' ((c.tc : Thread Cert.GnormFRefIdeal.nD Cert.GnormFRefIdeal.τ).loc Cert.GnormFRefIdeal.main_arg4) = m ((c.tc : Thread Cert.GnormFIdeal.nD Cert.GnormFIdeal.τ).loc Cert.GnormFIdeal.main_arg4)) →
    ∃ (v0 : (c : Dev Cert.GnormFIdeal.nD) → Buf (Elt Ideal) ((c.tc : Thread Cert.GnormFIdeal.nD Cert.GnormFIdeal.τ).loc Cert.GnormFIdeal.main_v1)),
      θ_run (Cert.GnormFIdeal.defs (F := Ideal)) (onTc (τ := Cert.GnormFIdeal.τ) (Cert.GnormFIdeal.main (F := Ideal))) ⟨m, fun _ => 0, g⟩ (fun r => ∀ c : Dev Cert.GnormFIdeal.nD,
          r.2.mem ((c.tc : Thread Cert.GnormFIdeal.nD Cert.GnormFIdeal.τ).loc Cert.GnormFIdeal.main_v1) = v0 c
          ∧ r.2.mem ((c.tc : Thread Cert.GnormFIdeal.nD Cert.GnormFIdeal.τ).loc Cert.GnormFIdeal.main_arg0) = m ((c.tc : Thread Cert.GnormFIdeal.nD Cert.GnormFIdeal.τ).loc Cert.GnormFIdeal.main_arg0)
          ∧ r.2.mem ((c.tc : Thread Cert.GnormFIdeal.nD Cert.GnormFIdeal.τ).loc Cert.GnormFIdeal.main_arg1) = m ((c.tc : Thread Cert.GnormFIdeal.nD Cert.GnormFIdeal.τ).loc Cert.GnormFIdeal.main_arg1)
          ∧ r.2.mem ((c.tc : Thread Cert.GnormFIdeal.nD Cert.GnormFIdeal.τ).loc Cert.GnormFIdeal.main_arg2) = m ((c.tc : Thread Cert.GnormFIdeal.nD Cert.GnormFIdeal.τ).loc Cert.GnormFIdeal.main_arg2)
          ∧ r.2.mem ((c.tc : Thread Cert.GnormFIdeal.nD Cert.GnormFIdeal.τ).loc Cert.GnormFIdeal.main_arg3) = m ((c.tc : Thread Cert.GnormFIdeal.nD Cert.GnormFIdeal.τ).loc Cert.GnormFIdeal.main_arg3)
          ∧ r.2.mem ((c.tc : Thread Cert.GnormFIdeal.nD Cert.GnormFIdeal.τ).loc Cert.GnormFIdeal.main_arg4) = m ((c.tc : Thread Cert.GnormFIdeal.nD Cert.GnormFIdeal.τ).loc Cert.GnormFIdeal.main_arg4))
      ∧ θ_run (Cert.GnormFRefIdeal.defs (F := Ideal)) (onTc (τ := Cert.GnormFRefIdeal.τ) (Cert.GnormFRefIdeal.main (F := Ideal))) ⟨m', fun _ => 0, g'⟩ (fun r => ∀ c : Dev Cert.GnormFRefIdeal.nD,
          r.2.mem ((c.tc : Thread Cert.GnormFRefIdeal.nD Cert.GnormFRefIdeal.τ).loc Cert.GnormFRefIdeal.main_v61) = v0 c
          ∧ r.2.mem ((c.tc : Thread Cert.GnormFRefIdeal.nD Cert.GnormFRefIdeal.τ).loc Cert.GnormFRefIdeal.main_arg0) = m' ((c.tc : Thread Cert.GnormFRefIdeal.nD Cert.GnormFRefIdeal.τ).loc Cert.GnormFRefIdeal.main_arg0)
          ∧ r.2.mem ((c.tc : Thread Cert.GnormFRefIdeal.nD Cert.GnormFRefIdeal.τ).loc Cert.GnormFRefIdeal.main_arg1) = m' ((c.tc : Thread Cert.GnormFRefIdeal.nD Cert.GnormFRefIdeal.τ).loc Cert.GnormFRefIdeal.main_arg1)
          ∧ r.2.mem ((c.tc : Thread Cert.GnormFRefIdeal.nD Cert.GnormFRefIdeal.τ).loc Cert.GnormFRefIdeal.main_arg2) = m' ((c.tc : Thread Cert.GnormFRefIdeal.nD Cert.GnormFRefIdeal.τ).loc Cert.GnormFRefIdeal.main_arg2)
          ∧ r.2.mem ((c.tc : Thread Cert.GnormFRefIdeal.nD Cert.GnormFRefIdeal.τ).loc Cert.GnormFRefIdeal.main_arg3) = m' ((c.tc : Thread Cert.GnormFRefIdeal.nD Cert.GnormFRefIdeal.τ).loc Cert.GnormFRefIdeal.main_arg3)
          ∧ r.2.mem ((c.tc : Thread Cert.GnormFRefIdeal.nD Cert.GnormFRefIdeal.τ).loc Cert.GnormFRefIdeal.main_arg4) = m' ((c.tc : Thread Cert.GnormFRefIdeal.nD Cert.GnormFRefIdeal.τ).loc Cert.GnormFRefIdeal.main_arg4))

def preserves_MixF_MixFIdeal : Prop :=
  True

def algebraic_MixFIdeal_MixFRefIdeal_pre_finite_logs [hMixFIdeal : Cert.MixFIdeal.Facts] [hMixFRefIdeal : Cert.MixFRefIdeal.Facts] [hPre_finite_logs : Cert.Pre_finite_logs.Facts] : Prop :=
  ∀ (m : (ℓ : Loc Cert.MixFIdeal.nD Cert.MixFIdeal.τ Cert.MixFIdeal.sig) → Buf (Elt Ideal) ℓ) (g : Dev Cert.MixFIdeal.nD → PrngReg)
    (m' : (ℓ : Loc Cert.MixFRefIdeal.nD Cert.MixFRefIdeal.τ Cert.MixFRefIdeal.sig) → Buf (Elt Ideal) ℓ) (g' : Dev Cert.MixFRefIdeal.nD → PrngReg), Pre_MixFIdeal_finite_logs m →
    (∀ c : Dev Cert.MixFIdeal.nD,
      m' ((c.tc : Thread Cert.MixFRefIdeal.nD Cert.MixFRefIdeal.τ).loc Cert.MixFRefIdeal.main_arg0) = m ((c.tc : Thread Cert.MixFIdeal.nD Cert.MixFIdeal.τ).loc Cert.MixFIdeal.main_arg0)
      ∧ m' ((c.tc : Thread Cert.MixFRefIdeal.nD Cert.MixFRefIdeal.τ).loc Cert.MixFRefIdeal.main_arg1) = m ((c.tc : Thread Cert.MixFIdeal.nD Cert.MixFIdeal.τ).loc Cert.MixFIdeal.main_arg1)
      ∧ m' ((c.tc : Thread Cert.MixFRefIdeal.nD Cert.MixFRefIdeal.τ).loc Cert.MixFRefIdeal.main_arg2) = m ((c.tc : Thread Cert.MixFIdeal.nD Cert.MixFIdeal.τ).loc Cert.MixFIdeal.main_arg2)
      ∧ m' ((c.tc : Thread Cert.MixFRefIdeal.nD Cert.MixFRefIdeal.τ).loc Cert.MixFRefIdeal.main_arg3) = m ((c.tc : Thread Cert.MixFIdeal.nD Cert.MixFIdeal.τ).loc Cert.MixFIdeal.main_arg3)
      ∧ m' ((c.tc : Thread Cert.MixFRefIdeal.nD Cert.MixFRefIdeal.τ).loc Cert.MixFRefIdeal.main_arg4) = m ((c.tc : Thread Cert.MixFIdeal.nD Cert.MixFIdeal.τ).loc Cert.MixFIdeal.main_arg4)
      ∧ m' ((c.tc : Thread Cert.MixFRefIdeal.nD Cert.MixFRefIdeal.τ).loc Cert.MixFRefIdeal.main_arg5) = m ((c.tc : Thread Cert.MixFIdeal.nD Cert.MixFIdeal.τ).loc Cert.MixFIdeal.main_arg5)) →
    ∃ (v0 : (c : Dev Cert.MixFIdeal.nD) → Buf (Elt Ideal) ((c.tc : Thread Cert.MixFIdeal.nD Cert.MixFIdeal.τ).loc Cert.MixFIdeal.main_v12)),
      θ_run (Cert.MixFIdeal.defs (F := Ideal)) (onTc (τ := Cert.MixFIdeal.τ) (Cert.MixFIdeal.main (F := Ideal))) ⟨m, fun _ => 0, g⟩ (fun r => ∀ c : Dev Cert.MixFIdeal.nD,
          r.2.mem ((c.tc : Thread Cert.MixFIdeal.nD Cert.MixFIdeal.τ).loc Cert.MixFIdeal.main_v12) = v0 c
          ∧ r.2.mem ((c.tc : Thread Cert.MixFIdeal.nD Cert.MixFIdeal.τ).loc Cert.MixFIdeal.main_arg0) = m ((c.tc : Thread Cert.MixFIdeal.nD Cert.MixFIdeal.τ).loc Cert.MixFIdeal.main_arg0)
          ∧ r.2.mem ((c.tc : Thread Cert.MixFIdeal.nD Cert.MixFIdeal.τ).loc Cert.MixFIdeal.main_arg1) = m ((c.tc : Thread Cert.MixFIdeal.nD Cert.MixFIdeal.τ).loc Cert.MixFIdeal.main_arg1)
          ∧ r.2.mem ((c.tc : Thread Cert.MixFIdeal.nD Cert.MixFIdeal.τ).loc Cert.MixFIdeal.main_arg2) = m ((c.tc : Thread Cert.MixFIdeal.nD Cert.MixFIdeal.τ).loc Cert.MixFIdeal.main_arg2)
          ∧ r.2.mem ((c.tc : Thread Cert.MixFIdeal.nD Cert.MixFIdeal.τ).loc Cert.MixFIdeal.main_arg3) = m ((c.tc : Thread Cert.MixFIdeal.nD Cert.MixFIdeal.τ).loc Cert.MixFIdeal.main_arg3)
          ∧ r.2.mem ((c.tc : Thread Cert.MixFIdeal.nD Cert.MixFIdeal.τ).loc Cert.MixFIdeal.main_arg4) = m ((c.tc : Thread Cert.MixFIdeal.nD Cert.MixFIdeal.τ).loc Cert.MixFIdeal.main_arg4)
          ∧ r.2.mem ((c.tc : Thread Cert.MixFIdeal.nD Cert.MixFIdeal.τ).loc Cert.MixFIdeal.main_arg5) = m ((c.tc : Thread Cert.MixFIdeal.nD Cert.MixFIdeal.τ).loc Cert.MixFIdeal.main_arg5))
      ∧ θ_run (Cert.MixFRefIdeal.defs (F := Ideal)) (onTc (τ := Cert.MixFRefIdeal.τ) (Cert.MixFRefIdeal.main (F := Ideal))) ⟨m', fun _ => 0, g'⟩ (fun r => ∀ c : Dev Cert.MixFRefIdeal.nD,
          r.2.mem ((c.tc : Thread Cert.MixFRefIdeal.nD Cert.MixFRefIdeal.τ).loc Cert.MixFRefIdeal.main_v23) = v0 c
          ∧ r.2.mem ((c.tc : Thread Cert.MixFRefIdeal.nD Cert.MixFRefIdeal.τ).loc Cert.MixFRefIdeal.main_arg0) = m' ((c.tc : Thread Cert.MixFRefIdeal.nD Cert.MixFRefIdeal.τ).loc Cert.MixFRefIdeal.main_arg0)
          ∧ r.2.mem ((c.tc : Thread Cert.MixFRefIdeal.nD Cert.MixFRefIdeal.τ).loc Cert.MixFRefIdeal.main_arg1) = m' ((c.tc : Thread Cert.MixFRefIdeal.nD Cert.MixFRefIdeal.τ).loc Cert.MixFRefIdeal.main_arg1)
          ∧ r.2.mem ((c.tc : Thread Cert.MixFRefIdeal.nD Cert.MixFRefIdeal.τ).loc Cert.MixFRefIdeal.main_arg2) = m' ((c.tc : Thread Cert.MixFRefIdeal.nD Cert.MixFRefIdeal.τ).loc Cert.MixFRefIdeal.main_arg2)
          ∧ r.2.mem ((c.tc : Thread Cert.MixFRefIdeal.nD Cert.MixFRefIdeal.τ).loc Cert.MixFRefIdeal.main_arg3) = m' ((c.tc : Thread Cert.MixFRefIdeal.nD Cert.MixFRefIdeal.τ).loc Cert.MixFRefIdeal.main_arg3)
          ∧ r.2.mem ((c.tc : Thread Cert.MixFRefIdeal.nD Cert.MixFRefIdeal.τ).loc Cert.MixFRefIdeal.main_arg4) = m' ((c.tc : Thread Cert.MixFRefIdeal.nD Cert.MixFRefIdeal.τ).loc Cert.MixFRefIdeal.main_arg4)
          ∧ r.2.mem ((c.tc : Thread Cert.MixFRefIdeal.nD Cert.MixFRefIdeal.τ).loc Cert.MixFRefIdeal.main_arg5) = m' ((c.tc : Thread Cert.MixFRefIdeal.nD Cert.MixFRefIdeal.τ).loc Cert.MixFRefIdeal.main_arg5))

def preserves_GateF_GateFIdeal : Prop :=
  True

def algebraic_GateFIdeal_GateFRefIdeal [hGateFIdeal : Cert.GateFIdeal.Facts] [hGateFRefIdeal : Cert.GateFRefIdeal.Facts] : Prop :=
  ∀ (m : (ℓ : Loc Cert.GateFIdeal.nD Cert.GateFIdeal.τ Cert.GateFIdeal.sig) → Buf (Elt Ideal) ℓ) (g : Dev Cert.GateFIdeal.nD → PrngReg)
    (m' : (ℓ : Loc Cert.GateFRefIdeal.nD Cert.GateFRefIdeal.τ Cert.GateFRefIdeal.sig) → Buf (Elt Ideal) ℓ) (g' : Dev Cert.GateFRefIdeal.nD → PrngReg), Pre_GateFIdeal m →
    (∀ c : Dev Cert.GateFIdeal.nD,
      m' ((c.tc : Thread Cert.GateFRefIdeal.nD Cert.GateFRefIdeal.τ).loc Cert.GateFRefIdeal.main_arg0) = m ((c.tc : Thread Cert.GateFIdeal.nD Cert.GateFIdeal.τ).loc Cert.GateFIdeal.main_arg0)
      ∧ m' ((c.tc : Thread Cert.GateFRefIdeal.nD Cert.GateFRefIdeal.τ).loc Cert.GateFRefIdeal.main_arg1) = m ((c.tc : Thread Cert.GateFIdeal.nD Cert.GateFIdeal.τ).loc Cert.GateFIdeal.main_arg1)
      ∧ m' ((c.tc : Thread Cert.GateFRefIdeal.nD Cert.GateFRefIdeal.τ).loc Cert.GateFRefIdeal.main_arg2) = m ((c.tc : Thread Cert.GateFIdeal.nD Cert.GateFIdeal.τ).loc Cert.GateFIdeal.main_arg2)
      ∧ m' ((c.tc : Thread Cert.GateFRefIdeal.nD Cert.GateFRefIdeal.τ).loc Cert.GateFRefIdeal.main_arg3) = m ((c.tc : Thread Cert.GateFIdeal.nD Cert.GateFIdeal.τ).loc Cert.GateFIdeal.main_arg3)
      ∧ m' ((c.tc : Thread Cert.GateFRefIdeal.nD Cert.GateFRefIdeal.τ).loc Cert.GateFRefIdeal.main_arg4) = m ((c.tc : Thread Cert.GateFIdeal.nD Cert.GateFIdeal.τ).loc Cert.GateFIdeal.main_arg4)) →
    ∃ (v0 : (c : Dev Cert.GateFIdeal.nD) → Buf (Elt Ideal) ((c.tc : Thread Cert.GateFIdeal.nD Cert.GateFIdeal.τ).loc Cert.GateFIdeal.main_v5)),
      θ_run (Cert.GateFIdeal.defs (F := Ideal)) (onTc (τ := Cert.GateFIdeal.τ) (Cert.GateFIdeal.main (F := Ideal))) ⟨m, fun _ => 0, g⟩ (fun r => ∀ c : Dev Cert.GateFIdeal.nD,
          r.2.mem ((c.tc : Thread Cert.GateFIdeal.nD Cert.GateFIdeal.τ).loc Cert.GateFIdeal.main_v5) = v0 c
          ∧ r.2.mem ((c.tc : Thread Cert.GateFIdeal.nD Cert.GateFIdeal.τ).loc Cert.GateFIdeal.main_arg0) = m ((c.tc : Thread Cert.GateFIdeal.nD Cert.GateFIdeal.τ).loc Cert.GateFIdeal.main_arg0)
          ∧ r.2.mem ((c.tc : Thread Cert.GateFIdeal.nD Cert.GateFIdeal.τ).loc Cert.GateFIdeal.main_arg1) = m ((c.tc : Thread Cert.GateFIdeal.nD Cert.GateFIdeal.τ).loc Cert.GateFIdeal.main_arg1)
          ∧ r.2.mem ((c.tc : Thread Cert.GateFIdeal.nD Cert.GateFIdeal.τ).loc Cert.GateFIdeal.main_arg2) = m ((c.tc : Thread Cert.GateFIdeal.nD Cert.GateFIdeal.τ).loc Cert.GateFIdeal.main_arg2)
          ∧ r.2.mem ((c.tc : Thread Cert.GateFIdeal.nD Cert.GateFIdeal.τ).loc Cert.GateFIdeal.main_arg3) = m ((c.tc : Thread Cert.GateFIdeal.nD Cert.GateFIdeal.τ).loc Cert.GateFIdeal.main_arg3)
          ∧ r.2.mem ((c.tc : Thread Cert.GateFIdeal.nD Cert.GateFIdeal.τ).loc Cert.GateFIdeal.main_arg4) = m ((c.tc : Thread Cert.GateFIdeal.nD Cert.GateFIdeal.τ).loc Cert.GateFIdeal.main_arg4))
      ∧ θ_run (Cert.GateFRefIdeal.defs (F := Ideal)) (onTc (τ := Cert.GateFRefIdeal.τ) (Cert.GateFRefIdeal.main (F := Ideal))) ⟨m', fun _ => 0, g'⟩ (fun r => ∀ c : Dev Cert.GateFRefIdeal.nD,
          r.2.mem ((c.tc : Thread Cert.GateFRefIdeal.nD Cert.GateFRefIdeal.τ).loc Cert.GateFRefIdeal.main_v61) = v0 c
          ∧ r.2.mem ((c.tc : Thread Cert.GateFRefIdeal.nD Cert.GateFRefIdeal.τ).loc Cert.GateFRefIdeal.main_arg0) = m' ((c.tc : Thread Cert.GateFRefIdeal.nD Cert.GateFRefIdeal.τ).loc Cert.GateFRefIdeal.main_arg0)
          ∧ r.2.mem ((c.tc : Thread Cert.GateFRefIdeal.nD Cert.GateFRefIdeal.τ).loc Cert.GateFRefIdeal.main_arg1) = m' ((c.tc : Thread Cert.GateFRefIdeal.nD Cert.GateFRefIdeal.τ).loc Cert.GateFRefIdeal.main_arg1)
          ∧ r.2.mem ((c.tc : Thread Cert.GateFRefIdeal.nD Cert.GateFRefIdeal.τ).loc Cert.GateFRefIdeal.main_arg2) = m' ((c.tc : Thread Cert.GateFRefIdeal.nD Cert.GateFRefIdeal.τ).loc Cert.GateFRefIdeal.main_arg2)
          ∧ r.2.mem ((c.tc : Thread Cert.GateFRefIdeal.nD Cert.GateFRefIdeal.τ).loc Cert.GateFRefIdeal.main_arg3) = m' ((c.tc : Thread Cert.GateFRefIdeal.nD Cert.GateFRefIdeal.τ).loc Cert.GateFRefIdeal.main_arg3)
          ∧ r.2.mem ((c.tc : Thread Cert.GateFRefIdeal.nD Cert.GateFRefIdeal.τ).loc Cert.GateFRefIdeal.main_arg4) = m' ((c.tc : Thread Cert.GateFRefIdeal.nD Cert.GateFRefIdeal.τ).loc Cert.GateFRefIdeal.main_arg4))

def preserves_ConvF_ConvFIdeal : Prop :=
  True

def algebraic_ConvFIdeal_ConvFRefIdeal [hConvFIdeal : Cert.ConvFIdeal.Facts] [hConvFRefIdeal : Cert.ConvFRefIdeal.Facts] : Prop :=
  ∀ (m : (ℓ : Loc Cert.ConvFIdeal.nD Cert.ConvFIdeal.τ Cert.ConvFIdeal.sig) → Buf (Elt Ideal) ℓ) (g : Dev Cert.ConvFIdeal.nD → PrngReg)
    (m' : (ℓ : Loc Cert.ConvFRefIdeal.nD Cert.ConvFRefIdeal.τ Cert.ConvFRefIdeal.sig) → Buf (Elt Ideal) ℓ) (g' : Dev Cert.ConvFRefIdeal.nD → PrngReg), Pre_ConvFIdeal m →
    (∀ c : Dev Cert.ConvFIdeal.nD,
      m' ((c.tc : Thread Cert.ConvFRefIdeal.nD Cert.ConvFRefIdeal.τ).loc Cert.ConvFRefIdeal.main_arg0) = m ((c.tc : Thread Cert.ConvFIdeal.nD Cert.ConvFIdeal.τ).loc Cert.ConvFIdeal.main_arg0)
      ∧ m' ((c.tc : Thread Cert.ConvFRefIdeal.nD Cert.ConvFRefIdeal.τ).loc Cert.ConvFRefIdeal.main_arg1) = m ((c.tc : Thread Cert.ConvFIdeal.nD Cert.ConvFIdeal.τ).loc Cert.ConvFIdeal.main_arg1)
      ∧ m' ((c.tc : Thread Cert.ConvFRefIdeal.nD Cert.ConvFRefIdeal.τ).loc Cert.ConvFRefIdeal.main_arg2) = m ((c.tc : Thread Cert.ConvFIdeal.nD Cert.ConvFIdeal.τ).loc Cert.ConvFIdeal.main_arg2)) →
    ∃ (v0 : (c : Dev Cert.ConvFIdeal.nD) → Buf (Elt Ideal) ((c.tc : Thread Cert.ConvFIdeal.nD Cert.ConvFIdeal.τ).loc Cert.ConvFIdeal.main_v1)),
      θ_run (Cert.ConvFIdeal.defs (F := Ideal)) (onTc (τ := Cert.ConvFIdeal.τ) (Cert.ConvFIdeal.main (F := Ideal))) ⟨m, fun _ => 0, g⟩ (fun r => ∀ c : Dev Cert.ConvFIdeal.nD,
          r.2.mem ((c.tc : Thread Cert.ConvFIdeal.nD Cert.ConvFIdeal.τ).loc Cert.ConvFIdeal.main_v1) = v0 c
          ∧ r.2.mem ((c.tc : Thread Cert.ConvFIdeal.nD Cert.ConvFIdeal.τ).loc Cert.ConvFIdeal.main_arg0) = m ((c.tc : Thread Cert.ConvFIdeal.nD Cert.ConvFIdeal.τ).loc Cert.ConvFIdeal.main_arg0)
          ∧ r.2.mem ((c.tc : Thread Cert.ConvFIdeal.nD Cert.ConvFIdeal.τ).loc Cert.ConvFIdeal.main_arg1) = m ((c.tc : Thread Cert.ConvFIdeal.nD Cert.ConvFIdeal.τ).loc Cert.ConvFIdeal.main_arg1)
          ∧ r.2.mem ((c.tc : Thread Cert.ConvFIdeal.nD Cert.ConvFIdeal.τ).loc Cert.ConvFIdeal.main_arg2) = m ((c.tc : Thread Cert.ConvFIdeal.nD Cert.ConvFIdeal.τ).loc Cert.ConvFIdeal.main_arg2))
      ∧ θ_run (Cert.ConvFRefIdeal.defs (F := Ideal)) (onTc (τ := Cert.ConvFRefIdeal.τ) (Cert.ConvFRefIdeal.main (F := Ideal))) ⟨m', fun _ => 0, g'⟩ (fun r => ∀ c : Dev Cert.ConvFRefIdeal.nD,
          r.2.mem ((c.tc : Thread Cert.ConvFRefIdeal.nD Cert.ConvFRefIdeal.τ).loc Cert.ConvFRefIdeal.main_v30) = v0 c
          ∧ r.2.mem ((c.tc : Thread Cert.ConvFRefIdeal.nD Cert.ConvFRefIdeal.τ).loc Cert.ConvFRefIdeal.main_arg0) = m' ((c.tc : Thread Cert.ConvFRefIdeal.nD Cert.ConvFRefIdeal.τ).loc Cert.ConvFRefIdeal.main_arg0)
          ∧ r.2.mem ((c.tc : Thread Cert.ConvFRefIdeal.nD Cert.ConvFRefIdeal.τ).loc Cert.ConvFRefIdeal.main_arg1) = m' ((c.tc : Thread Cert.ConvFRefIdeal.nD Cert.ConvFRefIdeal.τ).loc Cert.ConvFRefIdeal.main_arg1)
          ∧ r.2.mem ((c.tc : Thread Cert.ConvFRefIdeal.nD Cert.ConvFRefIdeal.τ).loc Cert.ConvFRefIdeal.main_arg2) = m' ((c.tc : Thread Cert.ConvFRefIdeal.nD Cert.ConvFRefIdeal.τ).loc Cert.ConvFRefIdeal.main_arg2))

def preserves_AdWs_AdWsIdeal : Prop :=
  True

def algebraic_AdWsIdeal_AdWsRefIdeal [hAdWsIdeal : Cert.AdWsIdeal.Facts] [hAdWsRefIdeal : Cert.AdWsRefIdeal.Facts] : Prop :=
  ∀ (m : (ℓ : Loc Cert.AdWsIdeal.nD Cert.AdWsIdeal.τ Cert.AdWsIdeal.sig) → Buf (Elt Ideal) ℓ) (g : Dev Cert.AdWsIdeal.nD → PrngReg)
    (m' : (ℓ : Loc Cert.AdWsRefIdeal.nD Cert.AdWsRefIdeal.τ Cert.AdWsRefIdeal.sig) → Buf (Elt Ideal) ℓ) (g' : Dev Cert.AdWsRefIdeal.nD → PrngReg), Pre_AdWsIdeal m →
    (∀ c : Dev Cert.AdWsIdeal.nD,
      m' ((c.tc : Thread Cert.AdWsRefIdeal.nD Cert.AdWsRefIdeal.τ).loc Cert.AdWsRefIdeal.main_arg0) = m ((c.tc : Thread Cert.AdWsIdeal.nD Cert.AdWsIdeal.τ).loc Cert.AdWsIdeal.main_arg0)
      ∧ m' ((c.tc : Thread Cert.AdWsRefIdeal.nD Cert.AdWsRefIdeal.τ).loc Cert.AdWsRefIdeal.main_arg1) = m ((c.tc : Thread Cert.AdWsIdeal.nD Cert.AdWsIdeal.τ).loc Cert.AdWsIdeal.main_arg1)
      ∧ m' ((c.tc : Thread Cert.AdWsRefIdeal.nD Cert.AdWsRefIdeal.τ).loc Cert.AdWsRefIdeal.main_arg2) = m ((c.tc : Thread Cert.AdWsIdeal.nD Cert.AdWsIdeal.τ).loc Cert.AdWsIdeal.main_arg2)
      ∧ m' ((c.tc : Thread Cert.AdWsRefIdeal.nD Cert.AdWsRefIdeal.τ).loc Cert.AdWsRefIdeal.main_arg3) = m ((c.tc : Thread Cert.AdWsIdeal.nD Cert.AdWsIdeal.τ).loc Cert.AdWsIdeal.main_arg3)) →
    ∃ (v0 : (c : Dev Cert.AdWsIdeal.nD) → Buf (Elt Ideal) ((c.tc : Thread Cert.AdWsIdeal.nD Cert.AdWsIdeal.τ).loc Cert.AdWsIdeal.main_v0_0)) (v1 : (c : Dev Cert.AdWsIdeal.nD) → Buf (Elt Ideal) ((c.tc : Thread Cert.AdWsIdeal.nD Cert.AdWsIdeal.τ).loc Cert.AdWsIdeal.main_v0_1)) (v2 : (c : Dev Cert.AdWsIdeal.nD) → Buf (Elt Ideal) ((c.tc : Thread Cert.AdWsIdeal.nD Cert.AdWsIdeal.τ).loc Cert.AdWsIdeal.main_v0_2)),
      θ_run (Cert.AdWsIdeal.defs (F := Ideal)) (onTc (τ := Cert.AdWsIdeal.τ) (Cert.AdWsIdeal.main (F := Ideal))) ⟨m, fun _ => 0, g⟩ (fun r => ∀ c : Dev Cert.AdWsIdeal.nD,
          r.2.mem ((c.tc : Thread Cert.AdWsIdeal.nD Cert.AdWsIdeal.τ).loc Cert.AdWsIdeal.main_v0_0) = v0 c
          ∧ r.2.mem ((c.tc : Thread Cert.AdWsIdeal.nD Cert.AdWsIdeal.τ).loc Cert.AdWsIdeal.main_v0_1) = v1 c
          ∧ r.2.mem ((c.tc : Thread Cert.AdWsIdeal.nD Cert.AdWsIdeal.τ).loc Cert.AdWsIdeal.main_v0_2) = v2 c
          ∧ r.2.mem ((c.tc : Thread Cert.AdWsIdeal.nD Cert.AdWsIdeal.τ).loc Cert.AdWsIdeal.main_arg0) = m ((c.tc : Thread Cert.AdWsIdeal.nD Cert.AdWsIdeal.τ).loc Cert.AdWsIdeal.main_arg0)
          ∧ r.2.mem ((c.tc : Thread Cert.AdWsIdeal.nD Cert.AdWsIdeal.τ).loc Cert.AdWsIdeal.main_arg1) = m ((c.tc : Thread Cert.AdWsIdeal.nD Cert.AdWsIdeal.τ).loc Cert.AdWsIdeal.main_arg1)
          ∧ r.2.mem ((c.tc : Thread Cert.AdWsIdeal.nD Cert.AdWsIdeal.τ).loc Cert.AdWsIdeal.main_arg2) = m ((c.tc : Thread Cert.AdWsIdeal.nD Cert.AdWsIdeal.τ).loc Cert.AdWsIdeal.main_arg2)
          ∧ r.2.mem ((c.tc : Thread Cert.AdWsIdeal.nD Cert.AdWsIdeal.τ).loc Cert.AdWsIdeal.main_arg3) = m ((c.tc : Thread Cert.AdWsIdeal.nD Cert.AdWsIdeal.τ).loc Cert.AdWsIdeal.main_arg3))
      ∧ θ_run (Cert.AdWsRefIdeal.defs (F := Ideal)) (onTc (τ := Cert.AdWsRefIdeal.τ) (Cert.AdWsRefIdeal.main (F := Ideal))) ⟨m', fun _ => 0, g'⟩ (fun r => ∀ c : Dev Cert.AdWsRefIdeal.nD,
          r.2.mem ((c.tc : Thread Cert.AdWsRefIdeal.nD Cert.AdWsRefIdeal.τ).loc Cert.AdWsRefIdeal.main_v23) = v0 c
          ∧ r.2.mem ((c.tc : Thread Cert.AdWsRefIdeal.nD Cert.AdWsRefIdeal.τ).loc Cert.AdWsRefIdeal.main_v4) = v1 c
          ∧ r.2.mem ((c.tc : Thread Cert.AdWsRefIdeal.nD Cert.AdWsRefIdeal.τ).loc Cert.AdWsRefIdeal.main_v10) = v2 c
          ∧ r.2.mem ((c.tc : Thread Cert.AdWsRefIdeal.nD Cert.AdWsRefIdeal.τ).loc Cert.AdWsRefIdeal.main_arg0) = m' ((c.tc : Thread Cert.AdWsRefIdeal.nD Cert.AdWsRefIdeal.τ).loc Cert.AdWsRefIdeal.main_arg0)
          ∧ r.2.mem ((c.tc : Thread Cert.AdWsRefIdeal.nD Cert.AdWsRefIdeal.τ).loc Cert.AdWsRefIdeal.main_arg1) = m' ((c.tc : Thread Cert.AdWsRefIdeal.nD Cert.AdWsRefIdeal.τ).loc Cert.AdWsRefIdeal.main_arg1)
          ∧ r.2.mem ((c.tc : Thread Cert.AdWsRefIdeal.nD Cert.AdWsRefIdeal.τ).loc Cert.AdWsRefIdeal.main_arg2) = m' ((c.tc : Thread Cert.AdWsRefIdeal.nD Cert.AdWsRefIdeal.τ).loc Cert.AdWsRefIdeal.main_arg2)
          ∧ r.2.mem ((c.tc : Thread Cert.AdWsRefIdeal.nD Cert.AdWsRefIdeal.τ).loc Cert.AdWsRefIdeal.main_arg3) = m' ((c.tc : Thread Cert.AdWsRefIdeal.nD Cert.AdWsRefIdeal.τ).loc Cert.AdWsRefIdeal.main_arg3))

def preserves_PrepF_PrepFIdeal : Prop :=
  True

def algebraic_PrepFIdeal_PrepFRefIdeal [hPrepFIdeal : Cert.PrepFIdeal.Facts] [hPrepFRefIdeal : Cert.PrepFRefIdeal.Facts] : Prop :=
  ∀ (m : (ℓ : Loc Cert.PrepFIdeal.nD Cert.PrepFIdeal.τ Cert.PrepFIdeal.sig) → Buf (Elt Ideal) ℓ) (g : Dev Cert.PrepFIdeal.nD → PrngReg)
    (m' : (ℓ : Loc Cert.PrepFRefIdeal.nD Cert.PrepFRefIdeal.τ Cert.PrepFRefIdeal.sig) → Buf (Elt Ideal) ℓ) (g' : Dev Cert.PrepFRefIdeal.nD → PrngReg), Pre_PrepFIdeal m →
    (∀ c : Dev Cert.PrepFIdeal.nD,
      m' ((c.tc : Thread Cert.PrepFRefIdeal.nD Cert.PrepFRefIdeal.τ).loc Cert.PrepFRefIdeal.main_arg0) = m ((c.tc : Thread Cert.PrepFIdeal.nD Cert.PrepFIdeal.τ).loc Cert.PrepFIdeal.main_arg0)
      ∧ m' ((c.tc : Thread Cert.PrepFRefIdeal.nD Cert.PrepFRefIdeal.τ).loc Cert.PrepFRefIdeal.main_arg1) = m ((c.tc : Thread Cert.PrepFIdeal.nD Cert.PrepFIdeal.τ).loc Cert.PrepFIdeal.main_arg1)
      ∧ m' ((c.tc : Thread Cert.PrepFRefIdeal.nD Cert.PrepFRefIdeal.τ).loc Cert.PrepFRefIdeal.main_arg2) = m ((c.tc : Thread Cert.PrepFIdeal.nD Cert.PrepFIdeal.τ).loc Cert.PrepFIdeal.main_arg2)
      ∧ m' ((c.tc : Thread Cert.PrepFRefIdeal.nD Cert.PrepFRefIdeal.τ).loc Cert.PrepFRefIdeal.main_arg3) = m ((c.tc : Thread Cert.PrepFIdeal.nD Cert.PrepFIdeal.τ).loc Cert.PrepFIdeal.main_arg3)
      ∧ m' ((c.tc : Thread Cert.PrepFRefIdeal.nD Cert.PrepFRefIdeal.τ).loc Cert.PrepFRefIdeal.main_arg4) = m ((c.tc : Thread Cert.PrepFIdeal.nD Cert.PrepFIdeal.τ).loc Cert.PrepFIdeal.main_arg4)
      ∧ m' ((c.tc : Thread Cert.PrepFRefIdeal.nD Cert.PrepFRefIdeal.τ).loc Cert.PrepFRefIdeal.main_arg5) = m ((c.tc : Thread Cert.PrepFIdeal.nD Cert.PrepFIdeal.τ).loc Cert.PrepFIdeal.main_arg5)) →
    ∃ (v0 : (c : Dev Cert.PrepFIdeal.nD) → Buf (Elt Ideal) ((c.tc : Thread Cert.PrepFIdeal.nD Cert.PrepFIdeal.τ).loc Cert.PrepFIdeal.main_v41_0)) (v1 : (c : Dev Cert.PrepFIdeal.nD) → Buf (Elt Ideal) ((c.tc : Thread Cert.PrepFIdeal.nD Cert.PrepFIdeal.τ).loc Cert.PrepFIdeal.main_v41_1)),
      θ_run (Cert.PrepFIdeal.defs (F := Ideal)) (onTc (τ := Cert.PrepFIdeal.τ) (Cert.PrepFIdeal.main (F := Ideal))) ⟨m, fun _ => 0, g⟩ (fun r => ∀ c : Dev Cert.PrepFIdeal.nD,
          r.2.mem ((c.tc : Thread Cert.PrepFIdeal.nD Cert.PrepFIdeal.τ).loc Cert.PrepFIdeal.main_v41_0) = v0 c
          ∧ r.2.mem ((c.tc : Thread Cert.PrepFIdeal.nD Cert.PrepFIdeal.τ).loc Cert.PrepFIdeal.main_v41_1) = v1 c
          ∧ r.2.mem ((c.tc : Thread Cert.PrepFIdeal.nD Cert.PrepFIdeal.τ).loc Cert.PrepFIdeal.main_arg0) = m ((c.tc : Thread Cert.PrepFIdeal.nD Cert.PrepFIdeal.τ).loc Cert.PrepFIdeal.main_arg0)
          ∧ r.2.mem ((c.tc : Thread Cert.PrepFIdeal.nD Cert.PrepFIdeal.τ).loc Cert.PrepFIdeal.main_arg1) = m ((c.tc : Thread Cert.PrepFIdeal.nD Cert.PrepFIdeal.τ).loc Cert.PrepFIdeal.main_arg1)
          ∧ r.2.mem ((c.tc : Thread Cert.PrepFIdeal.nD Cert.PrepFIdeal.τ).loc Cert.PrepFIdeal.main_arg2) = m ((c.tc : Thread Cert.PrepFIdeal.nD Cert.PrepFIdeal.τ).loc Cert.PrepFIdeal.main_arg2)
          ∧ r.2.mem ((c.tc : Thread Cert.PrepFIdeal.nD Cert.PrepFIdeal.τ).loc Cert.PrepFIdeal.main_arg3) = m ((c.tc : Thread Cert.PrepFIdeal.nD Cert.PrepFIdeal.τ).loc Cert.PrepFIdeal.main_arg3)
          ∧ r.2.mem ((c.tc : Thread Cert.PrepFIdeal.nD Cert.PrepFIdeal.τ).loc Cert.PrepFIdeal.main_arg4) = m ((c.tc : Thread Cert.PrepFIdeal.nD Cert.PrepFIdeal.τ).loc Cert.PrepFIdeal.main_arg4)
          ∧ r.2.mem ((c.tc : Thread Cert.PrepFIdeal.nD Cert.PrepFIdeal.τ).loc Cert.PrepFIdeal.main_arg5) = m ((c.tc : Thread Cert.PrepFIdeal.nD Cert.PrepFIdeal.τ).loc Cert.PrepFIdeal.main_arg5))
      ∧ θ_run (Cert.PrepFRefIdeal.defs (F := Ideal)) (onTc (τ := Cert.PrepFRefIdeal.τ) (Cert.PrepFRefIdeal.main (F := Ideal))) ⟨m', fun _ => 0, g'⟩ (fun r => ∀ c : Dev Cert.PrepFRefIdeal.nD,
          r.2.mem ((c.tc : Thread Cert.PrepFRefIdeal.nD Cert.PrepFRefIdeal.τ).loc Cert.PrepFRefIdeal.main_v195) = v0 c
          ∧ r.2.mem ((c.tc : Thread Cert.PrepFRefIdeal.nD Cert.PrepFRefIdeal.τ).loc Cert.PrepFRefIdeal.main_v196) = v1 c
          ∧ r.2.mem ((c.tc : Thread Cert.PrepFRefIdeal.nD Cert.PrepFRefIdeal.τ).loc Cert.PrepFRefIdeal.main_arg0) = m' ((c.tc : Thread Cert.PrepFRefIdeal.nD Cert.PrepFRefIdeal.τ).loc Cert.PrepFRefIdeal.main_arg0)
          ∧ r.2.mem ((c.tc : Thread Cert.PrepFRefIdeal.nD Cert.PrepFRefIdeal.τ).loc Cert.PrepFRefIdeal.main_arg1) = m' ((c.tc : Thread Cert.PrepFRefIdeal.nD Cert.PrepFRefIdeal.τ).loc Cert.PrepFRefIdeal.main_arg1)
          ∧ r.2.mem ((c.tc : Thread Cert.PrepFRefIdeal.nD Cert.PrepFRefIdeal.τ).loc Cert.PrepFRefIdeal.main_arg2) = m' ((c.tc : Thread Cert.PrepFRefIdeal.nD Cert.PrepFRefIdeal.τ).loc Cert.PrepFRefIdeal.main_arg2)
          ∧ r.2.mem ((c.tc : Thread Cert.PrepFRefIdeal.nD Cert.PrepFRefIdeal.τ).loc Cert.PrepFRefIdeal.main_arg3) = m' ((c.tc : Thread Cert.PrepFRefIdeal.nD Cert.PrepFRefIdeal.τ).loc Cert.PrepFRefIdeal.main_arg3)
          ∧ r.2.mem ((c.tc : Thread Cert.PrepFRefIdeal.nD Cert.PrepFRefIdeal.τ).loc Cert.PrepFRefIdeal.main_arg4) = m' ((c.tc : Thread Cert.PrepFRefIdeal.nD Cert.PrepFRefIdeal.τ).loc Cert.PrepFRefIdeal.main_arg4)
          ∧ r.2.mem ((c.tc : Thread Cert.PrepFRefIdeal.nD Cert.PrepFRefIdeal.τ).loc Cert.PrepFRefIdeal.main_arg5) = m' ((c.tc : Thread Cert.PrepFRefIdeal.nD Cert.PrepFRefIdeal.τ).loc Cert.PrepFRefIdeal.main_arg5))

def Claim : Prop :=
  ∃ (hKernel : Cert.Kernel.Facts) (hKernelIdeal : Cert.KernelIdeal.Facts) (hReferenceIdeal : Cert.ReferenceIdeal.Facts) (hUpH : Cert.UpH.Facts) (hUpHIdeal : Cert.UpHIdeal.Facts) (hUpHRefIdeal : Cert.UpHRefIdeal.Facts) (hUpW : Cert.UpW.Facts) (hUpWIdeal : Cert.UpWIdeal.Facts) (hUpWRefIdeal : Cert.UpWRefIdeal.Facts) (hUpWg : Cert.UpWg.Facts) (hUpWgIdeal : Cert.UpWgIdeal.Facts) (hUpWgRefIdeal : Cert.UpWgRefIdeal.Facts) (hDownA : Cert.DownA.Facts) (hDownAIdeal : Cert.DownAIdeal.Facts) (hDownARefIdeal : Cert.DownARefIdeal.Facts) (hDownW : Cert.DownW.Facts) (hDownWIdeal : Cert.DownWIdeal.Facts) (hDownWRefIdeal : Cert.DownWRefIdeal.Facts) (hInDx : Cert.InDx.Facts) (hInDxIdeal : Cert.InDxIdeal.Facts) (hInDxRefIdeal : Cert.InDxRefIdeal.Facts) (hGateDx : Cert.GateDx.Facts) (hGateDxIdeal : Cert.GateDxIdeal.Facts) (hGateDxRefIdeal : Cert.GateDxRefIdeal.Facts) (hUpX : Cert.UpX.Facts) (hUpXIdeal : Cert.UpXIdeal.Facts) (hUpXRefIdeal : Cert.UpXRefIdeal.Facts) (hInDw : Cert.InDw.Facts) (hInDwIdeal : Cert.InDwIdeal.Facts) (hInDwRefIdeal : Cert.InDwRefIdeal.Facts) (hOutDx : Cert.OutDx.Facts) (hOutDxIdeal : Cert.OutDxIdeal.Facts) (hOutDxRefIdeal : Cert.OutDxRefIdeal.Facts) (hOutDw : Cert.OutDw.Facts) (hOutDwIdeal : Cert.OutDwIdeal.Facts) (hOutDwRefIdeal : Cert.OutDwRefIdeal.Facts) (hGateDw : Cert.GateDw.Facts) (hGateDwIdeal : Cert.GateDwIdeal.Facts) (hGateDwRefIdeal : Cert.GateDwRefIdeal.Facts) (hProjDw : Cert.ProjDw.Facts) (hProjDwIdeal : Cert.ProjDwIdeal.Facts) (hProjDwRefIdeal : Cert.ProjDwRefIdeal.Facts) (hMmUp : Cert.MmUp.Facts) (hMmUpIdeal : Cert.MmUpIdeal.Facts) (hMmUpRefIdeal : Cert.MmUpRefIdeal.Facts) (hMmDown : Cert.MmDown.Facts) (hMmDownIdeal : Cert.MmDownIdeal.Facts) (hMmDownRefIdeal : Cert.MmDownRefIdeal.Facts) (hMmIn : Cert.MmIn.Facts) (hMmInIdeal : Cert.MmInIdeal.Facts) (hMmInRefIdeal : Cert.MmInRefIdeal.Facts) (hMmOut : Cert.MmOut.Facts) (hMmOutIdeal : Cert.MmOutIdeal.Facts) (hMmOutRefIdeal : Cert.MmOutRefIdeal.Facts) (hMmGate : Cert.MmGate.Facts) (hMmGateIdeal : Cert.MmGateIdeal.Facts) (hMmGateRefIdeal : Cert.MmGateRefIdeal.Facts) (hMmProj : Cert.MmProj.Facts) (hMmProjIdeal : Cert.MmProjIdeal.Facts) (hMmProjRefIdeal : Cert.MmProjRefIdeal.Facts) (hPleB : Cert.PleB.Facts) (hPleBIdeal : Cert.PleBIdeal.Facts) (hPleBRefIdeal : Cert.PleBRefIdeal.Facts) (hGnormB : Cert.GnormB.Facts) (hGnormBIdeal : Cert.GnormBIdeal.Facts) (hGnormBRefIdeal : Cert.GnormBRefIdeal.Facts) (hAttnF : Cert.AttnF.Facts) (hAttnFIdeal : Cert.AttnFIdeal.Facts) (hAttnFRefIdeal : Cert.AttnFRefIdeal.Facts) (hMixB : Cert.MixB.Facts) (hMixBIdeal : Cert.MixBIdeal.Facts) (hMixBRefIdeal : Cert.MixBRefIdeal.Facts) (hLoss : Cert.Loss.Facts) (hLossIdeal : Cert.LossIdeal.Facts) (hLossRefIdeal : Cert.LossRefIdeal.Facts) (hPleF : Cert.PleF.Facts) (hPleFIdeal : Cert.PleFIdeal.Facts) (hPleFRefIdeal : Cert.PleFRefIdeal.Facts) (hRmsF : Cert.RmsF.Facts) (hRmsFIdeal : Cert.RmsFIdeal.Facts) (hRmsFRefIdeal : Cert.RmsFRefIdeal.Facts) (hGnormF : Cert.GnormF.Facts) (hGnormFIdeal : Cert.GnormFIdeal.Facts) (hGnormFRefIdeal : Cert.GnormFRefIdeal.Facts) (hMixF : Cert.MixF.Facts) (hMixFIdeal : Cert.MixFIdeal.Facts) (hMixFRefIdeal : Cert.MixFRefIdeal.Facts) (hGateF : Cert.GateF.Facts) (hGateFIdeal : Cert.GateFIdeal.Facts) (hGateFRefIdeal : Cert.GateFRefIdeal.Facts) (hConvF : Cert.ConvF.Facts) (hConvFIdeal : Cert.ConvFIdeal.Facts) (hConvFRefIdeal : Cert.ConvFRefIdeal.Facts) (hAdWs : Cert.AdWs.Facts) (hAdWsIdeal : Cert.AdWsIdeal.Facts) (hAdWsRefIdeal : Cert.AdWsRefIdeal.Facts) (hPrepF : Cert.PrepF.Facts) (hPrepFIdeal : Cert.PrepFIdeal.Facts) (hPrepFRefIdeal : Cert.PrepFRefIdeal.Facts) (hPre_finite : Cert.Pre_finite.Facts) (hPre_finite_scores : Cert.Pre_finite_scores.Facts) (hPre_finite_sums : Cert.Pre_finite_sums.Facts) (hPre_finite_logs : Cert.Pre_finite_logs.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_UpH (hUpH := hUpH)
    ∧ quiescent_UpHIdeal (hUpHIdeal := hUpHIdeal)
    ∧ quiescent_UpHRefIdeal (hUpHRefIdeal := hUpHRefIdeal)
    ∧ quiescent_UpW (hUpW := hUpW)
    ∧ quiescent_UpWIdeal (hUpWIdeal := hUpWIdeal)
    ∧ quiescent_UpWRefIdeal (hUpWRefIdeal := hUpWRefIdeal)
    ∧ quiescent_UpWg (hUpWg := hUpWg)
    ∧ quiescent_UpWgIdeal (hUpWgIdeal := hUpWgIdeal)
    ∧ quiescent_UpWgRefIdeal (hUpWgRefIdeal := hUpWgRefIdeal)
    ∧ quiescent_DownA (hDownA := hDownA)
    ∧ quiescent_DownAIdeal (hDownAIdeal := hDownAIdeal)
    ∧ quiescent_DownARefIdeal (hDownARefIdeal := hDownARefIdeal)
    ∧ quiescent_DownW (hDownW := hDownW)
    ∧ quiescent_DownWIdeal (hDownWIdeal := hDownWIdeal)
    ∧ quiescent_DownWRefIdeal (hDownWRefIdeal := hDownWRefIdeal)
    ∧ quiescent_InDx (hInDx := hInDx)
    ∧ quiescent_InDxIdeal (hInDxIdeal := hInDxIdeal)
    ∧ quiescent_InDxRefIdeal (hInDxRefIdeal := hInDxRefIdeal)
    ∧ quiescent_GateDx (hGateDx := hGateDx)
    ∧ quiescent_GateDxIdeal (hGateDxIdeal := hGateDxIdeal)
    ∧ quiescent_GateDxRefIdeal (hGateDxRefIdeal := hGateDxRefIdeal)
    ∧ quiescent_UpX (hUpX := hUpX)
    ∧ quiescent_UpXIdeal (hUpXIdeal := hUpXIdeal)
    ∧ quiescent_UpXRefIdeal (hUpXRefIdeal := hUpXRefIdeal)
    ∧ quiescent_InDw (hInDw := hInDw)
    ∧ quiescent_InDwIdeal (hInDwIdeal := hInDwIdeal)
    ∧ quiescent_InDwRefIdeal (hInDwRefIdeal := hInDwRefIdeal)
    ∧ quiescent_OutDx (hOutDx := hOutDx)
    ∧ quiescent_OutDxIdeal (hOutDxIdeal := hOutDxIdeal)
    ∧ quiescent_OutDxRefIdeal (hOutDxRefIdeal := hOutDxRefIdeal)
    ∧ quiescent_OutDw (hOutDw := hOutDw)
    ∧ quiescent_OutDwIdeal (hOutDwIdeal := hOutDwIdeal)
    ∧ quiescent_OutDwRefIdeal (hOutDwRefIdeal := hOutDwRefIdeal)
    ∧ quiescent_GateDw (hGateDw := hGateDw)
    ∧ quiescent_GateDwIdeal (hGateDwIdeal := hGateDwIdeal)
    ∧ quiescent_GateDwRefIdeal (hGateDwRefIdeal := hGateDwRefIdeal)
    ∧ quiescent_ProjDw (hProjDw := hProjDw)
    ∧ quiescent_ProjDwIdeal (hProjDwIdeal := hProjDwIdeal)
    ∧ quiescent_ProjDwRefIdeal (hProjDwRefIdeal := hProjDwRefIdeal)
    ∧ quiescent_MmUp (hMmUp := hMmUp)
    ∧ quiescent_MmUpIdeal (hMmUpIdeal := hMmUpIdeal)
    ∧ quiescent_MmUpRefIdeal (hMmUpRefIdeal := hMmUpRefIdeal)
    ∧ quiescent_MmDown (hMmDown := hMmDown)
    ∧ quiescent_MmDownIdeal (hMmDownIdeal := hMmDownIdeal)
    ∧ quiescent_MmDownRefIdeal (hMmDownRefIdeal := hMmDownRefIdeal)
    ∧ quiescent_MmIn (hMmIn := hMmIn)
    ∧ quiescent_MmInIdeal (hMmInIdeal := hMmInIdeal)
    ∧ quiescent_MmInRefIdeal (hMmInRefIdeal := hMmInRefIdeal)
    ∧ quiescent_MmOut (hMmOut := hMmOut)
    ∧ quiescent_MmOutIdeal (hMmOutIdeal := hMmOutIdeal)
    ∧ quiescent_MmOutRefIdeal (hMmOutRefIdeal := hMmOutRefIdeal)
    ∧ quiescent_MmGate (hMmGate := hMmGate)
    ∧ quiescent_MmGateIdeal (hMmGateIdeal := hMmGateIdeal)
    ∧ quiescent_MmGateRefIdeal (hMmGateRefIdeal := hMmGateRefIdeal)
    ∧ quiescent_MmProj (hMmProj := hMmProj)
    ∧ quiescent_MmProjIdeal (hMmProjIdeal := hMmProjIdeal)
    ∧ quiescent_MmProjRefIdeal (hMmProjRefIdeal := hMmProjRefIdeal)
    ∧ quiescent_PleB (hPleB := hPleB)
    ∧ quiescent_PleBIdeal (hPleBIdeal := hPleBIdeal)
    ∧ quiescent_PleBRefIdeal (hPleBRefIdeal := hPleBRefIdeal)
    ∧ quiescent_GnormB (hGnormB := hGnormB)
    ∧ quiescent_GnormBIdeal (hGnormBIdeal := hGnormBIdeal)
    ∧ quiescent_GnormBRefIdeal (hGnormBRefIdeal := hGnormBRefIdeal)
    ∧ quiescent_AttnF (hAttnF := hAttnF)
    ∧ quiescent_AttnFIdeal (hAttnFIdeal := hAttnFIdeal)
    ∧ quiescent_AttnFIdeal_pre_finite_scores (hAttnFIdeal := hAttnFIdeal) (hPre_finite_scores := hPre_finite_scores)
    ∧ quiescent_AttnFRefIdeal (hAttnFRefIdeal := hAttnFRefIdeal)
    ∧ quiescent_AttnFRefIdeal_pre_finite_scores (hAttnFRefIdeal := hAttnFRefIdeal) (hPre_finite_scores := hPre_finite_scores)
    ∧ quiescent_MixB (hMixB := hMixB)
    ∧ quiescent_MixBIdeal (hMixBIdeal := hMixBIdeal)
    ∧ quiescent_MixBIdeal_pre_finite_sums (hMixBIdeal := hMixBIdeal) (hPre_finite_sums := hPre_finite_sums)
    ∧ quiescent_MixBRefIdeal (hMixBRefIdeal := hMixBRefIdeal)
    ∧ quiescent_MixBRefIdeal_pre_finite_sums (hMixBRefIdeal := hMixBRefIdeal) (hPre_finite_sums := hPre_finite_sums)
    ∧ quiescent_Loss (hLoss := hLoss)
    ∧ quiescent_LossIdeal (hLossIdeal := hLossIdeal)
    ∧ quiescent_LossRefIdeal (hLossRefIdeal := hLossRefIdeal)
    ∧ quiescent_PleF (hPleF := hPleF)
    ∧ quiescent_PleFIdeal (hPleFIdeal := hPleFIdeal)
    ∧ quiescent_PleFRefIdeal (hPleFRefIdeal := hPleFRefIdeal)
    ∧ quiescent_RmsF (hRmsF := hRmsF)
    ∧ quiescent_RmsFIdeal (hRmsFIdeal := hRmsFIdeal)
    ∧ quiescent_RmsFRefIdeal (hRmsFRefIdeal := hRmsFRefIdeal)
    ∧ quiescent_GnormF (hGnormF := hGnormF)
    ∧ quiescent_GnormFIdeal (hGnormFIdeal := hGnormFIdeal)
    ∧ quiescent_GnormFRefIdeal (hGnormFRefIdeal := hGnormFRefIdeal)
    ∧ quiescent_MixF (hMixF := hMixF)
    ∧ quiescent_MixFIdeal (hMixFIdeal := hMixFIdeal)
    ∧ quiescent_MixFIdeal_pre_finite_logs (hMixFIdeal := hMixFIdeal) (hPre_finite_logs := hPre_finite_logs)
    ∧ quiescent_MixFRefIdeal (hMixFRefIdeal := hMixFRefIdeal)
    ∧ quiescent_MixFRefIdeal_pre_finite_logs (hMixFRefIdeal := hMixFRefIdeal) (hPre_finite_logs := hPre_finite_logs)
    ∧ quiescent_GateF (hGateF := hGateF)
    ∧ quiescent_GateFIdeal (hGateFIdeal := hGateFIdeal)
    ∧ quiescent_GateFRefIdeal (hGateFRefIdeal := hGateFRefIdeal)
    ∧ quiescent_ConvF (hConvF := hConvF)
    ∧ quiescent_ConvFIdeal (hConvFIdeal := hConvFIdeal)
    ∧ quiescent_ConvFRefIdeal (hConvFRefIdeal := hConvFRefIdeal)
    ∧ quiescent_AdWs (hAdWs := hAdWs)
    ∧ quiescent_AdWsIdeal (hAdWsIdeal := hAdWsIdeal)
    ∧ quiescent_AdWsRefIdeal (hAdWsRefIdeal := hAdWsRefIdeal)
    ∧ quiescent_PrepF (hPrepF := hPrepF)
    ∧ quiescent_PrepFIdeal (hPrepFIdeal := hPrepFIdeal)
    ∧ quiescent_PrepFRefIdeal (hPrepFRefIdeal := hPrepFRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_UpH_UpHIdeal
    ∧ algebraic_UpHIdeal_UpHRefIdeal (hUpHIdeal := hUpHIdeal) (hUpHRefIdeal := hUpHRefIdeal)
    ∧ preserves_UpW_UpWIdeal
    ∧ algebraic_UpWIdeal_UpWRefIdeal (hUpWIdeal := hUpWIdeal) (hUpWRefIdeal := hUpWRefIdeal)
    ∧ preserves_UpWg_UpWgIdeal
    ∧ algebraic_UpWgIdeal_UpWgRefIdeal (hUpWgIdeal := hUpWgIdeal) (hUpWgRefIdeal := hUpWgRefIdeal)
    ∧ preserves_DownA_DownAIdeal
    ∧ algebraic_DownAIdeal_DownARefIdeal (hDownAIdeal := hDownAIdeal) (hDownARefIdeal := hDownARefIdeal)
    ∧ preserves_DownW_DownWIdeal
    ∧ algebraic_DownWIdeal_DownWRefIdeal (hDownWIdeal := hDownWIdeal) (hDownWRefIdeal := hDownWRefIdeal)
    ∧ preserves_InDx_InDxIdeal
    ∧ algebraic_InDxIdeal_InDxRefIdeal (hInDxIdeal := hInDxIdeal) (hInDxRefIdeal := hInDxRefIdeal)
    ∧ preserves_GateDx_GateDxIdeal
    ∧ algebraic_GateDxIdeal_GateDxRefIdeal (hGateDxIdeal := hGateDxIdeal) (hGateDxRefIdeal := hGateDxRefIdeal)
    ∧ preserves_UpX_UpXIdeal
    ∧ algebraic_UpXIdeal_UpXRefIdeal (hUpXIdeal := hUpXIdeal) (hUpXRefIdeal := hUpXRefIdeal)
    ∧ preserves_InDw_InDwIdeal
    ∧ algebraic_InDwIdeal_InDwRefIdeal (hInDwIdeal := hInDwIdeal) (hInDwRefIdeal := hInDwRefIdeal)
    ∧ preserves_OutDx_OutDxIdeal
    ∧ algebraic_OutDxIdeal_OutDxRefIdeal (hOutDxIdeal := hOutDxIdeal) (hOutDxRefIdeal := hOutDxRefIdeal)
    ∧ preserves_OutDw_OutDwIdeal
    ∧ algebraic_OutDwIdeal_OutDwRefIdeal (hOutDwIdeal := hOutDwIdeal) (hOutDwRefIdeal := hOutDwRefIdeal)
    ∧ preserves_GateDw_GateDwIdeal
    ∧ algebraic_GateDwIdeal_GateDwRefIdeal (hGateDwIdeal := hGateDwIdeal) (hGateDwRefIdeal := hGateDwRefIdeal)
    ∧ preserves_ProjDw_ProjDwIdeal
    ∧ algebraic_ProjDwIdeal_ProjDwRefIdeal (hProjDwIdeal := hProjDwIdeal) (hProjDwRefIdeal := hProjDwRefIdeal)
    ∧ preserves_MmUp_MmUpIdeal
    ∧ algebraic_MmUpIdeal_MmUpRefIdeal (hMmUpIdeal := hMmUpIdeal) (hMmUpRefIdeal := hMmUpRefIdeal)
    ∧ preserves_MmDown_MmDownIdeal
    ∧ algebraic_MmDownIdeal_MmDownRefIdeal (hMmDownIdeal := hMmDownIdeal) (hMmDownRefIdeal := hMmDownRefIdeal)
    ∧ preserves_MmIn_MmInIdeal
    ∧ algebraic_MmInIdeal_MmInRefIdeal (hMmInIdeal := hMmInIdeal) (hMmInRefIdeal := hMmInRefIdeal)
    ∧ preserves_MmOut_MmOutIdeal
    ∧ algebraic_MmOutIdeal_MmOutRefIdeal (hMmOutIdeal := hMmOutIdeal) (hMmOutRefIdeal := hMmOutRefIdeal)
    ∧ preserves_MmGate_MmGateIdeal
    ∧ algebraic_MmGateIdeal_MmGateRefIdeal (hMmGateIdeal := hMmGateIdeal) (hMmGateRefIdeal := hMmGateRefIdeal)
    ∧ preserves_MmProj_MmProjIdeal
    ∧ algebraic_MmProjIdeal_MmProjRefIdeal (hMmProjIdeal := hMmProjIdeal) (hMmProjRefIdeal := hMmProjRefIdeal)
    ∧ preserves_PleB_PleBIdeal
    ∧ algebraic_PleBIdeal_PleBRefIdeal (hPleBIdeal := hPleBIdeal) (hPleBRefIdeal := hPleBRefIdeal)
    ∧ preserves_GnormB_GnormBIdeal
    ∧ algebraic_GnormBIdeal_GnormBRefIdeal (hGnormBIdeal := hGnormBIdeal) (hGnormBRefIdeal := hGnormBRefIdeal)
    ∧ preserves_AttnF_AttnFIdeal
    ∧ algebraic_AttnFIdeal_AttnFRefIdeal_pre_finite_scores (hAttnFIdeal := hAttnFIdeal) (hAttnFRefIdeal := hAttnFRefIdeal) (hPre_finite_scores := hPre_finite_scores)
    ∧ preserves_MixB_MixBIdeal
    ∧ algebraic_MixBIdeal_MixBRefIdeal_pre_finite_sums (hMixBIdeal := hMixBIdeal) (hMixBRefIdeal := hMixBRefIdeal) (hPre_finite_sums := hPre_finite_sums)
    ∧ preserves_Loss_LossIdeal
    ∧ algebraic_LossIdeal_LossRefIdeal (hLossIdeal := hLossIdeal) (hLossRefIdeal := hLossRefIdeal)
    ∧ preserves_PleF_PleFIdeal
    ∧ algebraic_PleFIdeal_PleFRefIdeal (hPleFIdeal := hPleFIdeal) (hPleFRefIdeal := hPleFRefIdeal)
    ∧ preserves_RmsF_RmsFIdeal
    ∧ algebraic_RmsFIdeal_RmsFRefIdeal (hRmsFIdeal := hRmsFIdeal) (hRmsFRefIdeal := hRmsFRefIdeal)
    ∧ preserves_GnormF_GnormFIdeal
    ∧ algebraic_GnormFIdeal_GnormFRefIdeal (hGnormFIdeal := hGnormFIdeal) (hGnormFRefIdeal := hGnormFRefIdeal)
    ∧ preserves_MixF_MixFIdeal
    ∧ algebraic_MixFIdeal_MixFRefIdeal_pre_finite_logs (hMixFIdeal := hMixFIdeal) (hMixFRefIdeal := hMixFRefIdeal) (hPre_finite_logs := hPre_finite_logs)
    ∧ preserves_GateF_GateFIdeal
    ∧ algebraic_GateFIdeal_GateFRefIdeal (hGateFIdeal := hGateFIdeal) (hGateFRefIdeal := hGateFRefIdeal)
    ∧ preserves_ConvF_ConvFIdeal
    ∧ algebraic_ConvFIdeal_ConvFRefIdeal (hConvFIdeal := hConvFIdeal) (hConvFRefIdeal := hConvFRefIdeal)
    ∧ preserves_AdWs_AdWsIdeal
    ∧ algebraic_AdWsIdeal_AdWsRefIdeal (hAdWsIdeal := hAdWsIdeal) (hAdWsRefIdeal := hAdWsRefIdeal)
    ∧ preserves_PrepF_PrepFIdeal
    ∧ algebraic_PrepFIdeal_PrepFRefIdeal (hPrepFIdeal := hPrepFIdeal) (hPrepFRefIdeal := hPrepFRefIdeal)
-- ==== Pre_finite.lean ====
abbrev S2x2048x4x64 : Shape := ⟨4, ![2, 2048, 4, 64]⟩
abbrev S2x2048x2x64 : Shape := ⟨4, ![2, 2048, 2, 64]⟩
abbrev S_ : Shape := ⟨0, ![]⟩

class Facts : Prop where
  bcast_S_S2x2048x4x64 : S_.BroadcastsInDim S2x2048x4x64 (![] : Fin 0 → Fin S2x2048x4x64.rank)
  reducesTo_S2x2048x4x64_S_d0_1_2_3 : S2x2048x4x64.ReducesTo [0, 1, 2, 3] S_
  h_S_ : 0 < S_.numel
  bcast_S_S2x2048x2x64 : S_.BroadcastsInDim S2x2048x2x64 (![] : Fin 0 → Fin S2x2048x2x64.rank)
  reducesTo_S2x2048x2x64_S_d0_1_2_3 : S2x2048x2x64.ReducesTo [0, 1, 2, 3] S_

variable [Facts]

def fn_part1 {F : FTy → Type} [FloatOps F] (main_v13 : IVec S_ 1) (main_v16 : IVec S2x2048x4x64 1) : IVec S_ 1 :=
  let main_c_5 : IVec S_ 1 := constantI S_ 1 1#1
  let main_v17 : IVec S_ 1 := (fun x v => Host.reduce IntOp.andi x v reducesTo_S2x2048x4x64_S_d0_1_2_3 h_S_) main_v16 main_c_5
  let main_v18 : IVec S_ 1 := andi main_v13 main_v17
  main_v18

def fn {F : FTy → Type} [FloatOps F] (main_arg0 : FVec F S2x2048x4x64 .f32) (main_arg1 : FVec F S2x2048x2x64 .f32) (main_arg2 : FVec F S2x2048x2x64 .f32) (main_arg3 : FVec F S2x2048x4x64 .f32) : IVec S_ 1 :=
  let main_v0 : FVec F S2x2048x4x64 .f32 := Host.absf main_arg0
  let main_cst : FVec F S_ .f32 := constant S_ .f32 0x7F800000#32
  let main_v1 : FVec F S2x2048x4x64 .f32 := broadcastInDim S2x2048x4x64 ![] bcast_S_S2x2048x4x64 main_cst
  let main_v2 : IVec S2x2048x4x64 1 := cmpf .olt main_v0 main_v1
  let main_c : IVec S_ 1 := constantI S_ 1 1#1
  let main_v3 : IVec S_ 1 := (fun x v => Host.reduce IntOp.andi x v reducesTo_S2x2048x4x64_S_d0_1_2_3 h_S_) main_v2 main_c
  let main_v4 : FVec F S2x2048x2x64 .f32 := Host.absf main_arg1
  let main_cst_0 : FVec F S_ .f32 := constant S_ .f32 0x7F800000#32
  let main_v5 : FVec F S2x2048x2x64 .f32 := broadcastInDim S2x2048x2x64 ![] bcast_S_S2x2048x2x64 main_cst_0
  let main_v6 : IVec S2x2048x2x64 1 := cmpf .olt main_v4 main_v5
  let main_c_1 : IVec S_ 1 := constantI S_ 1 1#1
  let main_v7 : IVec S_ 1 := (fun x v => Host.reduce IntOp.andi x v reducesTo_S2x2048x2x64_S_d0_1_2_3 h_S_) main_v6 main_c_1
  let main_v8 : IVec S_ 1 := andi main_v3 main_v7
  let main_v9 : FVec F S2x2048x2x64 .f32 := Host.absf main_arg2
  let main_cst_2 : FVec F S_ .f32 := constant S_ .f32 0x7F800000#32
  let main_v10 : FVec F S2x2048x2x64 .f32 := broadcastInDim S2x2048x2x64 ![] bcast_S_S2x2048x2x64 main_cst_2
  let main_v11 : IVec S2x2048x2x64 1 := cmpf .olt main_v9 main_v10
  let main_c_3 : IVec S_ 1 := constantI S_ 1 1#1
  let main_v12 : IVec S_ 1 := (fun x v => Host.reduce IntOp.andi x v reducesTo_S2x2048x2x64_S_d0_1_2_3 h_S_) main_v11 main_c_3
  let main_v13 : IVec S_ 1 := andi main_v8 main_v12
  let main_v14 : FVec F S2x2048x4x64 .f32 := Host.absf main_arg3
  let main_cst_4 : FVec F S_ .f32 := constant S_ .f32 0x7F800000#32
  let main_v15 : FVec F S2x2048x4x64 .f32 := broadcastInDim S2x2048x4x64 ![] bcast_S_S2x2048x4x64 main_cst_4
  let main_v16 : IVec S2x2048x4x64 1 := cmpf .olt main_v14 main_v15
  fn_part1 (F := F) main_v13 main_v16
-- ==== Pre_finite_logs.lean ====
abbrev S4096x4x64 : Shape := ⟨3, ![4096, 4, 64]⟩
abbrev S4096x4 : Shape := ⟨2, ![4096, 4]⟩
abbrev S_ : Shape := ⟨0, ![]⟩

class Facts : Prop where
  bcast_S_S4096x4 : S_.BroadcastsInDim S4096x4 (![] : Fin 0 → Fin S4096x4.rank)
  reducesTo_S4096x4_S_d0_1 : S4096x4.ReducesTo [0, 1] S_
  h_S_ : 0 < S_.numel

variable [Facts]

def fn {F : FTy → Type} [FloatOps F] (main_arg0 : FVec F S4096x4x64 .f32) (main_arg1 : FVec F S4096x4x64 .f32) (main_arg2 : FVec F S4096x4x64 .f32) (main_arg3 : FVec F S4096x4 .f32) (main_arg4 : FVec F S4096x4 .f32) (main_arg5 : FVec F S4096x4 .f32) : IVec S_ 1 :=
  let main_v0 : FVec F S4096x4 .f32 := Host.absf main_arg3
  let main_cst : FVec F S_ .f32 := constant S_ .f32 0x7F800000#32
  let main_v1 : FVec F S4096x4 .f32 := broadcastInDim S4096x4 ![] bcast_S_S4096x4 main_cst
  let main_v2 : IVec S4096x4 1 := cmpf .olt main_v0 main_v1
  let main_c : IVec S_ 1 := constantI S_ 1 1#1
  let main_v3 : IVec S_ 1 := (fun x v => Host.reduce IntOp.andi x v reducesTo_S4096x4_S_d0_1 h_S_) main_v2 main_c
  let main_v4 : FVec F S4096x4 .f32 := Host.absf main_arg4
  let main_cst_0 : FVec F S_ .f32 := constant S_ .f32 0x7F800000#32
  let main_v5 : FVec F S4096x4 .f32 := broadcastInDim S4096x4 ![] bcast_S_S4096x4 main_cst_0
  let main_v6 : IVec S4096x4 1 := cmpf .olt main_v4 main_v5
  let main_c_1 : IVec S_ 1 := constantI S_ 1 1#1
  let main_v7 : IVec S_ 1 := (fun x v => Host.reduce IntOp.andi x v reducesTo_S4096x4_S_d0_1 h_S_) main_v6 main_c_1
  let main_v8 : IVec S_ 1 := andi main_v3 main_v7
  let main_v9 : FVec F S4096x4 .f32 := Host.absf main_arg5
  let main_cst_2 : FVec F S_ .f32 := constant S_ .f32 0x7F800000#32
  let main_v10 : FVec F S4096x4 .f32 := broadcastInDim S4096x4 ![] bcast_S_S4096x4 main_cst_2
  let main_v11 : IVec S4096x4 1 := cmpf .olt main_v9 main_v10
  let main_c_3 : IVec S_ 1 := constantI S_ 1 1#1
  let main_v12 : IVec S_ 1 := (fun x v => Host.reduce IntOp.andi x v reducesTo_S4096x4_S_d0_1 h_S_) main_v11 main_c_3
  let main_v13 : IVec S_ 1 := andi main_v8 main_v12
  main_v13
-- ==== Pre_finite_scores.lean ====
abbrev S2x2048x4x64 : Shape := ⟨4, ![2, 2048, 4, 64]⟩
abbrev S2x2048x2x64 : Shape := ⟨4, ![2, 2048, 2, 64]⟩
abbrev S_ : Shape := ⟨0, ![]⟩

class Facts : Prop where
  bcast_S_S2x2048x4x64 : S_.BroadcastsInDim S2x2048x4x64 (![] : Fin 0 → Fin S2x2048x4x64.rank)
  reducesTo_S2x2048x4x64_S_d0_1_2_3 : S2x2048x4x64.ReducesTo [0, 1, 2, 3] S_
  h_S_ : 0 < S_.numel
  bcast_S_S2x2048x2x64 : S_.BroadcastsInDim S2x2048x2x64 (![] : Fin 0 → Fin S2x2048x2x64.rank)
  reducesTo_S2x2048x2x64_S_d0_1_2_3 : S2x2048x2x64.ReducesTo [0, 1, 2, 3] S_

variable [Facts]

def fn {F : FTy → Type} [FloatOps F] (main_arg0 : FVec F S2x2048x4x64 .f32) (main_arg1 : FVec F S2x2048x2x64 .f32) (main_arg2 : FVec F S2x2048x2x64 .f32) : IVec S_ 1 :=
  let main_v0 : FVec F S2x2048x4x64 .f32 := Host.absf main_arg0
  let main_cst : FVec F S_ .f32 := constant S_ .f32 0x7F800000#32
  let main_v1 : FVec F S2x2048x4x64 .f32 := broadcastInDim S2x2048x4x64 ![] bcast_S_S2x2048x4x64 main_cst
  let main_v2 : IVec S2x2048x4x64 1 := cmpf .olt main_v0 main_v1
  let main_c : IVec S_ 1 := constantI S_ 1 1#1
  let main_v3 : IVec S_ 1 := (fun x v => Host.reduce IntOp.andi x v reducesTo_S2x2048x4x64_S_d0_1_2_3 h_S_) main_v2 main_c
  let main_v4 : FVec F S2x2048x2x64 .f32 := Host.absf main_arg1
  let main_cst_0 : FVec F S_ .f32 := constant S_ .f32 0x7F800000#32
  let main_v5 : FVec F S2x2048x2x64 .f32 := broadcastInDim S2x2048x2x64 ![] bcast_S_S2x2048x2x64 main_cst_0
  let main_v6 : IVec S2x2048x2x64 1 := cmpf .olt main_v4 main_v5
  let main_c_1 : IVec S_ 1 := constantI S_ 1 1#1
  let main_v7 : IVec S_ 1 := (fun x v => Host.reduce IntOp.andi x v reducesTo_S2x2048x2x64_S_d0_1_2_3 h_S_) main_v6 main_c_1
  let main_v8 : IVec S_ 1 := andi main_v3 main_v7
  main_v8
-- ==== Pre_finite_sums.lean ====
abbrev S4096x4x64 : Shape := ⟨3, ![4096, 4, 64]⟩
abbrev S4096x4 : Shape := ⟨2, ![4096, 4]⟩
abbrev S4096x256 : Shape := ⟨2, ![4096, 256]⟩
abbrev S_ : Shape := ⟨0, ![]⟩

class Facts : Prop where
  bcast_S_S4096x4 : S_.BroadcastsInDim S4096x4 (![] : Fin 0 → Fin S4096x4.rank)
  reducesTo_S4096x4_S_d0_1 : S4096x4.ReducesTo [0, 1] S_
  h_S_ : 0 < S_.numel

variable [Facts]

def fn {F : FTy → Type} [FloatOps F] (main_arg0 : FVec F S4096x4x64 .f32) (main_arg1 : FVec F S4096x4x64 .f32) (main_arg2 : FVec F S4096x4x64 .f32) (main_arg3 : FVec F S4096x4 .f32) (main_arg4 : FVec F S4096x4 .f32) (main_arg5 : FVec F S4096x4 .f32) (main_arg6 : FVec F S4096x256 .f32) : IVec S_ 1 :=
  let main_v0 : FVec F S4096x4 .f32 := Host.absf main_arg3
  let main_cst : FVec F S_ .f32 := constant S_ .f32 0x7F800000#32
  let main_v1 : FVec F S4096x4 .f32 := broadcastInDim S4096x4 ![] bcast_S_S4096x4 main_cst
  let main_v2 : IVec S4096x4 1 := cmpf .olt main_v0 main_v1
  let main_c : IVec S_ 1 := constantI S_ 1 1#1
  let main_v3 : IVec S_ 1 := (fun x v => Host.reduce IntOp.andi x v reducesTo_S4096x4_S_d0_1 h_S_) main_v2 main_c
  let main_v4 : FVec F S4096x4 .f32 := Host.absf main_arg4
  let main_cst_0 : FVec F S_ .f32 := constant S_ .f32 0x7F800000#32
  let main_v5 : FVec F S4096x4 .f32 := broadcastInDim S4096x4 ![] bcast_S_S4096x4 main_cst_0
  let main_v6 : IVec S4096x4 1 := cmpf .olt main_v4 main_v5
  let main_c_1 : IVec S_ 1 := constantI S_ 1 1#1
  let main_v7 : IVec S_ 1 := (fun x v => Host.reduce IntOp.andi x v reducesTo_S4096x4_S_d0_1 h_S_) main_v6 main_c_1
  let main_v8 : IVec S_ 1 := andi main_v3 main_v7
  let main_v9 : FVec F S4096x4 .f32 := Host.absf main_arg5
  let main_cst_2 : FVec F S_ .f32 := constant S_ .f32 0x7F800000#32
  let main_v10 : FVec F S4096x4 .f32 := broadcastInDim S4096x4 ![] bcast_S_S4096x4 main_cst_2
  let main_v11 : IVec S4096x4 1 := cmpf .olt main_v9 main_v10
  let main_c_3 : IVec S_ 1 := constantI S_ 1 1#1
  let main_v12 : IVec S_ 1 := (fun x v => Host.reduce IntOp.andi x v reducesTo_S4096x4_S_d0_1 h_S_) main_v11 main_c_3
  let main_v13 : IVec S_ 1 := andi main_v8 main_v12
  main_v13
-- ==== Kernel.lean ====
abbrev S2x2048x4x64 : Shape := ⟨4, ![2, 2048, 4, 64]⟩
abbrev S2x2048x2x64 : Shape := ⟨4, ![2, 2048, 2, 64]⟩
abbrev S2x2048x2x2x64 : Shape := ⟨5, ![2, 2048, 2, 2, 64]⟩
abbrev S2x2x2048x2048x2 : Shape := ⟨5, ![2, 2, 2048, 2048, 2]⟩
abbrev S2x2x2x2048x2048 : Shape := ⟨5, ![2, 2, 2, 2048, 2048]⟩
abbrev S_ : Shape := ⟨0, ![]⟩
abbrev S2x2x2x2048 : Shape := ⟨4, ![2, 2, 2, 2048]⟩
abbrev S2x2x2x2048x1 : Shape := ⟨5, ![2, 2, 2, 2048, 1]⟩
abbrev S2x2x64x2x2048 : Shape := ⟨5, ![2, 2, 64, 2, 2048]⟩
abbrev S2x2048x256 : Shape := ⟨3, ![2, 2048, 256]⟩
abbrev S2x2048x2x2 : Shape := ⟨4, ![2, 2048, 2, 2]⟩
abbrev S2x2048x4 : Shape := ⟨3, ![2, 2048, 4]⟩
abbrev S2x2048x4x1 : Shape := ⟨4, ![2, 2048, 4, 1]⟩
abbrev S2x2048x512 : Shape := ⟨3, ![2, 2048, 512]⟩
abbrev S2x2048x128 : Shape := ⟨3, ![2, 2048, 128]⟩
abbrev S2x2048x1024 : Shape := ⟨3, ![2, 2048, 1024]⟩
abbrev S1x128x256 : Shape := ⟨3, ![1, 128, 256]⟩
abbrev S1x2048x128 : Shape := ⟨3, ![1, 2048, 128]⟩
abbrev S1x128 : Shape := ⟨2, ![1, 128]⟩
abbrev S1x128x128 : Shape := ⟨3, ![1, 128, 128]⟩
abbrev S128x128 : Shape := ⟨2, ![128, 128]⟩
abbrev S256x128 : Shape := ⟨2, ![256, 128]⟩
abbrev S128 : Shape := ⟨1, ![128]⟩
abbrev S128x1 : Shape := ⟨2, ![128, 1]⟩
abbrev S256x1 : Shape := ⟨2, ![256, 1]⟩
abbrev S2048x128 : Shape := ⟨2, ![2048, 128]⟩
abbrev S256x2048 : Shape := ⟨2, ![256, 2048]⟩

abbrev nBuf : Space → Nat
  | .hbm => 64
  | .vmem => 18
  | .smem => 0
  | _ => 0

abbrev bufTy : (tb : Table) → Fin (tcTables nBuf tb) → BufTy
  | .hbm, ⟨0, _⟩ => ⟨S2x2048x4x64, .f32⟩
  | .hbm, ⟨1, _⟩ => ⟨S2x2048x2x64, .f32⟩
  | .hbm, ⟨2, _⟩ => ⟨S2x2048x2x64, .f32⟩
  | .hbm, ⟨3, _⟩ => ⟨S2x2048x4x64, .f32⟩
  | .hbm, ⟨4, _⟩ => ⟨S2x2048x2x2x64, .f32⟩
  | .hbm, ⟨5, _⟩ => ⟨S2x2x2048x2048x2, .f32⟩
  | .hbm, ⟨6, _⟩ => ⟨S2x2x2x2048x2048, .f32⟩
  | .hbm, ⟨7, _⟩ => ⟨S_, .f32⟩
  | .hbm, ⟨8, _⟩ => ⟨S2x2x2x2048x2048, .f32⟩
  | .hbm, ⟨9, _⟩ => ⟨S2x2x2x2048x2048, .f32⟩
  | .hbm, ⟨10, _⟩ => ⟨S_, .f32⟩
  | .hbm, ⟨11, _⟩ => ⟨S2x2x2x2048, .f32⟩
  | .hbm, ⟨12, _⟩ => ⟨S_, .f32⟩
  | .hbm, ⟨13, _⟩ => ⟨S2x2x2x2048, .f32⟩
  | .hbm, ⟨14, _⟩ => ⟨S2x2x2x2048, .f32⟩
  | .hbm, ⟨15, _⟩ => ⟨S2x2x2x2048x1, .f32⟩
  | .hbm, ⟨16, _⟩ => ⟨S2x2x2x2048x2048, .f32⟩
  | .hbm, ⟨17, _⟩ => ⟨S2x2x2x2048x2048, .f32⟩
  | .hbm, ⟨18, _⟩ => ⟨S2x2x2x2048x2048, .f32⟩
  | .hbm, ⟨19, _⟩ => ⟨S_, .f32⟩
  | .hbm, ⟨20, _⟩ => ⟨S2x2x2x2048, .f32⟩
  | .hbm, ⟨21, _⟩ => ⟨S2x2x2x2048x1, .f32⟩
  | .hbm, ⟨22, _⟩ => ⟨S2x2x2x2048x2048, .f32⟩
  | .hbm, ⟨23, _⟩ => ⟨S2x2x2x2048x2048, .f32⟩
  | .hbm, ⟨24, _⟩ => ⟨S2x2x64x2x2048, .f32⟩
  | .hbm, ⟨25, _⟩ => ⟨S2x2048x2x2x64, .f32⟩
  | .hbm, ⟨26, _⟩ => ⟨S2x2048x4x64, .f32⟩
  | .hbm, ⟨27, _⟩ => ⟨S2x2048x256, .f32⟩
  | .hbm, ⟨28, _⟩ => ⟨S2x2048x2x2x64, .f32⟩
  | .hbm, ⟨29, _⟩ => ⟨S2x2x2048x2048x2, .f32⟩
  | .hbm, ⟨30, _⟩ => ⟨S2x2x2x2048x2048, .f32⟩
  | .hbm, ⟨31, _⟩ => ⟨S_, .f32⟩
  | .hbm, ⟨32, _⟩ => ⟨S2x2x2x2048x2048, .f32⟩
  | .hbm, ⟨33, _⟩ => ⟨S2x2x2x2048x2048, .f32⟩
  | .hbm, ⟨34, _⟩ => ⟨S_, .f32⟩
  | .hbm, ⟨35, _⟩ => ⟨S2x2x2x2048, .f32⟩
  | .hbm, ⟨36, _⟩ => ⟨S2x2x2x2048x1, .f32⟩
  | .hbm, ⟨37, _⟩ => ⟨S2x2x2x2048x2048, .f32⟩
  | .hbm, ⟨38, _⟩ => ⟨S2x2x2x2048x2048, .f32⟩
  | .hbm, ⟨39, _⟩ => ⟨S2x2x2x2048x2048, .f32⟩
  | .hbm, ⟨40, _⟩ => ⟨S_, .f32⟩
  | .hbm, ⟨41, _⟩ => ⟨S2x2x2x2048, .f32⟩
  | .hbm, ⟨42, _⟩ => ⟨S2x2x2x2048x1, .f32⟩
  | .hbm, ⟨43, _⟩ => ⟨S2x2x2x2048x1, .f32⟩
  | .hbm, ⟨44, _⟩ => ⟨S2x2x2x2048x1, .f32⟩
  | .hbm, ⟨45, _⟩ => ⟨S2x2x2x2048, .f32⟩
  | .hbm, ⟨46, _⟩ => ⟨S2x2048x2x2, .f32⟩
  | .hbm, ⟨47, _⟩ => ⟨S2x2048x4, .f32⟩
  | .hbm, ⟨48, _⟩ => ⟨S2x2048x4x1, .f32⟩
  | .hbm, ⟨49, _⟩ => ⟨S2x2048x4x64, .f32⟩
  | .hbm, ⟨50, _⟩ => ⟨S2x2048x256, .f32⟩
  | .hbm, ⟨51, _⟩ => ⟨S_, .bf16⟩
  | .hbm, ⟨52, _⟩ => ⟨S2x2048x512, .bf16⟩
  | .hbm, ⟨53, _⟩ => ⟨S2x2048x256, .f32⟩
  | .hbm, ⟨54, _⟩ => ⟨S2x2048x256, .bf16⟩
  | .hbm, ⟨55, _⟩ => ⟨S2x2048x128, .f32⟩
  | .hbm, ⟨56, _⟩ => ⟨S2x2048x128, .bf16⟩
  | .hbm, ⟨57, _⟩ => ⟨S2x2048x128, .f32⟩
  | .hbm, ⟨58, _⟩ => ⟨S2x2048x128, .bf16⟩
  | .hbm, ⟨59, _⟩ => ⟨S2x2048x1024, .bf16⟩
  | .hbm, ⟨60, _⟩ => ⟨S2x2048x256, .f32⟩
  | .hbm, ⟨61, _⟩ => ⟨S2x2048x256, .f32⟩
  | .hbm, ⟨62, _⟩ => ⟨S2x2048x128, .f32⟩
  | .hbm, ⟨63, _⟩ => ⟨S2x2048x128, .f32⟩
  | .local _ .vmem, ⟨0, _⟩ => ⟨S1x128x256, .bf16⟩
  | .local _ .vmem, ⟨1, _⟩ => ⟨S1x128x256, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x128x256, .f32⟩
  | .local _ .vmem, ⟨7, _⟩ => ⟨S1x128x256, .f32⟩
  | .local _ .vmem, ⟨8, _⟩ => ⟨S1x128x256, .f32⟩
  | .local _ .vmem, ⟨9, _⟩ => ⟨S1x128x256, .f32⟩
  | .local _ .vmem, ⟨10, _⟩ => ⟨S1x128x256, .f32⟩
  | .local _ .vmem, ⟨11, _⟩ => ⟨S1x128x256, .f32⟩
  | .local _ .vmem, ⟨12, _⟩ => ⟨S1x128x256, .f32⟩
  | .local _ .vmem, ⟨13, _⟩ => ⟨S1x128x256, .f32⟩
  | .local _ .vmem, ⟨14, _⟩ => ⟨S1x2048x128, .f32⟩
  | .local _ .vmem, ⟨15, _⟩ => ⟨S1x2048x128, .f32⟩
  | .local _ .vmem, ⟨16, _⟩ => ⟨S1x2048x128, .f32⟩
  | .local _ .vmem, ⟨17, _⟩ => ⟨S1x2048x128, .f32⟩
  | _, _ => ⟨S2x2048x4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_5 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_6 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49_0 : Ref sig .tc := ⟨.hbm, 61, rfl⟩
abbrev main_v49_1 : Ref sig .tc := ⟨.hbm, 62, rfl⟩
abbrev main_v49_2 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![2, 1, 16], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let c2_i32 : BitVec 32 := 2#32
  let v1 : BitVec 32 := Scalar.addi v0 c2_i32
  let c0_i32 : BitVec 32 := 0#32
  ![arg0.toNat, arg2.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg1 c8_i32
  let c6_i32 : BitVec 32 := 6#32
  let v1 : BitVec 32 := Scalar.addi v0 c6_i32
  let c0_i32 : BitVec 32 := 0#32
  let c0_i32_0 : BitVec 32 := 0#32
  ![arg0.toNat, c0_i32.toNat, v1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg1 c8_i32
  let c7_i32 : BitVec 32 := 7#32
  let v1 : BitVec 32 := Scalar.addi v0 c7_i32
  let c0_i32 : BitVec 32 := 0#32
  let c0_i32_0 : BitVec 32 := 0#32
  ![arg0.toNat, c0_i32.toNat, v1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1x128x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1x2048x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== KernelIdeal.lean ====
variable {F : FTy → Type} [FloatOps F] [Named F]
def κ : String → Option EReal := fun
  | "never" => some ⊥
  | _ => none
-- ==== ReferenceIdeal.lean ====
abbrev S2x2048x4x64 : Shape := ⟨4, ![2, 2048, 4, 64]⟩
abbrev S2x2048x2x64 : Shape := ⟨4, ![2, 2048, 2, 64]⟩
abbrev S2x2048x2x2x64 : Shape := ⟨5, ![2, 2048, 2, 2, 64]⟩
abbrev S2x2x2048x2048x2 : Shape := ⟨5, ![2, 2, 2048, 2048, 2]⟩
abbrev S2x2x2x2048x2048 : Shape := ⟨5, ![2, 2, 2, 2048, 2048]⟩
abbrev S_ : Shape := ⟨0, ![]⟩
abbrev S2x2x2x2048 : Shape := ⟨4, ![2, 2, 2, 2048]⟩
abbrev S2x2x2x2048x1 : Shape := ⟨5, ![2, 2, 2, 2048, 1]⟩
abbrev S2x2x64x2x2048 : Shape := ⟨5, ![2, 2, 64, 2, 2048]⟩
abbrev S2x2x64x2048 : Shape := ⟨4, ![2, 2, 64, 2048]⟩
abbrev S2x2x2048x2x64 : Shape := ⟨5, ![2, 2, 2048, 2, 64]⟩
abbrev S2x2x2048x64 : Shape := ⟨4, ![2, 2, 2048, 64]⟩
abbrev S2x2048x256 : Shape := ⟨3, ![2, 2048, 256]⟩
abbrev S2x2048x128 : Shape := ⟨3, ![2, 2048, 128]⟩

abbrev nBuf : Space → Nat
  | .hbm => 82
  | .vmem => 0
  | .smem => 0
  | _ => 0

abbrev bufTy : (tb : Table) → Fin (tcTables nBuf tb) → BufTy
  | .hbm, ⟨0, _⟩ => ⟨S2x2048x4x64, .f32⟩
  | .hbm, ⟨1, _⟩ => ⟨S2x2048x2x64, .f32⟩
  | .hbm, ⟨2, _⟩ => ⟨S2x2048x2x64, .f32⟩
  | .hbm, ⟨3, _⟩ => ⟨S2x2048x4x64, .f32⟩
  | .hbm, ⟨4, _⟩ => ⟨S2x2048x2x2x64, .f32⟩
  | .hbm, ⟨5, _⟩ => ⟨S2x2x2048x2048x2, .f32⟩
  | .hbm, ⟨6, _⟩ => ⟨S2x2x2x2048x2048, .f32⟩
  | .hbm, ⟨7, _⟩ => ⟨S_, .f32⟩
  | .hbm, ⟨8, _⟩ => ⟨S2x2x2x2048x2048, .f32⟩
  | .hbm, ⟨9, _⟩ => ⟨S2x2x2x2048x2048, .f32⟩
  | .hbm, ⟨10, _⟩ => ⟨S_, .f32⟩
  | .hbm, ⟨11, _⟩ => ⟨S2x2x2x2048, .f32⟩
  | .hbm, ⟨12, _⟩ => ⟨S2x2x2x2048x1, .f32⟩
  | .hbm, ⟨13, _⟩ => ⟨S2x2x2x2048x2048, .f32⟩
  | .hbm, ⟨14, _⟩ => ⟨S2x2x2x2048x2048, .i1⟩
  | .hbm, ⟨15, _⟩ => ⟨S2x2x2x2048x2048, .f32⟩
  | .hbm, ⟨16, _⟩ => ⟨S_, .f32⟩
  | .hbm, ⟨17, _⟩ => ⟨S2x2x2x2048, .f32⟩
  | .hbm, ⟨18, _⟩ => ⟨S_, .f32⟩
  | .hbm, ⟨19, _⟩ => ⟨S2x2x2x2048, .f32⟩
  | .hbm, ⟨20, _⟩ => ⟨S2x2x2x2048, .f32⟩
  | .hbm, ⟨21, _⟩ => ⟨S_, .f32⟩
  | .hbm, ⟨22, _⟩ => ⟨S2x2x2x2048, .f32⟩
  | .hbm, ⟨23, _⟩ => ⟨S2x2x2x2048, .i1⟩
  | .hbm, ⟨24, _⟩ => ⟨S_, .f32⟩
  | .hbm, ⟨25, _⟩ => ⟨S2x2x2x2048, .f32⟩
  | .hbm, ⟨26, _⟩ => ⟨S2x2x2x2048, .i1⟩
  | .hbm, ⟨27, _⟩ => ⟨S_, .f32⟩
  | .hbm, ⟨28, _⟩ => ⟨S2x2x2x2048, .f32⟩
  | .hbm, ⟨29, _⟩ => ⟨S_, .f32⟩
  | .hbm, ⟨30, _⟩ => ⟨S2x2x2x2048, .f32⟩
  | .hbm, ⟨31, _⟩ => ⟨S_, .f32⟩
  | .hbm, ⟨32, _⟩ => ⟨S2x2x2x2048, .f32⟩
  | .hbm, ⟨33, _⟩ => ⟨S2x2x2x2048, .f32⟩
  | .hbm, ⟨34, _⟩ => ⟨S2x2x2x2048, .f32⟩
  | .hbm, ⟨35, _⟩ => ⟨S2x2x2x2048x1, .f32⟩
  | .hbm, ⟨36, _⟩ => ⟨S2x2x2x2048x2048, .f32⟩
  | .hbm, ⟨37, _⟩ => ⟨S2x2x2x2048x2048, .f32⟩
  | .hbm, ⟨38, _⟩ => ⟨S2x2x2x2048x2048, .f32⟩
  | .hbm, ⟨39, _⟩ => ⟨S_, .f32⟩
  | .hbm, ⟨40, _⟩ => ⟨S2x2x2x2048, .f32⟩
  | .hbm, ⟨41, _⟩ => ⟨S2x2x2x2048x1, .f32⟩
  | .hbm, ⟨42, _⟩ => ⟨S2x2x2x2048x2048, .f32⟩
  | .hbm, ⟨43, _⟩ => ⟨S2x2x2x2048x2048, .f32⟩
  | .hbm, ⟨44, _⟩ => ⟨S2x2x2x2048x1, .f32⟩
  | .hbm, ⟨45, _⟩ => ⟨S_, .f32⟩
  | .hbm, ⟨46, _⟩ => ⟨S2x2x2x2048x1, .f32⟩
  | .hbm, ⟨47, _⟩ => ⟨S2x2x2x2048x1, .f32⟩
  | .hbm, ⟨48, _⟩ => ⟨S2x2x64x2x2048, .f32⟩
  | .hbm, ⟨49, _⟩ => ⟨S2x2048x2x2x64, .f32⟩
  | .hbm, ⟨50, _⟩ => ⟨S2x2048x4x64, .f32⟩
  | .hbm, ⟨51, _⟩ => ⟨S2x2048x2x2x64, .f32⟩
  | .hbm, ⟨52, _⟩ => ⟨S2x2x64x2x2048, .f32⟩
  | .hbm, ⟨53, _⟩ => ⟨S2x2x2x2048x2048, .f32⟩
  | .hbm, ⟨54, _⟩ => ⟨S2x2x64x2048, .f32⟩
  | .hbm, ⟨55, _⟩ => ⟨S2x2048x2x64, .f32⟩
  | .hbm, ⟨56, _⟩ => ⟨S2x2x2x2048x2048, .f32⟩
  | .hbm, ⟨57, _⟩ => ⟨S2x2x2x2048x2048, .f32⟩
  | .hbm, ⟨58, _⟩ => ⟨S2x2x2x2048x2048, .f32⟩
  | .hbm, ⟨59, _⟩ => ⟨S_, .f32⟩
  | .hbm, ⟨60, _⟩ => ⟨S2x2x2x2048, .f32⟩
  | .hbm, ⟨61, _⟩ => ⟨S2x2x2x2048x1, .f32⟩
  | .hbm, ⟨62, _⟩ => ⟨S2x2x2x2048x1, .f32⟩
  | .hbm, ⟨63, _⟩ => ⟨S2x2x2x2048x2048, .f32⟩
  | .hbm, ⟨64, _⟩ => ⟨S2x2x2x2048x2048, .f32⟩
  | .hbm, ⟨65, _⟩ => ⟨S_, .f32⟩
  | .hbm, ⟨66, _⟩ => ⟨S2x2x2x2048, .f32⟩
  | .hbm, ⟨67, _⟩ => ⟨S2x2x2x2048x2048, .f32⟩
  | .hbm, ⟨68, _⟩ => ⟨S2x2x2x2048x2048, .f32⟩
  | .hbm, ⟨69, _⟩ => ⟨S2x2x2x2048x2048, .f32⟩
  | .hbm, ⟨70, _⟩ => ⟨S_, .f32⟩
  | .hbm, ⟨71, _⟩ => ⟨S2x2x2x2048x2048, .f32⟩
  | .hbm, ⟨72, _⟩ => ⟨S2x2x2x2048x2048, .f32⟩
  | .hbm, ⟨73, _⟩ => ⟨S2x2x2048x2048x2, .f32⟩
  | .hbm, ⟨74, _⟩ => ⟨S2x2x2048x2x64, .f32⟩
  | .hbm, ⟨75, _⟩ => ⟨S2x2048x2x2x64, .f32⟩
  | .hbm, ⟨76, _⟩ => ⟨S2x2x2048x64, .f32⟩
  | .hbm, ⟨77, _⟩ => ⟨S2x2048x2x64, .f32⟩
  | .hbm, ⟨78, _⟩ => ⟨S2x2048x4x64, .f32⟩
  | .hbm, ⟨79, _⟩ => ⟨S2x2048x256, .f32⟩
  | .hbm, ⟨80, _⟩ => ⟨S2x2048x128, .f32⟩
  | .hbm, ⟨81, _⟩ => ⟨S2x2048x128, .f32⟩
  | _, _ => ⟨S2x2048x4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_cst_7 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_8 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_9 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_10 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_11 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_12 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩

abbrev nD : Nat := 1
abbrev τ : Topo := Topo.v7x

variable {F : FTy → Type} [FloatOps F]
-- ==== UpH.lean ====
abbrev S1024x5632 : Shape := ⟨2, ![1024, 5632]⟩
abbrev S4096x2816 : Shape := ⟨2, ![4096, 2816]⟩
abbrev S1024x1408 : Shape := ⟨2, ![1024, 1408]⟩
abbrev S1x1024x1408 : Shape := ⟨3, ![1, 1024, 1408]⟩
abbrev S4x1024x1408 : Shape := ⟨3, ![4, 1024, 1408]⟩
abbrev S4096x1024 : Shape := ⟨2, ![4096, 1024]⟩
abbrev S1024x1024 : Shape := ⟨2, ![1024, 1024]⟩

abbrev nBuf : Space → Nat
  | .hbm => 14
  | .vmem => 7
  | .smem => 0
  | _ => 0

abbrev bufTy : (tb : Table) → Fin (tcTables nBuf tb) → BufTy
  | .hbm, ⟨0, _⟩ => ⟨S1024x5632, .f32⟩
  | .hbm, ⟨1, _⟩ => ⟨S4096x2816, .f32⟩
  | .hbm, ⟨2, _⟩ => ⟨S4096x2816, .bf16⟩
  | .hbm, ⟨3, _⟩ => ⟨S1024x1408, .f32⟩
  | .hbm, ⟨4, _⟩ => ⟨S1024x1408, .f32⟩
  | .hbm, ⟨5, _⟩ => ⟨S1024x1408, .f32⟩
  | .hbm, ⟨6, _⟩ => ⟨S1024x1408, .f32⟩
  | .hbm, ⟨7, _⟩ => ⟨S1x1024x1408, .f32⟩
  | .hbm, ⟨8, _⟩ => ⟨S1x1024x1408, .f32⟩
  | .hbm, ⟨9, _⟩ => ⟨S1x1024x1408, .f32⟩
  | .hbm, ⟨10, _⟩ => ⟨S1x1024x1408, .f32⟩
  | .hbm, ⟨11, _⟩ => ⟨S4x1024x1408, .f32⟩
  | .hbm, ⟨12, _⟩ => ⟨S4x1024x1408, .bf16⟩
  | .hbm, ⟨13, _⟩ => ⟨S4096x1024, .f32⟩
  | .local _ .vmem, ⟨0, _⟩ => ⟨S1024x1408, .bf16⟩
  | .local _ .vmem, ⟨1, _⟩ => ⟨S1024x1408, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S1024x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let c0_i32_1 : BitVec 32 := 0#32
  ![v0.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpHRefIdeal.lean ====
abbrev S1024x5632 : Shape := ⟨2, ![1024, 5632]⟩
abbrev S4096x2816 : Shape := ⟨2, ![4096, 2816]⟩
abbrev S_ : Shape := ⟨0, ![]⟩
abbrev S4096x1024 : Shape := ⟨2, ![4096, 1024]⟩
abbrev S1024x2816 : Shape := ⟨2, ![1024, 2816]⟩

abbrev nBuf : Space → Nat
  | .hbm => 7
  | .vmem => 0
  | .smem => 0
  | _ => 0

abbrev bufTy : (tb : Table) → Fin (tcTables nBuf tb) → BufTy
  | .hbm, ⟨0, _⟩ => ⟨S1024x5632, .f32⟩
  | .hbm, ⟨1, _⟩ => ⟨S4096x2816, .f32⟩
  | .hbm, ⟨2, _⟩ => ⟨S_, .f32⟩
  | .hbm, ⟨3, _⟩ => ⟨S4096x1024, .f32⟩
  | .hbm, ⟨4, _⟩ => ⟨S1024x2816, .f32⟩
  | .hbm, ⟨5, _⟩ => ⟨S4096x2816, .f32⟩
  | .hbm, ⟨6, _⟩ => ⟨S4096x1024, .f32⟩
  | _, _ => ⟨S1024x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== UpW.lean ====
abbrev S4096x1024 : Shape := ⟨2, ![4096, 1024]⟩
abbrev S4096x2816 : Shape := ⟨2, ![4096, 2816]⟩
abbrev S4x1024x1408 : Shape := ⟨3, ![4, 1024, 1408]⟩
abbrev S1024x4096 : Shape := ⟨2, ![1024, 4096]⟩
abbrev S1024x2048 : Shape := ⟨2, ![1024, 2048]⟩
abbrev S2048x1408 : Shape := ⟨2, ![2048, 1408]⟩
abbrev S1x1024x1408 : Shape := ⟨3, ![1, 1024, 1408]⟩
abbrev S1024x1408 : Shape := ⟨2, ![1024, 1408]⟩

abbrev nBuf : Space → Nat
  | .hbm => 7
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x2816, .f32⟩
  | .hbm, ⟨2, _⟩ => ⟨S4x1024x1408, .f32⟩
  | .hbm, ⟨3, _⟩ => ⟨S1024x4096, .f32⟩
  | .hbm, ⟨4, _⟩ => ⟨S1024x4096, .bf16⟩
  | .hbm, ⟨5, _⟩ => ⟨S4096x2816, .bf16⟩
  | .hbm, ⟨6, _⟩ => ⟨S4x1024x1408, .f32⟩
  | .local _ .vmem, ⟨0, _⟩ => ⟨S1024x2048, .bf16⟩
  | .local _ .vmem, ⟨1, _⟩ => ⟨S1024x2048, .bf16⟩
  | .local _ .vmem, ⟨2, _⟩ => ⟨S2048x1408, .bf16⟩
  | .local _ .vmem, ⟨3, _⟩ => ⟨S2048x1408, .bf16⟩
  | .local _ .vmem, ⟨4, _⟩ => ⟨S1x1024x1408, .f32⟩
  | .local _ .vmem, ⟨5, _⟩ => ⟨S1x1024x1408, .f32⟩
  | .local _ .vmem, ⟨6, _⟩ => ⟨S1024x1408, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg1
  let c0_i32 : BitVec 32 := 0#32
  let c0_i32_0 : BitVec 32 := 0#32
  ![v0.toNat, arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpWRefIdeal.lean ====
abbrev S4096x1024 : Shape := ⟨2, ![4096, 1024]⟩
abbrev S4096x2816 : Shape := ⟨2, ![4096, 2816]⟩
abbrev S4x1024x1408 : Shape := ⟨3, ![4, 1024, 1408]⟩
abbrev S_ : Shape := ⟨0, ![]⟩
abbrev S1024x2816 : Shape := ⟨2, ![1024, 2816]⟩
abbrev S2816x1024 : Shape := ⟨2, ![2816, 1024]⟩
abbrev S1x1024x1408 : Shape := ⟨3, ![1, 1024, 1408]⟩
abbrev S1024x1408 : Shape := ⟨2, ![1024, 1408]⟩

abbrev nBuf : Space → Nat
  | .hbm => 19
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2816, .f32⟩
  | .hbm, ⟨2, _⟩ => ⟨S4x1024x1408, .f32⟩
  | .hbm, ⟨3, _⟩ => ⟨S_, .f32⟩
  | .hbm, ⟨4, _⟩ => ⟨S1024x2816, .f32⟩
  | .hbm, ⟨5, _⟩ => ⟨S4096x2816, .f32⟩
  | .hbm, ⟨6, _⟩ => ⟨S2816x1024, .f32⟩
  | .hbm, ⟨7, _⟩ => ⟨S1024x2816, .f32⟩
  | .hbm, ⟨8, _⟩ => ⟨S1x1024x1408, .f32⟩
  | .hbm, ⟨9, _⟩ => ⟨S1024x1408, .f32⟩
  | .hbm, ⟨10, _⟩ => ⟨S1x1024x1408, .f32⟩
  | .hbm, ⟨11, _⟩ => ⟨S1024x1408, .f32⟩
  | .hbm, ⟨12, _⟩ => ⟨S1024x1408, .f32⟩
  | .hbm, ⟨13, _⟩ => ⟨S1024x1408, .f32⟩
  | .hbm, ⟨14, _⟩ => ⟨S1x1024x1408, .f32⟩
  | .hbm, ⟨15, _⟩ => ⟨S1x1024x1408, .f32⟩
  | .hbm, ⟨16, _⟩ => ⟨S1x1024x1408, .f32⟩
  | .hbm, ⟨17, _⟩ => ⟨S1x1024x1408, .f32⟩
  | .hbm, ⟨18, _⟩ => ⟨S4x1024x1408, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩

abbrev nD : Nat := 1
abbrev τ : Topo := Topo.v7x

variable {F : FTy → Type} [FloatOps F]
-- ==== UpWg.lean ====
abbrev S4096x1024 : Shape := ⟨2, ![4096, 1024]⟩
abbrev S4096x2816 : Shape := ⟨2, ![4096, 2816]⟩
abbrev S4x1024x1408 : Shape := ⟨3, ![4, 1024, 1408]⟩
abbrev S1024x4096 : Shape := ⟨2, ![1024, 4096]⟩
abbrev S1024x2048 : Shape := ⟨2, ![1024, 2048]⟩
abbrev S2048x1408 : Shape := ⟨2, ![2048, 1408]⟩
abbrev S1x1024x1408 : Shape := ⟨3, ![1, 1024, 1408]⟩
abbrev S1024x1408 : Shape := ⟨2, ![1024, 1408]⟩

abbrev nBuf : Space → Nat
  | .hbm => 7
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x2816, .f32⟩
  | .hbm, ⟨2, _⟩ => ⟨S4x1024x1408, .f32⟩
  | .hbm, ⟨3, _⟩ => ⟨S1024x4096, .f32⟩
  | .hbm, ⟨4, _⟩ => ⟨S1024x4096, .bf16⟩
  | .hbm, ⟨5, _⟩ => ⟨S4096x2816, .bf16⟩
  | .hbm, ⟨6, _⟩ => ⟨S4x1024x1408, .f32⟩
  | .local _ .vmem, ⟨0, _⟩ => ⟨S1024x2048, .bf16⟩
  | .local _ .vmem, ⟨1, _⟩ => ⟨S1024x2048, .bf16⟩
  | .local _ .vmem, ⟨2, _⟩ => ⟨S2048x1408, .bf16⟩
  | .local _ .vmem, ⟨3, _⟩ => ⟨S2048x1408, .bf16⟩
  | .local _ .vmem, ⟨4, _⟩ => ⟨S1x1024x1408, .f32⟩
  | .local _ .vmem, ⟨5, _⟩ => ⟨S1x1024x1408, .f32⟩
  | .local _ .vmem, ⟨6, _⟩ => ⟨S1024x1408, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  ![v0.toNat, arg0.toNat, c0_i32_0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpWgRefIdeal.lean ====
abbrev S4096x1024 : Shape := ⟨2, ![4096, 1024]⟩
abbrev S4096x2816 : Shape := ⟨2, ![4096, 2816]⟩
abbrev S4x1024x1408 : Shape := ⟨3, ![4, 1024, 1408]⟩
abbrev S_ : Shape := ⟨0, ![]⟩
abbrev S1024x2816 : Shape := ⟨2, ![1024, 2816]⟩
abbrev S2816x1024 : Shape := ⟨2, ![2816, 1024]⟩
abbrev S1024x1408 : Shape := ⟨2, ![1024, 1408]⟩
abbrev S1x1024x1408 : Shape := ⟨3, ![1, 1024, 1408]⟩

abbrev nBuf : Space → Nat
  | .hbm => 19
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2816, .f32⟩
  | .hbm, ⟨2, _⟩ => ⟨S4x1024x1408, .f32⟩
  | .hbm, ⟨3, _⟩ => ⟨S_, .f32⟩
  | .hbm, ⟨4, _⟩ => ⟨S1024x2816, .f32⟩
  | .hbm, ⟨5, _⟩ => ⟨S4096x2816, .f32⟩
  | .hbm, ⟨6, _⟩ => ⟨S2816x1024, .f32⟩
  | .hbm, ⟨7, _⟩ => ⟨S1024x2816, .f32⟩
  | .hbm, ⟨8, _⟩ => ⟨S1024x1408, .f32⟩
  | .hbm, ⟨9, _⟩ => ⟨S1024x1408, .f32⟩
  | .hbm, ⟨10, _⟩ => ⟨S1x1024x1408, .f32⟩
  | .hbm, ⟨11, _⟩ => ⟨S1024x1408, .f32⟩
  | .hbm, ⟨12, _⟩ => ⟨S1x1024x1408, .f32⟩
  | .hbm, ⟨13, _⟩ => ⟨S1024x1408, .f32⟩
  | .hbm, ⟨14, _⟩ => ⟨S1x1024x1408, .f32⟩
  | .hbm, ⟨15, _⟩ => ⟨S1x1024x1408, .f32⟩
  | .hbm, ⟨16, _⟩ => ⟨S1x1024x1408, .f32⟩
  | .hbm, ⟨17, _⟩ => ⟨S1x1024x1408, .f32⟩
  | .hbm, ⟨18, _⟩ => ⟨S4x1024x1408, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩

abbrev nD : Nat := 1
abbrev τ : Topo := Topo.v7x

variable {F : FTy → Type} [FloatOps F]
-- ==== DownA.lean ====
abbrev S2816x1024 : Shape := ⟨2, ![2816, 1024]⟩
abbrev S4096x1024 : Shape := ⟨2, ![4096, 1024]⟩
abbrev S4096x2816 : Shape := ⟨2, ![4096, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 5
  | .vmem => 6
  | .smem => 0
  | _ => 0

abbrev bufTy : (tb : Table) → Fin (tcTables nBuf tb) → BufTy
  | .hbm, ⟨0, _⟩ => ⟨S2816x1024, .f32⟩
  | .hbm, ⟨1, _⟩ => ⟨S4096x1024, .f32⟩
  | .hbm, ⟨2, _⟩ => ⟨S4096x1024, .bf16⟩
  | .hbm, ⟨3, _⟩ => ⟨S2816x1024, .bf16⟩
  | .hbm, ⟨4, _⟩ => ⟨S4096x2816, .f32⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1408, .f32⟩
  | .local _ .vmem, ⟨5, _⟩ => ⟨S1024x1408, .f32⟩
  | _, _ => ⟨S2816x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownARefIdeal.lean ====
abbrev S2816x1024 : Shape := ⟨2, ![2816, 1024]⟩
abbrev S4096x1024 : Shape := ⟨2, ![4096, 1024]⟩
abbrev S_ : Shape := ⟨0, ![]⟩
abbrev S4096x2816 : Shape := ⟨2, ![4096, 2816]⟩

abbrev nBuf : Space → Nat
  | .hbm => 6
  | .vmem => 0
  | .smem => 0
  | _ => 0

abbrev bufTy : (tb : Table) → Fin (tcTables nBuf tb) → BufTy
  | .hbm, ⟨0, _⟩ => ⟨S2816x1024, .f32⟩
  | .hbm, ⟨1, _⟩ => ⟨S4096x1024, .f32⟩
  | .hbm, ⟨2, _⟩ => ⟨S_, .f32⟩
  | .hbm, ⟨3, _⟩ => ⟨S4096x2816, .f32⟩
  | .hbm, ⟨4, _⟩ => ⟨S4096x1024, .f32⟩
  | .hbm, ⟨5, _⟩ => ⟨S4096x2816, .f32⟩
  | _, _ => ⟨S2816x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== DownW.lean ====
abbrev S4096x2816 : Shape := ⟨2, ![4096, 2816]⟩
abbrev S4096x1024 : Shape := ⟨2, ![4096, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S4096x2816, .bf16⟩
  | .hbm, ⟨3, _⟩ => ⟨S4096x1024, .bf16⟩
  | .hbm, ⟨4, _⟩ => ⟨S2816x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownWRefIdeal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 7
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S_, .f32⟩
  | .hbm, ⟨3, _⟩ => ⟨S2816x1024, .f32⟩
  | .hbm, ⟨4, _⟩ => ⟨S4096x1024, .f32⟩
  | .hbm, ⟨5, _⟩ => ⟨S1024x2816, .f32⟩
  | .hbm, ⟨6, _⟩ => ⟨S2816x1024, .f32⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== InDx.lean ====
abbrev S4096x1024 : Shape := ⟨2, ![4096, 1024]⟩
abbrev S1024 : Shape := ⟨1, ![1024]⟩
abbrev S1024x2304 : Shape := ⟨2, ![1024, 2304]⟩
abbrev S4096x2304 : Shape := ⟨2, ![4096, 2304]⟩
abbrev S1x1024 : Shape := ⟨2, ![1, 1024]⟩
abbrev S512x2304 : Shape := ⟨2, ![512, 2304]⟩
abbrev S512x1024 : Shape := ⟨2, ![512, 1024]⟩
abbrev S512 : Shape := ⟨1, ![512]⟩
abbrev S512x1 : Shape := ⟨2, ![512, 1]⟩

abbrev nBuf : Space → Nat
  | .hbm => 11
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2304, .f32⟩
  | .hbm, ⟨3, _⟩ => ⟨S4096x2304, .f32⟩
  | .hbm, ⟨4, _⟩ => ⟨S4096x1024, .f32⟩
  | .hbm, ⟨5, _⟩ => ⟨S4096x2304, .bf16⟩
  | .hbm, ⟨6, _⟩ => ⟨S1024x2304, .bf16⟩
  | .hbm, ⟨7, _⟩ => ⟨S1x1024, .f32⟩
  | .hbm, ⟨8, _⟩ => ⟨S4096x1024, .f32⟩
  | .hbm, ⟨9, _⟩ => ⟨S4096x1024, .bf16⟩
  | .hbm, ⟨10, _⟩ => ⟨S1x1024, .f32⟩
  | .local _ .vmem, ⟨0, _⟩ => ⟨S512x2304, .bf16⟩
  | .local _ .vmem, ⟨1, _⟩ => ⟨S512x2304, .bf16⟩
  | .local _ .vmem, ⟨2, _⟩ => ⟨S1024x2304, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨3, ![8, 1, 1], ![false, false, false]⟩

def k0_cond1 (i : grid0.Coords) : BitVec 1 :=
  let arg0 : BitVec 32 := BitVec.ofNat 32 (i 0).val
  let c0_i32 : BitVec 32 := 0#32
  let v41 : BitVec 1 := Scalar.cmpi .eq arg0 c0_i32
  let v42 : BitVec 32 := Scalar.extui v41
  let c0_i32_19 : BitVec 32 := 0#32
  let v43 : BitVec 1 := Scalar.cmpi .ne v42 c0_i32_19
  v43

def k0_cond2 (i : grid0.Coords) : BitVec 1 :=
  let arg0 : BitVec 32 := BitVec.ofNat 32 (i 0).val
  let c0_i32_20 : BitVec 32 := 0#32
  let v44 : BitVec 1 := Scalar.cmpi .sgt arg0 c0_i32_20
  let v45 : BitVec 32 := Scalar.extui v44
  let c0_i32_21 : BitVec 32 := 0#32
  let v46 : BitVec 1 := Scalar.cmpi .ne v45 c0_i32_21
  v46

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2304 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2304 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]
-- ==== InDxRefIdeal.lean ====
abbrev S4096x1024 : Shape := ⟨2, ![4096, 1024]⟩
abbrev S1024 : Shape := ⟨1, ![1024]⟩
abbrev S1024x2304 : Shape := ⟨2, ![1024, 2304]⟩
abbrev S4096x2304 : Shape := ⟨2, ![4096, 2304]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2304, .f32⟩
  | .hbm, ⟨3, _⟩ => ⟨S4096x2304, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x2304, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .bf16⟩
  | .hbm, ⟨54, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== GateDx.lean ====
abbrev S4096x1024 : Shape := ⟨2, ![4096, 1024]⟩
abbrev S1024 : Shape := ⟨1, ![1024]⟩
abbrev S1024x1024 : Shape := ⟨2, ![1024, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 11
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x1024, .f32⟩
  | .hbm, ⟨3, _⟩ => ⟨S4096x1024, .f32⟩
  | .hbm, ⟨4, _⟩ => ⟨S4096x1024, .f32⟩
  | .hbm, ⟨5, _⟩ => ⟨S4096x1024, .bf16⟩
  | .hbm, ⟨6, _⟩ => ⟨S1024x1024, .bf16⟩
  | .hbm, ⟨7, _⟩ => ⟨S1x1024, .f32⟩
  | .hbm, ⟨8, _⟩ => ⟨S4096x1024, .f32⟩
  | .hbm, ⟨9, _⟩ => ⟨S4096x1024, .bf16⟩
  | .hbm, ⟨10, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨3, ![8, 1, 1], ![false, false, false]⟩

def k0_cond1 (i : grid0.Coords) : BitVec 1 :=
  let arg0 : BitVec 32 := BitVec.ofNat 32 (i 0).val
  let c0_i32 : BitVec 32 := 0#32
  let v41 : BitVec 1 := Scalar.cmpi .eq arg0 c0_i32
  let v42 : BitVec 32 := Scalar.extui v41
  let c0_i32_19 : BitVec 32 := 0#32
  let v43 : BitVec 1 := Scalar.cmpi .ne v42 c0_i32_19
  v43

def k0_cond2 (i : grid0.Coords) : BitVec 1 :=
  let arg0 : BitVec 32 := BitVec.ofNat 32 (i 0).val
  let c0_i32_20 : BitVec 32 := 0#32
  let v44 : BitVec 1 := Scalar.cmpi .sgt arg0 c0_i32_20
  let v45 : BitVec 32 := Scalar.extui v44
  let c0_i32_21 : BitVec 32 := 0#32
  let v46 : BitVec 1 := Scalar.cmpi .ne v45 c0_i32_21
  v46

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]
-- ==== GateDxRefIdeal.lean ====
abbrev S4096x1024 : Shape := ⟨2, ![4096, 1024]⟩
abbrev S1024 : Shape := ⟨1, ![1024]⟩
abbrev S1024x1024 : Shape := ⟨2, ![1024, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .bf16⟩
  | .hbm, ⟨54, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== UpX.lean ====
abbrev S4096x1024 : Shape := ⟨2, ![4096, 1024]⟩
abbrev S1024 : Shape := ⟨1, ![1024]⟩
abbrev S1024x5632 : Shape := ⟨2, ![1024, 5632]⟩
abbrev S4096x2816 : Shape := ⟨2, ![4096, 2816]⟩
abbrev S1024x2816 : Shape := ⟨2, ![1024, 2816]⟩
abbrev S2816x1024 : Shape := ⟨2, ![2816, 1024]⟩
abbrev S1024x1408 : Shape := ⟨2, ![1024, 1408]⟩
abbrev S1x1024x1408 : Shape := ⟨3, ![1, 1024, 1408]⟩
abbrev S4x1024x1408 : Shape := ⟨3, ![4, 1024, 1408]⟩
abbrev S1x1024 : Shape := ⟨2, ![1, 1024]⟩
abbrev S512x1408 : Shape := ⟨2, ![512, 1408]⟩
abbrev S512x1024 : Shape := ⟨2, ![512, 1024]⟩
abbrev S512 : Shape := ⟨1, ![512]⟩
abbrev S512x1 : Shape := ⟨2, ![512, 1]⟩

abbrev nBuf : Space → Nat
  | .hbm => 24
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5632, .f32⟩
  | .hbm, ⟨3, _⟩ => ⟨S4096x2816, .f32⟩
  | .hbm, ⟨4, _⟩ => ⟨S4096x2816, .f32⟩
  | .hbm, ⟨5, _⟩ => ⟨S4096x1024, .f32⟩
  | .hbm, ⟨6, _⟩ => ⟨S1024x2816, .f32⟩
  | .hbm, ⟨7, _⟩ => ⟨S2816x1024, .f32⟩
  | .hbm, ⟨8, _⟩ => ⟨S4096x1024, .f32⟩
  | .hbm, ⟨9, _⟩ => ⟨S4096x2816, .bf16⟩
  | .hbm, ⟨10, _⟩ => ⟨S1024x1408, .f32⟩
  | .hbm, ⟨11, _⟩ => ⟨S1024x1408, .f32⟩
  | .hbm, ⟨12, _⟩ => ⟨S1024x1408, .f32⟩
  | .hbm, ⟨13, _⟩ => ⟨S1024x1408, .f32⟩
  | .hbm, ⟨14, _⟩ => ⟨S1x1024x1408, .f32⟩
  | .hbm, ⟨15, _⟩ => ⟨S1x1024x1408, .f32⟩
  | .hbm, ⟨16, _⟩ => ⟨S1x1024x1408, .f32⟩
  | .hbm, ⟨17, _⟩ => ⟨S1x1024x1408, .f32⟩
  | .hbm, ⟨18, _⟩ => ⟨S4x1024x1408, .f32⟩
  | .hbm, ⟨19, _⟩ => ⟨S4x1024x1408, .bf16⟩
  | .hbm, ⟨20, _⟩ => ⟨S1x1024, .f32⟩
  | .hbm, ⟨21, _⟩ => ⟨S4096x1024, .f32⟩
  | .hbm, ⟨22, _⟩ => ⟨S4096x1024, .bf16⟩
  | .hbm, ⟨23, _⟩ => ⟨S1x1024, .f32⟩
  | .local _ .vmem, ⟨0, _⟩ => ⟨S512x1408, .bf16⟩
  | .local _ .vmem, ⟨1, _⟩ => ⟨S512x1408, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S1x1024, .f32⟩
  | .local _ .vmem, ⟨16, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15_0 : Ref sig .tc := ⟨.hbm, 21, rfl⟩
abbrev main_v15_1 : Ref sig .tc := ⟨.hbm, 22, rfl⟩
abbrev main_v15_2 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨3, ![8, 1, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_7 : BitVec 32 := 0#32
  let v13 : BitVec 1 := Scalar.cmpi .ne v12 c0_i32_7
  v13

def k0_cond4 (i : grid0.Coords) : BitVec 1 :=
  let arg0 : BitVec 32 := BitVec.ofNat 32 (i 0).val
  let c0_i32_28 : BitVec 32 := 0#32
  let v54 : BitVec 1 := Scalar.cmpi .eq arg0 c0_i32_28
  let v55 : BitVec 32 := Scalar.extui v54
  let c0_i32_29 : BitVec 32 := 0#32
  let v56 : BitVec 1 := Scalar.cmpi .ne v55 c0_i32_29
  v56

def k0_cond5 (i : grid0.Coords) : BitVec 1 :=
  let arg0 : BitVec 32 := BitVec.ofNat 32 (i 0).val
  let c0_i32_30 : BitVec 32 := 0#32
  let v57 : BitVec 1 := Scalar.cmpi .sgt arg0 c0_i32_30
  let v58 : BitVec 32 := Scalar.extui v57
  let c0_i32_31 : BitVec 32 := 0#32
  let v59 : BitVec 1 := Scalar.cmpi .ne v58 c0_i32_31
  v59

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg2
  let c0_i32 : BitVec 32 := 0#32
  let c0_i32_0 : BitVec 32 := 0#32
  ![v0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]
-- ==== UpXRefIdeal.lean ====
abbrev S4096x1024 : Shape := ⟨2, ![4096, 1024]⟩
abbrev S1024 : Shape := ⟨1, ![1024]⟩
abbrev S1024x5632 : Shape := ⟨2, ![1024, 5632]⟩
abbrev S4096x2816 : Shape := ⟨2, ![4096, 2816]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x5632 : Shape := ⟨2, ![4096, 5632]⟩

abbrev nBuf : Space → Nat
  | .hbm => 57
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5632, .f32⟩
  | .hbm, ⟨3, _⟩ => ⟨S4096x2816, .f32⟩
  | .hbm, ⟨4, _⟩ => ⟨S4096x2816, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S4096x5632, .f32⟩
  | .hbm, ⟨27, _⟩ => ⟨S4096x5632, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S1024, .f32⟩
  | .hbm, ⟨37, _⟩ => ⟨S4096x1024, .f32⟩
  | .hbm, ⟨38, _⟩ => ⟨S_, .f32⟩
  | .hbm, ⟨39, _⟩ => ⟨S4096, .f32⟩
  | .hbm, ⟨40, _⟩ => ⟨S4096x1, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1, .f32⟩
  | .hbm, ⟨45, _⟩ => ⟨S_, .f32⟩
  | .hbm, ⟨46, _⟩ => ⟨S4096x1, .f32⟩
  | .hbm, ⟨47, _⟩ => ⟨S4096x1, .f32⟩
  | .hbm, ⟨48, _⟩ => ⟨S_, .f32⟩
  | .hbm, ⟨49, _⟩ => ⟨S4096, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .bf16⟩
  | .hbm, ⟨56, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_6 : Ref sig .tc := ⟨.hbm, 45, rfl⟩
abbrev main_v32 : Ref sig .tc := ⟨.hbm, 46, rfl⟩
abbrev main_v33 : Ref sig .tc := ⟨.hbm, 47, rfl⟩
abbrev main_cst_7 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩

abbrev nD : Nat := 1
abbrev τ : Topo := Topo.v7x

variable {F : FTy → Type} [FloatOps F]
-- ==== InDw.lean ====
abbrev S4096x1024 : Shape := ⟨2, ![4096, 1024]⟩
abbrev S4096x2304 : Shape := ⟨2, ![4096, 2304]⟩
abbrev S1024x4096 : Shape := ⟨2, ![1024, 4096]⟩
abbrev S1024x2304 : Shape := ⟨2, ![1024, 2304]⟩
abbrev S1024x2048 : Shape := ⟨2, ![1024, 2048]⟩
abbrev S2048x1152 : Shape := ⟨2, ![2048, 1152]⟩
abbrev S1024x1152 : Shape := ⟨2, ![1024, 1152]⟩

abbrev nBuf : Space → Nat
  | .hbm => 6
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x2304, .f32⟩
  | .hbm, ⟨2, _⟩ => ⟨S1024x4096, .f32⟩
  | .hbm, ⟨3, _⟩ => ⟨S1024x4096, .bf16⟩
  | .hbm, ⟨4, _⟩ => ⟨S4096x2304, .bf16⟩
  | .hbm, ⟨5, _⟩ => ⟨S1024x2304, .f32⟩
  | .local _ .vmem, ⟨0, _⟩ => ⟨S1024x2048, .bf16⟩
  | .local _ .vmem, ⟨1, _⟩ => ⟨S1024x2048, .bf16⟩
  | .local _ .vmem, ⟨2, _⟩ => ⟨S2048x1152, .bf16⟩
  | .local _ .vmem, ⟨3, _⟩ => ⟨S2048x1152, .bf16⟩
  | .local _ .vmem, ⟨4, _⟩ => ⟨S1024x1152, .f32⟩
  | .local _ .vmem, ⟨5, _⟩ => ⟨S1024x1152, .f32⟩
  | .local _ .vmem, ⟨6, _⟩ => ⟨S1024x1152, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDwRefIdeal.lean ====
abbrev S4096x1024 : Shape := ⟨2, ![4096, 1024]⟩
abbrev S4096x2304 : Shape := ⟨2, ![4096, 2304]⟩
abbrev S_ : Shape := ⟨0, ![]⟩
abbrev S1024x2304 : Shape := ⟨2, ![1024, 2304]⟩
abbrev S2304x1024 : Shape := ⟨2, ![2304, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2304, .f32⟩
  | .hbm, ⟨2, _⟩ => ⟨S_, .f32⟩
  | .hbm, ⟨3, _⟩ => ⟨S1024x2304, .f32⟩
  | .hbm, ⟨4, _⟩ => ⟨S4096x2304, .f32⟩
  | .hbm, ⟨5, _⟩ => ⟨S2304x1024, .f32⟩
  | .hbm, ⟨6, _⟩ => ⟨S1024x2304, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== OutDx.lean ====
abbrev S1024x1024 : Shape := ⟨2, ![1024, 1024]⟩
abbrev S4096x1024 : Shape := ⟨2, ![4096, 1024]⟩

abbrev nBuf : Space → Nat
  | .hbm => 5
  | .vmem => 5
  | .smem => 0
  | _ => 0

abbrev bufTy : (tb : Table) → Fin (tcTables nBuf tb) → BufTy
  | .hbm, ⟨0, _⟩ => ⟨S1024x1024, .f32⟩
  | .hbm, ⟨1, _⟩ => ⟨S4096x1024, .f32⟩
  | .hbm, ⟨2, _⟩ => ⟨S4096x1024, .bf16⟩
  | .hbm, ⟨3, _⟩ => ⟨S1024x1024, .bf16⟩
  | .hbm, ⟨4, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDxRefIdeal.lean ====
abbrev S1024x1024 : Shape := ⟨2, ![1024, 1024]⟩
abbrev S4096x1024 : Shape := ⟨2, ![4096, 1024]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S4096x1024, .f32⟩
  | .hbm, ⟨2, _⟩ => ⟨S_, .f32⟩
  | .hbm, ⟨3, _⟩ => ⟨S4096x1024, .f32⟩
  | .hbm, ⟨4, _⟩ => ⟨S4096x1024, .f32⟩
  | .hbm, ⟨5, _⟩ => ⟨S4096x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== OutDw.lean ====
abbrev S4096x1024 : Shape := ⟨2, ![4096, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .bf16⟩
  | .hbm, ⟨3, _⟩ => ⟨S4096x1024, .bf16⟩
  | .hbm, ⟨4, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== OutDwRefIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S1024x1024, .f32⟩
  | .hbm, ⟨6, _⟩ => ⟨S1024x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== GateDw.lean ====
abbrev S4096x1024 : Shape := ⟨2, ![4096, 1024]⟩
abbrev S1024x4096 : Shape := ⟨2, ![1024, 4096]⟩
abbrev S1024x1024 : Shape := ⟨2, ![1024, 1024]⟩
abbrev S1024x2048 : Shape := ⟨2, ![1024, 2048]⟩
abbrev S2048x1024 : Shape := ⟨2, ![2048, 1024]⟩

abbrev nBuf : Space → Nat
  | .hbm => 6
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x4096, .f32⟩
  | .hbm, ⟨3, _⟩ => ⟨S1024x4096, .bf16⟩
  | .hbm, ⟨4, _⟩ => ⟨S4096x1024, .bf16⟩
  | .hbm, ⟨5, _⟩ => ⟨S1024x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== GateDwRefIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S1024x1024, .f32⟩
  | .hbm, ⟨6, _⟩ => ⟨S1024x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== ProjDw.lean ====
abbrev S4096x256 : Shape := ⟨2, ![4096, 256]⟩
abbrev S4096x1024 : Shape := ⟨2, ![4096, 1024]⟩
abbrev S256x1024 : Shape := ⟨2, ![256, 1024]⟩
abbrev S1024x256 : Shape := ⟨2, ![1024, 256]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x256, .f32⟩
  | .hbm, ⟨1, _⟩ => ⟨S4096x1024, .f32⟩
  | .hbm, ⟨2, _⟩ => ⟨S4096x256, .bf16⟩
  | .hbm, ⟨3, _⟩ => ⟨S4096x1024, .bf16⟩
  | .hbm, ⟨4, _⟩ => ⟨S256x1024, .f32⟩
  | .local _ .vmem, ⟨0, _⟩ => ⟨S1024x256, .bf16⟩
  | .local _ .vmem, ⟨1, _⟩ => ⟨S1024x256, .bf16⟩
  | .local _ .vmem, ⟨2, _⟩ => ⟨S1024x1024, .bf16⟩
  | .local _ .vmem, ⟨3, _⟩ => ⟨S1024x1024, .bf16⟩
  | .local _ .vmem, ⟨4, _⟩ => ⟨S256x1024, .f32⟩
  | .local _ .vmem, ⟨5, _⟩ => ⟨S256x1024, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ProjDwRefIdeal.lean ====
abbrev S4096x256 : Shape := ⟨2, ![4096, 256]⟩
abbrev S4096x1024 : Shape := ⟨2, ![4096, 1024]⟩
abbrev S_ : Shape := ⟨0, ![]⟩
abbrev S256x1024 : Shape := ⟨2, ![256, 1024]⟩
abbrev S1024x256 : Shape := ⟨2, ![1024, 256]⟩

abbrev nBuf : Space → Nat
  | .hbm => 7
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x1024, .f32⟩
  | .hbm, ⟨2, _⟩ => ⟨S_, .f32⟩
  | .hbm, ⟨3, _⟩ => ⟨S256x1024, .f32⟩
  | .hbm, ⟨4, _⟩ => ⟨S4096x1024, .f32⟩
  | .hbm, ⟨5, _⟩ => ⟨S1024x256, .f32⟩
  | .hbm, ⟨6, _⟩ => ⟨S256x1024, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== MmUp.lean ====
abbrev S4096x1024 : Shape := ⟨2, ![4096, 1024]⟩
abbrev S1024x5632 : Shape := ⟨2, ![1024, 5632]⟩
abbrev S1024x1408 : Shape := ⟨2, ![1024, 1408]⟩
abbrev S1x1024x1408 : Shape := ⟨3, ![1, 1024, 1408]⟩
abbrev S4x1024x1408 : Shape := ⟨3, ![4, 1024, 1408]⟩
abbrev S4096x5632 : Shape := ⟨2, ![4096, 5632]⟩
abbrev S1024x1024 : Shape := ⟨2, ![1024, 1024]⟩

abbrev nBuf : Space → Nat
  | .hbm => 14
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S4096x1024, .bf16⟩
  | .hbm, ⟨3, _⟩ => ⟨S1024x1408, .f32⟩
  | .hbm, ⟨4, _⟩ => ⟨S1024x1408, .f32⟩
  | .hbm, ⟨5, _⟩ => ⟨S1024x1408, .f32⟩
  | .hbm, ⟨6, _⟩ => ⟨S1024x1408, .f32⟩
  | .hbm, ⟨7, _⟩ => ⟨S1x1024x1408, .f32⟩
  | .hbm, ⟨8, _⟩ => ⟨S1x1024x1408, .f32⟩
  | .hbm, ⟨9, _⟩ => ⟨S1x1024x1408, .f32⟩
  | .hbm, ⟨10, _⟩ => ⟨S1x1024x1408, .f32⟩
  | .hbm, ⟨11, _⟩ => ⟨S4x1024x1408, .f32⟩
  | .hbm, ⟨12, _⟩ => ⟨S4x1024x1408, .bf16⟩
  | .hbm, ⟨13, _⟩ => ⟨S4096x5632, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1024x1408, .f32⟩
  | .local _ .vmem, ⟨5, _⟩ => ⟨S1024x1408, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  ![v0.toNat, arg2.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MmUpRefIdeal.lean ====
abbrev S4096x1024 : Shape := ⟨2, ![4096, 1024]⟩
abbrev S1024x5632 : Shape := ⟨2, ![1024, 5632]⟩
abbrev S4096x5632 : Shape := ⟨2, ![4096, 5632]⟩

abbrev nBuf : Space → Nat
  | .hbm => 3
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S4096x5632, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== MmDown.lean ====
abbrev S4096x1024 : Shape := ⟨2, ![4096, 1024]⟩
abbrev S4096x2816 : Shape := ⟨2, ![4096, 2816]⟩
abbrev S2816x1024 : Shape := ⟨2, ![2816, 1024]⟩
abbrev S1024x2816 : Shape := ⟨2, ![1024, 2816]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x2816, .f32⟩
  | .hbm, ⟨2, _⟩ => ⟨S2816x1024, .f32⟩
  | .hbm, ⟨3, _⟩ => ⟨S4096x2816, .bf16⟩
  | .hbm, ⟨4, _⟩ => ⟨S2816x1024, .bf16⟩
  | .hbm, ⟨5, _⟩ => ⟨S4096x1024, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MmDownRefIdeal.lean ====
abbrev S4096x1024 : Shape := ⟨2, ![4096, 1024]⟩
abbrev S4096x2816 : Shape := ⟨2, ![4096, 2816]⟩
abbrev S2816x1024 : Shape := ⟨2, ![2816, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2816, .f32⟩
  | .hbm, ⟨2, _⟩ => ⟨S2816x1024, .f32⟩
  | .hbm, ⟨3, _⟩ => ⟨S4096x1024, .f32⟩
  | .hbm, ⟨4, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== MmIn.lean ====
abbrev S4096x1024 : Shape := ⟨2, ![4096, 1024]⟩
abbrev S1024x2304 : Shape := ⟨2, ![1024, 2304]⟩
abbrev S4096x2304 : Shape := ⟨2, ![4096, 2304]⟩
abbrev S1024x1024 : Shape := ⟨2, ![1024, 1024]⟩
abbrev S1024x1152 : Shape := ⟨2, ![1024, 1152]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x2304, .f32⟩
  | .hbm, ⟨2, _⟩ => ⟨S4096x1024, .bf16⟩
  | .hbm, ⟨3, _⟩ => ⟨S1024x2304, .bf16⟩
  | .hbm, ⟨4, _⟩ => ⟨S4096x2304, .f32⟩
  | .local _ .vmem, ⟨0, _⟩ => ⟨S1024x1024, .bf16⟩
  | .local _ .vmem, ⟨1, _⟩ => ⟨S1024x1024, .bf16⟩
  | .local _ .vmem, ⟨2, _⟩ => ⟨S1024x1152, .bf16⟩
  | .local _ .vmem, ⟨3, _⟩ => ⟨S1024x1152, .bf16⟩
  | .local _ .vmem, ⟨4, _⟩ => ⟨S1024x1152, .f32⟩
  | .local _ .vmem, ⟨5, _⟩ => ⟨S1024x1152, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MmInRefIdeal.lean ====
abbrev S4096x1024 : Shape := ⟨2, ![4096, 1024]⟩
abbrev S1024x2304 : Shape := ⟨2, ![1024, 2304]⟩
abbrev S4096x2304 : Shape := ⟨2, ![4096, 2304]⟩

abbrev nBuf : Space → Nat
  | .hbm => 3
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2304, .f32⟩
  | .hbm, ⟨2, _⟩ => ⟨S4096x2304, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== MmOut.lean ====
abbrev S4096x1024 : Shape := ⟨2, ![4096, 1024]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x1024, .f32⟩
  | .hbm, ⟨3, _⟩ => ⟨S4096x1024, .bf16⟩
  | .hbm, ⟨4, _⟩ => ⟨S1024x1024, .bf16⟩
  | .hbm, ⟨5, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MmOutRefIdeal.lean ====
abbrev S4096x1024 : Shape := ⟨2, ![4096, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x1024, .f32⟩
  | .hbm, ⟨3, _⟩ => ⟨S4096x1024, .f32⟩
  | .hbm, ⟨4, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== MmGate.lean ====
abbrev S4096x1024 : Shape := ⟨2, ![4096, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .bf16⟩
  | .hbm, ⟨3, _⟩ => ⟨S1024x1024, .bf16⟩
  | .hbm, ⟨4, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MmGateRefIdeal.lean ====
abbrev S4096x1024 : Shape := ⟨2, ![4096, 1024]⟩
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== MmProj.lean ====
abbrev S4096x256 : Shape := ⟨2, ![4096, 256]⟩
abbrev S256x1024 : Shape := ⟨2, ![256, 1024]⟩
abbrev S4096x1024 : Shape := ⟨2, ![4096, 1024]⟩
abbrev S1024x256 : Shape := ⟨2, ![1024, 256]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x256, .f32⟩
  | .hbm, ⟨1, _⟩ => ⟨S256x1024, .f32⟩
  | .hbm, ⟨2, _⟩ => ⟨S4096x256, .bf16⟩
  | .hbm, ⟨3, _⟩ => ⟨S256x1024, .bf16⟩
  | .hbm, ⟨4, _⟩ => ⟨S4096x1024, .f32⟩
  | .local _ .vmem, ⟨0, _⟩ => ⟨S1024x256, .bf16⟩
  | .local _ .vmem, ⟨1, _⟩ => ⟨S1024x256, .bf16⟩
  | .local _ .vmem, ⟨2, _⟩ => ⟨S256x1024, .bf16⟩
  | .local _ .vmem, ⟨3, _⟩ => ⟨S1024x1024, .f32⟩
  | .local _ .vmem, ⟨4, _⟩ => ⟨S1024x1024, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MmProjRefIdeal.lean ====
abbrev S4096x256 : Shape := ⟨2, ![4096, 256]⟩
abbrev S256x1024 : Shape := ⟨2, ![256, 1024]⟩
abbrev S4096x1024 : Shape := ⟨2, ![4096, 1024]⟩

abbrev nBuf : Space → Nat
  | .hbm => 3
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S256x1024, .f32⟩
  | .hbm, ⟨2, _⟩ => ⟨S4096x1024, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== PleB.lean ====
abbrev S4096x1024 : Shape := ⟨2, ![4096, 1024]⟩
abbrev S512x1024 : Shape := ⟨2, ![512, 1024]⟩

abbrev nBuf : Space → Nat
  | .hbm => 5
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .bf16⟩
  | .hbm, ⟨4, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== PleBRefIdeal.lean ====
abbrev S4096x1024 : Shape := ⟨2, ![4096, 1024]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .bf16⟩
  | .hbm, ⟨20, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== GnormB.lean ====
abbrev S4096x256 : Shape := ⟨2, ![4096, 256]⟩
abbrev S4x256 : Shape := ⟨2, ![4, 256]⟩
abbrev S4096x1024 : Shape := ⟨2, ![4096, 1024]⟩
abbrev S1x1024 : Shape := ⟨2, ![1, 1024]⟩
abbrev S512x256 : Shape := ⟨2, ![512, 256]⟩
abbrev S512x1024 : Shape := ⟨2, ![512, 1024]⟩
abbrev S512 : Shape := ⟨1, ![512]⟩
abbrev S512x1 : Shape := ⟨2, ![512, 1]⟩
abbrev S1x256 : Shape := ⟨2, ![1, 256]⟩
abbrev S256 : Shape := ⟨1, ![256]⟩

abbrev nBuf : Space → Nat
  | .hbm => 12
  | .vmem => 20
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S4096x256, .f32⟩
  | .hbm, ⟨3, _⟩ => ⟨S4096x256, .f32⟩
  | .hbm, ⟨4, _⟩ => ⟨S4x256, .f32⟩
  | .hbm, ⟨5, _⟩ => ⟨S4096x1024, .f32⟩
  | .hbm, ⟨6, _⟩ => ⟨S1x1024, .f32⟩
  | .hbm, ⟨7, _⟩ => ⟨S4096x256, .f32⟩
  | .hbm, ⟨8, _⟩ => ⟨S4096x256, .f32⟩
  | .hbm, ⟨9, _⟩ => ⟨S4096x256, .f32⟩
  | .hbm, ⟨10, _⟩ => ⟨S4096x256, .f32⟩
  | .hbm, ⟨11, _⟩ => ⟨S1x1024, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S512x256, .f32⟩
  | .local _ .vmem, ⟨15, _⟩ => ⟨S512x256, .f32⟩
  | .local _ .vmem, ⟨16, _⟩ => ⟨S512x256, .f32⟩
  | .local _ .vmem, ⟨17, _⟩ => ⟨S512x256, .f32⟩
  | .local _ .vmem, ⟨18, _⟩ => ⟨S512x256, .f32⟩
  | .local _ .vmem, ⟨19, _⟩ => ⟨S1x1024, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev main_v1_4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v34 : BitVec 32 := Scalar.extui v0
  let c0_i32_12 : BitVec 32 := 0#32
  let v35 : BitVec 1 := Scalar.cmpi .ne v34 c0_i32_12
  v35

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v36 : BitVec 1 := Scalar.xori v0 v_true
  let v37 : BitVec 32 := Scalar.extui v36
  let c0_i32_13 : BitVec 32 := 0#32
  let v38 : BitVec 1 := Scalar.cmpi .ne v37 c0_i32_13
  v38

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v72 : BitVec 32 := Scalar.extui v0
  let c0_i32_27 : BitVec 32 := 0#32
  let v73 : BitVec 1 := Scalar.cmpi .ne v72 c0_i32_27
  v73

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let true_28 : BitVec 1 := 1#1
  let v74 : BitVec 1 := Scalar.xori v0 true_28
  let v75 : BitVec 32 := Scalar.extui v74
  let c0_i32_29 : BitVec 32 := 0#32
  let v76 : BitVec 1 := Scalar.cmpi .ne v75 c0_i32_29
  v76

def k0_cond5 (i : grid0.Coords) : BitVec 1 :=
  let arg0 : BitVec 32 := BitVec.ofNat 32 (i 0).val
  let c0_i32 : BitVec 32 := 0#32
  let v0 : BitVec 1 := Scalar.cmpi .eq arg0 c0_i32
  let v110 : BitVec 32 := Scalar.extui v0
  let c0_i32_43 : BitVec 32 := 0#32
  let v111 : BitVec 1 := Scalar.cmpi .ne v110 c0_i32_43
  v111

def k0_cond6 (i : grid0.Coords) : BitVec 1 :=
  let arg0 : BitVec 32 := BitVec.ofNat 32 (i 0).val
  let c0_i32 : BitVec 32 := 0#32
  let v0 : BitVec 1 := Scalar.cmpi .eq arg0 c0_i32
  let true_44 : BitVec 1 := 1#1
  let v112 : BitVec 1 := Scalar.xori v0 true_44
  let v113 : BitVec 32 := Scalar.extui v112
  let c0_i32_45 : BitVec 32 := 0#32
  let v114 : BitVec 1 := Scalar.cmpi .ne v113 c0_i32_45
  v114

def k0_cond7 (i : grid0.Coords) : BitVec 1 :=
  let arg0 : BitVec 32 := BitVec.ofNat 32 (i 0).val
  let c0_i32 : BitVec 32 := 0#32
  let v0 : BitVec 1 := Scalar.cmpi .eq arg0 c0_i32
  let v148 : BitVec 32 := Scalar.extui v0
  let c0_i32_59 : BitVec 32 := 0#32
  let v149 : BitVec 1 := Scalar.cmpi .ne v148 c0_i32_59
  v149

def k0_cond8 (i : grid0.Coords) : BitVec 1 :=
  let arg0 : BitVec 32 := BitVec.ofNat 32 (i 0).val
  let c0_i32 : BitVec 32 := 0#32
  let v0 : BitVec 1 := Scalar.cmpi .eq arg0 c0_i32
  let true_60 : BitVec 1 := 1#1
  let v150 : BitVec 1 := Scalar.xori v0 true_60
  let v151 : BitVec 32 := Scalar.extui v150
  let c0_i32_61 : BitVec 32 := 0#32
  let v152 : BitVec 1 := Scalar.cmpi .ne v151 c0_i32_61
  v152

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== GnormBRefIdeal.lean ====
abbrev S4096x256 : Shape := ⟨2, ![4096, 256]⟩
abbrev S4x256 : Shape := ⟨2, ![4, 256]⟩
abbrev S4096x1024 : Shape := ⟨2, ![4096, 1024]⟩
abbrev S1x256 : Shape := ⟨2, ![1, 256]⟩
abbrev S256 : Shape := ⟨1, ![256]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 215
  | .vmem => 0
  | .smem => 0
  | _ => 0

abbrev hbmTy0_0 (i : Nat) : BufTy := match i % 128 with
  | 0 => ⟨S4096x256, .f32⟩
  | 1 => ⟨S4096x256, .f32⟩
  | 2 => ⟨S4096x256, .f32⟩
  | 3 => ⟨S4096x256, .f32⟩
  | 4 => ⟨S4x256, .f32⟩
  | 5 => ⟨S4096x1024, .f32⟩
  | 6 => ⟨S1x256, .f32⟩
  | 7 => ⟨S256, .f32⟩
  | 8 => ⟨S4096x256, .f32⟩
  | 9 => ⟨S_, .f32⟩
  | 10 => ⟨S4096, .f32⟩
  | 11 => ⟨S4096x1, .f32⟩
  | 12 => ⟨S_, .f32⟩
  | 13 => ⟨S4096x1, .f32⟩
  | 14 => ⟨S4096x1, .f32⟩
  | 15 => ⟨S_, .f32⟩
  | 16 => ⟨S4096x1, .f32⟩
  | 17 => ⟨S4096x1, .f32⟩
  | 18 => ⟨S4096x1, .f32⟩
  | 19 => ⟨S4096x1, .f32⟩
  | 20 => ⟨S_, .f32⟩
  | 21 => ⟨S4096x1, .f32⟩
  | 22 => ⟨S4096x1, .f32⟩
  | 23 => ⟨S4096x256, .f32⟩
  | 24 => ⟨S4096x256, .f32⟩
  | 25 => ⟨S1x256, .f32⟩
  | 26 => ⟨S4096x256, .f32⟩
  | 27 => ⟨S4096x256, .f32⟩
  | 28 => ⟨S1x256, .f32⟩
  | 29 => ⟨S256, .f32⟩
  | 30 => ⟨S4096x256, .f32⟩
  | 31 => ⟨S_, .f32⟩
  | 32 => ⟨S4096, .f32⟩
  | 33 => ⟨S4096x1, .f32⟩
  | 34 => ⟨S_, .f32⟩
  | 35 => ⟨S4096x1, .f32⟩
  | 36 => ⟨S4096x1, .f32⟩
  | 37 => ⟨S_, .f32⟩
  | 38 => ⟨S4096x1, .f32⟩
  | 39 => ⟨S4096x1, .f32⟩
  | 40 => ⟨S4096x1, .f32⟩
  | 41 => ⟨S4096x1, .f32⟩
  | 42 => ⟨S_, .f32⟩
  | 43 => ⟨S4096x1, .f32⟩
  | 44 => ⟨S4096x1, .f32⟩
  | 45 => ⟨S4096x256, .f32⟩
  | 46 => ⟨S4096x256, .f32⟩
  | 47 => ⟨S1x256, .f32⟩
  | 48 => ⟨S4096x256, .f32⟩
  | 49 => ⟨S4096x256, .f32⟩
  | 50 => ⟨S1x256, .f32⟩
  | 51 => ⟨S256, .f32⟩
  | 52 => ⟨S4096x256, .f32⟩
  | 53 => ⟨S_, .f32⟩
  | 54 => ⟨S4096, .f32⟩
  | 55 => ⟨S4096x1, .f32⟩
  | 56 => ⟨S_, .f32⟩
  | 57 => ⟨S4096x1, .f32⟩
  | 58 => ⟨S4096x1, .f32⟩
  | 59 => ⟨S_, .f32⟩
  | 60 => ⟨S4096x1, .f32⟩
  | 61 => ⟨S4096x1, .f32⟩
  | 62 => ⟨S4096x1, .f32⟩
  | 63 => ⟨S4096x1, .f32⟩
  | 64 => ⟨S_, .f32⟩
  | 65 => ⟨S4096x1, .f32⟩
  | 66 => ⟨S4096x1, .f32⟩
  | 67 => ⟨S4096x256, .f32⟩
  | 68 => ⟨S4096x256, .f32⟩
  | 69 => ⟨S1x256, .f32⟩
  | 70 => ⟨S4096x256, .f32⟩
  | 71 => ⟨S4096x256, .f32⟩
  | 72 => ⟨S1x256, .f32⟩
  | 73 => ⟨S256, .f32⟩
  | 74 => ⟨S4096x256, .f32⟩
  | 75 => ⟨S_, .f32⟩
  | 76 => ⟨S4096, .f32⟩
  | 77 => ⟨S4096x1, .f32⟩
  | 78 => ⟨S_, .f32⟩
  | 79 => ⟨S4096x1, .f32⟩
  | 80 => ⟨S4096x1, .f32⟩
  | 81 => ⟨S_, .f32⟩
  | 82 => ⟨S4096x1, .f32⟩
  | 83 => ⟨S4096x1, .f32⟩
  | 84 => ⟨S4096x1, .f32⟩
  | 85 => ⟨S4096x1, .f32⟩
  | 86 => ⟨S_, .f32⟩
  | 87 => ⟨S4096x1, .f32⟩
  | 88 => ⟨S4096x1, .f32⟩
  | 89 => ⟨S4096x256, .f32⟩
  | 90 => ⟨S4096x256, .f32⟩
  | 91 => ⟨S1x256, .f32⟩
  | 92 => ⟨S4096x256, .f32⟩
  | 93 => ⟨S4096x256, .f32⟩
  | 94 => ⟨S4096x1024, .f32⟩
  | 95 => ⟨S4096x256, .f32⟩
  | 96 => ⟨S4096x256, .f32⟩
  | 97 => ⟨S4096x256, .f32⟩
  | 98 => ⟨S4096x256, .f32⟩
  | 99 => ⟨S4096x256, .f32⟩
  | 100 => ⟨S_, .f32⟩
  | 101 => ⟨S256, .f32⟩
  | 102 => ⟨S1x256, .f32⟩
  | 103 => ⟨S4096x256, .f32⟩
  | 104 => ⟨S4096x256, .f32⟩
  | 105 => ⟨S_, .f32⟩
  | 106 => ⟨S256, .f32⟩
  | 107 => ⟨S4096x256, .f32⟩
  | 108 => ⟨S_, .f32⟩
  | 109 => ⟨S4096, .f32⟩
  | 110 => ⟨S4096x1, .f32⟩
  | 111 => ⟨S4096x256, .f32⟩
  | 112 => ⟨S4096x256, .f32⟩
  | 113 => ⟨S4096x1, .f32⟩
  | 114 => ⟨S_, .f32⟩
  | 115 => ⟨S4096x1, .f32⟩
  | 116 => ⟨S4096x1, .f32⟩
  | 117 => ⟨S_, .f32⟩
  | 118 => ⟨S4096, .f32⟩
  | 119 => ⟨S4096x256, .f32⟩
  | 120 => ⟨S4096x256, .f32⟩
  | 121 => ⟨S4096x256, .f32⟩
  | 122 => ⟨S4096x256, .f32⟩
  | 123 => ⟨S4096x256, .f32⟩
  | 124 => ⟨S1x256, .f32⟩
  | 125 => ⟨S_, .f32⟩
  | 126 => ⟨S4x256, .f32⟩
  | 127 => ⟨S4096x256, .f32⟩
  | _ => ⟨S4096x256, .f32⟩

abbrev hbmTy0_1 (i : Nat) : BufTy := match i % 128 with
  | 0 => ⟨S_, .f32⟩
  | 1 => ⟨S256, .f32⟩
  | 2 => ⟨S1x256, .f32⟩
  | 3 => ⟨S4096x256, .f32⟩
  | 4 => ⟨S4096x256, .f32⟩
  | 5 => ⟨S_, .f32⟩
  | 6 => ⟨S256, .f32⟩
  | 7 => ⟨S4096x256, .f32⟩
  | 8 => ⟨S_, .f32⟩
  | 9 => ⟨S4096, .f32⟩
  | 10 => ⟨S4096x1, .f32⟩
  | 11 => ⟨S4096x256, .f32⟩
  | 12 => ⟨S4096x256, .f32⟩
  | 13 => ⟨S4096x1, .f32⟩
  | 14 => ⟨S_, .f32⟩
  | 15 => ⟨S4096x1, .f32⟩
  | 16 => ⟨S4096x1, .f32⟩
  | 17 => ⟨S_, .f32⟩
  | 18 => ⟨S4096, .f32⟩
  | 19 => ⟨S4096x256, .f32⟩
  | 20 => ⟨S4096x256, .f32⟩
  | 21 => ⟨S4096x256, .f32⟩
  | 22 => ⟨S4096x256, .f32⟩
  | 23 => ⟨S4096x256, .f32⟩
  | 24 => ⟨S1x256, .f32⟩
  | 25 => ⟨S_, .f32⟩
  | 26 => ⟨S4x256, .f32⟩
  | 27 => ⟨S4x256, .f32⟩
  | 28 => ⟨S4096x256, .f32⟩
  | 29 => ⟨S_, .f32⟩
  | 30 => ⟨S256, .f32⟩
  | 31 => ⟨S1x256, .f32⟩
  | 32 => ⟨S4096x256, .f32⟩
  | 33 => ⟨S4096x256, .f32⟩
  | 34 => ⟨S_, .f32⟩
  | 35 => ⟨S256, .f32⟩
  | 36 => ⟨S4096x256, .f32⟩
  | 37 => ⟨S_, .f32⟩
  | 38 => ⟨S4096, .f32⟩
  | 39 => ⟨S4096x1, .f32⟩
  | 40 => ⟨S4096x256, .f32⟩
  | 41 => ⟨S4096x256, .f32⟩
  | 42 => ⟨S4096x1, .f32⟩
  | 43 => ⟨S_, .f32⟩
  | 44 => ⟨S4096x1, .f32⟩
  | 45 => ⟨S4096x1, .f32⟩
  | 46 => ⟨S_, .f32⟩
  | 47 => ⟨S4096, .f32⟩
  | 48 => ⟨S4096x256, .f32⟩
  | 49 => ⟨S4096x256, .f32⟩
  | 50 => ⟨S4096x256, .f32⟩
  | 51 => ⟨S4096x256, .f32⟩
  | 52 => ⟨S4096x256, .f32⟩
  | 53 => ⟨S1x256, .f32⟩
  | 54 => ⟨S_, .f32⟩
  | 55 => ⟨S4x256, .f32⟩
  | 56 => ⟨S4x256, .f32⟩
  | 57 => ⟨S4096x256, .f32⟩
  | 58 => ⟨S_, .f32⟩
  | 59 => ⟨S256, .f32⟩
  | 60 => ⟨S1x256, .f32⟩
  | 61 => ⟨S4096x256, .f32⟩
  | 62 => ⟨S4096x256, .f32⟩
  | 63 => ⟨S_, .f32⟩
  | 64 => ⟨S256, .f32⟩
  | 65 => ⟨S4096x256, .f32⟩
  | 66 => ⟨S_, .f32⟩
  | 67 => ⟨S4096, .f32⟩
  | 68 => ⟨S4096x1, .f32⟩
  | 69 => ⟨S4096x256, .f32⟩
  | 70 => ⟨S4096x256, .f32⟩
  | 71 => ⟨S4096x1, .f32⟩
  | 72 => ⟨S_, .f32⟩
  | 73 => ⟨S4096x1, .f32⟩
  | 74 => ⟨S4096x1, .f32⟩
  | 75 => ⟨S_, .f32⟩
  | 76 => ⟨S4096, .f32⟩
  | 77 => ⟨S4096x256, .f32⟩
  | 78 => ⟨S4096x256, .f32⟩
  | 79 => ⟨S4096x256, .f32⟩
  | 80 => ⟨S4096x256, .f32⟩
  | 81 => ⟨S4096x256, .f32⟩
  | 82 => ⟨S1x256, .f32⟩
  | 83 => ⟨S_, .f32⟩
  | 84 => ⟨S4x256, .f32⟩
  | 85 => ⟨S4x256, .f32⟩
  | 86 => ⟨S1x1024, .f32⟩
  | _ => ⟨S4096x256, .f32⟩

abbrev hbmTy (i : Nat) : BufTy := match i / 128 with
  | 0 => hbmTy0_0 i
  | 1 => hbmTy0_1 i
  | _ => ⟨S4096x256, .f32⟩

abbrev bufTy : (tb : Table) → Fin (tcTables nBuf tb) → BufTy
  | .hbm, ⟨i, _⟩ => hbmTy i
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_6 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_7 : Ref sig .tc := ⟨.hbm, 53, rfl⟩
abbrev main_v39 : Ref sig .tc := ⟨.hbm, 54, rfl⟩
abbrev main_v40 : Ref sig .tc := ⟨.hbm, 55, rfl⟩
abbrev main_cst_8 : Ref sig .tc := ⟨.hbm, 56, rfl⟩
abbrev main_v41 : Ref sig .tc := ⟨.hbm, 57, rfl⟩
abbrev main_v42 : Ref sig .tc := ⟨.hbm, 58, rfl⟩
abbrev main_cst_9 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_10 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_cst_11 : Ref sig .tc := ⟨.hbm, 75, rfl⟩
abbrev main_v57 : Ref sig .tc := ⟨.hbm, 76, rfl⟩
abbrev main_v58 : Ref sig .tc := ⟨.hbm, 77, rfl⟩
abbrev main_cst_12 : Ref sig .tc := ⟨.hbm, 78, rfl⟩
abbrev main_v59 : Ref sig .tc := ⟨.hbm, 79, rfl⟩
abbrev main_v60 : Ref sig .tc := ⟨.hbm, 80, rfl⟩
abbrev main_cst_13 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_cst_14 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_cst_15 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_cst_16 : Ref sig .tc := ⟨.hbm, 105, rfl⟩
abbrev main_v82 : Ref sig .tc := ⟨.hbm, 106, rfl⟩
abbrev main_v83 : Ref sig .tc := ⟨.hbm, 107, rfl⟩
abbrev main_cst_17 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_cst_18 : Ref sig .tc := ⟨.hbm, 114, rfl⟩
abbrev main_v89 : Ref sig .tc := ⟨.hbm, 115, rfl⟩
abbrev main_v90 : Ref sig .tc := ⟨.hbm, 116, rfl⟩
abbrev main_cst_19 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_cst_20 : Ref sig .tc := ⟨.hbm, 125, rfl⟩
abbrev main_v98 : Ref sig .tc := ⟨.hbm, 126, rfl⟩
abbrev main_v99 : Ref sig .tc := ⟨.hbm, 127, rfl⟩
abbrev main_cst_21 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_cst_22 : Ref sig .tc := ⟨.hbm, 133, rfl⟩
abbrev main_v104 : Ref sig .tc := ⟨.hbm, 134, rfl⟩
abbrev main_v105 : Ref sig .tc := ⟨.hbm, 135, rfl⟩
abbrev main_cst_23 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_cst_24 : Ref sig .tc := ⟨.hbm, 142, rfl⟩
abbrev main_v111 : Ref sig .tc := ⟨.hbm, 143, rfl⟩
abbrev main_v112 : Ref sig .tc := ⟨.hbm, 144, rfl⟩
abbrev main_cst_25 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_cst_26 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_cst_27 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_cst_28 : Ref sig .tc := ⟨.hbm, 162, rfl⟩
abbrev main_v127 : Ref sig .tc := ⟨.hbm, 163, rfl⟩
abbrev main_v128 : Ref sig .tc := ⟨.hbm, 164, rfl⟩
abbrev main_cst_29 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_cst_30 : Ref sig .tc := ⟨.hbm, 171, rfl⟩
abbrev main_v134 : Ref sig .tc := ⟨.hbm, 172, rfl⟩
abbrev main_v135 : Ref sig .tc := ⟨.hbm, 173, rfl⟩
abbrev main_cst_31 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_v141 : Ref sig .tc := ⟨.hbm, 180, rfl⟩
abbrev main_v142 : Ref sig .tc := ⟨.hbm, 181, rfl⟩
abbrev main_cst_32 : Ref sig .tc := ⟨.hbm, 182, rfl⟩
abbrev main_v143 : Ref sig .tc := ⟨.hbm, 183, rfl⟩
abbrev main_v144 : Ref sig .tc := ⟨.hbm, 184, rfl⟩
abbrev main_v145 : Ref sig .tc := ⟨.hbm, 185, rfl⟩
abbrev main_cst_33 : Ref sig .tc := ⟨.hbm, 186, rfl⟩
abbrev main_v146 : Ref sig .tc := ⟨.hbm, 187, rfl⟩
abbrev main_v147 : Ref sig .tc := ⟨.hbm, 188, rfl⟩
abbrev main_v148 : Ref sig .tc := ⟨.hbm, 189, rfl⟩
abbrev main_v149 : Ref sig .tc := ⟨.hbm, 190, rfl⟩
abbrev main_cst_34 : Ref sig .tc := ⟨.hbm, 191, rfl⟩
abbrev main_v150 : Ref sig .tc := ⟨.hbm, 192, rfl⟩
abbrev main_v151 : Ref sig .tc := ⟨.hbm, 193, rfl⟩
abbrev main_cst_35 : Ref sig .tc := ⟨.hbm, 194, rfl⟩
abbrev main_v152 : Ref sig .tc := ⟨.hbm, 195, rfl⟩
abbrev main_v153 : Ref sig .tc := ⟨.hbm, 196, rfl⟩
abbrev main_v154 : Ref sig .tc := ⟨.hbm, 197, rfl⟩
abbrev main_v155 : Ref sig .tc := ⟨.hbm, 198, rfl⟩
abbrev main_v156 : Ref sig .tc := ⟨.hbm, 199, rfl⟩
abbrev main_cst_36 : Ref sig .tc := ⟨.hbm, 200, rfl⟩
abbrev main_v157 : Ref sig .tc := ⟨.hbm, 201, rfl⟩
abbrev main_v158 : Ref sig .tc := ⟨.hbm, 202, rfl⟩
abbrev main_cst_37 : Ref sig .tc := ⟨.hbm, 203, rfl⟩
abbrev main_v159 : Ref sig .tc := ⟨.hbm, 204, rfl⟩
abbrev main_v160 : Ref sig .tc := ⟨.hbm, 205, rfl⟩
abbrev main_v161 : Ref sig .tc := ⟨.hbm, 206, rfl⟩
abbrev main_v162 : Ref sig .tc := ⟨.hbm, 207, rfl⟩
abbrev main_v163 : Ref sig .tc := ⟨.hbm, 208, rfl⟩
abbrev main_v164 : Ref sig .tc := ⟨.hbm, 209, rfl⟩
abbrev main_v165 : Ref sig .tc := ⟨.hbm, 210, rfl⟩
abbrev main_cst_38 : Ref sig .tc := ⟨.hbm, 211, rfl⟩
abbrev main_v166 : Ref sig .tc := ⟨.hbm, 212, rfl⟩
abbrev main_v167 : Ref sig .tc := ⟨.hbm, 213, rfl⟩
abbrev main_v168 : Ref sig .tc := ⟨.hbm, 214, rfl⟩

abbrev nD : Nat := 1
abbrev τ : Topo := Topo.v7x

variable {F : FTy → Type} [FloatOps F]
-- ==== AttnF.lean ====
abbrev S2x2048x4x64 : Shape := ⟨4, ![2, 2048, 4, 64]⟩
abbrev S2x2048x2x64 : Shape := ⟨4, ![2, 2048, 2, 64]⟩
abbrev S_ : Shape := ⟨0, ![]⟩
abbrev S2x2048x512 : Shape := ⟨3, ![2, 2048, 512]⟩
abbrev S2x2048x256 : Shape := ⟨3, ![2, 2048, 256]⟩
abbrev S2x2048x128 : Shape := ⟨3, ![2, 2048, 128]⟩
abbrev S2x2048x1024 : Shape := ⟨3, ![2, 2048, 1024]⟩
abbrev S1x128x256 : Shape := ⟨3, ![1, 128, 256]⟩
abbrev S1x2048x128 : Shape := ⟨3, ![1, 2048, 128]⟩
abbrev S1x128 : Shape := ⟨2, ![1, 128]⟩
abbrev S1x128x128 : Shape := ⟨3, ![1, 128, 128]⟩
abbrev S128x128 : Shape := ⟨2, ![128, 128]⟩
abbrev S256x128 : Shape := ⟨2, ![256, 128]⟩
abbrev S2048x128 : Shape := ⟨2, ![2048, 128]⟩
abbrev S256x2048 : Shape := ⟨2, ![256, 2048]⟩
abbrev S256 : Shape := ⟨1, ![256]⟩
abbrev S256x1 : Shape := ⟨2, ![256, 1]⟩
abbrev S128x1 : Shape := ⟨2, ![128, 1]⟩

abbrev nBuf : Space → Nat
  | .hbm => 14
  | .vmem => 10
  | .smem => 0
  | _ => 0

abbrev bufTy : (tb : Table) → Fin (tcTables nBuf tb) → BufTy
  | .hbm, ⟨0, _⟩ => ⟨S2x2048x4x64, .f32⟩
  | .hbm, ⟨1, _⟩ => ⟨S2x2048x2x64, .f32⟩
  | .hbm, ⟨2, _⟩ => ⟨S2x2048x2x64, .f32⟩
  | .hbm, ⟨3, _⟩ => ⟨S_, .bf16⟩
  | .hbm, ⟨4, _⟩ => ⟨S2x2048x512, .bf16⟩
  | .hbm, ⟨5, _⟩ => ⟨S2x2048x256, .f32⟩
  | .hbm, ⟨6, _⟩ => ⟨S2x2048x256, .bf16⟩
  | .hbm, ⟨7, _⟩ => ⟨S2x2048x128, .f32⟩
  | .hbm, ⟨8, _⟩ => ⟨S2x2048x128, .bf16⟩
  | .hbm, ⟨9, _⟩ => ⟨S2x2048x128, .f32⟩
  | .hbm, ⟨10, _⟩ => ⟨S2x2048x128, .bf16⟩
  | .hbm, ⟨11, _⟩ => ⟨S2x2048x1024, .bf16⟩
  | .hbm, ⟨12, _⟩ => ⟨S2x2048x256, .f32⟩
  | .hbm, ⟨13, _⟩ => ⟨S2x2048x256, .f32⟩
  | .local _ .vmem, ⟨0, _⟩ => ⟨S1x128x256, .bf16⟩
  | .local _ .vmem, ⟨1, _⟩ => ⟨S1x128x256, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x128x256, .f32⟩
  | .local _ .vmem, ⟨7, _⟩ => ⟨S1x128x256, .f32⟩
  | .local _ .vmem, ⟨8, _⟩ => ⟨S1x128x256, .f32⟩
  | .local _ .vmem, ⟨9, _⟩ => ⟨S1x128x256, .f32⟩
  | _, _ => ⟨S2x2048x4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8_0 : Ref sig .tc := ⟨.hbm, 12, rfl⟩
abbrev main_v8_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 1, 16], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let c2_i32 : BitVec 32 := 2#32
  let v1 : BitVec 32 := Scalar.addi v0 c2_i32
  let c0_i32 : BitVec 32 := 0#32
  ![arg0.toNat, arg2.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg1 c8_i32
  let c6_i32 : BitVec 32 := 6#32
  let v1 : BitVec 32 := Scalar.addi v0 c6_i32
  let c0_i32 : BitVec 32 := 0#32
  let c0_i32_0 : BitVec 32 := 0#32
  ![arg0.toNat, c0_i32.toNat, v1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg1 c8_i32
  let c7_i32 : BitVec 32 := 7#32
  let v1 : BitVec 32 := Scalar.addi v0 c7_i32
  let c0_i32 : BitVec 32 := 0#32
  let c0_i32_0 : BitVec 32 := 0#32
  ![arg0.toNat, c0_i32.toNat, v1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x128x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== AttnFRefIdeal.lean ====
abbrev S2x2048x4x64 : Shape := ⟨4, ![2, 2048, 4, 64]⟩
abbrev S2x2048x2x64 : Shape := ⟨4, ![2, 2048, 2, 64]⟩
abbrev S2x2048x2x2x64 : Shape := ⟨5, ![2, 2048, 2, 2, 64]⟩
abbrev S2x2x2048x2048x2 : Shape := ⟨5, ![2, 2, 2048, 2048, 2]⟩
abbrev S2x2x2x2048x2048 : Shape := ⟨5, ![2, 2, 2, 2048, 2048]⟩
abbrev S_ : Shape := ⟨0, ![]⟩
abbrev S2x2x2x2048 : Shape := ⟨4, ![2, 2, 2, 2048]⟩
abbrev S2x2048x2x2 : Shape := ⟨4, ![2, 2048, 2, 2]⟩
abbrev S2x2048x4x1 : Shape := ⟨4, ![2, 2048, 4, 1]⟩
abbrev S2x2x2x2048x1 : Shape := ⟨5, ![2, 2, 2, 2048, 1]⟩
abbrev S2x2x64x2x2048 : Shape := ⟨5, ![2, 2, 64, 2, 2048]⟩
abbrev S2x2048x256 : Shape := ⟨3, ![2, 2048, 256]⟩

abbrev nBuf : Space → Nat
  | .hbm => 41
  | .vmem => 0
  | .smem => 0
  | _ => 0

abbrev bufTy : (tb : Table) → Fin (tcTables nBuf tb) → BufTy
  | .hbm, ⟨0, _⟩ => ⟨S2x2048x4x64, .f32⟩
  | .hbm, ⟨1, _⟩ => ⟨S2x2048x2x64, .f32⟩
  | .hbm, ⟨2, _⟩ => ⟨S2x2048x2x64, .f32⟩
  | .hbm, ⟨3, _⟩ => ⟨S2x2048x2x2x64, .f32⟩
  | .hbm, ⟨4, _⟩ => ⟨S2x2x2048x2048x2, .f32⟩
  | .hbm, ⟨5, _⟩ => ⟨S2x2x2x2048x2048, .f32⟩
  | .hbm, ⟨6, _⟩ => ⟨S_, .f32⟩
  | .hbm, ⟨7, _⟩ => ⟨S2x2x2x2048x2048, .f32⟩
  | .hbm, ⟨8, _⟩ => ⟨S2x2x2x2048x2048, .f32⟩
  | .hbm, ⟨9, _⟩ => ⟨S2x2x2x2048x2048, .f32⟩
  | .hbm, ⟨10, _⟩ => ⟨S_, .f32⟩
  | .hbm, ⟨11, _⟩ => ⟨S2x2x2x2048, .f32⟩
  | .hbm, ⟨12, _⟩ => ⟨S2x2x2x2048, .f32⟩
  | .hbm, ⟨13, _⟩ => ⟨S2x2048x2x2, .f32⟩
  | .hbm, ⟨14, _⟩ => ⟨S2x2048x4x1, .f32⟩
  | .hbm, ⟨15, _⟩ => ⟨S2x2048x2x2x64, .f32⟩
  | .hbm, ⟨16, _⟩ => ⟨S2x2x2048x2048x2, .f32⟩
  | .hbm, ⟨17, _⟩ => ⟨S2x2x2x2048x2048, .f32⟩
  | .hbm, ⟨18, _⟩ => ⟨S_, .f32⟩
  | .hbm, ⟨19, _⟩ => ⟨S2x2x2x2048x2048, .f32⟩
  | .hbm, ⟨20, _⟩ => ⟨S2x2x2x2048x2048, .f32⟩
  | .hbm, ⟨21, _⟩ => ⟨S_, .f32⟩
  | .hbm, ⟨22, _⟩ => ⟨S2x2x2x2048, .f32⟩
  | .hbm, ⟨23, _⟩ => ⟨S_, .f32⟩
  | .hbm, ⟨24, _⟩ => ⟨S2x2x2x2048, .f32⟩
  | .hbm, ⟨25, _⟩ => ⟨S2x2x2x2048, .f32⟩
  | .hbm, ⟨26, _⟩ => ⟨S2x2x2x2048x1, .f32⟩
  | .hbm, ⟨27, _⟩ => ⟨S2x2x2x2048x2048, .f32⟩
  | .hbm, ⟨28, _⟩ => ⟨S2x2x2x2048x2048, .f32⟩
  | .hbm, ⟨29, _⟩ => ⟨S2x2x2x2048x2048, .f32⟩
  | .hbm, ⟨30, _⟩ => ⟨S_, .f32⟩
  | .hbm, ⟨31, _⟩ => ⟨S2x2x2x2048, .f32⟩
  | .hbm, ⟨32, _⟩ => ⟨S2x2x2x2048x1, .f32⟩
  | .hbm, ⟨33, _⟩ => ⟨S2x2x2x2048x2048, .f32⟩
  | .hbm, ⟨34, _⟩ => ⟨S2x2x2x2048x2048, .f32⟩
  | .hbm, ⟨35, _⟩ => ⟨S2x2x64x2x2048, .f32⟩
  | .hbm, ⟨36, _⟩ => ⟨S2x2048x2x2x64, .f32⟩
  | .hbm, ⟨37, _⟩ => ⟨S2x2048x4x64, .f32⟩
  | .hbm, ⟨38, _⟩ => ⟨S2x2048x256, .f32⟩
  | .hbm, ⟨39, _⟩ => ⟨S2x2048x4x64, .f32⟩
  | .hbm, ⟨40, _⟩ => ⟨S2x2048x256, .f32⟩
  | _, _ => ⟨S2x2048x4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩

abbrev nD : Nat := 1
abbrev τ : Topo := Topo.v7x

variable {F : FTy → Type} [FloatOps F]
-- ==== MixB.lean ====
abbrev S4096x4x64 : Shape := ⟨3, ![4096, 4, 64]⟩
abbrev S4096x4 : Shape := ⟨2, ![4096, 4]⟩
abbrev S4096x256 : Shape := ⟨2, ![4096, 256]⟩
abbrev S4096x4x1 : Shape := ⟨3, ![4096, 4, 1]⟩
abbrev S512x256 : Shape := ⟨2, ![512, 256]⟩
abbrev S512x128 : Shape := ⟨2, ![512, 128]⟩
abbrev S1x128 : Shape := ⟨2, ![1, 128]⟩
abbrev S512 : Shape := ⟨1, ![512]⟩
abbrev S512x1 : Shape := ⟨2, ![512, 1]⟩

abbrev nBuf : Space → Nat
  | .hbm => 25
  | .vmem => 26
  | .smem => 0
  | _ => 0

abbrev bufTy : (tb : Table) → Fin (tcTables nBuf tb) → BufTy
  | .hbm, ⟨0, _⟩ => ⟨S4096x4x64, .f32⟩
  | .hbm, ⟨1, _⟩ => ⟨S4096x4x64, .f32⟩
  | .hbm, ⟨2, _⟩ => ⟨S4096x4x64, .f32⟩
  | .hbm, ⟨3, _⟩ => ⟨S4096x4, .f32⟩
  | .hbm, ⟨4, _⟩ => ⟨S4096x4, .f32⟩
  | .hbm, ⟨5, _⟩ => ⟨S4096x4, .f32⟩
  | .hbm, ⟨6, _⟩ => ⟨S4096x256, .f32⟩
  | .hbm, ⟨7, _⟩ => ⟨S4096x256, .f32⟩
  | .hbm, ⟨8, _⟩ => ⟨S4096x256, .f32⟩
  | .hbm, ⟨9, _⟩ => ⟨S4096x256, .f32⟩
  | .hbm, ⟨10, _⟩ => ⟨S4096x4x1, .f32⟩
  | .hbm, ⟨11, _⟩ => ⟨S4096x4x64, .f32⟩
  | .hbm, ⟨12, _⟩ => ⟨S4096x256, .f32⟩
  | .hbm, ⟨13, _⟩ => ⟨S4096x4x1, .f32⟩
  | .hbm, ⟨14, _⟩ => ⟨S4096x4x64, .f32⟩
  | .hbm, ⟨15, _⟩ => ⟨S4096x256, .f32⟩
  | .hbm, ⟨16, _⟩ => ⟨S4096x4x1, .f32⟩
  | .hbm, ⟨17, _⟩ => ⟨S4096x4x64, .f32⟩
  | .hbm, ⟨18, _⟩ => ⟨S4096x256, .f32⟩
  | .hbm, ⟨19, _⟩ => ⟨S4096x256, .f32⟩
  | .hbm, ⟨20, _⟩ => ⟨S4096x256, .f32⟩
  | .hbm, ⟨21, _⟩ => ⟨S4096x256, .f32⟩
  | .hbm, ⟨22, _⟩ => ⟨S4096x256, .f32⟩
  | .hbm, ⟨23, _⟩ => ⟨S4096x256, .f32⟩
  | .hbm, ⟨24, _⟩ => ⟨S4096x256, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S512x256, .f32⟩
  | .local _ .vmem, ⟨15, _⟩ => ⟨S512x256, .f32⟩
  | .local _ .vmem, ⟨16, _⟩ => ⟨S512x256, .f32⟩
  | .local _ .vmem, ⟨17, _⟩ => ⟨S512x256, .f32⟩
  | .local _ .vmem, ⟨18, _⟩ => ⟨S512x256, .f32⟩
  | .local _ .vmem, ⟨19, _⟩ => ⟨S512x256, .f32⟩
  | .local _ .vmem, ⟨20, _⟩ => ⟨S512x256, .f32⟩
  | .local _ .vmem, ⟨21, _⟩ => ⟨S512x256, .f32⟩
  | .local _ .vmem, ⟨22, _⟩ => ⟨S512x256, .f32⟩
  | .local _ .vmem, ⟨23, _⟩ => ⟨S512x256, .f32⟩
  | .local _ .vmem, ⟨24, _⟩ => ⟨S512x256, .f32⟩
  | .local _ .vmem, ⟨25, _⟩ => ⟨S512x256, .f32⟩
  | _, _ => ⟨S4096x4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12_0 : Ref sig .tc := ⟨.hbm, 19, rfl⟩
abbrev main_v12_1 : Ref sig .tc := ⟨.hbm, 20, rfl⟩
abbrev main_v12_2 : Ref sig .tc := ⟨.hbm, 21, rfl⟩
abbrev main_v12_3 : Ref sig .tc := ⟨.hbm, 22, rfl⟩
abbrev main_v12_4 : Ref sig .tc := ⟨.hbm, 23, rfl⟩
abbrev main_v12_5 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== MixBRefIdeal.lean ====
abbrev S4096x4x64 : Shape := ⟨3, ![4096, 4, 64]⟩
abbrev S4096x4 : Shape := ⟨2, ![4096, 4]⟩
abbrev S4096x256 : Shape := ⟨2, ![4096, 256]⟩
abbrev S1x4096x4 : Shape := ⟨3, ![1, 4096, 4]⟩
abbrev S3x4096x4 : Shape := ⟨3, ![3, 4096, 4]⟩
abbrev S_ : Shape := ⟨0, ![]⟩
abbrev S3x4096x4x1 : Shape := ⟨4, ![3, 4096, 4, 1]⟩
abbrev S1x4096x4x64 : Shape := ⟨4, ![1, 4096, 4, 64]⟩
abbrev S3x4096x4x64 : Shape := ⟨4, ![3, 4096, 4, 64]⟩
abbrev S4096x4x1 : Shape := ⟨3, ![4096, 4, 1]⟩

abbrev nBuf : Space → Nat
  | .hbm => 107
  | .vmem => 0
  | .smem => 0
  | _ => 0

abbrev bufTy : (tb : Table) → Fin (tcTables nBuf tb) → BufTy
  | .hbm, ⟨0, _⟩ => ⟨S4096x4x64, .f32⟩
  | .hbm, ⟨1, _⟩ => ⟨S4096x4x64, .f32⟩
  | .hbm, ⟨2, _⟩ => ⟨S4096x4x64, .f32⟩
  | .hbm, ⟨3, _⟩ => ⟨S4096x4, .f32⟩
  | .hbm, ⟨4, _⟩ => ⟨S4096x4, .f32⟩
  | .hbm, ⟨5, _⟩ => ⟨S4096x4, .f32⟩
  | .hbm, ⟨6, _⟩ => ⟨S4096x256, .f32⟩
  | .hbm, ⟨7, _⟩ => ⟨S1x4096x4, .f32⟩
  | .hbm, ⟨8, _⟩ => ⟨S1x4096x4, .f32⟩
  | .hbm, ⟨9, _⟩ => ⟨S1x4096x4, .f32⟩
  | .hbm, ⟨10, _⟩ => ⟨S3x4096x4, .f32⟩
  | .hbm, ⟨11, _⟩ => ⟨S_, .f32⟩
  | .hbm, ⟨12, _⟩ => ⟨S4096x4, .f32⟩
  | .hbm, ⟨13, _⟩ => ⟨S1x4096x4, .f32⟩
  | .hbm, ⟨14, _⟩ => ⟨S3x4096x4, .f32⟩
  | .hbm, ⟨15, _⟩ => ⟨S3x4096x4, .i1⟩
  | .hbm, ⟨16, _⟩ => ⟨S3x4096x4, .f32⟩
  | .hbm, ⟨17, _⟩ => ⟨S_, .f32⟩
  | .hbm, ⟨18, _⟩ => ⟨S4096x4, .f32⟩
  | .hbm, ⟨19, _⟩ => ⟨S_, .f32⟩
  | .hbm, ⟨20, _⟩ => ⟨S4096x4, .f32⟩
  | .hbm, ⟨21, _⟩ => ⟨S4096x4, .f32⟩
  | .hbm, ⟨22, _⟩ => ⟨S_, .f32⟩
  | .hbm, ⟨23, _⟩ => ⟨S4096x4, .f32⟩
  | .hbm, ⟨24, _⟩ => ⟨S4096x4, .i1⟩
  | .hbm, ⟨25, _⟩ => ⟨S_, .f32⟩
  | .hbm, ⟨26, _⟩ => ⟨S4096x4, .f32⟩
  | .hbm, ⟨27, _⟩ => ⟨S4096x4, .i1⟩
  | .hbm, ⟨28, _⟩ => ⟨S_, .f32⟩
  | .hbm, ⟨29, _⟩ => ⟨S4096x4, .f32⟩
  | .hbm, ⟨30, _⟩ => ⟨S_, .f32⟩
  | .hbm, ⟨31, _⟩ => ⟨S4096x4, .f32⟩
  | .hbm, ⟨32, _⟩ => ⟨S_, .f32⟩
  | .hbm, ⟨33, _⟩ => ⟨S4096x4, .f32⟩
  | .hbm, ⟨34, _⟩ => ⟨S4096x4, .f32⟩
  | .hbm, ⟨35, _⟩ => ⟨S4096x4, .f32⟩
  | .hbm, ⟨36, _⟩ => ⟨S1x4096x4, .f32⟩
  | .hbm, ⟨37, _⟩ => ⟨S3x4096x4, .f32⟩
  | .hbm, ⟨38, _⟩ => ⟨S3x4096x4, .f32⟩
  | .hbm, ⟨39, _⟩ => ⟨S3x4096x4, .f32⟩
  | .hbm, ⟨40, _⟩ => ⟨S_, .f32⟩
  | .hbm, ⟨41, _⟩ => ⟨S4096x4, .f32⟩
  | .hbm, ⟨42, _⟩ => ⟨S1x4096x4, .f32⟩
  | .hbm, ⟨43, _⟩ => ⟨S3x4096x4, .f32⟩
  | .hbm, ⟨44, _⟩ => ⟨S3x4096x4, .f32⟩
  | .hbm, ⟨45, _⟩ => ⟨S1x4096x4, .f32⟩
  | .hbm, ⟨46, _⟩ => ⟨S_, .f32⟩
  | .hbm, ⟨47, _⟩ => ⟨S1x4096x4, .f32⟩
  | .hbm, ⟨48, _⟩ => ⟨S1x4096x4, .f32⟩
  | .hbm, ⟨49, _⟩ => ⟨S3x4096x4x1, .f32⟩
  | .hbm, ⟨50, _⟩ => ⟨S1x4096x4x64, .f32⟩
  | .hbm, ⟨51, _⟩ => ⟨S1x4096x4x64, .f32⟩
  | .hbm, ⟨52, _⟩ => ⟨S1x4096x4x64, .f32⟩
  | .hbm, ⟨53, _⟩ => ⟨S3x4096x4x64, .f32⟩
  | .hbm, ⟨54, _⟩ => ⟨S3x4096x4x64, .f32⟩
  | .hbm, ⟨55, _⟩ => ⟨S3x4096x4x64, .f32⟩
  | .hbm, ⟨56, _⟩ => ⟨S_, .f32⟩
  | .hbm, ⟨57, _⟩ => ⟨S4096x4x64, .f32⟩
  | .hbm, ⟨58, _⟩ => ⟨S4096x256, .f32⟩
  | .hbm, ⟨59, _⟩ => ⟨S4096x4x64, .f32⟩
  | .hbm, ⟨60, _⟩ => ⟨S3x4096x4x64, .f32⟩
  | .hbm, ⟨61, _⟩ => ⟨S3x4096x4x64, .f32⟩
  | .hbm, ⟨62, _⟩ => ⟨S3x4096x4x64, .f32⟩
  | .hbm, ⟨63, _⟩ => ⟨S3x4096x4x64, .f32⟩
  | .hbm, ⟨64, _⟩ => ⟨S_, .f32⟩
  | .hbm, ⟨65, _⟩ => ⟨S3x4096x4, .f32⟩
  | .hbm, ⟨66, _⟩ => ⟨S3x4096x4x1, .f32⟩
  | .hbm, ⟨67, _⟩ => ⟨S1x4096x4x64, .f32⟩
  | .hbm, ⟨68, _⟩ => ⟨S4096x4x64, .f32⟩
  | .hbm, ⟨69, _⟩ => ⟨S1x4096x4x64, .f32⟩
  | .hbm, ⟨70, _⟩ => ⟨S4096x4x64, .f32⟩
  | .hbm, ⟨71, _⟩ => ⟨S1x4096x4x64, .f32⟩
  | .hbm, ⟨72, _⟩ => ⟨S4096x4x64, .f32⟩
  | .hbm, ⟨73, _⟩ => ⟨S_, .f32⟩
  | .hbm, ⟨74, _⟩ => ⟨S3x4096x4, .f32⟩
  | .hbm, ⟨75, _⟩ => ⟨S3x4096x4, .f32⟩
  | .hbm, ⟨76, _⟩ => ⟨S3x4096x4, .f32⟩
  | .hbm, ⟨77, _⟩ => ⟨S3x4096x4, .f32⟩
  | .hbm, ⟨78, _⟩ => ⟨S_, .f32⟩
  | .hbm, ⟨79, _⟩ => ⟨S4096x4, .f32⟩
  | .hbm, ⟨80, _⟩ => ⟨S1x4096x4, .f32⟩
  | .hbm, ⟨81, _⟩ => ⟨S1x4096x4, .f32⟩
  | .hbm, ⟨82, _⟩ => ⟨S3x4096x4, .f32⟩
  | .hbm, ⟨83, _⟩ => ⟨S3x4096x4, .f32⟩
  | .hbm, ⟨84, _⟩ => ⟨S_, .f32⟩
  | .hbm, ⟨85, _⟩ => ⟨S4096x4, .f32⟩
  | .hbm, ⟨86, _⟩ => ⟨S3x4096x4, .f32⟩
  | .hbm, ⟨87, _⟩ => ⟨S3x4096x4, .f32⟩
  | .hbm, ⟨88, _⟩ => ⟨S3x4096x4, .f32⟩
  | .hbm, ⟨89, _⟩ => ⟨S1x4096x4, .f32⟩
  | .hbm, ⟨90, _⟩ => ⟨S4096x4, .f32⟩
  | .hbm, ⟨91, _⟩ => ⟨S1x4096x4, .f32⟩
  | .hbm, ⟨92, _⟩ => ⟨S4096x4, .f32⟩
  | .hbm, ⟨93, _⟩ => ⟨S1x4096x4, .f32⟩
  | .hbm, ⟨94, _⟩ => ⟨S4096x4, .f32⟩
  | .hbm, ⟨95, _⟩ => ⟨S4096x256, .f32⟩
  | .hbm, ⟨96, _⟩ => ⟨S4096x256, .f32⟩
  | .hbm, ⟨97, _⟩ => ⟨S4096x256, .f32⟩
  | .hbm, ⟨98, _⟩ => ⟨S4096x4x1, .f32⟩
  | .hbm, ⟨99, _⟩ => ⟨S4096x4x64, .f32⟩
  | .hbm, ⟨100, _⟩ => ⟨S4096x256, .f32⟩
  | .hbm, ⟨101, _⟩ => ⟨S4096x4x1, .f32⟩
  | .hbm, ⟨102, _⟩ => ⟨S4096x4x64, .f32⟩
  | .hbm, ⟨103, _⟩ => ⟨S4096x256, .f32⟩
  | .hbm, ⟨104, _⟩ => ⟨S4096x4x1, .f32⟩
  | .hbm, ⟨105, _⟩ => ⟨S4096x4x64, .f32⟩
  | .hbm, ⟨106, _⟩ => ⟨S4096x256, .f32⟩
  | _, _ => ⟨S4096x4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_cst_4 : Ref sig .tc := ⟨.hbm, 28, rfl⟩
abbrev main_v16 : Ref sig .tc := ⟨.hbm, 29, rfl⟩
abbrev main_cst_5 : Ref sig .tc := ⟨.hbm, 30, rfl⟩
abbrev main_v17 : Ref sig .tc := ⟨.hbm, 31, rfl⟩
abbrev main_cst_6 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_7 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_8 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_9 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_10 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_11 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_12 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_cst_13 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩

abbrev nD : Nat := 1
abbrev τ : Topo := Topo.v7x

variable {F : FTy → Type} [FloatOps F]
-- ==== Loss.lean ====
abbrev S4096x1024 : Shape := ⟨2, ![4096, 1024]⟩
abbrev S8x128 : Shape := ⟨2, ![8, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S8x128, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S8x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v15 : BitVec 1 := Scalar.cmpi .eq arg0 c0_i32
  let v16 : BitVec 32 := Scalar.extui v15
  let c0_i32_9 : BitVec 32 := 0#32
  let v17 : BitVec 1 := Scalar.cmpi .ne v16 c0_i32_9
  v17

def k0_cond2 (i : grid0.Coords) : BitVec 1 :=
  let arg0 : BitVec 32 := BitVec.ofNat 32 (i 0).val
  let c0_i32_10 : BitVec 32 := 0#32
  let v18 : BitVec 1 := Scalar.cmpi .sgt arg0 c0_i32_10
  let v19 : BitVec 32 := Scalar.extui v18
  let c0_i32_11 : BitVec 32 := 0#32
  let v20 : BitVec 1 := Scalar.cmpi .ne v19 c0_i32_11
  v20

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== LossRefIdeal.lean ====
abbrev S4096x1024 : Shape := ⟨2, ![4096, 1024]⟩
abbrev S_ : Shape := ⟨0, ![]⟩
abbrev S4096 : Shape := ⟨1, ![4096]⟩
abbrev S8x128 : Shape := ⟨2, ![8, 128]⟩

abbrev nBuf : Space → Nat
  | .hbm => 26
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S_, .f32⟩
  | .hbm, ⟨10, _⟩ => ⟨S4096, .f32⟩
  | .hbm, ⟨11, _⟩ => ⟨S4096, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S4096, .f32⟩
  | .hbm, ⟨20, _⟩ => ⟨S_, .f32⟩
  | .hbm, ⟨21, _⟩ => ⟨S4096, .f32⟩
  | .hbm, ⟨22, _⟩ => ⟨S4096, .f32⟩
  | .hbm, ⟨23, _⟩ => ⟨S4096x1024, .f32⟩
  | .hbm, ⟨24, _⟩ => ⟨S4096x1024, .f32⟩
  | .hbm, ⟨25, _⟩ => ⟨S8x128, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== PleF.lean ====
abbrev S4096x1024 : Shape := ⟨2, ![4096, 1024]⟩
abbrev S512x1024 : Shape := ⟨2, ![512, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== PleFRefIdeal.lean ====
abbrev S4096x1024 : Shape := ⟨2, ![4096, 1024]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== RmsF.lean ====
abbrev S4096x1024 : Shape := ⟨2, ![4096, 1024]⟩
abbrev S1024 : Shape := ⟨1, ![1024]⟩
abbrev S1x1024 : Shape := ⟨2, ![1, 1024]⟩
abbrev S1024x4096 : Shape := ⟨2, ![1024, 4096]⟩
abbrev S512x1024 : Shape := ⟨2, ![512, 1024]⟩
abbrev S1024x512 : Shape := ⟨2, ![1024, 512]⟩
abbrev S512 : Shape := ⟨1, ![512]⟩
abbrev S512x1 : Shape := ⟨2, ![512, 1]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1x1024, .f32⟩
  | .hbm, ⟨3, _⟩ => ⟨S4096x1024, .bf16⟩
  | .hbm, ⟨4, _⟩ => ⟨S1024x4096, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | .local _ .vmem, ⟨5, _⟩ => ⟨S1024x512, .bf16⟩
  | .local _ .vmem, ⟨6, _⟩ => ⟨S1024x512, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== RmsFRefIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1024x4096 : Shape := ⟨2, ![1024, 4096]⟩

abbrev nBuf : Space → Nat
  | .hbm => 21
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S1x1024, .f32⟩
  | .hbm, ⟨16, _⟩ => ⟨S4096x1024, .f32⟩
  | .hbm, ⟨17, _⟩ => ⟨S4096x1024, .f32⟩
  | .hbm, ⟨18, _⟩ => ⟨S4096x1024, .bf16⟩
  | .hbm, ⟨19, _⟩ => ⟨S1024x4096, .f32⟩
  | .hbm, ⟨20, _⟩ => ⟨S1024x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== GnormF.lean ====
abbrev S4096x256 : Shape := ⟨2, ![4096, 256]⟩
abbrev S4x256 : Shape := ⟨2, ![4, 256]⟩
abbrev S1x1024 : Shape := ⟨2, ![1, 1024]⟩
abbrev S4096x1024 : Shape := ⟨2, ![4096, 1024]⟩
abbrev S512x256 : Shape := ⟨2, ![512, 256]⟩
abbrev S512x1024 : Shape := ⟨2, ![512, 1024]⟩
abbrev S512 : Shape := ⟨1, ![512]⟩
abbrev S512x1 : Shape := ⟨2, ![512, 1]⟩
abbrev S1x256 : Shape := ⟨2, ![1, 256]⟩

abbrev nBuf : Space → Nat
  | .hbm => 7
  | .vmem => 11
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S4096x256, .f32⟩
  | .hbm, ⟨3, _⟩ => ⟨S4096x256, .f32⟩
  | .hbm, ⟨4, _⟩ => ⟨S4x256, .f32⟩
  | .hbm, ⟨5, _⟩ => ⟨S1x1024, .f32⟩
  | .hbm, ⟨6, _⟩ => ⟨S4096x1024, .bf16⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S1x1024, .f32⟩
  | .local _ .vmem, ⟨9, _⟩ => ⟨S512x1024, .bf16⟩
  | .local _ .vmem, ⟨10, _⟩ => ⟨S512x1024, .bf16⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== GnormFRefIdeal.lean ====
abbrev S4096x256 : Shape := ⟨2, ![4096, 256]⟩
abbrev S4x256 : Shape := ⟨2, ![4, 256]⟩
abbrev S1x256 : Shape := ⟨2, ![1, 256]⟩
abbrev S256 : Shape := ⟨1, ![256]⟩
abbrev S_ : Shape := ⟨0, ![]⟩
abbrev S4096 : Shape := ⟨1, ![4096]⟩
abbrev S4096x1 : Shape := ⟨2, ![4096, 1]⟩
abbrev S4096x1024 : Shape := ⟨2, ![4096, 1024]⟩

abbrev nBuf : Space → Nat
  | .hbm => 79
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S4096x256, .f32⟩
  | .hbm, ⟨3, _⟩ => ⟨S4096x256, .f32⟩
  | .hbm, ⟨4, _⟩ => ⟨S4x256, .f32⟩
  | .hbm, ⟨5, _⟩ => ⟨S1x256, .f32⟩
  | .hbm, ⟨6, _⟩ => ⟨S256, .f32⟩
  | .hbm, ⟨7, _⟩ => ⟨S4096x256, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x256, .f32⟩
  | .hbm, ⟨19, _⟩ => ⟨S4096x256, .f32⟩
  | .hbm, ⟨20, _⟩ => ⟨S1x256, .f32⟩
  | .hbm, ⟨21, _⟩ => ⟨S4096x256, .f32⟩
  | .hbm, ⟨22, _⟩ => ⟨S4096x256, .f32⟩
  | .hbm, ⟨23, _⟩ => ⟨S1x256, .f32⟩
  | .hbm, ⟨24, _⟩ => ⟨S256, .f32⟩
  | .hbm, ⟨25, _⟩ => ⟨S4096x256, .f32⟩
  | .hbm, ⟨26, _⟩ => ⟨S_, .f32⟩
  | .hbm, ⟨27, _⟩ => ⟨S4096, .f32⟩
  | .hbm, ⟨28, _⟩ => ⟨S4096x1, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S4096x1, .f32⟩
  | .hbm, ⟨36, _⟩ => ⟨S4096x256, .f32⟩
  | .hbm, ⟨37, _⟩ => ⟨S4096x256, .f32⟩
  | .hbm, ⟨38, _⟩ => ⟨S1x256, .f32⟩
  | .hbm, ⟨39, _⟩ => ⟨S4096x256, .f32⟩
  | .hbm, ⟨40, _⟩ => ⟨S4096x256, .f32⟩
  | .hbm, ⟨41, _⟩ => ⟨S1x256, .f32⟩
  | .hbm, ⟨42, _⟩ => ⟨S256, .f32⟩
  | .hbm, ⟨43, _⟩ => ⟨S4096x256, .f32⟩
  | .hbm, ⟨44, _⟩ => ⟨S_, .f32⟩
  | .hbm, ⟨45, _⟩ => ⟨S4096, .f32⟩
  | .hbm, ⟨46, _⟩ => ⟨S4096x1, .f32⟩
  | .hbm, ⟨47, _⟩ => ⟨S_, .f32⟩
  | .hbm, ⟨48, _⟩ => ⟨S4096x1, .f32⟩
  | .hbm, ⟨49, _⟩ => ⟨S4096x1, .f32⟩
  | .hbm, ⟨50, _⟩ => ⟨S_, .f32⟩
  | .hbm, ⟨51, _⟩ => ⟨S4096x1, .f32⟩
  | .hbm, ⟨52, _⟩ => ⟨S4096x1, .f32⟩
  | .hbm, ⟨53, _⟩ => ⟨S4096x1, .f32⟩
  | .hbm, ⟨54, _⟩ => ⟨S4096x256, .f32⟩
  | .hbm, ⟨55, _⟩ => ⟨S4096x256, .f32⟩
  | .hbm, ⟨56, _⟩ => ⟨S1x256, .f32⟩
  | .hbm, ⟨57, _⟩ => ⟨S4096x256, .f32⟩
  | .hbm, ⟨58, _⟩ => ⟨S4096x256, .f32⟩
  | .hbm, ⟨59, _⟩ => ⟨S1x256, .f32⟩
  | .hbm, ⟨60, _⟩ => ⟨S256, .f32⟩
  | .hbm, ⟨61, _⟩ => ⟨S4096x256, .f32⟩
  | .hbm, ⟨62, _⟩ => ⟨S_, .f32⟩
  | .hbm, ⟨63, _⟩ => ⟨S4096, .f32⟩
  | .hbm, ⟨64, _⟩ => ⟨S4096x1, .f32⟩
  | .hbm, ⟨65, _⟩ => ⟨S_, .f32⟩
  | .hbm, ⟨66, _⟩ => ⟨S4096x1, .f32⟩
  | .hbm, ⟨67, _⟩ => ⟨S4096x1, .f32⟩
  | .hbm, ⟨68, _⟩ => ⟨S_, .f32⟩
  | .hbm, ⟨69, _⟩ => ⟨S4096x1, .f32⟩
  | .hbm, ⟨70, _⟩ => ⟨S4096x1, .f32⟩
  | .hbm, ⟨71, _⟩ => ⟨S4096x1, .f32⟩
  | .hbm, ⟨72, _⟩ => ⟨S4096x256, .f32⟩
  | .hbm, ⟨73, _⟩ => ⟨S4096x256, .f32⟩
  | .hbm, ⟨74, _⟩ => ⟨S1x256, .f32⟩
  | .hbm, ⟨75, _⟩ => ⟨S4096x256, .f32⟩
  | .hbm, ⟨76, _⟩ => ⟨S4096x256, .f32⟩
  | .hbm, ⟨77, _⟩ => ⟨S4096x1024, .f32⟩
  | .hbm, ⟨78, _⟩ => ⟨S4096x1024, .bf16⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_5 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst_8 : Ref sig .tc := ⟨.hbm, 62, rfl⟩
abbrev main_v48 : Ref sig .tc := ⟨.hbm, 63, rfl⟩
abbrev main_v49 : Ref sig .tc := ⟨.hbm, 64, rfl⟩
abbrev main_cst_9 : Ref sig .tc := ⟨.hbm, 65, rfl⟩
abbrev main_v50 : Ref sig .tc := ⟨.hbm, 66, rfl⟩
abbrev main_v51 : Ref sig .tc := ⟨.hbm, 67, rfl⟩
abbrev main_cst_10 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩

abbrev nD : Nat := 1
abbrev τ : Topo := Topo.v7x

variable {F : FTy → Type} [FloatOps F]
-- ==== MixF.lean ====
abbrev S4096x4x64 : Shape := ⟨3, ![4096, 4, 64]⟩
abbrev S4096x4 : Shape := ⟨2, ![4096, 4]⟩
abbrev S4096x256 : Shape := ⟨2, ![4096, 256]⟩
abbrev S4096x4x1 : Shape := ⟨3, ![4096, 4, 1]⟩
abbrev S512x256 : Shape := ⟨2, ![512, 256]⟩

abbrev nBuf : Space → Nat
  | .hbm => 19
  | .vmem => 14
  | .smem => 0
  | _ => 0

abbrev bufTy : (tb : Table) → Fin (tcTables nBuf tb) → BufTy
  | .hbm, ⟨0, _⟩ => ⟨S4096x4x64, .f32⟩
  | .hbm, ⟨1, _⟩ => ⟨S4096x4x64, .f32⟩
  | .hbm, ⟨2, _⟩ => ⟨S4096x4x64, .f32⟩
  | .hbm, ⟨3, _⟩ => ⟨S4096x4, .f32⟩
  | .hbm, ⟨4, _⟩ => ⟨S4096x4, .f32⟩
  | .hbm, ⟨5, _⟩ => ⟨S4096x4, .f32⟩
  | .hbm, ⟨6, _⟩ => ⟨S4096x256, .f32⟩
  | .hbm, ⟨7, _⟩ => ⟨S4096x256, .f32⟩
  | .hbm, ⟨8, _⟩ => ⟨S4096x256, .f32⟩
  | .hbm, ⟨9, _⟩ => ⟨S4096x4x1, .f32⟩
  | .hbm, ⟨10, _⟩ => ⟨S4096x4x64, .f32⟩
  | .hbm, ⟨11, _⟩ => ⟨S4096x256, .f32⟩
  | .hbm, ⟨12, _⟩ => ⟨S4096x4x1, .f32⟩
  | .hbm, ⟨13, _⟩ => ⟨S4096x4x64, .f32⟩
  | .hbm, ⟨14, _⟩ => ⟨S4096x256, .f32⟩
  | .hbm, ⟨15, _⟩ => ⟨S4096x4x1, .f32⟩
  | .hbm, ⟨16, _⟩ => ⟨S4096x4x64, .f32⟩
  | .hbm, ⟨17, _⟩ => ⟨S4096x256, .f32⟩
  | .hbm, ⟨18, _⟩ => ⟨S4096x256, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | _, _ => ⟨S4096x4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== MixFRefIdeal.lean ====
abbrev S4096x4x64 : Shape := ⟨3, ![4096, 4, 64]⟩
abbrev S4096x4 : Shape := ⟨2, ![4096, 4]⟩
abbrev S1x4096x4 : Shape := ⟨3, ![1, 4096, 4]⟩
abbrev S3x4096x4 : Shape := ⟨3, ![3, 4096, 4]⟩
abbrev S_ : Shape := ⟨0, ![]⟩
abbrev S3x4096x4x1 : Shape := ⟨4, ![3, 4096, 4, 1]⟩
abbrev S1x4096x4x64 : Shape := ⟨4, ![1, 4096, 4, 64]⟩
abbrev S3x4096x4x64 : Shape := ⟨4, ![3, 4096, 4, 64]⟩
abbrev S4096x256 : Shape := ⟨2, ![4096, 256]⟩

abbrev nBuf : Space → Nat
  | .hbm => 34
  | .vmem => 0
  | .smem => 0
  | _ => 0

abbrev bufTy : (tb : Table) → Fin (tcTables nBuf tb) → BufTy
  | .hbm, ⟨0, _⟩ => ⟨S4096x4x64, .f32⟩
  | .hbm, ⟨1, _⟩ => ⟨S4096x4x64, .f32⟩
  | .hbm, ⟨2, _⟩ => ⟨S4096x4x64, .f32⟩
  | .hbm, ⟨3, _⟩ => ⟨S4096x4, .f32⟩
  | .hbm, ⟨4, _⟩ => ⟨S4096x4, .f32⟩
  | .hbm, ⟨5, _⟩ => ⟨S4096x4, .f32⟩
  | .hbm, ⟨6, _⟩ => ⟨S1x4096x4, .f32⟩
  | .hbm, ⟨7, _⟩ => ⟨S1x4096x4, .f32⟩
  | .hbm, ⟨8, _⟩ => ⟨S1x4096x4, .f32⟩
  | .hbm, ⟨9, _⟩ => ⟨S3x4096x4, .f32⟩
  | .hbm, ⟨10, _⟩ => ⟨S_, .f32⟩
  | .hbm, ⟨11, _⟩ => ⟨S4096x4, .f32⟩
  | .hbm, ⟨12, _⟩ => ⟨S_, .f32⟩
  | .hbm, ⟨13, _⟩ => ⟨S4096x4, .f32⟩
  | .hbm, ⟨14, _⟩ => ⟨S4096x4, .f32⟩
  | .hbm, ⟨15, _⟩ => ⟨S1x4096x4, .f32⟩
  | .hbm, ⟨16, _⟩ => ⟨S3x4096x4, .f32⟩
  | .hbm, ⟨17, _⟩ => ⟨S3x4096x4, .f32⟩
  | .hbm, ⟨18, _⟩ => ⟨S3x4096x4, .f32⟩
  | .hbm, ⟨19, _⟩ => ⟨S_, .f32⟩
  | .hbm, ⟨20, _⟩ => ⟨S4096x4, .f32⟩
  | .hbm, ⟨21, _⟩ => ⟨S1x4096x4, .f32⟩
  | .hbm, ⟨22, _⟩ => ⟨S3x4096x4, .f32⟩
  | .hbm, ⟨23, _⟩ => ⟨S3x4096x4, .f32⟩
  | .hbm, ⟨24, _⟩ => ⟨S3x4096x4x1, .f32⟩
  | .hbm, ⟨25, _⟩ => ⟨S1x4096x4x64, .f32⟩
  | .hbm, ⟨26, _⟩ => ⟨S1x4096x4x64, .f32⟩
  | .hbm, ⟨27, _⟩ => ⟨S1x4096x4x64, .f32⟩
  | .hbm, ⟨28, _⟩ => ⟨S3x4096x4x64, .f32⟩
  | .hbm, ⟨29, _⟩ => ⟨S3x4096x4x64, .f32⟩
  | .hbm, ⟨30, _⟩ => ⟨S3x4096x4x64, .f32⟩
  | .hbm, ⟨31, _⟩ => ⟨S_, .f32⟩
  | .hbm, ⟨32, _⟩ => ⟨S4096x4x64, .f32⟩
  | .hbm, ⟨33, _⟩ => ⟨S4096x256, .f32⟩
  | _, _ => ⟨S4096x4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩

abbrev nD : Nat := 1
abbrev τ : Topo := Topo.v7x

variable {F : FTy → Type} [FloatOps F]
-- ==== GateF.lean ====
abbrev S4096x2304 : Shape := ⟨2, ![4096, 2304]⟩
abbrev S256 : Shape := ⟨1, ![256]⟩
abbrev S4x128x128 : Shape := ⟨3, ![4, 128, 128]⟩
abbrev S4x128 : Shape := ⟨2, ![4, 128]⟩
abbrev S128x4 : Shape := ⟨2, ![128, 4]⟩
abbrev S128x4x64 : Shape := ⟨3, ![128, 4, 64]⟩
abbrev S128x256 : Shape := ⟨2, ![128, 256]⟩
abbrev S1x256 : Shape := ⟨2, ![1, 256]⟩
abbrev S4096x256 : Shape := ⟨2, ![4096, 256]⟩
abbrev S512x256 : Shape := ⟨2, ![512, 256]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩

abbrev nBuf : Space → Nat
  | .hbm => 11
  | .vmem => 10
  | .smem => 0
  | _ => 0

abbrev bufTy : (tb : Table) → Fin (tcTables nBuf tb) → BufTy
  | .hbm, ⟨0, _⟩ => ⟨S4096x2304, .f32⟩
  | .hbm, ⟨1, _⟩ => ⟨S256, .f32⟩
  | .hbm, ⟨2, _⟩ => ⟨S256, .f32⟩
  | .hbm, ⟨3, _⟩ => ⟨S4x128x128, .f32⟩
  | .hbm, ⟨4, _⟩ => ⟨S4x128, .f32⟩
  | .hbm, ⟨5, _⟩ => ⟨S128x4, .f32⟩
  | .hbm, ⟨6, _⟩ => ⟨S128x4x64, .f32⟩
  | .hbm, ⟨7, _⟩ => ⟨S128x256, .f32⟩
  | .hbm, ⟨8, _⟩ => ⟨S1x256, .f32⟩
  | .hbm, ⟨9, _⟩ => ⟨S1x256, .f32⟩
  | .hbm, ⟨10, _⟩ => ⟨S4096x256, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S1x256, .f32⟩
  | .local _ .vmem, ⟨5, _⟩ => ⟨S1x256, .f32⟩
  | .local _ .vmem, ⟨6, _⟩ => ⟨S4x128x128, .f32⟩
  | .local _ .vmem, ⟨7, _⟩ => ⟨S128x256, .f32⟩
  | .local _ .vmem, ⟨8, _⟩ => ⟨S512x256, .f32⟩
  | .local _ .vmem, ⟨9, _⟩ => ⟨S512x256, .f32⟩
  | _, _ => ⟨S4096x2304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_1 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== GateFRefIdeal.lean ====
abbrev S4096x2304 : Shape := ⟨2, ![4096, 2304]⟩
abbrev S256 : Shape := ⟨1, ![256]⟩
abbrev S4x128x128 : Shape := ⟨3, ![4, 128, 128]⟩
abbrev S4x128 : Shape := ⟨2, ![4, 128]⟩
abbrev S4096x256 : Shape := ⟨2, ![4096, 256]⟩
abbrev S_ : Shape := ⟨0, ![]⟩
abbrev S4096 : Shape := ⟨1, ![4096]⟩
abbrev S4096x1 : Shape := ⟨2, ![4096, 1]⟩
abbrev S1x256 : Shape := ⟨2, ![1, 256]⟩
abbrev S32x128x4x64 : Shape := ⟨4, ![32, 128, 4, 64]⟩
abbrev S4x32x64x128 : Shape := ⟨4, ![4, 32, 64, 128]⟩
abbrev S128x4 : Shape := ⟨2, ![128, 4]⟩
abbrev S128x4x1 : Shape := ⟨3, ![128, 4, 1]⟩
abbrev S1x128x4x1 : Shape := ⟨4, ![1, 128, 4, 1]⟩

abbrev nBuf : Space → Nat
  | .hbm => 80
  | .vmem => 0
  | .smem => 0
  | _ => 0

abbrev bufTy : (tb : Table) → Fin (tcTables nBuf tb) → BufTy
  | .hbm, ⟨0, _⟩ => ⟨S4096x2304, .f32⟩
  | .hbm, ⟨1, _⟩ => ⟨S256, .f32⟩
  | .hbm, ⟨2, _⟩ => ⟨S256, .f32⟩
  | .hbm, ⟨3, _⟩ => ⟨S4x128x128, .f32⟩
  | .hbm, ⟨4, _⟩ => ⟨S4x128, .f32⟩
  | .hbm, ⟨5, _⟩ => ⟨S4096x256, .f32⟩
  | .hbm, ⟨6, _⟩ => ⟨S4096x256, .f32⟩
  | .hbm, ⟨7, _⟩ => ⟨S4096x256, .f32⟩
  | .hbm, ⟨8, _⟩ => ⟨S4096x256, .f32⟩
  | .hbm, ⟨9, _⟩ => ⟨S_, .f32⟩
  | .hbm, ⟨10, _⟩ => ⟨S4096x256, .f32⟩
  | .hbm, ⟨11, _⟩ => ⟨S4096x256, .f32⟩
  | .hbm, ⟨12, _⟩ => ⟨S4096x256, .f32⟩
  | .hbm, ⟨13, _⟩ => ⟨S_, .f32⟩
  | .hbm, ⟨14, _⟩ => ⟨S4096x256, .f32⟩
  | .hbm, ⟨15, _⟩ => ⟨S4096x256, .f32⟩
  | .hbm, ⟨16, _⟩ => ⟨S4096x256, .f32⟩
  | .hbm, ⟨17, _⟩ => ⟨S_, .f32⟩
  | .hbm, ⟨18, _⟩ => ⟨S4096x256, .f32⟩
  | .hbm, ⟨19, _⟩ => ⟨S4096x256, .f32⟩
  | .hbm, ⟨20, _⟩ => ⟨S_, .f32⟩
  | .hbm, ⟨21, _⟩ => ⟨S4096x256, .f32⟩
  | .hbm, ⟨22, _⟩ => ⟨S4096x256, .f32⟩
  | .hbm, ⟨23, _⟩ => ⟨S4096x256, .f32⟩
  | .hbm, ⟨24, _⟩ => ⟨S4096x256, .f32⟩
  | .hbm, ⟨25, _⟩ => ⟨S4096x256, .f32⟩
  | .hbm, ⟨26, _⟩ => ⟨S_, .f32⟩
  | .hbm, ⟨27, _⟩ => ⟨S4096x256, .f32⟩
  | .hbm, ⟨28, _⟩ => ⟨S4096x256, .f32⟩
  | .hbm, ⟨29, _⟩ => ⟨S4096x256, .f32⟩
  | .hbm, ⟨30, _⟩ => ⟨S_, .f32⟩
  | .hbm, ⟨31, _⟩ => ⟨S4096x256, .f32⟩
  | .hbm, ⟨32, _⟩ => ⟨S4096x256, .f32⟩
  | .hbm, ⟨33, _⟩ => ⟨S4096x256, .f32⟩
  | .hbm, ⟨34, _⟩ => ⟨S_, .f32⟩
  | .hbm, ⟨35, _⟩ => ⟨S4096x256, .f32⟩
  | .hbm, ⟨36, _⟩ => ⟨S4096x256, .f32⟩
  | .hbm, ⟨37, _⟩ => ⟨S_, .f32⟩
  | .hbm, ⟨38, _⟩ => ⟨S4096x256, .f32⟩
  | .hbm, ⟨39, _⟩ => ⟨S4096x256, .f32⟩
  | .hbm, ⟨40, _⟩ => ⟨S4096x256, .f32⟩
  | .hbm, ⟨41, _⟩ => ⟨S_, .f32⟩
  | .hbm, ⟨42, _⟩ => ⟨S4096, .f32⟩
  | .hbm, ⟨43, _⟩ => ⟨S4096x1, .f32⟩
  | .hbm, ⟨44, _⟩ => ⟨S_, .f32⟩
  | .hbm, ⟨45, _⟩ => ⟨S4096x1, .f32⟩
  | .hbm, ⟨46, _⟩ => ⟨S4096x1, .f32⟩
  | .hbm, ⟨47, _⟩ => ⟨S4096x256, .f32⟩
  | .hbm, ⟨48, _⟩ => ⟨S4096x256, .f32⟩
  | .hbm, ⟨49, _⟩ => ⟨S4096x256, .f32⟩
  | .hbm, ⟨50, _⟩ => ⟨S_, .f32⟩
  | .hbm, ⟨51, _⟩ => ⟨S4096, .f32⟩
  | .hbm, ⟨52, _⟩ => ⟨S4096x1, .f32⟩
  | .hbm, ⟨53, _⟩ => ⟨S_, .f32⟩
  | .hbm, ⟨54, _⟩ => ⟨S4096x1, .f32⟩
  | .hbm, ⟨55, _⟩ => ⟨S4096x1, .f32⟩
  | .hbm, ⟨56, _⟩ => ⟨S4096x256, .f32⟩
  | .hbm, ⟨57, _⟩ => ⟨S4096x256, .f32⟩
  | .hbm, ⟨58, _⟩ => ⟨S_, .f32⟩
  | .hbm, ⟨59, _⟩ => ⟨S4096x1, .f32⟩
  | .hbm, ⟨60, _⟩ => ⟨S4096x1, .f32⟩
  | .hbm, ⟨61, _⟩ => ⟨S4096x1, .f32⟩
  | .hbm, ⟨62, _⟩ => ⟨S4096x256, .f32⟩
  | .hbm, ⟨63, _⟩ => ⟨S4096x256, .f32⟩
  | .hbm, ⟨64, _⟩ => ⟨S1x256, .f32⟩
  | .hbm, ⟨65, _⟩ => ⟨S4096x256, .f32⟩
  | .hbm, ⟨66, _⟩ => ⟨S4096x256, .f32⟩
  | .hbm, ⟨67, _⟩ => ⟨S1x256, .f32⟩
  | .hbm, ⟨68, _⟩ => ⟨S4096x256, .f32⟩
  | .hbm, ⟨69, _⟩ => ⟨S4096x256, .f32⟩
  | .hbm, ⟨70, _⟩ => ⟨S32x128x4x64, .f32⟩
  | .hbm, ⟨71, _⟩ => ⟨S4x32x64x128, .f32⟩
  | .hbm, ⟨72, _⟩ => ⟨S32x128x4x64, .f32⟩
  | .hbm, ⟨73, _⟩ => ⟨S128x4, .f32⟩
  | .hbm, ⟨74, _⟩ => ⟨S128x4x1, .f32⟩
  | .hbm, ⟨75, _⟩ => ⟨S1x128x4x1, .f32⟩
  | .hbm, ⟨76, _⟩ => ⟨S32x128x4x64, .f32⟩
  | .hbm, ⟨77, _⟩ => ⟨S32x128x4x64, .f32⟩
  | .hbm, ⟨78, _⟩ => ⟨S4096x256, .f32⟩
  | .hbm, ⟨79, _⟩ => ⟨S4096x256, .f32⟩
  | _, _ => ⟨S4096x2304, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_7 : Ref sig .tc := ⟨.hbm, 41, rfl⟩
abbrev main_v28 : Ref sig .tc := ⟨.hbm, 42, rfl⟩
abbrev main_v29 : Ref sig .tc := ⟨.hbm, 43, rfl⟩
abbrev main_cst_8 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_9 : Ref sig .tc := ⟨.hbm, 50, rfl⟩
abbrev main_v35 : Ref sig .tc := ⟨.hbm, 51, rfl⟩
abbrev main_v36 : Ref sig .tc := ⟨.hbm, 52, rfl⟩
abbrev main_cst_10 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_11 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩

abbrev nD : Nat := 1
abbrev τ : Topo := Topo.v7x

variable {F : FTy → Type} [FloatOps F]
-- ==== ConvF.lean ====
abbrev S2x2048x5632 : Shape := ⟨3, ![2, 2048, 5632]⟩
abbrev S3x5632 : Shape := ⟨2, ![3, 5632]⟩
abbrev S5632 : Shape := ⟨1, ![5632]⟩
abbrev S1x5632 : Shape := ⟨2, ![1, 5632]⟩
abbrev S2x2048x2816 : Shape := ⟨3, ![2, 2048, 2816]⟩
abbrev S1x2048x256 : Shape := ⟨3, ![1, 2048, 256]⟩
abbrev S3x256 : Shape := ⟨2, ![3, 256]⟩
abbrev S1x256 : Shape := ⟨2, ![1, 256]⟩
abbrev S2048x1 : Shape := ⟨2, ![2048, 1]⟩
abbrev S2048x256 : Shape := ⟨2, ![2048, 256]⟩

abbrev nBuf : Space → Nat
  | .hbm => 5
  | .vmem => 14
  | .smem => 0
  | _ => 0

abbrev bufTy : (tb : Table) → Fin (tcTables nBuf tb) → BufTy
  | .hbm, ⟨0, _⟩ => ⟨S2x2048x5632, .f32⟩
  | .hbm, ⟨1, _⟩ => ⟨S3x5632, .f32⟩
  | .hbm, ⟨2, _⟩ => ⟨S5632, .f32⟩
  | .hbm, ⟨3, _⟩ => ⟨S1x5632, .f32⟩
  | .hbm, ⟨4, _⟩ => ⟨S2x2048x2816, .bf16⟩
  | .local _ .vmem, ⟨0, _⟩ => ⟨S1x2048x256, .f32⟩
  | .local _ .vmem, ⟨1, _⟩ => ⟨S1x2048x256, .f32⟩
  | .local _ .vmem, ⟨2, _⟩ => ⟨S1x2048x256, .f32⟩
  | .local _ .vmem, ⟨3, _⟩ => ⟨S1x2048x256, .f32⟩
  | .local _ .vmem, ⟨4, _⟩ => ⟨S3x256, .f32⟩
  | .local _ .vmem, ⟨5, _⟩ => ⟨S3x256, .f32⟩
  | .local _ .vmem, ⟨6, _⟩ => ⟨S3x256, .f32⟩
  | .local _ .vmem, ⟨7, _⟩ => ⟨S3x256, .f32⟩
  | .local _ .vmem, ⟨8, _⟩ => ⟨S1x256, .f32⟩
  | .local _ .vmem, ⟨9, _⟩ => ⟨S1x256, .f32⟩
  | .local _ .vmem, ⟨10, _⟩ => ⟨S1x256, .f32⟩
  | .local _ .vmem, ⟨11, _⟩ => ⟨S1x256, .f32⟩
  | .local _ .vmem, ⟨12, _⟩ => ⟨S1x2048x256, .bf16⟩
  | .local _ .vmem, ⟨13, _⟩ => ⟨S1x2048x256, .bf16⟩
  | _, _ => ⟨S2x2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 11], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, c0_i32_0.toNat, v0.toNat]

def cc0_transform_1 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![arg0.toNat, c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, c0_i32_0.toNat, v0.toNat]

abbrev stage0_0 : Fin 2 → Memref sig .tc .vmem S1x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S3x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ConvFRefIdeal.lean ====
abbrev S2x2048x5632 : Shape := ⟨3, ![2, 2048, 5632]⟩
abbrev S3x5632 : Shape := ⟨2, ![3, 5632]⟩
abbrev S5632 : Shape := ⟨1, ![5632]⟩
abbrev S_ : Shape := ⟨0, ![]⟩
abbrev S2x2050x5632 : Shape := ⟨3, ![2, 2050, 5632]⟩
abbrev S1x5632 : Shape := ⟨2, ![1, 5632]⟩
abbrev S1x1x5632 : Shape := ⟨3, ![1, 1, 5632]⟩
abbrev S2x2048x2816 : Shape := ⟨3, ![2, 2048, 2816]⟩

abbrev nBuf : Space → Nat
  | .hbm => 45
  | .vmem => 0
  | .smem => 0
  | _ => 0

abbrev bufTy : (tb : Table) → Fin (tcTables nBuf tb) → BufTy
  | .hbm, ⟨0, _⟩ => ⟨S2x2048x5632, .f32⟩
  | .hbm, ⟨1, _⟩ => ⟨S3x5632, .f32⟩
  | .hbm, ⟨2, _⟩ => ⟨S5632, .f32⟩
  | .hbm, ⟨3, _⟩ => ⟨S_, .i32⟩
  | .hbm, ⟨4, _⟩ => ⟨S_, .f32⟩
  | .hbm, ⟨5, _⟩ => ⟨S2x2050x5632, .f32⟩
  | .hbm, ⟨6, _⟩ => ⟨S1x5632, .f32⟩
  | .hbm, ⟨7, _⟩ => ⟨S5632, .f32⟩
  | .hbm, ⟨8, _⟩ => ⟨S2x2048x5632, .f32⟩
  | .hbm, ⟨9, _⟩ => ⟨S1x1x5632, .f32⟩
  | .hbm, ⟨10, _⟩ => ⟨S2x2048x5632, .f32⟩
  | .hbm, ⟨11, _⟩ => ⟨S2x2048x5632, .f32⟩
  | .hbm, ⟨12, _⟩ => ⟨S_, .f32⟩
  | .hbm, ⟨13, _⟩ => ⟨S2x2048x5632, .f32⟩
  | .hbm, ⟨14, _⟩ => ⟨S2x2048x5632, .f32⟩
  | .hbm, ⟨15, _⟩ => ⟨S1x5632, .f32⟩
  | .hbm, ⟨16, _⟩ => ⟨S5632, .f32⟩
  | .hbm, ⟨17, _⟩ => ⟨S2x2048x5632, .f32⟩
  | .hbm, ⟨18, _⟩ => ⟨S1x1x5632, .f32⟩
  | .hbm, ⟨19, _⟩ => ⟨S2x2048x5632, .f32⟩
  | .hbm, ⟨20, _⟩ => ⟨S2x2048x5632, .f32⟩
  | .hbm, ⟨21, _⟩ => ⟨S2x2048x5632, .f32⟩
  | .hbm, ⟨22, _⟩ => ⟨S1x5632, .f32⟩
  | .hbm, ⟨23, _⟩ => ⟨S5632, .f32⟩
  | .hbm, ⟨24, _⟩ => ⟨S2x2048x5632, .f32⟩
  | .hbm, ⟨25, _⟩ => ⟨S1x1x5632, .f32⟩
  | .hbm, ⟨26, _⟩ => ⟨S2x2048x5632, .f32⟩
  | .hbm, ⟨27, _⟩ => ⟨S2x2048x5632, .f32⟩
  | .hbm, ⟨28, _⟩ => ⟨S2x2048x5632, .f32⟩
  | .hbm, ⟨29, _⟩ => ⟨S1x1x5632, .f32⟩
  | .hbm, ⟨30, _⟩ => ⟨S2x2048x5632, .f32⟩
  | .hbm, ⟨31, _⟩ => ⟨S2x2048x5632, .f32⟩
  | .hbm, ⟨32, _⟩ => ⟨S2x2048x2816, .f32⟩
  | .hbm, ⟨33, _⟩ => ⟨S2x2048x2816, .f32⟩
  | .hbm, ⟨34, _⟩ => ⟨S2x2048x2816, .f32⟩
  | .hbm, ⟨35, _⟩ => ⟨S2x2048x2816, .f32⟩
  | .hbm, ⟨36, _⟩ => ⟨S_, .f32⟩
  | .hbm, ⟨37, _⟩ => ⟨S2x2048x2816, .f32⟩
  | .hbm, ⟨38, _⟩ => ⟨S2x2048x2816, .f32⟩
  | .hbm, ⟨39, _⟩ => ⟨S_, .f32⟩
  | .hbm, ⟨40, _⟩ => ⟨S2x2048x2816, .f32⟩
  | .hbm, ⟨41, _⟩ => ⟨S2x2048x2816, .f32⟩
  | .hbm, ⟨42, _⟩ => ⟨S2x2048x2816, .f32⟩
  | .hbm, ⟨43, _⟩ => ⟨S2x2048x2816, .f32⟩
  | .hbm, ⟨44, _⟩ => ⟨S2x2048x2816, .bf16⟩
  | _, _ => ⟨S2x2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_call1_v0 : Ref sig .tc := ⟨.hbm, 34, rfl⟩
abbrev main_call1_v1 : Ref sig .tc := ⟨.hbm, 35, rfl⟩
abbrev main_call1_cst : Ref sig .tc := ⟨.hbm, 36, rfl⟩
abbrev main_call1_v2 : Ref sig .tc := ⟨.hbm, 37, rfl⟩
abbrev main_call1_v3 : Ref sig .tc := ⟨.hbm, 38, rfl⟩
abbrev main_call1_cst_0 : Ref sig .tc := ⟨.hbm, 39, rfl⟩
abbrev main_call1_v4 : Ref sig .tc := ⟨.hbm, 40, rfl⟩
abbrev main_call1_v5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩

abbrev nD : Nat := 1
abbrev τ : Topo := Topo.v7x

variable {F : FTy → Type} [FloatOps F]
-- ==== AdWs.lean ====
abbrev S1024x128 : Shape := ⟨2, ![1024, 128]⟩
abbrev S256x128 : Shape := ⟨2, ![256, 128]⟩

abbrev nBuf : Space → Nat
  | .hbm => 7
  | .vmem => 14
  | .smem => 0
  | _ => 0

abbrev bufTy : (tb : Table) → Fin (tcTables nBuf tb) → BufTy
  | .hbm, ⟨0, _⟩ => ⟨S1024x128, .f32⟩
  | .hbm, ⟨1, _⟩ => ⟨S1024x128, .f32⟩
  | .hbm, ⟨2, _⟩ => ⟨S1024x128, .f32⟩
  | .hbm, ⟨3, _⟩ => ⟨S1024x128, .f32⟩
  | .hbm, ⟨4, _⟩ => ⟨S1024x128, .f32⟩
  | .hbm, ⟨5, _⟩ => ⟨S1024x128, .f32⟩
  | .hbm, ⟨6, _⟩ => ⟨S1024x128, .f32⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | _, _ => ⟨S1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdWsRefIdeal.lean ====
abbrev S1024x128 : Shape := ⟨2, ![1024, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x128, .f32⟩
  | .hbm, ⟨1, _⟩ => ⟨S1024x128, .f32⟩
  | .hbm, ⟨2, _⟩ => ⟨S1024x128, .f32⟩
  | .hbm, ⟨3, _⟩ => ⟨S1024x128, .f32⟩
  | .hbm, ⟨4, _⟩ => ⟨S_, .f32⟩
  | .hbm, ⟨5, _⟩ => ⟨S1024x128, .f32⟩
  | .hbm, ⟨6, _⟩ => ⟨S1024x128, .f32⟩
  | .hbm, ⟨7, _⟩ => ⟨S_, .f32⟩
  | .hbm, ⟨8, _⟩ => ⟨S1024x128, .f32⟩
  | .hbm, ⟨9, _⟩ => ⟨S1024x128, .f32⟩
  | .hbm, ⟨10, _⟩ => ⟨S1024x128, .f32⟩
  | .hbm, ⟨11, _⟩ => ⟨S_, .f32⟩
  | .hbm, ⟨12, _⟩ => ⟨S1024x128, .f32⟩
  | .hbm, ⟨13, _⟩ => ⟨S1024x128, .f32⟩
  | .hbm, ⟨14, _⟩ => ⟨S1024x128, .f32⟩
  | .hbm, ⟨15, _⟩ => ⟨S_, .f32⟩
  | .hbm, ⟨16, _⟩ => ⟨S1024x128, .f32⟩
  | .hbm, ⟨17, _⟩ => ⟨S1024x128, .f32⟩
  | .hbm, ⟨18, _⟩ => ⟨S1024x128, .f32⟩
  | .hbm, ⟨19, _⟩ => ⟨S_, .f32⟩
  | .hbm, ⟨20, _⟩ => ⟨S1024x128, .f32⟩
  | .hbm, ⟨21, _⟩ => ⟨S1024x128, .f32⟩
  | .hbm, ⟨22, _⟩ => ⟨S_, .f32⟩
  | .hbm, ⟨23, _⟩ => ⟨S1024x128, .f32⟩
  | .hbm, ⟨24, _⟩ => ⟨S1024x128, .f32⟩
  | .hbm, ⟨25, _⟩ => ⟨S1024x128, .f32⟩
  | .hbm, ⟨26, _⟩ => ⟨S_, .f32⟩
  | .hbm, ⟨27, _⟩ => ⟨S1024x128, .f32⟩
  | .hbm, ⟨28, _⟩ => ⟨S1024x128, .f32⟩
  | .hbm, ⟨29, _⟩ => ⟨S1024x128, .f32⟩
  | .hbm, ⟨30, _⟩ => ⟨S_, .f32⟩
  | .hbm, ⟨31, _⟩ => ⟨S1024x128, .f32⟩
  | .hbm, ⟨32, _⟩ => ⟨S1024x128, .f32⟩
  | .hbm, ⟨33, _⟩ => ⟨S1024x128, .f32⟩
  | .hbm, ⟨34, _⟩ => ⟨S_, .f32⟩
  | .hbm, ⟨35, _⟩ => ⟨S1024x128, .f32⟩
  | .hbm, ⟨36, _⟩ => ⟨S1024x128, .f32⟩
  | _, _ => ⟨S1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== PrepF.lean ====
abbrev S4096x2304 : Shape := ⟨2, ![4096, 2304]⟩
abbrev S3x2x64 : Shape := ⟨3, ![3, 2, 64]⟩
abbrev S2048x16 : Shape := ⟨2, ![2048, 16]⟩
abbrev S2048x64 : Shape := ⟨2, ![2048, 64]⟩
abbrev S2048x128 : Shape := ⟨2, ![2048, 128]⟩
abbrev S1x1x64 : Shape := ⟨3, ![1, 1, 64]⟩
abbrev S64 : Shape := ⟨1, ![64]⟩
abbrev S1x64 : Shape := ⟨2, ![1, 64]⟩
abbrev S4x64 : Shape := ⟨2, ![4, 64]⟩
abbrev S256 : Shape := ⟨1, ![256]⟩
abbrev S_ : Shape := ⟨0, ![]⟩
abbrev S2x64 : Shape := ⟨2, ![2, 64]⟩
abbrev S128 : Shape := ⟨1, ![128]⟩
abbrev S1792 : Shape := ⟨1, ![1792]⟩
abbrev S1x1792 : Shape := ⟨2, ![1, 1792]⟩
abbrev S4096x768 : Shape := ⟨2, ![4096, 768]⟩
abbrev S4096x1024 : Shape := ⟨2, ![4096, 1024]⟩
abbrev S256x2304 : Shape := ⟨2, ![256, 2304]⟩
abbrev S256x128 : Shape := ⟨2, ![256, 128]⟩
abbrev S256x768 : Shape := ⟨2, ![256, 768]⟩
abbrev S256x1024 : Shape := ⟨2, ![256, 1024]⟩
abbrev S1x128 : Shape := ⟨2, ![1, 128]⟩
abbrev S256x1 : Shape := ⟨2, ![256, 1]⟩

abbrev nBuf : Space → Nat
  | .hbm => 52
  | .vmem => 11
  | .smem => 0
  | _ => 0

abbrev bufTy : (tb : Table) → Fin (tcTables nBuf tb) → BufTy
  | .hbm, ⟨0, _⟩ => ⟨S4096x2304, .f32⟩
  | .hbm, ⟨1, _⟩ => ⟨S3x2x64, .f32⟩
  | .hbm, ⟨2, _⟩ => ⟨S2048x16, .f32⟩
  | .hbm, ⟨3, _⟩ => ⟨S2048x16, .f32⟩
  | .hbm, ⟨4, _⟩ => ⟨S2048x16, .f32⟩
  | .hbm, ⟨5, _⟩ => ⟨S2048x16, .f32⟩
  | .hbm, ⟨6, _⟩ => ⟨S2048x64, .f32⟩
  | .hbm, ⟨7, _⟩ => ⟨S2048x128, .f32⟩
  | .hbm, ⟨8, _⟩ => ⟨S2048x16, .f32⟩
  | .hbm, ⟨9, _⟩ => ⟨S2048x16, .f32⟩
  | .hbm, ⟨10, _⟩ => ⟨S2048x64, .f32⟩
  | .hbm, ⟨11, _⟩ => ⟨S2048x128, .f32⟩
  | .hbm, ⟨12, _⟩ => ⟨S1x1x64, .f32⟩
  | .hbm, ⟨13, _⟩ => ⟨S64, .f32⟩
  | .hbm, ⟨14, _⟩ => ⟨S1x64, .f32⟩
  | .hbm, ⟨15, _⟩ => ⟨S4x64, .f32⟩
  | .hbm, ⟨16, _⟩ => ⟨S256, .f32⟩
  | .hbm, ⟨17, _⟩ => ⟨S1x1x64, .f32⟩
  | .hbm, ⟨18, _⟩ => ⟨S64, .f32⟩
  | .hbm, ⟨19, _⟩ => ⟨S1x64, .f32⟩
  | .hbm, ⟨20, _⟩ => ⟨S4x64, .f32⟩
  | .hbm, ⟨21, _⟩ => ⟨S256, .f32⟩
  | .hbm, ⟨22, _⟩ => ⟨S_, .f32⟩
  | .hbm, ⟨23, _⟩ => ⟨S256, .f32⟩
  | .hbm, ⟨24, _⟩ => ⟨S1x1x64, .f32⟩
  | .hbm, ⟨25, _⟩ => ⟨S64, .f32⟩
  | .hbm, ⟨26, _⟩ => ⟨S1x64, .f32⟩
  | .hbm, ⟨27, _⟩ => ⟨S4x64, .f32⟩
  | .hbm, ⟨28, _⟩ => ⟨S256, .f32⟩
  | .hbm, ⟨29, _⟩ => ⟨S1x1x64, .f32⟩
  | .hbm, ⟨30, _⟩ => ⟨S64, .f32⟩
  | .hbm, ⟨31, _⟩ => ⟨S1x64, .f32⟩
  | .hbm, ⟨32, _⟩ => ⟨S2x64, .f32⟩
  | .hbm, ⟨33, _⟩ => ⟨S128, .f32⟩
  | .hbm, ⟨34, _⟩ => ⟨S_, .f32⟩
  | .hbm, ⟨35, _⟩ => ⟨S128, .f32⟩
  | .hbm, ⟨36, _⟩ => ⟨S1x1x64, .f32⟩
  | .hbm, ⟨37, _⟩ => ⟨S64, .f32⟩
  | .hbm, ⟨38, _⟩ => ⟨S1x64, .f32⟩
  | .hbm, ⟨39, _⟩ => ⟨S4x64, .f32⟩
  | .hbm, ⟨40, _⟩ => ⟨S256, .f32⟩
  | .hbm, ⟨41, _⟩ => ⟨S1x1x64, .f32⟩
  | .hbm, ⟨42, _⟩ => ⟨S64, .f32⟩
  | .hbm, ⟨43, _⟩ => ⟨S1x64, .f32⟩
  | .hbm, ⟨44, _⟩ => ⟨S2x64, .f32⟩
  | .hbm, ⟨45, _⟩ => ⟨S128, .f32⟩
  | .hbm, ⟨46, _⟩ => ⟨S_, .f32⟩
  | .hbm, ⟨47, _⟩ => ⟨S128, .f32⟩
  | .hbm, ⟨48, _⟩ => ⟨S1792, .f32⟩
  | .hbm, ⟨49, _⟩ => ⟨S1x1792, .f32⟩
  | .hbm, ⟨50, _⟩ => ⟨S4096x768, .bf16⟩
  | .hbm, ⟨51, _⟩ => ⟨S4096x1024, .bf16⟩
  | .local _ .vmem, ⟨0, _⟩ => ⟨S256x2304, .f32⟩
  | .local _ .vmem, ⟨1, _⟩ => ⟨S256x2304, .f32⟩
  | .local _ .vmem, ⟨2, _⟩ => ⟨S1x1792, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x768, .bf16⟩
  | .local _ .vmem, ⟨8, _⟩ => ⟨S256x768, .bf16⟩
  | .local _ .vmem, ⟨9, _⟩ => ⟨S256x1024, .bf16⟩
  | .local _ .vmem, ⟨10, _⟩ => ⟨S256x1024, .bf16⟩
  | _, _ => ⟨S4096x2304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_0 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_cst_1 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41_0 : Ref sig .tc := ⟨.hbm, 50, rfl⟩
abbrev main_v41_1 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2304 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1792 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== PrepFRefIdeal.lean ====
abbrev S4096x2304 : Shape := ⟨2, ![4096, 2304]⟩
abbrev S3x2x64 : Shape := ⟨3, ![3, 2, 64]⟩
abbrev S2048x16 : Shape := ⟨2, ![2048, 16]⟩
abbrev S4096x256 : Shape := ⟨2, ![4096, 256]⟩
abbrev S2x2048x4x64 : Shape := ⟨4, ![2, 2048, 4, 64]⟩
abbrev S1x1x64 : Shape := ⟨3, ![1, 1, 64]⟩
abbrev S64 : Shape := ⟨1, ![64]⟩
abbrev S_ : Shape := ⟨0, ![]⟩
abbrev S2x2048x4 : Shape := ⟨3, ![2, 2048, 4]⟩
abbrev S2x2048x4x1 : Shape := ⟨4, ![2, 2048, 4, 1]⟩
abbrev S1x1x1x64 : Shape := ⟨4, ![1, 1, 1, 64]⟩
abbrev S4096x128 : Shape := ⟨2, ![4096, 128]⟩
abbrev S2x2048x2x64 : Shape := ⟨4, ![2, 2048, 2, 64]⟩
abbrev S2x2048x2 : Shape := ⟨3, ![2, 2048, 2]⟩
abbrev S2x2048x2x1 : Shape := ⟨4, ![2, 2048, 2, 1]⟩
abbrev S2x2048x4x32 : Shape := ⟨4, ![2, 2048, 4, 32]⟩
abbrev S2048x1x16 : Shape := ⟨3, ![2048, 1, 16]⟩
abbrev S2x2048x4x16 : Shape := ⟨4, ![2, 2048, 4, 16]⟩
abbrev S1x2048x1x16 : Shape := ⟨4, ![1, 2048, 1, 16]⟩
abbrev S2x2048x2x32 : Shape := ⟨4, ![2, 2048, 2, 32]⟩
abbrev S2x2048x2x16 : Shape := ⟨4, ![2, 2048, 2, 16]⟩
abbrev S4096x768 : Shape := ⟨2, ![4096, 768]⟩
abbrev S4096x1024 : Shape := ⟨2, ![4096, 1024]⟩

abbrev nBuf : Space → Nat
  | .hbm => 221
  | .vmem => 0
  | .smem => 0
  | _ => 0

abbrev hbmTy0_0 (i : Nat) : BufTy := match i % 128 with
  | 0 => ⟨S4096x2304, .f32⟩
  | 1 => ⟨S3x2x64, .f32⟩
  | 2 => ⟨S2048x16, .f32⟩
  | 3 => ⟨S2048x16, .f32⟩
  | 4 => ⟨S2048x16, .f32⟩
  | 5 => ⟨S2048x16, .f32⟩
  | 6 => ⟨S4096x256, .f32⟩
  | 7 => ⟨S2x2048x4x64, .f32⟩
  | 8 => ⟨S1x1x64, .f32⟩
  | 9 => ⟨S64, .f32⟩
  | 10 => ⟨S2x2048x4x64, .f32⟩
  | 11 => ⟨S_, .f32⟩
  | 12 => ⟨S2x2048x4, .f32⟩
  | 13 => ⟨S2x2048x4x1, .f32⟩
  | 14 => ⟨S_, .f32⟩
  | 15 => ⟨S2x2048x4x1, .f32⟩
  | 16 => ⟨S2x2048x4x1, .f32⟩
  | 17 => ⟨S_, .f32⟩
  | 18 => ⟨S2x2048x4x1, .f32⟩
  | 19 => ⟨S2x2048x4x1, .f32⟩
  | 20 => ⟨S2x2048x4x1, .f32⟩
  | 21 => ⟨S2x2048x4x64, .f32⟩
  | 22 => ⟨S2x2048x4x64, .f32⟩
  | 23 => ⟨S1x1x1x64, .f32⟩
  | 24 => ⟨S2x2048x4x64, .f32⟩
  | 25 => ⟨S2x2048x4x64, .f32⟩
  | 26 => ⟨S4096x256, .f32⟩
  | 27 => ⟨S2x2048x4x64, .f32⟩
  | 28 => ⟨S1x1x64, .f32⟩
  | 29 => ⟨S64, .f32⟩
  | 30 => ⟨S2x2048x4x64, .f32⟩
  | 31 => ⟨S_, .f32⟩
  | 32 => ⟨S2x2048x4, .f32⟩
  | 33 => ⟨S2x2048x4x1, .f32⟩
  | 34 => ⟨S_, .f32⟩
  | 35 => ⟨S2x2048x4x1, .f32⟩
  | 36 => ⟨S2x2048x4x1, .f32⟩
  | 37 => ⟨S_, .f32⟩
  | 38 => ⟨S2x2048x4x1, .f32⟩
  | 39 => ⟨S2x2048x4x1, .f32⟩
  | 40 => ⟨S2x2048x4x1, .f32⟩
  | 41 => ⟨S2x2048x4x64, .f32⟩
  | 42 => ⟨S2x2048x4x64, .f32⟩
  | 43 => ⟨S1x1x1x64, .f32⟩
  | 44 => ⟨S2x2048x4x64, .f32⟩
  | 45 => ⟨S2x2048x4x64, .f32⟩
  | 46 => ⟨S4096x256, .f32⟩
  | 47 => ⟨S2x2048x4x64, .f32⟩
  | 48 => ⟨S1x1x64, .f32⟩
  | 49 => ⟨S64, .f32⟩
  | 50 => ⟨S2x2048x4x64, .f32⟩
  | 51 => ⟨S_, .f32⟩
  | 52 => ⟨S2x2048x4, .f32⟩
  | 53 => ⟨S2x2048x4x1, .f32⟩
  | 54 => ⟨S_, .f32⟩
  | 55 => ⟨S2x2048x4x1, .f32⟩
  | 56 => ⟨S2x2048x4x1, .f32⟩
  | 57 => ⟨S_, .f32⟩
  | 58 => ⟨S2x2048x4x1, .f32⟩
  | 59 => ⟨S2x2048x4x1, .f32⟩
  | 60 => ⟨S2x2048x4x1, .f32⟩
  | 61 => ⟨S2x2048x4x64, .f32⟩
  | 62 => ⟨S2x2048x4x64, .f32⟩
  | 63 => ⟨S1x1x1x64, .f32⟩
  | 64 => ⟨S2x2048x4x64, .f32⟩
  | 65 => ⟨S2x2048x4x64, .f32⟩
  | 66 => ⟨S4096x128, .f32⟩
  | 67 => ⟨S2x2048x2x64, .f32⟩
  | 68 => ⟨S1x1x64, .f32⟩
  | 69 => ⟨S64, .f32⟩
  | 70 => ⟨S2x2048x2x64, .f32⟩
  | 71 => ⟨S_, .f32⟩
  | 72 => ⟨S2x2048x2, .f32⟩
  | 73 => ⟨S2x2048x2x1, .f32⟩
  | 74 => ⟨S_, .f32⟩
  | 75 => ⟨S2x2048x2x1, .f32⟩
  | 76 => ⟨S2x2048x2x1, .f32⟩
  | 77 => ⟨S_, .f32⟩
  | 78 => ⟨S2x2048x2x1, .f32⟩
  | 79 => ⟨S2x2048x2x1, .f32⟩
  | 80 => ⟨S2x2048x2x1, .f32⟩
  | 81 => ⟨S2x2048x2x64, .f32⟩
  | 82 => ⟨S2x2048x2x64, .f32⟩
  | 83 => ⟨S1x1x1x64, .f32⟩
  | 84 => ⟨S2x2048x2x64, .f32⟩
  | 85 => ⟨S2x2048x2x64, .f32⟩
  | 86 => ⟨S4096x256, .f32⟩
  | 87 => ⟨S2x2048x4x64, .f32⟩
  | 88 => ⟨S1x1x64, .f32⟩
  | 89 => ⟨S64, .f32⟩
  | 90 => ⟨S2x2048x4x64, .f32⟩
  | 91 => ⟨S_, .f32⟩
  | 92 => ⟨S2x2048x4, .f32⟩
  | 93 => ⟨S2x2048x4x1, .f32⟩
  | 94 => ⟨S_, .f32⟩
  | 95 => ⟨S2x2048x4x1, .f32⟩
  | 96 => ⟨S2x2048x4x1, .f32⟩
  | 97 => ⟨S_, .f32⟩
  | 98 => ⟨S2x2048x4x1, .f32⟩
  | 99 => ⟨S2x2048x4x1, .f32⟩
  | 100 => ⟨S2x2048x4x1, .f32⟩
  | 101 => ⟨S2x2048x4x64, .f32⟩
  | 102 => ⟨S2x2048x4x64, .f32⟩
  | 103 => ⟨S1x1x1x64, .f32⟩
  | 104 => ⟨S2x2048x4x64, .f32⟩
  | 105 => ⟨S2x2048x4x64, .f32⟩
  | 106 => ⟨S2x2048x4x32, .f32⟩
  | 107 => ⟨S2048x1x16, .f32⟩
  | 108 => ⟨S2048x1x16, .f32⟩
  | 109 => ⟨S2x2048x4x16, .f32⟩
  | 110 => ⟨S2x2048x4x16, .f32⟩
  | 111 => ⟨S1x2048x1x16, .f32⟩
  | 112 => ⟨S2x2048x4x16, .f32⟩
  | 113 => ⟨S2x2048x4x16, .f32⟩
  | 114 => ⟨S1x2048x1x16, .f32⟩
  | 115 => ⟨S2x2048x4x16, .f32⟩
  | 116 => ⟨S2x2048x4x16, .f32⟩
  | 117 => ⟨S2x2048x4x16, .f32⟩
  | 118 => ⟨S1x2048x1x16, .f32⟩
  | 119 => ⟨S2x2048x4x16, .f32⟩
  | 120 => ⟨S2x2048x4x16, .f32⟩
  | 121 => ⟨S1x2048x1x16, .f32⟩
  | 122 => ⟨S2x2048x4x16, .f32⟩
  | 123 => ⟨S2x2048x4x16, .f32⟩
  | 124 => ⟨S2x2048x4x16, .f32⟩
  | 125 => ⟨S2x2048x4x32, .f32⟩
  | 126 => ⟨S2x2048x4x32, .f32⟩
  | 127 => ⟨S2048x1x16, .f32⟩
  | _ => ⟨S4096x2304, .f32⟩

abbrev hbmTy0_1 (i : Nat) : BufTy := match i % 128 with
  | 0 => ⟨S2048x1x16, .f32⟩
  | 1 => ⟨S2x2048x4x16, .f32⟩
  | 2 => ⟨S2x2048x4x16, .f32⟩
  | 3 => ⟨S1x2048x1x16, .f32⟩
  | 4 => ⟨S2x2048x4x16, .f32⟩
  | 5 => ⟨S2x2048x4x16, .f32⟩
  | 6 => ⟨S1x2048x1x16, .f32⟩
  | 7 => ⟨S2x2048x4x16, .f32⟩
  | 8 => ⟨S2x2048x4x16, .f32⟩
  | 9 => ⟨S2x2048x4x16, .f32⟩
  | 10 => ⟨S1x2048x1x16, .f32⟩
  | 11 => ⟨S2x2048x4x16, .f32⟩
  | 12 => ⟨S2x2048x4x16, .f32⟩
  | 13 => ⟨S1x2048x1x16, .f32⟩
  | 14 => ⟨S2x2048x4x16, .f32⟩
  | 15 => ⟨S2x2048x4x16, .f32⟩
  | 16 => ⟨S2x2048x4x16, .f32⟩
  | 17 => ⟨S2x2048x4x32, .f32⟩
  | 18 => ⟨S2x2048x4x64, .f32⟩
  | 19 => ⟨S4096x128, .f32⟩
  | 20 => ⟨S2x2048x2x64, .f32⟩
  | 21 => ⟨S1x1x64, .f32⟩
  | 22 => ⟨S64, .f32⟩
  | 23 => ⟨S2x2048x2x64, .f32⟩
  | 24 => ⟨S_, .f32⟩
  | 25 => ⟨S2x2048x2, .f32⟩
  | 26 => ⟨S2x2048x2x1, .f32⟩
  | 27 => ⟨S_, .f32⟩
  | 28 => ⟨S2x2048x2x1, .f32⟩
  | 29 => ⟨S2x2048x2x1, .f32⟩
  | 30 => ⟨S_, .f32⟩
  | 31 => ⟨S2x2048x2x1, .f32⟩
  | 32 => ⟨S2x2048x2x1, .f32⟩
  | 33 => ⟨S2x2048x2x1, .f32⟩
  | 34 => ⟨S2x2048x2x64, .f32⟩
  | 35 => ⟨S2x2048x2x64, .f32⟩
  | 36 => ⟨S1x1x1x64, .f32⟩
  | 37 => ⟨S2x2048x2x64, .f32⟩
  | 38 => ⟨S2x2048x2x64, .f32⟩
  | 39 => ⟨S2x2048x2x32, .f32⟩
  | 40 => ⟨S2048x1x16, .f32⟩
  | 41 => ⟨S2048x1x16, .f32⟩
  | 42 => ⟨S2x2048x2x16, .f32⟩
  | 43 => ⟨S2x2048x2x16, .f32⟩
  | 44 => ⟨S1x2048x1x16, .f32⟩
  | 45 => ⟨S2x2048x2x16, .f32⟩
  | 46 => ⟨S2x2048x2x16, .f32⟩
  | 47 => ⟨S1x2048x1x16, .f32⟩
  | 48 => ⟨S2x2048x2x16, .f32⟩
  | 49 => ⟨S2x2048x2x16, .f32⟩
  | 50 => ⟨S2x2048x2x16, .f32⟩
  | 51 => ⟨S1x2048x1x16, .f32⟩
  | 52 => ⟨S2x2048x2x16, .f32⟩
  | 53 => ⟨S2x2048x2x16, .f32⟩
  | 54 => ⟨S1x2048x1x16, .f32⟩
  | 55 => ⟨S2x2048x2x16, .f32⟩
  | 56 => ⟨S2x2048x2x16, .f32⟩
  | 57 => ⟨S2x2048x2x16, .f32⟩
  | 58 => ⟨S2x2048x2x32, .f32⟩
  | 59 => ⟨S2x2048x2x32, .f32⟩
  | 60 => ⟨S2048x1x16, .f32⟩
  | 61 => ⟨S2048x1x16, .f32⟩
  | 62 => ⟨S2x2048x2x16, .f32⟩
  | 63 => ⟨S2x2048x2x16, .f32⟩
  | 64 => ⟨S1x2048x1x16, .f32⟩
  | 65 => ⟨S2x2048x2x16, .f32⟩
  | 66 => ⟨S2x2048x2x16, .f32⟩
  | 67 => ⟨S1x2048x1x16, .f32⟩
  | 68 => ⟨S2x2048x2x16, .f32⟩
  | 69 => ⟨S2x2048x2x16, .f32⟩
  | 70 => ⟨S2x2048x2x16, .f32⟩
  | 71 => ⟨S1x2048x1x16, .f32⟩
  | 72 => ⟨S2x2048x2x16, .f32⟩
  | 73 => ⟨S2x2048x2x16, .f32⟩
  | 74 => ⟨S1x2048x1x16, .f32⟩
  | 75 => ⟨S2x2048x2x16, .f32⟩
  | 76 => ⟨S2x2048x2x16, .f32⟩
  | 77 => ⟨S2x2048x2x16, .f32⟩
  | 78 => ⟨S2x2048x2x32, .f32⟩
  | 79 => ⟨S2x2048x2x64, .f32⟩
  | 80 => ⟨S4096x256, .f32⟩
  | 81 => ⟨S4096x256, .f32⟩
  | 82 => ⟨S4096x256, .f32⟩
  | 83 => ⟨S4096x768, .f32⟩
  | 84 => ⟨S4096x256, .f32⟩
  | 85 => ⟨S4096x128, .f32⟩
  | 86 => ⟨S4096x128, .f32⟩
  | 87 => ⟨S4096x256, .f32⟩
  | 88 => ⟨S4096x128, .f32⟩
  | 89 => ⟨S4096x128, .f32⟩
  | 90 => ⟨S4096x1024, .f32⟩
  | 91 => ⟨S4096x768, .bf16⟩
  | 92 => ⟨S4096x1024, .bf16⟩
  | _ => ⟨S4096x2304, .f32⟩

abbrev hbmTy (i : Nat) : BufTy := match i / 128 with
  | 0 => hbmTy0_0 i
  | 1 => hbmTy0_1 i
  | _ => ⟨S4096x2304, .f32⟩

abbrev bufTy : (tb : Table) → Fin (tcTables nBuf tb) → BufTy
  | .hbm, ⟨i, _⟩ => hbmTy i
  | _, _ => ⟨S4096x2304, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_5 : Ref sig .tc := ⟨.hbm, 51, rfl⟩
abbrev main_v39 : Ref sig .tc := ⟨.hbm, 52, rfl⟩
abbrev main_v40 : Ref sig .tc := ⟨.hbm, 53, rfl⟩
abbrev main_cst_6 : Ref sig .tc := ⟨.hbm, 54, rfl⟩
abbrev main_v41 : Ref sig .tc := ⟨.hbm, 55, rfl⟩
abbrev main_v42 : Ref sig .tc := ⟨.hbm, 56, rfl⟩
abbrev main_cst_7 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_cst_8 : Ref sig .tc := ⟨.hbm, 71, rfl⟩
abbrev main_v56 : Ref sig .tc := ⟨.hbm, 72, rfl⟩
abbrev main_v57 : Ref sig .tc := ⟨.hbm, 73, rfl⟩
abbrev main_cst_9 : Ref sig .tc := ⟨.hbm, 74, rfl⟩
abbrev main_v58 : Ref sig .tc := ⟨.hbm, 75, rfl⟩
abbrev main_v59 : Ref sig .tc := ⟨.hbm, 76, rfl⟩
abbrev main_cst_10 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_cst_11 : Ref sig .tc := ⟨.hbm, 91, rfl⟩
abbrev main_v73 : Ref sig .tc := ⟨.hbm, 92, rfl⟩
abbrev main_v74 : Ref sig .tc := ⟨.hbm, 93, rfl⟩
abbrev main_cst_12 : Ref sig .tc := ⟨.hbm, 94, rfl⟩
abbrev main_v75 : Ref sig .tc := ⟨.hbm, 95, rfl⟩
abbrev main_v76 : Ref sig .tc := ⟨.hbm, 96, rfl⟩
abbrev main_cst_13 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_v127 : Ref sig .tc := ⟨.hbm, 148, rfl⟩
abbrev main_v128 : Ref sig .tc := ⟨.hbm, 149, rfl⟩
abbrev main_v129 : Ref sig .tc := ⟨.hbm, 150, rfl⟩
abbrev main_v130 : Ref sig .tc := ⟨.hbm, 151, rfl⟩
abbrev main_cst_14 : Ref sig .tc := ⟨.hbm, 152, rfl⟩
abbrev main_v131 : Ref sig .tc := ⟨.hbm, 153, rfl⟩
abbrev main_v132 : Ref sig .tc := ⟨.hbm, 154, rfl⟩
abbrev main_cst_15 : Ref sig .tc := ⟨.hbm, 155, rfl⟩
abbrev main_v133 : Ref sig .tc := ⟨.hbm, 156, rfl⟩
abbrev main_v134 : Ref sig .tc := ⟨.hbm, 157, rfl⟩
abbrev main_cst_16 : Ref sig .tc := ⟨.hbm, 158, rfl⟩
abbrev main_v135 : Ref sig .tc := ⟨.hbm, 159, rfl⟩
abbrev main_v136 : Ref sig .tc := ⟨.hbm, 160, rfl⟩
abbrev main_v137 : Ref sig .tc := ⟨.hbm, 161, rfl⟩
abbrev main_v138 : Ref sig .tc := ⟨.hbm, 162, rfl⟩
abbrev main_v139 : Ref sig .tc := ⟨.hbm, 163, rfl⟩
abbrev main_v140 : Ref sig .tc := ⟨.hbm, 164, rfl⟩
abbrev main_v141 : Ref sig .tc := ⟨.hbm, 165, rfl⟩
abbrev main_v142 : Ref sig .tc := ⟨.hbm, 166, rfl⟩
abbrev main_v143 : Ref sig .tc := ⟨.hbm, 167, rfl⟩
abbrev main_v144 : Ref sig .tc := ⟨.hbm, 168, rfl⟩
abbrev main_v145 : Ref sig .tc := ⟨.hbm, 169, rfl⟩
abbrev main_v146 : Ref sig .tc := ⟨.hbm, 170, rfl⟩
abbrev main_v147 : Ref sig .tc := ⟨.hbm, 171, rfl⟩
abbrev main_v148 : Ref sig .tc := ⟨.hbm, 172, rfl⟩
abbrev main_v149 : Ref sig .tc := ⟨.hbm, 173, rfl⟩
abbrev main_v150 : Ref sig .tc := ⟨.hbm, 174, rfl⟩
abbrev main_v151 : Ref sig .tc := ⟨.hbm, 175, rfl⟩
abbrev main_v152 : Ref sig .tc := ⟨.hbm, 176, rfl⟩
abbrev main_v153 : Ref sig .tc := ⟨.hbm, 177, rfl⟩
abbrev main_v154 : Ref sig .tc := ⟨.hbm, 178, rfl⟩
abbrev main_v155 : Ref sig .tc := ⟨.hbm, 179, rfl⟩
abbrev main_v156 : Ref sig .tc := ⟨.hbm, 180, rfl⟩
abbrev main_v157 : Ref sig .tc := ⟨.hbm, 181, rfl⟩
abbrev main_v158 : Ref sig .tc := ⟨.hbm, 182, rfl⟩
abbrev main_v159 : Ref sig .tc := ⟨.hbm, 183, rfl⟩
abbrev main_v160 : Ref sig .tc := ⟨.hbm, 184, rfl⟩
abbrev main_v161 : Ref sig .tc := ⟨.hbm, 185, rfl⟩
abbrev main_v162 : Ref sig .tc := ⟨.hbm, 186, rfl⟩
abbrev main_v163 : Ref sig .tc := ⟨.hbm, 187, rfl⟩
abbrev main_v164 : Ref sig .tc := ⟨.hbm, 188, rfl⟩
abbrev main_v165 : Ref sig .tc := ⟨.hbm, 189, rfl⟩
abbrev main_v166 : Ref sig .tc := ⟨.hbm, 190, rfl⟩
abbrev main_v167 : Ref sig .tc := ⟨.hbm, 191, rfl⟩
abbrev main_v168 : Ref sig .tc := ⟨.hbm, 192, rfl⟩
abbrev main_v169 : Ref sig .tc := ⟨.hbm, 193, rfl⟩
abbrev main_v170 : Ref sig .tc := ⟨.hbm, 194, rfl⟩
abbrev main_v171 : Ref sig .tc := ⟨.hbm, 195, rfl⟩
abbrev main_v172 : Ref sig .tc := ⟨.hbm, 196, rfl⟩
abbrev main_v173 : Ref sig .tc := ⟨.hbm, 197, rfl⟩
abbrev main_v174 : Ref sig .tc := ⟨.hbm, 198, rfl⟩
abbrev main_v175 : Ref sig .tc := ⟨.hbm, 199, rfl⟩
abbrev main_v176 : Ref sig .tc := ⟨.hbm, 200, rfl⟩
abbrev main_v177 : Ref sig .tc := ⟨.hbm, 201, rfl⟩
abbrev main_v178 : Ref sig .tc := ⟨.hbm, 202, rfl⟩
abbrev main_v179 : Ref sig .tc := ⟨.hbm, 203, rfl⟩
abbrev main_v180 : Ref sig .tc := ⟨.hbm, 204, rfl⟩
abbrev main_v181 : Ref sig .tc := ⟨.hbm, 205, rfl⟩
abbrev main_v182 : Ref sig .tc := ⟨.hbm, 206, rfl⟩
abbrev main_v183 : Ref sig .tc := ⟨.hbm, 207, rfl⟩
abbrev main_v184 : Ref sig .tc := ⟨.hbm, 208, rfl⟩
abbrev main_v185 : Ref sig .tc := ⟨.hbm, 209, rfl⟩
abbrev main_v186 : Ref sig .tc := ⟨.hbm, 210, rfl⟩
abbrev main_v187 : Ref sig .tc := ⟨.hbm, 211, rfl⟩
abbrev main_v188 : Ref sig .tc := ⟨.hbm, 212, rfl⟩
abbrev main_v189 : Ref sig .tc := ⟨.hbm, 213, rfl⟩
abbrev main_v190 : Ref sig .tc := ⟨.hbm, 214, rfl⟩
abbrev main_v191 : Ref sig .tc := ⟨.hbm, 215, rfl⟩
abbrev main_v192 : Ref sig .tc := ⟨.hbm, 216, rfl⟩
abbrev main_v193 : Ref sig .tc := ⟨.hbm, 217, rfl⟩
abbrev main_v194 : Ref sig .tc := ⟨.hbm, 218, rfl⟩
abbrev main_v195 : Ref sig .tc := ⟨.hbm, 219, rfl⟩
abbrev main_v196 : Ref sig .tc := ⟨.hbm, 220, rfl⟩

abbrev nD : Nat := 1
abbrev τ : Topo := Topo.v7x

variable {F : FTy → Type} [FloatOps F]
-- ==== Proof.PleGradient.lean ====
module

public import proofs.«01_k».proof.Defs
public import proofs.«01_k».proof.Proof.Gen.PleBIdeal.Value
public import proofs.«01_k».proof.Proof.Gen.PleBRefIdeal.Run
public import proofs.«01_k».proof.Proof.Gen.PleB
public import Idealize.ShloMosaic.Lib.Pointwise

/-!
# The gradients of the embedding's gate

The projected embedding is multiplied by the sigmoid of `z`. The kernel takes the sigmoid by the hyperbolic tangent of half
of `z`; the reference has it as the reciprocal of `1 + exp (-z)`. They are equal at every `z`, infinite ones included.
-/

@[expose] public section

noncomputable section

namespace Cert.PleGradient

open Idealize.ShloMosaic Idealize.ShloMosaic.TcCoe Idealize.SL.Sem Cert.PleBIdeal Cert.PleBIdeal.Gen

/-- The two constants, a half and one. -/
abbrev half : EReal := Ideal.ofBits FTy.f32 0x3F000000#32
abbrev one : EReal := Ideal.ofBits FTy.f32 0x3F800000#32

theorem half_eq : half = ((1 / 2 : ℝ) : EReal) := by
  simp [half, Ideal.ofBits, Ideal.ieee, -EReal.coe_mul]; norm_num
theorem one_eq : one = 1 := by
  refine Eq.trans ?_ EReal.coe_one
  simp [one, Ideal.ofBits, Ideal.ieee, -EReal.coe_mul, -EReal.coe_one]; norm_num

/-- The two forms of the sigmoid. -/
def sig (z : EReal) : EReal := half * Ideal.tanh (half * z) + half

theorem sig_real (z : ℝ) : 1 / 2 * Real.tanh (1 / 2 * z) + 1 / 2 = (1 + Real.exp (-z))⁻¹ := by
  rw [Real.tanh_eq_sinh_div_cosh, Real.sinh_eq, Real.cosh_eq]
  have e : Real.exp (-z) = Real.exp (-(1 / 2 * z)) * Real.exp (-(1 / 2 * z)) := by rw [← Real.exp_add]; congr 1; ring
  have e' : Real.exp (1 / 2 * z) * Real.exp (-(1 / 2 * z)) = 1 := by rw [← Real.exp_add]; simp
  have h := Real.exp_pos (1 / 2 * z)
  have h' := Real.exp_pos (-(1 / 2 * z))
  rw [e]
  generalize Real.exp (1 / 2 * z) = a at *
  generalize Real.exp (-(1 / 2 * z)) = b at *
  field_simp
  nlinarith

theorem sig_eq (z : EReal) : sig z = Ideal.div one (one + Ideal.exp (-z)) := by
  unfold sig
  rw [one_eq, half_eq]
  change _ = Ideal.logistic z
  induction z with
  | bot =>
    rw [EReal.coe_mul_bot_of_pos (by norm_num), Ideal.logistic_bot]
    change ((1 / 2 : ℝ) : EReal) * (-1) + _ = _
    rw [mul_neg, mul_one, ← EReal.coe_neg, ← EReal.coe_add]; norm_num
  | top =>
    rw [EReal.coe_mul_top_of_pos (by norm_num), Ideal.logistic_top]
    change ((1 / 2 : ℝ) : EReal) * 1 + _ = _
    rw [mul_one, ← EReal.coe_add]; norm_num
  | coe z =>
    rw [Ideal.logistic_coe, ← sig_real, ← EReal.coe_mul]
    change ((1 / 2 : ℝ) : EReal) * ((Real.tanh _ : ℝ) : EReal) + _ = _
    rw [← EReal.coe_mul, ← EReal.coe_add]

/-- The two gradients at one place: `z` what the sigmoid takes, `p` the projected embedding, `d` the result's gradient. -/
theorem dp_eq (z d : EReal) : d * sig z = d * Ideal.div one (one + Ideal.exp (-z)) := by rw [sig_eq]
theorem dz_eq (z p d : EReal) : d * p * sig z * (one - sig z)
    = p * d * (Ideal.div one (one + Ideal.exp (-z)) * (one - Ideal.div one (one + Ideal.exp (-z)))) := by
  rw [sig_eq, mul_comm d p, mul_assoc]

theorem algebraic : @algebraic_PleBIdeal_PleBRefIdeal Cert.PleBIdeal.Gen.facts Cert.PleBRefIdeal.Gen.facts := by
  intro m ρ m' ρ' _ hagree
  refine ⟨_, _, ?_, (θ_run Cert.PleBRefIdeal.defs _ _).mono (fun r h c => h c) (PleBRefIdeal.Value.run m' ρ')⟩
  refine (θ_run Cert.PleBIdeal.defs _ _).mono (fun r h c => ?_) (Value.run m ρ)
  obtain ⟨h3, h4, k⟩ := h c
  obtain ⟨a0, a1, a2⟩ := hagree c
  refine ⟨h3.trans ?_, h4.trans ?_, k⟩
  · rw [← a0, ← a2]
    funext i
    exact dp_eq _ _
  · rw [← a0, ← a1, ← a2]
    funext i
    exact dz_eq _ _ _

end Cert.PleGradient

end
-- ==== Proof.Products.lean ====
module

public import Idealize.ShloMosaic.PureOps.Ideal

/-!
# Long sums taken in parts

A product with a long contraction is taken over several grid points: the first stores its part of the sum, the next ones
add theirs. Here is the one fact about it that every such product uses.
-/

@[expose] public section

noncomputable section

namespace Cert.Products

open scoped BigOperators

/-- The offsets of a whole block. -/
theorem hz : (![0, 0] : Fin 2 → Nat) = fun _ => 0 := funext fun a => by fin_cases a <;> rfl
theorem hz3 : (![0, 0, 0] : Fin 3 → Nat) = fun _ => 0 := funext fun a => by fin_cases a <;> rfl

/-- Position `k` of part `s`, of width `w`, of a sum over `K = J * w` terms. -/
def place {J w K : ℕ} (hK : J * w = K) (s : ℕ) (hs : s < J) (k : Fin w) : Fin K :=
  ⟨s * w + k.val, by
    have h1 : (s + 1) * w ≤ J * w := Nat.mul_le_mul_right w hs
    have h2 := k.isLt
    rw [Nat.add_mul, Nat.one_mul] at h1
    omega⟩

/-- A sum over `J * w` terms, part by part. -/
theorem sum_parts {J w K : ℕ} (hK : J * w = K) (F : Fin K → EReal) :
    ∑ s : Fin J, ∑ k : Fin w, F (place hK s.val s.isLt k) = ∑ k, F k := by
  subst hK
  rw [← Fintype.sum_prod_type', ← finProdFinEquiv.sum_comp]
  refine Finset.sum_congr rfl fun x _ => congrArg F (Fin.ext ?_)
  show x.1.val * w + x.2.val = x.2.val + w * x.1.val
  rw [Nat.mul_comm, Nat.add_comm]

/-- A quantity that at point `b` is the first part of a sum, and at each of the `J - 1` points after it the part of that
    point more than at the point before, is the whole sum at the last of them. -/
theorem whole_sum {J w K N : ℕ} (hK : J * w = K) (F : Fin K → EReal) (f : (n : ℕ) → n < N → EReal) (b : ℕ)
    (first : ∀ (t : ℕ) (h : t < N) (h0 : 0 < J), t = b → f t h = ∑ k : Fin w, F (place hK 0 h0 k))
    (next : ∀ (t : ℕ) (h : t < N) (s : ℕ) (hs : s + 1 < J), t = b + (s + 1) →
      f t h = f (t - 1) (Nat.lt_of_le_of_lt (Nat.sub_le _ _) h) + ∑ k : Fin w, F (place hK (s + 1) hs k))
    (t : ℕ) (h : t < N) (h0 : 0 < J) (ht : t = b + (J - 1)) : f t h = ∑ k, F k := by
  have upto : ∀ (s : ℕ) (hs : s < J) (t : ℕ) (h : t < N), t = b + s →
      f t h = ∑ r : Fin (s + 1), ∑ k : Fin w, F (place hK r.val (lt_of_lt_of_le r.isLt hs) k) := by
    intro s
    induction s with
    | zero => intro hs t h e; rw [first t h hs e, Fin.sum_univ_one]; rfl
    | succ s ih =>
      intro hs t h e
      rw [next t h s hs e, ih (by omega) (t - 1) _ (by omega), Fin.sum_univ_castSucc (n := s + 1)]
      rfl
  rw [upto (J - 1) (by omega) t h ht, ← sum_parts hK F]
  obtain ⟨J, rfl⟩ : ∃ j, J = j + 1 := ⟨J - 1, by omega⟩
  rfl

end Cert.Products

end
-- ==== Proof.NormMaths.lean ====
module

public import proofs.«01_k».proof.Proof.Products

/-!
# The gradient of a normalised product, one row at a time

The row `x` is divided by the root of the mean of its squares, multiplied by the gain `g` and by a weight. `o` is the
gradient that comes back through the weight, and `d` the gradient that reaches the row on another way. The kernel takes the
row's part of it in the closed form `(d + r * (o * g)) - x * (r³ * mean (x * (o * g)))`, where `r` is the reciprocal root; the
chain rule of the plain norm gives it as two equal terms of half that size. They are equal on every row, infinite entries
included: the mean under the root is positive, so `r` is a number, and it is zero on a row with an infinite entry.
-/

@[expose] public section

noncomputable section

namespace Cert.NormMaths

open scoped BigOperators
open Idealize.ShloMosaic

/-- The three constants of the norm: the row's length, the small number under the root, and minus a half. -/
abbrev len : EReal := Ideal.ofBits FTy.f32 0x44800000#32
abbrev eps : EReal := Ideal.ofBits FTy.f32 0x358637BD#32
abbrev half : EReal := Ideal.ofBits FTy.f32 0xBF000000#32

theorem len_eq : len = ((1024 : ℝ) : EReal) := by
  simp [len, Ideal.ofBits, Ideal.ieee, -EReal.coe_mul]; norm_num
theorem half_eq : half = ((-(1 / 2) : ℝ) : EReal) := by
  simp [half, Ideal.ofBits, Ideal.ieee, -EReal.coe_mul, -EReal.coe_neg]; norm_num
theorem eps_eq : ∃ e : ℝ, 0 < e ∧ eps = (e : EReal) := by
  refine ⟨8796093 / 2 ^ 43, by norm_num, ?_⟩
  simp [eps, Ideal.ofBits, Ideal.ieee, -EReal.coe_mul]; norm_num

variable (x g o d : Fin 1024 → EReal) (j : Fin 1024)

/-- What stands under the root, and the reciprocal root. -/
def under : EReal := Ideal.div (∑ k, x k * x k) len + eps
def root : EReal := Ideal.rsqrt (under x)

theorem sq_nonneg (a : EReal) : 0 ≤ a * a := by
  induction a with
  | bot => simp
  | top => simp
  | coe a => rw [← EReal.coe_mul]; exact_mod_cast mul_self_nonneg a

/-- A mean of squares and the small number is positive, for a row of any length. -/
theorem mean_pos {N : ℕ} (n : ℝ) (hn : 0 < n) (x : Fin N → EReal) : 0 < Ideal.div (∑ k, x k * x k) (n : EReal) + eps := by
  obtain ⟨e, he, hE⟩ := eps_eq
  rw [hE, Ideal.div_coe hn.ne']
  refine lt_of_lt_of_le (by exact_mod_cast he : (0 : EReal) < e) ?_
  refine le_add_of_nonneg_left (mul_nonneg (Finset.sum_nonneg fun k _ => sq_nonneg (x k)) ?_)
  exact_mod_cast (by positivity : (0 : ℝ) ≤ 1 / n)

theorem under_pos : 0 < under x := by
  have h := mean_pos 1024 (by norm_num) x
  rw [← len_eq] at h
  exact h

/-- Twice a multiple, by a number. -/
theorem twice (u : EReal) (s : ℝ) : u * (s : EReal) + u * (s : EReal) = u * ((2 * s : ℝ) : EReal) := by
  rcases lt_trichotomy s 0 with hs | rfl | hs
  · have h2 : 2 * s < 0 := by linarith
    induction u with
    | bot => rw [EReal.bot_mul_coe_of_neg hs, EReal.bot_mul_coe_of_neg h2]; rfl
    | top => rw [EReal.top_mul_coe_of_neg hs, EReal.top_mul_coe_of_neg h2]; rfl
    | coe u => rw [← EReal.coe_mul, ← EReal.coe_mul, ← EReal.coe_add]; congr 1; ring
  · simp
  · have h2 : 0 < 2 * s := by linarith
    induction u with
    | bot => rw [EReal.bot_mul_coe_of_pos hs, EReal.bot_mul_coe_of_pos h2]; rfl
    | top => rw [EReal.top_mul_coe_of_pos hs, EReal.top_mul_coe_of_pos h2]; rfl
    | coe u => rw [← EReal.coe_mul, ← EReal.coe_mul, ← EReal.coe_add]; congr 1; ring

/-- The two forms of the correction, for a positive number or infinity `z` under the root and a row of `n` entries. -/
theorem correction (n : ℝ) (hn : n ≠ 0) (z a P y c : EReal) (hz : 0 < z) :
    (c + Ideal.rsqrt z * y) - a * (Ideal.rsqrt z * Ideal.rsqrt z * Ideal.rsqrt z * Ideal.div P (n : EReal))
      = ((c + y * Ideal.rsqrt z) + a * Ideal.div (P * (half * Ideal.div (Ideal.rsqrt z) z)) (n : EReal))
          + Ideal.div (P * (half * Ideal.div (Ideal.rsqrt z) z)) (n : EReal) * a := by
  rw [half_eq, Ideal.div_coe hn, Ideal.div_coe hn, sub_eq_add_neg]
  induction z with
  | bot => simp at hz
  | top =>
    have e : Ideal.div 0 ⊤ = 0 := by simp [Ideal.div]
    simp [e]
  | coe z =>
    have hz' : 0 < z := by exact_mod_cast hz
    rw [Ideal.rsqrt_coe, if_neg (not_lt.mpr hz'.le), if_neg hz'.ne', Ideal.div_coe hz'.ne']
    have hs : (Real.sqrt z)⁻¹ * (Real.sqrt z)⁻¹ = 1 / z := by
      rw [← mul_inv, Real.mul_self_sqrt hz'.le, one_div]
    generalize (Real.sqrt z)⁻¹ = r at hs
    have e1 : a * (P * (((-(1 / 2) : ℝ) : EReal) * ((r : EReal) * ((1 / z : ℝ) : EReal))) * ((1 / n : ℝ) : EReal))
        = a * P * ((-(1 / 2) * (r * (1 / z)) * (1 / n) : ℝ) : EReal) := by
      simp only [EReal.coe_mul, mul_assoc]
    have e2 : a * ((r : EReal) * r * r * (P * ((1 / n : ℝ) : EReal)))
        = a * P * ((r * r * r * (1 / n) : ℝ) : EReal) := by
      simp only [EReal.coe_mul]; ac_rfl
    rw [mul_comm _ a, e1, e2, add_assoc (c + _), twice, mul_comm y, ← mul_neg, ← EReal.coe_neg]
    congr 3
    rw [hs]; ring

/-- The kernel's entry of the gradient in the row, the chain rule's one, and that they are the same. -/
def dx : EReal :=
  (d j + root x * (o j * g j)) - x j * (root x * root x * root x * Ideal.div (∑ k, x k * (o k * g k)) len)
def dxRef : EReal :=
  ((d j + o j * g j * root x) + x j * Ideal.div ((∑ k, x k * (o k * g k)) * (half * Ideal.div (root x) (under x))) len)
    + Ideal.div ((∑ k, x k * (o k * g k)) * (half * Ideal.div (root x) (under x))) len * x j

theorem dx_eq : dx x g o d j = dxRef x g o d j := by
  have h := correction 1024 (by norm_num) (under x) (x j) (∑ k, x k * (o k * g k)) (o j * g j) (d j) (under_pos x)
  rw [← len_eq] at h
  exact h

/-- A row's term of the gradient in the gain: the kernel's, the chain rule's, and that they are the same. -/
def dg : EReal := o j * x j * root x
def dgRef : EReal := x j * root x * o j

theorem dg_eq : dg x o j = dgRef x o j := by unfold dg dgRef; ac_rfl

/-- The two results' entries: `X` the rows, `B` the gradient that comes back through the weight, `D` the rows' other
    gradient, `G` the gain. -/
def outX (X B D : Fin 4096 → Fin 1024 → EReal) (G : Fin 1024 → EReal) (p : Fin 4096) (j : Fin 1024) : EReal :=
  dx (X p) G (B p) (D p) j
def outG (X B : Fin 4096 → Fin 1024 → EReal) (j : Fin 1024) : EReal := ∑ p : Fin 4096, dg (X p) (B p) j

/-- Row `i` of the `s`-th band of 512 rows. -/
def band (s : ℕ) (hs : s < 8) (i : Fin 512) : Fin 4096 := ⟨s * 512 + i.val, by omega⟩

/-- What is the first band's sum at first, and grows by the next band's sum each time, is the sum over all rows at last. -/
theorem bands_sum (H : Fin 4096 → EReal) (f : (n : ℕ) → n < 8 → EReal)
    (first : f 0 (by norm_num) = ∑ i, H (band 0 (by norm_num) i))
    (next : ∀ (s : ℕ) (h : s + 1 < 8), f (s + 1) h = f s (by omega) + ∑ i, H (band (s + 1) h i)) :
    f 7 (by norm_num) = ∑ p, H p := by
  refine Cert.Products.whole_sum (J := 8) (w := 512) (K := 4096) (by norm_num) H f 0 ?_ ?_ 7 (by norm_num) (by norm_num) rfl
  · rintro t h _ rfl
    exact first
  · rintro t h s hs rfl
    have := next s hs
    simp only [Nat.zero_add, Nat.add_sub_cancel]
    exact this

end Cert.NormMaths

end
-- ==== Proof.GnormGradient.lean ====
module

public import proofs.«01_k».proof.Defs
public import proofs.«01_k».proof.Proof.Gen.GnormBIdeal.Value
public import proofs.«01_k».proof.Proof.Gen.GnormBRefIdeal.Run
public import proofs.«01_k».proof.Proof.Gen.GnormB
public import proofs.«01_k».proof.Proof.NormMaths
public import Idealize.ShloMosaic.Lib.Pipeline.ReadBack
public import Idealize.ShloMosaic.Lib.Pipeline.ValueKit.Acc
public import Idealize.ShloMosaic.Lib.Pipeline.ValueKit.Geometry
public import Idealize.ShloMosaic.Lib.Pipeline.ValueKit.Tiles
public import Idealize.ShloMosaic.Lib.Pointwise

/-!
# The gradient of the four mixers' norms

The results of the four mixers are normalised row by row and laid side by side. A point takes a band of 512 rows: for each
mixer it stores the gradient in the mixer's result, and adds the band's part of the gradient in the mixer's gain to the
mixer's quarter of one row of 1024 entries.
-/

@[expose] public section

set_option maxRecDepth 16384

noncomputable section

namespace Cert.GnormGradient

open scoped BigOperators
open Idealize.ShloMosaic Idealize.ShloMosaic.TcCoe Idealize.SL.Sem Cert.GnormBIdeal Cert.GnormBIdeal.Gen Cert.NormMaths

/-- The row's length as the programs have it. -/
abbrev len : EReal := Ideal.ofBits FTy.f32 0x43800000#32
theorem len_eq : len = ((256 : ℝ) : EReal) := by
  simp [len, Ideal.ofBits, Ideal.ieee, -EReal.coe_mul]; norm_num

section Row

variable (x g o : Fin 256 → EReal) (j : Fin 256)

/-- What stands under a row's root, and the reciprocal root. -/
def under : EReal := Ideal.div (∑ k, x k * x k) len + eps
def root : EReal := Ideal.rsqrt (under x)

/-- The kernel's entry of the gradient in the row `x`, with the gain `g` and the normalised row's gradient `o`; the chain
    rule's entry; and that they are the same. -/
def dx : EReal := root x * (o j * g j) - x j * (root x * root x * root x * Ideal.div (∑ k, x k * (o k * g k)) len)
def dxRef : EReal :=
  (o j * g j * root x + x j * Ideal.div ((∑ k, x k * (o k * g k)) * (half * Ideal.div (root x) (under x))) len)
    + Ideal.div ((∑ k, x k * (o k * g k)) * (half * Ideal.div (root x) (under x))) len * x j

theorem dx_eq : dx x g o j = dxRef x g o j := by
  have hp := mean_pos 256 (by norm_num) x
  rw [← len_eq] at hp
  have h := correction 256 (by norm_num) (under x) (x j) (∑ k, x k * (o k * g k)) (o j * g j) 0 hp
  rw [← len_eq, zero_add, zero_add] at h
  exact h

/-- The row's term of the gradient in the gain. -/
def dg : EReal := o j * x j * root x

end Row

/-- The payloads of the four mixers are the same. -/
theorem grad_eq0 : @k0_pay2 Ideal _ = k0_pay6 := rfl
theorem grad_eq2 : @k0_pay10 Ideal _ = k0_pay6 := rfl
theorem grad_eq3 : @k0_pay14 Ideal _ = k0_pay6 := rfl
theorem part_eq0 : @k0_pay3 Ideal _ = k0_pay7 := rfl
theorem part_eq2 : @k0_pay11 Ideal _ = k0_pay7 := rfl
theorem part_eq3 : @k0_pay15 Ideal _ = k0_pay7 := rfl

theorem root_apply (x : Vec Ideal S512x256 .f32) (i : Fin 512) :
    k0_pay5 x (ix2 i (0 : Fin 1)) = root fun k => x (ix2 i k) := by
  pointwise [k0_pay5]
  rfl
theorem grad_apply (x o : Vec Ideal S512x256 .f32) (g : Vec Ideal S1x256 .f32) (i : Fin 512) (j : Fin 256) :
    k0_pay6 x o g (ix2 i j) = dx (fun k => x (ix2 i k)) (fun k => g (ix2 (0 : Fin 1) k)) (fun k => o (ix2 i k)) j := by
  pointwise [k0_pay6]
  simp only [root_apply]
  rfl
theorem part_apply (x o : Vec Ideal S512x256 .f32) (j : Fin 256) :
    k0_pay7 x o (ix2 (0 : Fin 1) j) = ∑ i : Fin 512, dg (fun k => x (ix2 i k)) (fun k => o (ix2 i k)) j := by
  pointwise [k0_pay7]
  simp only [root_apply]
  rfl
theorem next_apply (y v : Vec Ideal S1x256 .f32) (j : Fin 256) :
    k0_pay8 y v (ix2 (0 : Fin 1) j) = v (ix2 (0 : Fin 1) j) + y (ix2 (0 : Fin 1) j) := by
  pointwise [k0_pay8]

variable (m : (ℓ : Loc nD τ sig) → Buf (Elt Ideal) ℓ) (c : Dev nD)

/-- The arguments: the four results, the four gains and the gradient of the normalised results. -/
abbrev X0 : Vec Ideal S4096x256 .f32 := m ((c.tc : Thread nD τ).loc main_arg0)
abbrev X1 : Vec Ideal S4096x256 .f32 := m ((c.tc : Thread nD τ).loc main_arg1)
abbrev X2 : Vec Ideal S4096x256 .f32 := m ((c.tc : Thread nD τ).loc main_arg2)
abbrev X3 : Vec Ideal S4096x256 .f32 := m ((c.tc : Thread nD τ).loc main_arg3)
abbrev G : Vec Ideal S4x256 .f32 := m ((c.tc : Thread nD τ).loc main_arg4)
abbrev C : Vec Ideal S4096x1024 .f32 := m ((c.tc : Thread nD τ).loc main_arg5)

/-- Entry `k` of mixer `n`'s quarter. -/
def quarter (n : Fin 4) (k : Fin 256) : Fin 1024 := ⟨n.val * 256 + k.val, by omega⟩

/-- The results' entries, of the arguments. -/
def resX (X : Vec Ideal S4096x256 .f32) (G : Vec Ideal S4x256 .f32) (C : Vec Ideal S4096x1024 .f32) (n : Fin 4) (p : Fin 4096)
    (j : Fin 256) : EReal :=
  dx (fun k => X (ix2 p k)) (fun k => G (ix2 n k)) (fun k => C (ix2 p (quarter n k))) j
def resG (X : Vec Ideal S4096x256 .f32) (C : Vec Ideal S4096x1024 .f32) (n : Fin 4) (j : Fin 256) : EReal :=
  ∑ p : Fin 4096, dg (fun k => X (ix2 p k)) (fun k => C (ix2 p (quarter n k))) j

theorem V_g (n : Fin 4) (k : Fin 256) :
    (V m c main_v0 : Vec Ideal S1x1024 .f32) (ix2 (0 : Fin 1) (quarter n k)) = G m c (ix2 n k) := by
  have e : V m c main_v0 = shapeCast S1x1024 (G m c) shapeCasts_S4x256_S1x1024 := by
    show StableHlo.after hostOps0 (fun b => m (c, b)) main_v0 = _
    after_results_simp <;> rfl
  rw [e]
  pointwise []
  exact congrArg₂ (fun u v => G m c (ix2 u v)) (Fin.ext (by show (n.val * 256 + k.val) / 256 = n.val; omega))
    (Fin.ext (by show (n.val * 256 + k.val) % 256 = k.val; omega))

theorem e0 : ∀ t : Fin cfg0.N, win0_0.index t = ![t.val, 0] := (by decide +kernel : ∀ t : Fin grid0.N, _)
theorem e1 : ∀ t : Fin cfg0.N, win0_1.index t = ![t.val, 0] := (by decide +kernel : ∀ t : Fin grid0.N, _)
theorem e2 : ∀ t : Fin cfg0.N, win0_2.index t = ![t.val, 0] := (by decide +kernel : ∀ t : Fin grid0.N, _)
theorem e3 : ∀ t : Fin cfg0.N, win0_3.index t = ![t.val, 0] := (by decide +kernel : ∀ t : Fin grid0.N, _)
theorem e4 : ∀ t : Fin cfg0.N, win0_4.index t = ![0, 0] := (by decide +kernel : ∀ t : Fin grid0.N, _)
theorem e5 : ∀ t : Fin cfg0.N, win0_5.index t = ![t.val, 0] := (by decide +kernel : ∀ t : Fin grid0.N, _)
theorem e6 : ∀ t : Fin cfg0.N, win0_6.index t = ![t.val, 0] := (by decide +kernel : ∀ t : Fin grid0.N, _)
theorem e7 : ∀ t : Fin cfg0.N, win0_7.index t = ![t.val, 0] := (by decide +kernel : ∀ t : Fin grid0.N, _)
theorem e8 : ∀ t : Fin cfg0.N, win0_8.index t = ![t.val, 0] := (by decide +kernel : ∀ t : Fin grid0.N, _)
theorem e9 : ∀ t : Fin cfg0.N, win0_9.index t = ![t.val, 0] := (by decide +kernel : ∀ t : Fin grid0.N, _)
theorem e10 : ∀ t : Fin cfg0.N, win0_10.index t = ![0, 0] := (by decide +kernel : ∀ t : Fin grid0.N, _)

/-- A point's blocks. -/
def bX0 (t : Fin cfg0.N) : Vec Ideal S512x256 .f32 := iblk m c 0 t
def bX1 (t : Fin cfg0.N) : Vec Ideal S512x256 .f32 := iblk m c 1 t
def bX2 (t : Fin cfg0.N) : Vec Ideal S512x256 .f32 := iblk m c 2 t
def bX3 (t : Fin cfg0.N) : Vec Ideal S512x256 .f32 := iblk m c 3 t
def bG (t : Fin cfg0.N) : Vec Ideal S1x1024 .f32 := iblk m c 4 t
def bC (t : Fin cfg0.N) : Vec Ideal S512x1024 .f32 := iblk m c 5 t

theorem pt_lt (t : Fin cfg0.N) : t.val < 8 := lt_of_lt_of_eq t.isLt N_0
abbrev row (t : Fin cfg0.N) (i : Fin 512) : Fin 4096 := band t.val (pt_lt t) i

theorem bX0_apply (t : Fin cfg0.N) (i : Fin 512) (k : Fin 256) : bX0 m c t (ix2 i k) = X0 m c (ix2 (row t i) k) := by
  unfold bX0
  blk_ext [iblk, e0, band]
theorem bX1_apply (t : Fin cfg0.N) (i : Fin 512) (k : Fin 256) : bX1 m c t (ix2 i k) = X1 m c (ix2 (row t i) k) := by
  unfold bX1
  blk_ext [iblk, e1, band]
theorem bX2_apply (t : Fin cfg0.N) (i : Fin 512) (k : Fin 256) : bX2 m c t (ix2 i k) = X2 m c (ix2 (row t i) k) := by
  unfold bX2
  blk_ext [iblk, e2, band]
theorem bX3_apply (t : Fin cfg0.N) (i : Fin 512) (k : Fin 256) : bX3 m c t (ix2 i k) = X3 m c (ix2 (row t i) k) := by
  unfold bX3
  blk_ext [iblk, e3, band]
theorem bG_apply (t : Fin cfg0.N) (n : Fin 4) (k : Fin 256) : bG m c t (ix2 (0 : Fin 1) (quarter n k)) = G m c (ix2 n k) := by
  rw [← V_g]
  unfold bG
  blk_ext [iblk, e4]
theorem bC_apply (t : Fin cfg0.N) (i : Fin 512) (k : Fin 1024) : bC m c t (ix2 i k) = C m c (ix2 (row t i) k) := by
  unfold bC
  blk_ext [iblk, e5, band]

/-- A mixer's quarter of a band's gradient, of the gains and of the gains' gradient so far, as a load has it. -/
def lC (t : Fin cfg0.N) (off : ℕ) (inb : ∀ a, (![0, off] : Fin 2 → ℕ) a + S512x256.size a ≤ S512x1024.size a) : Vec Ideal S512x256 .f32 := View.ld (bC m c t) (Rect.unit ![0, off] ![512, 256] inb)
def lG (t : Fin cfg0.N) (off : ℕ) (inb : ∀ a, (![0, off] : Fin 2 → ℕ) a + S1x256.size a ≤ S1x1024.size a) : Vec Ideal S1x256 .f32 := View.ld (bG m c t) (Rect.unit ![0, off] ![1, 256] inb)
def lA (v : Vec Ideal S1x1024 .f32) (off : ℕ) (inb : ∀ a, (![0, off] : Fin 2 → ℕ) a + S1x256.size a ≤ S1x1024.size a) : Vec Ideal S1x256 .f32 := View.ld v (Rect.unit ![0, off] ![1, 256] inb)

theorem lC_apply (t : Fin cfg0.N) (n : Fin 4) (inb) (i : Fin 512) (k : Fin 256) :
    lC m c t (n.val * 256) inb (ix2 i k) = C m c (ix2 (row t i) (quarter n k)) := by
  rw [← bC_apply]
  refine View.ld_unit_apply_of (bC m c t) _ _ _ _ _ fun a => ?_
  match a with
  | ⟨0, _⟩ => exact (Nat.zero_add _).symm
  | ⟨1, _⟩ => rfl
theorem lG_apply (t : Fin cfg0.N) (n : Fin 4) (inb) (k : Fin 256) :
    lG m c t (n.val * 256) inb (ix2 (0 : Fin 1) k) = G m c (ix2 n k) := by
  rw [← bG_apply m c t]
  refine View.ld_unit_apply_of (bG m c t) _ _ _ _ _ fun a => ?_
  match a with
  | ⟨0, _⟩ => rfl
  | ⟨1, _⟩ => rfl
theorem lA_apply (v : Vec Ideal S1x1024 .f32) (n : Fin 4) (inb) (k : Fin 256) :
    lA v (n.val * 256) inb (ix2 (0 : Fin 1) k) = v (ix2 (0 : Fin 1) (quarter n k)) := by
  refine View.ld_unit_apply_of v _ _ _ _ _ fun a => ?_
  match a with
  | ⟨0, _⟩ => rfl
  | ⟨1, _⟩ => rfl

/-- A mixer's result and its block at a point, by the mixer's number. -/
def X (n : Fin 4) : Vec Ideal S4096x256 .f32 := match n with | 0 => X0 m c | 1 => X1 m c | 2 => X2 m c | 3 => X3 m c
def bX (n : Fin 4) (t : Fin cfg0.N) : Vec Ideal S512x256 .f32 :=
  match n with | 0 => bX0 m c t | 1 => bX1 m c t | 2 => bX2 m c t | 3 => bX3 m c t
theorem bX_apply (n : Fin 4) (t : Fin cfg0.N) (i : Fin 512) (k : Fin 256) : bX m c n t (ix2 i k) = X m c n (ix2 (row t i) k) := by
  match n with
  | 0 => exact bX0_apply m c t i k
  | 1 => exact bX1_apply m c t i k
  | 2 => exact bX2_apply m c t i k
  | 3 => exact bX3_apply m c t i k

/-- What a point computes for a mixer. -/
theorem point_dx (n : Fin 4) (t : Fin cfg0.N) (inb inb') (i : Fin 512) (j : Fin 256) :
    k0_pay6 (bX m c n t) (lC m c t (n.val * 256) inb) (lG m c t (n.val * 256) inb') (ix2 i j)
      = resX (X m c n) (G m c) (C m c) n (row t i) j := by
  rw [grad_apply]
  simp only [bX_apply, lC_apply, lG_apply]
  rfl
theorem point_dg (n : Fin 4) (t : Fin cfg0.N) (inb) (j : Fin 256) :
    k0_pay7 (bX m c n t) (lC m c t (n.val * 256) inb) (ix2 (0 : Fin 1) j)
      = ∑ i : Fin 512, dg (fun k => X m c n (ix2 (row t i) k)) (fun k => C m c (ix2 (row t i) (quarter n k))) j := by
  rw [part_apply]
  simp only [bX_apply, lC_apply]

/-- A place of the row of 1024 lies in one quarter. -/
theorem quarter_eq (n n' : Fin 4) (j : Fin 256) (x : S1x256.Idx) (h : (quarter n j).val = n'.val * 256 + (x 1).val) :
    n = n' ∧ x = ix2 (0 : Fin 1) j := by
  have hj := j.isLt
  have hx : (x 1).val < 256 := (x 1).isLt
  have h' : n.val * 256 + j.val = n'.val * 256 + (x 1).val := h
  refine ⟨Fin.ext (by omega), ?_⟩
  obtain ⟨a, b, rfl⟩ : ∃ (a : Fin 1) (b : Fin 256), x = ix2 a b := ⟨x 0, x 1, eq_ix2 x⟩
  obtain rfl : a = 0 := Subsingleton.elim _ _
  exact congrArg _ (Fin.ext (by show b.val = j.val; have : n.val * 256 + j.val = n'.val * 256 + b.val := h'; omega))

theorem first10 (t : Fin cfg0.N) (h : t.val = 0) (n : Fin 4) (j : Fin 256) :
    (outsAt0 m c t.val t.isLt).2.2.2.2 (ix2 (0 : Fin 1) (quarter n j))
      = ∑ i : Fin 512, dg (fun k => X m c n (ix2 (row t i) k)) (fun k => C m c (ix2 (row t i) (quarter n k))) j := by
  rw [outsAt0_A m c t (by omega) (by omega) (by omega) (by omega) (by omega) (by omega) (by omega) (by omega)]
  frame_out
  canon_tiles x h
  · obtain ⟨rfl, rfl⟩ := quarter_eq n 3 j x h1
    exact point_dg m c 3 t _ j
  · obtain ⟨rfl, rfl⟩ := quarter_eq n 2 j x h1
    exact point_dg m c 2 t _ j
  · obtain ⟨rfl, rfl⟩ := quarter_eq n 1 j x h1
    exact point_dg m c 1 t _ j
  · obtain ⟨rfl, rfl⟩ := quarter_eq n 0 j x (h1.trans (Nat.zero_add _).symm)
    exact point_dg m c 0 t _ j

theorem next10 (t : Fin cfg0.N) (h : t.val ≠ 0) (n : Fin 4) (j : Fin 256) :
    (outsAt0 m c t.val t.isLt).2.2.2.2 (ix2 (0 : Fin 1) (quarter n j))
      = (outsAt0 m c (t.val - 1) (Nat.lt_of_le_of_lt (Nat.sub_le _ _) t.isLt)).2.2.2.2 (ix2 (0 : Fin 1) (quarter n j))
        + ∑ i : Fin 512, dg (fun k => X m c n (ix2 (row t i) k)) (fun k => C m c (ix2 (row t i) (quarter n k))) j := by
  have hlt := pt_lt t
  rw [outsAt0_B m c t (by omega) (by omega) (by omega) (by omega) (by omega) (by omega) (by omega) (by omega)]
  frame_out
  generalize (outsAt0 m c (t.val - 1) _).2.2.2.2 = v
  canon_tiles x h
  · obtain ⟨rfl, rfl⟩ := quarter_eq n 3 j x h1
    exact (next_apply _ (lA v _ _) j).trans (congrArg₂ (· + ·) (lA_apply v 3 _ j) (point_dg m c 3 t _ j))
  · obtain ⟨rfl, rfl⟩ := quarter_eq n 2 j x h1
    exact (next_apply _ (lA v _ _) j).trans (congrArg₂ (· + ·) (lA_apply v 2 _ j) (point_dg m c 2 t _ j))
  · obtain ⟨rfl, rfl⟩ := quarter_eq n 1 j x h1
    exact (next_apply _ (lA v _ _) j).trans (congrArg₂ (· + ·) (lA_apply v 1 _ j) (point_dg m c 1 t _ j))
  · obtain ⟨rfl, rfl⟩ := quarter_eq n 0 j x (h1.trans (Nat.zero_add _).symm)
    exact (next_apply _ (lA v _ _) j).trans (congrArg₂ (· + ·) (lA_apply v 0 _ j) (point_dg m c 0 t _ j))

/-- The gains' gradient after band `s`. -/
def gain (n : Fin 4) (j : Fin 256) (s : ℕ) (h : s < 8) : EReal :=
  (outsAt0 m c s (lt_of_lt_of_eq h N_0.symm)).2.2.2.2 (ix2 (0 : Fin 1) (quarter n j))

theorem gain_first (n : Fin 4) (j : Fin 256) (s : ℕ) (h : s < 8) (h0 : s = 0) :
    gain m c n j s h
      = ∑ i : Fin 512, dg (fun k => X m c n (ix2 (band s h i) k)) (fun k => C m c (ix2 (band s h i) (quarter n k))) j := by
  unfold gain
  exact first10 m c ⟨s, lt_of_lt_of_eq h N_0.symm⟩ h0 n j

theorem gain_next (n : Fin 4) (j : Fin 256) (s : ℕ) (h : s < 8) (h0 : s ≠ 0) :
    gain m c n j s h = gain m c n j (s - 1) (by omega)
      + ∑ i : Fin 512, dg (fun k => X m c n (ix2 (band s h i) k)) (fun k => C m c (ix2 (band s h i) (quarter n k))) j := by
  unfold gain
  exact next10 m c ⟨s, lt_of_lt_of_eq h N_0.symm⟩ h0 n j

/-- After the last point the gains' gradient is the sum over all rows. -/
theorem last10 (t : Fin cfg0.N) (ht : t.val % 8 = 7) (n : Fin 4) (j : Fin 256) :
    (outsAt0 m c t.val t.isLt).2.2.2.2 (ix2 (0 : Fin 1) (quarter n j)) = resG (X m c n) (C m c) n j := by
  have e : ∀ (s : ℕ) (h : s < 8), s = 7 → gain m c n j s h = resG (X m c n) (C m c) n j := by
    rintro s h rfl
    exact bands_sum (fun p => dg (fun k => X m c n (ix2 p k)) (fun k => C m c (ix2 p (quarter n k))) j) (gain m c n j)
      (gain_first m c n j 0 _ rfl) fun s h => gain_next m c n j (s + 1) h (Nat.succ_ne_zero s)
  exact e t.val (pt_lt t) (by have := pt_lt t; omega)

/-- What a point leaves in the results that it writes whole. -/
theorem left6 (t : Fin cfg0.N) (i : Fin 512) (j : Fin 256) :
    (outsAt0 m c t.val t.isLt).1 (ix2 i j) = resX (X m c 0) (G m c) (C m c) 0 (row t i) j := by
  have hlt := pt_lt t
  by_cases h : t.val = 0
  · rw [outsAt0_A m c t (by omega) (by omega) (by omega) (by omega) (by omega) (by omega) (by omega) (by omega)]
    frame_out; exact point_dx m c 0 t _ _ i j
  · rw [outsAt0_B m c t (by omega) (by omega) (by omega) (by omega) (by omega) (by omega) (by omega) (by omega)]
    frame_out; exact point_dx m c 0 t _ _ i j
theorem left7 (t : Fin cfg0.N) (i : Fin 512) (j : Fin 256) :
    (outsAt0 m c t.val t.isLt).2.1 (ix2 i j) = resX (X m c 1) (G m c) (C m c) 1 (row t i) j := by
  have hlt := pt_lt t
  by_cases h : t.val = 0
  · rw [outsAt0_A m c t (by omega) (by omega) (by omega) (by omega) (by omega) (by omega) (by omega) (by omega)]
    frame_out; exact point_dx m c 1 t _ _ i j
  · rw [outsAt0_B m c t (by omega) (by omega) (by omega) (by omega) (by omega) (by omega) (by omega) (by omega)]
    frame_out; exact point_dx m c 1 t _ _ i j
theorem left8 (t : Fin cfg0.N) (i : Fin 512) (j : Fin 256) :
    (outsAt0 m c t.val t.isLt).2.2.1 (ix2 i j) = resX (X m c 2) (G m c) (C m c) 2 (row t i) j := by
  have hlt := pt_lt t
  by_cases h : t.val = 0
  · rw [outsAt0_A m c t (by omega) (by omega) (by omega) (by omega) (by omega) (by omega) (by omega) (by omega)]
    frame_out; exact point_dx m c 2 t _ _ i j
  · rw [outsAt0_B m c t (by omega) (by omega) (by omega) (by omega) (by omega) (by omega) (by omega) (by omega)]
    frame_out; exact point_dx m c 2 t _ _ i j
theorem left9 (t : Fin cfg0.N) (i : Fin 512) (j : Fin 256) :
    (outsAt0 m c t.val t.isLt).2.2.2.1 (ix2 i j) = resX (X m c 3) (G m c) (C m c) 3 (row t i) j := by
  have hlt := pt_lt t
  by_cases h : t.val = 0
  · rw [outsAt0_A m c t (by omega) (by omega) (by omega) (by omega) (by omega) (by omega) (by omega) (by omega)]
    frame_out; exact point_dx m c 3 t _ _ i j
  · rw [outsAt0_B m c t (by omega) (by omega) (by omega) (by omega) (by omega) (by omega) (by omega) (by omega)]
    frame_out; exact point_dx m c 3 t _ _ i j

/-- The result arrays. -/
theorem final6 (R : Vec Ideal S4096x256 .f32) (hR : ∀ p j, R (ix2 p j) = resX (X m c 0) (G m c) (C m c) 0 p j) :
    (dats m 0 c).arrAt 6 cfg0.N = R := by
  refine (dats m 0 c).arrAt_eq_of_covers 6 _ (by decide +kernel) fun t hf y => ?_
  blk_simp
  rw [after0_6]
  obtain ⟨i, j, rfl⟩ : ∃ (i : Fin 512) (j : Fin 256), y = ix2 i j := ⟨y 0, y 1, eq_ix2 y⟩
  refine (left6 m c t i j).trans ((hR (row t i) j).symm.trans ?_)
  blk_ext [e6, band]
theorem final7 (R : Vec Ideal S4096x256 .f32) (hR : ∀ p j, R (ix2 p j) = resX (X m c 1) (G m c) (C m c) 1 p j) :
    (dats m 0 c).arrAt 7 cfg0.N = R := by
  refine (dats m 0 c).arrAt_eq_of_covers 7 _ (by decide +kernel) fun t hf y => ?_
  blk_simp
  rw [after0_7]
  obtain ⟨i, j, rfl⟩ : ∃ (i : Fin 512) (j : Fin 256), y = ix2 i j := ⟨y 0, y 1, eq_ix2 y⟩
  refine (left7 m c t i j).trans ((hR (row t i) j).symm.trans ?_)
  blk_ext [e7, band]
theorem final8 (R : Vec Ideal S4096x256 .f32) (hR : ∀ p j, R (ix2 p j) = resX (X m c 2) (G m c) (C m c) 2 p j) :
    (dats m 0 c).arrAt 8 cfg0.N = R := by
  refine (dats m 0 c).arrAt_eq_of_covers 8 _ (by decide +kernel) fun t hf y => ?_
  blk_simp
  rw [after0_8]
  obtain ⟨i, j, rfl⟩ : ∃ (i : Fin 512) (j : Fin 256), y = ix2 i j := ⟨y 0, y 1, eq_ix2 y⟩
  refine (left8 m c t i j).trans ((hR (row t i) j).symm.trans ?_)
  blk_ext [e8, band]
theorem final9 (R : Vec Ideal S4096x256 .f32) (hR : ∀ p j, R (ix2 p j) = resX (X m c 3) (G m c) (C m c) 3 p j) :
    (dats m 0 c).arrAt 9 cfg0.N = R := by
  refine (dats m 0 c).arrAt_eq_of_covers 9 _ (by decide +kernel) fun t hf y => ?_
  blk_simp
  rw [after0_9]
  obtain ⟨i, j, rfl⟩ : ∃ (i : Fin 512) (j : Fin 256), y = ix2 i j := ⟨y 0, y 1, eq_ix2 y⟩
  refine (left9 m c t i j).trans ((hR (row t i) j).symm.trans ?_)
  blk_ext [e9, band]
theorem final10 (R : Vec Ideal S1x1024 .f32) (hR : ∀ n j, R (ix2 (0 : Fin 1) (quarter n j)) = resG (X m c n) (C m c) n j) :
    (dats m 0 c).arrAt 10 cfg0.N = R := by
  refine (dats m 0 c).arrAt_eq_of_covers 10 _ (by decide +kernel) fun t hf y => ?_
  blk_simp
  rw [after0_10]
  obtain ⟨n, j, rfl⟩ : ∃ (n : Fin 4) (j : Fin 256), y = ix2 (0 : Fin 1) (quarter n j) := by
    obtain ⟨a, b, rfl⟩ : ∃ (a : Fin 1) (b : Fin 1024), y = ix2 a b := ⟨y 0, y 1, eq_ix2 y⟩
    obtain rfl : a = 0 := Subsingleton.elim _ _
    exact ⟨⟨b.val / 256, by omega⟩, ⟨b.val % 256, by omega⟩,
      congrArg _ (Fin.ext (by show b.val = b.val / 256 * 256 + b.val % 256; omega))⟩
  refine (last10 m c t ((flush0_10 t).mp hf) n j).trans ((hR n j).symm.trans ?_)
  blk_ext [e10]

theorem place (C : Vec Ideal S4096x1024 .f32) (p : Fin 4096) (n : Fin 4) (o : ℕ) (ho : o = n.val * 256) :
    (fun k : Fin 256 => C (ix2 p (quarter n k))) = fun k : Fin 256 => C (ix2 p ⟨o + k.val, by have := n.isLt; omega⟩) := by
  subst ho
  rfl

/-- The reference's arguments: a mixer's result, and the gradient. -/
def RX (m' : (ℓ : Loc GnormBRefIdeal.nD GnormBRefIdeal.τ GnormBRefIdeal.sig) → Buf (Elt Ideal) ℓ) (c : Dev nD) (n : Fin 4) : Vec Ideal S4096x256 .f32 :=
  match n with
  | 0 => m' (c.tc.loc GnormBRefIdeal.main_arg0)
  | 1 => m' (c.tc.loc GnormBRefIdeal.main_arg1)
  | 2 => m' (c.tc.loc GnormBRefIdeal.main_arg2)
  | 3 => m' (c.tc.loc GnormBRefIdeal.main_arg3)
def RO (m' : (ℓ : Loc GnormBRefIdeal.nD GnormBRefIdeal.τ GnormBRefIdeal.sig) → Buf (Elt Ideal) ℓ) (c : Dev nD) : Vec Ideal S4096x1024 .f32 :=
  m' (c.tc.loc GnormBRefIdeal.main_arg5)

theorem sums (f g : Fin 4096 → EReal) (h : ∀ p, f p = g p) : ∑ p, f p = ∑ p, g p := Finset.sum_congr rfl fun p _ => h p

/-- A row's part of the gains' gradient as the reference computes it, for each mixer. -/
theorem ref_row0 (m' : (ℓ : Loc GnormBRefIdeal.nD GnormBRefIdeal.τ GnormBRefIdeal.sig) → Buf (Elt Ideal) ℓ) (c : Dev nD) (p : Fin 4096) (j : Fin 256) :
    RX m' c 0 (ix2 p j) * Ideal.rsqrt (GnormBRefIdeal.Value.res_main_v8 (StableHlo.launchContents m' c) (ix2 p (0 : Fin 1)))
      * RO m' c (ix2 p ⟨j.val, by omega⟩)
      = dg (fun k => RX m' c 0 (ix2 p k)) (fun k => RO m' c (ix2 p (quarter 0 k))) j := by
  rw [place (RO m' c) p 0 0 rfl]
  pointwise [GnormBRefIdeal.Value.res_main_v8]
  exact (mul_comm _ _).trans (mul_assoc _ _ _).symm
theorem ref_row1 (m' : (ℓ : Loc GnormBRefIdeal.nD GnormBRefIdeal.τ GnormBRefIdeal.sig) → Buf (Elt Ideal) ℓ) (c : Dev nD) (p : Fin 4096) (j : Fin 256) :
    RX m' c 1 (ix2 p j) * Ideal.rsqrt (GnormBRefIdeal.Value.res_main_v26 (StableHlo.launchContents m' c) (ix2 p (0 : Fin 1)))
      * RO m' c (ix2 p ⟨256 + j.val, by omega⟩)
      = dg (fun k => RX m' c 1 (ix2 p k)) (fun k => RO m' c (ix2 p (quarter 1 k))) j := by
  rw [place (RO m' c) p 1 256 rfl]
  pointwise [GnormBRefIdeal.Value.res_main_v26]
  exact (mul_comm _ _).trans (mul_assoc _ _ _).symm
theorem ref_row2 (m' : (ℓ : Loc GnormBRefIdeal.nD GnormBRefIdeal.τ GnormBRefIdeal.sig) → Buf (Elt Ideal) ℓ) (c : Dev nD) (p : Fin 4096) (j : Fin 256) :
    RX m' c 2 (ix2 p j) * Ideal.rsqrt (GnormBRefIdeal.Value.res_main_v44 (StableHlo.launchContents m' c) (ix2 p (0 : Fin 1)))
      * RO m' c (ix2 p ⟨512 + j.val, by omega⟩)
      = dg (fun k => RX m' c 2 (ix2 p k)) (fun k => RO m' c (ix2 p (quarter 2 k))) j := by
  rw [place (RO m' c) p 2 512 rfl]
  pointwise [GnormBRefIdeal.Value.res_main_v44]
  exact (mul_comm _ _).trans (mul_assoc _ _ _).symm
theorem ref_row3 (m' : (ℓ : Loc GnormBRefIdeal.nD GnormBRefIdeal.τ GnormBRefIdeal.sig) → Buf (Elt Ideal) ℓ) (c : Dev nD) (p : Fin 4096) (j : Fin 256) :
    RX m' c 3 (ix2 p j) * Ideal.rsqrt (GnormBRefIdeal.Value.res_main_v62 (StableHlo.launchContents m' c) (ix2 p (0 : Fin 1)))
      * RO m' c (ix2 p ⟨768 + j.val, by omega⟩)
      = dg (fun k => RX m' c 3 (ix2 p k)) (fun k => RO m' c (ix2 p (quarter 3 k))) j := by
  rw [place (RO m' c) p 3 768 rfl]
  pointwise [GnormBRefIdeal.Value.res_main_v62]
  exact (mul_comm _ _).trans (mul_assoc _ _ _).symm

theorem ref_gain (m' : (ℓ : Loc GnormBRefIdeal.nD GnormBRefIdeal.τ GnormBRefIdeal.sig) → Buf (Elt Ideal) ℓ) (c : Dev nD) (n : Fin 4) (j : Fin 256) :
    (GnormBRefIdeal.Value.val4 (StableHlo.launchContents m' c) (Proc.tc.devRef GnormBRefIdeal.main_v168) : Vec Ideal S1x1024 .f32)
      (ix2 (0 : Fin 1) (quarter n j)) = resG (RX m' c n) (RO m' c) n j := by
  rw [GnormBRefIdeal.Value.val4_main_v168]
  pointwise [GnormBRefIdeal.Value.res_main_v68, GnormBRefIdeal.Value.res_main_v76, GnormBRefIdeal.Value.res_main_v50, GnormBRefIdeal.Value.res_main_v75, GnormBRefIdeal.Value.res_main_v32, GnormBRefIdeal.Value.res_main_v74, GnormBRefIdeal.Value.res_main_v14, GnormBRefIdeal.Value.res_main_v73, GnormBRefIdeal.Value.res_main_v63, GnormBRefIdeal.Value.res_main_v45, GnormBRefIdeal.Value.res_main_v27, GnormBRefIdeal.Value.res_main_v9]
  have hq : ∀ (n : Fin 4), (quarter n j).val / 256 = n.val ∧ (quarter n j).val % 256 = j.val := fun n =>
    ⟨by show (n.val * 256 + j.val) / 256 = n.val; omega, by show (n.val * 256 + j.val) % 256 = j.val; omega⟩
  simp only [hq, Fin.sum_univ_one]
  match n with
  | 0 =>
    simp
    exact sums _ _ fun p => ref_row0 m' c p j
  | 1 =>
    simp
    exact sums _ _ fun p => ref_row1 m' c p j
  | 2 =>
    simp
    exact sums _ _ fun p => ref_row2 m' c p j
  | 3 =>
    simp
    exact sums _ _ fun p => ref_row3 m' c p j

theorem algebraic : @algebraic_GnormBIdeal_GnormBRefIdeal Cert.GnormBIdeal.Gen.facts Cert.GnormBRefIdeal.Gen.facts := by
  intro m ρ m' ρ' _ hagree
  refine ⟨_, _, _, _, _, ?_, (θ_run Cert.GnormBRefIdeal.defs _ _).mono (fun r h c => h c) (GnormBRefIdeal.Value.run m' ρ')⟩
  refine (θ_run Cert.GnormBIdeal.defs _ _).mono (fun r h c => ?_) (Value.run_blocks m ρ)
  obtain ⟨h6, h7, h8, h9, h10, k⟩ := h c
  obtain ⟨a0, a1, a2, a3, a4, a5⟩ := hagree c
  refine ⟨h6.trans (final6 m c _ fun p j => ?_), h7.trans (final7 m c _ fun p j => ?_), h8.trans (final8 m c _ fun p j => ?_),
    h9.trans (final9 m c _ fun p j => ?_), h10.trans (final10 m c _ fun n j => ?_), k⟩
  on_goal 1 =>
    show _ = resX (X0 m c) (G m c) (C m c) 0 p j
    rw [X0, G, C, ← a0, ← a4, ← a5, resX, dx_eq, place (m' (c.tc.loc GnormBRefIdeal.main_arg5)) p 0 0 rfl]
  on_goal 2 =>
    show _ = resX (X1 m c) (G m c) (C m c) 1 p j
    rw [X1, G, C, ← a1, ← a4, ← a5, resX, dx_eq, place (m' (c.tc.loc GnormBRefIdeal.main_arg5)) p 1 256 rfl]
  on_goal 3 =>
    show _ = resX (X2 m c) (G m c) (C m c) 2 p j
    rw [X2, G, C, ← a2, ← a4, ← a5, resX, dx_eq, place (m' (c.tc.loc GnormBRefIdeal.main_arg5)) p 2 512 rfl]
  on_goal 4 =>
    show _ = resX (X3 m c) (G m c) (C m c) 3 p j
    rw [X3, G, C, ← a3, ← a4, ← a5, resX, dx_eq, place (m' (c.tc.loc GnormBRefIdeal.main_arg5)) p 3 768 rfl]
  pick_goal 5
  · have e : X m c n = RX m' c n := by
      match n with
      | 0 => exact a0.symm
      | 1 => exact a1.symm
      | 2 => exact a2.symm
      | 3 => exact a3.symm
    have e' : C m c = RO m' c := a5.symm
    rw [e, e', ← ref_gain m' c n j]
    exact congrFun (GnormBRefIdeal.Value.val4_main_v168 _).symm _
  all_goals
    pointwise [GnormBRefIdeal.Value.res_main_v149, GnormBRefIdeal.Value.res_main_v160, GnormBRefIdeal.Value.res_main_v126, GnormBRefIdeal.Value.res_main_v137, GnormBRefIdeal.Value.res_main_v103, GnormBRefIdeal.Value.res_main_v114, GnormBRefIdeal.Value.res_main_v81, GnormBRefIdeal.Value.res_main_v92, GnormBRefIdeal.Value.res_main_v73, GnormBRefIdeal.Value.res_main_v74, GnormBRefIdeal.Value.res_main_v75, GnormBRefIdeal.Value.res_main_v76, GnormBRefIdeal.Value.res_main_v9, GnormBRefIdeal.Value.res_main_v8, GnormBRefIdeal.Value.res_main_v27, GnormBRefIdeal.Value.res_main_v26, GnormBRefIdeal.Value.res_main_v45, GnormBRefIdeal.Value.res_main_v44, GnormBRefIdeal.Value.res_main_v63, GnormBRefIdeal.Value.res_main_v62, GnormBRefIdeal.Value.res_main_v15, GnormBRefIdeal.Value.res_main_v33, GnormBRefIdeal.Value.res_main_v51, GnormBRefIdeal.Value.res_main_v69, GnormBRefIdeal.Value.res_main_v14, GnormBRefIdeal.Value.res_main_v32, GnormBRefIdeal.Value.res_main_v50, GnormBRefIdeal.Value.res_main_v68]
    simp only [Fin.sum_univ_one]
    rfl

end Cert.GnormGradient

end
-- ==== Proof.Maths.lean ====
/- The backward pass of softmax attention with grouped heads, over the real numbers: the scores, the softmax
   weights, the gradients, and the identities by which the two ways of computing them agree. -/
module

public import Mathlib.Analysis.SpecialFunctions.Log.Basic
public import Idealize.ShloMosaic.PureOps.Ideal
public import Idealize.ShloMosaic.Lib.ReduceAll

@[expose] public section

noncomputable section

namespace Cert.Dense

open scoped BigOperators
open Idealize.ShloMosaic

/-- A sum of real numbers, read in the extended reals. -/
theorem coe_sum {ι : Type*} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The greatest of finitely many real numbers, at least one, is a real number. -/
theorem fold_max_real {ι : Type*} (s : Finset ι) (hs : s.Nonempty) (f : ι → ℝ) :
    ∃ M : ℝ, s.fold max (⊥ : EReal) (fun i => ((f i : ℝ) : EReal)) = (M : EReal) := by
  classical
  obtain ⟨i0, h0⟩ := hs
  have hlo : ((f i0 : ℝ) : EReal) ≤ s.fold max (⊥ : EReal) (fun i => ((f i : ℝ) : EReal)) :=
    (Finset.le_fold_max _).mpr (Or.inr ⟨i0, h0, le_rfl⟩)
  have hhi : s.fold max (⊥ : EReal) (fun i => ((f i : ℝ) : EReal)) < ⊤ :=
    (Finset.fold_max_lt _).mpr ⟨bot_lt_top, fun i _ => EReal.coe_lt_top _⟩
  have hne : s.fold max (⊥ : EReal) (fun i => ((f i : ℝ) : EReal)) ≠ ⊥ :=
    fun h => by rw [h] at hlo; exact absurd (lt_of_lt_of_le (EReal.bot_lt_coe (f i0)) hlo) (lt_irrefl _)
  exact ⟨_, (EReal.coe_toReal hhi.ne hne).symm⟩

/-- Query head `r` of group `g`. -/
def hd (g r : Fin 2) : Fin 4 := ⟨g.val * 2 + r.val, by omega⟩

variable (Q CT : Fin 2 → Fin 2048 → Fin 4 → Fin 64 → ℝ) (K V : Fin 2 → Fin 2048 → Fin 2 → Fin 64 → ℝ)

/-- The scaled score of query `i` against key `j`. -/
def score (b g r : Fin 2) (i j : Fin 2048) : ℝ := (∑ d, K b j g d * Q b i (hd g r) d) * (1 / 8)
/-- The softmax denominator of query `i`. -/
def denom (b g r : Fin 2) (i : Fin 2048) : ℝ := ∑ j, Real.exp (score Q K b g r i j)
/-- The softmax weight of key `j` at query `i`. -/
def prob (b g r : Fin 2) (i j : Fin 2048) : ℝ := Real.exp (score Q K b g r i j) / denom Q K b g r i
/-- The attention's output. -/
def outp (b g r : Fin 2) (i : Fin 2048) (d : Fin 64) : ℝ := ∑ j, V b j g d * prob Q K b g r i j
/-- The cotangent of the softmax weights. -/
def dprob (b g r : Fin 2) (i j : Fin 2048) : ℝ := ∑ d, CT b i (hd g r) d * V b j g d
/-- The weights' cotangent averaged under the weights. -/
def avg (b g r : Fin 2) (i : Fin 2048) : ℝ := ∑ j, prob Q K b g r i j * dprob CT V b g r i j
/-- The cotangent of the scores. -/
def dscore (b g r : Fin 2) (i j : Fin 2048) : ℝ := prob Q K b g r i j * (dprob CT V b g r i j - avg Q CT K V b g r i)
/-- The gradient of the queries. -/
def dQ (b g r : Fin 2) (i : Fin 2048) (d : Fin 64) : ℝ := (∑ j, dscore Q CT K V b g r i j * K b j g d) * (1 / 8)
/-- The gradient of the keys. -/
def dK (b g : Fin 2) (j : Fin 2048) (d : Fin 64) : ℝ := ∑ r, ∑ i, dscore Q CT K V b g r i j * (Q b i (hd g r) d * (1 / 8))
/-- The gradient of the values. -/
def dV (b g : Fin 2) (j : Fin 2048) (d : Fin 64) : ℝ := ∑ r, ∑ i, prob Q K b g r i j * CT b i (hd g r) d

theorem denom_pos (b g r : Fin 2) (i : Fin 2048) : 0 < denom Q K b g r i :=
  Finset.sum_pos (fun _ _ => Real.exp_pos _) ⟨0, Finset.mem_univ _⟩

/-- The denominator of weights measured from a reference score `M`. -/
theorem denom_shift (b g r : Fin 2) (i : Fin 2048) (M : ℝ) :
    ∑ j, Real.exp (score Q K b g r i j - M) = denom Q K b g r i * Real.exp (-M) := by
  unfold denom
  rw [Finset.sum_mul]
  exact Finset.sum_congr rfl fun j _ => by rw [sub_eq_add_neg, Real.exp_add]

/-- The softmax does not depend on the score the weights are measured from. -/
theorem prob_shift (b g r : Fin 2) (i j : Fin 2048) (M : ℝ) :
    Real.exp (score Q K b g r i j - M) / (denom Q K b g r i * Real.exp (-M)) = prob Q K b g r i j := by
  unfold prob
  rw [sub_eq_add_neg, Real.exp_add, mul_div_mul_right _ _ (Real.exp_ne_zero _)]

/-- The weight from the stored log of the denominator. -/
theorem prob_log (b g r : Fin 2) (i j : Fin 2048) (M : ℝ) :
    Real.exp (score Q K b g r i j - (M + Real.log (denom Q K b g r i * Real.exp (-M)))) = prob Q K b g r i j := by
  have h := denom_pos Q K b g r i
  rw [Real.log_mul h.ne' (Real.exp_ne_zero _), Real.log_exp]
  unfold prob
  rw [show score Q K b g r i j - (M + (Real.log (denom Q K b g r i) + -M)) = score Q K b g r i j - Real.log (denom Q K b g r i) by ring,
    Real.exp_sub, Real.exp_log h]

/-- The output's product with its cotangent is the averaged cotangent. -/
theorem sum_ct_outp (b g r : Fin 2) (i : Fin 2048) :
    ∑ d, CT b i (hd g r) d * outp Q K V b g r i d = avg Q CT K V b g r i := by
  unfold avg outp dprob
  simp only [Finset.mul_sum]
  rw [Finset.sum_comm]
  exact Finset.sum_congr rfl fun j _ => Finset.sum_congr rfl fun d _ => by ring

/-- The scores' cotangent as the derivative of the quotient gives it. -/
theorem dscore_quot (b g r : Fin 2) (i j : Fin 2048) (M : ℝ) :
    (dprob CT V b g r i j / (denom Q K b g r i * Real.exp (-M))
      + -(∑ x, dprob CT V b g r i x * (1 / (denom Q K b g r i * Real.exp (-M) * (denom Q K b g r i * Real.exp (-M))))
          * Real.exp (score Q K b g r i x - M))) * Real.exp (score Q K b g r i j - M)
      = dscore Q CT K V b g r i j := by
  have hz : denom Q K b g r i * Real.exp (-M) ≠ 0 := mul_ne_zero (denom_pos Q K b g r i).ne' (Real.exp_ne_zero _)
  have hx : ∀ x, Real.exp (score Q K b g r i x - M) = prob Q K b g r i x * (denom Q K b g r i * Real.exp (-M)) :=
    fun x => by rw [← prob_shift Q K b g r i x M, div_mul_cancel₀ _ hz]
  simp only [hx]
  unfold dscore avg
  generalize denom Q K b g r i * Real.exp (-M) = z at hz
  have : ∑ x, dprob CT V b g r i x * (1 / (z * z)) * (prob Q K b g r i x * z)
      = (∑ x, prob Q K b g r i x * dprob CT V b g r i x) / z := by
    rw [Finset.sum_div]
    exact Finset.sum_congr rfl fun x _ => by field_simp
  rw [this]
  field_simp
  ring

end Cert.Dense

end
-- ==== Proof.RefStages.lean ====
/- The reference's operations, a stage at a time: each stage as a function of the arrays it reads, and its entries as
   real numbers when the arguments' entries are real. -/
module

public import proofs.«01_k».proof.Proof.Gen.ReferenceIdeal
public import proofs.«01_k».proof.Proof.Maths
public import Idealize.ShloMosaic.Lib.Pointwise
public import Idealize.ShloMosaic.Lib.ValueIdx
public import Idealize.ShloMosaic.Lib.ReduceAll

@[expose] public section

set_option maxRecDepth 16384

noncomputable section

namespace Cert.Dense

open scoped BigOperators
open Idealize.ShloMosaic Cert.ReferenceIdeal Cert.ReferenceIdeal.Gen

theorem ofBits_eighth : Ideal.ofBits FTy.f32 1040187392#32 = ((1 / 8 : ℝ) : EReal) := by
  simp [Ideal.ofBits, Ideal.ieee, -EReal.coe_mul]; norm_num

theorem ofBits_one : Ideal.ofBits FTy.f32 1065353216#32 = ((1 : ℝ) : EReal) := by
  simp [Ideal.ofBits, Ideal.ieee, -EReal.coe_mul]; norm_num

theorem ofBits_neg_inf : Ideal.ofBits FTy.f32 4286578688#32 = (⊥ : EReal) := by
  simp [Ideal.ofBits, Ideal.ieee]

theorem ofBits_inf : Ideal.ofBits FTy.f32 2139095040#32 = (⊤ : EReal) := by
  simp [Ideal.ofBits, Ideal.ieee]

/-! The stages. -/

/-- The scaled scores. -/
def scores (q : FVec Ideal S2x2048x4x64 .f32) (k : FVec Ideal S2x2048x2x64 .f32) : FVec Ideal S2x2x2x2048x2048 .f32 :=
  mulf (transpose S2x2x2x2048x2048 [0, 1, 4, 3, 2]
      (Host.dotGeneral dot_S2x2048x2x64_S2x2048x2x2x64_S2x2x2048x2048x2_3_4_1_13_02_02 none k
        (shapeCast S2x2048x2x2x64 q shapeCasts_S2x2048x4x64_S2x2048x2x2x64))
      transposes_S2x2x2048x2048x2_S2x2x2x2048x2048_0_1_4_3_2)
    (broadcastInDim S2x2x2x2048x2048 ![] bcast_S_S2x2x2x2048x2048 (constant S_ .f32 0x3E000000#32))

/-- The greatest score of every query, as the reduction leaves it. -/
def rowMax (s : FVec Ideal S2x2x2x2048x2048 .f32) : FVec Ideal S2x2x2x2048 .f32 :=
  Host.reduce FloatOps.maximumf s (constant S_ .f32 0xFF800000#32) reducesTo_S2x2x2x2048x2048_S2x2x2x2048_d4 h_S_

/-- The greatest score of every query. -/
def top (z : FVec Ideal S2x2x2x2048 .f32) : FVec Ideal S2x2x2x2048 .f32 :=
  maximumf (broadcastInDim S2x2x2x2048 ![] bcast_S_S2x2x2x2048 (constant S_ .f32 0xFF800000#32)) z

/-- A value of every query repeated along its keys. -/
def spread (z : FVec Ideal S2x2x2x2048x1 .f32) : FVec Ideal S2x2x2x2048x2048 .f32 :=
  broadcastInDim S2x2x2x2048x2048 ![0, 1, 2, 3, 4] bcast_S2x2x2x2048x1_S2x2x2x2048x2048_0_1_2_3_4 z

/-- A value of every query as a column. -/
def column (z : FVec Ideal S2x2x2x2048 .f32) : FVec Ideal S2x2x2x2048x1 .f32 :=
  broadcastInDim S2x2x2x2048x1 ![0, 1, 2, 3] bcast_S2x2x2x2048_S2x2x2x2048x1_0_1_2_3 z

/-- The exponentials of the scores, measured from the greatest. -/
def weights (s : FVec Ideal S2x2x2x2048x2048 .f32) (t : FVec Ideal S2x2x2x2048 .f32) : FVec Ideal S2x2x2x2048x2048 .f32 :=
  Host.exp (subf s (spread (column t)))

/-- A sum over the keys. -/
def keySum (w : FVec Ideal S2x2x2x2048x2048 .f32) : FVec Ideal S2x2x2x2048 .f32 :=
  Host.reduceAdd w (constant S_ .f32 0x00000000#32) reducesTo_S2x2x2x2048x2048_S2x2x2x2048_d4 h_S_

/-- The softmax weights. -/
def probs (w : FVec Ideal S2x2x2x2048x2048 .f32) : FVec Ideal S2x2x2x2048x2048 .f32 :=
  Host.divf w (spread (column (keySum w)))

/-- The cotangent by group, lane, head and query. -/
def ctGroups (ct : FVec Ideal S2x2048x4x64 .f32) : FVec Ideal S2x2x64x2x2048 .f32 :=
  transpose S2x2x64x2x2048 [0, 2, 4, 3, 1] (shapeCast S2x2048x2x2x64 ct shapeCasts_S2x2048x4x64_S2x2048x2x2x64)
    transposes_S2x2048x2x2x64_S2x2x64x2x2048_0_2_4_3_1

/-- The cotangent of the softmax weights. -/
def dprobs (ct : FVec Ideal S2x2048x4x64 .f32) (v : FVec Ideal S2x2048x2x64 .f32) : FVec Ideal S2x2x2x2048x2048 .f32 :=
  Host.dotGeneral dot_S2x2x64x2x2048_S2x2048x2x64_S2x2x2x2048x2048_2_3_34_1_01_02 none (ctGroups ct) v

/-- One over the square of the denominator. -/
def invSq (z : FVec Ideal S2x2x2x2048 .f32) : FVec Ideal S2x2x2x2048x1 .f32 :=
  Host.divf (broadcastInDim S2x2x2x2048x1 ![] bcast_S_S2x2x2x2048x1 (constant S_ .f32 0x3F800000#32)) (mulf (column z) (column z))

/-- The denominator's share of the cotangent. -/
def corr (dp w : FVec Ideal S2x2x2x2048x2048 .f32) : FVec Ideal S2x2x2x2048 .f32 :=
  Host.reduceAdd (Host.negf (shapeCast S2x2x2x2048x1 (keySum (mulf (mulf dp (spread (invSq (keySum w)))) w))
    shapeCasts_S2x2x2x2048_S2x2x2x2048x1)) (constant S_ .f32 0x00000000#32) reducesTo_S2x2x2x2048x1_S2x2x2x2048_d4 h_S_

/-- The scaled cotangent of the scores, by key, query and head. -/
def dscores (dp w : FVec Ideal S2x2x2x2048x2048 .f32) : FVec Ideal S2x2x2048x2048x2 .f32 :=
  transpose S2x2x2048x2048x2 [0, 1, 4, 3, 2]
    (mulf (mulf (addf (Host.divf dp (spread (column (keySum w))))
        (broadcastInDim S2x2x2x2048x2048 ![0, 1, 2, 3] bcast_S2x2x2x2048_S2x2x2x2048x2048_0_1_2_3 (corr dp w))) w)
      (broadcastInDim S2x2x2x2048x2048 ![] bcast_S_S2x2x2x2048x2048 (constant S_ .f32 0x3E000000#32)))
    transposes_S2x2x2x2048x2048_S2x2x2048x2048x2_0_1_4_3_2

/-- The queries' gradient. -/
def gradQ (ds : FVec Ideal S2x2x2048x2048x2 .f32) (k : FVec Ideal S2x2048x2x64 .f32) : FVec Ideal S2x2048x256 .f32 :=
  shapeCast S2x2048x256 (shapeCast S2x2048x4x64 (transpose S2x2048x2x2x64 [0, 2, 1, 3, 4]
    (Host.dotGeneral dot_S2x2x2048x2048x2_S2x2048x2x64_S2x2x2048x2x64_2_1_34_3_01_02 none ds k)
      transposes_S2x2x2048x2x64_S2x2048x2x2x64_0_2_1_3_4) shapeCasts_S2x2048x2x2x64_S2x2048x4x64) shapeCasts_S2x2048x4x64_S2x2048x256

/-- The keys' gradient. -/
def gradK (ds : FVec Ideal S2x2x2048x2048x2 .f32) (q : FVec Ideal S2x2048x4x64 .f32) : FVec Ideal S2x2048x128 .f32 :=
  shapeCast S2x2048x128 (transpose S2x2048x2x64 [0, 2, 1, 3]
    (Host.dotGeneral dot_S2x2x2048x2048x2_S2x2048x2x2x64_S2x2x2048x64_34_13_2_4_01_02 none ds
      (shapeCast S2x2048x2x2x64 q shapeCasts_S2x2048x4x64_S2x2048x2x2x64))
      transposes_S2x2x2048x64_S2x2048x2x64_0_2_1_3) shapeCasts_S2x2048x2x64_S2x2048x128

/-- The values' gradient. -/
def gradV (p : FVec Ideal S2x2x2x2048x2048 .f32) (ct : FVec Ideal S2x2048x4x64 .f32) : FVec Ideal S2x2048x128 .f32 :=
  shapeCast S2x2048x128 (transpose S2x2048x2x64 [0, 3, 1, 2]
    (Host.dotGeneral dot_S2x2x64x2x2048_S2x2x2x2048x2048_S2x2x64x2048_34_23_2_4_01_01 none (ctGroups ct) p)
      transposes_S2x2x64x2048_S2x2048x2x64_0_3_1_2) shapeCasts_S2x2048x2x64_S2x2048x128

/-! The stages' entries. -/

variable {q ct : FVec Ideal S2x2048x4x64 .f32} {k v : FVec Ideal S2x2048x2x64 .f32}
variable {Q CT : Fin 2 → Fin 2048 → Fin 4 → Fin 64 → ℝ} {K V : Fin 2 → Fin 2048 → Fin 2 → Fin 64 → ℝ}

theorem scores_apply (hq : ∀ b i h d, q (ix4 b i h d) = (Q b i h d : EReal)) (hk : ∀ b j g d, k (ix4 b j g d) = (K b j g d : EReal))
    (b g r : Fin 2) (i j : Fin 2048) : scores q k (ix5 b g r i j) = (score Q K b g r i j : EReal) := by
  pointwise [scores]
  simp only [hq, hk, ofBits_eighth, ← EReal.coe_mul, ← coe_sum]
  rfl

theorem rowMax_apply {s : FVec Ideal S2x2x2x2048x2048 .f32} {A : Fin 2 → Fin 2 → Fin 2 → Fin 2048 → Fin 2048 → ℝ}
    (hs : ∀ b g r i j, s (ix5 b g r i j) = (A b g r i j : EReal)) :
    ∃ M : Fin 2 → Fin 2 → Fin 2 → Fin 2048 → ℝ, ∀ b g r i, rowMax s (ix4 b g r i) = (M b g r i : EReal) := by
  have h : ∀ b g r i, ∃ M : ℝ, rowMax s (ix4 b g r i) = (M : EReal) := by
    intro b g r i
    pointwise [rowMax]
    simp only [hs, ofBits_neg_inf]
    exact fold_max_real _ ⟨0, Finset.mem_univ _⟩ _
  choose M hM using h
  exact ⟨M, hM⟩

theorem top_eq (z : FVec Ideal S2x2x2x2048 .f32) (b g r : Fin 2) (i : Fin 2048) : top z (ix4 b g r i) = z (ix4 b g r i) := by
  pointwise [top]
  rw [ofBits_neg_inf]
  exact bot_sup_eq _

theorem weights_apply {s : FVec Ideal S2x2x2x2048x2048 .f32} {t : FVec Ideal S2x2x2x2048 .f32}
    {A : Fin 2 → Fin 2 → Fin 2 → Fin 2048 → Fin 2048 → ℝ} {M : Fin 2 → Fin 2 → Fin 2 → Fin 2048 → ℝ}
    (hs : ∀ b g r i j, s (ix5 b g r i j) = (A b g r i j : EReal)) (ht : ∀ b g r i, t (ix4 b g r i) = (M b g r i : EReal))
    (b g r : Fin 2) (i j : Fin 2048) : weights s t (ix5 b g r i j) = (Real.exp (A b g r i j - M b g r i) : EReal) := by
  pointwise [weights, spread, column]
  rw [hs, ht, ← EReal.coe_sub, Ideal.exp_coe]

theorem keySum_apply {w : FVec Ideal S2x2x2x2048x2048 .f32} {A : Fin 2 → Fin 2 → Fin 2 → Fin 2048 → Fin 2048 → ℝ}
    (hw : ∀ b g r i j, w (ix5 b g r i j) = (A b g r i j : EReal)) (b g r : Fin 2) (i : Fin 2048) :
    keySum w (ix4 b g r i) = ((∑ j, A b g r i j : ℝ) : EReal) := by
  pointwise [keySum]
  simp only [hw, ← coe_sum]

theorem probs_apply {w : FVec Ideal S2x2x2x2048x2048 .f32} {A : Fin 2 → Fin 2 → Fin 2 → Fin 2048 → Fin 2048 → ℝ}
    (hw : ∀ b g r i j, w (ix5 b g r i j) = (A b g r i j : EReal)) (b g r : Fin 2) (i j : Fin 2048)
    (h0 : (∑ j, A b g r i j) ≠ 0) :
    probs w (ix5 b g r i j) = ((A b g r i j / ∑ j, A b g r i j : ℝ) : EReal) := by
  pointwise [probs, spread, column]
  rw [keySum_apply hw, hw, Ideal.div_coe h0, ← EReal.coe_mul, mul_one_div]

theorem dprobs_apply (hct : ∀ b i h d, ct (ix4 b i h d) = (CT b i h d : EReal)) (hv : ∀ b j g d, v (ix4 b j g d) = (V b j g d : EReal))
    (b g r : Fin 2) (i j : Fin 2048) : dprobs ct v (ix5 b g r i j) = (dprob CT V b g r i j : EReal) := by
  pointwise [dprobs, ctGroups]
  simp only [hct, hv, ← EReal.coe_mul, ← coe_sum]
  rfl

theorem invSq_apply {z : FVec Ideal S2x2x2x2048 .f32} {Z : Fin 2 → Fin 2 → Fin 2 → Fin 2048 → ℝ}
    (hz : ∀ b g r i, z (ix4 b g r i) = (Z b g r i : EReal)) (b g r : Fin 2) (i : Fin 2048) (h0 : Z b g r i ≠ 0) :
    invSq z (ix5 b g r i 0) = ((1 / (Z b g r i * Z b g r i) : ℝ) : EReal) := by
  pointwise [invSq, column]
  rw [hz, ← EReal.coe_one, ← EReal.coe_mul, Ideal.div_coe (mul_ne_zero h0 h0), ← EReal.coe_mul, one_mul]

theorem corr_apply {dp w : FVec Ideal S2x2x2x2048x2048 .f32} {A B : Fin 2 → Fin 2 → Fin 2 → Fin 2048 → Fin 2048 → ℝ}
    (hds : ∀ b g r i j, dp (ix5 b g r i j) = (B b g r i j : EReal)) (hw : ∀ b g r i j, w (ix5 b g r i j) = (A b g r i j : EReal))
    (h0 : ∀ b g r i, (∑ j, A b g r i j) ≠ 0) (b g r : Fin 2) (i : Fin 2048) :
    corr dp w (ix4 b g r i)
      = ((-(∑ x, B b g r i x * (1 / ((∑ j, A b g r i j) * (∑ j, A b g r i j))) * A b g r i x) : ℝ) : EReal) := by
  have hx : ∀ b g r i j, mulf (mulf dp (spread (invSq (keySum w)))) w (ix5 b g r i j)
      = ((B b g r i j * (1 / ((∑ j, A b g r i j) * (∑ j, A b g r i j))) * A b g r i j : ℝ) : EReal) := by
    intro b g r i j
    pointwise [spread]
    rw [invSq_apply (keySum_apply hw) b g r i (h0 b g r i), hds, hw, ← EReal.coe_mul, ← EReal.coe_mul]
  pointwise [corr]
  rw [keySum_apply hx, ← EReal.coe_neg]
  simp

theorem dscores_apply {dp w : FVec Ideal S2x2x2x2048x2048 .f32} {A B : Fin 2 → Fin 2 → Fin 2 → Fin 2048 → Fin 2048 → ℝ}
    (hds : ∀ b g r i j, dp (ix5 b g r i j) = (B b g r i j : EReal)) (hw : ∀ b g r i j, w (ix5 b g r i j) = (A b g r i j : EReal))
    (h0 : ∀ b g r i, (∑ j, A b g r i j) ≠ 0) (b g r : Fin 2) (i j : Fin 2048) :
    dscores dp w (ix5 b g j i r)
      = (((B b g r i j / (∑ j, A b g r i j)
          + -(∑ x, B b g r i x * (1 / ((∑ j, A b g r i j) * (∑ j, A b g r i j))) * A b g r i x)) * A b g r i j * (1 / 8) : ℝ) : EReal) := by
  pointwise [dscores, spread, column]
  rw [corr_apply hds hw h0, keySum_apply hw, hds, hw, Ideal.div_coe (h0 b g r i), ← EReal.coe_mul, mul_one_div, ← EReal.coe_add,
    ← EReal.coe_mul, ofBits_eighth, ← EReal.coe_mul]

theorem gradQ_apply {ds : FVec Ideal S2x2x2048x2048x2 .f32} {A : Fin 2 → Fin 2 → Fin 2 → Fin 2048 → Fin 2048 → ℝ}
    (hds : ∀ b g r i j, ds (ix5 b g j i r) = (A b g r i j : EReal)) (hk : ∀ b j g d, k (ix4 b j g d) = (K b j g d : EReal))
    (b : Fin 2) (i : Fin 2048) (g r : Fin 2) (d : Fin 64) :
    gradQ ds k (ix3 b i (⟨(g.val * 2 + r.val) * 64 + d.val, by omega⟩ : Fin 256)) = ((∑ j, A b g r i j * K b j g d : ℝ) : EReal) := by
  pointwise [gradQ]
  simp only [hds, hk, ← EReal.coe_mul, ← coe_sum]

theorem gradK_apply {ds : FVec Ideal S2x2x2048x2048x2 .f32} {A : Fin 2 → Fin 2 → Fin 2 → Fin 2048 → Fin 2048 → ℝ}
    (hds : ∀ b g r i j, ds (ix5 b g j i r) = (A b g r i j : EReal)) (hq : ∀ b i h d, q (ix4 b i h d) = (Q b i h d : EReal))
    (b : Fin 2) (j : Fin 2048) (g : Fin 2) (d : Fin 64) :
    gradK ds q (ix3 b j (⟨g.val * 64 + d.val, by omega⟩ : Fin 128)) = ((∑ r, ∑ i, A b g r i j * Q b i (hd g r) d : ℝ) : EReal) := by
  pointwise [gradK]
  rw [Finset.sum_comm]
  simp only [hds, hq, ← EReal.coe_mul, ← coe_sum]
  rfl

theorem gradV_apply {p : FVec Ideal S2x2x2x2048x2048 .f32} {A : Fin 2 → Fin 2 → Fin 2 → Fin 2048 → Fin 2048 → ℝ}
    (hp : ∀ b g r i j, p (ix5 b g r i j) = (A b g r i j : EReal)) (hct : ∀ b i h d, ct (ix4 b i h d) = (CT b i h d : EReal))
    (b : Fin 2) (j : Fin 2048) (g : Fin 2) (d : Fin 64) :
    gradV p ct (ix3 b j (⟨g.val * 64 + d.val, by omega⟩ : Fin 128)) = ((∑ r, ∑ i, A b g r i j * CT b i (hd g r) d : ℝ) : EReal) := by
  pointwise [gradV, ctGroups]
  simp only [hp, hct, ← EReal.coe_mul, ← coe_sum, mul_comm (CT _ _ _ _)]
  rfl

/-- The exponentials of the scores of `q` and `k`. -/
def wts (q : FVec Ideal S2x2048x4x64 .f32) (k : FVec Ideal S2x2048x2x64 .f32) : FVec Ideal S2x2x2x2048x2048 .f32 :=
  weights (scores q k) (top (rowMax (scores q k)))

theorem wts_apply (hq : ∀ b i h d, q (ix4 b i h d) = (Q b i h d : EReal)) (hk : ∀ b j g d, k (ix4 b j g d) = (K b j g d : EReal)) :
    ∃ M : Fin 2 → Fin 2 → Fin 2 → Fin 2048 → ℝ, (∀ b g r i, rowMax (scores q k) (ix4 b g r i) = (M b g r i : EReal)) ∧
      ∀ b g r i j, wts q k (ix5 b g r i j) = (Real.exp (score Q K b g r i j - M b g r i) : EReal) := by
  obtain ⟨M, hM⟩ := rowMax_apply (scores_apply hq hk)
  exact ⟨M, hM, weights_apply (scores_apply hq hk) fun b g r i => (top_eq _ b g r i).trans (hM b g r i)⟩

/-- The softmax weights' entries. -/
theorem probs_wts (hq : ∀ b i h d, q (ix4 b i h d) = (Q b i h d : EReal)) (hk : ∀ b j g d, k (ix4 b j g d) = (K b j g d : EReal))
    (b g r : Fin 2) (i j : Fin 2048) : probs (wts q k) (ix5 b g r i j) = (prob Q K b g r i j : EReal) := by
  obtain ⟨M, -, hw⟩ := wts_apply hq hk
  have hs := denom_shift Q K b g r i (M b g r i)
  rw [probs_apply hw b g r i j (hs ▸ mul_ne_zero (denom_pos Q K b g r i).ne' (Real.exp_ne_zero _)), hs, prob_shift]

/-- The scaled scores' cotangent's entries. -/
theorem dscores_wts (hq : ∀ b i h d, q (ix4 b i h d) = (Q b i h d : EReal)) (hk : ∀ b j g d, k (ix4 b j g d) = (K b j g d : EReal))
    (hv : ∀ b j g d, v (ix4 b j g d) = (V b j g d : EReal)) (hct : ∀ b i h d, ct (ix4 b i h d) = (CT b i h d : EReal))
    (b g r : Fin 2) (i j : Fin 2048) :
    dscores (dprobs ct v) (wts q k) (ix5 b g j i r) = (dscore Q CT K V b g r i j * (1 / 8) : ℝ) := by
  obtain ⟨M, -, hw⟩ := wts_apply hq hk
  have hs := fun b g r i => denom_shift Q K b g r i (M b g r i)
  rw [dscores_apply (dprobs_apply hct hv) hw
    (fun b g r i => hs b g r i ▸ mul_ne_zero (denom_pos Q K b g r i).ne' (Real.exp_ne_zero _)), hs, dscore_quot]

theorem ref_dQ (hq : ∀ b i h d, q (ix4 b i h d) = (Q b i h d : EReal)) (hk : ∀ b j g d, k (ix4 b j g d) = (K b j g d : EReal))
    (hv : ∀ b j g d, v (ix4 b j g d) = (V b j g d : EReal)) (hct : ∀ b i h d, ct (ix4 b i h d) = (CT b i h d : EReal))
    (b : Fin 2) (i : Fin 2048) (g r : Fin 2) (d : Fin 64) :
    gradQ (dscores (dprobs ct v) (wts q k)) k (ix3 b i (⟨(g.val * 2 + r.val) * 64 + d.val, by omega⟩ : Fin 256))
      = (dQ Q CT K V b g r i d : EReal) := by
  rw [gradQ_apply (dscores_wts hq hk hv hct) hk, dQ, Finset.sum_mul]
  exact congrArg _ (Finset.sum_congr rfl fun j _ => by ring)

theorem ref_dK (hq : ∀ b i h d, q (ix4 b i h d) = (Q b i h d : EReal)) (hk : ∀ b j g d, k (ix4 b j g d) = (K b j g d : EReal))
    (hv : ∀ b j g d, v (ix4 b j g d) = (V b j g d : EReal)) (hct : ∀ b i h d, ct (ix4 b i h d) = (CT b i h d : EReal))
    (b : Fin 2) (j : Fin 2048) (g : Fin 2) (d : Fin 64) :
    gradK (dscores (dprobs ct v) (wts q k)) q (ix3 b j (⟨g.val * 64 + d.val, by omega⟩ : Fin 128)) = (dK Q CT K V b g j d : EReal) := by
  rw [gradK_apply (dscores_wts hq hk hv hct) hq, dK]
  exact congrArg _ (Finset.sum_congr rfl fun r _ => Finset.sum_congr rfl fun i _ => by ring)

theorem ref_dV (hq : ∀ b i h d, q (ix4 b i h d) = (Q b i h d : EReal)) (hk : ∀ b j g d, k (ix4 b j g d) = (K b j g d : EReal))
    (hct : ∀ b i h d, ct (ix4 b i h d) = (CT b i h d : EReal))
    (b : Fin 2) (j : Fin 2048) (g : Fin 2) (d : Fin 64) :
    gradV (probs (wts q k)) ct (ix3 b j (⟨g.val * 64 + d.val, by omega⟩ : Fin 128)) = (dV Q CT K b g j d : EReal) := by
  rw [gradV_apply (probs_wts hq hk) hct, dV]

end Cert.Dense

end
-- ==== Proof.Finite.lean ====
module

public import proofs.«01_k».proof.Pre_finite
public import proofs.«01_k».proof.Proof.RefStages
public import Idealize.ShloMosaic.Lib.ReduceAll

/-! # The precondition: every entry of every argument is a real number -/

@[expose] public section

set_option maxRecDepth 16384

noncomputable section

namespace Cert.Dense

open Idealize.ShloMosaic Idealize.ShloMosaic.TcCoe

theorem preFacts : Cert.Pre_finite.Facts where
  bcast_S_S2x2048x4x64 := by decide
  reducesTo_S2x2048x4x64_S_d0_1_2_3 := by decide
  h_S_ := by decide
  bcast_S_S2x2048x2x64 := by decide
  reducesTo_S2x2048x2x64_S_d0_1_2_3 := by decide

instance : Subsingleton Cert.Pre_finite.S_.Idx := ⟨fun a b => funext fun x => x.elim0⟩

theorem real_of_lt {s : Shape} (x : FVec Ideal s .f32) (h) (i : s.Idx)
    (e : cmpf .olt (Host.absf x) (broadcastInDim s ![] h (constant (F := Ideal) Cert.Pre_finite.S_ .f32 0x7F800000#32)) i = 1#1) :
    ∃ r : ℝ, x i = (r : EReal) := by
  pointwise at e
  rw [ofBits_inf] at e
  have lt : max (x i) (-(x i)) < (⊤ : EReal) := by
    by_contra hn
    rw [show (decide (FloatOps.absf (x i) < (⊤ : EReal))) = false from decide_eq_false hn] at e
    exact absurd e (by decide)
  obtain ⟨h1, h2⟩ := max_lt_iff.mp lt
  induction hx : x i using EReal.rec with
  | bot => rw [hx] at h2; exact absurd h2 (by simp)
  | top => rw [hx] at h1; exact absurd h1 (lt_irrefl _)
  | coe r => exact ⟨r, rfl⟩

theorem reals {q ct : FVec Ideal Cert.Pre_finite.S2x2048x4x64 .f32} {k v : FVec Ideal Cert.Pre_finite.S2x2048x2x64 .f32}
    (e : @Cert.Pre_finite.fn preFacts Ideal _ q k v ct = fun _ => 1#1) :
    (∀ i, ∃ r : ℝ, q i = (r : EReal)) ∧ (∀ i, ∃ r : ℝ, k i = (r : EReal)) ∧ (∀ i, ∃ r : ℝ, v i = (r : EReal))
      ∧ ∀ i, ∃ r : ℝ, ct i = (r : EReal) := by
  have e0 := congrFun e ix0
  unfold Cert.Pre_finite.fn Cert.Pre_finite.fn_part1 at e0
  obtain ⟨e1, e4⟩ := IntOp.andi_eq_one.mp e0
  obtain ⟨e2, e3⟩ := IntOp.andi_eq_one.mp e1
  obtain ⟨e1, e2⟩ := IntOp.andi_eq_one.mp e2
  exact ⟨fun i => real_of_lt q _ i (Host.reduce_andi_all _ _ _ _ _ e1 i), fun i => real_of_lt k _ i (Host.reduce_andi_all _ _ _ _ _ e2 i),
    fun i => real_of_lt v _ i (Host.reduce_andi_all _ _ _ _ _ e3 i), fun i => real_of_lt ct _ i (Host.reduce_andi_all _ _ _ _ _ e4 i)⟩

end Cert.Dense

end
-- ==== Proof.HostStages.lean ====
/- The arrays the host prepares for the kernel, and their entries as real numbers. -/
module

public import proofs.«01_k».proof.Proof.Gen.KernelIdeal.Frame.Runs
public import proofs.«01_k».proof.Proof.RefStages

@[expose] public section

set_option maxRecDepth 16384

noncomputable section

namespace Cert.Dense

open scoped BigOperators
open Idealize.ShloMosaic Idealize.ShloMosaic.TcCoe Cert.KernelIdeal Cert.KernelIdeal.Gen

/-- The attention's output, a row per token. -/
def saved (w : FVec Ideal S2x2x2x2048x2048 .f32) (v : FVec Ideal S2x2048x2x64 .f32) : FVec Ideal S2x2048x256 .f32 :=
  shapeCast S2x2048x256 (shapeCast S2x2048x4x64 (transpose S2x2048x2x2x64 [0, 4, 1, 3, 2]
    (Host.dotGeneral dot_S2x2048x2x64_S2x2x2x2048x2048_S2x2x64x2x2048_1_4_3_23_02_01 none v w)
    transposes_S2x2x64x2x2048_S2x2048x2x2x64_0_4_1_3_2) shapeCasts_S2x2048x2x2x64_S2x2048x4x64) shapeCasts_S2x2048x4x64_S2x2048x256

/-- The log of every query's denominator, repeated along its head's lanes. -/
def logs (t z : FVec Ideal S2x2x2x2048 .f32) : FVec Ideal S2x2048x256 .f32 :=
  shapeCast S2x2048x256 (broadcastInDim S2x2048x4x64 ![0, 1, 2, 3] bcast_S2x2048x4x1_S2x2048x4x64_0_1_2_3
    (broadcastInDim S2x2048x4x1 ![0, 1, 2] bcast_S2x2048x4_S2x2048x4x1_0_1_2
      (shapeCast S2x2048x4 (transpose S2x2048x2x2 [0, 3, 1, 2]
        (shapeCast S2x2x2x2048 (addf (column t) (Host.log (column z))) shapeCasts_S2x2x2x2048x1_S2x2x2x2048)
        transposes_S2x2x2x2048_S2x2048x2x2_0_3_1_2) shapeCasts_S2x2048x2x2_S2x2048x4))) shapeCasts_S2x2048x4x64_S2x2048x256

/-- The projections' rows: the columns of the other paths (zeros here), then the queries, the keys and the values. -/
def rows (q : FVec Ideal S2x2048x4x64 .f32) (k v : FVec Ideal S2x2048x2x64 .f32) : FVec Ideal S2x2048x1024 .bf16 :=
  concatenate S2x2048x1024 2 [⟨S2x2048x512, (broadcastInDim S2x2048x512 ![] bcast_S_S2x2048x512 (constant S_ .bf16 0x0000#16) : FVec Ideal S2x2048x512 .bf16)⟩,
    ⟨S2x2048x256, (truncf .bf16 (shapeCast S2x2048x256 q shapeCasts_S2x2048x4x64_S2x2048x256) bitsLt_bf16_f32 : FVec Ideal S2x2048x256 .bf16)⟩,
    ⟨S2x2048x128, (truncf .bf16 (shapeCast S2x2048x128 k shapeCasts_S2x2048x2x64_S2x2048x128) bitsLt_bf16_f32 : FVec Ideal S2x2048x128 .bf16)⟩,
    ⟨S2x2048x128, (truncf .bf16 (shapeCast S2x2048x128 v shapeCasts_S2x2048x2x64_S2x2048x128) bitsLt_bf16_f32 : FVec Ideal S2x2048x128 .bf16)⟩]
    concatenates_S2x2048x512_S2x2048x256_S2x2048x128_S2x2048x128_S2x2048x1024_d2

/-- The cotangent, a row per token. -/
def ctRows (ct : FVec Ideal S2x2048x4x64 .f32) : FVec Ideal S2x2048x256 .f32 :=
  shapeCast S2x2048x256 ct shapeCasts_S2x2048x4x64_S2x2048x256

theorem rows_q (q : FVec Ideal S2x2048x4x64 .f32) (k v : FVec Ideal S2x2048x2x64 .f32) (b : Fin 2) (i : Fin 2048) (h : Fin 4) (d : Fin 64) :
    rows q k v (ix3 b i (⟨512 + (h.val * 64 + d.val), by omega⟩ : Fin 1024)) = q (ix4 b i h d) := by
  pointwise [rows]
  rw [dif_pos (by omega)]

theorem rows_k (q : FVec Ideal S2x2048x4x64 .f32) (k v : FVec Ideal S2x2048x2x64 .f32) (b : Fin 2) (i : Fin 2048) (h : Fin 2) (d : Fin 64) :
    rows q k v (ix3 b i (⟨768 + (h.val * 64 + d.val), by omega⟩ : Fin 1024)) = k (ix4 b i h d) := by
  pointwise [rows]
  rw [dif_neg (by omega), dif_neg (by omega), dif_pos (by omega)]
  congr 2 <;> exact Fin.ext (by simp only []; omega)

theorem rows_v (q : FVec Ideal S2x2048x4x64 .f32) (k v : FVec Ideal S2x2048x2x64 .f32) (b : Fin 2) (i : Fin 2048) (h : Fin 2) (d : Fin 64) :
    rows q k v (ix3 b i (⟨896 + (h.val * 64 + d.val), by omega⟩ : Fin 1024)) = v (ix4 b i h d) := by
  pointwise [rows]
  rw [dif_neg (by omega), dif_neg (by omega), dif_neg (by omega)]
  congr 2 <;> exact Fin.ext (by simp only []; omega)

theorem ctRows_apply (ct : FVec Ideal S2x2048x4x64 .f32) (b : Fin 2) (i : Fin 2048) (h : Fin 4) (d : Fin 64) :
    ctRows ct (ix3 b i (⟨h.val * 64 + d.val, by omega⟩ : Fin 256)) = ct (ix4 b i h d) := by
  pointwise [ctRows]

theorem saved_apply {w : FVec Ideal S2x2x2x2048x2048 .f32} {v : FVec Ideal S2x2048x2x64 .f32}
    {Q : Fin 2 → Fin 2048 → Fin 4 → Fin 64 → ℝ} {K V : Fin 2 → Fin 2048 → Fin 2 → Fin 64 → ℝ}
    (hw : ∀ b g r i j, w (ix5 b g r i j) = (prob Q K b g r i j : EReal)) (hv : ∀ b j g d, v (ix4 b j g d) = (V b j g d : EReal))
    (b : Fin 2) (i : Fin 2048) (g r : Fin 2) (d : Fin 64) :
    saved w v (ix3 b i (⟨(g.val * 2 + r.val) * 64 + d.val, by omega⟩ : Fin 256)) = (outp Q K V b g r i d : EReal) := by
  pointwise [saved]
  simp only [hw, hv, ← EReal.coe_mul, ← coe_sum]
  rfl

theorem logs_apply (t z : FVec Ideal S2x2x2x2048 .f32) (b : Fin 2) (i : Fin 2048) (g r : Fin 2) (d : Fin 64) :
    logs t z (ix3 b i (⟨(g.val * 2 + r.val) * 64 + d.val, by omega⟩ : Fin 256)) = t (ix4 b g r i) + Ideal.log (z (ix4 b g r i)) := by
  pointwise [logs, column]

variable (m : (ℓ : Loc nD τ sig) → Buf (Elt Ideal) ℓ)

theorem V_rows (c : Dev nD) : V m c main_v47
    = rows (m ((c.tc : Thread nD τ).loc main_arg0)) (m ((c.tc : Thread nD τ).loc main_arg1)) (m ((c.tc : Thread nD τ).loc main_arg2)) := by
  unfold V
  after_results_simp <;> rfl

theorem V_ct (c : Dev nD) : V m c main_v48 = ctRows (m ((c.tc : Thread nD τ).loc main_arg3)) := by
  unfold V
  after_results_simp <;> rfl

theorem V_saved (c : Dev nD) : V m c main_v19
    = saved (probs (wts (m ((c.tc : Thread nD τ).loc main_arg0)) (m ((c.tc : Thread nD τ).loc main_arg1)))) (m ((c.tc : Thread nD τ).loc main_arg2)) := by
  unfold V
  after_results_simp <;> rfl

/-- The exponentials of the scores of `q` and `k`, measured from the greatest score as the reduction leaves it. -/
def wts' (q : FVec Ideal S2x2048x4x64 .f32) (k : FVec Ideal S2x2048x2x64 .f32) : FVec Ideal S2x2x2x2048x2048 .f32 :=
  weights (scores q k) (rowMax (scores q k))

theorem V_logs (c : Dev nD) : V m c main_v39
    = logs (rowMax (scores (m ((c.tc : Thread nD τ).loc main_arg0)) (m ((c.tc : Thread nD τ).loc main_arg1))))
        (keySum (wts' (m ((c.tc : Thread nD τ).loc main_arg0)) (m ((c.tc : Thread nD τ).loc main_arg1)))) := by
  unfold V
  after_results_simp <;> rfl

/-- The stored logs are real numbers, and a score's exponential measured from its query's log is its softmax weight. -/
theorem logs_wts {q : FVec Ideal S2x2048x4x64 .f32} {k : FVec Ideal S2x2048x2x64 .f32}
    {Q : Fin 2 → Fin 2048 → Fin 4 → Fin 64 → ℝ} {K : Fin 2 → Fin 2048 → Fin 2 → Fin 64 → ℝ}
    (hq : ∀ b i h d, q (ix4 b i h d) = (Q b i h d : EReal)) (hk : ∀ b j g d, k (ix4 b j g d) = (K b j g d : EReal)) :
    ∃ L : Fin 2 → Fin 2 → Fin 2 → Fin 2048 → ℝ,
      (∀ (b : Fin 2) (i : Fin 2048) (g r : Fin 2) (d : Fin 64), logs (rowMax (scores q k)) (keySum (wts' q k))
        (ix3 b i (⟨(g.val * 2 + r.val) * 64 + d.val, by omega⟩ : Fin 256)) = (L b g r i : EReal)) ∧
      ∀ b g r i j, Real.exp (score Q K b g r i j - L b g r i) = prob Q K b g r i j := by
  obtain ⟨M, hM⟩ := rowMax_apply (scores_apply hq hk)
  refine ⟨fun b g r i => M b g r i + Real.log (denom Q K b g r i * Real.exp (-M b g r i)), fun b i g r d => ?_,
    fun b g r i j => prob_log Q K b g r i j _⟩
  have h := mul_pos (denom_pos Q K b g r i) (Real.exp_pos (-M b g r i))
  rw [logs_apply, hM, wts', keySum_apply (weights_apply (scores_apply hq hk) hM), denom_shift, Ideal.log_coe, if_neg (not_le.mpr h),
    ← EReal.coe_add]

end Cert.Dense

end
-- ==== Proof.Block.lean ====
/- One query tile of the kernel: its operations' entries as real numbers. The tile's 256 rows are two heads of 128
   queries each; the 128 lanes are two key heads of 64 entries each. -/
module

public import proofs.«01_k».proof.Proof.Gen.KernelIdeal.Skeleton
public import proofs.«01_k».proof.Proof.RefStages

@[expose] public section

set_option maxRecDepth 16384

noncomputable section

namespace Cert.Dense

open scoped BigOperators
open Idealize.ShloMosaic Idealize.ShloMosaic.TcCoe Cert.KernelIdeal Cert.KernelIdeal.Gen

/-- Row `i` of head `r` in a tile. -/
def row (r : Fin 2) (i : Fin 128) : Fin 256 := ⟨r.val * 128 + i.val, by omega⟩
/-- Entry `d` of half `g` of the lanes. -/
def lane (g : Fin 2) (d : Fin 64) : Fin 128 := ⟨g.val * 64 + d.val, by omega⟩

theorem sum_lane {M : Type*} [AddCommMonoid M] (f : Fin 128 → M) : ∑ x, f x = ∑ g, ∑ d, f (lane g d) := by
  rw [← Fintype.sum_prod_type' (f := fun g d => f (lane g d))]
  refine (Fintype.sum_equiv (finProdFinEquiv (m := 2) (n := 64)) _ _ fun x => congrArg f (Fin.ext ?_)).symm
  simp only [lane, finProdFinEquiv, Equiv.coe_fn_mk]
  omega

theorem sum_row {M : Type*} [AddCommMonoid M] (f : Fin 256 → M) : ∑ x, f x = ∑ r, ∑ i, f (row r i) := by
  rw [← Fintype.sum_prod_type' (f := fun g d => f (row g d))]
  refine (Fintype.sum_equiv (finProdFinEquiv (m := 2) (n := 128)) _ _ fun x => congrArg f (Fin.ext ?_)).symm
  simp only [row, finProdFinEquiv, Equiv.coe_fn_mk]
  omega

/-- The mask of the low lanes. -/
theorem mask_lane (g : Fin 2) (d : Fin 64) : k0_pay4 (ix2 (0 : Fin 1) (lane g d)) = if g = 0 then 1#1 else 0#1 := by
  have h : ∀ l : Fin 128, IntOp.cmpi CmpIPredicate.slt (BitVec.ofNat 32 l.val) 64#32 = if l.val < 64 then 1#1 else 0#1 := by decide
  pointwise [k0_pay4]
  rw [h]
  have hg : (lane g d).val < 64 ↔ g = 0 := by
    constructor
    · intro h; simp only [lane] at h; exact Fin.ext (by simp only [Fin.val_zero]; omega)
    · rintro rfl; simp only [lane, Fin.val_zero]; omega
  simp only [hg]

theorem mask_zero (d : Fin 64) : k0_pay4 (ix2 (0 : Fin 1) (lane 0 d)) = 1#1 := mask_lane 0 d
theorem mask_one (d : Fin 64) : k0_pay4 (ix2 (0 : Fin 1) (lane 1 d)) = 0#1 := mask_lane 1 d

theorem sel_true {α : Type} (a b : α) : Scalar.select (1#1) a b = a := by simp [Scalar.select]
theorem sel_false {α : Type} (a b : α) : Scalar.select (0#1) a b = b := by simp [Scalar.select]
theorem flip_true : IntOp.xori (1#1) (1#1) = 0#1 := by decide
theorem flip_false : IntOp.xori (0#1) (1#1) = 1#1 := by decide

theorem row_lt (i : Fin 128) : (row 0 i).val < 128 := by simp only [row, Fin.val_zero]; omega
theorem row_ge (i : Fin 128) : ¬ (row 1 i).val < 128 := by simp only [row, Fin.val_one]; omega
theorem row_low (i : Fin 128) (h : (row 0 i).val < 128) : (⟨(row 0 i).val, h⟩ : Fin 128) = i := Fin.ext (by simp [row])
theorem row_high (i : Fin 128) (h : (row 1 i).val - 128 < 128) : (⟨(row 1 i).val - 128, h⟩ : Fin 128) = i :=
  Fin.ext (by simp only [row, Fin.val_one]; omega)
theorem turn_zero (d : Fin 64) (h : ((lane 0 d).val + 64) % 128 < 128) : (⟨((lane 0 d).val + 64) % 128, h⟩ : Fin 128) = lane 1 d :=
  Fin.ext (by simp only [lane, Fin.val_zero, Fin.val_one]; omega)
theorem turn_one (d : Fin 64) (h : ((lane 1 d).val + 64) % 128 < 128) : (⟨((lane 1 d).val + 64) % 128, h⟩ : Fin 128) = lane 0 d :=
  Fin.ext (by simp only [lane, Fin.val_zero, Fin.val_one]; omega)

theorem never_bot : (Named.named (F := Ideal) κ "never" 4284592614#32 : Ideal .f32) = (⊥ : EReal) :=
  IdealRules.named_const.ideal_named_scalar _ _ _ _ rfl

variable {x : FVec Ideal S128x128 .f32} {X : Fin 2 → Fin 128 → Fin 64 → ℝ}

/-- Two heads stacked on the low lanes, scaled. -/
theorem stack_low_scaled (hx : ∀ r i d, x (ix2 i (lane r d)) = (X r i d : EReal)) (r : Fin 2) (i : Fin 128) (g : Fin 2) (d : Fin 64) :
    k0_pay17 k0_pay4 x (ix2 (row r i) (lane g d)) = ((if g = 0 then X r i d * (1 / 8) else 0 : ℝ) : EReal) := by
  pointwise [k0_pay17]
  fin_cases r <;> fin_cases g <;>
    simp [row_lt, row_ge, row_low, row_high, turn_zero, turn_one, mask_zero, mask_one, sel_true, sel_false, flip_true, flip_false, hx,
      ofBits_eighth, EReal.coe_mul]

theorem stack_low (hx : ∀ r i d, x (ix2 i (lane r d)) = (X r i d : EReal)) (r : Fin 2) (i : Fin 128) (g : Fin 2) (d : Fin 64) :
    k0_pay18 k0_pay4 x (ix2 (row r i) (lane g d)) = ((if g = 0 then X r i d else 0 : ℝ) : EReal) := by
  pointwise [k0_pay18]
  fin_cases r <;> fin_cases g <;>
    simp [row_lt, row_ge, row_low, row_high, turn_zero, turn_one, mask_zero, mask_one, sel_true, sel_false, flip_true, flip_false, hx]

theorem stack_high_scaled (hx : ∀ r i d, x (ix2 i (lane r d)) = (X r i d : EReal)) (r : Fin 2) (i : Fin 128) (g : Fin 2) (d : Fin 64) :
    k0_pay27 k0_pay4 x (ix2 (row r i) (lane g d)) = ((if g = 1 then X r i d * (1 / 8) else 0 : ℝ) : EReal) := by
  pointwise [k0_pay27]
  fin_cases r <;> fin_cases g <;>
    simp [row_lt, row_ge, row_low, row_high, turn_zero, turn_one, mask_zero, mask_one, sel_true, sel_false, flip_true, flip_false, hx,
      ofBits_eighth, EReal.coe_mul]

theorem stack_high (hx : ∀ r i d, x (ix2 i (lane r d)) = (X r i d : EReal)) (r : Fin 2) (i : Fin 128) (g : Fin 2) (d : Fin 64) :
    k0_pay29 k0_pay4 x (k0_pay28 k0_pay4 x) (constantI S1x128 1 1#1) (ix2 (row r i) (lane g d)) = ((if g = 1 then X r i d else 0 : ℝ) : EReal) := by
  pointwise [k0_pay29, k0_pay28]
  fin_cases r <;> fin_cases g <;>
    simp [row_lt, row_ge, row_low, row_high, turn_zero, turn_one, mask_zero, mask_one, sel_true, sel_false, flip_true, flip_false, hx]

/-- The sum over one head's lanes, a row per query. -/
theorem sums_low (hx : ∀ r i d, x (ix2 i (lane r d)) = (X r i d : EReal)) (r : Fin 2) (i : Fin 128) :
    k0_pay30 k0_pay4 x (ix2 (row r i) (0 : Fin 1)) = ((∑ d, X r i d : ℝ) : EReal) := by
  pointwise [k0_pay30]
  fin_cases r <;>
    simp [row_lt, row_ge, row_low, row_high, sum_lane, mask_zero, mask_one, sel_true, sel_false, flip_true, flip_false, hx, coe_sum]

/-- A masked maximum whose kept entries agree. -/
theorem fold_max_const {ι : Type*} [Fintype ι] (f : ι → EReal) (c : EReal) (h : ∀ x, f x = ⊥ ∨ f x = c) (x0 : ι) (h0 : f x0 = c) :
    Finset.fold max (⊥ : EReal) f Finset.univ = c := by
  apply le_antisymm
  · exact (Finset.fold_max_le _).mpr ⟨bot_le, fun x _ => (h x).elim (fun e => e ▸ bot_le) le_of_eq⟩
  · exact (Finset.le_fold_max _).mpr (Or.inr ⟨x0, Finset.mem_univ _, h0.ge⟩)

theorem exists_lane (l : Fin 128) : ∃ g d, l = lane g d :=
  ⟨⟨l.val / 64, by omega⟩, ⟨l.val % 64, by omega⟩, Fin.ext (by simp only [lane]; omega)⟩

theorem max_low (c : ℝ) (i : Fin 128) (hx : ∀ d, x (ix2 i (lane 0 d)) = (c : EReal)) :
    Finset.fold max (⊥ : EReal) (fun l => Scalar.select (k0_pay4 (ix2 (0 : Fin 1) l)) (x (ix2 i l)) (⊥ : EReal)) Finset.univ = (c : EReal) := by
  refine fold_max_const _ _ (fun l => ?_) (lane 0 0) ?_
  · obtain ⟨g, d, rfl⟩ := exists_lane l
    fin_cases g
    · exact Or.inr (by simp only [Fin.mk_zero, Fin.zero_eta, mask_zero, sel_true, hx])
    · exact Or.inl (by simp only [Fin.mk_one, mask_one, sel_false])
  · simp only [mask_zero, sel_true, hx]

theorem max_high (c : ℝ) (i : Fin 128) (hx : ∀ d, x (ix2 i (lane 1 d)) = (c : EReal)) :
    Finset.fold max (⊥ : EReal) (fun l => Scalar.select (IntOp.xori (k0_pay4 (ix2 (0 : Fin 1) l)) 1#1) (x (ix2 i l)) (⊥ : EReal)) Finset.univ
      = (c : EReal) := by
  refine fold_max_const _ _ (fun l => ?_) (lane 1 0) ?_
  · obtain ⟨g, d, rfl⟩ := exists_lane l
    fin_cases g
    · exact Or.inl (by simp only [Fin.mk_zero, Fin.zero_eta, mask_zero, flip_true, sel_false])
    · exact Or.inr (by simp only [Fin.mk_one, mask_one, flip_false, sel_true, hx])
  · simp only [mask_one, flip_false, sel_true, hx]

/-- A head's stored log, a row per query. -/
theorem logs_col {L : Fin 2 → Fin 128 → ℝ} (hx : ∀ r i d, x (ix2 i (lane r d)) = (L r i : EReal)) (r : Fin 2) (i : Fin 128) :
    k0_pay19 k0_pay4 x (ix2 (row r i) (0 : Fin 1)) = (L r i : EReal) := by
  pointwise [k0_pay19]
  simp only [never_bot, ofBits_neg_inf]
  fin_cases r
  · simp only [Fin.mk_zero, Fin.zero_eta, row_lt, dite_true, row_low]
    exact max_low _ _ (hx 0 i)
  · simp only [Fin.mk_one, row_ge, dite_false, row_high]
    exact max_high _ _ (hx 1 i)

/-! The products. -/

/-- A tile's scores measured from the stored logs, their exponentials, the weights' cotangents, and the scores'. -/
def tP (A : Fin 2 → Fin 128 → Fin 64 → ℝ) (L : Fin 2 → Fin 128 → ℝ) (Kt : Fin 2048 → Fin 64 → ℝ) (r : Fin 2) (i : Fin 128) (j : Fin 2048) : ℝ :=
  Real.exp ((∑ d, A r i d * Kt j d) - L r i)
def tS (A C O : Fin 2 → Fin 128 → Fin 64 → ℝ) (L : Fin 2 → Fin 128 → ℝ) (Kt Vt : Fin 2048 → Fin 64 → ℝ) (r : Fin 2) (i : Fin 128) (j : Fin 2048) : ℝ :=
  tP A L Kt r i j * ((∑ d, C r i d * Vt j d) - ∑ d, C r i d * O r i d)

variable {A C O : Fin 2 → Fin 128 → Fin 64 → ℝ} {L D : Fin 2 → Fin 128 → ℝ} {Kt Vt : Fin 2 → Fin 2048 → Fin 64 → ℝ}
variable {a c : FVec Ideal S256x128 .bf16} {l e : FVec Ideal S256x1 .f32} {kb vb : FVec Ideal S1x2048x128 .bf16}
variable {u w o : FVec Ideal S128x128 .f32}

theorem sum_pick (G : Fin 2) (f : Fin 64 → ℝ) (h : Fin 2 → Fin 64 → ℝ) :
    ∑ g : Fin 2, ∑ d, (if g = G then f d else 0) * h g d = ∑ d, f d * h G d := by
  rw [Finset.sum_eq_single G (fun b _ hb => by simp [hb]) (by simp)]
  simp

/-- The product of the stacked rows with the keys, or with the values. -/
theorem stacked_dot (G : Fin 2) (ha : ∀ r i g d, a (ix2 (row r i) (lane g d)) = ((if g = G then A r i d else 0 : ℝ) : EReal))
    (hk : ∀ g j d, kb (ix3 (0 : Fin 1) j (lane g d)) = (Kt g j d : EReal)) (r : Fin 2) (i : Fin 128) (j : Fin 2048) :
    ∑ x, a (ix2 (row r i) x) * kb (ix3 (0 : Fin 1) j x) = ((∑ d, A r i d * Kt G j d : ℝ) : EReal) := by
  rw [sum_lane]
  simp only [ha, hk, ← EReal.coe_mul, ← coe_sum, sum_pick]

theorem p_low (ha : ∀ r i g d, a (ix2 (row r i) (lane g d)) = ((if g = 0 then A r i d else 0 : ℝ) : EReal))
    (hl : ∀ r i, l (ix2 (row r i) (0 : Fin 1)) = (L r i : EReal))
    (hk : ∀ g j d, kb (ix3 (0 : Fin 1) j (lane g d)) = (Kt g j d : EReal)) (r : Fin 2) (i : Fin 128) (j : Fin 2048) :
    k0_pay22 a l kb (ix2 (row r i) j) = (tP A L (Kt 0) r i j : EReal) := by
  pointwise [k0_pay22, k0_pay21]
  rw [stacked_dot 0 ha hk, hl, ← EReal.coe_sub, Ideal.exp_coe, tP]

theorem s_high (ha : ∀ r i g d, a (ix2 (row r i) (lane g d)) = ((if g = 1 then A r i d else 0 : ℝ) : EReal))
    (hu : ∀ r i d, u (ix2 i (lane r d)) = (L r i : EReal))
    (hk : ∀ g j d, kb (ix3 (0 : Fin 1) j (lane g d)) = (Kt g j d : EReal)) (r : Fin 2) (i : Fin 128) (j : Fin 2048) :
    k0_pay33 k0_pay4 u a kb (ix2 (row r i) j) = (((∑ d, A r i d * Kt 1 j d) - L r i : ℝ) : EReal) := by
  pointwise [k0_pay33, k0_pay31]
  rw [stacked_dot 1 ha hk]
  simp only [never_bot, ofBits_neg_inf]
  fin_cases r
  · simp only [Fin.mk_zero, Fin.zero_eta, row_lt, dite_true, row_low]
    rw [max_low _ _ (hu 0 i), EReal.coe_sub]
  · simp only [Fin.mk_one, row_ge, dite_false, row_high]
    rw [max_high _ _ (hu 1 i), EReal.coe_sub]

theorem p_high {n : FVec Ideal S256x2048 .f32} (hn : ∀ r i j, n (ix2 (row r i) j) = (((∑ d, A r i d * Kt 1 j d) - L r i : ℝ) : EReal))
    (r : Fin 2) (i : Fin 128) (j : Fin 2048) : k0_pay34 n (ix2 (row r i) j) = (tP A L (Kt 1) r i j : EReal) := by
  pointwise [k0_pay34]
  rw [hn, Ideal.exp_coe, tP]

theorem ds_low (ha : ∀ r i g d, a (ix2 (row r i) (lane g d)) = ((if g = 0 then A r i d else 0 : ℝ) : EReal))
    (hc : ∀ r i g d, c (ix2 (row r i) (lane g d)) = ((if g = 0 then C r i d else 0 : ℝ) : EReal))
    (hl : ∀ r i, l (ix2 (row r i) (0 : Fin 1)) = (L r i : EReal))
    (hw : ∀ r i d, w (ix2 i (lane r d)) = (C r i d * O r i d : ℝ))
    (hk : ∀ g j d, kb (ix3 (0 : Fin 1) j (lane g d)) = (Kt g j d : EReal))
    (hv : ∀ g j d, vb (ix3 (0 : Fin 1) j (lane g d)) = (Vt g j d : EReal)) (r : Fin 2) (i : Fin 128) (j : Fin 2048) :
    k0_pay23 k0_pay4 w a c l (Scalar.ofBits .f32 0x00000000#32) (k0_pay20 k0_pay4) kb vb (ix2 (row r i) j)
      = (tS A C O L (Kt 0) (Vt 0) r i j : EReal) := by
  pointwise [k0_pay23, k0_pay20]
  rw [p_low ha hl hk, stacked_dot 0 hc hv]
  fin_cases r <;>
    simp [row_lt, row_ge, row_low, row_high, sum_lane, mask_zero, mask_one, sel_true, sel_false, flip_true, flip_false, hw, tS,
      ← EReal.coe_mul, ← coe_sum, ← EReal.coe_sub]

theorem ds_high {n : FVec Ideal S256x2048 .f32} (hn : ∀ r i j, n (ix2 (row r i) j) = (((∑ d, A r i d * Kt 1 j d) - L r i : ℝ) : EReal))
    (hc : ∀ r i g d, c (ix2 (row r i) (lane g d)) = ((if g = 1 then C r i d else 0 : ℝ) : EReal))
    (hw : ∀ r i d, w (ix2 i (lane r d)) = (C r i d * O r i d : ℝ))
    (hv : ∀ g j d, vb (ix3 (0 : Fin 1) j (lane g d)) = (Vt g j d : EReal)) (r : Fin 2) (i : Fin 128) (j : Fin 2048) :
    k0_pay35 c (k0_pay30 k0_pay4 w) (k0_pay32 vb) n (ix2 (row r i) j) = (tS A C O L (Kt 1) (Vt 1) r i j : EReal) := by
  pointwise [k0_pay35, k0_pay32]
  rw [p_high hn, stacked_dot 1 hc hv, sums_low hw, ← EReal.coe_sub, ← EReal.coe_mul, tS]

theorem row_zero (i : Fin 128) (h : i.val < 256) : (⟨i.val, h⟩ : Fin 256) = row 0 i := Fin.ext (by simp [row])
theorem row_one (i : Fin 128) (h : 128 + i.val < 256) : (⟨128 + i.val, h⟩ : Fin 256) = row 1 i := rfl

theorem dq_low {z : Ideal .f32} {ds : Fin 2 → Fin 128 → Fin 2048 → ℝ}
    (hds : ∀ r i j, k0_pay23 k0_pay4 w a c l z (k0_pay20 k0_pay4) kb vb (ix2 (row r i) j) = (ds r i j : EReal))
    (hk : ∀ g j d, kb (ix3 (0 : Fin 1) j (lane g d)) = (Kt g j d : EReal)) (r : Fin 2) (i : Fin 128) (d : Fin 64) :
    k0_pay24 k0_pay4 w k0_pay15 a c l z (k0_pay20 k0_pay4) kb vb (ix2 i (lane r d))
      = (((∑ j, ds r i j * Kt 0 j d) * (1 / 8) : ℝ) : EReal) := by
  pointwise [k0_pay24, k0_pay15, k0_pay21]
  simp only [ofBits_eighth]
  fin_cases r <;>
    simp [turn_zero, turn_one, mask_zero, mask_one, sel_true, sel_false, row_zero, row_one, hds, hk, ← EReal.coe_mul, ← coe_sum]

theorem dq_high {n : FVec Ideal S256x2048 .f32} {ds : Fin 2 → Fin 128 → Fin 2048 → ℝ}
    (hds : ∀ r i j, k0_pay35 c e (k0_pay32 vb) n (ix2 (row r i) j) = (ds r i j : EReal))
    (hk : ∀ g j d, kb (ix3 (0 : Fin 1) j (lane g d)) = (Kt g j d : EReal)) (r : Fin 2) (i : Fin 128) (d : Fin 64) :
    k0_pay36 k0_pay4 (k0_pay16 (Scalar.ofBits .f32 0x00000000#32)) c e (k0_pay31 kb) (k0_pay32 vb) n (ix2 i (lane r d))
      = (((∑ j, ds r i j * Kt 1 j d) * (1 / 8) : ℝ) : EReal) := by
  pointwise [k0_pay36, k0_pay16, k0_pay31]
  simp only [ofBits_eighth]
  fin_cases r <;>
    simp [turn_zero, turn_one, mask_zero, mask_one, sel_true, sel_false, flip_true, flip_false, row_zero, row_one, hds, hk,
      ← EReal.coe_mul, ← coe_sum]

/-- What a tile adds to the keys' gradient: the rows' sum of products, on the group's half of the lanes. -/
def tK (ds : Fin 2 → Fin 128 → Fin 2048 → ℝ) (A : Fin 2 → Fin 128 → Fin 64 → ℝ) (j : Fin 2048) (d : Fin 64) : ℝ :=
  ∑ r, ∑ i, ds r i j * A r i d

theorem sum_rows_pick (G : Fin 2) (ds : Fin 2 → Fin 128 → Fin 2048 → ℝ) (j : Fin 2048) (g : Fin 2) (d : Fin 64) :
    ∑ r, ∑ i, ds r i j * (if g = G then A r i d else 0) = if g = G then tK ds A j d else 0 := by
  by_cases h : g = G <;> simp [h, tK]

theorem dk_low {ds : Fin 2 → Fin 128 → Fin 2048 → ℝ} {s : FVec Ideal S256x2048 .bf16} {acc : FVec Ideal S1x2048x128 .f32}
    (hds : ∀ r i j, s (ix2 (row r i) j) = (ds r i j : EReal))
    (ha : ∀ r i g d, a (ix2 (row r i) (lane g d)) = ((if g = 0 then A r i d else 0 : ℝ) : EReal)) (j : Fin 2048) (g : Fin 2) (d : Fin 64) :
    k0_pay25 a s acc (ix3 (0 : Fin 1) j (lane g d)) = acc (ix3 (0 : Fin 1) j (lane g d)) + ((if g = 0 then tK ds A j d else 0 : ℝ) : EReal) := by
  pointwise [k0_pay25]
  rw [sum_row]
  simp only [hds, ha, ← EReal.coe_mul, ← coe_sum, sum_rows_pick]

theorem dv_low {ds : Fin 2 → Fin 128 → Fin 2048 → ℝ} {s : FVec Ideal S256x2048 .f32} {acc : FVec Ideal S1x2048x128 .f32}
    (hds : ∀ r i j, s (ix2 (row r i) j) = (ds r i j : EReal))
    (ha : ∀ r i g d, a (ix2 (row r i) (lane g d)) = ((if g = 0 then A r i d else 0 : ℝ) : EReal)) (j : Fin 2048) (g : Fin 2) (d : Fin 64) :
    k0_pay26 a s acc (ix3 (0 : Fin 1) j (lane g d)) = acc (ix3 (0 : Fin 1) j (lane g d)) + ((if g = 0 then tK ds A j d else 0 : ℝ) : EReal) := by
  pointwise [k0_pay26]
  rw [sum_row]
  simp only [hds, ha, ← EReal.coe_mul, ← coe_sum, sum_rows_pick]

theorem dk_high {n : FVec Ideal S256x2048 .f32} {ds : Fin 2 → Fin 128 → Fin 2048 → ℝ} {acc : FVec Ideal S1x2048x128 .f32}
    (hds : ∀ r i j, k0_pay35 c e (k0_pay32 vb) n (ix2 (row r i) j) = (ds r i j : EReal))
    (ha : ∀ r i g d, a (ix2 (row r i) (lane g d)) = ((if g = 1 then A r i d else 0 : ℝ) : EReal)) (j : Fin 2048) (g : Fin 2) (d : Fin 64) :
    k0_pay37 a c e (k0_pay32 vb) n acc (ix3 (0 : Fin 1) j (lane g d))
      = acc (ix3 (0 : Fin 1) j (lane g d)) + ((if g = 1 then tK ds A j d else 0 : ℝ) : EReal) := by
  pointwise [k0_pay37]
  rw [sum_row]
  simp only [hds, ha, ← EReal.coe_mul, ← coe_sum, sum_rows_pick]

theorem dv_high {n : FVec Ideal S256x2048 .f32} {p : Fin 2 → Fin 128 → Fin 2048 → ℝ} {acc : FVec Ideal S1x2048x128 .f32}
    (hp : ∀ r i j, k0_pay34 n (ix2 (row r i) j) = (p r i j : EReal))
    (ha : ∀ r i g d, a (ix2 (row r i) (lane g d)) = ((if g = 1 then A r i d else 0 : ℝ) : EReal)) (j : Fin 2048) (g : Fin 2) (d : Fin 64) :
    k0_pay1 (k0_pay38 a n acc) (ix3 (0 : Fin 1) j (lane g d))
      = acc (ix3 (0 : Fin 1) j (lane g d)) + ((if g = 1 then tK p A j d else 0 : ℝ) : EReal) := by
  pointwise [k0_pay1, k0_pay38]
  rw [sum_row]
  simp only [hp, ha, ← EReal.coe_mul, ← coe_sum, sum_rows_pick]

end Cert.Dense

end
-- ==== Proof.Tile.lean ====
module

public import proofs.«01_k».proof.Proof.Gen.KernelIdeal.Frame
public import proofs.«01_k».proof.Proof.Block
public import Idealize.ShloMosaic.Lib.Pipeline.Value
public import Idealize.ShloMosaic.Lib.Pipeline.ValueKit.Acc
public import Idealize.ShloMosaic.Lib.Pipeline.ValueKit.Tiles

/-!
# What one grid point leaves in the three result blocks

A grid point reads a block of 128 rows of q, do, o and the log-sums, and the whole of k and v of its batch. It writes
the block's rows of dq and adds to dk and dv. The two 128-column halves of a block are the two key heads; the 64-lane
halves of each are the two query heads that share that key head.
-/

@[expose] public section

set_option maxRecDepth 16384

noncomputable section

namespace Cert.Dense

open scoped BigOperators
open Idealize.ShloMosaic Idealize.ShloMosaic.TcCoe Cert.KernelIdeal Cert.KernelIdeal.Gen

theorem hz3 : (![0, 0, 0] : Fin 3 → Nat) = fun _ => 0 := funext fun a => by fin_cases a <;> rfl

/-- The columns of a block that the first key head uses, and those of the second. -/
def lo {e : EltTy} (x : Vec Ideal S1x128x256 e) : Vec Ideal S1x128x128 e :=
  View.ld x (Rect.unit ![0, 0, 0] ![1, 128, 128] inb_S1x128x256_S1x128x128_0_0_0)
def hi {e : EltTy} (x : Vec Ideal S1x128x256 e) : Vec Ideal S1x128x128 e :=
  View.ld x (Rect.unit ![0, 0, 128] ![1, 128, 128] inb_S1x128x256_S1x128x128_0_0_128)

/-- Column of query head `g * 2 + r`, lane `d`. -/
def col (g r : Fin 2) (d : Fin 64) : Fin 256 := ⟨(g.val * 2 + r.val) * 64 + d.val, by omega⟩

theorem lo_apply {e : EltTy} (x : Vec Ideal S1x128x256 e) (i : Fin 128) (r : Fin 2) (d : Fin 64) :
    lo x (ix3 (0 : Fin 1) i (lane r d)) = x (ix3 (0 : Fin 1) i (col 0 r d)) := by
  unfold lo
  refine View.ld_unit_apply_of _ _ _ _ _ _ fun a => ?_
  match a with
  | ⟨0, _⟩ => rfl
  | ⟨1, _⟩ => exact (Nat.zero_add _).symm
  | ⟨2, _⟩ => show (0 * 2 + r.val) * 64 + d.val = 0 + (r.val * 64 + d.val); omega

theorem hi_apply {e : EltTy} (x : Vec Ideal S1x128x256 e) (i : Fin 128) (r : Fin 2) (d : Fin 64) :
    hi x (ix3 (0 : Fin 1) i (lane r d)) = x (ix3 (0 : Fin 1) i (col 1 r d)) := by
  unfold hi
  refine View.ld_unit_apply_of _ _ _ _ _ _ fun a => ?_
  match a with
  | ⟨0, _⟩ => rfl
  | ⟨1, _⟩ => exact (Nat.zero_add _).symm
  | ⟨2, _⟩ => show (1 * 2 + r.val) * 64 + d.val = 128 + (r.val * 64 + d.val); omega

section defs
variable (q : Vec Ideal S1x128x256 .bf16) (k v : Vec Ideal S1x2048x128 .bf16) (ct o l : Vec Ideal S1x128x256 .f32)
  (acc : Vec Ideal S1x2048x128 .f32)

/-- The first key head's rows: scaled queries, cotangents, the products of cotangent and output, and the log-sums. -/
def qLo : FVec Ideal S256x128 .bf16 := k0_pay17 k0_pay4 (k0_pay7 (lo q))
def cLo : FVec Ideal S256x128 .bf16 := k0_pay18 k0_pay4 (k0_pay9 (lo ct))
def wLo : FVec Ideal S128x128 .f32 := k0_pay13 (lo ct) (lo o)
def lLo : FVec Ideal S256x1 .f32 := k0_pay19 k0_pay4 (k0_pay11 (lo l))
/-- The same of the second key head, with its scores less the log-sums. -/
def qHi : FVec Ideal S256x128 .bf16 := k0_pay27 k0_pay4 (k0_pay8 (hi q))
def cHi : FVec Ideal S256x128 .bf16 :=
  k0_pay29 k0_pay4 (k0_pay10 (hi ct)) (k0_pay28 k0_pay4 (k0_pay10 (hi ct))) (constantI S1x128 1 1#1)
def wHi : FVec Ideal S128x128 .f32 := k0_pay14 (hi ct) (hi o)
def eHi : FVec Ideal S256x1 .f32 := k0_pay30 k0_pay4 (wHi ct o)
def nHi : FVec Ideal S256x2048 .f32 := k0_pay33 k0_pay4 (k0_pay12 (hi l)) (qHi q) k

/-- The dq block. -/
def dqLo : FVec Ideal S1x128x128 .f32 :=
  k0_pay2 (k0_pay24 k0_pay4 (wLo ct o) k0_pay15 (qLo q) (cLo ct) (lLo l) (Scalar.ofBits .f32 0x00000000#32) (k0_pay20 k0_pay4) k v)
def dqHi : FVec Ideal S1x128x128 .f32 :=
  k0_pay3 (k0_pay36 k0_pay4 (k0_pay16 (Scalar.ofBits .f32 0x00000000#32)) (cHi ct) (eHi ct o) (k0_pay31 k) (k0_pay32 v)
    (nHi q k l))
def dqBlock : Vec Ideal S1x128x256 .f32 :=
  View.canon [⟨Rect.unit ![0, 0, 128] ![1, 128, 128] inb_S1x128x256_S1x128x128_0_0_128, dqHi q k v ct o l⟩,
    ⟨Rect.unit ![0, 0, 0] ![1, 128, 128] inb_S1x128x256_S1x128x128_0_0_0, dqLo q k v ct o l⟩]

/-- The dk block after the point, from what it was. -/
def dkBlock : Vec Ideal S1x2048x128 .f32 :=
  k0_pay37 (qHi q) (cHi ct) (eHi ct o) (k0_pay32 v) (nHi q k l)
    (k0_pay25 (qLo q)
      (k0_pay23 k0_pay4 (wLo ct o) (qLo q) (cLo ct) (lLo l) (Scalar.ofBits .f32 0x00000000#32) (k0_pay20 k0_pay4) k v) acc)

/-- The dv block after the point, from what it was. -/
def dvBlock : Vec Ideal S1x2048x128 .f32 :=
  k0_pay1 (k0_pay38 (cHi ct) (nHi q k l) (k0_pay26 (cLo ct) (k0_pay22 (qLo q) (lLo l) k) acc))
end defs

theorem readCov_whole {sg : RefSig} {κ : Kind} {sp : Space} (v : View sg κ sp S1x2048x128 .f32) (w : Vec Ideal S1x2048x128 .f32)
    (L : List (View.Piece (Elt Ideal) S1x2048x128 .f32)) (hin hin') :
    v.readCov ((⟨Rect.unit ![0, 0, 0] ![1, 2048, 128] hin, w⟩ : View.Piece (Elt Ideal) S1x2048x128 .f32) :: L)
      (Rect.unit ![0, 0, 0] ![1, 2048, 128] hin').toLoadRect = w :=
  View.readCov_cons_unit_lit' (S := S1x2048x128) v hin hin' w L (fun a => by fin_cases a <;> rfl) (fun a => by fin_cases a <;> rfl)

section out
variable (c : Dev nD) (i : grid0.Coords)
  (arg3 : Memref sig .tc .vmem S1x128x256 .bf16) (harg3 : arg3.IsWhole)
  (arg4 : Memref sig .tc .vmem S1x2048x128 .bf16) (harg4 : arg4.IsWhole)
  (arg5 : Memref sig .tc .vmem S1x2048x128 .bf16) (harg5 : arg5.IsWhole)
  (arg6 : Memref sig .tc .vmem S1x128x256 .f32) (harg6 : arg6.IsWhole)
  (arg7 : Memref sig .tc .vmem S1x128x256 .f32) (harg7 : arg7.IsWhole)
  (arg8 : Memref sig .tc .vmem S1x128x256 .f32) (harg8 : arg8.IsWhole)
  (arg9 : Memref sig .tc .vmem S1x128x256 .f32) (harg9 : arg9.IsWhole)
  (arg10 : Memref sig .tc .vmem S1x2048x128 .f32) (harg10 : arg10.IsWhole)
  (arg11 : Memref sig .tc .vmem S1x2048x128 .f32) (harg11 : arg11.IsWhole)
  (x0 : Vec Ideal S1x128x256 .bf16) (x1 x2 : Vec Ideal S1x2048x128 .bf16) (x3 x4 x5 : Vec Ideal S1x128x256 .f32)
  (xo7 xo8 : Vec Ideal S1x2048x128 .f32)

theorem out0_A_6_eq (hc : cond0_0 i) :
    out0_A_6 c i arg3 harg3 arg4 harg4 arg5 harg5 arg6 harg6 arg7 harg7 arg8 harg8 arg9 harg9 arg10 harg10 arg11 harg11
      hc x0 x1 x2 x3 x4 x5 = dqBlock x0 x1 x2 x3 x4 x5 := by
  unfold out0_A_6
  rw [View.read_writes_eq_canon _ _ _ (cover0_A_6 c i arg3 harg3 arg4 harg4 arg5 harg5 arg6 harg6 arg7 harg7 arg8 harg8 arg9 harg9 arg10 harg10 arg11 harg11
    hc x0 x1 x2 x3 x4 x5)]
  unfold kernelRun0_A
  dsimp only
  sl_unfold_words
  simp only [readCov_whole, View.readAt_eq_ld, harg3.read_unread, harg4.read_unread, harg5.read_unread, harg6.read_unread, harg7.read_unread, harg8.read_unread, harg10.read_unread, harg11.read_unread,
    View.ld_unit_zero (S := S1x2048x128) hz3]
  rfl

theorem out0_A_7_eq (hc : cond0_0 i) :
    out0_A_7 c i arg3 harg3 arg4 harg4 arg5 harg5 arg6 harg6 arg7 harg7 arg8 harg8 arg9 harg9 arg10 harg10 arg11 harg11
      hc x0 x1 x2 x3 x4 x5 = dkBlock x0 x1 x2 x3 x4 x5 (k0_pay5 (F := Ideal)) := by
  unfold out0_A_7
  rw [View.read_writes_eq_canon _ _ _ (cover0_A_7 c i arg3 harg3 arg4 harg4 arg5 harg5 arg6 harg6 arg7 harg7 arg8 harg8 arg9 harg9 arg10 harg10 arg11 harg11
    hc x0 x1 x2 x3 x4 x5)]
  unfold kernelRun0_A
  dsimp only
  sl_unfold_words
  rw [View.canon_cons_unit_zero (S := S1x2048x128) hz3]
  simp only [readCov_whole, View.readAt_eq_ld, harg3.read_unread, harg4.read_unread, harg5.read_unread, harg6.read_unread, harg7.read_unread, harg8.read_unread, harg10.read_unread, harg11.read_unread,
    View.ld_unit_zero (S := S1x2048x128) hz3]
  rfl

theorem out0_A_8_eq (hc : cond0_0 i) :
    out0_A_8 c i arg3 harg3 arg4 harg4 arg5 harg5 arg6 harg6 arg7 harg7 arg8 harg8 arg9 harg9 arg10 harg10 arg11 harg11
      hc x0 x1 x2 x3 x4 x5 = dvBlock x0 x1 x3 x5 (k0_pay6 (F := Ideal)) := by
  unfold out0_A_8
  rw [View.read_writes_eq_canon _ _ _ (cover0_A_8 c i arg3 harg3 arg4 harg4 arg5 harg5 arg6 harg6 arg7 harg7 arg8 harg8 arg9 harg9 arg10 harg10 arg11 harg11
    hc x0 x1 x2 x3 x4 x5)]
  unfold kernelRun0_A
  dsimp only
  sl_unfold_words
  rw [View.canon_cons_unit_zero (S := S1x2048x128) hz3]
  simp only [readCov_whole, View.readAt_eq_ld, harg3.read_unread, harg4.read_unread, harg5.read_unread, harg6.read_unread, harg7.read_unread, harg8.read_unread, harg10.read_unread, harg11.read_unread,
    View.ld_unit_zero (S := S1x2048x128) hz3]
  rfl

theorem out0_B_6_eq (hc : ¬cond0_0 i) :
    out0_B_6 c i arg3 harg3 arg4 harg4 arg5 harg5 arg6 harg6 arg7 harg7 arg8 harg8 arg9 harg9 arg10 harg10 arg11 harg11
      hc x0 x1 x2 x3 x4 x5 xo7 xo8 = dqBlock x0 x1 x2 x3 x4 x5 := by
  unfold out0_B_6
  rw [View.read_writes_eq_canon _ _ _ (cover0_B_6 c i arg3 harg3 arg4 harg4 arg5 harg5 arg6 harg6 arg7 harg7 arg8 harg8 arg9 harg9 arg10 harg10 arg11 harg11
    hc x0 x1 x2 x3 x4 x5 xo7 xo8)]
  unfold kernelRun0_B
  dsimp only
  sl_unfold_words
  simp only [readCov_whole, View.readAt_eq_ld, harg3.read_unread, harg4.read_unread, harg5.read_unread, harg6.read_unread, harg7.read_unread, harg8.read_unread, harg10.read_unread, harg11.read_unread,
    View.ld_unit_zero (S := S1x2048x128) hz3]
  rfl

theorem out0_B_7_eq (hc : ¬cond0_0 i) :
    out0_B_7 c i arg3 harg3 arg4 harg4 arg5 harg5 arg6 harg6 arg7 harg7 arg8 harg8 arg9 harg9 arg10 harg10 arg11 harg11
      hc x0 x1 x2 x3 x4 x5 xo7 xo8 = dkBlock x0 x1 x2 x3 x4 x5 xo7 := by
  unfold out0_B_7
  rw [View.read_writes_eq_canon _ _ _ (cover0_B_7 c i arg3 harg3 arg4 harg4 arg5 harg5 arg6 harg6 arg7 harg7 arg8 harg8 arg9 harg9 arg10 harg10 arg11 harg11
    hc x0 x1 x2 x3 x4 x5 xo7 xo8)]
  unfold kernelRun0_B
  dsimp only
  sl_unfold_words
  rw [View.canon_cons_unit_zero (S := S1x2048x128) hz3]
  simp only [readCov_whole, View.readAt_eq_ld, harg3.read_unread, harg4.read_unread, harg5.read_unread, harg6.read_unread, harg7.read_unread, harg8.read_unread, harg10.read_unread, harg11.read_unread,
    View.ld_unit_zero (S := S1x2048x128) hz3]
  rfl

theorem out0_B_8_eq (hc : ¬cond0_0 i) :
    out0_B_8 c i arg3 harg3 arg4 harg4 arg5 harg5 arg6 harg6 arg7 harg7 arg8 harg8 arg9 harg9 arg10 harg10 arg11 harg11
      hc x0 x1 x2 x3 x4 x5 xo7 xo8 = dvBlock x0 x1 x3 x5 xo8 := by
  unfold out0_B_8
  rw [View.read_writes_eq_canon _ _ _ (cover0_B_8 c i arg3 harg3 arg4 harg4 arg5 harg5 arg6 harg6 arg7 harg7 arg8 harg8 arg9 harg9 arg10 harg10 arg11 harg11
    hc x0 x1 x2 x3 x4 x5 xo7 xo8)]
  unfold kernelRun0_B
  dsimp only
  sl_unfold_words
  rw [View.canon_cons_unit_zero (S := S1x2048x128) hz3]
  simp only [readCov_whole, View.readAt_eq_ld, harg3.read_unread, harg4.read_unread, harg5.read_unread, harg6.read_unread, harg7.read_unread, harg8.read_unread, harg10.read_unread, harg11.read_unread,
    View.ld_unit_zero (S := S1x2048x128) hz3]
  rfl

end out

section values
variable {q : Vec Ideal S1x128x256 .bf16} {k v : Vec Ideal S1x2048x128 .bf16} {ct o l : Vec Ideal S1x128x256 .f32}
  {Qt Ct Ot : Fin 2 → Fin 2 → Fin 128 → Fin 64 → ℝ} {Lt : Fin 2 → Fin 2 → Fin 128 → ℝ} {Kt Vt : Fin 2 → Fin 2048 → Fin 64 → ℝ}

/-- A tile's scaled queries, weights and score gradients. -/
def sQ (Qt : Fin 2 → Fin 2 → Fin 128 → Fin 64 → ℝ) (g r : Fin 2) (i : Fin 128) (d : Fin 64) : ℝ := Qt g r i d * (1 / 8)
def gP (Qt : Fin 2 → Fin 2 → Fin 128 → Fin 64 → ℝ) (Lt : Fin 2 → Fin 2 → Fin 128 → ℝ) (Kt : Fin 2 → Fin 2048 → Fin 64 → ℝ)
    (g r : Fin 2) (i : Fin 128) (j : Fin 2048) : ℝ := tP (sQ Qt g) (Lt g) (Kt g) r i j
def gS (Qt Ct Ot : Fin 2 → Fin 2 → Fin 128 → Fin 64 → ℝ) (Lt : Fin 2 → Fin 2 → Fin 128 → ℝ) (Kt Vt : Fin 2 → Fin 2048 → Fin 64 → ℝ)
    (g r : Fin 2) (i : Fin 128) (j : Fin 2048) : ℝ := tS (sQ Qt g) (Ct g) (Ot g) (Lt g) (Kt g) (Vt g) r i j

theorem qLo_apply (hq : ∀ g r i d, q (ix3 (0 : Fin 1) i (col g r d)) = (Qt g r i d : EReal)) (r : Fin 2) (i : Fin 128) (g : Fin 2)
    (d : Fin 64) : qLo q (ix2 (row r i) (lane g d)) = ((if g = 0 then sQ Qt 0 r i d else 0 : ℝ) : EReal) :=
  stack_low_scaled (X := Qt 0) (fun r i d => by pointwise [k0_pay7]; rw [lo_apply, hq]) r i g d

theorem qHi_apply (hq : ∀ g r i d, q (ix3 (0 : Fin 1) i (col g r d)) = (Qt g r i d : EReal)) (r : Fin 2) (i : Fin 128) (g : Fin 2)
    (d : Fin 64) : qHi q (ix2 (row r i) (lane g d)) = ((if g = 1 then sQ Qt 1 r i d else 0 : ℝ) : EReal) :=
  stack_high_scaled (X := Qt 1) (fun r i d => by pointwise [k0_pay8]; rw [hi_apply, hq]) r i g d

theorem cLo_apply (hc : ∀ g r i d, ct (ix3 (0 : Fin 1) i (col g r d)) = (Ct g r i d : EReal)) (r : Fin 2) (i : Fin 128) (g : Fin 2)
    (d : Fin 64) : cLo ct (ix2 (row r i) (lane g d)) = ((if g = 0 then Ct 0 r i d else 0 : ℝ) : EReal) :=
  stack_low (X := Ct 0) (fun r i d => by pointwise [k0_pay9]; rw [lo_apply, hc]) r i g d

theorem cHi_apply (hc : ∀ g r i d, ct (ix3 (0 : Fin 1) i (col g r d)) = (Ct g r i d : EReal)) (r : Fin 2) (i : Fin 128) (g : Fin 2)
    (d : Fin 64) : cHi ct (ix2 (row r i) (lane g d)) = ((if g = 1 then Ct 1 r i d else 0 : ℝ) : EReal) :=
  stack_high (X := Ct 1) (fun r i d => by pointwise [k0_pay10]; rw [hi_apply, hc]) r i g d

theorem wLo_apply (hc : ∀ g r i d, ct (ix3 (0 : Fin 1) i (col g r d)) = (Ct g r i d : EReal))
    (ho : ∀ g r i d, o (ix3 (0 : Fin 1) i (col g r d)) = (Ot g r i d : EReal)) (r : Fin 2) (i : Fin 128) (d : Fin 64) :
    wLo ct o (ix2 i (lane r d)) = (Ct 0 r i d * Ot 0 r i d : ℝ) := by
  unfold wLo
  pointwise [k0_pay13, k0_pay9]
  rw [lo_apply, lo_apply, hc, ho, EReal.coe_mul]

theorem wHi_apply (hc : ∀ g r i d, ct (ix3 (0 : Fin 1) i (col g r d)) = (Ct g r i d : EReal))
    (ho : ∀ g r i d, o (ix3 (0 : Fin 1) i (col g r d)) = (Ot g r i d : EReal)) (r : Fin 2) (i : Fin 128) (d : Fin 64) :
    wHi ct o (ix2 i (lane r d)) = (Ct 1 r i d * Ot 1 r i d : ℝ) := by
  unfold wHi
  pointwise [k0_pay14, k0_pay10]
  rw [hi_apply, hi_apply, hc, ho, EReal.coe_mul]

theorem lLo_apply (hl : ∀ g r i d, l (ix3 (0 : Fin 1) i (col g r d)) = (Lt g r i : EReal)) (r : Fin 2) (i : Fin 128) :
    lLo l (ix2 (row r i) (0 : Fin 1)) = (Lt 0 r i : EReal) :=
  logs_col (fun r i d => by pointwise [k0_pay11]; rw [lo_apply, hl]) r i

theorem nHi_apply (hq : ∀ g r i d, q (ix3 (0 : Fin 1) i (col g r d)) = (Qt g r i d : EReal))
    (hl : ∀ g r i d, l (ix3 (0 : Fin 1) i (col g r d)) = (Lt g r i : EReal))
    (hk : ∀ g j d, k (ix3 (0 : Fin 1) j (lane g d)) = (Kt g j d : EReal)) (r : Fin 2) (i : Fin 128) (j : Fin 2048) :
    nHi q k l (ix2 (row r i) j) = (((∑ d, sQ Qt 1 r i d * Kt 1 j d) - Lt 1 r i : ℝ) : EReal) :=
  s_high (qHi_apply hq) (fun r i d => by pointwise [k0_pay12]; rw [hi_apply, hl]) hk r i j

theorem dkBlock_apply (hq : ∀ g r i d, q (ix3 (0 : Fin 1) i (col g r d)) = (Qt g r i d : EReal))
    (hc : ∀ g r i d, ct (ix3 (0 : Fin 1) i (col g r d)) = (Ct g r i d : EReal))
    (ho : ∀ g r i d, o (ix3 (0 : Fin 1) i (col g r d)) = (Ot g r i d : EReal))
    (hl : ∀ g r i d, l (ix3 (0 : Fin 1) i (col g r d)) = (Lt g r i : EReal))
    (hk : ∀ g j d, k (ix3 (0 : Fin 1) j (lane g d)) = (Kt g j d : EReal))
    (hv : ∀ g j d, v (ix3 (0 : Fin 1) j (lane g d)) = (Vt g j d : EReal)) (acc : Vec Ideal S1x2048x128 .f32)
    (j : Fin 2048) (g : Fin 2) (d : Fin 64) :
    dkBlock q k v ct o l acc (ix3 (0 : Fin 1) j (lane g d))
      = acc (ix3 (0 : Fin 1) j (lane g d)) + (tK (gS Qt Ct Ot Lt Kt Vt g) (sQ Qt g) j d : EReal) := by
  unfold dkBlock eHi
  rw [dk_high (ds_high (nHi_apply hq hl hk) (cHi_apply hc) (wHi_apply hc ho) hv) (qHi_apply hq),
    dk_low (ds_low (qLo_apply hq) (cLo_apply hc) (lLo_apply hl) (wLo_apply hc ho) hk hv) (qLo_apply hq)]
  fin_cases g
  · simp only [Fin.zero_eta, Fin.mk_one, Fin.isValue, one_ne_zero, zero_ne_one, if_true, if_false, EReal.coe_zero, add_zero]; rfl
  · simp only [Fin.zero_eta, Fin.mk_one, Fin.isValue, one_ne_zero, zero_ne_one, if_true, if_false, EReal.coe_zero, add_zero]; rfl

theorem dvBlock_apply (hq : ∀ g r i d, q (ix3 (0 : Fin 1) i (col g r d)) = (Qt g r i d : EReal))
    (hc : ∀ g r i d, ct (ix3 (0 : Fin 1) i (col g r d)) = (Ct g r i d : EReal))
    (hl : ∀ g r i d, l (ix3 (0 : Fin 1) i (col g r d)) = (Lt g r i : EReal))
    (hk : ∀ g j d, k (ix3 (0 : Fin 1) j (lane g d)) = (Kt g j d : EReal)) (acc : Vec Ideal S1x2048x128 .f32)
    (j : Fin 2048) (g : Fin 2) (d : Fin 64) :
    dvBlock q k ct l acc (ix3 (0 : Fin 1) j (lane g d))
      = acc (ix3 (0 : Fin 1) j (lane g d)) + (tK (gP Qt Lt Kt g) (Ct g) j d : EReal) := by
  unfold dvBlock
  rw [dv_high (p_high (nHi_apply hq hl hk)) (cHi_apply hc),
    dv_low (p_low (qLo_apply hq) (lLo_apply hl) hk) (cLo_apply hc)]
  fin_cases g
  · simp only [Fin.zero_eta, Fin.mk_one, Fin.isValue, one_ne_zero, zero_ne_one, if_true, if_false, EReal.coe_zero, add_zero]; rfl
  · simp only [Fin.zero_eta, Fin.mk_one, Fin.isValue, one_ne_zero, zero_ne_one, if_true, if_false, EReal.coe_zero, add_zero]; rfl

theorem pay2_apply (x : FVec Ideal S128x128 .f32) (i l : Fin 128) : k0_pay2 x (ix3 (0 : Fin 1) i l) = x (ix2 i l) := by
  pointwise [k0_pay2]

theorem pay3_apply (x : FVec Ideal S128x128 .f32) (i l : Fin 128) : k0_pay3 x (ix3 (0 : Fin 1) i l) = x (ix2 i l) := by
  pointwise [k0_pay3]

theorem dqLo_apply (hq : ∀ g r i d, q (ix3 (0 : Fin 1) i (col g r d)) = (Qt g r i d : EReal))
    (hc : ∀ g r i d, ct (ix3 (0 : Fin 1) i (col g r d)) = (Ct g r i d : EReal))
    (ho : ∀ g r i d, o (ix3 (0 : Fin 1) i (col g r d)) = (Ot g r i d : EReal))
    (hl : ∀ g r i d, l (ix3 (0 : Fin 1) i (col g r d)) = (Lt g r i : EReal))
    (hk : ∀ g j d, k (ix3 (0 : Fin 1) j (lane g d)) = (Kt g j d : EReal))
    (hv : ∀ g j d, v (ix3 (0 : Fin 1) j (lane g d)) = (Vt g j d : EReal)) (r : Fin 2) (i : Fin 128) (d : Fin 64) :
    dqLo q k v ct o l (ix3 (0 : Fin 1) i (lane r d))
      = (((∑ j, gS Qt Ct Ot Lt Kt Vt 0 r i j * Kt 0 j d) * (1 / 8) : ℝ) : EReal) := by
  unfold dqLo
  rw [pay2_apply]
  exact dq_low (ds_low (qLo_apply hq) (cLo_apply hc) (lLo_apply hl) (wLo_apply hc ho) hk hv) hk r i d

theorem dqHi_apply (hq : ∀ g r i d, q (ix3 (0 : Fin 1) i (col g r d)) = (Qt g r i d : EReal))
    (hc : ∀ g r i d, ct (ix3 (0 : Fin 1) i (col g r d)) = (Ct g r i d : EReal))
    (ho : ∀ g r i d, o (ix3 (0 : Fin 1) i (col g r d)) = (Ot g r i d : EReal))
    (hl : ∀ g r i d, l (ix3 (0 : Fin 1) i (col g r d)) = (Lt g r i : EReal))
    (hk : ∀ g j d, k (ix3 (0 : Fin 1) j (lane g d)) = (Kt g j d : EReal))
    (hv : ∀ g j d, v (ix3 (0 : Fin 1) j (lane g d)) = (Vt g j d : EReal)) (r : Fin 2) (i : Fin 128) (d : Fin 64) :
    dqHi q k v ct o l (ix3 (0 : Fin 1) i (lane r d))
      = (((∑ j, gS Qt Ct Ot Lt Kt Vt 1 r i j * Kt 1 j d) * (1 / 8) : ℝ) : EReal) := by
  unfold dqHi
  rw [pay3_apply]
  exact dq_high (ds_high (nHi_apply hq hl hk) (cHi_apply hc) (wHi_apply hc ho) hv) hk r i d

theorem low_not_high (i : Fin 128) (r : Fin 2) (d : Fin 64) :
    (ix3 (0 : Fin 1) i (col 0 r d) : S1x128x256.Idx)
      ∉ (Rect.unit ![0, 0, 128] ![1, 128, 128] inb_S1x128x256_S1x128x128_0_0_128).set := by
  intro h
  rw [Rect.mem_set_unit] at h
  have h2 : 128 ≤ (0 * 2 + r.val) * 64 + d.val := (h (2 : Fin 3)).1
  omega

theorem canon_low (w : Vec Ideal S1x128x128 .f32) (L : List (View.Piece (Elt Ideal) S1x128x256 .f32)) (i : Fin 128) (r : Fin 2)
    (d : Fin 64) :
    View.canon ((⟨Rect.unit ![0, 0, 128] ![1, 128, 128] inb_S1x128x256_S1x128x128_0_0_128, w⟩ :
      View.Piece (Elt Ideal) S1x128x256 .f32) :: L) (ix3 (0 : Fin 1) i (col 0 r d)) = View.canon L (ix3 (0 : Fin 1) i (col 0 r d)) :=
  View.canon_cons_of_not_mem _ _ (low_not_high i r d)

theorem dqBlock_apply (hq : ∀ g r i d, q (ix3 (0 : Fin 1) i (col g r d)) = (Qt g r i d : EReal))
    (hc : ∀ g r i d, ct (ix3 (0 : Fin 1) i (col g r d)) = (Ct g r i d : EReal))
    (ho : ∀ g r i d, o (ix3 (0 : Fin 1) i (col g r d)) = (Ot g r i d : EReal))
    (hl : ∀ g r i d, l (ix3 (0 : Fin 1) i (col g r d)) = (Lt g r i : EReal))
    (hk : ∀ g j d, k (ix3 (0 : Fin 1) j (lane g d)) = (Kt g j d : EReal))
    (hv : ∀ g j d, v (ix3 (0 : Fin 1) j (lane g d)) = (Vt g j d : EReal)) (g r : Fin 2) (i : Fin 128) (d : Fin 64) :
    dqBlock q k v ct o l (ix3 (0 : Fin 1) i (col g r d))
      = (((∑ j, gS Qt Ct Ot Lt Kt Vt g r i j * Kt g j d) * (1 / 8) : ℝ) : EReal) := by
  unfold dqBlock
  have e1 : ix3 (0 : Fin 1) i (col 1 r d) = (Rect.unit ![0, 0, 128] ![1, 128, 128] inb_S1x128x256_S1x128x128_0_0_128).emb
      (ix3 (0 : Fin 1) i (lane r d)) := by
    funext a
    apply Fin.ext
    match a with
    | ⟨0, _⟩ => rfl
    | ⟨1, _⟩ => show i.val = 0 + 1 * i.val; omega
    | ⟨2, _⟩ => show (1 * 2 + r.val) * 64 + d.val = 128 + 1 * (r.val * 64 + d.val); omega
  have e0 : ix3 (0 : Fin 1) i (col 0 r d) = (Rect.unit ![0, 0, 0] ![1, 128, 128] inb_S1x128x256_S1x128x128_0_0_0).emb
      (ix3 (0 : Fin 1) i (lane r d)) := by
    funext a
    apply Fin.ext
    match a with
    | ⟨0, _⟩ => rfl
    | ⟨1, _⟩ => show i.val = 0 + 1 * i.val; omega
    | ⟨2, _⟩ => show (0 * 2 + r.val) * 64 + d.val = 0 + 1 * (r.val * 64 + d.val); omega
  match g with
  | ⟨1, _⟩ =>
    show View.canon _ (ix3 (0 : Fin 1) i (col 1 r d)) = _
    rw [e1, View.canon_cons_emb]
    exact dqHi_apply hq hc ho hl hk hv r i d
  | ⟨0, _⟩ =>
    show View.canon _ (ix3 (0 : Fin 1) i (col 0 r d)) = _
    rw [canon_low, e0, View.canon_cons_emb]
    exact dqLo_apply hq hc ho hl hk hv r i d
end values

end Cert.Dense

end
-- ==== Proof.AttnForward.lean ====
module

public import proofs.«01_k».proof.Defs
public import proofs.«01_k».proof.Proof.Gen.AttnFIdeal.Value
public import proofs.«01_k».proof.Proof.Gen.AttnFRefIdeal.Run
public import proofs.«01_k».proof.Proof.Gen.AttnF
public import proofs.«01_k».proof.Proof.Finite
public import proofs.«01_k».proof.Proof.HostStages
public import proofs.«01_k».proof.Proof.Tile
public import Idealize.ShloMosaic.Lib.Pipeline.ReadBack
public import Idealize.ShloMosaic.Lib.Pipeline.ValueKit.Acc
public import Idealize.ShloMosaic.Lib.Pipeline.ValueKit.Geometry
public import Idealize.ShloMosaic.Lib.Pipeline.ValueKit.Tiles
public import Idealize.ShloMosaic.Lib.Pointwise

/-!
# The attention's forward pass

A point takes 128 queries of a batch and all of its keys and values. For each key head it stacks the two query heads that
share it into 256 rows, measures every row's scores from the row's greatest, and stores the weighted mean of the values and
the log of the sum of exponentials.
-/

@[expose] public section

set_option maxRecDepth 16384

noncomputable section

namespace Cert.AttnForward

open scoped BigOperators
open Idealize.ShloMosaic Idealize.ShloMosaic.TcCoe Idealize.SL.Sem Cert.AttnFIdeal Cert.AttnFIdeal.Gen Cert.Dense

theorem low_zero (d : Fin 64) : k0_pay5 (ix2 (0 : Fin 1) (lane 0 d)) = 1#1 := mask_zero d
theorem low_one (d : Fin 64) : k0_pay5 (ix2 (0 : Fin 1) (lane 1 d)) = 0#1 := mask_one d

/-! The scores of the stacked rows. -/

section Scores

variable {X : Fin 2 → Fin 128 → Fin 64 → ℝ} {Kt : Fin 2 → Fin 2048 → Fin 64 → ℝ} {kb : FVec Ideal S1x2048x128 .bf16}

/-- The scaled queries of a key head, against its keys. -/
def sc (X : Fin 2 → Fin 128 → Fin 64 → ℝ) (Kt : Fin 2048 → Fin 64 → ℝ) (r : Fin 2) (i : Fin 128) (j : Fin 2048) : ℝ :=
  ∑ d, X r i d * (1 / 8) * Kt j d

theorem scores_low {x : Vec Ideal S1x128x128 .bf16} (hx : ∀ r i d, x (ix3 (0 : Fin 1) i (lane r d)) = (X r i d : EReal))
    (hk : ∀ g j d, kb (ix3 (0 : Fin 1) j (lane g d)) = (Kt g j d : EReal)) (r : Fin 2) (i : Fin 128) (j : Fin 2048) :
    k0_pay11 x kb (ix2 (row r i) j) = (sc X (Kt 0) r i j : EReal) := by
  pointwise [k0_pay11]
  rw [sum_lane]
  fin_cases r <;>
    simp [row_lt, row_ge, row_low, row_high, turn_zero, turn_one, low_zero, low_one, sel_true, sel_false, flip_true, flip_false, hx, hk,
      ofBits_eighth, ← EReal.coe_mul, ← coe_sum, sc]

theorem scores_high {x : FVec Ideal S128x128 .f32} (hx : ∀ r i d, x (ix2 i (lane r d)) = (X r i d : EReal))
    (hk : ∀ g j d, kb (ix3 (0 : Fin 1) j (lane g d)) = (Kt g j d : EReal)) (r : Fin 2) (i : Fin 128) (j : Fin 2048) :
    k0_pay19 k0_pay5 x (k0_pay18 k0_pay5 x) kb (ix2 (row r i) j) = (sc X (Kt 1) r i j : EReal) := by
  pointwise [k0_pay19, k0_pay18]
  rw [sum_lane]
  fin_cases r <;>
    simp [row_lt, row_ge, row_low, row_high, turn_zero, turn_one, low_zero, low_one, sel_true, sel_false, flip_true, flip_false, hx, hk,
      ofBits_eighth, ← EReal.coe_mul, ← coe_sum, sc]

end Scores

/-! A row's greatest score, its sum of exponentials and its weights. -/

section Rows

variable {A : Fin 2 → Fin 128 → Fin 2048 → ℝ} {M : Fin 2 → Fin 128 → ℝ}

/-- The sum of exponentials measured from the greatest score. -/
def den (A : Fin 2 → Fin 128 → Fin 2048 → ℝ) (M : Fin 2 → Fin 128 → ℝ) (r : Fin 2) (i : Fin 128) : ℝ := ∑ j, Real.exp (A r i j - M r i)

theorem den_pos (r : Fin 2) (i : Fin 128) : 0 < den A M r i := Finset.sum_pos (fun _ _ => Real.exp_pos _) ⟨0, Finset.mem_univ _⟩

theorem greatest (s : FVec Ideal S256x2048 .f32) (hs : ∀ r i j, s (ix2 (row r i) j) = (A r i j : EReal)) :
    ∃ M : Fin 2 → Fin 128 → ℝ, ∀ r i, Finset.fold max (⊥ : EReal) (fun j => s (ix2 (row r i) j)) Finset.univ = (M r i : EReal) := by
  have h : ∀ r i, ∃ M : ℝ, Finset.fold max (⊥ : EReal) (fun j => s (ix2 (row r i) j)) Finset.univ = (M : EReal) := by
    intro r i
    simp only [hs]
    exact fold_max_real _ ⟨0, Finset.mem_univ _⟩ _
  choose M hM using h
  exact ⟨M, hM⟩

theorem sum_low {s x : FVec Ideal S256x2048 .f32} (hs : ∀ r i j, s (ix2 (row r i) j) = (A r i j : EReal))
    (hx : ∀ r i j, x (ix2 (row r i) j) = (M r i : EReal)) (r : Fin 2) (i : Fin 128) :
    k0_pay15 s x (ix2 (row r i) (0 : Fin 1)) = (den A M r i : EReal) := by
  pointwise [k0_pay15, k0_pay14]
  simp only [hs, hx, ← EReal.coe_sub, Ideal.exp_coe, ← coe_sum, den]

/-- A weight: the exponential over the row's sum. -/
def wt (A : Fin 2 → Fin 128 → Fin 2048 → ℝ) (M : Fin 2 → Fin 128 → ℝ) (r : Fin 2) (i : Fin 128) (j : Fin 2048) : ℝ :=
  Real.exp (A r i j - M r i) / den A M r i

/-- The weighted mean of the values, for key head `g`. -/
def mean (A : Fin 2 → Fin 128 → Fin 2048 → ℝ) (M : Fin 2 → Fin 128 → ℝ) (v : Vec Ideal S1x2048x128 .bf16) (g r : Fin 2) (i : Fin 128) (d : Fin 64) : EReal :=
  ∑ j, (wt A M r i j : EReal) * v (ix3 (0 : Fin 1) j (lane g d))

theorem weight (r : Fin 2) (i : Fin 128) (j : Fin 2048) :
    (Real.exp (A r i j - M r i) : EReal) * Ideal.div 1 (den A M r i : EReal) = (wt A M r i j : EReal) := by
  rw [Ideal.div_coe (den_pos r i).ne', one_mul, ← EReal.coe_mul, wt, mul_one_div]

theorem out_low {s x : FVec Ideal S256x2048 .f32} (hs : ∀ r i j, s (ix2 (row r i) j) = (A r i j : EReal))
    (hx : ∀ r i j, x (ix2 (row r i) j) = (M r i : EReal)) (v : Vec Ideal S1x2048x128 .bf16) (r : Fin 2) (i : Fin 128) (d : Fin 64) :
    k0_pay1 (k0_pay16 k0_pay5 (k0_pay7 (F := Ideal)) s x v) (ix3 (0 : Fin 1) i (lane r d)) = mean A M v 0 r i d := by
  have h1 := fun r i => sum_low hs hx r i
  have h2 : ∀ r i j, k0_pay14 s x (ix2 (row r i) j) = (Real.exp (A r i j - M r i) : EReal) := by
    intro r i j
    pointwise [k0_pay14]
    rw [hs, hx, ← EReal.coe_sub, Ideal.exp_coe]
  pointwise [k0_pay1, k0_pay16, k0_pay7]
  fin_cases r <;>
    simp [turn_zero, turn_one, low_zero, low_one, sel_true, sel_false, row_zero, row_one, h1, h2, weight, mean]

theorem log_low {s x : FVec Ideal S256x2048 .f32} {z : FVec Ideal S256x1 .f32} (hs : ∀ r i j, s (ix2 (row r i) j) = (A r i j : EReal))
    (hx : ∀ r i j, x (ix2 (row r i) j) = (M r i : EReal)) (hz : ∀ r i, z (ix2 (row r i) (0 : Fin 1)) = (M r i : EReal))
    (r : Fin 2) (i : Fin 128) (d : Fin 64) :
    k0_pay2 (k0_pay17 k0_pay5 (k0_pay9 (F := Ideal)) s z x) (ix3 (0 : Fin 1) i (lane r d))
      = ((M r i + Real.log (den A M r i) : ℝ) : EReal) := by
  have h1 := fun r i => sum_low hs hx r i
  pointwise [k0_pay2, k0_pay17, k0_pay9]
  fin_cases r <;>
    simp [low_zero, low_one, sel_true, sel_false, flip_true, flip_false, row_zero, row_one, h1, hz, Ideal.log_coe, not_le.mpr (den_pos _ _)]

/-! The second key head. -/

variable {x p : FVec Ideal S128x128 .f32} {kb : FVec Ideal S1x2048x128 .bf16}

theorem exp_high (hs : ∀ r i j, k0_pay19 k0_pay5 x p kb (ix2 (row r i) j) = (A r i j : EReal))
    (hm : ∀ r i, k0_pay20 k0_pay5 x p kb (ix2 (row r i) (0 : Fin 1)) = (M r i : EReal)) (r : Fin 2) (i : Fin 128) (j : Fin 2048) :
    k0_pay21 k0_pay5 x p kb (ix2 (row r i) j) = (Real.exp (A r i j - M r i) : EReal) := by
  pointwise [k0_pay21]
  rw [hs, hm, ← EReal.coe_sub, Ideal.exp_coe]

theorem sum_high (hs : ∀ r i j, k0_pay19 k0_pay5 x p kb (ix2 (row r i) j) = (A r i j : EReal))
    (hm : ∀ r i, k0_pay20 k0_pay5 x p kb (ix2 (row r i) (0 : Fin 1)) = (M r i : EReal)) (r : Fin 2) (i : Fin 128) :
    k0_pay22 k0_pay5 x p kb (ix2 (row r i) (0 : Fin 1)) = (den A M r i : EReal) := by
  pointwise [k0_pay22]
  simp only [exp_high hs hm, ← coe_sum, den]

theorem out_high (hs : ∀ r i j, k0_pay19 k0_pay5 x p kb (ix2 (row r i) j) = (A r i j : EReal))
    (hm : ∀ r i, k0_pay20 k0_pay5 x p kb (ix2 (row r i) (0 : Fin 1)) = (M r i : EReal)) (v : Vec Ideal S1x2048x128 .bf16)
    (r : Fin 2) (i : Fin 128) (d : Fin 64) :
    k0_pay3 (k0_pay24 k0_pay5 x (k0_pay8 (F := Ideal)) p kb v) (k0_pay25 k0_pay5 x p kb v) (ix3 (0 : Fin 1) i (lane r d)) = mean A M v 1 r i d := by
  pointwise [k0_pay3, k0_pay24, k0_pay25, k0_pay23, k0_pay8]
  fin_cases r <;>
    simp [turn_zero, turn_one, low_zero, low_one, sel_true, sel_false, flip_true, flip_false, row_zero, row_one, exp_high hs hm,
      sum_high hs hm, weight, mean]

theorem log_high {z e : FVec Ideal S256x1 .f32} (hz : ∀ r i, z (ix2 (row r i) (0 : Fin 1)) = (M r i : EReal))
    (he : ∀ r i, e (ix2 (row r i) (0 : Fin 1)) = (den A M r i : EReal)) (r : Fin 2) (i : Fin 128) (d : Fin 64) :
    k0_pay4 k0_pay5 (k0_pay10 (F := Ideal)) z e (ix3 (0 : Fin 1) i (lane r d)) = ((M r i + Real.log (den A M r i) : ℝ) : EReal) := by
  pointwise [k0_pay4, k0_pay10]
  fin_cases r <;>
    simp [low_zero, low_one, sel_true, sel_false, flip_true, flip_false, row_zero, row_one, he, hz, Ideal.log_coe, not_le.mpr (den_pos _ _)]

end Rows

/-! The two blocks a point leaves. -/

section Blocks

variable {Qt : Fin 2 → Fin 2 → Fin 128 → Fin 64 → ℝ} {Kt : Fin 2 → Fin 2048 → Fin 64 → ℝ}
variable {q : Vec Ideal S1x128x256 .bf16} {k : Vec Ideal S1x2048x128 .bf16}

theorem max_low (s1 : Vec Ideal S1x128x128 .bf16) (kb : Vec Ideal S1x2048x128 .bf16) {A : Fin 2 → Fin 128 → Fin 2048 → ℝ}
    (hs : ∀ r i j, k0_pay11 s1 kb (ix2 (row r i) j) = (A r i j : EReal)) :
    ∃ M : Fin 2 → Fin 128 → ℝ, (∀ r i, k0_pay12 s1 kb (ix2 (row r i) (0 : Fin 1)) = (M r i : EReal)) ∧
      ∀ r i j, k0_pay13 s1 kb (ix2 (row r i) j) = (M r i : EReal) := by
  obtain ⟨M, hM⟩ := greatest _ hs
  have h : ∀ r i, k0_pay12 s1 kb (ix2 (row r i) (0 : Fin 1)) = (M r i : EReal) := by
    intro r i
    pointwise [k0_pay12]
    rw [ofBits_neg_inf]
    exact hM r i
  refine ⟨M, h, fun r i j => ?_⟩
  pointwise [k0_pay13]
  exact h r i

theorem max_high (x p : FVec Ideal S128x128 .f32) (kb : Vec Ideal S1x2048x128 .bf16) {A : Fin 2 → Fin 128 → Fin 2048 → ℝ}
    (hs : ∀ r i j, k0_pay19 k0_pay5 x p kb (ix2 (row r i) j) = (A r i j : EReal)) :
    ∃ M : Fin 2 → Fin 128 → ℝ, ∀ r i, k0_pay20 k0_pay5 x p kb (ix2 (row r i) (0 : Fin 1)) = (M r i : EReal) := by
  obtain ⟨M, hM⟩ := greatest _ hs
  refine ⟨M, fun r i => ?_⟩
  pointwise [k0_pay20]
  rw [ofBits_neg_inf]
  exact hM r i

theorem emb_hi (i : Fin 128) (r : Fin 2) (d : Fin 64) : ix3 (0 : Fin 1) i (col 1 r d) = r0_1.emb (ix3 (0 : Fin 1) i (lane r d)) := by
  funext a
  apply Fin.ext
  match a with
  | ⟨0, _⟩ => rfl
  | ⟨1, _⟩ => show i.val = 0 + 1 * i.val; omega
  | ⟨2, _⟩ => show (1 * 2 + r.val) * 64 + d.val = 128 + 1 * (r.val * 64 + d.val); omega

theorem emb_lo (i : Fin 128) (r : Fin 2) (d : Fin 64) : ix3 (0 : Fin 1) i (col 0 r d) = r0_0.emb (ix3 (0 : Fin 1) i (lane r d)) := by
  funext a
  apply Fin.ext
  match a with
  | ⟨0, _⟩ => rfl
  | ⟨1, _⟩ => show i.val = 0 + 1 * i.val; omega
  | ⟨2, _⟩ => show (0 * 2 + r.val) * 64 + d.val = 0 + 1 * (r.val * 64 + d.val); omega

/-- Two halves stored side by side. -/
theorem halves (w1 w0 : Vec Ideal S1x128x128 .f32) (i : Fin 128) (r : Fin 2) (d : Fin 64) :
    View.canon [⟨r0_1, w1⟩, ⟨r0_0, w0⟩] (ix3 (0 : Fin 1) i (col 0 r d)) = w0 (ix3 (0 : Fin 1) i (lane r d)) ∧
    View.canon [⟨r0_1, w1⟩, ⟨r0_0, w0⟩] (ix3 (0 : Fin 1) i (col 1 r d)) = w1 (ix3 (0 : Fin 1) i (lane r d)) := by
  constructor
  · refine (canon_low w1 _ i r d).trans ?_
    rw [emb_lo, View.canon_cons_emb]
  · rw [emb_hi, View.canon_cons_emb]

/-- A point's scores and some number for every row, such that the blocks are the weighted means and the logs. -/
theorem point (hq : ∀ g r i d, q (ix3 (0 : Fin 1) i (col g r d)) = (Qt g r i d : EReal))
    (hk : ∀ g j d, k (ix3 (0 : Fin 1) j (lane g d)) = (Kt g j d : EReal)) (v : Vec Ideal S1x2048x128 .bf16) (g : Fin 2) :
    ∃ M : Fin 2 → Fin 128 → ℝ, ∀ r i d,
      out0_3 q k v (ix3 (0 : Fin 1) i (col g r d)) = mean (sc (Qt g) (Kt g)) M v g r i d ∧
      out0_4 q k v (ix3 (0 : Fin 1) i (col g r d))
        = ((M r i + Real.log (den (sc (Qt g) (Kt g)) M r i) : ℝ) : EReal) := by
  have ek : View.ld k r0_2 = k := View.ld_unit_zero (S := S1x2048x128) hz3 _ _
  have ev : View.ld v r0_2 = v := View.ld_unit_zero (S := S1x2048x128) hz3 _ _
  unfold_out out0_3
  unfold_out out0_4
  rw [ek, ev]
  match g with
  | 0 =>
    have hs := scores_low (x := View.ld q r0_0) (fun r i d => (lo_apply q i r d).trans (hq 0 r i d)) hk
    obtain ⟨M, hc, hb⟩ := max_low _ _ hs
    exact ⟨M, fun r i d => ⟨((halves _ _ i r d).1).trans (out_low hs hb v r i d), ((halves _ _ i r d).1).trans (log_low hs hb hc r i d)⟩⟩
  | 1 =>
    have hx : ∀ r i d, k0_pay6 (View.ld q r0_1) (ix2 i (lane r d)) = (Qt 1 r i d : EReal) := by
      intro r i d
      pointwise [k0_pay6]
      refine (congrArg q ?_).trans (hq 1 r i d)
      exact congrArg _ (Fin.ext (by show 128 + (r.val * 64 + d.val) = (1 * 2 + r.val) * 64 + d.val; omega))
    have hs := scores_high hx hk
    obtain ⟨M, hm⟩ := max_high _ _ _ hs
    exact ⟨M, fun r i d => ⟨((halves _ _ i r d).2).trans (out_high hs hm v r i d),
      ((halves _ _ i r d).2).trans (log_high hm (sum_high hs hm) r i d)⟩⟩

end Blocks

/-! The grid: point `t` takes batch `t / 16` and its `t % 16`-th tile of 128 queries. -/

section Grid

variable (m : (ℓ : Loc nD τ sig) → Buf (Elt Ideal) ℓ) (c : Dev nD)

def argQ : FVec Ideal S2x2048x4x64 .f32 := m ((c.tc : Thread nD τ).loc main_arg0)
def argK : FVec Ideal S2x2048x2x64 .f32 := m ((c.tc : Thread nD τ).loc main_arg1)
def argV : FVec Ideal S2x2048x2x64 .f32 := m ((c.tc : Thread nD τ).loc main_arg2)

theorem pt (t : Fin cfg0.N) : t.val < 32 := lt_of_lt_of_eq t.isLt N_0
def batch (t : Fin cfg0.N) : Fin 2 := ⟨t.val / 16, by have := pt t; omega⟩
def tile (t : Fin cfg0.N) : Fin 16 := ⟨t.val % 16, by omega⟩

/-- Query `i` of the `T`-th tile. -/
def rowAt (T : Fin 16) (i : Fin 128) : Fin 2048 := ⟨T.val * 128 + i.val, by omega⟩

theorem e0 : ∀ t : Fin cfg0.N, win0_0.index t 0 = t.val / 16 ∧ win0_0.index t 1 = t.val % 16 ∧ win0_0.index t 2 = 2 :=
  (by decide +kernel : ∀ t : Fin grid0.N, win0_0.index t 0 = t.val / 16 ∧ win0_0.index t 1 = t.val % 16 ∧ win0_0.index t 2 = 2)
theorem e1 : ∀ t : Fin cfg0.N, win0_1.index t 0 = t.val / 16 ∧ win0_1.index t 1 = 0 ∧ win0_1.index t 2 = 6 :=
  (by decide +kernel : ∀ t : Fin grid0.N, win0_1.index t 0 = t.val / 16 ∧ win0_1.index t 1 = 0 ∧ win0_1.index t 2 = 6)
theorem e2 : ∀ t : Fin cfg0.N, win0_2.index t 0 = t.val / 16 ∧ win0_2.index t 1 = 0 ∧ win0_2.index t 2 = 7 :=
  (by decide +kernel : ∀ t : Fin grid0.N, win0_2.index t 0 = t.val / 16 ∧ win0_2.index t 1 = 0 ∧ win0_2.index t 2 = 7)
theorem e3 : ∀ t : Fin cfg0.N, win0_3.index t 0 = t.val / 16 ∧ win0_3.index t 1 = t.val % 16 ∧ win0_3.index t 2 = 0 :=
  (by decide +kernel : ∀ t : Fin grid0.N, win0_3.index t 0 = t.val / 16 ∧ win0_3.index t 1 = t.val % 16 ∧ win0_3.index t 2 = 0)
theorem e4 : ∀ t : Fin cfg0.N, win0_4.index t 0 = t.val / 16 ∧ win0_4.index t 1 = t.val % 16 ∧ win0_4.index t 2 = 0 :=
  (by decide +kernel : ∀ t : Fin grid0.N, win0_4.index t 0 = t.val / 16 ∧ win0_4.index t 1 = t.val % 16 ∧ win0_4.index t 2 = 0)

theorem V_att : V m c main_v7 = rows (argQ m c) (argK m c) (argV m c) := by
  unfold V argQ argK argV
  after_results_simp <;> rfl

def bQ (t : Fin cfg0.N) : Vec Ideal S1x128x256 .bf16 := iblk m c 0 t
def bK (t : Fin cfg0.N) : Vec Ideal S1x2048x128 .bf16 := iblk m c 1 t
def bV (t : Fin cfg0.N) : Vec Ideal S1x2048x128 .bf16 := iblk m c 2 t

theorem bQ_apply (t : Fin cfg0.N) (g r : Fin 2) (i : Fin 128) (d : Fin 64) :
    bQ m c t (ix3 (0 : Fin 1) i (col g r d)) = argQ m c (ix4 (batch t) (rowAt (tile t) i) (hd g r) d) := by
  rw [← rows_q (argQ m c) (argK m c) (argV m c), ← V_att]
  unfold bQ
  have := pt t
  blk_ext [iblk, e0, batch, tile, rowAt, col, hd]
theorem bK_apply (t : Fin cfg0.N) (j : Fin 2048) (g : Fin 2) (d : Fin 64) :
    bK m c t (ix3 (0 : Fin 1) j (lane g d)) = argK m c (ix4 (batch t) j g d) := by
  rw [← rows_k (argQ m c) (argK m c) (argV m c), ← V_att]
  unfold bK
  have := pt t
  blk_ext [iblk, e1, batch, lane]
theorem bV_apply (t : Fin cfg0.N) (j : Fin 2048) (g : Fin 2) (d : Fin 64) :
    bV m c t (ix3 (0 : Fin 1) j (lane g d)) = argV m c (ix4 (batch t) j g d) := by
  rw [← rows_v (argQ m c) (argK m c) (argV m c), ← V_att]
  unfold bV
  have := pt t
  blk_ext [iblk, e2, batch, lane]

variable {m c} {Q : Fin 2 → Fin 2048 → Fin 4 → Fin 64 → ℝ} {K : Fin 2 → Fin 2048 → Fin 2 → Fin 64 → ℝ}

theorem sc_score (b g r : Fin 2) (T : Fin 16) (i : Fin 128) (j : Fin 2048) :
    sc (fun r i d => Q b (rowAt T i) (hd g r) d) (fun j d => K b j g d) r i j = score Q K b g r (rowAt T i) j := by
  unfold sc score
  rw [Finset.sum_mul]
  exact Finset.sum_congr rfl fun d _ => by ring

/-- The results' entries. -/
def resO (Q : Fin 2 → Fin 2048 → Fin 4 → Fin 64 → ℝ) (K : Fin 2 → Fin 2048 → Fin 2 → Fin 64 → ℝ) (v : FVec Ideal S2x2048x2x64 .f32)
    (b : Fin 2) (n : Fin 2048) (g r : Fin 2) (d : Fin 64) : EReal :=
  ∑ j, (prob Q K b g r n j : EReal) * v (ix4 b j g d)
def resL (Q : Fin 2 → Fin 2048 → Fin 4 → Fin 64 → ℝ) (K : Fin 2 → Fin 2048 → Fin 2 → Fin 64 → ℝ) (b : Fin 2) (n : Fin 2048) (g r : Fin 2) : EReal :=
  ((Real.log (denom Q K b g r n) : ℝ) : EReal)

/-- A row's sum, weights and log do not depend on the number its scores are measured from. -/
theorem den_eq (M : Fin 2 → Fin 128 → ℝ) (b g r : Fin 2) (T : Fin 16) (i : Fin 128) :
    den (sc (fun r i d => Q b (rowAt T i) (hd g r) d) (fun j d => K b j g d)) M r i = denom Q K b g r (rowAt T i) * Real.exp (-M r i) := by
  unfold den
  simp only [sc_score]
  exact denom_shift Q K b g r (rowAt T i) (M r i)
theorem wt_eq (M : Fin 2 → Fin 128 → ℝ) (b g r : Fin 2) (T : Fin 16) (i : Fin 128) (j : Fin 2048) :
    wt (sc (fun r i d => Q b (rowAt T i) (hd g r) d) (fun j d => K b j g d)) M r i j = prob Q K b g r (rowAt T i) j := by
  unfold wt
  rw [den_eq, sc_score, prob_shift]
theorem log_eq (M : Fin 2 → Fin 128 → ℝ) (b g r : Fin 2) (T : Fin 16) (i : Fin 128) :
    M r i + Real.log (den (sc (fun r i d => Q b (rowAt T i) (hd g r) d) (fun j d => K b j g d)) M r i) = Real.log (denom Q K b g r (rowAt T i)) := by
  rw [den_eq, Real.log_mul (denom_pos Q K b g r (rowAt T i)).ne' (Real.exp_ne_zero _), Real.log_exp]
  ring

theorem left (hq : ∀ b i h d, argQ m c (ix4 b i h d) = (Q b i h d : EReal)) (hk : ∀ b j g d, argK m c (ix4 b j g d) = (K b j g d : EReal))
    (t : Fin cfg0.N) (g r : Fin 2) (i : Fin 128) (d : Fin 64) :
    out0_3 (bQ m c t) (bK m c t) (bV m c t) (ix3 (0 : Fin 1) i (col g r d)) = resO Q K (argV m c) (batch t) (rowAt (tile t) i) g r d ∧
    out0_4 (bQ m c t) (bK m c t) (bV m c t) (ix3 (0 : Fin 1) i (col g r d)) = resL Q K (batch t) (rowAt (tile t) i) g r := by
  obtain ⟨M, h⟩ := point (Qt := fun g r i d => Q (batch t) (rowAt (tile t) i) (hd g r) d) (Kt := fun g j d => K (batch t) j g d)
    (fun g r i d => (bQ_apply m c t g r i d).trans (hq _ _ _ _)) (fun g j d => (bK_apply m c t j g d).trans (hk _ _ _ _)) (bV m c t) g
  obtain ⟨h3, h4⟩ := h r i d
  refine ⟨h3.trans ?_, h4.trans ?_⟩
  · unfold mean resO
    exact Finset.sum_congr rfl fun j _ => by rw [wt_eq, bV_apply]
  · unfold resL
    rw [log_eq]

theorem idx_block (y : S1x128x256.Idx) : ∃ i g r d, y = ix3 (0 : Fin 1) i (col g r d) := by
  obtain ⟨a, i, x, rfl⟩ : ∃ (a : Fin 1) (i : Fin 128) (x : Fin 256), y = ix3 a i x := ⟨y 0, y 1, y 2, eq_ix3 y⟩
  obtain rfl : a = 0 := Subsingleton.elim _ _
  exact ⟨i, ⟨x.val / 128, by omega⟩, ⟨x.val / 64 % 2, by omega⟩, ⟨x.val % 64, by omega⟩, congrArg _ (Fin.ext (by simp only [col]; omega))⟩

/-- The result arrays. -/
theorem final3 (hq : ∀ b i h d, argQ m c (ix4 b i h d) = (Q b i h d : EReal)) (hk : ∀ b j g d, argK m c (ix4 b j g d) = (K b j g d : EReal))
    (R : Vec Ideal S2x2048x256 .f32) (hR : ∀ b n g r d, R (ix3 b n (col g r d)) = resO Q K (argV m c) b n g r d) :
    (dats m 0 c).arrAt 3 cfg0.N = R := by
  refine (dats m 0 c).arrAt_eq_of_covers 3 _ (by decide +kernel) fun t hf y => ?_
  blk_simp
  rw [after0_3]
  obtain ⟨i, g, r, d, rfl⟩ := idx_block y
  refine ((left hq hk t g r i d).1).trans ((hR (batch t) (rowAt (tile t) i) g r d).symm.trans ?_)
  have := pt t
  blk_ext [e3, batch, tile, rowAt]
theorem final4 (hq : ∀ b i h d, argQ m c (ix4 b i h d) = (Q b i h d : EReal)) (hk : ∀ b j g d, argK m c (ix4 b j g d) = (K b j g d : EReal))
    (R : Vec Ideal S2x2048x256 .f32) (hR : ∀ b n g r d, R (ix3 b n (col g r d)) = resL Q K b n g r) :
    (dats m 0 c).arrAt 4 cfg0.N = R := by
  refine (dats m 0 c).arrAt_eq_of_covers 4 _ (by decide +kernel) fun t hf y => ?_
  blk_simp
  rw [after0_4]
  obtain ⟨i, g, r, d, rfl⟩ := idx_block y
  refine ((left hq hk t g r i d).2).trans ((hR (batch t) (rowAt (tile t) i) g r d).symm.trans ?_)
  have := pt t
  blk_ext [e4, batch, tile, rowAt]

end Grid

/-! The reference. -/

section Ref

open Cert.AttnFRefIdeal (S2x2x2x2048x2048 S2x2048x4x1 S2x2048x2x2)

/-- The log of every query's sum of exponentials, repeated along its head's lanes. -/
def logSums (s : FVec Ideal S2x2x2x2048x2048 .f32) : FVec Ideal S2x2048x256 .f32 :=
  shapeCast S2x2048x256 (broadcastInDim S2x2048x4x64 ![0, 1, 2, 3] AttnFRefIdeal.Gen.facts.bcast_S2x2048x4x1_S2x2048x4x64_0_1_2_3
    (shapeCast S2x2048x4x1 (transpose S2x2048x2x2 [0, 3, 1, 2] (Host.log (keySum (Host.exp s)))
      AttnFRefIdeal.Gen.facts.transposes_S2x2x2x2048_S2x2048x2x2_0_3_1_2) AttnFRefIdeal.Gen.facts.shapeCasts_S2x2048x2x2_S2x2048x4x1))
    AttnFRefIdeal.Gen.facts.shapeCasts_S2x2048x4x64_S2x2048x256

variable {q : FVec Ideal S2x2048x4x64 .f32} {k v : FVec Ideal S2x2048x2x64 .f32}
variable {Q : Fin 2 → Fin 2048 → Fin 4 → Fin 64 → ℝ} {K : Fin 2 → Fin 2048 → Fin 2 → Fin 64 → ℝ}

theorem ref_o (hq : ∀ b i h d, q (ix4 b i h d) = (Q b i h d : EReal)) (hk : ∀ b j g d, k (ix4 b j g d) = (K b j g d : EReal))
    (b : Fin 2) (n : Fin 2048) (g r : Fin 2) (d : Fin 64) : saved (probs (wts q k)) v (ix3 b n (col g r d)) = resO Q K v b n g r d := by
  unfold col
  pointwise [saved]
  simp only [probs_wts hq hk]
  exact Finset.sum_congr rfl fun j _ => mul_comm _ _

theorem ref_l (hq : ∀ b i h d, q (ix4 b i h d) = (Q b i h d : EReal)) (hk : ∀ b j g d, k (ix4 b j g d) = (K b j g d : EReal))
    (b : Fin 2) (n : Fin 2048) (g r : Fin 2) (d : Fin 64) : logSums (scores q k) (ix3 b n (col g r d)) = resL Q K b n g r := by
  have he : ∀ b g r i j, Host.exp (scores q k) (ix5 b g r i j) = (Real.exp (score Q K b g r i j) : EReal) := by
    intro b g r i j
    pointwise
    rw [scores_apply hq hk, Ideal.exp_coe]
  have e : logSums (scores q k) (ix3 b n (col g r d)) = Ideal.log (keySum (Host.exp (scores q k)) (ix4 b g r n)) := by
    unfold col
    pointwise [logSums]
  rw [e, keySum_apply he, Ideal.log_coe]
  exact if_neg (not_le.mpr (denom_pos Q K b g r n))

end Ref

/-! The precondition: the queries and keys are real numbers. -/

theorem preFacts : Cert.Pre_finite_scores.Facts where
  bcast_S_S2x2048x4x64 := by decide
  reducesTo_S2x2048x4x64_S_d0_1_2_3 := by decide
  h_S_ := by decide
  bcast_S_S2x2048x2x64 := by decide
  reducesTo_S2x2048x2x64_S_d0_1_2_3 := by decide

theorem real_args {q : FVec Ideal Cert.Pre_finite_scores.S2x2048x4x64 .f32} {k v : FVec Ideal Cert.Pre_finite_scores.S2x2048x2x64 .f32}
    (e : @Cert.Pre_finite_scores.fn preFacts Ideal _ q k v = fun _ => 1#1) :
    (∀ i, ∃ r : ℝ, q i = (r : EReal)) ∧ ∀ i, ∃ r : ℝ, k i = (r : EReal) := by
  have e0 := congrFun e ix0
  unfold Cert.Pre_finite_scores.fn at e0
  obtain ⟨e1, e2⟩ := IntOp.andi_eq_one.mp e0
  exact ⟨fun i => real_of_lt q _ i (Host.reduce_andi_all _ _ _ _ _ e1 i), fun i => real_of_lt k _ i (Host.reduce_andi_all _ _ _ _ _ e2 i)⟩

theorem ref_run (m' : (ℓ : Loc AttnFRefIdeal.nD AttnFRefIdeal.τ AttnFRefIdeal.sig) → Buf (Elt Ideal) ℓ) (g : Dev AttnFRefIdeal.nD → PrngReg) :
    θ_run (AttnFRefIdeal.defs (F := Ideal)) (onTc (τ := AttnFRefIdeal.τ) (AttnFRefIdeal.main (F := Ideal))) ⟨m', fun _ => 0, g⟩ fun r => ∀ c : Dev AttnFRefIdeal.nD,
      r.2.mem ((c.tc : Thread AttnFRefIdeal.nD AttnFRefIdeal.τ).loc AttnFRefIdeal.main_v29)
        = saved (probs (wts (m' (c.tc.loc AttnFRefIdeal.main_arg0)) (m' (c.tc.loc AttnFRefIdeal.main_arg1)))) (m' (c.tc.loc AttnFRefIdeal.main_arg2))
      ∧ r.2.mem ((c.tc : Thread AttnFRefIdeal.nD AttnFRefIdeal.τ).loc AttnFRefIdeal.main_v31)
        = logSums (scores (m' (c.tc.loc AttnFRefIdeal.main_arg0)) (m' (c.tc.loc AttnFRefIdeal.main_arg1)))
      ∧ r.2.mem ((c.tc : Thread AttnFRefIdeal.nD AttnFRefIdeal.τ).loc AttnFRefIdeal.main_arg0) = m' (c.tc.loc AttnFRefIdeal.main_arg0)
      ∧ r.2.mem ((c.tc : Thread AttnFRefIdeal.nD AttnFRefIdeal.τ).loc AttnFRefIdeal.main_arg1) = m' (c.tc.loc AttnFRefIdeal.main_arg1)
      ∧ r.2.mem ((c.tc : Thread AttnFRefIdeal.nD AttnFRefIdeal.τ).loc AttnFRefIdeal.main_arg2) = m' (c.tc.loc AttnFRefIdeal.main_arg2) :=
  AttnFRefIdeal.Value.run m' g

theorem algebraic : @algebraic_AttnFIdeal_AttnFRefIdeal_pre_finite_scores Cert.AttnFIdeal.Gen.facts Cert.AttnFRefIdeal.Gen.facts preFacts := by
  intro m ρ m' ρ' hpre hagree
  refine ⟨fun c => saved (probs (wts (m' (c.tc.loc AttnFRefIdeal.main_arg0)) (m' (c.tc.loc AttnFRefIdeal.main_arg1)))) (m' (c.tc.loc AttnFRefIdeal.main_arg2)),
    fun c => logSums (scores (m' (c.tc.loc AttnFRefIdeal.main_arg0)) (m' (c.tc.loc AttnFRefIdeal.main_arg1))), ?_, ref_run m' ρ'⟩
  refine (θ_run Cert.AttnFIdeal.defs _ _).mono (fun r h c => ?_) (Value.run_blocks m ρ)
  obtain ⟨h3, h4, k⟩ := h c
  obtain ⟨a0, a1, a2⟩ := hagree c
  obtain ⟨hq, hk⟩ := real_args (hpre c)
  choose Q hQ using hq
  choose K hK using hk
  have q : ∀ b i h d, argQ m c (ix4 b i h d) = ((Q (ix4 b i h d) : ℝ) : EReal) := fun _ _ _ _ => hQ _
  have k' : ∀ b i h d, argK m c (ix4 b i h d) = ((K (ix4 b i h d) : ℝ) : EReal) := fun _ _ _ _ => hK _
  refine ⟨h3.trans (final3 (Q := fun b i h d => Q (ix4 b i h d)) (K := fun b i h d => K (ix4 b i h d)) q k' _ fun b n g r d => ?_),
    h4.trans (final4 (Q := fun b i h d => Q (ix4 b i h d)) (K := fun b i h d => K (ix4 b i h d)) q k' _ fun b n g r d => ?_), k⟩
  · beta_reduce
    rw [a0, a1, a2]
    exact ref_o q k' b n g r d
  · beta_reduce
    rw [a0, a1]
    exact ref_l q k' b n g r d

end Cert.AttnForward

end
-- ==== Proof.MixGradient.lean ====
module

public import proofs.«01_k».proof.Defs
public import proofs.«01_k».proof.Pre_finite_sums
public import proofs.«01_k».proof.Proof.Gen.MixBIdeal.Value
public import proofs.«01_k».proof.Proof.Gen.MixBRefIdeal.Run
public import proofs.«01_k».proof.Proof.Gen.MixB
public import proofs.«01_k».proof.Proof.Finite
public import proofs.«01_k».proof.Proof.NormMaths
public import Idealize.ShloMosaic.Lib.Pipeline.ReadBack
public import Idealize.ShloMosaic.Lib.Pipeline.ValueKit.Acc
public import Idealize.ShloMosaic.Lib.Pipeline.ValueKit.Geometry
public import Idealize.ShloMosaic.Lib.Pipeline.ValueKit.Tiles
public import Idealize.ShloMosaic.Lib.Pointwise

/-!
# The gradient of the mixture of mixer A's dilations

Each head's output is a mixture of the outputs of three dilations, weighted by the exponentials of their log-sums. A point
takes a band of 512 rows and stores six results: for each dilation the gradient in its output, and in its log-sum, which the
kernel keeps on each of the head's 64 lanes. The reference divides by the exponentials' sum where the kernel multiplies by its
reciprocal, and takes the derivative of the division in two terms.
-/

@[expose] public section

set_option maxRecDepth 16384

noncomputable section

namespace Cert.MixGradient

open scoped BigOperators
open Idealize.ShloMosaic Idealize.ShloMosaic.TcCoe Idealize.SL.Sem Cert.MixBIdeal Cert.MixBIdeal.Gen
open Cert.Dense (ofBits_neg_inf real_of_lt)
open Cert.NormMaths (band)

/-! ## One head of one row -/

section Row

variable (l : Fin 3 → ℝ) (c : Fin 3)

/-- The greatest log-sum, the exponentials measured from it, their sum, and the weights. -/
def greatest : ℝ := max (max (l 0) (l 1)) (l 2)
def part : ℝ := Real.exp (l c - greatest l)
def total : ℝ := part l 0 + part l 1 + part l 2
def weight : ℝ := part l c / total l

theorem part_pos : 0 < part l c := Real.exp_pos _
theorem total_pos : 0 < total l := add_pos (add_pos (part_pos l 0) (part_pos l 1)) (part_pos l 2)
theorem weight_nonneg : 0 ≤ weight l c := (div_pos (part_pos l c) (total_pos l)).le

theorem part_eq : Ideal.exp ((l c : EReal) - max (max (l 0 : EReal) (l 1)) (l 2)) = (part l c : EReal) := by
  rw [← EReal.coe_strictMono.monotone.map_max, ← EReal.coe_strictMono.monotone.map_max, ← EReal.coe_sub, Ideal.exp_coe]
  rfl
theorem total_eq : (part l 0 : EReal) + (part l 1 : EReal) + (part l 2 : EReal) = (total l : EReal) := by
  rw [← EReal.coe_add, ← EReal.coe_add]
  rfl
theorem weight_eq : (part l c : EReal) * Ideal.div 1 (total l : EReal) = (weight l c : EReal) := by
  rw [Ideal.div_coe (total_pos l).ne', one_mul, ← EReal.coe_mul]
  congr 1
  unfold weight
  ring
theorem quotient_eq : Ideal.div (part l c : EReal) (total l : EReal) = (weight l c : EReal) := by
  rw [Ideal.div_coe (total_pos l).ne', ← EReal.coe_mul]
  congr 1
  unfold weight
  ring

variable (g : Fin 3 → EReal)

/-- The gradient in a dilation's log-sum, of the gradients `g` in the weights. -/
def dl : EReal := (weight l c : EReal) * (g c - ((weight l 0 : EReal) * g 0 + (weight l 1 : EReal) * g 1 + (weight l 2 : EReal) * g 2))

/-- A number that is not negative multiplies a sum of any two values term by term. -/
theorem distrib (s : ℝ) (hs : 0 ≤ s) (x y : EReal) : (s : EReal) * (x + y) = (s : EReal) * x + (s : EReal) * y :=
  EReal.left_distrib_of_nonneg_of_ne_top (by exact_mod_cast hs) (EReal.coe_ne_top s) x y

/-- A term of the reference's sum. -/
theorem term_eq (x : EReal) : x * Ideal.div 1 ((total l : EReal) * (total l : EReal)) * (part l c : EReal)
    = ((1 / total l : ℝ) : EReal) * ((weight l c : EReal) * x) := by
  have h := (total_pos l).ne'
  rw [← EReal.coe_mul, Ideal.div_coe (mul_ne_zero h h), one_mul, mul_assoc, ← EReal.coe_mul, ← mul_assoc, ← EReal.coe_mul, mul_comm]
  congr 2
  unfold weight
  field_simp

/-- The derivative of the division in two terms is the kernel's closed form, for gradients of any size. -/
theorem dl_eq : (Ideal.div (g c) (total l : EReal)
      + -(g 0 * Ideal.div 1 ((total l : EReal) * (total l : EReal)) * (part l 0 : EReal)
        + g 1 * Ideal.div 1 ((total l : EReal) * (total l : EReal)) * (part l 1 : EReal)
        + g 2 * Ideal.div 1 ((total l : EReal) * (total l : EReal)) * (part l 2 : EReal))) * (part l c : EReal) = dl l c g := by
  have hs : (0 : ℝ) ≤ 1 / total l := one_div_nonneg.mpr (total_pos l).le
  rw [term_eq, term_eq, term_eq, ← distrib _ hs, ← distrib _ hs, Ideal.div_coe (total_pos l).ne', mul_comm (g c), ← mul_neg,
    ← distrib _ hs, mul_comm, ← mul_assoc, ← EReal.coe_mul, dl, sub_eq_add_neg]
  congr 2
  unfold weight
  ring

end Row

/-! ## The body's values -/

/-- Lane `d` of head `h`. -/
def lane (h : Fin 4) (d : Fin 64) : Fin 256 := ⟨h.val * 64 + d.val, by omega⟩

theorem first_lanes (n : ℕ) (h : n < 128) {α : Type} (x y : α) :
    Scalar.select (IntOp.cmpi CmpIPredicate.slt (BitVec.ofNat 32 n) 64#32) x y = if n < 64 then x else y := by
  have e : ∀ n : Fin 128, IntOp.cmpi CmpIPredicate.slt (BitVec.ofNat 32 n.val) 64#32 = if n.val < 64 then 1#1 else 0#1 := by decide
  rw [show BitVec.ofNat 32 n = BitVec.ofNat 32 (⟨n, h⟩ : Fin 128).val from rfl, e]
  by_cases hn : n < 64
  · simp [hn, Scalar.select]
  · simp [hn, Scalar.select]

/-- A sum over two heads' lanes in which one head counts. -/
theorem first_sum (f : Fin 128 → EReal) : ∑ x : Fin 128, (if x.val < 64 then f x else 0) = ∑ k : Fin 64, f ⟨k.val, by omega⟩ := by
  rw [Fin.sum_univ_add (a := 64) (b := 64) (f := fun x : Fin 128 => if x.val < 64 then f x else 0)]
  have e : ∑ k : Fin 64, (fun x : Fin 128 => if x.val < 64 then f x else 0) (Fin.natAdd 64 k) = 0 :=
    Finset.sum_eq_zero fun k _ => if_neg (by simp)
  rw [e, add_zero]
  exact Finset.sum_congr rfl fun k _ => if_pos (by simp)
theorem second_sum (f : Fin 128 → EReal) : ∑ x : Fin 128, (if x.val < 64 then 0 else f x) = ∑ k : Fin 64, f ⟨64 + k.val, by omega⟩ := by
  rw [Fin.sum_univ_add (a := 64) (b := 64) (f := fun x : Fin 128 => if x.val < 64 then 0 else f x)]
  have e : ∑ k : Fin 64, (fun x : Fin 128 => if x.val < 64 then 0 else f x) (Fin.castAdd 64 k) = 0 :=
    Finset.sum_eq_zero fun k _ => if_pos (by simp)
  rw [e, zero_add]
  exact Finset.sum_congr rfl fun k _ => if_neg (by simp)

/-- The sums of the products of `y` and `o` over each head, on each of the head's lanes. -/
def headSums (y o : Vec Ideal S512x256 .f32) : Vec Ideal S512x256 .f32 :=
  k0_pay21 (k0_pay15 y o) (k0_pay18 y o) (k0_pay19 y o) k0_pay20

theorem headSums_apply (y o : Vec Ideal S512x256 .f32) (i : Fin 512) (h : Fin 4) (d : Fin 64) :
    headSums y o (ix2 i (lane h d)) = ∑ k : Fin 64, y (ix2 i (lane h k)) * o (ix2 i (lane h k)) := by
  have hd := d.isLt
  match h with
  | 0 =>
    unfold lane
    pointwise [headSums, k0_pay21, k0_pay15, k0_pay18, k0_pay19, k0_pay16, k0_pay17, k0_pay20]
    rw [dif_pos (by omega), first_lanes _ (by omega), if_pos (by omega)]
    simp only [first_lanes _ (Fin.isLt _)]
    exact first_sum fun x => y (ix2 i ⟨x.val, by omega⟩) * o (ix2 i ⟨x.val, by omega⟩)
  | 1 =>
    unfold lane
    pointwise [headSums, k0_pay21, k0_pay15, k0_pay18, k0_pay19, k0_pay16, k0_pay17, k0_pay20]
    rw [dif_pos (by omega), first_lanes _ (by omega), if_neg (by omega)]
    simp only [first_lanes _ (Fin.isLt _)]
    exact second_sum fun x => y (ix2 i ⟨x.val, by omega⟩) * o (ix2 i ⟨x.val, by omega⟩)
  | 2 =>
    unfold lane
    pointwise [headSums, k0_pay21, k0_pay15, k0_pay18, k0_pay19, k0_pay16, k0_pay17, k0_pay20]
    rw [first_lanes _ (by omega), if_pos (by omega)]
    simp only [first_lanes _ (Fin.isLt _)]
    exact first_sum fun x => y (ix2 i ⟨128 + x.val, by omega⟩) * o (ix2 i ⟨128 + x.val, by omega⟩)
  | 3 =>
    unfold lane
    pointwise [headSums, k0_pay21, k0_pay15, k0_pay18, k0_pay19, k0_pay16, k0_pay17, k0_pay20]
    rw [dif_neg (by omega), first_lanes _ (by omega), if_neg (by omega)]
    simp only [first_lanes _ (Fin.isLt _)]
    refine (second_sum fun x => y (ix2 i ⟨128 + x.val, by omega⟩) * o (ix2 i ⟨128 + x.val, by omega⟩)).trans ?_
    exact Finset.sum_congr rfl fun k _ => congrArg₂ (· * ·) (congrArg (fun q => y (ix2 i q)) (Fin.ext (by simp; omega)))
      (congrArg (fun q => o (ix2 i q)) (Fin.ext (by simp; omega)))

theorem sums_eq1 (y o : Vec Ideal S512x256 .f32) :
    k0_pay27 (k0_pay22 y o) k0_pay24 (k0_pay25 y o) (k0_pay26 y o) = headSums y o := rfl
theorem sums_eq2 (y o : Vec Ideal S512x256 .f32) :
    k0_pay33 (k0_pay28 y o) k0_pay30 (k0_pay31 y o) (k0_pay32 y o) = headSums y o := rfl

section Weights

variable {a b e : Vec Ideal S512x256 .f32} {i : Fin 512} {j : Fin 256} {l : Fin 3 → ℝ}

theorem weight0_apply (ha : a (ix2 i j) = (l 0 : EReal)) (hb : b (ix2 i j) = (l 1 : EReal)) (he : e (ix2 i j) = (l 2 : EReal)) :
    k0_pay12 a b e (ix2 i j) = (weight l 0 : EReal) := by
  pointwise [k0_pay12, k0_pay8, k0_pay11, k0_pay9, k0_pay10, k0_pay7, k0_pay4, k0_pay5, k0_pay6]
  rw [ha, hb, he, part_eq, part_eq, part_eq, total_eq, weight_eq]
theorem weight1_apply (ha : a (ix2 i j) = (l 0 : EReal)) (hb : b (ix2 i j) = (l 1 : EReal)) (he : e (ix2 i j) = (l 2 : EReal)) :
    k0_pay13 a b e (ix2 i j) = (weight l 1 : EReal) := by
  pointwise [k0_pay13, k0_pay8, k0_pay11, k0_pay9, k0_pay10, k0_pay7, k0_pay4, k0_pay5, k0_pay6]
  rw [ha, hb, he, part_eq, part_eq, part_eq, total_eq, weight_eq]
theorem weight2_apply (ha : a (ix2 i j) = (l 0 : EReal)) (hb : b (ix2 i j) = (l 1 : EReal)) (he : e (ix2 i j) = (l 2 : EReal)) :
    k0_pay14 a b e (ix2 i j) = (weight l 2 : EReal) := by
  pointwise [k0_pay14, k0_pay8, k0_pay11, k0_pay9, k0_pay10, k0_pay7, k0_pay4, k0_pay5, k0_pay6]
  rw [ha, hb, he, part_eq, part_eq, part_eq, total_eq, weight_eq]

end Weights

/-! The six results of a point, of its blocks. -/

section Outs

variable (x0 x1 x2 x3 x4 x5 x6 : Vec Ideal S512x256 .f32) (i : Fin 512) (j : Fin 256)

theorem out_eq7 : out0_7 x0 x1 x2 x3 x4 x5 x6 (ix2 i j) = k0_pay12 x3 x4 x5 (ix2 i j) * x6 (ix2 i j) := by
  unfold_out out0_7
  frame_out
  pointwise [k0_pay35]
theorem out_eq8 : out0_8 x0 x1 x2 x3 x4 x5 x6 (ix2 i j) = k0_pay13 x3 x4 x5 (ix2 i j) * x6 (ix2 i j) := by
  unfold_out out0_8
  frame_out
  pointwise [k0_pay37]
theorem out_eq9 : out0_9 x0 x1 x2 x3 x4 x5 x6 (ix2 i j) = k0_pay14 x3 x4 x5 (ix2 i j) * x6 (ix2 i j) := by
  unfold_out out0_9
  frame_out
  pointwise [k0_pay2]

/-- The weighted sum of the head sums. -/
def mixed : EReal := k0_pay12 x3 x4 x5 (ix2 i j) * headSums x6 x0 (ix2 i j) + k0_pay13 x3 x4 x5 (ix2 i j) * headSums x6 x1 (ix2 i j)
  + k0_pay14 x3 x4 x5 (ix2 i j) * headSums x6 x2 (ix2 i j)

theorem out_eq10 : out0_10 x0 x1 x2 x3 x4 x5 x6 (ix2 i j)
    = k0_pay12 x3 x4 x5 (ix2 i j) * (headSums x6 x0 (ix2 i j) - mixed x0 x1 x2 x3 x4 x5 x6 i j) := by
  unfold_out out0_10
  frame_out
  rw [sums_eq1]
  pointwise [k0_pay36, k0_pay34]
  rw [sums_eq2]
  rfl
theorem out_eq11 : out0_11 x0 x1 x2 x3 x4 x5 x6 (ix2 i j)
    = k0_pay13 x3 x4 x5 (ix2 i j) * (headSums x6 x1 (ix2 i j) - mixed x0 x1 x2 x3 x4 x5 x6 i j) := by
  unfold_out out0_11
  frame_out
  rw [sums_eq1]
  pointwise [k0_pay1, k0_pay38, k0_pay34]
  rw [sums_eq2]
  rfl
theorem out_eq12 : out0_12 x0 x1 x2 x3 x4 x5 x6 (ix2 i j)
    = k0_pay14 x3 x4 x5 (ix2 i j) * (headSums x6 x2 (ix2 i j) - mixed x0 x1 x2 x3 x4 x5 x6 i j) := by
  unfold_out out0_12
  frame_out
  rw [sums_eq1]
  pointwise [k0_pay3, k0_pay34]
  rw [sums_eq2]
  rfl

end Outs

/-! ## The reference, in stages -/

section Ref
open Cert.MixBRefIdeal (S1x4096x4 S3x4096x4 S3x4096x4x64 S1x4096x4x64 S4096x4x1 S3x4096x4x1 S_)

/-- The log-sums and the outputs of the three dilations, stacked. -/
def stackL (l0 l1 l2 : FVec Ideal S4096x4 .f32) : FVec Ideal S3x4096x4 .f32 :=
  concatenate S3x4096x4 0 [⟨S1x4096x4, broadcastInDim S1x4096x4 ![1, 2] MixBRefIdeal.Gen.facts.bcast_S4096x4_S1x4096x4_1_2 l0⟩, ⟨S1x4096x4, broadcastInDim S1x4096x4 ![1, 2] MixBRefIdeal.Gen.facts.bcast_S4096x4_S1x4096x4_1_2 l1⟩, ⟨S1x4096x4, broadcastInDim S1x4096x4 ![1, 2] MixBRefIdeal.Gen.facts.bcast_S4096x4_S1x4096x4_1_2 l2⟩] MixBRefIdeal.Gen.facts.concatenates_S1x4096x4_S1x4096x4_S1x4096x4_S3x4096x4_d0
def stackO (o0 o1 o2 : FVec Ideal S4096x4x64 .f32) : FVec Ideal S3x4096x4x64 .f32 :=
  concatenate S3x4096x4x64 0 [⟨S1x4096x4x64, broadcastInDim S1x4096x4x64 ![1, 2, 3] MixBRefIdeal.Gen.facts.bcast_S4096x4x64_S1x4096x4x64_1_2_3 o0⟩, ⟨S1x4096x4x64, broadcastInDim S1x4096x4x64 ![1, 2, 3] MixBRefIdeal.Gen.facts.bcast_S4096x4x64_S1x4096x4x64_1_2_3 o1⟩, ⟨S1x4096x4x64, broadcastInDim S1x4096x4x64 ![1, 2, 3] MixBRefIdeal.Gen.facts.bcast_S4096x4x64_S1x4096x4x64_1_2_3 o2⟩] MixBRefIdeal.Gen.facts.concatenates_S1x4096x4x64_S1x4096x4x64_S1x4096x4x64_S3x4096x4x64_d0
/-- The greatest log-sum, the exponentials, their sum and the weights. -/
def top (L : FVec Ideal S3x4096x4 .f32) : FVec Ideal S4096x4 .f32 :=
  maximumf (broadcastInDim S4096x4 ![] MixBRefIdeal.Gen.facts.bcast_S_S4096x4 (constant MixBRefIdeal.S_ .f32 0xFF800000#32)) (Host.reduce FloatOps.maximumf L (constant MixBRefIdeal.S_ .f32 0xFF800000#32) MixBRefIdeal.Gen.facts.reducesTo_S3x4096x4_S4096x4_d0 MixBRefIdeal.Gen.facts.h_S_)
def exps (L : FVec Ideal S3x4096x4 .f32) : FVec Ideal S3x4096x4 .f32 :=
  Host.exp (subf L (broadcastInDim S3x4096x4 ![0, 1, 2] MixBRefIdeal.Gen.facts.bcast_S1x4096x4_S3x4096x4_0_1_2 (broadcastInDim S1x4096x4 ![1, 2] MixBRefIdeal.Gen.facts.bcast_S4096x4_S1x4096x4_1_2 (top L))))
def sumE (E : FVec Ideal S3x4096x4 .f32) : FVec Ideal S1x4096x4 .f32 :=
  broadcastInDim S1x4096x4 ![1, 2] MixBRefIdeal.Gen.facts.bcast_S4096x4_S1x4096x4_1_2 (Host.reduceAdd E (constant MixBRefIdeal.S_ .f32 0x00000000#32) MixBRefIdeal.Gen.facts.reducesTo_S3x4096x4_S4096x4_d0 MixBRefIdeal.Gen.facts.h_S_)

/-- The gradient of the mixture by head and lane, the gradients in the weights, and in the outputs and the log-sums. -/
def ctHeads (ct : FVec Ideal S4096x256 .f32) : FVec Ideal S3x4096x4x64 .f32 :=
  broadcastInDim S3x4096x4x64 ![1, 2, 3] MixBRefIdeal.Gen.facts.bcast_S4096x4x64_S3x4096x4x64_1_2_3 (shapeCast S4096x4x64 ct MixBRefIdeal.Gen.facts.shapeCasts_S4096x256_S4096x4x64)
def gradW (ct : FVec Ideal S4096x256 .f32) (O : FVec Ideal S3x4096x4x64 .f32) : FVec Ideal S3x4096x4 .f32 :=
  Host.reduceAdd (shapeCast S3x4096x4x1 (Host.reduceAdd (mulf (ctHeads ct) O) (constant MixBRefIdeal.S_ .f32 0x00000000#32) MixBRefIdeal.Gen.facts.reducesTo_S3x4096x4x64_S3x4096x4_d3 MixBRefIdeal.Gen.facts.h_S_) MixBRefIdeal.Gen.facts.shapeCasts_S3x4096x4_S3x4096x4x1) (constant MixBRefIdeal.S_ .f32 0x00000000#32) MixBRefIdeal.Gen.facts.reducesTo_S3x4096x4x1_S3x4096x4_d3 MixBRefIdeal.Gen.facts.h_S_
def gradO (E : FVec Ideal S3x4096x4 .f32) (ct : FVec Ideal S4096x256 .f32) : FVec Ideal S3x4096x4x64 .f32 :=
  mulf (broadcastInDim S3x4096x4x64 ![0, 1, 2, 3] MixBRefIdeal.Gen.facts.bcast_S3x4096x4x1_S3x4096x4x64_0_1_2_3 (broadcastInDim S3x4096x4x1 ![0, 1, 2] MixBRefIdeal.Gen.facts.bcast_S3x4096x4_S3x4096x4x1_0_1_2 (Host.divf E (broadcastInDim S3x4096x4 ![0, 1, 2] MixBRefIdeal.Gen.facts.bcast_S1x4096x4_S3x4096x4_0_1_2 (sumE E))))) (ctHeads ct)
def gradS (E G : FVec Ideal S3x4096x4 .f32) : FVec Ideal S4096x4 .f32 :=
  Host.reduceAdd (Host.negf (shapeCast S1x4096x4 (Host.reduceAdd (mulf (mulf G (broadcastInDim S3x4096x4 ![0, 1, 2] MixBRefIdeal.Gen.facts.bcast_S1x4096x4_S3x4096x4_0_1_2 (Host.divf (broadcastInDim S1x4096x4 ![] MixBRefIdeal.Gen.facts.bcast_S_S1x4096x4 (constant MixBRefIdeal.S_ .f32 0x3F800000#32)) (mulf (sumE E) (sumE E))))) E) (constant MixBRefIdeal.S_ .f32 0x00000000#32) MixBRefIdeal.Gen.facts.reducesTo_S3x4096x4_S4096x4_d0 MixBRefIdeal.Gen.facts.h_S_) MixBRefIdeal.Gen.facts.shapeCasts_S4096x4_S1x4096x4)) (constant MixBRefIdeal.S_ .f32 0x00000000#32) MixBRefIdeal.Gen.facts.reducesTo_S1x4096x4_S4096x4_d0 MixBRefIdeal.Gen.facts.h_S_
def gradL (E G : FVec Ideal S3x4096x4 .f32) : FVec Ideal S3x4096x4 .f32 :=
  mulf (addf (Host.divf G (broadcastInDim S3x4096x4 ![0, 1, 2] MixBRefIdeal.Gen.facts.bcast_S1x4096x4_S3x4096x4_0_1_2 (sumE E))) (broadcastInDim S3x4096x4 ![1, 2] MixBRefIdeal.Gen.facts.bcast_S4096x4_S3x4096x4_1_2 (gradS E G))) E

variable {l0 l1 l2 : FVec Ideal S4096x4 .f32} {l : Fin 4096 → Fin 4 → Fin 3 → ℝ}

/-- The three log-sums of a head. -/
def Real3 (l0 l1 l2 : FVec Ideal S4096x4 .f32) (l : Fin 4096 → Fin 4 → Fin 3 → ℝ) : Prop :=
  ∀ p h, l0 (ix2 p h) = (l p h 0 : EReal) ∧ l1 (ix2 p h) = (l p h 1 : EReal) ∧ l2 (ix2 p h) = (l p h 2 : EReal)

theorem stackL_apply (hl : Real3 l0 l1 l2 l) (c : Fin 3) (p : Fin 4096) (h : Fin 4) : stackL l0 l1 l2 (ix3 c p h) = (l p h c : EReal) := by
  match c with
  | 0 => exact Eq.trans (by pointwise [stackL]) (hl p h).1
  | 1 => exact Eq.trans (by pointwise [stackL]) (hl p h).2.1
  | 2 => exact Eq.trans (by pointwise [stackL]) (hl p h).2.2

theorem fold_three (f : Fin 3 → EReal) : Finset.univ.fold max ⊥ f = max (max (f 0) (f 1)) (f 2) := by
  have e : Finset.univ.fold max ⊥ f = max (f 0) (max (f 1) (max (f 2) ⊥)) := rfl
  rw [e, max_bot_right, max_assoc]

theorem top_apply (hl : Real3 l0 l1 l2 l) (p : Fin 4096) (h : Fin 4) :
    top (stackL l0 l1 l2) (ix2 p h) = max (max (l p h 0 : EReal) (l p h 1)) (l p h 2) := by
  pointwise [top]
  simp only [stackL_apply hl, ofBits_neg_inf]
  rw [fold_three, max_bot_left]

theorem exps_apply (hl : Real3 l0 l1 l2 l) (c : Fin 3) (p : Fin 4096) (h : Fin 4) :
    exps (stackL l0 l1 l2) (ix3 c p h) = (part (l p h) c : EReal) := by
  pointwise [exps]
  rw [top_apply hl, stackL_apply hl]
  exact part_eq (l p h) c

theorem sumE_apply (E : FVec Ideal S3x4096x4 .f32) (hE : ∀ c p h, E (ix3 c p h) = (part (l p h) c : EReal)) (p : Fin 4096) (h : Fin 4) :
    sumE E (ix3 (0 : Fin 1) p h) = (total (l p h) : EReal) := by
  pointwise [sumE]
  simp only [hE]
  rw [Fin.sum_univ_three, total_eq]

theorem gradO_apply (E : FVec Ideal S3x4096x4 .f32) (hE : ∀ c p h, E (ix3 c p h) = (part (l p h) c : EReal)) (ct : FVec Ideal S4096x256 .f32)
    (c : Fin 3) (p : Fin 4096) (h : Fin 4) (d : Fin 64) :
    gradO E ct (ix4 c p h d) = (weight (l p h) c : EReal) * ct (ix2 p (lane h d)) := by
  unfold lane
  pointwise [gradO, ctHeads]
  rw [hE, sumE_apply E hE, quotient_eq]

theorem gradL_apply (E G : FVec Ideal S3x4096x4 .f32) (hE : ∀ c p h, E (ix3 c p h) = (part (l p h) c : EReal))
    (c : Fin 3) (p : Fin 4096) (h : Fin 4) : gradL E G (ix3 c p h) = dl (l p h) c fun c => G (ix3 c p h) := by
  pointwise [gradL, gradS]
  simp only [Fin.sum_univ_one, Fin.sum_univ_three, hE, sumE_apply E hE]
  exact dl_eq (l p h) c fun c => G (ix3 c p h)

theorem gradW_apply (ct : FVec Ideal S4096x256 .f32) (o0 o1 o2 : FVec Ideal S4096x4x64 .f32) (p : Fin 4096) (h : Fin 4) :
    gradW ct (stackO o0 o1 o2) (ix3 (0 : Fin 3) p h) = ∑ d : Fin 64, ct (ix2 p (lane h d)) * o0 (ix3 p h d)
    ∧ gradW ct (stackO o0 o1 o2) (ix3 (1 : Fin 3) p h) = ∑ d : Fin 64, ct (ix2 p (lane h d)) * o1 (ix3 p h d)
    ∧ gradW ct (stackO o0 o1 o2) (ix3 (2 : Fin 3) p h) = ∑ d : Fin 64, ct (ix2 p (lane h d)) * o2 (ix3 p h d) := by
  unfold lane
  refine ⟨?_, ?_, ?_⟩ <;> pointwise [gradW, ctHeads, stackO] <;> simp only [Fin.sum_univ_one]

end Ref

/-! ## The program's arrays -/

variable (m : (ℓ : Loc nD τ sig) → Buf (Elt Ideal) ℓ) (c : Dev nD)

/-- The arguments: the outputs of the three dilations, their log-sums, and the gradient of the mixture. -/
abbrev O0 : Vec Ideal S4096x4x64 .f32 := m ((c.tc : Thread nD τ).loc main_arg0)
abbrev O1 : Vec Ideal S4096x4x64 .f32 := m ((c.tc : Thread nD τ).loc main_arg1)
abbrev O2 : Vec Ideal S4096x4x64 .f32 := m ((c.tc : Thread nD τ).loc main_arg2)
abbrev L0 : Vec Ideal S4096x4 .f32 := m ((c.tc : Thread nD τ).loc main_arg3)
abbrev L1 : Vec Ideal S4096x4 .f32 := m ((c.tc : Thread nD τ).loc main_arg4)
abbrev L2 : Vec Ideal S4096x4 .f32 := m ((c.tc : Thread nD τ).loc main_arg5)
abbrev C : Vec Ideal S4096x256 .f32 := m ((c.tc : Thread nD τ).loc main_arg6)

/-- The gradients in a head's three weights. -/
def gw (C : Vec Ideal S4096x256 .f32) (O0 O1 O2 : Vec Ideal S4096x4x64 .f32) (p : Fin 4096) (h : Fin 4) : Fin 3 → EReal :=
  ![∑ d : Fin 64, C (ix2 p (lane h d)) * O0 (ix3 p h d), ∑ d : Fin 64, C (ix2 p (lane h d)) * O1 (ix3 p h d),
    ∑ d : Fin 64, C (ix2 p (lane h d)) * O2 (ix3 p h d)]

/-- What the host lays out: an output's heads side by side, and a log-sum on each of its head's lanes. -/
def laid (O : FVec Ideal S4096x4x64 .f32) : FVec Ideal S4096x256 .f32 := shapeCast S4096x256 O shapeCasts_S4096x4x64_S4096x256
def spread (L : FVec Ideal S4096x4 .f32) : FVec Ideal S4096x256 .f32 :=
  laid (broadcastInDim S4096x4x64 ![0, 1, 2] bcast_S4096x4x1_S4096x4x64_0_1_2 (broadcastInDim S4096x4x1 ![0, 1] bcast_S4096x4_S4096x4x1_0_1 L))

theorem laid_apply (O : FVec Ideal S4096x4x64 .f32) (p : Fin 4096) (h : Fin 4) (d : Fin 64) : laid O (ix2 p (lane h d)) = O (ix3 p h d) := by
  unfold lane
  pointwise [laid]
theorem spread_apply (L : FVec Ideal S4096x4 .f32) (p : Fin 4096) (h : Fin 4) (d : Fin 64) : spread L (ix2 p (lane h d)) = L (ix2 p h) := by
  unfold spread
  rw [laid_apply]
  pointwise []

theorem V_0 : (V m c main_v0 : Vec Ideal S4096x256 .f32) = laid (O0 m c) := by
  show StableHlo.after hostOps0 (fun b => m (c, b)) main_v0 = _
  after_results_simp <;> rfl
theorem V_1 : (V m c main_v1 : Vec Ideal S4096x256 .f32) = laid (O1 m c) := by
  show StableHlo.after hostOps0 (fun b => m (c, b)) main_v1 = _
  after_results_simp <;> rfl
theorem V_2 : (V m c main_v2 : Vec Ideal S4096x256 .f32) = laid (O2 m c) := by
  show StableHlo.after hostOps0 (fun b => m (c, b)) main_v2 = _
  after_results_simp <;> rfl
theorem V_3 : (V m c main_v5 : Vec Ideal S4096x256 .f32) = spread (L0 m c) := by
  show StableHlo.after hostOps0 (fun b => m (c, b)) main_v5 = _
  after_results_simp <;> rfl
theorem V_4 : (V m c main_v8 : Vec Ideal S4096x256 .f32) = spread (L1 m c) := by
  show StableHlo.after hostOps0 (fun b => m (c, b)) main_v8 = _
  after_results_simp <;> rfl
theorem V_5 : (V m c main_v11 : Vec Ideal S4096x256 .f32) = spread (L2 m c) := by
  show StableHlo.after hostOps0 (fun b => m (c, b)) main_v11 = _
  after_results_simp <;> rfl

theorem e0 : ∀ t : Fin cfg0.N, win0_0.index t = ![t.val, 0] := (by decide +kernel : ∀ t : Fin grid0.N, _)
theorem e1 : ∀ t : Fin cfg0.N, win0_1.index t = ![t.val, 0] := (by decide +kernel : ∀ t : Fin grid0.N, _)
theorem e2 : ∀ t : Fin cfg0.N, win0_2.index t = ![t.val, 0] := (by decide +kernel : ∀ t : Fin grid0.N, _)
theorem e3 : ∀ t : Fin cfg0.N, win0_3.index t = ![t.val, 0] := (by decide +kernel : ∀ t : Fin grid0.N, _)
theorem e4 : ∀ t : Fin cfg0.N, win0_4.index t = ![t.val, 0] := (by decide +kernel : ∀ t : Fin grid0.N, _)
theorem e5 : ∀ t : Fin cfg0.N, win0_5.index t = ![t.val, 0] := (by decide +kernel : ∀ t : Fin grid0.N, _)
theorem e6 : ∀ t : Fin cfg0.N, win0_6.index t = ![t.val, 0] := (by decide +kernel : ∀ t : Fin grid0.N, _)
theorem e7 : ∀ t : Fin cfg0.N, win0_7.index t = ![t.val, 0] := (by decide +kernel : ∀ t : Fin grid0.N, _)
theorem e8 : ∀ t : Fin cfg0.N, win0_8.index t = ![t.val, 0] := (by decide +kernel : ∀ t : Fin grid0.N, _)
theorem e9 : ∀ t : Fin cfg0.N, win0_9.index t = ![t.val, 0] := (by decide +kernel : ∀ t : Fin grid0.N, _)
theorem e10 : ∀ t : Fin cfg0.N, win0_10.index t = ![t.val, 0] := (by decide +kernel : ∀ t : Fin grid0.N, _)
theorem e11 : ∀ t : Fin cfg0.N, win0_11.index t = ![t.val, 0] := (by decide +kernel : ∀ t : Fin grid0.N, _)
theorem e12 : ∀ t : Fin cfg0.N, win0_12.index t = ![t.val, 0] := (by decide +kernel : ∀ t : Fin grid0.N, _)

theorem pt_lt (t : Fin cfg0.N) : t.val < 8 := lt_of_lt_of_eq t.isLt N_0
abbrev row (t : Fin cfg0.N) (i : Fin 512) : Fin 4096 := band t.val (pt_lt t) i

/-- A point's blocks. -/
def b0 (t : Fin cfg0.N) : Vec Ideal S512x256 .f32 := iblk m c 0 t
def b1 (t : Fin cfg0.N) : Vec Ideal S512x256 .f32 := iblk m c 1 t
def b2 (t : Fin cfg0.N) : Vec Ideal S512x256 .f32 := iblk m c 2 t
def b3 (t : Fin cfg0.N) : Vec Ideal S512x256 .f32 := iblk m c 3 t
def b4 (t : Fin cfg0.N) : Vec Ideal S512x256 .f32 := iblk m c 4 t
def b5 (t : Fin cfg0.N) : Vec Ideal S512x256 .f32 := iblk m c 5 t
def b6 (t : Fin cfg0.N) : Vec Ideal S512x256 .f32 := iblk m c 6 t

theorem b0_apply (t : Fin cfg0.N) (i : Fin 512) (h : Fin 4) (d : Fin 64) : b0 m c t (ix2 i (lane h d)) = O0 m c (ix3 (row t i) h d) := by
  rw [← laid_apply (O0 m c), ← V_0]
  unfold b0
  blk_ext [iblk, e0, band]
theorem b1_apply (t : Fin cfg0.N) (i : Fin 512) (h : Fin 4) (d : Fin 64) : b1 m c t (ix2 i (lane h d)) = O1 m c (ix3 (row t i) h d) := by
  rw [← laid_apply (O1 m c), ← V_1]
  unfold b1
  blk_ext [iblk, e1, band]
theorem b2_apply (t : Fin cfg0.N) (i : Fin 512) (h : Fin 4) (d : Fin 64) : b2 m c t (ix2 i (lane h d)) = O2 m c (ix3 (row t i) h d) := by
  rw [← laid_apply (O2 m c), ← V_2]
  unfold b2
  blk_ext [iblk, e2, band]
theorem b3_apply (t : Fin cfg0.N) (i : Fin 512) (h : Fin 4) (d : Fin 64) : b3 m c t (ix2 i (lane h d)) = L0 m c (ix2 (row t i) h) := by
  rw [← spread_apply (L0 m c) _ _ d, ← V_3]
  unfold b3
  blk_ext [iblk, e3, band]
theorem b4_apply (t : Fin cfg0.N) (i : Fin 512) (h : Fin 4) (d : Fin 64) : b4 m c t (ix2 i (lane h d)) = L1 m c (ix2 (row t i) h) := by
  rw [← spread_apply (L1 m c) _ _ d, ← V_4]
  unfold b4
  blk_ext [iblk, e4, band]
theorem b5_apply (t : Fin cfg0.N) (i : Fin 512) (h : Fin 4) (d : Fin 64) : b5 m c t (ix2 i (lane h d)) = L2 m c (ix2 (row t i) h) := by
  rw [← spread_apply (L2 m c) _ _ d, ← V_5]
  unfold b5
  blk_ext [iblk, e5, band]
theorem b6_apply (t : Fin cfg0.N) (i : Fin 512) (j : Fin 256) : b6 m c t (ix2 i j) = C m c (ix2 (row t i) j) := by
  unfold b6
  blk_ext [iblk, e6, band]

section Point

variable {l : Fin 4096 → Fin 4 → Fin 3 → ℝ} (hl : Real3 (L0 m c) (L1 m c) (L2 m c) l) (t : Fin cfg0.N) (i : Fin 512) (h : Fin 4) (d : Fin 64)

include hl

theorem point_w0 : k0_pay12 (b3 m c t) (b4 m c t) (b5 m c t) (ix2 i (lane h d)) = (weight (l (row t i) h) 0 : EReal) :=
  weight0_apply ((b3_apply m c t i h d).trans (hl _ h).1) ((b4_apply m c t i h d).trans (hl _ h).2.1) ((b5_apply m c t i h d).trans (hl _ h).2.2)
theorem point_w1 : k0_pay13 (b3 m c t) (b4 m c t) (b5 m c t) (ix2 i (lane h d)) = (weight (l (row t i) h) 1 : EReal) :=
  weight1_apply ((b3_apply m c t i h d).trans (hl _ h).1) ((b4_apply m c t i h d).trans (hl _ h).2.1) ((b5_apply m c t i h d).trans (hl _ h).2.2)
theorem point_w2 : k0_pay14 (b3 m c t) (b4 m c t) (b5 m c t) (ix2 i (lane h d)) = (weight (l (row t i) h) 2 : EReal) :=
  weight2_apply ((b3_apply m c t i h d).trans (hl _ h).1) ((b4_apply m c t i h d).trans (hl _ h).2.1) ((b5_apply m c t i h d).trans (hl _ h).2.2)
omit hl in
theorem point_g0 : headSums (b6 m c t) (b0 m c t) (ix2 i (lane h d)) = gw (C m c) (O0 m c) (O1 m c) (O2 m c) (row t i) h 0 := by
  rw [headSums_apply]
  simp only [b6_apply, b0_apply]
  rfl
omit hl in
theorem point_g1 : headSums (b6 m c t) (b1 m c t) (ix2 i (lane h d)) = gw (C m c) (O0 m c) (O1 m c) (O2 m c) (row t i) h 1 := by
  rw [headSums_apply]
  simp only [b6_apply, b1_apply]
  rfl
omit hl in
theorem point_g2 : headSums (b6 m c t) (b2 m c t) (ix2 i (lane h d)) = gw (C m c) (O0 m c) (O1 m c) (O2 m c) (row t i) h 2 := by
  rw [headSums_apply]
  simp only [b6_apply, b2_apply]
  rfl

/-- The weighted sum of the gradients in the weights. -/
theorem point_mixed : mixed (b0 m c t) (b1 m c t) (b2 m c t) (b3 m c t) (b4 m c t) (b5 m c t) (b6 m c t) i (lane h d)
    = (weight (l (row t i) h) 0 : EReal) * gw (C m c) (O0 m c) (O1 m c) (O2 m c) (row t i) h 0
      + (weight (l (row t i) h) 1 : EReal) * gw (C m c) (O0 m c) (O1 m c) (O2 m c) (row t i) h 1
      + (weight (l (row t i) h) 2 : EReal) * gw (C m c) (O0 m c) (O1 m c) (O2 m c) (row t i) h 2 := by
  rw [mixed, point_w0 m c hl, point_w1 m c hl, point_w2 m c hl, point_g0, point_g1, point_g2]

theorem left7 : out0_7 (b0 m c t) (b1 m c t) (b2 m c t) (b3 m c t) (b4 m c t) (b5 m c t) (b6 m c t) (ix2 i (lane h d))
    = (weight (l (row t i) h) 0 : EReal) * C m c (ix2 (row t i) (lane h d)) := by
  rw [out_eq7, point_w0 m c hl, b6_apply]
theorem left8 : out0_8 (b0 m c t) (b1 m c t) (b2 m c t) (b3 m c t) (b4 m c t) (b5 m c t) (b6 m c t) (ix2 i (lane h d))
    = (weight (l (row t i) h) 1 : EReal) * C m c (ix2 (row t i) (lane h d)) := by
  rw [out_eq8, point_w1 m c hl, b6_apply]
theorem left9 : out0_9 (b0 m c t) (b1 m c t) (b2 m c t) (b3 m c t) (b4 m c t) (b5 m c t) (b6 m c t) (ix2 i (lane h d))
    = (weight (l (row t i) h) 2 : EReal) * C m c (ix2 (row t i) (lane h d)) := by
  rw [out_eq9, point_w2 m c hl, b6_apply]
theorem left10 : out0_10 (b0 m c t) (b1 m c t) (b2 m c t) (b3 m c t) (b4 m c t) (b5 m c t) (b6 m c t) (ix2 i (lane h d))
    = dl (l (row t i) h) 0 (gw (C m c) (O0 m c) (O1 m c) (O2 m c) (row t i) h) := by
  rw [out_eq10, point_w0 m c hl, point_mixed m c hl, point_g0]
  rfl
theorem left11 : out0_11 (b0 m c t) (b1 m c t) (b2 m c t) (b3 m c t) (b4 m c t) (b5 m c t) (b6 m c t) (ix2 i (lane h d))
    = dl (l (row t i) h) 1 (gw (C m c) (O0 m c) (O1 m c) (O2 m c) (row t i) h) := by
  rw [out_eq11, point_w1 m c hl, point_mixed m c hl, point_g1]
  rfl
theorem left12 : out0_12 (b0 m c t) (b1 m c t) (b2 m c t) (b3 m c t) (b4 m c t) (b5 m c t) (b6 m c t) (ix2 i (lane h d))
    = dl (l (row t i) h) 2 (gw (C m c) (O0 m c) (O1 m c) (O2 m c) (row t i) h) := by
  rw [out_eq12, point_w2 m c hl, point_mixed m c hl, point_g2]
  rfl

end Point

/-- Every lane belongs to one head. -/
theorem lane_of (j : Fin 256) : ∃ (h : Fin 4) (d : Fin 64), j = lane h d :=
  ⟨⟨j.val / 64, by omega⟩, ⟨j.val % 64, by omega⟩, Fin.ext (by show j.val = j.val / 64 * 64 + j.val % 64; omega)⟩

/-! The result arrays. -/

theorem final7 {l : Fin 4096 → Fin 4 → Fin 3 → ℝ} (hl : Real3 (L0 m c) (L1 m c) (L2 m c) l) (R : Vec Ideal S4096x256 .f32)
    (hR : ∀ p h d, R (ix2 p (lane h d)) = (weight (l p h) 0 : EReal) * C m c (ix2 p (lane h d))) : (dats m 0 c).arrAt 7 cfg0.N = R := by
  refine (dats m 0 c).arrAt_eq_of_covers 7 _ (by decide +kernel) fun t hf y => ?_
  blk_simp
  rw [after0_7]
  obtain ⟨i, j, rfl⟩ : ∃ (i : Fin 512) (j : Fin 256), y = ix2 i j := ⟨y 0, y 1, eq_ix2 y⟩
  obtain ⟨h, d, rfl⟩ := lane_of j
  refine (left7 m c hl t i h d).trans ((hR (row t i) h d).symm.trans ?_)
  blk_ext [e7, band]
theorem final8 {l : Fin 4096 → Fin 4 → Fin 3 → ℝ} (hl : Real3 (L0 m c) (L1 m c) (L2 m c) l) (R : Vec Ideal S4096x256 .f32)
    (hR : ∀ p h d, R (ix2 p (lane h d)) = (weight (l p h) 1 : EReal) * C m c (ix2 p (lane h d))) : (dats m 0 c).arrAt 8 cfg0.N = R := by
  refine (dats m 0 c).arrAt_eq_of_covers 8 _ (by decide +kernel) fun t hf y => ?_
  blk_simp
  rw [after0_8]
  obtain ⟨i, j, rfl⟩ : ∃ (i : Fin 512) (j : Fin 256), y = ix2 i j := ⟨y 0, y 1, eq_ix2 y⟩
  obtain ⟨h, d, rfl⟩ := lane_of j
  refine (left8 m c hl t i h d).trans ((hR (row t i) h d).symm.trans ?_)
  blk_ext [e8, band]
theorem final9 {l : Fin 4096 → Fin 4 → Fin 3 → ℝ} (hl : Real3 (L0 m c) (L1 m c) (L2 m c) l) (R : Vec Ideal S4096x256 .f32)
    (hR : ∀ p h d, R (ix2 p (lane h d)) = (weight (l p h) 2 : EReal) * C m c (ix2 p (lane h d))) : (dats m 0 c).arrAt 9 cfg0.N = R := by
  refine (dats m 0 c).arrAt_eq_of_covers 9 _ (by decide +kernel) fun t hf y => ?_
  blk_simp
  rw [after0_9]
  obtain ⟨i, j, rfl⟩ : ∃ (i : Fin 512) (j : Fin 256), y = ix2 i j := ⟨y 0, y 1, eq_ix2 y⟩
  obtain ⟨h, d, rfl⟩ := lane_of j
  refine (left9 m c hl t i h d).trans ((hR (row t i) h d).symm.trans ?_)
  blk_ext [e9, band]
theorem final10 {l : Fin 4096 → Fin 4 → Fin 3 → ℝ} (hl : Real3 (L0 m c) (L1 m c) (L2 m c) l) (R : Vec Ideal S4096x256 .f32)
    (hR : ∀ p h d, R (ix2 p (lane h d)) = dl (l p h) 0 (gw (C m c) (O0 m c) (O1 m c) (O2 m c) p h)) : (dats m 0 c).arrAt 10 cfg0.N = R := by
  refine (dats m 0 c).arrAt_eq_of_covers 10 _ (by decide +kernel) fun t hf y => ?_
  blk_simp
  rw [after0_10]
  obtain ⟨i, j, rfl⟩ : ∃ (i : Fin 512) (j : Fin 256), y = ix2 i j := ⟨y 0, y 1, eq_ix2 y⟩
  obtain ⟨h, d, rfl⟩ := lane_of j
  refine (left10 m c hl t i h d).trans ((hR (row t i) h d).symm.trans ?_)
  blk_ext [e10, band]
theorem final11 {l : Fin 4096 → Fin 4 → Fin 3 → ℝ} (hl : Real3 (L0 m c) (L1 m c) (L2 m c) l) (R : Vec Ideal S4096x256 .f32)
    (hR : ∀ p h d, R (ix2 p (lane h d)) = dl (l p h) 1 (gw (C m c) (O0 m c) (O1 m c) (O2 m c) p h)) : (dats m 0 c).arrAt 11 cfg0.N = R := by
  refine (dats m 0 c).arrAt_eq_of_covers 11 _ (by decide +kernel) fun t hf y => ?_
  blk_simp
  rw [after0_11]
  obtain ⟨i, j, rfl⟩ : ∃ (i : Fin 512) (j : Fin 256), y = ix2 i j := ⟨y 0, y 1, eq_ix2 y⟩
  obtain ⟨h, d, rfl⟩ := lane_of j
  refine (left11 m c hl t i h d).trans ((hR (row t i) h d).symm.trans ?_)
  blk_ext [e11, band]
theorem final12 {l : Fin 4096 → Fin 4 → Fin 3 → ℝ} (hl : Real3 (L0 m c) (L1 m c) (L2 m c) l) (R : Vec Ideal S4096x256 .f32)
    (hR : ∀ p h d, R (ix2 p (lane h d)) = dl (l p h) 2 (gw (C m c) (O0 m c) (O1 m c) (O2 m c) p h)) : (dats m 0 c).arrAt 12 cfg0.N = R := by
  refine (dats m 0 c).arrAt_eq_of_covers 12 _ (by decide +kernel) fun t hf y => ?_
  blk_simp
  rw [after0_12]
  obtain ⟨i, j, rfl⟩ : ∃ (i : Fin 512) (j : Fin 256), y = ix2 i j := ⟨y 0, y 1, eq_ix2 y⟩
  obtain ⟨h, d, rfl⟩ := lane_of j
  refine (left12 m c hl t i h d).trans ((hR (row t i) h d).symm.trans ?_)
  blk_ext [e12, band]

/-! ## The precondition: the log-sums are real numbers -/

theorem preFacts : Cert.Pre_finite_sums.Facts where
  bcast_S_S4096x4 := by decide
  reducesTo_S4096x4_S_d0_1 := by decide
  h_S_ := by decide

instance : Subsingleton Cert.Pre_finite_sums.S_.Idx := ⟨fun a b => funext fun x => x.elim0⟩

theorem real_args {o0 o1 o2 : FVec Ideal Cert.Pre_finite_sums.S4096x4x64 .f32} {l0 l1 l2 : FVec Ideal Cert.Pre_finite_sums.S4096x4 .f32}
    {ct : FVec Ideal Cert.Pre_finite_sums.S4096x256 .f32} (e : @Cert.Pre_finite_sums.fn preFacts Ideal _ o0 o1 o2 l0 l1 l2 ct = fun _ => 1#1) :
    ∃ l, Real3 l0 l1 l2 l := by
  have e0 := congrFun e ix0
  unfold Cert.Pre_finite_sums.fn at e0
  obtain ⟨e1, e3⟩ := IntOp.andi_eq_one.mp e0
  obtain ⟨e1, e2⟩ := IntOp.andi_eq_one.mp e1
  have h0 : ∀ i, ∃ r : ℝ, l0 i = (r : EReal) := fun i => real_of_lt l0 _ i (Host.reduce_andi_all _ _ _ _ _ e1 i)
  have h1 : ∀ i, ∃ r : ℝ, l1 i = (r : EReal) := fun i => real_of_lt l1 _ i (Host.reduce_andi_all _ _ _ _ _ e2 i)
  have h2 : ∀ i, ∃ r : ℝ, l2 i = (r : EReal) := fun i => real_of_lt l2 _ i (Host.reduce_andi_all _ _ _ _ _ e3 i)
  choose f0 h0 using h0
  choose f1 h1 using h1
  choose f2 h2 using h2
  exact ⟨fun p h => ![f0 (ix2 p h), f1 (ix2 p h), f2 (ix2 p h)], fun p h => ⟨h0 _, h1 _, h2 _⟩⟩

/-! ## The claim -/

/-- The reference's results: a dilation's part of the gradient in the outputs, and of the gradient in the log-sums. -/
def refO (n : ℕ) (s : MixBRefIdeal.S3x4096x4x64.Slices ![n, 0, 0, 0] MixBRefIdeal.S1x4096x4x64) (l0 l1 l2 : FVec Ideal S4096x4 .f32) (ct : FVec Ideal S4096x256 .f32) : FVec Ideal S4096x256 .f32 :=
  laid (shapeCast S4096x4x64 (extractStridedSlice MixBRefIdeal.S1x4096x4x64 ![n, 0, 0, 0] (gradO (exps (stackL l0 l1 l2)) ct) s) MixBRefIdeal.Gen.facts.shapeCasts_S1x4096x4x64_S4096x4x64)
def refL (n : ℕ) (s : MixBRefIdeal.S3x4096x4.Slices ![n, 0, 0] MixBRefIdeal.S1x4096x4) (o0 o1 o2 : FVec Ideal S4096x4x64 .f32) (l0 l1 l2 : FVec Ideal S4096x4 .f32) (ct : FVec Ideal S4096x256 .f32) : FVec Ideal S4096x256 .f32 :=
  spread (shapeCast S4096x4 (extractStridedSlice MixBRefIdeal.S1x4096x4 ![n, 0, 0] (gradL (exps (stackL l0 l1 l2)) (gradW ct (stackO o0 o1 o2))) s) MixBRefIdeal.Gen.facts.shapeCasts_S1x4096x4_S4096x4)

theorem gradW_eq (ct : FVec Ideal S4096x256 .f32) (o0 o1 o2 : FVec Ideal S4096x4x64 .f32) (p : Fin 4096) (h : Fin 4) :
    (fun n => gradW ct (stackO o0 o1 o2) (ix3 n p h)) = gw ct o0 o1 o2 p h := by
  obtain ⟨g0, g1, g2⟩ := gradW_apply ct o0 o1 o2 p h
  funext n
  match n with
  | 0 => exact g0
  | 1 => exact g1
  | 2 => exact g2

section
variable {l0 l1 l2 : FVec Ideal S4096x4 .f32} {l : Fin 4096 → Fin 4 → Fin 3 → ℝ} (hl : Real3 l0 l1 l2 l)
  (o0 o1 o2 : FVec Ideal S4096x4x64 .f32) (ct : FVec Ideal S4096x256 .f32) (p : Fin 4096) (h : Fin 4) (d : Fin 64)
include hl

theorem refO_apply (n : Fin 3) (s) : refO n.val s l0 l1 l2 ct (ix2 p (lane h d)) = (weight (l p h) n : EReal) * ct (ix2 p (lane h d)) := by
  rw [← gradO_apply (exps (stackL l0 l1 l2)) (exps_apply hl) ct n p h d, refO, laid_apply]
  pointwise []
theorem refL_apply (n : Fin 3) (s) : refL n.val s o0 o1 o2 l0 l1 l2 ct (ix2 p (lane h d)) = dl (l p h) n (gw ct o0 o1 o2 p h) := by
  rw [← gradW_eq, ← gradL_apply (exps (stackL l0 l1 l2)) (gradW ct (stackO o0 o1 o2)) (exps_apply hl) n p h, refL, spread_apply]
  pointwise []

end

theorem ref_run (m' : (ℓ : Loc MixBRefIdeal.nD MixBRefIdeal.τ MixBRefIdeal.sig) → Buf (Elt Ideal) ℓ) (g : Dev MixBRefIdeal.nD → PrngReg) :
    θ_run (MixBRefIdeal.defs (F := Ideal)) (onTc (τ := MixBRefIdeal.τ) (MixBRefIdeal.main (F := Ideal))) ⟨m', fun _ => 0, g⟩ fun r => ∀ c : Dev MixBRefIdeal.nD,
      r.2.mem ((c.tc : Thread MixBRefIdeal.nD MixBRefIdeal.τ).loc MixBRefIdeal.main_v73) = refO 0 MixBRefIdeal.Gen.facts.slices_S3x4096x4x64_S1x4096x4x64_0_0_0_0 (m' (c.tc.loc MixBRefIdeal.main_arg3)) (m' (c.tc.loc MixBRefIdeal.main_arg4)) (m' (c.tc.loc MixBRefIdeal.main_arg5)) (m' (c.tc.loc MixBRefIdeal.main_arg6))
      ∧ r.2.mem ((c.tc : Thread MixBRefIdeal.nD MixBRefIdeal.τ).loc MixBRefIdeal.main_v74) = refO 1 MixBRefIdeal.Gen.facts.slices_S3x4096x4x64_S1x4096x4x64_1_0_0_0 (m' (c.tc.loc MixBRefIdeal.main_arg3)) (m' (c.tc.loc MixBRefIdeal.main_arg4)) (m' (c.tc.loc MixBRefIdeal.main_arg5)) (m' (c.tc.loc MixBRefIdeal.main_arg6))
      ∧ r.2.mem ((c.tc : Thread MixBRefIdeal.nD MixBRefIdeal.τ).loc MixBRefIdeal.main_v75) = refO 2 MixBRefIdeal.Gen.facts.slices_S3x4096x4x64_S1x4096x4x64_2_0_0_0 (m' (c.tc.loc MixBRefIdeal.main_arg3)) (m' (c.tc.loc MixBRefIdeal.main_arg4)) (m' (c.tc.loc MixBRefIdeal.main_arg5)) (m' (c.tc.loc MixBRefIdeal.main_arg6))
      ∧ r.2.mem ((c.tc : Thread MixBRefIdeal.nD MixBRefIdeal.τ).loc MixBRefIdeal.main_v78) = refL 0 MixBRefIdeal.Gen.facts.slices_S3x4096x4_S1x4096x4_0_0_0 (m' (c.tc.loc MixBRefIdeal.main_arg0)) (m' (c.tc.loc MixBRefIdeal.main_arg1)) (m' (c.tc.loc MixBRefIdeal.main_arg2)) (m' (c.tc.loc MixBRefIdeal.main_arg3)) (m' (c.tc.loc MixBRefIdeal.main_arg4)) (m' (c.tc.loc MixBRefIdeal.main_arg5)) (m' (c.tc.loc MixBRefIdeal.main_arg6))
      ∧ r.2.mem ((c.tc : Thread MixBRefIdeal.nD MixBRefIdeal.τ).loc MixBRefIdeal.main_v81) = refL 1 MixBRefIdeal.Gen.facts.slices_S3x4096x4_S1x4096x4_1_0_0 (m' (c.tc.loc MixBRefIdeal.main_arg0)) (m' (c.tc.loc MixBRefIdeal.main_arg1)) (m' (c.tc.loc MixBRefIdeal.main_arg2)) (m' (c.tc.loc MixBRefIdeal.main_arg3)) (m' (c.tc.loc MixBRefIdeal.main_arg4)) (m' (c.tc.loc MixBRefIdeal.main_arg5)) (m' (c.tc.loc MixBRefIdeal.main_arg6))
      ∧ r.2.mem ((c.tc : Thread MixBRefIdeal.nD MixBRefIdeal.τ).loc MixBRefIdeal.main_v84) = refL 2 MixBRefIdeal.Gen.facts.slices_S3x4096x4_S1x4096x4_2_0_0 (m' (c.tc.loc MixBRefIdeal.main_arg0)) (m' (c.tc.loc MixBRefIdeal.main_arg1)) (m' (c.tc.loc MixBRefIdeal.main_arg2)) (m' (c.tc.loc MixBRefIdeal.main_arg3)) (m' (c.tc.loc MixBRefIdeal.main_arg4)) (m' (c.tc.loc MixBRefIdeal.main_arg5)) (m' (c.tc.loc MixBRefIdeal.main_arg6))
      ∧ r.2.mem ((c.tc : Thread MixBRefIdeal.nD MixBRefIdeal.τ).loc MixBRefIdeal.main_arg0) = m' ((c.tc : Thread MixBRefIdeal.nD MixBRefIdeal.τ).loc MixBRefIdeal.main_arg0)
      ∧ r.2.mem ((c.tc : Thread MixBRefIdeal.nD MixBRefIdeal.τ).loc MixBRefIdeal.main_arg1) = m' ((c.tc : Thread MixBRefIdeal.nD MixBRefIdeal.τ).loc MixBRefIdeal.main_arg1)
      ∧ r.2.mem ((c.tc : Thread MixBRefIdeal.nD MixBRefIdeal.τ).loc MixBRefIdeal.main_arg2) = m' ((c.tc : Thread MixBRefIdeal.nD MixBRefIdeal.τ).loc MixBRefIdeal.main_arg2)
      ∧ r.2.mem ((c.tc : Thread MixBRefIdeal.nD MixBRefIdeal.τ).loc MixBRefIdeal.main_arg3) = m' ((c.tc : Thread MixBRefIdeal.nD MixBRefIdeal.τ).loc MixBRefIdeal.main_arg3)
      ∧ r.2.mem ((c.tc : Thread MixBRefIdeal.nD MixBRefIdeal.τ).loc MixBRefIdeal.main_arg4) = m' ((c.tc : Thread MixBRefIdeal.nD MixBRefIdeal.τ).loc MixBRefIdeal.main_arg4)
      ∧ r.2.mem ((c.tc : Thread MixBRefIdeal.nD MixBRefIdeal.τ).loc MixBRefIdeal.main_arg5) = m' ((c.tc : Thread MixBRefIdeal.nD MixBRefIdeal.τ).loc MixBRefIdeal.main_arg5)
      ∧ r.2.mem ((c.tc : Thread MixBRefIdeal.nD MixBRefIdeal.τ).loc MixBRefIdeal.main_arg6) = m' ((c.tc : Thread MixBRefIdeal.nD MixBRefIdeal.τ).loc MixBRefIdeal.main_arg6) :=
  MixBRefIdeal.Value.run m' g

theorem algebraic : @algebraic_MixBIdeal_MixBRefIdeal_pre_finite_sums Cert.MixBIdeal.Gen.facts Cert.MixBRefIdeal.Gen.facts preFacts := by
  intro m ρ m' ρ' hpre hagree
  refine ⟨fun c => refO 0 MixBRefIdeal.Gen.facts.slices_S3x4096x4x64_S1x4096x4x64_0_0_0_0 (m' (c.tc.loc MixBRefIdeal.main_arg3)) (m' (c.tc.loc MixBRefIdeal.main_arg4)) (m' (c.tc.loc MixBRefIdeal.main_arg5)) (m' (c.tc.loc MixBRefIdeal.main_arg6)),
    fun c => refO 1 MixBRefIdeal.Gen.facts.slices_S3x4096x4x64_S1x4096x4x64_1_0_0_0 (m' (c.tc.loc MixBRefIdeal.main_arg3)) (m' (c.tc.loc MixBRefIdeal.main_arg4)) (m' (c.tc.loc MixBRefIdeal.main_arg5)) (m' (c.tc.loc MixBRefIdeal.main_arg6)),
    fun c => refO 2 MixBRefIdeal.Gen.facts.slices_S3x4096x4x64_S1x4096x4x64_2_0_0_0 (m' (c.tc.loc MixBRefIdeal.main_arg3)) (m' (c.tc.loc MixBRefIdeal.main_arg4)) (m' (c.tc.loc MixBRefIdeal.main_arg5)) (m' (c.tc.loc MixBRefIdeal.main_arg6)),
    fun c => refL 0 MixBRefIdeal.Gen.facts.slices_S3x4096x4_S1x4096x4_0_0_0 (m' (c.tc.loc MixBRefIdeal.main_arg0)) (m' (c.tc.loc MixBRefIdeal.main_arg1)) (m' (c.tc.loc MixBRefIdeal.main_arg2)) (m' (c.tc.loc MixBRefIdeal.main_arg3)) (m' (c.tc.loc MixBRefIdeal.main_arg4)) (m' (c.tc.loc MixBRefIdeal.main_arg5)) (m' (c.tc.loc MixBRefIdeal.main_arg6)),
    fun c => refL 1 MixBRefIdeal.Gen.facts.slices_S3x4096x4_S1x4096x4_1_0_0 (m' (c.tc.loc MixBRefIdeal.main_arg0)) (m' (c.tc.loc MixBRefIdeal.main_arg1)) (m' (c.tc.loc MixBRefIdeal.main_arg2)) (m' (c.tc.loc MixBRefIdeal.main_arg3)) (m' (c.tc.loc MixBRefIdeal.main_arg4)) (m' (c.tc.loc MixBRefIdeal.main_arg5)) (m' (c.tc.loc MixBRefIdeal.main_arg6)),
    fun c => refL 2 MixBRefIdeal.Gen.facts.slices_S3x4096x4_S1x4096x4_2_0_0 (m' (c.tc.loc MixBRefIdeal.main_arg0)) (m' (c.tc.loc MixBRefIdeal.main_arg1)) (m' (c.tc.loc MixBRefIdeal.main_arg2)) (m' (c.tc.loc MixBRefIdeal.main_arg3)) (m' (c.tc.loc MixBRefIdeal.main_arg4)) (m' (c.tc.loc MixBRefIdeal.main_arg5)) (m' (c.tc.loc MixBRefIdeal.main_arg6)), ?_, ref_run m' ρ'⟩
  refine (θ_run Cert.MixBIdeal.defs _ _).mono (fun r h c => ?_) (Value.run_blocks m ρ)
  obtain ⟨h7, h8, h9, h10, h11, h12, k⟩ := h c
  obtain ⟨a0, a1, a2, a3, a4, a5, a6⟩ := hagree c
  obtain ⟨l, hl⟩ := real_args (hpre c)
  have hl : Real3 (L0 m c) (L1 m c) (L2 m c) l := hl
  beta_reduce
  rw [a0, a1, a2, a3, a4, a5, a6]
  exact ⟨h7.trans (final7 m c hl _ fun p h d => refO_apply hl (C m c) p h d 0 _),
    h8.trans (final8 m c hl _ fun p h d => refO_apply hl (C m c) p h d 1 _),
    h9.trans (final9 m c hl _ fun p h d => refO_apply hl (C m c) p h d 2 _),
    h10.trans (final10 m c hl _ fun p h d => refL_apply hl (O0 m c) (O1 m c) (O2 m c) (C m c) p h d 0 _),
    h11.trans (final11 m c hl _ fun p h d => refL_apply hl (O0 m c) (O1 m c) (O2 m c) (C m c) p h d 1 _),
    h12.trans (final12 m c hl _ fun p h d => refL_apply hl (O0 m c) (O1 m c) (O2 m c) (C m c) p h d 2 _),
    k⟩

end Cert.MixGradient

end
-- ==== Proof.LossGradient.lean ====
module

public import proofs.«01_k».proof.Defs
public import proofs.«01_k».proof.Proof.Gen.LossIdeal.Value
public import proofs.«01_k».proof.Proof.Gen.LossRefIdeal.Run
public import proofs.«01_k».proof.Proof.Gen.Loss
public import proofs.«01_k».proof.Proof.NormMaths
public import proofs.«01_k».proof.Proof.MixGradient
public import Idealize.ShloMosaic.Lib.Pipeline.ReadBack
public import Idealize.ShloMosaic.Lib.Pipeline.ValueKit.Acc
public import Idealize.ShloMosaic.Lib.Pipeline.ValueKit.Geometry
public import Idealize.ShloMosaic.Lib.Pipeline.ValueKit.Tiles
public import Idealize.ShloMosaic.Lib.Pointwise

/-!
# The loss and its gradient

The loss is half the sum over the rows of the mean of the squared differences. A point takes a band of 512 rows, stores the
gradient of its rows, and adds its rows' part of the loss to every entry of one block of 8 x 128.
-/

@[expose] public section

set_option maxRecDepth 16384

noncomputable section

namespace Cert.LossGradient

open scoped BigOperators
open Idealize.ShloMosaic Idealize.ShloMosaic.TcCoe Idealize.SL.Sem Cert.LossIdeal Cert.LossIdeal.Gen
open Cert.NormMaths (band bands_sum len_eq)

/-- The constants: a half, two and the gradient's factor. -/
theorem half_eq : Ideal.ofBits FTy.f32 0x3F000000#32 = ((1 / 2 : ℝ) : EReal) := by
  simp [Ideal.ofBits, Ideal.ieee, -EReal.coe_mul]; norm_num
theorem two_eq : Ideal.ofBits FTy.f32 0x40000000#32 = ((2 : ℝ) : EReal) := by
  simp [Ideal.ofBits, Ideal.ieee, -EReal.coe_mul]; norm_num
theorem factor_eq : Ideal.ofBits FTy.f32 0x3A800000#32 = ((1 / 1024 : ℝ) : EReal) := by
  simp [Ideal.ofBits, Ideal.ieee, -EReal.coe_mul]; norm_num

/-- A number that is not negative multiplies a sum of any values term by term. -/
theorem mul_sum {N : ℕ} (s : ℝ) (hs : 0 ≤ s) (f : Fin N → EReal) : (s : EReal) * ∑ i, f i = ∑ i, (s : EReal) * f i := by
  classical
  refine Finset.induction_on (motive := fun S => (s : EReal) * ∑ i ∈ S, f i = ∑ i ∈ S, (s : EReal) * f i) Finset.univ (by simp) fun a S ha ih => ?_
  rw [Finset.sum_insert ha, Finset.sum_insert ha, Cert.MixGradient.distrib s hs, ih]

variable (m : (ℓ : Loc nD τ sig) → Buf (Elt Ideal) ℓ) (c : Dev nD)

abbrev Y : Vec Ideal S4096x1024 .f32 := m ((c.tc : Thread nD τ).loc main_arg0)
abbrev T : Vec Ideal S4096x1024 .f32 := m ((c.tc : Thread nD τ).loc main_arg1)

/-- A row's part of the loss, and an entry of the gradient. -/
def part (Y T : Vec Ideal S4096x1024 .f32) (p : Fin 4096) : EReal :=
  ((1 / 2 : ℝ) : EReal) * Ideal.div (∑ k : Fin 1024, (Y (ix2 p k) - T (ix2 p k)) * (Y (ix2 p k) - T (ix2 p k))) ((1024 : ℝ) : EReal)
def grad (Y T : Vec Ideal S4096x1024 .f32) (p : Fin 4096) (j : Fin 1024) : EReal :=
  (Y (ix2 p j) - T (ix2 p j)) * ((1 / 1024 : ℝ) : EReal)

theorem e0 : ∀ t : Fin cfg0.N, win0_0.index t = ![t.val, 0] := (by decide +kernel : ∀ t : Fin grid0.N, _)
theorem e1 : ∀ t : Fin cfg0.N, win0_1.index t = ![t.val, 0] := (by decide +kernel : ∀ t : Fin grid0.N, _)
theorem e2 : ∀ t : Fin cfg0.N, win0_2.index t = ![t.val, 0] := (by decide +kernel : ∀ t : Fin grid0.N, _)
theorem e3 : ∀ t : Fin cfg0.N, win0_3.index t = ![0, 0] := (by decide +kernel : ∀ t : Fin grid0.N, _)

theorem pt_lt (t : Fin cfg0.N) : t.val < 8 := lt_of_lt_of_eq t.isLt N_0
abbrev row (t : Fin cfg0.N) (i : Fin 512) : Fin 4096 := band t.val (pt_lt t) i

/-- A point's blocks. -/
def bY (t : Fin cfg0.N) : Vec Ideal S512x1024 .f32 := iblk m c 0 t
def bT (t : Fin cfg0.N) : Vec Ideal S512x1024 .f32 := iblk m c 1 t

theorem bY_apply (t : Fin cfg0.N) (i : Fin 512) (k : Fin 1024) : bY m c t (ix2 i k) = Y m c (ix2 (row t i) k) := by
  unfold bY
  blk_ext [iblk, e0, band]
theorem bT_apply (t : Fin cfg0.N) (i : Fin 512) (k : Fin 1024) : bT m c t (ix2 i k) = T m c (ix2 (row t i) k) := by
  unfold bT
  blk_ext [iblk, e1, band]

theorem point_grad (t : Fin cfg0.N) (i : Fin 512) (j : Fin 1024) : k0_pay2 (bY m c t) (bT m c t) (ix2 i j) = grad (Y m c) (T m c) (row t i) j := by
  pointwise [k0_pay2, k0_pay1]
  rw [bY_apply, bT_apply, factor_eq]
  rfl
theorem point_part (t : Fin cfg0.N) :
    k0_pay3 (bY m c t) (bT m c t) (ix2 (0 : Fin 1) (0 : Fin 1)) = ∑ i : Fin 512, part (Y m c) (T m c) (row t i) := by
  pointwise [k0_pay3, k0_pay1]
  simp only [bY_apply, bT_apply]
  rw [half_eq, mul_sum _ (by norm_num)]
  simp only [part, ← len_eq]

theorem left2 (t : Fin cfg0.N) (i : Fin 512) (j : Fin 1024) : (outsAt0 m c t.val t.isLt).1 (ix2 i j) = grad (Y m c) (T m c) (row t i) j := by
  have hlt := pt_lt t
  by_cases h : t.val = 0
  · rw [outsAt0_A m c t (by omega) (by omega)]
    frame_out; exact point_grad m c t i j
  · rw [outsAt0_B m c t (by omega) (by omega)]
    frame_out; exact point_grad m c t i j

theorem first3 (t : Fin cfg0.N) (h : t.val = 0) (a : Fin 8) (b : Fin 128) :
    (outsAt0 m c t.val t.isLt).2 (ix2 a b) = ∑ i : Fin 512, part (Y m c) (T m c) (row t i) := by
  rw [outsAt0_A m c t (by omega) (by omega)]
  frame_out
  refine Eq.trans ?_ (point_part m c t)
  show k0_pay4 (bY m c t) (bT m c t) (ix2 a b) = _
  pointwise [k0_pay4]
theorem next3 (t : Fin cfg0.N) (h : t.val ≠ 0) (a : Fin 8) (b : Fin 128) :
    (outsAt0 m c t.val t.isLt).2 (ix2 a b)
      = (outsAt0 m c (t.val - 1) (Nat.lt_of_le_of_lt (Nat.sub_le _ _) t.isLt)).2 (ix2 a b) + ∑ i : Fin 512, part (Y m c) (T m c) (row t i) := by
  have hlt := pt_lt t
  rw [outsAt0_B m c t (by omega) (by omega)]
  frame_out
  generalize (outsAt0 m c (t.val - 1) _).2 = v
  rw [← point_part m c t]
  show k0_pay5 (bY m c t) (bT m c t) v (ix2 a b) = _
  pointwise [k0_pay5]

/-- The block after band `s`. -/
def loss (a : Fin 8) (b : Fin 128) (s : ℕ) (h : s < 8) : EReal := (outsAt0 m c s (lt_of_lt_of_eq h N_0.symm)).2 (ix2 a b)

/-- After the last point every entry is the sum over all rows. -/
theorem last3 (t : Fin cfg0.N) (ht : t.val % 8 = 7) (a : Fin 8) (b : Fin 128) :
    (outsAt0 m c t.val t.isLt).2 (ix2 a b) = ∑ p, part (Y m c) (T m c) p := by
  have e : ∀ (s : ℕ) (h : s < 8), s = 7 → loss m c a b s h = ∑ p, part (Y m c) (T m c) p := by
    rintro s h rfl
    exact bands_sum (part (Y m c) (T m c)) (loss m c a b) (first3 m c ⟨0, lt_of_lt_of_eq (by norm_num) N_0.symm⟩ rfl a b)
      fun s h => next3 m c ⟨s + 1, lt_of_lt_of_eq h N_0.symm⟩ (Nat.succ_ne_zero s) a b
  exact e t.val (pt_lt t) (by have := pt_lt t; omega)

/-! The result arrays. -/

theorem final2 (R : Vec Ideal S4096x1024 .f32) (hR : ∀ p j, R (ix2 p j) = grad (Y m c) (T m c) p j) : (dats m 0 c).arrAt 2 cfg0.N = R := by
  refine (dats m 0 c).arrAt_eq_of_covers 2 _ (by decide +kernel) fun t hf y => ?_
  blk_simp
  rw [after0_2]
  obtain ⟨i, j, rfl⟩ : ∃ (i : Fin 512) (j : Fin 1024), y = ix2 i j := ⟨y 0, y 1, eq_ix2 y⟩
  refine (left2 m c t i j).trans ((hR (row t i) j).symm.trans ?_)
  blk_ext [e2, band]
theorem final3 (R : Vec Ideal S8x128 .f32) (hR : ∀ a b, R (ix2 a b) = ∑ p, part (Y m c) (T m c) p) : (dats m 0 c).arrAt 3 cfg0.N = R := by
  refine (dats m 0 c).arrAt_eq_of_covers 3 _ (by decide +kernel) fun t hf y => ?_
  blk_simp
  rw [after0_3]
  obtain ⟨i, j, rfl⟩ : ∃ (i : Fin 8) (j : Fin 128), y = ix2 i j := ⟨y 0, y 1, eq_ix2 y⟩
  refine (last3 m c t ((flush0_3 t).mp hf) i j).trans ((hR i j).symm.trans ?_)
  blk_ext [e3]

theorem algebraic : @algebraic_LossIdeal_LossRefIdeal Cert.LossIdeal.Gen.facts Cert.LossRefIdeal.Gen.facts := by
  intro m ρ m' ρ' _ hagree
  refine ⟨_, _, ?_, (θ_run Cert.LossRefIdeal.defs _ _).mono (fun r h c => h c) (LossRefIdeal.Value.run m' ρ')⟩
  refine (θ_run Cert.LossIdeal.defs _ _).mono (fun r h c => ?_) (Value.run_blocks m ρ)
  obtain ⟨h2, h3, k⟩ := h c
  obtain ⟨a0, a1⟩ := hagree c
  refine ⟨h2.trans (final2 m c _ fun p j => ?_), h3.trans (final3 m c _ fun a b => ?_), k⟩ <;> rw [Y, T, ← a0, ← a1]
  · pointwise []
    rw [half_eq, two_eq, show Ideal.ofBits FTy.f32 0x44800000#32 = _ from len_eq, Ideal.div_coe (by norm_num), ← EReal.coe_mul, ← mul_assoc, ← EReal.coe_mul,
      grad, mul_comm]
    congr 2
    norm_num
  · pointwise []
    rw [half_eq, mul_sum _ (by norm_num)]
    simp only [part, ← len_eq]

end Cert.LossGradient

end
-- ==== Proof.PleForward.lean ====
module

public import proofs.«01_k».proof.Defs
public import proofs.«01_k».proof.Proof.Gen.PleFIdeal.Value
public import proofs.«01_k».proof.Proof.Gen.PleFRefIdeal.Run
public import proofs.«01_k».proof.Proof.Gen.PleF
public import proofs.«01_k».proof.Proof.PleGradient
public import Idealize.ShloMosaic.Lib.Pipeline.ReadBack
public import Idealize.ShloMosaic.Lib.Pipeline.ValueKit.Acc
public import Idealize.ShloMosaic.Lib.Pipeline.ValueKit.Geometry
public import Idealize.ShloMosaic.Lib.Pipeline.ValueKit.Tiles
public import Idealize.ShloMosaic.Lib.Pointwise

/-!
# The embedding's gate, forward

The projected embedding is multiplied by the sigmoid of `z` and added to the row. The two forms of the sigmoid are equal at
every `z`, as for the gradients.
-/

@[expose] public section

set_option maxRecDepth 16384

noncomputable section

namespace Cert.PleForward

open scoped BigOperators
open Idealize.ShloMosaic Idealize.ShloMosaic.TcCoe Idealize.SL.Sem Cert.PleFIdeal Cert.PleFIdeal.Gen
open Cert.PleGradient (sig sig_eq)

theorem algebraic : @algebraic_PleFIdeal_PleFRefIdeal Cert.PleFIdeal.Gen.facts Cert.PleFRefIdeal.Gen.facts := by
  intro m ρ m' ρ' _ hagree
  refine ⟨_, ?_, (θ_run Cert.PleFRefIdeal.defs _ _).mono (fun r h c => h c) (PleFRefIdeal.Value.run m' ρ')⟩
  refine (θ_run Cert.PleFIdeal.defs _ _).mono (fun r h c => ?_) (Value.run m ρ)
  obtain ⟨h3, k⟩ := h c
  obtain ⟨a0, a1, a2⟩ := hagree c
  refine ⟨h3.trans ?_, k⟩
  rw [← a0, ← a1, ← a2]
  funext i
  exact congrArg₂ (HAdd.hAdd (α := EReal) (β := EReal)) rfl (congrArg₂ (HMul.hMul (α := EReal) (β := EReal)) rfl (sig_eq _))

end Cert.PleForward

end
-- ==== Proof.RmsForward.lean ====
module

public import proofs.«01_k».proof.Defs
public import proofs.«01_k».proof.Proof.Gen.RmsFIdeal.Value
public import proofs.«01_k».proof.Proof.Gen.RmsFRefIdeal.Run
public import proofs.«01_k».proof.Proof.Gen.RmsF
public import proofs.«01_k».proof.Proof.NormMaths
public import Idealize.ShloMosaic.Lib.Pipeline.ReadBack
public import Idealize.ShloMosaic.Lib.Pipeline.ValueKit.Acc
public import Idealize.ShloMosaic.Lib.Pipeline.ValueKit.Geometry
public import Idealize.ShloMosaic.Lib.Pipeline.ValueKit.Tiles
public import Idealize.ShloMosaic.Lib.Pointwise

/-!
# The RMS norm, forward

A point takes a band of 512 rows, divides each row by the root of the mean of its squares, multiplies by the gain, and stores
the result twice, the second time transposed.
-/

@[expose] public section

set_option maxRecDepth 16384

noncomputable section

namespace Cert.RmsForward

open scoped BigOperators
open Idealize.ShloMosaic Idealize.ShloMosaic.TcCoe Idealize.SL.Sem Cert.RmsFIdeal Cert.RmsFIdeal.Gen
open Cert.NormMaths (band root)
variable (m : (ℓ : Loc nD τ sig) → Buf (Elt Ideal) ℓ) (c : Dev nD)

abbrev X : Vec Ideal S4096x1024 .f32 := m ((c.tc : Thread nD τ).loc main_arg0)
abbrev G : Vec Ideal S1024 .f32 := m ((c.tc : Thread nD τ).loc main_arg1)

/-- An entry of the normalised rows. -/
def res (X : Vec Ideal S4096x1024 .f32) (G : Vec Ideal S1024 .f32) (p : Fin 4096) (j : Fin 1024) : EReal :=
  X (ix2 p j) * root (fun k => X (ix2 p k)) * G (ix1 j)

theorem V_g (k : Fin 1024) : (V m c main_v0 : Vec Ideal S1x1024 .f32) (ix2 (0 : Fin 1) k) = G m c (ix1 k) := by
  have e : V m c main_v0 = shapeCast S1x1024 (G m c) shapeCasts_S1024_S1x1024 := by
    show StableHlo.after hostOps0 (fun b => m (c, b)) main_v0 = _
    after_results_simp <;> rfl
  rw [e]
  pointwise []

theorem e0 : ∀ t : Fin cfg0.N, win0_0.index t = ![t.val, 0] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![t.val, 0] := (by decide +kernel : ∀ t : Fin grid0.N, _)
theorem e3 : ∀ t : Fin cfg0.N, win0_3.index t = ![0, t.val] := (by decide +kernel : ∀ t : Fin grid0.N, _)

theorem pt_lt (t : Fin cfg0.N) : t.val < 8 := lt_of_lt_of_eq t.isLt N_0
abbrev row (t : Fin cfg0.N) (i : Fin 512) : Fin 4096 := band t.val (pt_lt t) i

/-- A point's blocks. -/
def bX (t : Fin cfg0.N) : Vec Ideal S512x1024 .f32 := iblk m c 0 t
def bG (t : Fin cfg0.N) : Vec Ideal S1x1024 .f32 := iblk m c 1 t

theorem bX_apply (t : Fin cfg0.N) (i : Fin 512) (k : Fin 1024) : bX m c t (ix2 i k) = X m c (ix2 (row t i) k) := by
  unfold bX
  blk_ext [iblk, e0, band]
theorem bG_apply (t : Fin cfg0.N) (k : Fin 1024) : bG m c t (ix2 (0 : Fin 1) k) = G m c (ix1 k) := by
  rw [← V_g]
  unfold bG
  blk_ext [iblk, e1]

theorem norm_apply (x : Vec Ideal S512x1024 .f32) (g : Vec Ideal S1x1024 .f32) (i : Fin 512) (j : Fin 1024) :
    k0_pay1 x g (ix2 i j) = x (ix2 i j) * root (fun k => x (ix2 i k)) * g (ix2 (0 : Fin 1) j) := by
  pointwise [k0_pay1]
  rfl

theorem left2 (t : Fin cfg0.N) (i : Fin 512) (j : Fin 1024) : out0_2 (bX m c t) (bG m c t) (ix2 i j) = res (X m c) (G m c) (row t i) j := by
  unfold out0_2
  frame_out
  pointwise [k0_pay2]
  rw [norm_apply]
  simp only [bX_apply, bG_apply]
  rfl
theorem left3 (t : Fin cfg0.N) (i : Fin 512) (j : Fin 1024) : out0_3 (bX m c t) (bG m c t) (ix2 j i) = res (X m c) (G m c) (row t i) j := by
  unfold out0_3
  frame_out
  pointwise [k0_pay3]
  rw [norm_apply]
  simp only [bX_apply, bG_apply]
  rfl

/-! The result arrays. -/

theorem final2 (R : Vec Ideal S4096x1024 .bf16) (hR : ∀ p j, R (ix2 p j) = res (X m c) (G m c) p j) : (dats m 0 c).arrAt 2 cfg0.N = R := by
  refine (dats m 0 c).arrAt_eq_of_covers 2 _ (by decide +kernel) fun t hf y => ?_
  blk_simp
  rw [after0_2]
  obtain ⟨i, j, rfl⟩ : ∃ (i : Fin 512) (j : Fin 1024), y = ix2 i j := ⟨y 0, y 1, eq_ix2 y⟩
  refine (left2 m c t i j).trans ((hR (row t i) j).symm.trans ?_)
  blk_ext [e2, band]
theorem final3 (R : Vec Ideal S1024x4096 .bf16) (hR : ∀ p j, R (ix2 j p) = res (X m c) (G m c) p j) : (dats m 0 c).arrAt 3 cfg0.N = R := by
  refine (dats m 0 c).arrAt_eq_of_covers 3 _ (by decide +kernel) fun t hf y => ?_
  blk_simp
  rw [after0_3]
  obtain ⟨i, j, rfl⟩ : ∃ (i : Fin 1024) (j : Fin 512), y = ix2 i j := ⟨y 0, y 1, eq_ix2 y⟩
  refine (left3 m c t j i).trans ((hR (row t j) i).symm.trans ?_)
  blk_ext [e3, band]

theorem algebraic : @algebraic_RmsFIdeal_RmsFRefIdeal Cert.RmsFIdeal.Gen.facts Cert.RmsFRefIdeal.Gen.facts := by
  intro m ρ m' ρ' _ hagree
  refine ⟨_, _, ?_, (θ_run Cert.RmsFRefIdeal.defs _ _).mono (fun r h c => h c) (RmsFRefIdeal.Value.run m' ρ')⟩
  refine (θ_run Cert.RmsFIdeal.defs _ _).mono (fun r h c => ?_) (Value.run_blocks m ρ)
  obtain ⟨h2, h3, k⟩ := h c
  obtain ⟨a0, a1⟩ := hagree c
  refine ⟨h2.trans (final2 m c _ fun p j => ?_), h3.trans (final3 m c _ fun p j => ?_), k⟩ <;> rw [X, G, ← a0, ← a1] <;> pointwise [] <;> rfl

end Cert.RmsForward

end
-- ==== Proof.GnormForward.lean ====
module

public import proofs.«01_k».proof.Defs
public import proofs.«01_k».proof.Proof.Gen.GnormFIdeal.Value
public import proofs.«01_k».proof.Proof.Gen.GnormFRefIdeal.Run
public import proofs.«01_k».proof.Proof.Gen.GnormF
public import proofs.«01_k».proof.Proof.GnormGradient
public import Idealize.ShloMosaic.Lib.Pipeline.ReadBack
public import Idealize.ShloMosaic.Lib.Pipeline.ValueKit.Acc
public import Idealize.ShloMosaic.Lib.Pipeline.ValueKit.Geometry
public import Idealize.ShloMosaic.Lib.Pipeline.ValueKit.Tiles
public import Idealize.ShloMosaic.Lib.Pointwise

/-!
# The four mixers' norms, forward

The results of the four mixers are normalised row by row, multiplied by their gains and laid side by side. A point takes a
band of 512 rows. What a quarter of the 1024 columns is, and the reciprocal root of a row of 256, is stated with the gradient.
-/

@[expose] public section

set_option maxRecDepth 16384

noncomputable section

namespace Cert.GnormForward

open scoped BigOperators
open Idealize.ShloMosaic Idealize.ShloMosaic.TcCoe Idealize.SL.Sem Cert.GnormFIdeal Cert.GnormFIdeal.Gen
open Cert.NormMaths (band)
open Cert.GnormGradient (quarter root)
variable (m : (ℓ : Loc nD τ sig) → Buf (Elt Ideal) ℓ) (c : Dev nD)

abbrev X0 : Vec Ideal S4096x256 .f32 := m ((c.tc : Thread nD τ).loc main_arg0)
abbrev X1 : Vec Ideal S4096x256 .f32 := m ((c.tc : Thread nD τ).loc main_arg1)
abbrev X2 : Vec Ideal S4096x256 .f32 := m ((c.tc : Thread nD τ).loc main_arg2)
abbrev X3 : Vec Ideal S4096x256 .f32 := m ((c.tc : Thread nD τ).loc main_arg3)
abbrev G : Vec Ideal S4x256 .f32 := m ((c.tc : Thread nD τ).loc main_arg4)

/-- An entry of a mixer's normalised result. -/
def res (X : Vec Ideal S4096x256 .f32) (G : Vec Ideal S4x256 .f32) (n : Fin 4) (p : Fin 4096) (j : Fin 256) : EReal :=
  X (ix2 p j) * root (fun k => X (ix2 p k)) * G (ix2 n j)

theorem V_g (n : Fin 4) (k : Fin 256) :
    (V m c main_v0 : Vec Ideal S1x1024 .f32) (ix2 (0 : Fin 1) (quarter n k)) = G m c (ix2 n k) := by
  have e : V m c main_v0 = shapeCast S1x1024 (G m c) shapeCasts_S4x256_S1x1024 := by
    show StableHlo.after hostOps0 (fun b => m (c, b)) main_v0 = _
    after_results_simp <;> rfl
  rw [e]
  pointwise []
  exact congrArg₂ (fun u v => G m c (ix2 u v)) (Fin.ext (by show (n.val * 256 + k.val) / 256 = n.val; omega))
    (Fin.ext (by show (n.val * 256 + k.val) % 256 = k.val; omega))

theorem e0 : ∀ t : Fin cfg0.N, win0_0.index t = ![t.val, 0] := (by decide +kernel : ∀ t : Fin grid0.N, _)
theorem e1 : ∀ t : Fin cfg0.N, win0_1.index t = ![t.val, 0] := (by decide +kernel : ∀ t : Fin grid0.N, _)
theorem e2 : ∀ t : Fin cfg0.N, win0_2.index t = ![t.val, 0] := (by decide +kernel : ∀ t : Fin grid0.N, _)
theorem e3 : ∀ t : Fin cfg0.N, win0_3.index t = ![t.val, 0] := (by decide +kernel : ∀ t : Fin grid0.N, _)
theorem e4 : ∀ t : Fin cfg0.N, win0_4.index t = ![0, 0] := (by decide +kernel : ∀ t : Fin grid0.N, _)
theorem e5 : ∀ t : Fin cfg0.N, win0_5.index t = ![t.val, 0] := (by decide +kernel : ∀ t : Fin grid0.N, _)

theorem pt_lt (t : Fin cfg0.N) : t.val < 8 := lt_of_lt_of_eq t.isLt N_0
abbrev row (t : Fin cfg0.N) (i : Fin 512) : Fin 4096 := band t.val (pt_lt t) i

/-- A point's blocks. -/
def bX0 (t : Fin cfg0.N) : Vec Ideal S512x256 .f32 := iblk m c 0 t
def bX1 (t : Fin cfg0.N) : Vec Ideal S512x256 .f32 := iblk m c 1 t
def bX2 (t : Fin cfg0.N) : Vec Ideal S512x256 .f32 := iblk m c 2 t
def bX3 (t : Fin cfg0.N) : Vec Ideal S512x256 .f32 := iblk m c 3 t
def bG (t : Fin cfg0.N) : Vec Ideal S1x1024 .f32 := iblk m c 4 t

theorem bX0_apply (t : Fin cfg0.N) (i : Fin 512) (k : Fin 256) : bX0 m c t (ix2 i k) = X0 m c (ix2 (row t i) k) := by
  unfold bX0
  blk_ext [iblk, e0, band]
theorem bX1_apply (t : Fin cfg0.N) (i : Fin 512) (k : Fin 256) : bX1 m c t (ix2 i k) = X1 m c (ix2 (row t i) k) := by
  unfold bX1
  blk_ext [iblk, e1, band]
theorem bX2_apply (t : Fin cfg0.N) (i : Fin 512) (k : Fin 256) : bX2 m c t (ix2 i k) = X2 m c (ix2 (row t i) k) := by
  unfold bX2
  blk_ext [iblk, e2, band]
theorem bX3_apply (t : Fin cfg0.N) (i : Fin 512) (k : Fin 256) : bX3 m c t (ix2 i k) = X3 m c (ix2 (row t i) k) := by
  unfold bX3
  blk_ext [iblk, e3, band]
theorem bG_apply (t : Fin cfg0.N) (n : Fin 4) (k : Fin 256) : bG m c t (ix2 (0 : Fin 1) (quarter n k)) = G m c (ix2 n k) := by
  rw [← V_g]
  unfold bG
  blk_ext [iblk, e4]

/-- A mixer's gains, as a load has them. -/
def lG (t : Fin cfg0.N) (off : ℕ) (inb : ∀ a, (![0, off] : Fin 2 → ℕ) a + S1x256.size a ≤ S1x1024.size a) : Vec Ideal S1x256 .f32 := View.ld (bG m c t) (Rect.unit ![0, off] ![1, 256] inb)

theorem lG_apply (t : Fin cfg0.N) (n : Fin 4) (inb) (k : Fin 256) : lG m c t (n.val * 256) inb (ix2 (0 : Fin 1) k) = G m c (ix2 n k) := by
  rw [← bG_apply m c t]
  refine View.ld_unit_apply_of (bG m c t) _ _ _ _ _ fun a => ?_
  match a with
  | ⟨0, _⟩ => rfl
  | ⟨1, _⟩ => rfl

/-- A mixer's result and its block at a point, by the mixer's number. -/
def X (n : Fin 4) : Vec Ideal S4096x256 .f32 := match n with | 0 => X0 m c | 1 => X1 m c | 2 => X2 m c | 3 => X3 m c
def bX (n : Fin 4) (t : Fin cfg0.N) : Vec Ideal S512x256 .f32 :=
  match n with | 0 => bX0 m c t | 1 => bX1 m c t | 2 => bX2 m c t | 3 => bX3 m c t
theorem bX_apply (n : Fin 4) (t : Fin cfg0.N) (i : Fin 512) (k : Fin 256) : bX m c n t (ix2 i k) = X m c n (ix2 (row t i) k) := by
  match n with
  | 0 => exact bX0_apply m c t i k
  | 1 => exact bX1_apply m c t i k
  | 2 => exact bX2_apply m c t i k
  | 3 => exact bX3_apply m c t i k

/-- What a point computes for a mixer. -/
theorem point (n : Fin 4) (t : Fin cfg0.N) (inb) (i : Fin 512) (j : Fin 256) :
    k0_pay3 (bX m c n t) (lG m c t (n.val * 256) inb) (ix2 i j) = res (X m c n) (G m c) n (row t i) j := by
  pointwise [k0_pay3]
  simp only [bX_apply, lG_apply]
  rfl

/-- A place of a row of 1024 lies in one quarter. -/
theorem quarter_eq (n n' : Fin 4) (i : Fin 512) (j : Fin 256) (x : S512x256.Idx) (h0 : i.val = (x 0).val)
    (h : (quarter n j).val = n'.val * 256 + (x 1).val) : n = n' ∧ x = ix2 i j := by
  have hj := j.isLt
  have hx : (x 1).val < 256 := (x 1).isLt
  have h' : n.val * 256 + j.val = n'.val * 256 + (x 1).val := h
  refine ⟨Fin.ext (by omega), ?_⟩
  rw [eq_ix2 x]
  exact congrArg₂ ix2 (Fin.ext (by omega)) (Fin.ext (by omega))

theorem left5 (t : Fin cfg0.N) (i : Fin 512) (n : Fin 4) (j : Fin 256) :
    out0_5 (bX m c 0 t) (bX m c 1 t) (bX m c 2 t) (bX m c 3 t) (bG m c t) (ix2 i (quarter n j)) = res (X m c n) (G m c) n (row t i) j := by
  unfold out0_5
  frame_out
  canon_tiles x h
  · obtain ⟨rfl, rfl⟩ := quarter_eq n 3 i j x h0 h1
    exact point m c 3 t _ i j
  · obtain ⟨rfl, rfl⟩ := quarter_eq n 2 i j x h0 h1
    exact point m c 2 t _ i j
  · obtain ⟨rfl, rfl⟩ := quarter_eq n 1 i j x h0 h1
    exact point m c 1 t _ i j
  · obtain ⟨rfl, rfl⟩ := quarter_eq n 0 i j x h0 (h1.trans (Nat.zero_add _).symm)
    exact point m c 0 t _ i j

/-- The result array. -/
theorem final5 (R : Vec Ideal S4096x1024 .bf16) (hR : ∀ p n j, R (ix2 p (quarter n j)) = res (X m c n) (G m c) n p j) :
    (dats m 0 c).arrAt 5 cfg0.N = R := by
  refine (dats m 0 c).arrAt_eq_of_covers 5 _ (by decide +kernel) fun t hf y => ?_
  blk_simp
  rw [after0_5]
  obtain ⟨i, n, j, rfl⟩ : ∃ (i : Fin 512) (n : Fin 4) (j : Fin 256), y = ix2 i (quarter n j) := by
    obtain ⟨a, b, rfl⟩ : ∃ (a : Fin 512) (b : Fin 1024), y = ix2 a b := ⟨y 0, y 1, eq_ix2 y⟩
    exact ⟨a, ⟨b.val / 256, by omega⟩, ⟨b.val % 256, by omega⟩,
      congrArg _ (Fin.ext (by show b.val = b.val / 256 * 256 + b.val % 256; omega))⟩
  refine (left5 m c t i n j).trans ((hR (row t i) n j).symm.trans ?_)
  blk_ext [e5, band]

theorem algebraic : @algebraic_GnormFIdeal_GnormFRefIdeal Cert.GnormFIdeal.Gen.facts Cert.GnormFRefIdeal.Gen.facts := by
  intro m ρ m' ρ' _ hagree
  refine ⟨_, ?_, (θ_run Cert.GnormFRefIdeal.defs _ _).mono (fun r h c => h c) (GnormFRefIdeal.Value.run m' ρ')⟩
  refine (θ_run Cert.GnormFIdeal.defs _ _).mono (fun r h c => ?_) (Value.run_blocks m ρ)
  obtain ⟨h5, k⟩ := h c
  obtain ⟨a0, a1, a2, a3, a4⟩ := hagree c
  refine ⟨h5.trans (final5 m c _ fun p n j => ?_), k⟩
  have hj := j.isLt
  match n with
  | 0 =>
    show _ = res (X0 m c) (G m c) 0 p j
    rw [X0, G, ← a0, ← a4]
    unfold quarter
    pointwise []
    rfl
  | 1 =>
    show _ = res (X1 m c) (G m c) 1 p j
    rw [X1, G, ← a1, ← a4]
    unfold quarter
    pointwise []
    rfl
  | 2 =>
    show _ = res (X2 m c) (G m c) 2 p j
    rw [X2, G, ← a2, ← a4]
    unfold quarter
    pointwise []
    rw [dif_neg (by omega), dif_neg (by omega), dif_pos (by omega)]
    exact congrArg (res _ _ 2 p) (Fin.ext (by show 512 + j.val - 256 - 256 = j.val; omega) : (⟨512 + j.val - 256 - 256, by omega⟩ : Fin 256) = j)
  | 3 =>
    show _ = res (X3 m c) (G m c) 3 p j
    rw [X3, G, ← a3, ← a4]
    unfold quarter
    pointwise []
    rw [dif_neg (by omega), dif_neg (by omega), dif_neg (by omega)]
    exact congrArg (res _ _ 3 p) (Fin.ext (by show 768 + j.val - 256 - 256 - 256 = j.val; omega) : (⟨768 + j.val - 256 - 256 - 256, by omega⟩ : Fin 256) = j)

end Cert.GnormForward

end
-- ==== Proof.MixForward.lean ====
module

public import proofs.«01_k».proof.Defs
public import proofs.«01_k».proof.Pre_finite_logs
public import proofs.«01_k».proof.Proof.Gen.MixFIdeal.Value
public import proofs.«01_k».proof.Proof.Gen.MixFRefIdeal.Run
public import proofs.«01_k».proof.Proof.Gen.MixF
public import proofs.«01_k».proof.Proof.MixGradient
public import proofs.«01_k».proof.Proof.NormMaths
public import Idealize.ShloMosaic.Lib.Pipeline.ReadBack
public import Idealize.ShloMosaic.Lib.Pipeline.ValueKit.Acc
public import Idealize.ShloMosaic.Lib.Pipeline.ValueKit.Geometry
public import Idealize.ShloMosaic.Lib.Pipeline.ValueKit.Tiles
public import Idealize.ShloMosaic.Lib.Pointwise

/-!
# The mixture of mixer A's dilations

Each head's output is the sum of the three dilations' outputs, each times the exponential of its log-sum over the sum of the
three exponentials. A point takes a band of 512 rows; the kernel gets a head's log-sum on each of its 64 lanes and multiplies by
the sum's reciprocal, where the reference divides. The weights are those of `Cert.MixGradient`.
-/

@[expose] public section

set_option maxRecDepth 16384

noncomputable section

namespace Cert.MixForward

open scoped BigOperators
open Idealize.ShloMosaic Idealize.ShloMosaic.TcCoe Idealize.SL.Sem Cert.MixFIdeal Cert.MixFIdeal.Gen
open Cert.NormMaths (band)
open Cert.MixGradient (lane lane_of Real3 weight part_eq total_eq weight_eq quotient_eq stackL stackO exps exps_apply sumE sumE_apply
  laid spread laid_apply spread_apply)

/-- The three dilations' outputs at one lane, each times its weight. -/
def mixture (l : Fin 3 → ℝ) (a b e : EReal) : EReal := (weight l 0 : EReal) * a + (weight l 1 : EReal) * b + (weight l 2 : EReal) * e

/-! ## The reference's result -/

def blended (o0 o1 o2 : FVec Ideal S4096x4x64 .f32) (l0 l1 l2 : FVec Ideal S4096x4 .f32) : FVec Ideal S4096x256 .f32 :=
  laid (Host.reduceAdd (mulf (broadcastInDim MixFRefIdeal.S3x4096x4x64 ![0, 1, 2, 3] MixFRefIdeal.Gen.facts.bcast_S3x4096x4x1_S3x4096x4x64_0_1_2_3
    (broadcastInDim MixFRefIdeal.S3x4096x4x1 ![0, 1, 2] MixFRefIdeal.Gen.facts.bcast_S3x4096x4_S3x4096x4x1_0_1_2
      (Host.divf (exps (stackL l0 l1 l2)) (broadcastInDim MixFRefIdeal.S3x4096x4 ![0, 1, 2] MixFRefIdeal.Gen.facts.bcast_S1x4096x4_S3x4096x4_0_1_2 (sumE (exps (stackL l0 l1 l2)))))))
    (stackO o0 o1 o2)) (constant MixFRefIdeal.S_ .f32 0x00000000#32) MixFRefIdeal.Gen.facts.reducesTo_S3x4096x4x64_S4096x4x64_d0 MixFRefIdeal.Gen.facts.h_S_)

theorem stackO_apply (o0 o1 o2 : FVec Ideal S4096x4x64 .f32) (p : Fin 4096) (h : Fin 4) (d : Fin 64) :
    stackO o0 o1 o2 (ix4 (0 : Fin 3) p h d) = o0 (ix3 p h d) ∧ stackO o0 o1 o2 (ix4 (1 : Fin 3) p h d) = o1 (ix3 p h d)
    ∧ stackO o0 o1 o2 (ix4 (2 : Fin 3) p h d) = o2 (ix3 p h d) := by
  refine ⟨?_, ?_, ?_⟩ <;> pointwise [stackO]

theorem blended_apply {l0 l1 l2 : FVec Ideal S4096x4 .f32} {l : Fin 4096 → Fin 4 → Fin 3 → ℝ} (hl : Real3 l0 l1 l2 l)
    (o0 o1 o2 : FVec Ideal S4096x4x64 .f32) (p : Fin 4096) (h : Fin 4) (d : Fin 64) :
    blended o0 o1 o2 l0 l1 l2 (ix2 p (lane h d)) = mixture (l p h) (o0 (ix3 p h d)) (o1 (ix3 p h d)) (o2 (ix3 p h d)) := by
  obtain ⟨a, b, e⟩ := stackO_apply o0 o1 o2 p h d
  unfold blended
  rw [laid_apply]
  pointwise []
  simp only [Fin.sum_univ_three, exps_apply hl, sumE_apply (exps (stackL l0 l1 l2)) (exps_apply hl), quotient_eq, a, b, e]
  rfl

/-! ## One point -/

theorem out_eq (x0 x1 x2 x3 x4 x5 : Vec Ideal S512x256 .f32) (i : Fin 512) (j : Fin 256) {l : Fin 3 → ℝ}
    (ha : x3 (ix2 i j) = (l 0 : EReal)) (hb : x4 (ix2 i j) = (l 1 : EReal)) (he : x5 (ix2 i j) = (l 2 : EReal)) :
    out0_6 x0 x1 x2 x3 x4 x5 (ix2 i j) = mixture l (x0 (ix2 i j)) (x1 (ix2 i j)) (x2 (ix2 i j)) := by
  unfold out0_6
  frame_out
  pointwise [k0_pay1]
  rw [ha, hb, he, part_eq, part_eq, part_eq, total_eq, weight_eq, weight_eq, weight_eq]
  rfl

/-! ## The arguments and the windows -/

variable (m : (ℓ : Loc nD τ sig) → Buf (Elt Ideal) ℓ) (c : Dev nD)

/-- The three dilations' outputs, and their log-sums. -/
abbrev O0 : Vec Ideal S4096x4x64 .f32 := m ((c.tc : Thread nD τ).loc main_arg0)
abbrev O1 : Vec Ideal S4096x4x64 .f32 := m ((c.tc : Thread nD τ).loc main_arg1)
abbrev O2 : Vec Ideal S4096x4x64 .f32 := m ((c.tc : Thread nD τ).loc main_arg2)
abbrev L0 : Vec Ideal S4096x4 .f32 := m ((c.tc : Thread nD τ).loc main_arg3)
abbrev L1 : Vec Ideal S4096x4 .f32 := m ((c.tc : Thread nD τ).loc main_arg4)
abbrev L2 : Vec Ideal S4096x4 .f32 := m ((c.tc : Thread nD τ).loc main_arg5)

theorem V_0 : (V m c main_v0 : Vec Ideal S4096x256 .f32) = laid (O0 m c) := by
  show StableHlo.after hostOps0 (fun b => m (c, b)) main_v0 = _
  after_results_simp <;> rfl
theorem V_1 : (V m c main_v1 : Vec Ideal S4096x256 .f32) = laid (O1 m c) := by
  show StableHlo.after hostOps0 (fun b => m (c, b)) main_v1 = _
  after_results_simp <;> rfl
theorem V_2 : (V m c main_v2 : Vec Ideal S4096x256 .f32) = laid (O2 m c) := by
  show StableHlo.after hostOps0 (fun b => m (c, b)) main_v2 = _
  after_results_simp <;> rfl
theorem V_3 : (V m c main_v5 : Vec Ideal S4096x256 .f32) = spread (L0 m c) := by
  show StableHlo.after hostOps0 (fun b => m (c, b)) main_v5 = _
  after_results_simp <;> rfl
theorem V_4 : (V m c main_v8 : Vec Ideal S4096x256 .f32) = spread (L1 m c) := by
  show StableHlo.after hostOps0 (fun b => m (c, b)) main_v8 = _
  after_results_simp <;> rfl
theorem V_5 : (V m c main_v11 : Vec Ideal S4096x256 .f32) = spread (L2 m c) := by
  show StableHlo.after hostOps0 (fun b => m (c, b)) main_v11 = _
  after_results_simp <;> rfl

theorem e0 : ∀ t : Fin cfg0.N, win0_0.index t = ![t.val, 0] := (by decide +kernel : ∀ t : Fin grid0.N, _)
theorem e1 : ∀ t : Fin cfg0.N, win0_1.index t = ![t.val, 0] := (by decide +kernel : ∀ t : Fin grid0.N, _)
theorem e2 : ∀ t : Fin cfg0.N, win0_2.index t = ![t.val, 0] := (by decide +kernel : ∀ t : Fin grid0.N, _)
theorem e3 : ∀ t : Fin cfg0.N, win0_3.index t = ![t.val, 0] := (by decide +kernel : ∀ t : Fin grid0.N, _)
theorem e4 : ∀ t : Fin cfg0.N, win0_4.index t = ![t.val, 0] := (by decide +kernel : ∀ t : Fin grid0.N, _)
theorem e5 : ∀ t : Fin cfg0.N, win0_5.index t = ![t.val, 0] := (by decide +kernel : ∀ t : Fin grid0.N, _)
theorem e6 : ∀ t : Fin cfg0.N, win0_6.index t = ![t.val, 0] := (by decide +kernel : ∀ t : Fin grid0.N, _)

theorem pt_lt (t : Fin cfg0.N) : t.val < 8 := lt_of_lt_of_eq t.isLt N_0
abbrev row (t : Fin cfg0.N) (i : Fin 512) : Fin 4096 := band t.val (pt_lt t) i

/-- The blocks of point `t`. -/
def b0 (t : Fin cfg0.N) : Vec Ideal S512x256 .f32 := iblk m c 0 t
def b1 (t : Fin cfg0.N) : Vec Ideal S512x256 .f32 := iblk m c 1 t
def b2 (t : Fin cfg0.N) : Vec Ideal S512x256 .f32 := iblk m c 2 t
def b3 (t : Fin cfg0.N) : Vec Ideal S512x256 .f32 := iblk m c 3 t
def b4 (t : Fin cfg0.N) : Vec Ideal S512x256 .f32 := iblk m c 4 t
def b5 (t : Fin cfg0.N) : Vec Ideal S512x256 .f32 := iblk m c 5 t

theorem b0_apply (t : Fin cfg0.N) (i : Fin 512) (h : Fin 4) (d : Fin 64) : b0 m c t (ix2 i (lane h d)) = O0 m c (ix3 (row t i) h d) := by
  rw [← laid_apply (O0 m c), ← V_0]
  unfold b0
  blk_ext [iblk, e0, band]
theorem b1_apply (t : Fin cfg0.N) (i : Fin 512) (h : Fin 4) (d : Fin 64) : b1 m c t (ix2 i (lane h d)) = O1 m c (ix3 (row t i) h d) := by
  rw [← laid_apply (O1 m c), ← V_1]
  unfold b1
  blk_ext [iblk, e1, band]
theorem b2_apply (t : Fin cfg0.N) (i : Fin 512) (h : Fin 4) (d : Fin 64) : b2 m c t (ix2 i (lane h d)) = O2 m c (ix3 (row t i) h d) := by
  rw [← laid_apply (O2 m c), ← V_2]
  unfold b2
  blk_ext [iblk, e2, band]
theorem b3_apply (t : Fin cfg0.N) (i : Fin 512) (h : Fin 4) (d : Fin 64) : b3 m c t (ix2 i (lane h d)) = L0 m c (ix2 (row t i) h) := by
  rw [← spread_apply (L0 m c) _ _ d, ← V_3]
  unfold b3
  blk_ext [iblk, e3, band]
theorem b4_apply (t : Fin cfg0.N) (i : Fin 512) (h : Fin 4) (d : Fin 64) : b4 m c t (ix2 i (lane h d)) = L1 m c (ix2 (row t i) h) := by
  rw [← spread_apply (L1 m c) _ _ d, ← V_4]
  unfold b4
  blk_ext [iblk, e4, band]
theorem b5_apply (t : Fin cfg0.N) (i : Fin 512) (h : Fin 4) (d : Fin 64) : b5 m c t (ix2 i (lane h d)) = L2 m c (ix2 (row t i) h) := by
  rw [← spread_apply (L2 m c) _ _ d, ← V_5]
  unfold b5
  blk_ext [iblk, e5, band]

/-! ## The result -/

theorem final {l : Fin 4096 → Fin 4 → Fin 3 → ℝ} (hl : Real3 (L0 m c) (L1 m c) (L2 m c) l) :
    (dats m 0 c).arrAt 6 cfg0.N = blended (O0 m c) (O1 m c) (O2 m c) (L0 m c) (L1 m c) (L2 m c) := by
  refine (dats m 0 c).arrAt_eq_of_covers 6 _ (by decide +kernel) fun t hf y => ?_
  blk_simp
  rw [after0_6]
  obtain ⟨i, j, rfl⟩ : ∃ (i : Fin 512) (j : Fin 256), y = ix2 i j := ⟨y 0, y 1, eq_ix2 y⟩
  obtain ⟨h, d, rfl⟩ := lane_of j
  refine (out_eq (b0 m c t) (b1 m c t) (b2 m c t) (b3 m c t) (b4 m c t) (b5 m c t) i (lane h d)
    ((b3_apply m c t i h d).trans (hl _ h).1) ((b4_apply m c t i h d).trans (hl _ h).2.1) ((b5_apply m c t i h d).trans (hl _ h).2.2)).trans ?_
  rw [b0_apply, b1_apply, b2_apply, ← blended_apply hl (O0 m c) (O1 m c) (O2 m c) (row t i) h d]
  blk_ext [e6, band]

/-! ## The precondition -/

theorem preFacts : Cert.Pre_finite_logs.Facts where
  bcast_S_S4096x4 := by decide
  reducesTo_S4096x4_S_d0_1 := by decide
  h_S_ := by decide

theorem real_args {o0 o1 o2 : FVec Ideal S4096x4x64 .f32} {l0 l1 l2 : FVec Ideal S4096x4 .f32}
    (e : @Cert.Pre_finite_logs.fn preFacts Ideal _ o0 o1 o2 l0 l1 l2 = fun _ => 1#1) : ∃ l, Real3 l0 l1 l2 l :=
  MixGradient.real_args (o0 := o0) (o1 := o1) (o2 := o2) (ct := fun _ => (0 : EReal)) e

/-! ## The claim -/

theorem ref_run (m' : (ℓ : Loc MixFRefIdeal.nD MixFRefIdeal.τ MixFRefIdeal.sig) → Buf (Elt Ideal) ℓ) (g : Dev MixFRefIdeal.nD → PrngReg) :
    θ_run (MixFRefIdeal.defs (F := Ideal)) (onTc (τ := MixFRefIdeal.τ) (MixFRefIdeal.main (F := Ideal))) ⟨m', fun _ => 0, g⟩ fun r => ∀ c : Dev MixFRefIdeal.nD,
      r.2.mem ((c.tc : Thread MixFRefIdeal.nD MixFRefIdeal.τ).loc MixFRefIdeal.main_v23) = blended (m' (c.tc.loc MixFRefIdeal.main_arg0)) (m' (c.tc.loc MixFRefIdeal.main_arg1)) (m' (c.tc.loc MixFRefIdeal.main_arg2)) (m' (c.tc.loc MixFRefIdeal.main_arg3)) (m' (c.tc.loc MixFRefIdeal.main_arg4)) (m' (c.tc.loc MixFRefIdeal.main_arg5))
      ∧ r.2.mem ((c.tc : Thread MixFRefIdeal.nD MixFRefIdeal.τ).loc MixFRefIdeal.main_arg0) = m' ((c.tc : Thread MixFRefIdeal.nD MixFRefIdeal.τ).loc MixFRefIdeal.main_arg0)
      ∧ r.2.mem ((c.tc : Thread MixFRefIdeal.nD MixFRefIdeal.τ).loc MixFRefIdeal.main_arg1) = m' ((c.tc : Thread MixFRefIdeal.nD MixFRefIdeal.τ).loc MixFRefIdeal.main_arg1)
      ∧ r.2.mem ((c.tc : Thread MixFRefIdeal.nD MixFRefIdeal.τ).loc MixFRefIdeal.main_arg2) = m' ((c.tc : Thread MixFRefIdeal.nD MixFRefIdeal.τ).loc MixFRefIdeal.main_arg2)
      ∧ r.2.mem ((c.tc : Thread MixFRefIdeal.nD MixFRefIdeal.τ).loc MixFRefIdeal.main_arg3) = m' ((c.tc : Thread MixFRefIdeal.nD MixFRefIdeal.τ).loc MixFRefIdeal.main_arg3)
      ∧ r.2.mem ((c.tc : Thread MixFRefIdeal.nD MixFRefIdeal.τ).loc MixFRefIdeal.main_arg4) = m' ((c.tc : Thread MixFRefIdeal.nD MixFRefIdeal.τ).loc MixFRefIdeal.main_arg4)
      ∧ r.2.mem ((c.tc : Thread MixFRefIdeal.nD MixFRefIdeal.τ).loc MixFRefIdeal.main_arg5) = m' ((c.tc : Thread MixFRefIdeal.nD MixFRefIdeal.τ).loc MixFRefIdeal.main_arg5) :=
  MixFRefIdeal.Value.run m' g

theorem algebraic : @algebraic_MixFIdeal_MixFRefIdeal_pre_finite_logs Cert.MixFIdeal.Gen.facts Cert.MixFRefIdeal.Gen.facts preFacts := by
  intro m ρ m' ρ' hpre hagree
  refine ⟨fun c => blended (m' (c.tc.loc MixFRefIdeal.main_arg0)) (m' (c.tc.loc MixFRefIdeal.main_arg1)) (m' (c.tc.loc MixFRefIdeal.main_arg2)) (m' (c.tc.loc MixFRefIdeal.main_arg3)) (m' (c.tc.loc MixFRefIdeal.main_arg4)) (m' (c.tc.loc MixFRefIdeal.main_arg5)), ?_, ref_run m' ρ'⟩
  refine (θ_run Cert.MixFIdeal.defs _ _).mono (fun r h c => ?_) (Value.run_blocks m ρ)
  obtain ⟨h6, k⟩ := h c
  obtain ⟨a0, a1, a2, a3, a4, a5⟩ := hagree c
  obtain ⟨l, hl⟩ := real_args (hpre c)
  have hl : Real3 (L0 m c) (L1 m c) (L2 m c) l := hl
  beta_reduce
  rw [a0, a1, a2, a3, a4, a5]
  exact ⟨h6.trans (final m c hl), k⟩

end Cert.MixForward

end
-- ==== Proof.SpatialForward.lean ====
module

public import proofs.«01_k».proof.Defs
public import proofs.«01_k».proof.Proof.Gen.GateFIdeal.Value
public import proofs.«01_k».proof.Proof.Gen.GateFRefIdeal.Run
public import proofs.«01_k».proof.Proof.Gen.GateF
public import proofs.«01_k».proof.Proof.MixGradient
public import Idealize.ShloMosaic.Lib.Pipeline.ReadBack
public import Idealize.ShloMosaic.Lib.Pipeline.ValueKit.Acc
public import Idealize.ShloMosaic.Lib.Pipeline.ValueKit.Geometry
public import Idealize.ShloMosaic.Lib.Pipeline.ValueKit.Tiles
public import Idealize.ShloMosaic.Lib.Pointwise

/-!
# The spatial gating of mixer C, forward

Columns 1280 to 1535 of the projection and the 256 after them go through the gelu. The second part is normalised row by row, and then,
in every chunk of 128 rows and for each of four groups of 64 columns, multiplied by the group's 128×128 matrix; with the bias added, it
multiplies the first part. A point takes four chunks. The body treats them one after the other with the same operations: `chunk` states
them once. The kernel takes the products of two groups' matrices with all 128 columns of a pair of groups and keeps each group's half.
-/

@[expose] public section

set_option maxRecDepth 16384

noncomputable section

namespace Cert.SpatialForward

open scoped BigOperators
open Idealize.ShloMosaic Idealize.ShloMosaic.TcCoe Idealize.SL.Sem Cert.GateFIdeal Cert.GateFIdeal.Gen
open Cert.MixGradient (lane lane_of first_lanes)

/-- The gelu of a number. -/
def ge (x : EReal) : EReal :=
  Ideal.ofBits FTy.f32 1056964608#32 * x * (1 + Ideal.tanh (Ideal.ofBits FTy.f32 1061962282#32 * (x + Ideal.ofBits FTy.f32 1027024659#32 * x * x * x)))

/-- A row's mean, and the row normalised, with gain and bias. -/
def mean (X : Fin 256 → EReal) : EReal := Ideal.div (∑ k, X k) (Ideal.ofBits FTy.f32 1132462080#32)
def ln (X : Fin 256 → EReal) (g b : EReal) (j : Fin 256) : EReal :=
  (X j - mean X) * Ideal.rsqrt (mean (fun k => (X k - mean X) * (X k - mean X)) + Ideal.ofBits FTy.f32 897988541#32) * g + b

/-- Row `p` of chunk `n`. -/
def pos (n : Fin 32) (p : Fin 128) : Fin 4096 := ⟨n.val * 128 + p.val, by omega⟩

/-! ## The reference's result -/

abbrev Arr : Type := FVec Ideal GateFRefIdeal.S4096x256 .f32

def gelu (x : Arr) : Arr := mulf x (mulf (broadcastInDim GateFRefIdeal.S4096x256 ![] GateFRefIdeal.Gen.facts.bcast_S_S4096x256 (constant GateFRefIdeal.S_ .f32 0x3F000000#32)) (addf (broadcastInDim GateFRefIdeal.S4096x256 ![] GateFRefIdeal.Gen.facts.bcast_S_S4096x256 (constant GateFRefIdeal.S_ .f32 0x3F800000#32)) (Host.tanh (mulf (broadcastInDim GateFRefIdeal.S4096x256 ![] GateFRefIdeal.Gen.facts.bcast_S_S4096x256 (constant GateFRefIdeal.S_ .f32 0x3F4C422A#32)) (addf x (mulf (broadcastInDim GateFRefIdeal.S4096x256 ![] GateFRefIdeal.Gen.facts.bcast_S_S4096x256 (constant GateFRefIdeal.S_ .f32 0x3D372713#32)) (mulf (mulf x x) x)))))))

def centred (X : Arr) : Arr := subf X (broadcastInDim GateFRefIdeal.S4096x256 ![0, 1] GateFRefIdeal.Gen.facts.bcast_S4096x1_S4096x256_0_1 (Host.divf (broadcastInDim GateFRefIdeal.S4096x1 ![0] GateFRefIdeal.Gen.facts.bcast_S4096_S4096x1_0 (Host.reduceAdd X (constant GateFRefIdeal.S_ .f32 0x00000000#32) GateFRefIdeal.Gen.facts.reducesTo_S4096x256_S4096_d1 GateFRefIdeal.Gen.facts.h_S_)) (broadcastInDim GateFRefIdeal.S4096x1 ![] GateFRefIdeal.Gen.facts.bcast_S_S4096x1 (constant GateFRefIdeal.S_ .f32 0x43800000#32))))

def scaled (C : Arr) (G B : FVec Ideal GateFRefIdeal.S256 .f32) : Arr :=
  addf (mulf (mulf C (broadcastInDim GateFRefIdeal.S4096x256 ![0, 1] GateFRefIdeal.Gen.facts.bcast_S4096x1_S4096x256_0_1 (Host.rsqrt (addf (Host.divf (broadcastInDim GateFRefIdeal.S4096x1 ![0] GateFRefIdeal.Gen.facts.bcast_S4096_S4096x1_0 (Host.reduceAdd (mulf C C) (constant GateFRefIdeal.S_ .f32 0x00000000#32) GateFRefIdeal.Gen.facts.reducesTo_S4096x256_S4096_d1 GateFRefIdeal.Gen.facts.h_S_)) (broadcastInDim GateFRefIdeal.S4096x1 ![] GateFRefIdeal.Gen.facts.bcast_S_S4096x1 (constant GateFRefIdeal.S_ .f32 0x43800000#32))) (broadcastInDim GateFRefIdeal.S4096x1 ![] GateFRefIdeal.Gen.facts.bcast_S_S4096x1 (constant GateFRefIdeal.S_ .f32 0x358637BD#32)))))) (broadcastInDim GateFRefIdeal.S4096x256 ![0, 1] GateFRefIdeal.Gen.facts.bcast_S1x256_S4096x256_0_1 (broadcastInDim GateFRefIdeal.S1x256 ![1] GateFRefIdeal.Gen.facts.bcast_S256_S1x256_1 G))) (broadcastInDim GateFRefIdeal.S4096x256 ![0, 1] GateFRefIdeal.Gen.facts.bcast_S1x256_S4096x256_0_1 (broadcastInDim GateFRefIdeal.S1x256 ![1] GateFRefIdeal.Gen.facts.bcast_S256_S1x256_1 B))

def mixed (u y : Arr) (W : FVec Ideal GateFRefIdeal.S4x128x128 .f32) (S : FVec Ideal GateFRefIdeal.S4x128 .f32) : Arr :=
  mulf u (shapeCast _ (addf (transpose GateFRefIdeal.S32x128x4x64 [1, 3, 0, 2] (Host.dotGeneral GateFRefIdeal.dot_S32x128x4x64_S4x128x128_S4x32x64x128_1_2_03_1_2_0 none (shapeCast _ y GateFRefIdeal.Gen.facts.shapeCasts_S4096x256_S32x128x4x64) W) GateFRefIdeal.Gen.facts.transposes_S4x32x64x128_S32x128x4x64_1_3_0_2) (broadcastInDim GateFRefIdeal.S32x128x4x64 ![0, 1, 2, 3] GateFRefIdeal.Gen.facts.bcast_S1x128x4x1_S32x128x4x64_0_1_2_3 (broadcastInDim GateFRefIdeal.S1x128x4x1 ![1, 2, 3] GateFRefIdeal.Gen.facts.bcast_S128x4x1_S1x128x4x1_1_2_3 (broadcastInDim GateFRefIdeal.S128x4x1 ![0, 1] GateFRefIdeal.Gen.facts.bcast_S128x4_S128x4x1_0_1 (transpose GateFRefIdeal.S128x4 [1, 0] S GateFRefIdeal.Gen.facts.transposes_S4x128_S128x4_1_0))))) GateFRefIdeal.Gen.facts.shapeCasts_S32x128x4x64_S4096x256)

def left (P : FVec Ideal GateFRefIdeal.S4096x2304 .f32) : Arr := extractStridedSlice GateFRefIdeal.S4096x256 ![0, 1280] P GateFRefIdeal.Gen.facts.slices_S4096x2304_S4096x256_0_1280
def right (P : FVec Ideal GateFRefIdeal.S4096x2304 .f32) : Arr := extractStridedSlice GateFRefIdeal.S4096x256 ![0, 1536] P GateFRefIdeal.Gen.facts.slices_S4096x2304_S4096x256_0_1536

def gating (P : FVec Ideal GateFRefIdeal.S4096x2304 .f32) (G B : FVec Ideal GateFRefIdeal.S256 .f32) (W : FVec Ideal GateFRefIdeal.S4x128x128 .f32) (S : FVec Ideal GateFRefIdeal.S4x128 .f32) : Arr :=
  mixed (gelu (left P)) (scaled (centred (gelu (right P))) G B) W S

theorem gelu_apply (x : Arr) (r : Fin 4096) (j : Fin 256) : gelu x (ix2 r j) = ge (x (ix2 r j)) := by
  pointwise [gelu]
  unfold ge
  simp only [mul_comm, mul_left_comm, mul_assoc]

theorem centred_apply (X : Arr) (r : Fin 4096) (j : Fin 256) : centred X (ix2 r j) = X (ix2 r j) - mean (fun k => X (ix2 r k)) := by
  pointwise [centred]
  rfl

theorem scaled_apply (X : Arr) (G B : FVec Ideal GateFRefIdeal.S256 .f32) (r : Fin 4096) (j : Fin 256) :
    scaled (centred X) G B (ix2 r j) = ln (fun k => X (ix2 r k)) (G (ix1 j)) (B (ix1 j)) j := by
  pointwise [scaled]
  simp only [centred_apply]
  rfl

theorem mixed_apply (u y : Arr) (W : FVec Ideal GateFRefIdeal.S4x128x128 .f32) (S : FVec Ideal GateFRefIdeal.S4x128 .f32) (n : Fin 32) (p : Fin 128) (h : Fin 4) (d : Fin 64) :
    mixed u y W S (ix2 (pos n p) (lane h d))
    = u (ix2 (pos n p) (lane h d)) * ((∑ k : Fin 128, W (ix3 h p k) * y (ix2 (pos n k) (lane h d))) + S (ix2 h p)) := by
  unfold pos lane
  pointwise [mixed]
  congr 2
  exact Finset.sum_congr rfl fun k _ => mul_comm _ _

/-! ## One chunk -/

/-- What the body does for 128 rows. -/
def chunk (u v : Vec Ideal S128x256 .f32) (g b : Vec Ideal S1x256 .f32) (w0 w1 w2 w3 : Vec Ideal S1x128x128 .f32) (bb : Vec Ideal S128x256 .f32) : FVec Ideal S128x256 .f32 :=
  k0_pay8 (k0_pay5 (k0_pay2 v g b) k0_pay3 (k0_pay4 v g b) w0 w1 w2 w3 bb) (k0_pay6 u) (k0_pay7 u)

theorem chunk1 (u v : Vec Ideal S128x256 .f32) (g b : Vec Ideal S1x256 .f32) (w0 w1 w2 w3 : Vec Ideal S1x128x128 .f32) (bb : Vec Ideal S128x256 .f32) :
    k0_pay12 (k0_pay10 (k0_pay9 v g) b w0 w1 w2 w3 bb) u (k0_pay11 u) = chunk u v g b w0 w1 w2 w3 bb := rfl
theorem chunk2 (u v : Vec Ideal S128x256 .f32) (g b : Vec Ideal S1x256 .f32) (w0 w1 w2 w3 : Vec Ideal S1x128x128 .f32) (bb : Vec Ideal S128x256 .f32) :
    k0_pay15 (k0_pay14 (k0_pay13 v) g b w0 w1 w2 w3) bb u = chunk u v g b w0 w1 w2 w3 bb := rfl
theorem chunk3 (u v : Vec Ideal S128x256 .f32) (g b : Vec Ideal S1x256 .f32) (w0 w1 w2 w3 : Vec Ideal S1x128x128 .f32) (bb : Vec Ideal S128x256 .f32) :
    k0_pay1 k0_pay19 (k0_pay20 (k0_pay16 v) (k0_pay17 v) g b w0 w1) (k0_pay21 (k0_pay16 v) (k0_pay17 v) g b)
      (k0_pay22 (k0_pay16 v) (k0_pay17 v) g b w2) (k0_pay23 w3) bb u = chunk u v g b w0 w1 w2 w3 bb := rfl

theorem norm_apply (v : Vec Ideal S128x256 .f32) (g b : Vec Ideal S1x256 .f32) (p : Fin 128) (j : Fin 256) :
    k0_pay2 v g b (ix2 p j) = ln (fun k => ge (v (ix2 p k))) (g (ix2 (0 : Fin 1) j)) (b (ix2 (0 : Fin 1) j)) j := by
  pointwise [k0_pay2]
  rfl

theorem low_apply (v : Vec Ideal S128x256 .f32) (g b : Vec Ideal S1x256 .f32) (p j : Fin 128) :
    k0_pay4 v g b (ix2 p j) = k0_pay2 v g b (ix2 p (⟨j.val, by omega⟩ : Fin 256)) := by
  pointwise [k0_pay4]

theorem chunk_apply (u v : Vec Ideal S128x256 .f32) (g b : Vec Ideal S1x256 .f32) (w0 w1 w2 w3 : Vec Ideal S1x128x128 .f32) (bb : Vec Ideal S128x256 .f32)
    (w : Fin 4 → Fin 128 → Fin 128 → EReal) (h0 : ∀ p k, w0 (ix3 (0 : Fin 1) p k) = w 0 p k) (h1 : ∀ p k, w1 (ix3 (0 : Fin 1) p k) = w 1 p k)
    (h2 : ∀ p k, w2 (ix3 (0 : Fin 1) p k) = w 2 p k) (h3 : ∀ p k, w3 (ix3 (0 : Fin 1) p k) = w 3 p k) (p : Fin 128) (h : Fin 4) (d : Fin 64) :
    chunk u v g b w0 w1 w2 w3 bb (ix2 p (lane h d))
    = ge (u (ix2 p (lane h d))) * ((∑ k : Fin 128, w h p k * ln (fun l => ge (v (ix2 k l))) (g (ix2 (0 : Fin 1) (lane h d))) (b (ix2 (0 : Fin 1) (lane h d))) (lane h d))
      + bb (ix2 p (lane h d))) := by
  have hd := d.isLt
  pointwise [chunk, k0_pay8, k0_pay5, k0_pay6, k0_pay7, k0_pay3]
  show ge (u (ix2 p (lane h d))) * _ = _
  congr 2
  match h with
  | 0 =>
    have e : (lane 0 d).val = d.val := by show 0 * 64 + d.val = d.val; omega
    rw [dif_pos (by omega), first_lanes _ (by omega), if_pos (by omega)]
    simp only [h0, low_apply, norm_apply]
  | 1 =>
    have e : (lane 1 d).val = 64 + d.val := by show 1 * 64 + d.val = 64 + d.val; omega
    rw [dif_pos (by omega), first_lanes _ (by omega), if_neg (by omega)]
    simp only [h1, low_apply, norm_apply]
  | 2 =>
    have e : (lane 2 d).val = 128 + d.val := by show 2 * 64 + d.val = 128 + d.val; omega
    rw [dif_neg (by omega), first_lanes _ (by omega), if_pos (by omega)]
    have e' : (⟨128 + ((lane 2 d).val - 128), by omega⟩ : Fin 256) = lane 2 d := Fin.ext (by show 128 + ((lane 2 d).val - 128) = (lane 2 d).val; omega)
    simp only [h2, norm_apply, e']
  | 3 =>
    have e : (lane 3 d).val = 192 + d.val := by show 3 * 64 + d.val = 192 + d.val; omega
    rw [dif_neg (by omega), first_lanes _ (by omega), if_neg (by omega)]
    have e' : (⟨128 + ((lane 3 d).val - 128), by omega⟩ : Fin 256) = lane 3 d := Fin.ext (by show 128 + ((lane 3 d).val - 128) = (lane 3 d).val; omega)
    simp only [h3, norm_apply, e']

/-! ## The arguments and the windows -/

variable (m : (ℓ : Loc nD τ sig) → Buf (Elt Ideal) ℓ) (c : Dev nD)

abbrev P : Vec Ideal S4096x2304 .f32 := m ((c.tc : Thread nD τ).loc main_arg0)
abbrev G : Vec Ideal S256 .f32 := m ((c.tc : Thread nD τ).loc main_arg1)
abbrev B : Vec Ideal S256 .f32 := m ((c.tc : Thread nD τ).loc main_arg2)
abbrev W : Vec Ideal S4x128x128 .f32 := m ((c.tc : Thread nD τ).loc main_arg3)
abbrev S : Vec Ideal S4x128 .f32 := m ((c.tc : Thread nD τ).loc main_arg4)

theorem V_0 : (V m c main_arg0 : Vec Ideal S4096x2304 .f32) = P m c := by
  show StableHlo.after hostOps0 (fun b => m (c, b)) main_arg0 = _
  after_results_simp <;> rfl
theorem V_4 : (V m c main_arg3 : Vec Ideal S4x128x128 .f32) = W m c := by
  show StableHlo.after hostOps0 (fun b => m (c, b)) main_arg3 = _
  after_results_simp <;> rfl
theorem V_2 (j : Fin 256) : (V m c main_v3 : Vec Ideal S1x256 .f32) (ix2 (0 : Fin 1) j) = G m c (ix1 j) := by
  have e : (V m c main_v3 : Vec Ideal S1x256 .f32) = shapeCast _ (G m c) Gen.facts.shapeCasts_S256_S1x256 := by
    show StableHlo.after hostOps0 (fun b => m (c, b)) main_v3 = _
    after_results_simp <;> rfl
  rw [e]
  pointwise []
theorem V_3 (j : Fin 256) : (V m c main_v4 : Vec Ideal S1x256 .f32) (ix2 (0 : Fin 1) j) = B m c (ix1 j) := by
  have e : (V m c main_v4 : Vec Ideal S1x256 .f32) = shapeCast _ (B m c) Gen.facts.shapeCasts_S256_S1x256 := by
    show StableHlo.after hostOps0 (fun b => m (c, b)) main_v4 = _
    after_results_simp <;> rfl
  rw [e]
  pointwise []
theorem V_5 (p : Fin 128) (h : Fin 4) (d : Fin 64) : (V m c main_v2 : Vec Ideal S128x256 .f32) (ix2 p (lane h d)) = S m c (ix2 h p) := by
  have e : (V m c main_v2 : Vec Ideal S128x256 .f32)
      = shapeCast _ (broadcastInDim S128x4x64 ![0, 1] Gen.facts.bcast_S128x4_S128x4x64_0_1 (transpose S128x4 [1, 0] (S m c) Gen.facts.transposes_S4x128_S128x4_1_0)) Gen.facts.shapeCasts_S128x4x64_S128x256 := by
    show StableHlo.after hostOps0 (fun b => m (c, b)) main_v2 = _
    after_results_simp <;> rfl
  rw [e]
  unfold lane
  pointwise []

theorem e0 : ∀ t : Fin cfg0.N, win0_0.index t = ![t.val, 5] := (by decide +kernel : ∀ t : Fin grid0.N, _)
theorem e1 : ∀ t : Fin cfg0.N, win0_1.index t = ![t.val, 6] := (by decide +kernel : ∀ t : Fin grid0.N, _)
theorem e2 : ∀ t : Fin cfg0.N, win0_2.index t = ![0, 0] := (by decide +kernel : ∀ t : Fin grid0.N, _)
theorem e3 : ∀ t : Fin cfg0.N, win0_3.index t = ![0, 0] := (by decide +kernel : ∀ t : Fin grid0.N, _)
theorem e4 : ∀ t : Fin cfg0.N, win0_4.index t = ![0, 0, 0] := (by decide +kernel : ∀ t : Fin grid0.N, _)
theorem e5 : ∀ t : Fin cfg0.N, win0_5.index t = ![0, 0] := (by decide +kernel : ∀ t : Fin grid0.N, _)
theorem e6 : ∀ t : Fin cfg0.N, win0_6.index t = ![t.val, 0] := (by decide +kernel : ∀ t : Fin grid0.N, _)

theorem pt_lt (t : Fin cfg0.N) : t.val < 8 := lt_of_lt_of_eq t.isLt N_0

/-- Chunk `k` of point `t`, and row `p` of a chunk in the point's block. -/
def chunkOf (t : Fin cfg0.N) (k : Fin 4) : Fin 32 := ⟨t.val * 4 + k.val, by have := pt_lt t; omega⟩
def inBlock (k : Fin 4) (p : Fin 128) : Fin 512 := ⟨k.val * 128 + p.val, by omega⟩

/-- The blocks of point `t`. -/
def b0 (t : Fin cfg0.N) : Vec Ideal S512x256 .f32 := iblk m c 0 t
def b1 (t : Fin cfg0.N) : Vec Ideal S512x256 .f32 := iblk m c 1 t
def b2 (t : Fin cfg0.N) : Vec Ideal S1x256 .f32 := iblk m c 2 t
def b3 (t : Fin cfg0.N) : Vec Ideal S1x256 .f32 := iblk m c 3 t
def b4 (t : Fin cfg0.N) : Vec Ideal S4x128x128 .f32 := iblk m c 4 t
def b5 (t : Fin cfg0.N) : Vec Ideal S128x256 .f32 := iblk m c 5 t

theorem left_apply (A : Vec Ideal S4096x2304 .f32) (r : Fin 4096) (j : Fin 256) : left A (ix2 r j) = A (ix2 r (⟨1280 + j.val, by omega⟩ : Fin 2304)) := by
  pointwise [left]
theorem right_apply (A : Vec Ideal S4096x2304 .f32) (r : Fin 4096) (j : Fin 256) : right A (ix2 r j) = A (ix2 r (⟨1536 + j.val, by omega⟩ : Fin 2304)) := by
  pointwise [right]

theorem b0_apply (t : Fin cfg0.N) (k : Fin 4) (p : Fin 128) (j : Fin 256) : b0 m c t (ix2 (inBlock k p) j) = left (P m c) (ix2 (pos (chunkOf t k) p) j) := by
  rw [left_apply, ← V_0]
  unfold b0
  blk_ext [iblk, e0, inBlock, pos, chunkOf]
theorem b1_apply (t : Fin cfg0.N) (k : Fin 4) (p : Fin 128) (j : Fin 256) : b1 m c t (ix2 (inBlock k p) j) = right (P m c) (ix2 (pos (chunkOf t k) p) j) := by
  rw [right_apply, ← V_0]
  unfold b1
  blk_ext [iblk, e1, inBlock, pos, chunkOf]
theorem b2_apply (t : Fin cfg0.N) (j : Fin 256) : b2 m c t (ix2 (0 : Fin 1) j) = G m c (ix1 j) := by
  rw [← V_2]
  unfold b2
  blk_ext [iblk, e2]
theorem b3_apply (t : Fin cfg0.N) (j : Fin 256) : b3 m c t (ix2 (0 : Fin 1) j) = B m c (ix1 j) := by
  rw [← V_3]
  unfold b3
  blk_ext [iblk, e3]
theorem b4_apply (t : Fin cfg0.N) (h : Fin 4) (p q : Fin 128) : b4 m c t (ix3 h p q) = W m c (ix3 h p q) := by
  rw [← V_4]
  unfold b4
  blk_ext [iblk, e4]
theorem b5_apply (t : Fin cfg0.N) (p : Fin 128) (h : Fin 4) (d : Fin 64) : b5 m c t (ix2 p (lane h d)) = S m c (ix2 h p) := by
  rw [← V_5 m c p h d]
  unfold b5
  blk_ext [iblk, e5]

/-! ## One point -/

/-- The rows of one chunk, and the matrix of one group, as a load has them. -/
def rows (x : Vec Ideal S512x256 .f32) (o : ℕ) (inb : ∀ a, (![o, 0] : Fin 2 → ℕ) a + S128x256.size a ≤ S512x256.size a) : Vec Ideal S128x256 .f32 :=
  View.ld x (Rect.unit ![o, 0] S128x256.size inb)
def group (x : Vec Ideal S4x128x128 .f32) (o : ℕ) (inb : ∀ a, (![o, 0, 0] : Fin 3 → ℕ) a + S1x128x128.size a ≤ S4x128x128.size a) : Vec Ideal S1x128x128 .f32 :=
  View.ld x (Rect.unit ![o, 0, 0] S1x128x128.size inb)

theorem rows_apply (x : Vec Ideal S512x256 .f32) (k : Fin 4) (inb) (p : Fin 128) (j : Fin 256) : rows x (k.val * 128) inb (ix2 p j) = x (ix2 (inBlock k p) j) := by
  refine View.ld_unit_apply_of x _ _ _ _ _ fun a => ?_
  match a with
  | ⟨0, _⟩ => rfl
  | ⟨1, _⟩ => exact (Nat.zero_add _).symm
theorem group_apply (x : Vec Ideal S4x128x128 .f32) (h : Fin 4) (inb) (p q : Fin 128) : group x h.val inb (ix3 (0 : Fin 1) p q) = x (ix3 h p q) := by
  refine View.ld_unit_apply_of x _ _ _ _ _ fun a => ?_
  match a with
  | ⟨0, _⟩ => rfl
  | ⟨1, _⟩ => exact (Nat.zero_add _).symm
  | ⟨2, _⟩ => exact (Nat.zero_add _).symm

/-- What a point computes for chunk `k` of its rows. -/
theorem point (t : Fin cfg0.N) (k : Fin 4) (inb) (i0 i1 i2 i3) (p : Fin 128) (h : Fin 4) (d : Fin 64) :
    chunk (rows (b0 m c t) (k.val * 128) inb) (rows (b1 m c t) (k.val * 128) inb) (b2 m c t) (b3 m c t)
      (group (b4 m c t) (0 : Fin 4).val i0) (group (b4 m c t) (1 : Fin 4).val i1) (group (b4 m c t) (2 : Fin 4).val i2) (group (b4 m c t) (3 : Fin 4).val i3)
      (b5 m c t) (ix2 p (lane h d))
    = gating (P m c) (G m c) (B m c) (W m c) (S m c) (ix2 (pos (chunkOf t k) p) (lane h d)) := by
  refine (chunk_apply _ _ _ _ _ _ _ _ _ (fun h p q => W m c (ix3 h p q))
    (fun p q => (group_apply _ 0 _ p q).trans (b4_apply m c t 0 p q)) (fun p q => (group_apply _ 1 _ p q).trans (b4_apply m c t 1 p q))
    (fun p q => (group_apply _ 2 _ p q).trans (b4_apply m c t 2 p q)) (fun p q => (group_apply _ 3 _ p q).trans (b4_apply m c t 3 p q)) p h d).trans ?_
  unfold gating
  rw [mixed_apply]
  simp only [rows_apply, b0_apply, b1_apply, b2_apply, b3_apply, b5_apply, gelu_apply, scaled_apply]

/-- A row of the block lies in one chunk. -/
theorem chunk_eq (k k' : Fin 4) (p : Fin 128) (j : Fin 256) (x : S128x256.Idx) (h : (inBlock k p).val = k'.val * 128 + (x 0).val)
    (h1 : j.val = (x 1).val) : k = k' ∧ x = ix2 p j := by
  have hp := p.isLt
  have hx : (x 0).val < 128 := (x 0).isLt
  have h' : k.val * 128 + p.val = k'.val * 128 + (x 0).val := h
  refine ⟨Fin.ext (by omega), ?_⟩
  rw [eq_ix2 x]
  exact congrArg₂ ix2 (Fin.ext (by omega)) (Fin.ext (by omega))

theorem out_eq (t : Fin cfg0.N) (k : Fin 4) (p : Fin 128) (h : Fin 4) (d : Fin 64) :
    out0_6 (b0 m c t) (b1 m c t) (b2 m c t) (b3 m c t) (b4 m c t) (b5 m c t) (ix2 (inBlock k p) (lane h d))
    = gating (P m c) (G m c) (B m c) (W m c) (S m c) (ix2 (pos (chunkOf t k) p) (lane h d)) := by
  unfold_out out0_6
  frame_out
  canon_tiles x h
  · obtain ⟨rfl, rfl⟩ := chunk_eq k 3 p (lane h d) x h0 h1
    exact (congrFun (chunk3 _ _ _ _ _ _ _ _ _) _).trans (point m c t 3 _ _ _ _ _ p h d)
  · obtain ⟨rfl, rfl⟩ := chunk_eq k 2 p (lane h d) x h0 h1
    exact (congrFun (chunk2 _ _ _ _ _ _ _ _ _) _).trans (point m c t 2 _ _ _ _ _ p h d)
  · obtain ⟨rfl, rfl⟩ := chunk_eq k 1 p (lane h d) x h0 h1
    exact (congrFun (chunk1 _ _ _ _ _ _ _ _ _) _).trans (point m c t 1 _ _ _ _ _ p h d)
  · obtain ⟨rfl, rfl⟩ := chunk_eq k 0 p (lane h d) x (h0.trans (Nat.zero_add _).symm) h1
    exact point m c t 0 _ _ _ _ _ p h d

/-! ## The result -/

theorem final : (dats m 0 c).arrAt 6 cfg0.N = gating (P m c) (G m c) (B m c) (W m c) (S m c) := by
  refine (dats m 0 c).arrAt_eq_of_covers 6 _ (by decide +kernel) fun t hf y => ?_
  blk_simp
  rw [after0_6]
  obtain ⟨k, p, h, d, rfl⟩ : ∃ (k : Fin 4) (p : Fin 128) (h : Fin 4) (d : Fin 64), y = ix2 (inBlock k p) (lane h d) := by
    obtain ⟨a, b, rfl⟩ : ∃ (a : Fin 512) (b : Fin 256), y = ix2 a b := ⟨y 0, y 1, eq_ix2 y⟩
    obtain ⟨h, d, rfl⟩ := lane_of b
    exact ⟨⟨a.val / 128, by omega⟩, ⟨a.val % 128, by omega⟩, h, d,
      congrArg (fun i => ix2 i _) (Fin.ext (by show a.val = a.val / 128 * 128 + a.val % 128; omega))⟩
  refine (out_eq m c t k p h d).trans ?_
  blk_ext [e6, inBlock, pos, chunkOf]

/-! ## The claim -/

theorem ref_run (m' : (ℓ : Loc GateFRefIdeal.nD GateFRefIdeal.τ GateFRefIdeal.sig) → Buf (Elt Ideal) ℓ) (g : Dev GateFRefIdeal.nD → PrngReg) :
    θ_run (GateFRefIdeal.defs (F := Ideal)) (onTc (τ := GateFRefIdeal.τ) (GateFRefIdeal.main (F := Ideal))) ⟨m', fun _ => 0, g⟩ fun r => ∀ c : Dev GateFRefIdeal.nD,
      r.2.mem ((c.tc : Thread GateFRefIdeal.nD GateFRefIdeal.τ).loc GateFRefIdeal.main_v61) = gating (m' (c.tc.loc GateFRefIdeal.main_arg0)) (m' (c.tc.loc GateFRefIdeal.main_arg1)) (m' (c.tc.loc GateFRefIdeal.main_arg2)) (m' (c.tc.loc GateFRefIdeal.main_arg3)) (m' (c.tc.loc GateFRefIdeal.main_arg4))
      ∧ r.2.mem ((c.tc : Thread GateFRefIdeal.nD GateFRefIdeal.τ).loc GateFRefIdeal.main_arg0) = m' ((c.tc : Thread GateFRefIdeal.nD GateFRefIdeal.τ).loc GateFRefIdeal.main_arg0)
      ∧ r.2.mem ((c.tc : Thread GateFRefIdeal.nD GateFRefIdeal.τ).loc GateFRefIdeal.main_arg1) = m' ((c.tc : Thread GateFRefIdeal.nD GateFRefIdeal.τ).loc GateFRefIdeal.main_arg1)
      ∧ r.2.mem ((c.tc : Thread GateFRefIdeal.nD GateFRefIdeal.τ).loc GateFRefIdeal.main_arg2) = m' ((c.tc : Thread GateFRefIdeal.nD GateFRefIdeal.τ).loc GateFRefIdeal.main_arg2)
      ∧ r.2.mem ((c.tc : Thread GateFRefIdeal.nD GateFRefIdeal.τ).loc GateFRefIdeal.main_arg3) = m' ((c.tc : Thread GateFRefIdeal.nD GateFRefIdeal.τ).loc GateFRefIdeal.main_arg3)
      ∧ r.2.mem ((c.tc : Thread GateFRefIdeal.nD GateFRefIdeal.τ).loc GateFRefIdeal.main_arg4) = m' ((c.tc : Thread GateFRefIdeal.nD GateFRefIdeal.τ).loc GateFRefIdeal.main_arg4) :=
  GateFRefIdeal.Value.run m' g

theorem algebraic : @algebraic_GateFIdeal_GateFRefIdeal Cert.GateFIdeal.Gen.facts Cert.GateFRefIdeal.Gen.facts := by
  intro m ρ m' ρ' _ hagree
  refine ⟨fun c => gating (m' (c.tc.loc GateFRefIdeal.main_arg0)) (m' (c.tc.loc GateFRefIdeal.main_arg1)) (m' (c.tc.loc GateFRefIdeal.main_arg2)) (m' (c.tc.loc GateFRefIdeal.main_arg3)) (m' (c.tc.loc GateFRefIdeal.main_arg4)), ?_, ref_run m' ρ'⟩
  refine (θ_run Cert.GateFIdeal.defs _ _).mono (fun r h c => ?_) (Value.run_blocks m ρ)
  obtain ⟨h6, k⟩ := h c
  obtain ⟨a0, a1, a2, a3, a4⟩ := hagree c
  beta_reduce
  rw [a0, a1, a2, a3, a4]
  exact ⟨h6.trans (final m c), k⟩

end Cert.SpatialForward

end
-- ==== Proof.ConvForward.lean ====
module

public import proofs.«01_k».proof.Defs
public import proofs.«01_k».proof.Proof.Gen.ConvFIdeal.Value
public import proofs.«01_k».proof.Proof.Gen.ConvFRefIdeal.Run
public import proofs.«01_k».proof.Proof.Gen.ConvF
public import proofs.«01_k».proof.Proof.PleGradient
public import Idealize.ShloMosaic.Lib.Pipeline.ReadBack
public import Idealize.ShloMosaic.Lib.Pipeline.ValueKit.Acc
public import Idealize.ShloMosaic.Lib.Pipeline.ValueKit.Geometry
public import Idealize.ShloMosaic.Lib.Pipeline.ValueKit.Tiles
public import Idealize.ShloMosaic.Lib.Pointwise

/-!
# The convolution and gate of the MLP, forward

The 5632 projected columns go through a convolution along the positions: at every position the weighted values of the position
before, the position itself and the one after, plus the bias; outside the sequence there are zeros. The first half of the columns, times
its sigmoid, then multiplies the second half. A point takes one sequence and 256 columns of each half. The kernel turns the block by one
position and writes zeros where the turn wraps round; the reference adds three slices of a padded array. The kernel's sigmoid is that
of `Cert.PleGradient`, by a hyperbolic tangent.
-/

@[expose] public section

set_option maxRecDepth 16384

noncomputable section

namespace Cert.ConvForward

open scoped BigOperators
open Idealize.ShloMosaic Idealize.ShloMosaic.TcCoe Idealize.SL.Sem Cert.ConvFIdeal Cert.ConvFIdeal.Gen
open Cert.PleGradient (sig sig_eq)

/-- The position before and the position after, round the end. -/
def before (i : Fin 2048) : Fin 2048 := ⟨(i.val + 2048 - 1) % 2048, Nat.mod_lt _ (by norm_num)⟩
def next (i : Fin 2048) : Fin 2048 := ⟨(i.val + 2048 - 2047) % 2048, Nat.mod_lt _ (by norm_num)⟩

/-- The convolution of one column at position `i`. -/
def conv (H : Fin 2048 → EReal) (w0 w1 w2 b : EReal) (i : Fin 2048) : EReal :=
  (if i.val = 0 then 0 else w0 * H (before i)) + w1 * H i + (if i.val = 2047 then 0 else w2 * H (next i)) + b

/-! ## The reference's result -/

/-- The positions between two rows of zeros. -/
def padded (h : FVec Ideal ConvFRefIdeal.S2x2048x5632 .f32) : FVec Ideal ConvFRefIdeal.S2x2050x5632 .f32 :=
  pad ConvFRefIdeal.S2x2050x5632 ![0, 1, 0] ![0, 1, 0] ![0, 0, 0] h (sitofp .f32 (constantI ConvFRefIdeal.S_ 32 0#32)) ConvFRefIdeal.Gen.facts.pads_S2x2048x5632_S2x2050x5632_000_110_000 ConvFRefIdeal.Gen.facts.h_S_

def convolved (h : FVec Ideal ConvFRefIdeal.S2x2048x5632 .f32) (w : FVec Ideal ConvFRefIdeal.S3x5632 .f32) (b : FVec Ideal ConvFRefIdeal.S5632 .f32) : FVec Ideal ConvFRefIdeal.S2x2048x5632 .f32 :=
  addf (addf (addf (addf (broadcastInDim ConvFRefIdeal.S2x2048x5632 ![] ConvFRefIdeal.Gen.facts.bcast_S_S2x2048x5632 (constant ConvFRefIdeal.S_ .f32 0x00000000#32))
    (mulf (broadcastInDim ConvFRefIdeal.S2x2048x5632 ![0, 1, 2] ConvFRefIdeal.Gen.facts.bcast_S1x1x5632_S2x2048x5632_0_1_2 (broadcastInDim ConvFRefIdeal.S1x1x5632 ![2] ConvFRefIdeal.Gen.facts.bcast_S5632_S1x1x5632_2 (shapeCast _ (extractStridedSlice ConvFRefIdeal.S1x5632 ![0, 0] w ConvFRefIdeal.Gen.facts.slices_S3x5632_S1x5632_0_0) ConvFRefIdeal.Gen.facts.shapeCasts_S1x5632_S5632)))
      (extractStridedSlice ConvFRefIdeal.S2x2048x5632 ![0, 0, 0] (padded h) ConvFRefIdeal.Gen.facts.slices_S2x2050x5632_S2x2048x5632_0_0_0)))
    (mulf (broadcastInDim ConvFRefIdeal.S2x2048x5632 ![0, 1, 2] ConvFRefIdeal.Gen.facts.bcast_S1x1x5632_S2x2048x5632_0_1_2 (broadcastInDim ConvFRefIdeal.S1x1x5632 ![2] ConvFRefIdeal.Gen.facts.bcast_S5632_S1x1x5632_2 (shapeCast _ (extractStridedSlice ConvFRefIdeal.S1x5632 ![1, 0] w ConvFRefIdeal.Gen.facts.slices_S3x5632_S1x5632_1_0) ConvFRefIdeal.Gen.facts.shapeCasts_S1x5632_S5632)))
      (extractStridedSlice ConvFRefIdeal.S2x2048x5632 ![0, 1, 0] (padded h) ConvFRefIdeal.Gen.facts.slices_S2x2050x5632_S2x2048x5632_0_1_0)))
    (mulf (broadcastInDim ConvFRefIdeal.S2x2048x5632 ![0, 1, 2] ConvFRefIdeal.Gen.facts.bcast_S1x1x5632_S2x2048x5632_0_1_2 (broadcastInDim ConvFRefIdeal.S1x1x5632 ![2] ConvFRefIdeal.Gen.facts.bcast_S5632_S1x1x5632_2 (shapeCast _ (extractStridedSlice ConvFRefIdeal.S1x5632 ![2, 0] w ConvFRefIdeal.Gen.facts.slices_S3x5632_S1x5632_2_0) ConvFRefIdeal.Gen.facts.shapeCasts_S1x5632_S5632)))
      (extractStridedSlice ConvFRefIdeal.S2x2048x5632 ![0, 2, 0] (padded h) ConvFRefIdeal.Gen.facts.slices_S2x2050x5632_S2x2048x5632_0_2_0)))
    (broadcastInDim ConvFRefIdeal.S2x2048x5632 ![0, 1, 2] ConvFRefIdeal.Gen.facts.bcast_S1x1x5632_S2x2048x5632_0_1_2 (broadcastInDim ConvFRefIdeal.S1x1x5632 ![2] ConvFRefIdeal.Gen.facts.bcast_S5632_S1x1x5632_2 b))

def silu (g : FVec Ideal ConvFRefIdeal.S2x2048x2816 .f32) : FVec Ideal ConvFRefIdeal.S2x2048x2816 .f32 :=
  mulf g (Host.divf (broadcastInDim ConvFRefIdeal.S2x2048x2816 ![] ConvFRefIdeal.Gen.facts.bcast_S_S2x2048x2816 (constant ConvFRefIdeal.S_ .f32 0x3F800000#32))
    (addf (broadcastInDim ConvFRefIdeal.S2x2048x2816 ![] ConvFRefIdeal.Gen.facts.bcast_S_S2x2048x2816 (constant ConvFRefIdeal.S_ .f32 0x3F800000#32)) (Host.exp (Host.negf g))))

def gated (a : FVec Ideal ConvFRefIdeal.S2x2048x5632 .f32) : FVec Ideal ConvFRefIdeal.S2x2048x2816 .bf16 :=
  truncf .bf16 (mulf (silu (extractStridedSlice ConvFRefIdeal.S2x2048x2816 ![0, 0, 0] a ConvFRefIdeal.Gen.facts.slices_S2x2048x5632_S2x2048x2816_0_0_0))
    (extractStridedSlice ConvFRefIdeal.S2x2048x2816 ![0, 0, 2816] a ConvFRefIdeal.Gen.facts.slices_S2x2048x5632_S2x2048x2816_0_0_2816))

theorem padded_apply (h : FVec Ideal ConvFRefIdeal.S2x2048x5632 .f32) (b : Fin 2) (r : Fin 2050) (j : Fin 5632) :
    padded h (ix3 b r j) = if q : 1 ≤ r.val ∧ r.val - 1 < 2048 then h (ix3 b ⟨r.val - 1, q.2⟩ j) else 0 := by
  pointwise [padded]
  rw [show FloatOps.sitofp (F := Ideal) FTy.f32 (0#32) = (0 : EReal) by
    show ((((0#32 : BitVec 32).toInt : ℝ)) : EReal) = 0
    simp]

theorem convolved_apply (h : FVec Ideal ConvFRefIdeal.S2x2048x5632 .f32) (w : FVec Ideal ConvFRefIdeal.S3x5632 .f32) (b : FVec Ideal ConvFRefIdeal.S5632 .f32) (s : Fin 2) (i : Fin 2048) (j : Fin 5632) :
    convolved h w b (ix3 s i j)
    = conv (fun r => h (ix3 s r j)) (w (ix2 (0 : Fin 3) j)) (w (ix2 (1 : Fin 3) j)) (w (ix2 (2 : Fin 3) j)) (b (ix1 j)) i := by
  pointwise [convolved]
  have e0 : w (ix2 (0 : Fin 3) j) * padded h (ix3 s (⟨i.val, by omega⟩ : Fin 2050) j)
      = if i.val = 0 then 0 else w (ix2 (0 : Fin 3) j) * h (ix3 s (before i) j) := by
    rw [padded_apply]
    by_cases q : i.val = 0
    · rw [dif_neg (by show ¬(1 ≤ i.val ∧ i.val - 1 < 2048); omega), if_pos q, mul_zero]
    · rw [dif_pos (by show 1 ≤ i.val ∧ i.val - 1 < 2048; omega), if_neg q]
      congr 3
      exact Fin.ext (by show i.val - 1 = (i.val + 2048 - 1) % 2048; omega)
  have e1 : padded h (ix3 s (⟨1 + i.val, by omega⟩ : Fin 2050) j) = h (ix3 s i j) := by
    rw [padded_apply, dif_pos (by show 1 ≤ 1 + i.val ∧ 1 + i.val - 1 < 2048; omega)]
    congr 2
    exact Fin.ext (by show 1 + i.val - 1 = i.val; omega)
  have e2 : w (ix2 (2 : Fin 3) j) * padded h (ix3 s (⟨2 + i.val, by omega⟩ : Fin 2050) j)
      = if i.val = 2047 then 0 else w (ix2 (2 : Fin 3) j) * h (ix3 s (next i) j) := by
    rw [padded_apply]
    by_cases q : i.val = 2047
    · rw [dif_neg (by show ¬(1 ≤ 2 + i.val ∧ 2 + i.val - 1 < 2048); omega), if_pos q, mul_zero]
    · rw [dif_pos (by show 1 ≤ 2 + i.val ∧ 2 + i.val - 1 < 2048; omega), if_neg q]
      congr 3
      exact Fin.ext (by show 2 + i.val - 1 = (i.val + 2048 - 2047) % 2048; omega)
  rw [e0, e1, e2]
  rfl

theorem gated_apply (a : FVec Ideal ConvFRefIdeal.S2x2048x5632 .f32) (s : Fin 2) (i : Fin 2048) (j : Fin 2816) :
    gated a (ix3 s i j)
    = a (ix3 s i (⟨j.val, by omega⟩ : Fin 5632)) * sig (a (ix3 s i (⟨j.val, by omega⟩ : Fin 5632))) * a (ix3 s i (⟨2816 + j.val, by omega⟩ : Fin 5632)) := by
  rw [sig_eq]
  pointwise [gated, silu]

/-! ## One point -/

theorem sel_pos (i : Fin 2048) (a b : EReal) :
    Scalar.select (IntOp.cmpi CmpIPredicate.eq (BitVec.ofNat 32 i.val) 0#32) a b = (if i.val = 0 then a else b)
    ∧ Scalar.select (IntOp.cmpi CmpIPredicate.eq (BitVec.ofNat 32 i.val) 2047#32) a b = (if i.val = 2047 then a else b) := by
  have e : ∀ k : ℕ, k < 2048 → (IntOp.cmpi CmpIPredicate.eq (BitVec.ofNat 32 i.val) (BitVec.ofNat 32 k)) = if i.val = k then 1#1 else 0#1 := by
    intro k hk
    have q : (BitVec.ofNat 32 i.val = BitVec.ofNat 32 k) ↔ i.val = k := by
      rw [← BitVec.toNat_inj, BitVec.toNat_ofNat, BitVec.toNat_ofNat, Nat.mod_eq_of_lt (by omega), Nat.mod_eq_of_lt (by omega)]
    show BitVec.ofBool (BitVec.ofNat 32 i.val == BitVec.ofNat 32 k) = _
    by_cases h : i.val = k
    · rw [if_pos h, beq_iff_eq.mpr (q.mpr h)]
      rfl
    · rw [if_neg h, beq_eq_false_iff_ne.mpr fun p => h (q.mp p)]
      rfl
  constructor
  · rw [e 0 (by norm_num)]
    by_cases h : i.val = 0 <;> simp [h, Scalar.select]
  · rw [e 2047 (by norm_num)]
    by_cases h : i.val = 2047 <;> simp [h, Scalar.select]

theorem out_eq (x0 x1 : Vec Ideal S1x2048x256 .f32) (x2 x3 : Vec Ideal S3x256 .f32) (x4 x5 : Vec Ideal S1x256 .f32) (i : Fin 2048) (j : Fin 256)
    {g u : EReal}
    (hg : conv (fun r => x0 (ix3 (0 : Fin 1) r j)) (x2 (ix2 (0 : Fin 3) j)) (x2 (ix2 (1 : Fin 3) j)) (x2 (ix2 (2 : Fin 3) j)) (x4 (ix2 (0 : Fin 1) j)) i = g)
    (hu : conv (fun r => x1 (ix3 (0 : Fin 1) r j)) (x3 (ix2 (0 : Fin 3) j)) (x3 (ix2 (1 : Fin 3) j)) (x3 (ix2 (2 : Fin 3) j)) (x5 (ix2 (0 : Fin 1) j)) i = u) :
    out0_6 x0 x1 x2 x3 x4 x5 (ix3 (0 : Fin 1) i j) = g * sig g * u := by
  subst hg hu
  unfold out0_6
  frame_out
  pointwise [k0_pay4, k0_pay1, k0_pay2, k0_pay3]
  simp only [(sel_pos i _ _).1, (sel_pos i _ _).2]
  rfl

/-! ## The arguments and the windows -/

variable (m : (ℓ : Loc nD τ sig) → Buf (Elt Ideal) ℓ) (c : Dev nD)

abbrev H : Vec Ideal S2x2048x5632 .f32 := m ((c.tc : Thread nD τ).loc main_arg0)
abbrev W : Vec Ideal S3x5632 .f32 := m ((c.tc : Thread nD τ).loc main_arg1)
abbrev B : Vec Ideal S5632 .f32 := m ((c.tc : Thread nD τ).loc main_arg2)

theorem V_0 : (V m c main_arg0 : Vec Ideal S2x2048x5632 .f32) = H m c := by
  show StableHlo.after hostOps0 (fun b => m (c, b)) main_arg0 = _
  after_results_simp <;> rfl
theorem V_1 : (V m c main_arg1 : Vec Ideal S3x5632 .f32) = W m c := by
  show StableHlo.after hostOps0 (fun b => m (c, b)) main_arg1 = _
  after_results_simp <;> rfl
theorem V_2 (j : Fin 5632) : (V m c main_v0 : Vec Ideal S1x5632 .f32) (ix2 (0 : Fin 1) j) = B m c (ix1 j) := by
  have e : (V m c main_v0 : Vec Ideal S1x5632 .f32) = shapeCast _ (B m c) Gen.facts.shapeCasts_S5632_S1x5632 := by
    show StableHlo.after hostOps0 (fun b => m (c, b)) main_v0 = _
    after_results_simp <;> rfl
  rw [e]
  pointwise []

theorem e0 : ∀ t : Fin cfg0.N, win0_0.index t = ![t.val / 11, 0, t.val % 11] := (by decide +kernel : ∀ t : Fin grid0.N, _)
theorem e1 : ∀ t : Fin cfg0.N, win0_1.index t = ![t.val / 11, 0, t.val % 11 + 11] := (by decide +kernel : ∀ t : Fin grid0.N, _)
theorem e2 : ∀ t : Fin cfg0.N, win0_2.index t = ![0, t.val % 11] := (by decide +kernel : ∀ t : Fin grid0.N, _)
theorem e3 : ∀ t : Fin cfg0.N, win0_3.index t = ![0, t.val % 11 + 11] := (by decide +kernel : ∀ t : Fin grid0.N, _)
theorem e4 : ∀ t : Fin cfg0.N, win0_4.index t = ![0, t.val % 11] := (by decide +kernel : ∀ t : Fin grid0.N, _)
theorem e5 : ∀ t : Fin cfg0.N, win0_5.index t = ![0, t.val % 11 + 11] := (by decide +kernel : ∀ t : Fin grid0.N, _)
theorem e6 : ∀ t : Fin cfg0.N, win0_6.index t = ![t.val / 11, 0, t.val % 11] := (by decide +kernel : ∀ t : Fin grid0.N, _)

theorem pt_lt (t : Fin cfg0.N) : t.val < 22 := lt_of_lt_of_eq t.isLt N_0

/-- The sequence of point `t`, and its columns of the two halves. -/
def sq (t : Fin cfg0.N) : Fin 2 := ⟨t.val / 11, by have := pt_lt t; omega⟩
def gcol (t : Fin cfg0.N) (j : Fin 256) : Fin 5632 := ⟨t.val % 11 * 256 + j.val, by omega⟩
def ucol (t : Fin cfg0.N) (j : Fin 256) : Fin 5632 := ⟨(t.val % 11 + 11) * 256 + j.val, by omega⟩
def col (t : Fin cfg0.N) (j : Fin 256) : Fin 2816 := ⟨t.val % 11 * 256 + j.val, by omega⟩

/-- The blocks of point `t`. -/
def b0 (t : Fin cfg0.N) : Vec Ideal S1x2048x256 .f32 := iblk m c 0 t
def b1 (t : Fin cfg0.N) : Vec Ideal S1x2048x256 .f32 := iblk m c 1 t
def b2 (t : Fin cfg0.N) : Vec Ideal S3x256 .f32 := iblk m c 2 t
def b3 (t : Fin cfg0.N) : Vec Ideal S3x256 .f32 := iblk m c 3 t
def b4 (t : Fin cfg0.N) : Vec Ideal S1x256 .f32 := iblk m c 4 t
def b5 (t : Fin cfg0.N) : Vec Ideal S1x256 .f32 := iblk m c 5 t

theorem b0_apply (t : Fin cfg0.N) (i : Fin 2048) (j : Fin 256) : b0 m c t (ix3 (0 : Fin 1) i j) = H m c (ix3 (sq t) i (gcol t j)) := by
  rw [← V_0]
  unfold b0
  blk_ext [iblk, e0, sq, gcol]
theorem b1_apply (t : Fin cfg0.N) (i : Fin 2048) (j : Fin 256) : b1 m c t (ix3 (0 : Fin 1) i j) = H m c (ix3 (sq t) i (ucol t j)) := by
  rw [← V_0]
  unfold b1
  blk_ext [iblk, e1, sq, ucol]
theorem b2_apply (t : Fin cfg0.N) (k : Fin 3) (j : Fin 256) : b2 m c t (ix2 k j) = W m c (ix2 k (gcol t j)) := by
  rw [← V_1]
  unfold b2
  blk_ext [iblk, e2, gcol]
theorem b3_apply (t : Fin cfg0.N) (k : Fin 3) (j : Fin 256) : b3 m c t (ix2 k j) = W m c (ix2 k (ucol t j)) := by
  rw [← V_1]
  unfold b3
  blk_ext [iblk, e3, ucol]
theorem b4_apply (t : Fin cfg0.N) (j : Fin 256) : b4 m c t (ix2 (0 : Fin 1) j) = B m c (ix1 (gcol t j)) := by
  rw [← V_2]
  unfold b4
  blk_ext [iblk, e4, gcol]
theorem b5_apply (t : Fin cfg0.N) (j : Fin 256) : b5 m c t (ix2 (0 : Fin 1) j) = B m c (ix1 (ucol t j)) := by
  rw [← V_2]
  unfold b5
  blk_ext [iblk, e5, ucol]

/-! ## The result -/

theorem final : (dats m 0 c).arrAt 6 cfg0.N = gated (convolved (H m c) (W m c) (B m c)) := by
  refine (dats m 0 c).arrAt_eq_of_covers 6 _ (by decide +kernel) fun t hf y => ?_
  blk_simp
  rw [after0_6]
  obtain ⟨z, i, j, rfl⟩ : ∃ (z : Fin 1) (i : Fin 2048) (j : Fin 256), y = ix3 z i j := ⟨y 0, y 1, y 2, eq_ix3 y⟩
  obtain rfl : z = 0 := Subsingleton.elim _ _
  have g := convolved_apply (H m c) (W m c) (B m c) (sq t) i (gcol t j)
  have u := convolved_apply (H m c) (W m c) (B m c) (sq t) i (ucol t j)
  refine (out_eq (b0 m c t) (b1 m c t) (b2 m c t) (b3 m c t) (b4 m c t) (b5 m c t) i j
    (g := convolved (H m c) (W m c) (B m c) (ix3 (sq t) i (gcol t j))) (u := convolved (H m c) (W m c) (B m c) (ix3 (sq t) i (ucol t j))) ?_ ?_).trans ?_
  · simp only [b0_apply, b2_apply, b4_apply, g]
  · simp only [b1_apply, b3_apply, b5_apply, u]
  have q := gated_apply (convolved (H m c) (W m c) (B m c)) (sq t) i (col t j)
  have eg : (⟨(col t j).val, by omega⟩ : Fin 5632) = gcol t j := rfl
  have eu : (⟨2816 + (col t j).val, by omega⟩ : Fin 5632) = ucol t j := Fin.ext (by show 2816 + (t.val % 11 * 256 + j.val) = (t.val % 11 + 11) * 256 + j.val; omega)
  rw [eg, eu] at q
  rw [← q]
  blk_ext [e6, sq, col]

/-! ## The claim -/

theorem ref_run (m' : (ℓ : Loc ConvFRefIdeal.nD ConvFRefIdeal.τ ConvFRefIdeal.sig) → Buf (Elt Ideal) ℓ) (g : Dev ConvFRefIdeal.nD → PrngReg) :
    θ_run (ConvFRefIdeal.defs (F := Ideal)) (onTc (τ := ConvFRefIdeal.τ) (ConvFRefIdeal.main (F := Ideal))) ⟨m', fun _ => 0, g⟩ fun r => ∀ c : Dev ConvFRefIdeal.nD,
      r.2.mem ((c.tc : Thread ConvFRefIdeal.nD ConvFRefIdeal.τ).loc ConvFRefIdeal.main_v30) = gated (convolved (m' (c.tc.loc ConvFRefIdeal.main_arg0)) (m' (c.tc.loc ConvFRefIdeal.main_arg1)) (m' (c.tc.loc ConvFRefIdeal.main_arg2)))
      ∧ r.2.mem ((c.tc : Thread ConvFRefIdeal.nD ConvFRefIdeal.τ).loc ConvFRefIdeal.main_arg0) = m' ((c.tc : Thread ConvFRefIdeal.nD ConvFRefIdeal.τ).loc ConvFRefIdeal.main_arg0)
      ∧ r.2.mem ((c.tc : Thread ConvFRefIdeal.nD ConvFRefIdeal.τ).loc ConvFRefIdeal.main_arg1) = m' ((c.tc : Thread ConvFRefIdeal.nD ConvFRefIdeal.τ).loc ConvFRefIdeal.main_arg1)
      ∧ r.2.mem ((c.tc : Thread ConvFRefIdeal.nD ConvFRefIdeal.τ).loc ConvFRefIdeal.main_arg2) = m' ((c.tc : Thread ConvFRefIdeal.nD ConvFRefIdeal.τ).loc ConvFRefIdeal.main_arg2) :=
  ConvFRefIdeal.Value.run m' g

theorem algebraic : @algebraic_ConvFIdeal_ConvFRefIdeal Cert.ConvFIdeal.Gen.facts Cert.ConvFRefIdeal.Gen.facts := by
  intro m ρ m' ρ' _ hagree
  refine ⟨fun c => gated (convolved (m' (c.tc.loc ConvFRefIdeal.main_arg0)) (m' (c.tc.loc ConvFRefIdeal.main_arg1)) (m' (c.tc.loc ConvFRefIdeal.main_arg2))), ?_, ref_run m' ρ'⟩
  refine (θ_run Cert.ConvFIdeal.defs _ _).mono (fun r h c => ?_) (Value.run_blocks m ρ)
  obtain ⟨h6, k⟩ := h c
  obtain ⟨a0, a1, a2⟩ := hagree c
  beta_reduce
  rw [a0, a1, a2]
  exact ⟨h6.trans (final m c), k⟩

end Cert.ConvForward

end
-- ==== Proof.Adam.lean ====
module

public import proofs.«01_k».proof.Defs
public import proofs.«01_k».proof.Proof.Gen.AdWsIdeal.Value
public import proofs.«01_k».proof.Proof.Gen.AdWsRefIdeal.Run
public import proofs.«01_k».proof.Proof.Gen.AdWs
public import Idealize.ShloMosaic.Lib.Pipeline.ReadBack
public import Idealize.ShloMosaic.Lib.Pointwise

/-!
# The optimiser's step

The change of the weights and the two new moments are entrywise, and the kernel's formulas are the reference's, with the
square of the gradient as a product.
-/

@[expose] public section

set_option maxRecDepth 16384

noncomputable section

namespace Cert.Adam

open Idealize.ShloMosaic Idealize.ShloMosaic.TcCoe Idealize.SL.Sem

theorem algebraic : @algebraic_AdWsIdeal_AdWsRefIdeal Cert.AdWsIdeal.Gen.facts Cert.AdWsRefIdeal.Gen.facts := by
  intro m ρ m' ρ' _ hagree
  refine ⟨_, _, _, ?_, (θ_run Cert.AdWsRefIdeal.defs _ _).mono (fun r h c => h c) (AdWsRefIdeal.Value.run m' ρ')⟩
  refine (θ_run Cert.AdWsIdeal.defs _ _).mono (fun r h c => ?_) (AdWsIdeal.Value.run m ρ)
  obtain ⟨h4, h5, h6, k⟩ := h c
  obtain ⟨a0, a1, a2, a3⟩ := hagree c
  refine ⟨h4.trans ?_, h5.trans ?_, h6.trans ?_, k⟩ <;> rw [← a1] <;> (try rw [← a0]) <;> (try rw [← a2]) <;> (try rw [← a3]) <;> rfl

end Cert.Adam

end
-- ==== Proof.HeadNorms.lean ====
module

public import proofs.«01_k».proof.Defs
public import proofs.«01_k».proof.Proof.Gen.PrepFIdeal.Value
public import proofs.«01_k».proof.Proof.Gen.PrepFRefIdeal.Run
public import proofs.«01_k».proof.Proof.Gen.PrepF
public import proofs.«01_k».proof.Proof.MixGradient
public import Idealize.ShloMosaic.Lib.Pipeline.ReadBack
public import Idealize.ShloMosaic.Lib.Pipeline.ValueKit.Acc
public import Idealize.ShloMosaic.Lib.Pipeline.ValueKit.Geometry
public import Idealize.ShloMosaic.Lib.Pipeline.ValueKit.Tiles
public import Idealize.ShloMosaic.Lib.Pointwise

/-!
# The norms of the heads and the rotary positions, forward

Of the projected columns the heads of q and k are divided by their root mean square over the head's 64 columns and multiplied by a gain;
mixer D's are then rotated in pairs sixteen lanes apart, by the position's row in the first 32 lanes and by its column in the others. The
values are copied. The kernel does this for 128 columns, two heads, at a time: it adds up the squares of the first and of the last 64
lanes, fetches the partner of a lane by turning the block, and has the sign of the sine in its table. The reference works by head.
-/

@[expose] public section

set_option maxRecDepth 16384

noncomputable section

namespace Cert.HeadNorms

open scoped BigOperators
open Idealize.ShloMosaic Idealize.ShloMosaic.TcCoe Idealize.SL.Sem Cert.PrepFIdeal Cert.PrepFIdeal.Gen
open Cert.MixGradient (lane lane_of first_lanes first_sum second_sum)

/-- One value of a head over its root mean square, times the gain. -/
def headNorm (X G : Fin 64 → EReal) (d : Fin 64) : EReal :=
  X d * Ideal.rsqrt ((∑ k : Fin 64, X k * X k) * ((1 / 64 : ℝ) : EReal) + Ideal.ofBits FTy.f32 897988541#32) * G d

/-- The entry of two tables of 16 that belongs to lane `d`: the row's for the first 32 lanes, the column's for the others. -/
def angle (r c : Fin 16 → EReal) (d : Fin 64) : EReal :=
  if d.val < 32 then r ⟨d.val % 16, Nat.mod_lt _ (by norm_num)⟩ else c ⟨d.val % 16, Nat.mod_lt _ (by norm_num)⟩

/-- A head rotated in pairs sixteen lanes apart. -/
def rotated (Y C S : Fin 64 → EReal) (d : Fin 64) : EReal :=
  if h : d.val % 32 < 16 then Y d * C d - Y ⟨d.val + 16, by omega⟩ * S d else Y d * C d + Y ⟨d.val - 16, by omega⟩ * S d

/-! ## The reference's stages, with four heads and with two -/

def normed4 (y : FVec Ideal PrepFRefIdeal.S2x2048x4x64 .f32) (g : FVec Ideal PrepFRefIdeal.S64 .f32) : FVec Ideal PrepFRefIdeal.S2x2048x4x64 .f32 :=
  mulf (mulf y (broadcastInDim PrepFRefIdeal.S2x2048x4x64 ![0, 1, 2, 3] PrepFRefIdeal.Gen.facts.bcast_S2x2048x4x1_S2x2048x4x64_0_1_2_3 (Host.rsqrt (addf (Host.divf (broadcastInDim PrepFRefIdeal.S2x2048x4x1 ![0, 1, 2] PrepFRefIdeal.Gen.facts.bcast_S2x2048x4_S2x2048x4x1_0_1_2
      (Host.reduceAdd (mulf y y) (constant PrepFRefIdeal.S_ .f32 0x00000000#32) PrepFRefIdeal.Gen.facts.reducesTo_S2x2048x4x64_S2x2048x4_d3 PrepFRefIdeal.Gen.facts.h_S_)) (broadcastInDim PrepFRefIdeal.S2x2048x4x1 ![] PrepFRefIdeal.Gen.facts.bcast_S_S2x2048x4x1 (constant PrepFRefIdeal.S_ .f32 0x42800000#32)))
      (broadcastInDim PrepFRefIdeal.S2x2048x4x1 ![] PrepFRefIdeal.Gen.facts.bcast_S_S2x2048x4x1 (constant PrepFRefIdeal.S_ .f32 0x358637BD#32))))))
    (broadcastInDim PrepFRefIdeal.S2x2048x4x64 ![0, 1, 2, 3] PrepFRefIdeal.Gen.facts.bcast_S1x1x1x64_S2x2048x4x64_0_1_2_3 (broadcastInDim PrepFRefIdeal.S1x1x1x64 ![3] PrepFRefIdeal.Gen.facts.bcast_S64_S1x1x1x64_3 g))

def axis4 (u : FVec Ideal PrepFRefIdeal.S2x2048x4x32 .f32) (c s : FVec Ideal PrepFRefIdeal.S2048x16 .f32) : FVec Ideal PrepFRefIdeal.S2x2048x4x32 .f32 :=
  concatenate PrepFRefIdeal.S2x2048x4x32 3 [
    ⟨PrepFRefIdeal.S2x2048x4x16, subf (mulf (extractStridedSlice PrepFRefIdeal.S2x2048x4x16 ![0, 0, 0, 0] u PrepFRefIdeal.Gen.facts.slices_S2x2048x4x32_S2x2048x4x16_0_0_0_0) (broadcastInDim PrepFRefIdeal.S2x2048x4x16 ![0, 1, 2, 3] PrepFRefIdeal.Gen.facts.bcast_S1x2048x1x16_S2x2048x4x16_0_1_2_3 (broadcastInDim PrepFRefIdeal.S1x2048x1x16 ![1, 2, 3] PrepFRefIdeal.Gen.facts.bcast_S2048x1x16_S1x2048x1x16_1_2_3 (broadcastInDim PrepFRefIdeal.S2048x1x16 ![0, 2] PrepFRefIdeal.Gen.facts.bcast_S2048x16_S2048x1x16_0_2 c))))
      (mulf (extractStridedSlice PrepFRefIdeal.S2x2048x4x16 ![0, 0, 0, 16] u PrepFRefIdeal.Gen.facts.slices_S2x2048x4x32_S2x2048x4x16_0_0_0_16) (broadcastInDim PrepFRefIdeal.S2x2048x4x16 ![0, 1, 2, 3] PrepFRefIdeal.Gen.facts.bcast_S1x2048x1x16_S2x2048x4x16_0_1_2_3 (broadcastInDim PrepFRefIdeal.S1x2048x1x16 ![1, 2, 3] PrepFRefIdeal.Gen.facts.bcast_S2048x1x16_S1x2048x1x16_1_2_3 (broadcastInDim PrepFRefIdeal.S2048x1x16 ![0, 2] PrepFRefIdeal.Gen.facts.bcast_S2048x16_S2048x1x16_0_2 s))))⟩,
    ⟨PrepFRefIdeal.S2x2048x4x16, addf (mulf (extractStridedSlice PrepFRefIdeal.S2x2048x4x16 ![0, 0, 0, 16] u PrepFRefIdeal.Gen.facts.slices_S2x2048x4x32_S2x2048x4x16_0_0_0_16) (broadcastInDim PrepFRefIdeal.S2x2048x4x16 ![0, 1, 2, 3] PrepFRefIdeal.Gen.facts.bcast_S1x2048x1x16_S2x2048x4x16_0_1_2_3 (broadcastInDim PrepFRefIdeal.S1x2048x1x16 ![1, 2, 3] PrepFRefIdeal.Gen.facts.bcast_S2048x1x16_S1x2048x1x16_1_2_3 (broadcastInDim PrepFRefIdeal.S2048x1x16 ![0, 2] PrepFRefIdeal.Gen.facts.bcast_S2048x16_S2048x1x16_0_2 c))))
      (mulf (extractStridedSlice PrepFRefIdeal.S2x2048x4x16 ![0, 0, 0, 0] u PrepFRefIdeal.Gen.facts.slices_S2x2048x4x32_S2x2048x4x16_0_0_0_0) (broadcastInDim PrepFRefIdeal.S2x2048x4x16 ![0, 1, 2, 3] PrepFRefIdeal.Gen.facts.bcast_S1x2048x1x16_S2x2048x4x16_0_1_2_3 (broadcastInDim PrepFRefIdeal.S1x2048x1x16 ![1, 2, 3] PrepFRefIdeal.Gen.facts.bcast_S2048x1x16_S1x2048x1x16_1_2_3 (broadcastInDim PrepFRefIdeal.S2048x1x16 ![0, 2] PrepFRefIdeal.Gen.facts.bcast_S2048x16_S2048x1x16_0_2 s))))⟩]
    PrepFRefIdeal.Gen.facts.concatenates_S2x2048x4x16_S2x2048x4x16_S2x2048x4x32_d3

def rotary4 (y : FVec Ideal PrepFRefIdeal.S2x2048x4x64 .f32) (cr sr cc sc : FVec Ideal PrepFRefIdeal.S2048x16 .f32) : FVec Ideal PrepFRefIdeal.S2x2048x4x64 .f32 :=
  concatenate PrepFRefIdeal.S2x2048x4x64 3 [⟨PrepFRefIdeal.S2x2048x4x32, axis4 (extractStridedSlice PrepFRefIdeal.S2x2048x4x32 ![0, 0, 0, 0] y PrepFRefIdeal.Gen.facts.slices_S2x2048x4x64_S2x2048x4x32_0_0_0_0) cr sr⟩,
    ⟨PrepFRefIdeal.S2x2048x4x32, axis4 (extractStridedSlice PrepFRefIdeal.S2x2048x4x32 ![0, 0, 0, 32] y PrepFRefIdeal.Gen.facts.slices_S2x2048x4x64_S2x2048x4x32_0_0_0_32) cc sc⟩] PrepFRefIdeal.Gen.facts.concatenates_S2x2048x4x32_S2x2048x4x32_S2x2048x4x64_d3

def flat4 (y : FVec Ideal PrepFRefIdeal.S2x2048x4x64 .f32) : FVec Ideal PrepFRefIdeal.S4096x256 .f32 := shapeCast _ y PrepFRefIdeal.Gen.facts.shapeCasts_S2x2048x4x64_S4096x256

def heads4 (p : FVec Ideal PrepFRefIdeal.S4096x2304 .f32) (o : ℕ) (hs : PrepFRefIdeal.S4096x2304.Slices ![0, o] PrepFRefIdeal.S4096x256) : FVec Ideal PrepFRefIdeal.S2x2048x4x64 .f32 :=
  shapeCast _ (extractStridedSlice PrepFRefIdeal.S4096x256 ![0, o] p hs) PrepFRefIdeal.Gen.facts.shapeCasts_S4096x256_S2x2048x4x64

def normed2 (y : FVec Ideal PrepFRefIdeal.S2x2048x2x64 .f32) (g : FVec Ideal PrepFRefIdeal.S64 .f32) : FVec Ideal PrepFRefIdeal.S2x2048x2x64 .f32 :=
  mulf (mulf y (broadcastInDim PrepFRefIdeal.S2x2048x2x64 ![0, 1, 2, 3] PrepFRefIdeal.Gen.facts.bcast_S2x2048x2x1_S2x2048x2x64_0_1_2_3 (Host.rsqrt (addf (Host.divf (broadcastInDim PrepFRefIdeal.S2x2048x2x1 ![0, 1, 2] PrepFRefIdeal.Gen.facts.bcast_S2x2048x2_S2x2048x2x1_0_1_2
      (Host.reduceAdd (mulf y y) (constant PrepFRefIdeal.S_ .f32 0x00000000#32) PrepFRefIdeal.Gen.facts.reducesTo_S2x2048x2x64_S2x2048x2_d3 PrepFRefIdeal.Gen.facts.h_S_)) (broadcastInDim PrepFRefIdeal.S2x2048x2x1 ![] PrepFRefIdeal.Gen.facts.bcast_S_S2x2048x2x1 (constant PrepFRefIdeal.S_ .f32 0x42800000#32)))
      (broadcastInDim PrepFRefIdeal.S2x2048x2x1 ![] PrepFRefIdeal.Gen.facts.bcast_S_S2x2048x2x1 (constant PrepFRefIdeal.S_ .f32 0x358637BD#32))))))
    (broadcastInDim PrepFRefIdeal.S2x2048x2x64 ![0, 1, 2, 3] PrepFRefIdeal.Gen.facts.bcast_S1x1x1x64_S2x2048x2x64_0_1_2_3 (broadcastInDim PrepFRefIdeal.S1x1x1x64 ![3] PrepFRefIdeal.Gen.facts.bcast_S64_S1x1x1x64_3 g))

def axis2 (u : FVec Ideal PrepFRefIdeal.S2x2048x2x32 .f32) (c s : FVec Ideal PrepFRefIdeal.S2048x16 .f32) : FVec Ideal PrepFRefIdeal.S2x2048x2x32 .f32 :=
  concatenate PrepFRefIdeal.S2x2048x2x32 3 [
    ⟨PrepFRefIdeal.S2x2048x2x16, subf (mulf (extractStridedSlice PrepFRefIdeal.S2x2048x2x16 ![0, 0, 0, 0] u PrepFRefIdeal.Gen.facts.slices_S2x2048x2x32_S2x2048x2x16_0_0_0_0) (broadcastInDim PrepFRefIdeal.S2x2048x2x16 ![0, 1, 2, 3] PrepFRefIdeal.Gen.facts.bcast_S1x2048x1x16_S2x2048x2x16_0_1_2_3 (broadcastInDim PrepFRefIdeal.S1x2048x1x16 ![1, 2, 3] PrepFRefIdeal.Gen.facts.bcast_S2048x1x16_S1x2048x1x16_1_2_3 (broadcastInDim PrepFRefIdeal.S2048x1x16 ![0, 2] PrepFRefIdeal.Gen.facts.bcast_S2048x16_S2048x1x16_0_2 c))))
      (mulf (extractStridedSlice PrepFRefIdeal.S2x2048x2x16 ![0, 0, 0, 16] u PrepFRefIdeal.Gen.facts.slices_S2x2048x2x32_S2x2048x2x16_0_0_0_16) (broadcastInDim PrepFRefIdeal.S2x2048x2x16 ![0, 1, 2, 3] PrepFRefIdeal.Gen.facts.bcast_S1x2048x1x16_S2x2048x2x16_0_1_2_3 (broadcastInDim PrepFRefIdeal.S1x2048x1x16 ![1, 2, 3] PrepFRefIdeal.Gen.facts.bcast_S2048x1x16_S1x2048x1x16_1_2_3 (broadcastInDim PrepFRefIdeal.S2048x1x16 ![0, 2] PrepFRefIdeal.Gen.facts.bcast_S2048x16_S2048x1x16_0_2 s))))⟩,
    ⟨PrepFRefIdeal.S2x2048x2x16, addf (mulf (extractStridedSlice PrepFRefIdeal.S2x2048x2x16 ![0, 0, 0, 16] u PrepFRefIdeal.Gen.facts.slices_S2x2048x2x32_S2x2048x2x16_0_0_0_16) (broadcastInDim PrepFRefIdeal.S2x2048x2x16 ![0, 1, 2, 3] PrepFRefIdeal.Gen.facts.bcast_S1x2048x1x16_S2x2048x2x16_0_1_2_3 (broadcastInDim PrepFRefIdeal.S1x2048x1x16 ![1, 2, 3] PrepFRefIdeal.Gen.facts.bcast_S2048x1x16_S1x2048x1x16_1_2_3 (broadcastInDim PrepFRefIdeal.S2048x1x16 ![0, 2] PrepFRefIdeal.Gen.facts.bcast_S2048x16_S2048x1x16_0_2 c))))
      (mulf (extractStridedSlice PrepFRefIdeal.S2x2048x2x16 ![0, 0, 0, 0] u PrepFRefIdeal.Gen.facts.slices_S2x2048x2x32_S2x2048x2x16_0_0_0_0) (broadcastInDim PrepFRefIdeal.S2x2048x2x16 ![0, 1, 2, 3] PrepFRefIdeal.Gen.facts.bcast_S1x2048x1x16_S2x2048x2x16_0_1_2_3 (broadcastInDim PrepFRefIdeal.S1x2048x1x16 ![1, 2, 3] PrepFRefIdeal.Gen.facts.bcast_S2048x1x16_S1x2048x1x16_1_2_3 (broadcastInDim PrepFRefIdeal.S2048x1x16 ![0, 2] PrepFRefIdeal.Gen.facts.bcast_S2048x16_S2048x1x16_0_2 s))))⟩]
    PrepFRefIdeal.Gen.facts.concatenates_S2x2048x2x16_S2x2048x2x16_S2x2048x2x32_d3

def rotary2 (y : FVec Ideal PrepFRefIdeal.S2x2048x2x64 .f32) (cr sr cc sc : FVec Ideal PrepFRefIdeal.S2048x16 .f32) : FVec Ideal PrepFRefIdeal.S2x2048x2x64 .f32 :=
  concatenate PrepFRefIdeal.S2x2048x2x64 3 [⟨PrepFRefIdeal.S2x2048x2x32, axis2 (extractStridedSlice PrepFRefIdeal.S2x2048x2x32 ![0, 0, 0, 0] y PrepFRefIdeal.Gen.facts.slices_S2x2048x2x64_S2x2048x2x32_0_0_0_0) cr sr⟩,
    ⟨PrepFRefIdeal.S2x2048x2x32, axis2 (extractStridedSlice PrepFRefIdeal.S2x2048x2x32 ![0, 0, 0, 32] y PrepFRefIdeal.Gen.facts.slices_S2x2048x2x64_S2x2048x2x32_0_0_0_32) cc sc⟩] PrepFRefIdeal.Gen.facts.concatenates_S2x2048x2x32_S2x2048x2x32_S2x2048x2x64_d3

def flat2 (y : FVec Ideal PrepFRefIdeal.S2x2048x2x64 .f32) : FVec Ideal PrepFRefIdeal.S4096x128 .f32 := shapeCast _ y PrepFRefIdeal.Gen.facts.shapeCasts_S2x2048x2x64_S4096x128

def heads2 (p : FVec Ideal PrepFRefIdeal.S4096x2304 .f32) (o : ℕ) (hs : PrepFRefIdeal.S4096x2304.Slices ![0, o] PrepFRefIdeal.S4096x128) : FVec Ideal PrepFRefIdeal.S2x2048x2x64 .f32 :=
  shapeCast _ (extractStridedSlice PrepFRefIdeal.S4096x128 ![0, o] p hs) PrepFRefIdeal.Gen.facts.shapeCasts_S4096x128_S2x2048x2x64

def gains (g : FVec Ideal PrepFRefIdeal.S3x2x64 .f32) (a : Fin 3) (b : Fin 2) (hs : PrepFRefIdeal.S3x2x64.Slices ![a.val, b.val, 0] PrepFRefIdeal.S1x1x64) : FVec Ideal PrepFRefIdeal.S64 .f32 :=
  shapeCast _ (extractStridedSlice PrepFRefIdeal.S1x1x64 ![a.val, b.val, 0] g hs) PrepFRefIdeal.Gen.facts.shapeCasts_S1x1x64_S64

/-- The two results. -/
def resA (p : FVec Ideal PrepFRefIdeal.S4096x2304 .f32) (g : FVec Ideal PrepFRefIdeal.S3x2x64 .f32) : FVec Ideal PrepFRefIdeal.S4096x768 .bf16 :=
  truncf .bf16 (concatenate PrepFRefIdeal.S4096x768 1 [⟨PrepFRefIdeal.S4096x256, flat4 (normed4 (heads4 p 0 PrepFRefIdeal.Gen.facts.slices_S4096x2304_S4096x256_0_0) (gains g 0 0 PrepFRefIdeal.Gen.facts.slices_S3x2x64_S1x1x64_0_0_0))⟩,
    ⟨PrepFRefIdeal.S4096x256, flat4 (normed4 (heads4 p 256 PrepFRefIdeal.Gen.facts.slices_S4096x2304_S4096x256_0_256) (gains g 0 1 PrepFRefIdeal.Gen.facts.slices_S3x2x64_S1x1x64_0_1_0))⟩,
    ⟨PrepFRefIdeal.S4096x256, (extractStridedSlice PrepFRefIdeal.S4096x256 ![0, 512] p PrepFRefIdeal.Gen.facts.slices_S4096x2304_S4096x256_0_512)⟩] PrepFRefIdeal.Gen.facts.concatenates_S4096x256_S4096x256_S4096x256_S4096x768_d1 : FVec Ideal PrepFRefIdeal.S4096x768 .f32) bitsLt_bf16_f32

def resB (p : FVec Ideal PrepFRefIdeal.S4096x2304 .f32) (g : FVec Ideal PrepFRefIdeal.S3x2x64 .f32) (cr sr cc sc : FVec Ideal PrepFRefIdeal.S2048x16 .f32) : FVec Ideal PrepFRefIdeal.S4096x1024 .bf16 :=
  truncf .bf16 (concatenate PrepFRefIdeal.S4096x1024 1 [⟨PrepFRefIdeal.S4096x256, flat4 (normed4 (heads4 p 768 PrepFRefIdeal.Gen.facts.slices_S4096x2304_S4096x256_0_768) (gains g 1 0 PrepFRefIdeal.Gen.facts.slices_S3x2x64_S1x1x64_1_0_0))⟩,
    ⟨PrepFRefIdeal.S4096x128, flat2 (normed2 (heads2 p 1024 PrepFRefIdeal.Gen.facts.slices_S4096x2304_S4096x128_0_1024) (gains g 1 1 PrepFRefIdeal.Gen.facts.slices_S3x2x64_S1x1x64_1_1_0))⟩,
    ⟨PrepFRefIdeal.S4096x128, (extractStridedSlice PrepFRefIdeal.S4096x128 ![0, 1152] p PrepFRefIdeal.Gen.facts.slices_S4096x2304_S4096x128_0_1152)⟩,
    ⟨PrepFRefIdeal.S4096x256, flat4 (rotary4 (normed4 (heads4 p 1792 PrepFRefIdeal.Gen.facts.slices_S4096x2304_S4096x256_0_1792) (gains g 2 0 PrepFRefIdeal.Gen.facts.slices_S3x2x64_S1x1x64_2_0_0)) cr sr cc sc)⟩,
    ⟨PrepFRefIdeal.S4096x128, flat2 (rotary2 (normed2 (heads2 p 2048 PrepFRefIdeal.Gen.facts.slices_S4096x2304_S4096x128_0_2048) (gains g 2 1 PrepFRefIdeal.Gen.facts.slices_S3x2x64_S1x1x64_2_1_0)) cr sr cc sc)⟩,
    ⟨PrepFRefIdeal.S4096x128, (extractStridedSlice PrepFRefIdeal.S4096x128 ![0, 2176] p PrepFRefIdeal.Gen.facts.slices_S4096x2304_S4096x128_0_2176)⟩] PrepFRefIdeal.Gen.facts.concatenates_S4096x256_S4096x128_S4096x128_S4096x256_S4096x128_S4096x128_S4096x1024_d1 : FVec Ideal PrepFRefIdeal.S4096x1024 .f32) bitsLt_bf16_f32

theorem ofBits_64 : Ideal.ofBits FTy.f32 1115684864#32 = ((64 : ℝ) : EReal) := by
  simp [Ideal.ofBits, Ideal.ieee, -EReal.coe_mul]; norm_num
theorem ofBits_64th : Ideal.ofBits FTy.f32 1015021568#32 = ((1 / 64 : ℝ) : EReal) := by
  simp [Ideal.ofBits, Ideal.ieee, -EReal.coe_mul]; norm_num

/-- The row of sequence `b` and position `s`; the 64 columns of a row from column `o` on; the gain of one norm. -/
def row (b : Fin 2) (s : Fin 2048) : Fin 4096 := ⟨b.val * 2048 + s.val, by omega⟩
def head (p : FVec Ideal S4096x2304 .f32) (r : Fin 4096) (o : ℕ) (k : Fin 64) : EReal := if h : o + k.val < 2304 then p (ix2 r ⟨o + k.val, h⟩) else 0
def gain (g : FVec Ideal PrepFRefIdeal.S3x2x64 .f32) (a : Fin 3) (b : Fin 2) (k : Fin 64) : EReal := g (ix3 a b k)
def turn (T : FVec Ideal PrepFRefIdeal.S2048x16 .f32) (U : FVec Ideal PrepFRefIdeal.S2048x16 .f32) (s : Fin 2048) : Fin 64 → EReal :=
  angle (fun k => T (ix2 s k)) (fun k => U (ix2 s k))

theorem head_eq (p : FVec Ideal S4096x2304 .f32) (r : Fin 4096) (o : ℕ) (k : Fin 64) (c : Fin 2304) (h : c.val = o + k.val) : p (ix2 r c) = head p r o k := by
  unfold head
  rw [dif_pos (by have := c.isLt; omega)]
  exact congrArg (fun z => p (ix2 r z)) (Fin.ext h)

theorem normed4_apply (y : FVec Ideal PrepFRefIdeal.S2x2048x4x64 .f32) (g : FVec Ideal PrepFRefIdeal.S64 .f32) (b : Fin 2) (s : Fin 2048) (h : Fin 4) (d : Fin 64) :
    normed4 y g (ix4 b s h d) = headNorm (fun k => y (ix4 b s h k)) (fun k => g (ix1 k)) d := by
  pointwise [normed4]
  rw [ofBits_64, Ideal.div_coe (by norm_num)]
  rfl
theorem rotary4_apply (y : FVec Ideal PrepFRefIdeal.S2x2048x4x64 .f32) (cr sr cc sc : FVec Ideal PrepFRefIdeal.S2048x16 .f32) (b : Fin 2) (s : Fin 2048) (h : Fin 4) (d : Fin 64) :
    rotary4 y cr sr cc sc (ix4 b s h d) = rotated (fun k => y (ix4 b s h k)) (turn cr cc s) (turn sr sc s) d := by
  have yy : ∀ a b' : Fin 64, a.val = b'.val → y (ix4 b s h a) = y (ix4 b s h b') := fun a b' q => congrArg (fun z => y (ix4 b s h z)) (Fin.ext q)
  have tt : ∀ (T : FVec Ideal PrepFRefIdeal.S2048x16 .f32) (a b' : Fin 16), a.val = b'.val → T (ix2 s a) = T (ix2 s b') := fun T a b' q => congrArg (fun z => T (ix2 s z)) (Fin.ext q)
  have hd := d.isLt
  pointwise [rotary4, axis4]
  unfold rotated turn angle
  by_cases h1 : d.val < 32 <;> by_cases h2 : d.val % 32 < 16 <;> simp only [h1, h2, ↓reduceDIte, ↓reduceIte] <;> split_ifs <;> first
    | (exfalso; omega)
    | exact congrArg₂ (· - ·) (congrArg₂ (· * ·) (yy _ _ (by (try dsimp only) <;> omega)) (tt _ _ _ (by (try dsimp only) <;> omega))) (congrArg₂ (· * ·) (yy _ _ (by (try dsimp only) <;> omega)) (tt _ _ _ (by (try dsimp only) <;> omega)))
    | exact congrArg₂ (· + ·) (congrArg₂ (· * ·) (yy _ _ (by (try dsimp only) <;> omega)) (tt _ _ _ (by (try dsimp only) <;> omega))) (congrArg₂ (· * ·) (yy _ _ (by (try dsimp only) <;> omega)) (tt _ _ _ (by (try dsimp only) <;> omega)))
theorem flat4_apply (y : FVec Ideal PrepFRefIdeal.S2x2048x4x64 .f32) (b : Fin 2) (s : Fin 2048) (h : Fin 4) (d : Fin 64) :
    flat4 y (ix2 (row b s) (⟨h.val * 64 + d.val, by omega⟩ : Fin 256)) = y (ix4 b s h d) := by
  unfold row
  pointwise [flat4]

theorem normed2_apply (y : FVec Ideal PrepFRefIdeal.S2x2048x2x64 .f32) (g : FVec Ideal PrepFRefIdeal.S64 .f32) (b : Fin 2) (s : Fin 2048) (h : Fin 2) (d : Fin 64) :
    normed2 y g (ix4 b s h d) = headNorm (fun k => y (ix4 b s h k)) (fun k => g (ix1 k)) d := by
  pointwise [normed2]
  rw [ofBits_64, Ideal.div_coe (by norm_num)]
  rfl
theorem rotary2_apply (y : FVec Ideal PrepFRefIdeal.S2x2048x2x64 .f32) (cr sr cc sc : FVec Ideal PrepFRefIdeal.S2048x16 .f32) (b : Fin 2) (s : Fin 2048) (h : Fin 2) (d : Fin 64) :
    rotary2 y cr sr cc sc (ix4 b s h d) = rotated (fun k => y (ix4 b s h k)) (turn cr cc s) (turn sr sc s) d := by
  have yy : ∀ a b' : Fin 64, a.val = b'.val → y (ix4 b s h a) = y (ix4 b s h b') := fun a b' q => congrArg (fun z => y (ix4 b s h z)) (Fin.ext q)
  have tt : ∀ (T : FVec Ideal PrepFRefIdeal.S2048x16 .f32) (a b' : Fin 16), a.val = b'.val → T (ix2 s a) = T (ix2 s b') := fun T a b' q => congrArg (fun z => T (ix2 s z)) (Fin.ext q)
  have hd := d.isLt
  pointwise [rotary2, axis2]
  unfold rotated turn angle
  by_cases h1 : d.val < 32 <;> by_cases h2 : d.val % 32 < 16 <;> simp only [h1, h2, ↓reduceDIte, ↓reduceIte] <;> split_ifs <;> first
    | (exfalso; omega)
    | exact congrArg₂ (· - ·) (congrArg₂ (· * ·) (yy _ _ (by (try dsimp only) <;> omega)) (tt _ _ _ (by (try dsimp only) <;> omega))) (congrArg₂ (· * ·) (yy _ _ (by (try dsimp only) <;> omega)) (tt _ _ _ (by (try dsimp only) <;> omega)))
    | exact congrArg₂ (· + ·) (congrArg₂ (· * ·) (yy _ _ (by (try dsimp only) <;> omega)) (tt _ _ _ (by (try dsimp only) <;> omega))) (congrArg₂ (· * ·) (yy _ _ (by (try dsimp only) <;> omega)) (tt _ _ _ (by (try dsimp only) <;> omega)))
theorem flat2_apply (y : FVec Ideal PrepFRefIdeal.S2x2048x2x64 .f32) (b : Fin 2) (s : Fin 2048) (h : Fin 2) (d : Fin 64) :
    flat2 y (ix2 (row b s) (⟨h.val * 64 + d.val, by omega⟩ : Fin 128)) = y (ix4 b s h d) := by
  unfold row
  pointwise [flat2]

theorem normHeads4 (p : FVec Ideal S4096x2304 .f32) (g : FVec Ideal PrepFRefIdeal.S3x2x64 .f32) (o : ℕ) (hs) (a : Fin 3) (a' : Fin 2) (hg) (b : Fin 2) (s : Fin 2048) (h : Fin 4) (d : Fin 64) :
    normed4 (heads4 p o hs) (gains g a a' hg) (ix4 b s h d) = headNorm (head p (row b s) (o + h.val * 64)) (gain g a a') d := by
  have hb : o + 256 ≤ 2304 := hs.2 1
  have e : ∀ k : Fin 64, heads4 p o hs (ix4 b s h k) = head p (row b s) (o + h.val * 64) k := by
    intro k
    rw [← head_eq p (row b s) _ k ⟨o + (h.val * 64 + k.val), by omega⟩ (Nat.add_assoc _ _ _).symm]
    unfold row
    pointwise [heads4]
  have eg : ∀ k : Fin 64, gains g a a' hg (ix1 k) = gain g a a' k := by
    intro k
    unfold gain
    pointwise [gains]
  rw [normed4_apply]
  simp only [e, eg]

theorem normHeads2 (p : FVec Ideal S4096x2304 .f32) (g : FVec Ideal PrepFRefIdeal.S3x2x64 .f32) (o : ℕ) (hs) (a : Fin 3) (a' : Fin 2) (hg) (b : Fin 2) (s : Fin 2048) (h : Fin 2) (d : Fin 64) :
    normed2 (heads2 p o hs) (gains g a a' hg) (ix4 b s h d) = headNorm (head p (row b s) (o + h.val * 64)) (gain g a a') d := by
  have hb : o + 128 ≤ 2304 := hs.2 1
  have e : ∀ k : Fin 64, heads2 p o hs (ix4 b s h k) = head p (row b s) (o + h.val * 64) k := by
    intro k
    rw [← head_eq p (row b s) _ k ⟨o + (h.val * 64 + k.val), by omega⟩ (Nat.add_assoc _ _ _).symm]
    unfold row
    pointwise [heads2]
  have eg : ∀ k : Fin 64, gains g a a' hg (ix1 k) = gain g a a' k := by
    intro k
    unfold gain
    pointwise [gains]
  rw [normed2_apply]
  simp only [e, eg]

/-! ## The results by block of columns -/

variable (p : FVec Ideal S4096x2304 .f32) (g : FVec Ideal PrepFRefIdeal.S3x2x64 .f32) (cr sr cc sc : FVec Ideal PrepFRefIdeal.S2048x16 .f32)

theorem resA_q (b : Fin 2) (s : Fin 2048) (h : Fin 4) (d : Fin 64) (j : Fin 768) (hj : j.val = 0 + (h.val * 64 + d.val)) :
    resA p g (ix2 (row b s) j) = headNorm (head p (row b s) (0 + h.val * 64)) (gain g 0 0) d := by
  have hb : 0 + (h.val * 64 + d.val) < 768 := hj ▸ j.isLt
  obtain rfl : j = ⟨0 + (h.val * 64 + d.val), hb⟩ := Fin.ext hj
  have hd := d.isLt
  pointwise [resA]
  have q := (flat4_apply _ b s h d).trans (normHeads4 p g 0 PrepFRefIdeal.Gen.facts.slices_S4096x2304_S4096x256_0_0 0 0 PrepFRefIdeal.Gen.facts.slices_S3x2x64_S1x1x64_0_0_0 b s h d)
  simp only [Nat.zero_add] at q
  refine Eq.trans ?_ q
  split_ifs <;> first
    | (exfalso; omega)
    | exact congrArg (fun z => flat4 _ (ix2 (row b s) z)) (Fin.ext (by (try dsimp only) <;> omega))

theorem resA_k (b : Fin 2) (s : Fin 2048) (h : Fin 4) (d : Fin 64) (j : Fin 768) (hj : j.val = 256 + (h.val * 64 + d.val)) :
    resA p g (ix2 (row b s) j) = headNorm (head p (row b s) (256 + h.val * 64)) (gain g 0 1) d := by
  have hb : 256 + (h.val * 64 + d.val) < 768 := hj ▸ j.isLt
  obtain rfl : j = ⟨256 + (h.val * 64 + d.val), hb⟩ := Fin.ext hj
  have hd := d.isLt
  pointwise [resA]
  have q := (flat4_apply _ b s h d).trans (normHeads4 p g 256 PrepFRefIdeal.Gen.facts.slices_S4096x2304_S4096x256_0_256 0 1 PrepFRefIdeal.Gen.facts.slices_S3x2x64_S1x1x64_0_1_0 b s h d)
  refine Eq.trans ?_ q
  split_ifs <;> first
    | (exfalso; omega)
    | exact congrArg (fun z => flat4 _ (ix2 (row b s) z)) (Fin.ext (by (try dsimp only) <;> omega))

theorem resB_q (b : Fin 2) (s : Fin 2048) (h : Fin 4) (d : Fin 64) (j : Fin 1024) (hj : j.val = 0 + (h.val * 64 + d.val)) :
    resB p g cr sr cc sc (ix2 (row b s) j) = headNorm (head p (row b s) (768 + h.val * 64)) (gain g 1 0) d := by
  have hb : 0 + (h.val * 64 + d.val) < 1024 := hj ▸ j.isLt
  obtain rfl : j = ⟨0 + (h.val * 64 + d.val), hb⟩ := Fin.ext hj
  have hd := d.isLt
  pointwise [resB]
  have q := (flat4_apply _ b s h d).trans (normHeads4 p g 768 PrepFRefIdeal.Gen.facts.slices_S4096x2304_S4096x256_0_768 1 0 PrepFRefIdeal.Gen.facts.slices_S3x2x64_S1x1x64_1_0_0 b s h d)
  refine Eq.trans ?_ q
  split_ifs <;> first
    | (exfalso; omega)
    | exact congrArg (fun z => flat4 _ (ix2 (row b s) z)) (Fin.ext (by (try dsimp only) <;> omega))

theorem resB_k (b : Fin 2) (s : Fin 2048) (h : Fin 2) (d : Fin 64) (j : Fin 1024) (hj : j.val = 256 + (h.val * 64 + d.val)) :
    resB p g cr sr cc sc (ix2 (row b s) j) = headNorm (head p (row b s) (1024 + h.val * 64)) (gain g 1 1) d := by
  have hb : 256 + (h.val * 64 + d.val) < 1024 := hj ▸ j.isLt
  obtain rfl : j = ⟨256 + (h.val * 64 + d.val), hb⟩ := Fin.ext hj
  have hd := d.isLt
  pointwise [resB]
  have q := (flat2_apply _ b s h d).trans (normHeads2 p g 1024 PrepFRefIdeal.Gen.facts.slices_S4096x2304_S4096x128_0_1024 1 1 PrepFRefIdeal.Gen.facts.slices_S3x2x64_S1x1x64_1_1_0 b s h d)
  refine Eq.trans ?_ q
  split_ifs <;> first
    | (exfalso; omega)
    | exact congrArg (fun z => flat2 _ (ix2 (row b s) z)) (Fin.ext (by (try dsimp only) <;> omega))

theorem resD_q (b : Fin 2) (s : Fin 2048) (h : Fin 4) (d : Fin 64) (j : Fin 1024) (hj : j.val = 512 + (h.val * 64 + d.val)) :
    resB p g cr sr cc sc (ix2 (row b s) j) = rotated (headNorm (head p (row b s) (1792 + h.val * 64)) (gain g 2 0)) (turn cr cc s) (turn sr sc s) d := by
  have hb : 512 + (h.val * 64 + d.val) < 1024 := hj ▸ j.isLt
  obtain rfl : j = ⟨512 + (h.val * 64 + d.val), hb⟩ := Fin.ext hj
  have hd := d.isLt
  pointwise [resB]
  have q := (flat4_apply (rotary4 (normed4 (heads4 p 1792 PrepFRefIdeal.Gen.facts.slices_S4096x2304_S4096x256_0_1792) (gains g 2 0 PrepFRefIdeal.Gen.facts.slices_S3x2x64_S1x1x64_2_0_0)) cr sr cc sc) b s h d).trans (rotary4_apply _ _ _ _ _ b s h d)
  simp only [normHeads4] at q
  refine Eq.trans ?_ q
  split_ifs <;> first
    | (exfalso; omega)
    | exact congrArg (fun z => flat4 _ (ix2 (row b s) z)) (Fin.ext (by (try dsimp only) <;> omega))

theorem resD_k (b : Fin 2) (s : Fin 2048) (h : Fin 2) (d : Fin 64) (j : Fin 1024) (hj : j.val = 768 + (h.val * 64 + d.val)) :
    resB p g cr sr cc sc (ix2 (row b s) j) = rotated (headNorm (head p (row b s) (2048 + h.val * 64)) (gain g 2 1)) (turn cr cc s) (turn sr sc s) d := by
  have hb : 768 + (h.val * 64 + d.val) < 1024 := hj ▸ j.isLt
  obtain rfl : j = ⟨768 + (h.val * 64 + d.val), hb⟩ := Fin.ext hj
  have hd := d.isLt
  pointwise [resB]
  have q := (flat2_apply (rotary2 (normed2 (heads2 p 2048 PrepFRefIdeal.Gen.facts.slices_S4096x2304_S4096x128_0_2048) (gains g 2 1 PrepFRefIdeal.Gen.facts.slices_S3x2x64_S1x1x64_2_1_0)) cr sr cc sc) b s h d).trans (rotary2_apply _ _ _ _ _ b s h d)
  simp only [normHeads2] at q
  refine Eq.trans ?_ q
  split_ifs <;> first
    | (exfalso; omega)
    | exact congrArg (fun z => flat2 _ (ix2 (row b s) z)) (Fin.ext (by (try dsimp only) <;> omega))

theorem resA_v (b : Fin 2) (s : Fin 2048) (k : Fin 256) (j : Fin 768) (hj : j.val = 512 + k.val) (c : Fin 2304) (hc : c.val = 512 + k.val) :
    resA p g (ix2 (row b s) j) = p (ix2 (row b s) c) := by
  have hb : 512 + k.val < 768 := hj ▸ j.isLt
  obtain rfl : j = ⟨512 + k.val, hb⟩ := Fin.ext hj
  have hk := k.isLt
  pointwise [resA]
  split_ifs <;> first
    | (exfalso; omega)
    | exact congrArg (fun z => p (ix2 (row b s) z)) (Fin.ext (by (try dsimp only) <;> omega))

theorem resB_v (b : Fin 2) (s : Fin 2048) (k : Fin 128) (j : Fin 1024) (hj : j.val = 384 + k.val) (c : Fin 2304) (hc : c.val = 1152 + k.val) :
    resB p g cr sr cc sc (ix2 (row b s) j) = p (ix2 (row b s) c) := by
  have hb : 384 + k.val < 1024 := hj ▸ j.isLt
  obtain rfl : j = ⟨384 + k.val, hb⟩ := Fin.ext hj
  have hk := k.isLt
  pointwise [resB]
  split_ifs <;> first
    | (exfalso; omega)
    | exact congrArg (fun z => p (ix2 (row b s) z)) (Fin.ext (by (try dsimp only) <;> omega))

theorem resD_v (b : Fin 2) (s : Fin 2048) (k : Fin 128) (j : Fin 1024) (hj : j.val = 896 + k.val) (c : Fin 2304) (hc : c.val = 2176 + k.val) :
    resB p g cr sr cc sc (ix2 (row b s) j) = p (ix2 (row b s) c) := by
  have hb : 896 + k.val < 1024 := hj ▸ j.isLt
  obtain rfl : j = ⟨896 + k.val, hb⟩ := Fin.ext hj
  have hk := k.isLt
  pointwise [resB]
  split_ifs <;> first
    | (exfalso; omega)
    | exact congrArg (fun z => p (ix2 (row b s) z)) (Fin.ext (by (try dsimp only) <;> omega))

/-! ## What a point does for 128 columns -/

section Tile

variable (x : Vec Ideal S256x128 .f32) (w : Vec Ideal S1x128 .f32) (c s : Vec Ideal S256x128 .f32)

/-- Two heads without and with rotary positions. -/
def plain : FVec Ideal S256x128 .bf16 := k0_pay2 x w
def turned : FVec Ideal S256x128 .bf16 := k0_pay32 (k0_pay31 x w) c s

theorem plain1 : k0_pay5 x (k0_pay3 x) k0_pay4 (Scalar.ofBits .f32 0x00000000#32) w = plain x w := rfl
theorem plain2 : k0_pay10 x (k0_pay6 x) k0_pay7 (k0_pay8 x) (Scalar.ofBits .f32 0x00000000#32) k0_pay9 w = plain x w := rfl
theorem plain3 : k0_pay16 x k0_pay13 (k0_pay14 x) (k0_pay15 x) w = plain x w := rfl
theorem plain4 : k0_pay23 x k0_pay20 (k0_pay21 x) (k0_pay22 x) w = plain x w := rfl
theorem plain5 : k0_pay26 x (k0_pay24 x) (k0_pay25 (F := Ideal)) w = plain x w := rfl
theorem plain6 : k0_pay29 (k0_pay27 x) (k0_pay28 w) = plain x w := rfl
theorem turned1 : k0_pay41 (k0_pay36 x (k0_pay33 x) k0_pay34 (Scalar.ofBits .f32 0x00000000#32) k0_pay35 w)
    (k0_pay37 x (k0_pay33 x) k0_pay34 (Scalar.ofBits .f32 0x00000000#32) k0_pay35 w c) k0_pay38 k0_pay39 k0_pay40 s = turned x w c s := rfl
theorem turned2 : k0_pay43 x (k0_pay42 x) w c s = turned x w c s := rfl

/-- Lane `d` of the first or the second head of 128 columns. -/
def two (e : Fin 2) (d : Fin 64) : Fin 128 := ⟨e.val * 64 + d.val, by omega⟩

/-- The sum of the squares that a lane is given is that of its own head. -/
theorem squares (f : Fin 128 → EReal) (e : Fin 2) (d : Fin 64) :
    (if (two e d).val < 64 then ∑ z : Fin 128, (if z.val < 64 then f z else 0) else ∑ z : Fin 128, (if z.val < 64 then 0 else f z)) = ∑ k : Fin 64, f (two e k) := by
  have hd := d.isLt
  rw [first_sum, second_sum]
  match e with
  | 0 =>
    rw [if_pos (by show 0 * 64 + d.val < 64; omega)]
    exact Finset.sum_congr rfl fun k _ => congrArg f (Fin.ext (by show k.val = 0 * 64 + k.val; omega))
  | 1 =>
    rw [if_neg (by show ¬(1 * 64 + d.val < 64); omega)]
    exact Finset.sum_congr rfl fun k _ => congrArg f (Fin.ext (by show 64 + k.val = 1 * 64 + k.val; omega))

theorem plain_apply (i : Fin 256) (e : Fin 2) (d : Fin 64) :
    plain x w (ix2 i (two e d)) = headNorm (fun k => x (ix2 i (two e k))) (fun k => w (ix2 (0 : Fin 1) (two e k))) d := by
  pointwise [plain, k0_pay2]
  simp only [first_lanes _ (Fin.isLt _)]
  rw [squares (fun z => x (ix2 i z) * x (ix2 i z)), ofBits_64th]
  rfl

/-- The lane sixteen on for the first sixteen of every 32 lanes, the lane sixteen back for the others. -/
theorem partner (n : Fin 128) (a b : EReal) :
    Scalar.select
          (IntOp.cmpi CmpIPredicate.slt
            (Scalar.select
              (IntOp.andi
                (IntOp.xori
                  (IntOp.cmpi CmpIPredicate.slt
                    (IntOp.remsi ArithUnit.vector (BitVec.ofNat 32 n.val)
                      (Scalar.select (Scalar.cmpi CmpIPredicate.eq 32#32 0#32) 1#32 32#32))
                    0#32)
                  (Scalar.cmpi CmpIPredicate.slt (Scalar.select (Scalar.cmpi CmpIPredicate.eq 32#32 0#32) 1#32 32#32)
                    0#32))
                (IntOp.cmpi CmpIPredicate.ne
                  (IntOp.remsi ArithUnit.vector (BitVec.ofNat 32 n.val)
                    (Scalar.select (Scalar.cmpi CmpIPredicate.eq 32#32 0#32) 1#32 32#32))
                  0#32))
              (IntOp.addi
                (IntOp.remsi ArithUnit.vector (BitVec.ofNat 32 n.val)
                  (Scalar.select (Scalar.cmpi CmpIPredicate.eq 32#32 0#32) 1#32 32#32))
                (Scalar.select (Scalar.cmpi CmpIPredicate.eq 32#32 0#32) 1#32 32#32))
              (IntOp.remsi ArithUnit.vector (BitVec.ofNat 32 n.val)
                (Scalar.select (Scalar.cmpi CmpIPredicate.eq 32#32 0#32) 1#32 32#32)))
            16#32) a b = if n.val % 32 < 16 then a else b := by
  have e : ∀ n : Fin 128, (IntOp.cmpi CmpIPredicate.slt
            (Scalar.select
              (IntOp.andi
                (IntOp.xori
                  (IntOp.cmpi CmpIPredicate.slt
                    (IntOp.remsi ArithUnit.vector (BitVec.ofNat 32 n.val)
                      (Scalar.select (Scalar.cmpi CmpIPredicate.eq 32#32 0#32) 1#32 32#32))
                    0#32)
                  (Scalar.cmpi CmpIPredicate.slt (Scalar.select (Scalar.cmpi CmpIPredicate.eq 32#32 0#32) 1#32 32#32)
                    0#32))
                (IntOp.cmpi CmpIPredicate.ne
                  (IntOp.remsi ArithUnit.vector (BitVec.ofNat 32 n.val)
                    (Scalar.select (Scalar.cmpi CmpIPredicate.eq 32#32 0#32) 1#32 32#32))
                  0#32))
              (IntOp.addi
                (IntOp.remsi ArithUnit.vector (BitVec.ofNat 32 n.val)
                  (Scalar.select (Scalar.cmpi CmpIPredicate.eq 32#32 0#32) 1#32 32#32))
                (Scalar.select (Scalar.cmpi CmpIPredicate.eq 32#32 0#32) 1#32 32#32))
              (IntOp.remsi ArithUnit.vector (BitVec.ofNat 32 n.val)
                (Scalar.select (Scalar.cmpi CmpIPredicate.eq 32#32 0#32) 1#32 32#32)))
            16#32) = if n.val % 32 < 16 then 1#1 else 0#1 := by decide +kernel
  rw [e]
  by_cases hn : n.val % 32 < 16 <;> simp [hn, Scalar.select]

theorem turned_apply (i : Fin 256) (e : Fin 2) (d : Fin 64) (S : Fin 64 → EReal)
    (hs : ∀ k : Fin 64, s (ix2 i (two e k)) = if k.val % 32 < 16 then -(S k) else S k) :
    turned x w c s (ix2 i (two e d)) = rotated (headNorm (fun k => x (ix2 i (two e k))) (fun k => w (ix2 (0 : Fin 1) (two e k)))) (fun k => c (ix2 i (two e k))) S d := by
  have hd := d.isLt
  have he := e.isLt
  have n : ∀ k : Fin 64, k0_pay31 x w (ix2 i (two e k)) = headNorm (fun k => x (ix2 i (two e k))) (fun k => w (ix2 (0 : Fin 1) (two e k))) k := fun k => plain_apply x w i e k
  unfold turned
  generalize k0_pay31 x w = y at n
  pointwise [k0_pay32]
  have q : (two e d).val % 32 = d.val % 32 := by show (e.val * 64 + d.val) % 32 = _; omega
  rw [partner, q, hs, n]
  unfold rotated
  by_cases h : d.val % 32 < 16
  · rw [if_pos h, if_pos h, dif_pos h, mul_neg, ← n, ← n, sub_eq_add_neg]
    exact congrArg (fun z => y (ix2 i (two e d)) * c (ix2 i (two e d)) + -(y (ix2 i z) * S d)) (Fin.ext (by show (e.val * 64 + d.val + 128 - 112) % 128 = e.val * 64 + (d.val + 16); omega))
  · rw [if_neg h, if_neg h, dif_neg h, ← n, ← n]
    exact congrArg (fun z => y (ix2 i (two e d)) * c (ix2 i (two e d)) + y (ix2 i z) * S d) (Fin.ext (by show (e.val * 64 + d.val + 128 - 16) % 128 = e.val * 64 + (d.val - 16); omega))

end Tile

/-! ## The arguments and the windows -/

variable (m : (ℓ : Loc nD τ sig) → Buf (Elt Ideal) ℓ) (c : Dev nD)

abbrev P : Vec Ideal S4096x2304 .f32 := m ((c.tc : Thread nD τ).loc main_arg0)
abbrev G : Vec Ideal S3x2x64 .f32 := m ((c.tc : Thread nD τ).loc main_arg1)
abbrev CR : Vec Ideal S2048x16 .f32 := m ((c.tc : Thread nD τ).loc main_arg2)
abbrev SR : Vec Ideal S2048x16 .f32 := m ((c.tc : Thread nD τ).loc main_arg3)
abbrev CC : Vec Ideal S2048x16 .f32 := m ((c.tc : Thread nD τ).loc main_arg4)
abbrev SC : Vec Ideal S2048x16 .f32 := m ((c.tc : Thread nD τ).loc main_arg5)

theorem V_0 : (V m c main_arg0 : Vec Ideal S4096x2304 .f32) = P m c := by
  show StableHlo.after hostOps0 (fun b => m (c, b)) main_arg0 = _
  after_results_simp <;> rfl

/-- The table of 64 lanes twice over. -/
def doubled (a b a' b' : FVec Ideal S2048x16 .f32) : FVec Ideal S2048x128 .f32 :=
  concatenate S2048x128 1 [⟨S2048x64, concatenate S2048x64 1 [⟨S2048x16, a⟩, ⟨S2048x16, b⟩, ⟨S2048x16, a'⟩, ⟨S2048x16, b'⟩] Gen.facts.concatenates_S2048x16_S2048x16_S2048x16_S2048x16_S2048x64_d1⟩,
    ⟨S2048x64, concatenate S2048x64 1 [⟨S2048x16, a⟩, ⟨S2048x16, b⟩, ⟨S2048x16, a'⟩, ⟨S2048x16, b'⟩] Gen.facts.concatenates_S2048x16_S2048x16_S2048x16_S2048x16_S2048x64_d1⟩] Gen.facts.concatenates_S2048x64_S2048x64_S2048x128_d1

theorem doubled_apply (a b a' b' : FVec Ideal S2048x16 .f32) (s : Fin 2048) (e : Fin 2) (k : Fin 64) :
    doubled a b a' b' (ix2 s (two e k)) = if k.val % 32 < 16 then turn a a' s k else turn b b' s k := by
  have hk := k.isLt
  have he := e.isLt
  have tt : ∀ (T : FVec Ideal S2048x16 .f32) (a b : Fin 16), a.val = b.val → T (ix2 s a) = T (ix2 s b) := fun T a b q => congrArg (fun z => T (ix2 s z)) (Fin.ext q)
  unfold two turn angle
  pointwise [doubled]
  by_cases h1 : k.val < 32 <;> by_cases h2 : k.val % 32 < 16 <;> simp only [h1, h2, ↓reduceDIte, ↓reduceIte] <;> split_ifs <;> first
    | (exfalso; omega)
    | exact tt _ _ _ (by (try dsimp only) <;> omega)

theorem V_1 : (V m c main_v1 : Vec Ideal S2048x128 .f32) = doubled (CR m c) (CR m c) (CC m c) (CC m c) := by
  show StableHlo.after hostOps0 (fun b => m (c, b)) main_v1 = _
  after_results_simp <;> rfl
theorem V_5 : (V m c main_v5 : Vec Ideal S2048x128 .f32) = doubled (Host.negf (SR m c : FVec Ideal S2048x16 .f32)) (SR m c) (Host.negf (SC m c : FVec Ideal S2048x16 .f32)) (SC m c) := by
  show StableHlo.after hostOps0 (fun b => m (c, b)) main_v5 = _
  after_results_simp <;> rfl
theorem cos_apply (s : Fin 2048) (e : Fin 2) (k : Fin 64) : (V m c main_v1 : Vec Ideal S2048x128 .f32) (ix2 s (two e k)) = turn (CR m c) (CC m c) s k := by
  rw [V_1, doubled_apply, ite_self]
theorem sin_apply (s : Fin 2048) (e : Fin 2) (k : Fin 64) : (V m c main_v5 : Vec Ideal S2048x128 .f32) (ix2 s (two e k))
    = if k.val % 32 < 16 then -(turn (SR m c) (SC m c) s k) else turn (SR m c) (SC m c) s k := by
  rw [V_5, doubled_apply]
  refine if_congr Iff.rfl ?_ rfl
  unfold turn angle
  split_ifs <;> rfl

/-- A gain repeated for four heads and for two. -/
def four (g : FVec Ideal S3x2x64 .f32) (a : Fin 3) (b : Fin 2) (h : S3x2x64.Slices ![a.val, b.val, 0] S1x1x64) : FVec Ideal S256 .f32 :=
  shapeCast _ (broadcastInDim S4x64 ![0, 1] Gen.facts.bcast_S1x64_S4x64_0_1 (shapeCast _ (shapeCast _ (extractStridedSlice S1x1x64 ![a.val, b.val, 0] g h) Gen.facts.shapeCasts_S1x1x64_S64) Gen.facts.shapeCasts_S64_S1x64)) Gen.facts.shapeCasts_S4x64_S256
def pair (g : FVec Ideal S3x2x64 .f32) (a : Fin 3) (b : Fin 2) (h : S3x2x64.Slices ![a.val, b.val, 0] S1x1x64) : FVec Ideal S128 .f32 :=
  shapeCast _ (broadcastInDim S2x64 ![0, 1] Gen.facts.bcast_S1x64_S2x64_0_1 (shapeCast _ (shapeCast _ (extractStridedSlice S1x1x64 ![a.val, b.val, 0] g h) Gen.facts.shapeCasts_S1x1x64_S64) Gen.facts.shapeCasts_S64_S1x64)) Gen.facts.shapeCasts_S2x64_S128

theorem four_apply (g : FVec Ideal S3x2x64 .f32) (a : Fin 3) (b : Fin 2) (hs) (k : Fin 64) (j : Fin 256) (hj : j.val % 64 = k.val) :
    four g a b hs (ix1 j) = gain g a b k := by
  obtain ⟨h, hh⟩ : ∃ h : Fin 4, j.val = h.val * 64 + k.val := ⟨⟨j.val / 64, by omega⟩, by (try dsimp only) <;> omega⟩
  have hb : h.val * 64 + k.val < 256 := hh ▸ j.isLt
  obtain rfl : j = ⟨h.val * 64 + k.val, hb⟩ := Fin.ext hh
  unfold gain
  pointwise [four]
theorem pair_apply (g : FVec Ideal S3x2x64 .f32) (a : Fin 3) (b : Fin 2) (hs) (k : Fin 64) (j : Fin 128) (hj : j.val % 64 = k.val) :
    pair g a b hs (ix1 j) = gain g a b k := by
  obtain ⟨h, hh⟩ : ∃ h : Fin 2, j.val = h.val * 64 + k.val := ⟨⟨j.val / 64, by omega⟩, by (try dsimp only) <;> omega⟩
  have hb : h.val * 64 + k.val < 128 := hh ▸ j.isLt
  obtain rfl : j = ⟨h.val * 64 + k.val, hb⟩ := Fin.ext hh
  unfold gain
  pointwise [pair]

/-- The row of the gains of all columns; the columns that are copied have a one. -/
def gainRow (g : FVec Ideal S3x2x64 .f32) : FVec Ideal S1x1792 .f32 :=
  broadcastInDim S1x1792 ![1] Gen.facts.bcast_S1792_S1x1792_1 (concatenate S1792 0 [⟨S256, four g 0 0 Gen.facts.slices_S3x2x64_S1x1x64_0_0_0⟩,
    ⟨S256, four g 0 1 Gen.facts.slices_S3x2x64_S1x1x64_0_1_0⟩, ⟨S256, (broadcastInDim S256 ![] Gen.facts.bcast_S_S256 (constant S_ .f32 0x3F800000#32 : FVec Ideal S_ .f32) : FVec Ideal S256 .f32)⟩,
    ⟨S256, four g 1 0 Gen.facts.slices_S3x2x64_S1x1x64_1_0_0⟩, ⟨S128, pair g 1 1 Gen.facts.slices_S3x2x64_S1x1x64_1_1_0⟩, ⟨S128, (broadcastInDim S128 ![] Gen.facts.bcast_S_S128 (constant S_ .f32 0x3F800000#32 : FVec Ideal S_ .f32) : FVec Ideal S128 .f32)⟩,
    ⟨S256, four g 2 0 Gen.facts.slices_S3x2x64_S1x1x64_2_0_0⟩, ⟨S128, pair g 2 1 Gen.facts.slices_S3x2x64_S1x1x64_2_1_0⟩, ⟨S128, (broadcastInDim S128 ![] Gen.facts.bcast_S_S128 (constant S_ .f32 0x3F800000#32 : FVec Ideal S_ .f32) : FVec Ideal S128 .f32)⟩]
    Gen.facts.concatenates_S256_S256_S256_S256_S128_S128_S256_S128_S128_S1792_d0)

set_option maxHeartbeats 1000000 in
theorem V_40 : (V m c main_v40 : Vec Ideal S1x1792 .f32) = gainRow (G m c) := by
  show StableHlo.after hostOps0 (fun b => m (c, b)) main_v40 = _
  after_results_simp <;> rfl

/-- The gains by the columns of the row. -/
theorem gainRow_apply (g : FVec Ideal S3x2x64 .f32) (k : Fin 64) (j : Fin 1792) (hj : j.val % 64 = k.val) :
    (j.val < 256 → gainRow g (ix2 (0 : Fin 1) j) = gain g 0 0 k) ∧ (256 ≤ j.val ∧ j.val < 512 → gainRow g (ix2 (0 : Fin 1) j) = gain g 0 1 k)
    ∧ (768 ≤ j.val ∧ j.val < 1024 → gainRow g (ix2 (0 : Fin 1) j) = gain g 1 0 k) ∧ (1024 ≤ j.val ∧ j.val < 1152 → gainRow g (ix2 (0 : Fin 1) j) = gain g 1 1 k)
    ∧ (1280 ≤ j.val ∧ j.val < 1536 → gainRow g (ix2 (0 : Fin 1) j) = gain g 2 0 k) ∧ (1536 ≤ j.val ∧ j.val < 1664 → gainRow g (ix2 (0 : Fin 1) j) = gain g 2 1 k) := by
  have hk := k.isLt
  refine ⟨fun h => ?_, fun h => ?_, fun h => ?_, fun h => ?_, fun h => ?_, fun h => ?_⟩ <;> pointwise [gainRow]
  · rw [dif_pos (by omega)]
    exact four_apply g _ _ _ k _ (by (try dsimp only) <;> omega)
  · rw [dif_neg (by omega), dif_pos (by omega)]
    exact four_apply g _ _ _ k _ (by (try dsimp only) <;> omega)
  · rw [dif_neg (by omega), dif_neg (by omega), dif_neg (by omega), dif_pos (by omega)]
    exact four_apply g _ _ _ k _ (by (try dsimp only) <;> omega)
  · rw [dif_neg (by omega), dif_neg (by omega), dif_neg (by omega), dif_neg (by omega), dif_pos (by omega)]
    exact pair_apply g _ _ _ k _ (by (try dsimp only) <;> omega)
  · rw [dif_neg (by omega), dif_neg (by omega), dif_neg (by omega), dif_neg (by omega), dif_neg (by omega), dif_neg (by omega), dif_pos (by omega)]
    exact four_apply g _ _ _ k _ (by (try dsimp only) <;> omega)
  · rw [dif_neg (by omega), dif_neg (by omega), dif_neg (by omega), dif_neg (by omega), dif_neg (by omega), dif_neg (by omega), dif_neg (by omega), dif_pos (by omega)]
    exact pair_apply g _ _ _ k _ (by (try dsimp only) <;> omega)

theorem e0 : ∀ t : Fin cfg0.N, win0_0.index t = ![t.val, 0] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![t.val % 8, 0] := (by decide +kernel : ∀ t : Fin grid0.N, _)
theorem e3 : ∀ t : Fin cfg0.N, win0_3.index t = ![t.val % 8, 0] := (by decide +kernel : ∀ t : Fin grid0.N, _)
theorem e4 : ∀ t : Fin cfg0.N, win0_4.index t = ![t.val, 0] := (by decide +kernel : ∀ t : Fin grid0.N, _)
theorem e5 : ∀ t : Fin cfg0.N, win0_5.index t = ![t.val, 0] := (by decide +kernel : ∀ t : Fin grid0.N, _)

theorem pt_lt (t : Fin cfg0.N) : t.val < 16 := lt_of_lt_of_eq t.isLt N_0

/-- The sequence of point `t` and the position of its row `i`. -/
def sq (t : Fin cfg0.N) : Fin 2 := ⟨t.val / 8, by have := pt_lt t; omega⟩
def pos (t : Fin cfg0.N) (i : Fin 256) : Fin 2048 := ⟨t.val % 8 * 256 + i.val, by omega⟩

/-- The blocks of point `t`. -/
def b0 (t : Fin cfg0.N) : Vec Ideal S256x2304 .f32 := iblk m c 0 t
def b1 (t : Fin cfg0.N) : Vec Ideal S1x1792 .f32 := iblk m c 1 t
def b2 (t : Fin cfg0.N) : Vec Ideal S256x128 .f32 := iblk m c 2 t
def b3 (t : Fin cfg0.N) : Vec Ideal S256x128 .f32 := iblk m c 3 t

theorem b0_apply (t : Fin cfg0.N) (i : Fin 256) (j : Fin 2304) : b0 m c t (ix2 i j) = P m c (ix2 (row (sq t) (pos t i)) j) := by
  rw [← V_0]
  unfold b0
  blk_ext [iblk, e0, row, sq, pos]
theorem b1_apply (t : Fin cfg0.N) (j : Fin 1792) : b1 m c t (ix2 (0 : Fin 1) j) = gainRow (G m c) (ix2 (0 : Fin 1) j) := by
  rw [← V_40]
  unfold b1
  blk_ext [iblk, e1]
theorem b2_apply (t : Fin cfg0.N) (i : Fin 256) (e : Fin 2) (k : Fin 64) : b2 m c t (ix2 i (two e k)) = turn (CR m c) (CC m c) (pos t i) k := by
  rw [← cos_apply m c (pos t i) e k]
  unfold b2
  blk_ext [iblk, e2, pos]
theorem b3_apply (t : Fin cfg0.N) (i : Fin 256) (e : Fin 2) (k : Fin 64) :
    b3 m c t (ix2 i (two e k)) = if k.val % 32 < 16 then -(turn (SR m c) (SC m c) (pos t i) k) else turn (SR m c) (SC m c) (pos t i) k := by
  rw [← sin_apply m c (pos t i) e k]
  unfold b3
  blk_ext [iblk, e3, pos]

/-! ## A point's stores -/

/-- The loads: 128 columns of the block, 128 gains, a whole table. -/
def cols (x : Vec Ideal S256x2304 .f32) (o : ℕ) (inb : ∀ a, (![0, o] : Fin 2 → ℕ) a + S256x128.size a ≤ S256x2304.size a) : Vec Ideal S256x128 .f32 :=
  View.ld x (Rect.unit ![0, o] S256x128.size inb)
def gcols (x : Vec Ideal S1x1792 .f32) (o : ℕ) (inb : ∀ a, (![0, o] : Fin 2 → ℕ) a + S1x128.size a ≤ S1x1792.size a) : Vec Ideal S1x128 .f32 :=
  View.ld x (Rect.unit ![0, o] S1x128.size inb)
def table (x : Vec Ideal S256x128 .f32) (inb : ∀ a, (![0, 0] : Fin 2 → ℕ) a + S256x128.size a ≤ S256x128.size a) : Vec Ideal S256x128 .f32 :=
  View.ld x (Rect.unit ![0, 0] S256x128.size inb)

theorem cols_apply (x : Vec Ideal S256x2304 .f32) (o : ℕ) (inb) (i : Fin 256) (j : Fin 128) (k : Fin 2304) (h : k.val = o + j.val) : cols x o inb (ix2 i j) = x (ix2 i k) := by
  refine View.ld_unit_apply_of x _ _ _ _ _ fun a => ?_
  match a with
  | ⟨0, _⟩ => exact (Nat.zero_add _).symm
  | ⟨1, _⟩ => exact h
theorem gcols_apply (x : Vec Ideal S1x1792 .f32) (o : ℕ) (inb) (j : Fin 128) (k : Fin 1792) (h : k.val = o + j.val) : gcols x o inb (ix2 (0 : Fin 1) j) = x (ix2 (0 : Fin 1) k) := by
  refine View.ld_unit_apply_of x _ _ _ _ _ fun a => ?_
  match a with
  | ⟨0, _⟩ => exact (Nat.zero_add _).symm
  | ⟨1, _⟩ => exact h
theorem table_apply (x : Vec Ideal S256x128 .f32) (inb) (i : Fin 256) (j : Fin 128) : table x inb (ix2 i j) = x (ix2 i j) := by
  refine View.ld_unit_apply_of x _ _ _ _ _ fun a => ?_
  match a with
  | ⟨0, _⟩ => exact (Nat.zero_add _).symm
  | ⟨1, _⟩ => exact (Nat.zero_add _).symm

variable (t : Fin cfg0.N) (i : Fin 256) (e : Fin 2) (d : Fin 64)

theorem cols_head (o : ℕ) (inb) (k : Fin 64) : cols (b0 m c t) o inb (ix2 i (two e k)) = head (P m c) (row (sq t) (pos t i)) (o + e.val * 64) k := by
  have hb : o + 128 ≤ 2304 := inb 1
  have q : o + (two e k).val = o + e.val * 64 + k.val := (Nat.add_assoc _ _ _).symm
  have hk := (two e k).isLt
  rw [cols_apply _ o inb i (two e k) ⟨o + (two e k).val, by omega⟩ rfl, b0_apply]
  exact head_eq _ _ _ _ _ q

/-- The gains that a tile reads are those of the norm `a`, `b`. -/
def Gains (o : ℕ) (e : Fin 2) (a : Fin 3) (b : Fin 2) : Prop := ∀ (k : Fin 64) (j : Fin 1792), j.val = o + (e.val * 64 + k.val) → gainRow (G m c) (ix2 (0 : Fin 1) j) = gain (G m c) a b k

theorem gcols_gain {o : ℕ} {a : Fin 3} {b : Fin 2} (hg : Gains m c o e a b) (inb) (k : Fin 64) : gcols (b1 m c t) o inb (ix2 (0 : Fin 1) (two e k)) = gain (G m c) a b k := by
  have hb : o + 128 ≤ 1792 := inb 1
  have hk := (two e k).isLt
  rw [gcols_apply _ o inb (two e k) ⟨o + (two e k).val, by omega⟩ rfl, b1_apply]
  exact hg k _ rfl

theorem plain_tile {o' : ℕ} {a : Fin 3} {b : Fin 2} (hg : Gains m c o' e a b) (o : ℕ) (inb inb') :
    plain (cols (b0 m c t) o inb) (gcols (b1 m c t) o' inb') (ix2 i (two e d)) = headNorm (head (P m c) (row (sq t) (pos t i)) (o + e.val * 64)) (gain (G m c) a b) d := by
  rw [plain_apply]
  simp only [cols_head, gcols_gain m c t e hg]

theorem turned_tile {o' : ℕ} {a : Fin 3} {b : Fin 2} (hg : Gains m c o' e a b) (o : ℕ) (inb inb' i2 i3) :
    turned (cols (b0 m c t) o inb) (gcols (b1 m c t) o' inb') (table (b2 m c t) i2) (table (b3 m c t) i3) (ix2 i (two e d))
    = rotated (headNorm (head (P m c) (row (sq t) (pos t i)) (o + e.val * 64)) (gain (G m c) a b)) (turn (CR m c) (CC m c) (pos t i)) (turn (SR m c) (SC m c) (pos t i)) d := by
  rw [turned_apply _ _ _ _ i e d (turn (SR m c) (SC m c) (pos t i)) fun k => (table_apply _ _ _ _).trans (b3_apply m c t i e k)]
  simp only [cols_head, gcols_gain m c t e hg, table_apply, b2_apply]

theorem tile_eq {N : ℕ} (i : Fin 256) (j : Fin N) (o : ℕ) (x : S256x128.Idx) (h0 : i.val = (x 0).val) (h1 : j.val = o + (x 1).val) :
    ∃ (e : Fin 2) (d : Fin 64), x = ix2 i (two e d) ∧ j.val = o + (e.val * 64 + d.val) := by
  have hx : (x 1).val < 128 := (x 1).isLt
  refine ⟨⟨(x 1).val / 64, by omega⟩, ⟨(x 1).val % 64, by omega⟩, ?_, by (try dsimp only) <;> omega⟩
  exact (eq_ix2 x).trans (congrArg₂ ix2 (Fin.ext h0.symm) (Fin.ext (by show (x 1).val = (x 1).val / 64 * 64 + (x 1).val % 64; omega)))

/-- The copied columns. -/
theorem copied_tile (o : ℕ) (inb) (k : Fin 2304) (hk : k.val = o + (e.val * 64 + d.val)) :
    cols (b0 m c t) o inb (ix2 i (two e d)) = P m c (ix2 (row (sq t) (pos t i)) k) :=
  (cols_apply _ o inb i (two e d) k hk).trans (b0_apply m c t i k)

theorem outA (j : Fin 768) : out0_4 (b0 m c t) (b1 m c t) (b2 m c t) (b3 m c t) (ix2 i j) = resA (P m c) (G m c) (ix2 (row (sq t) (pos t i)) j) := by
  unfold_out out0_4
  canon_tiles x h
  · obtain ⟨e, d, rfl, hj⟩ := tile_eq i j 640 x h0 h1
    have he := e.isLt
    have hd := d.isLt
    exact (copied_tile m c t i e d 640 _ ⟨640 + (e.val * 64 + d.val), by omega⟩ rfl).trans (resA_v (P m c) (G m c) (sq t) (pos t i) ⟨128 + (e.val * 64 + d.val), by omega⟩ j (by (try dsimp only) <;> omega) _ (by (try dsimp only) <;> omega)).symm
  · obtain ⟨e, d, rfl, hj⟩ := tile_eq i j 512 x h0 h1
    have he := e.isLt
    have hd := d.isLt
    exact (copied_tile m c t i e d 512 _ ⟨512 + (e.val * 64 + d.val), by omega⟩ rfl).trans (resA_v (P m c) (G m c) (sq t) (pos t i) ⟨0 + (e.val * 64 + d.val), by omega⟩ j (by (try dsimp only) <;> omega) _ (by (try dsimp only) <;> omega)).symm
  · obtain ⟨e, d, rfl, hj⟩ := tile_eq i j 384 x h0 h1
    have he := e.isLt
    have hd := d.isLt
    have g : Gains m c 384 e 0 1 := fun k q hq => (gainRow_apply _ k q (by omega)).2.1 (by omega)
    refine (congrFun (plain3 _ _) _).trans ((plain_tile m c t i e d g 384 _ _).trans ((resA_k (P m c) (G m c) (sq t) (pos t i) ⟨2 + e.val, by omega⟩ d j (by (try dsimp only) <;> omega)).trans ?_).symm)
    exact congrArg (fun o => headNorm (head (P m c) (row (sq t) (pos t i)) o) (gain (G m c) 0 1) d) (by (try dsimp only) <;> omega)
  · obtain ⟨e, d, rfl, hj⟩ := tile_eq i j 256 x h0 h1
    have he := e.isLt
    have hd := d.isLt
    have g : Gains m c 256 e 0 1 := fun k q hq => (gainRow_apply _ k q (by omega)).2.1 (by omega)
    refine (congrFun (plain2 _ _) _).trans ((plain_tile m c t i e d g 256 _ _).trans ((resA_k (P m c) (G m c) (sq t) (pos t i) ⟨e.val, by omega⟩ d j (by (try dsimp only) <;> omega)).trans ?_).symm)
    exact congrArg (fun o => headNorm (head (P m c) (row (sq t) (pos t i)) o) (gain (G m c) 0 1) d) (by (try dsimp only) <;> omega)
  · obtain ⟨e, d, rfl, hj⟩ := tile_eq i j 128 x h0 h1
    have he := e.isLt
    have hd := d.isLt
    have g : Gains m c 128 e 0 0 := fun k q hq => (gainRow_apply _ k q (by omega)).1 (by omega)
    refine (congrFun (plain1 _ _) _).trans ((plain_tile m c t i e d g 128 _ _).trans ((resA_q (P m c) (G m c) (sq t) (pos t i) ⟨2 + e.val, by omega⟩ d j (by (try dsimp only) <;> omega)).trans ?_).symm)
    exact congrArg (fun o => headNorm (head (P m c) (row (sq t) (pos t i)) o) (gain (G m c) 0 0) d) (by (try dsimp only) <;> omega)
  · obtain ⟨e, d, rfl, hj⟩ := tile_eq i j 0 x h0 (h1.trans (Nat.zero_add _).symm)
    have he := e.isLt
    have hd := d.isLt
    have g : Gains m c 0 e 0 0 := fun k q hq => (gainRow_apply _ k q (by omega)).1 (by omega)
    refine (plain_tile m c t i e d g 0 _ _).trans ((resA_q (P m c) (G m c) (sq t) (pos t i) ⟨e.val, by omega⟩ d j (by (try dsimp only) <;> omega)).trans ?_).symm
    exact congrArg (fun o => headNorm (head (P m c) (row (sq t) (pos t i)) o) (gain (G m c) 0 0) d) (by (try dsimp only) <;> omega)

theorem outB (j : Fin 1024) : out0_5 (b0 m c t) (b1 m c t) (b2 m c t) (b3 m c t) (ix2 i j)
    = resB (P m c) (G m c) (CR m c) (SR m c) (CC m c) (SC m c) (ix2 (row (sq t) (pos t i)) j) := by
  unfold_out out0_5
  canon_tiles x h
  · obtain ⟨e, d, rfl, hj⟩ := tile_eq i j 896 x h0 h1
    have he := e.isLt
    have hd := d.isLt
    exact (copied_tile m c t i e d 2176 _ ⟨2176 + (e.val * 64 + d.val), by omega⟩ rfl).trans (resD_v (P m c) (G m c) (CR m c) (SR m c) (CC m c) (SC m c) (sq t) (pos t i) ⟨0 + (e.val * 64 + d.val), by omega⟩ j (by (try dsimp only) <;> omega) _ (by (try dsimp only) <;> omega)).symm
  · obtain ⟨e, d, rfl, hj⟩ := tile_eq i j 768 x h0 h1
    have he := e.isLt
    have hd := d.isLt
    have g : Gains m c 1536 e 2 1 := fun k q hq => (gainRow_apply _ k q (by omega)).2.2.2.2.2 (by omega)
    refine (congrFun (turned2 _ _ _ _) _).trans ((turned_tile m c t i e d g 2048 _ _ _ _).trans ((resD_k (P m c) (G m c) (CR m c) (SR m c) (CC m c) (SC m c) (sq t) (pos t i) e d j (by (try dsimp only) <;> omega)).trans ?_).symm)
    exact congrArg (fun o => rotated (headNorm (head (P m c) (row (sq t) (pos t i)) o) (gain (G m c) 2 1)) (turn (CR m c) (CC m c) (pos t i)) (turn (SR m c) (SC m c) (pos t i)) d) (by (try dsimp only) <;> omega)
  · obtain ⟨e, d, rfl, hj⟩ := tile_eq i j 640 x h0 h1
    have he := e.isLt
    have hd := d.isLt
    have g : Gains m c 1408 e 2 0 := fun k q hq => (gainRow_apply _ k q (by omega)).2.2.2.2.1 (by omega)
    refine (congrFun (turned1 _ _ _ _) _).trans ((turned_tile m c t i e d g 1920 _ _ _ _).trans ((resD_q (P m c) (G m c) (CR m c) (SR m c) (CC m c) (SC m c) (sq t) (pos t i) ⟨2 + e.val, by omega⟩ d j (by (try dsimp only) <;> omega)).trans ?_).symm)
    exact congrArg (fun o => rotated (headNorm (head (P m c) (row (sq t) (pos t i)) o) (gain (G m c) 2 0)) (turn (CR m c) (CC m c) (pos t i)) (turn (SR m c) (SC m c) (pos t i)) d) (by (try dsimp only) <;> omega)
  · obtain ⟨e, d, rfl, hj⟩ := tile_eq i j 512 x h0 h1
    have he := e.isLt
    have hd := d.isLt
    have g : Gains m c 1280 e 2 0 := fun k q hq => (gainRow_apply _ k q (by omega)).2.2.2.2.1 (by omega)
    refine (turned_tile m c t i e d g 1792 _ _ _ _).trans ((resD_q (P m c) (G m c) (CR m c) (SR m c) (CC m c) (SC m c) (sq t) (pos t i) ⟨e.val, by omega⟩ d j (by (try dsimp only) <;> omega)).trans ?_).symm
    exact congrArg (fun o => rotated (headNorm (head (P m c) (row (sq t) (pos t i)) o) (gain (G m c) 2 0)) (turn (CR m c) (CC m c) (pos t i)) (turn (SR m c) (SC m c) (pos t i)) d) (by (try dsimp only) <;> omega)
  · obtain ⟨e, d, rfl, hj⟩ := tile_eq i j 384 x h0 h1
    have he := e.isLt
    have hd := d.isLt
    exact (copied_tile m c t i e d 1152 _ ⟨1152 + (e.val * 64 + d.val), by omega⟩ rfl).trans (resB_v (P m c) (G m c) (CR m c) (SR m c) (CC m c) (SC m c) (sq t) (pos t i) ⟨0 + (e.val * 64 + d.val), by omega⟩ j (by (try dsimp only) <;> omega) _ (by (try dsimp only) <;> omega)).symm
  · obtain ⟨e, d, rfl, hj⟩ := tile_eq i j 256 x h0 h1
    have he := e.isLt
    have hd := d.isLt
    have g : Gains m c 1024 e 1 1 := fun k q hq => (gainRow_apply _ k q (by omega)).2.2.2.1 (by omega)
    refine (congrFun (plain6 _ _) _).trans ((plain_tile m c t i e d g 1024 _ _).trans ((resB_k (P m c) (G m c) (CR m c) (SR m c) (CC m c) (SC m c) (sq t) (pos t i) e d j (by (try dsimp only) <;> omega)).trans ?_).symm)
    exact congrArg (fun o => headNorm (head (P m c) (row (sq t) (pos t i)) o) (gain (G m c) 1 1) d) (by (try dsimp only) <;> omega)
  · obtain ⟨e, d, rfl, hj⟩ := tile_eq i j 128 x h0 h1
    have he := e.isLt
    have hd := d.isLt
    have g : Gains m c 896 e 1 0 := fun k q hq => (gainRow_apply _ k q (by omega)).2.2.1 (by omega)
    refine (congrFun (plain5 _ _) _).trans ((plain_tile m c t i e d g 896 _ _).trans ((resB_q (P m c) (G m c) (CR m c) (SR m c) (CC m c) (SC m c) (sq t) (pos t i) ⟨2 + e.val, by omega⟩ d j (by (try dsimp only) <;> omega)).trans ?_).symm)
    exact congrArg (fun o => headNorm (head (P m c) (row (sq t) (pos t i)) o) (gain (G m c) 1 0) d) (by (try dsimp only) <;> omega)
  · obtain ⟨e, d, rfl, hj⟩ := tile_eq i j 0 x h0 (h1.trans (Nat.zero_add _).symm)
    have he := e.isLt
    have hd := d.isLt
    have g : Gains m c 768 e 1 0 := fun k q hq => (gainRow_apply _ k q (by omega)).2.2.1 (by omega)
    refine (congrFun (plain4 _ _) _).trans ((plain_tile m c t i e d g 768 _ _).trans ((resB_q (P m c) (G m c) (CR m c) (SR m c) (CC m c) (SC m c) (sq t) (pos t i) ⟨e.val, by omega⟩ d j (by (try dsimp only) <;> omega)).trans ?_).symm)
    exact congrArg (fun o => headNorm (head (P m c) (row (sq t) (pos t i)) o) (gain (G m c) 1 0) d) (by (try dsimp only) <;> omega)

/-! ## The results -/

theorem finalA : (dats m 0 c).arrAt 4 cfg0.N = resA (P m c) (G m c) := by
  refine (dats m 0 c).arrAt_eq_of_covers 4 _ (by decide +kernel) fun t hf y => ?_
  blk_simp
  rw [after0_4]
  obtain ⟨i, j, rfl⟩ : ∃ (i : Fin 256) (j : Fin 768), y = ix2 i j := ⟨y 0, y 1, eq_ix2 y⟩
  refine (outA m c t i j).trans ?_
  blk_ext [e4, row, sq, pos]
theorem finalB : (dats m 0 c).arrAt 5 cfg0.N = resB (P m c) (G m c) (CR m c) (SR m c) (CC m c) (SC m c) := by
  refine (dats m 0 c).arrAt_eq_of_covers 5 _ (by decide +kernel) fun t hf y => ?_
  blk_simp
  rw [after0_5]
  obtain ⟨i, j, rfl⟩ : ∃ (i : Fin 256) (j : Fin 1024), y = ix2 i j := ⟨y 0, y 1, eq_ix2 y⟩
  refine (outB m c t i j).trans ?_
  blk_ext [e5, row, sq, pos]

/-! ## The claim -/

theorem ref_run (m' : (ℓ : Loc PrepFRefIdeal.nD PrepFRefIdeal.τ PrepFRefIdeal.sig) → Buf (Elt Ideal) ℓ) (g : Dev PrepFRefIdeal.nD → PrngReg) :
    θ_run (PrepFRefIdeal.defs (F := Ideal)) (onTc (τ := PrepFRefIdeal.τ) (PrepFRefIdeal.main (F := Ideal))) ⟨m', fun _ => 0, g⟩ fun r => ∀ c : Dev PrepFRefIdeal.nD,
      r.2.mem ((c.tc : Thread PrepFRefIdeal.nD PrepFRefIdeal.τ).loc PrepFRefIdeal.main_v195) = resA (m' (c.tc.loc PrepFRefIdeal.main_arg0)) (m' (c.tc.loc PrepFRefIdeal.main_arg1))
      ∧ r.2.mem ((c.tc : Thread PrepFRefIdeal.nD PrepFRefIdeal.τ).loc PrepFRefIdeal.main_v196) = resB (m' (c.tc.loc PrepFRefIdeal.main_arg0)) (m' (c.tc.loc PrepFRefIdeal.main_arg1)) (m' (c.tc.loc PrepFRefIdeal.main_arg2)) (m' (c.tc.loc PrepFRefIdeal.main_arg3)) (m' (c.tc.loc PrepFRefIdeal.main_arg4)) (m' (c.tc.loc PrepFRefIdeal.main_arg5))
      ∧ r.2.mem ((c.tc : Thread PrepFRefIdeal.nD PrepFRefIdeal.τ).loc PrepFRefIdeal.main_arg0) = m' ((c.tc : Thread PrepFRefIdeal.nD PrepFRefIdeal.τ).loc PrepFRefIdeal.main_arg0)
      ∧ r.2.mem ((c.tc : Thread PrepFRefIdeal.nD PrepFRefIdeal.τ).loc PrepFRefIdeal.main_arg1) = m' ((c.tc : Thread PrepFRefIdeal.nD PrepFRefIdeal.τ).loc PrepFRefIdeal.main_arg1)
      ∧ r.2.mem ((c.tc : Thread PrepFRefIdeal.nD PrepFRefIdeal.τ).loc PrepFRefIdeal.main_arg2) = m' ((c.tc : Thread PrepFRefIdeal.nD PrepFRefIdeal.τ).loc PrepFRefIdeal.main_arg2)
      ∧ r.2.mem ((c.tc : Thread PrepFRefIdeal.nD PrepFRefIdeal.τ).loc PrepFRefIdeal.main_arg3) = m' ((c.tc : Thread PrepFRefIdeal.nD PrepFRefIdeal.τ).loc PrepFRefIdeal.main_arg3)
      ∧ r.2.mem ((c.tc : Thread PrepFRefIdeal.nD PrepFRefIdeal.τ).loc PrepFRefIdeal.main_arg4) = m' ((c.tc : Thread PrepFRefIdeal.nD PrepFRefIdeal.τ).loc PrepFRefIdeal.main_arg4)
      ∧ r.2.mem ((c.tc : Thread PrepFRefIdeal.nD PrepFRefIdeal.τ).loc PrepFRefIdeal.main_arg5) = m' ((c.tc : Thread PrepFRefIdeal.nD PrepFRefIdeal.τ).loc PrepFRefIdeal.main_arg5) :=
  PrepFRefIdeal.Value.run m' g

theorem algebraic : @algebraic_PrepFIdeal_PrepFRefIdeal Cert.PrepFIdeal.Gen.facts Cert.PrepFRefIdeal.Gen.facts := by
  intro m ρ m' ρ' _ hagree
  refine ⟨fun c => resA (m' (c.tc.loc PrepFRefIdeal.main_arg0)) (m' (c.tc.loc PrepFRefIdeal.main_arg1)), fun c => resB (m' (c.tc.loc PrepFRefIdeal.main_arg0)) (m' (c.tc.loc PrepFRefIdeal.main_arg1)) (m' (c.tc.loc PrepFRefIdeal.main_arg2)) (m' (c.tc.loc PrepFRefIdeal.main_arg3)) (m' (c.tc.loc PrepFRefIdeal.main_arg4)) (m' (c.tc.loc PrepFRefIdeal.main_arg5)), ?_, ref_run m' ρ'⟩
  refine (θ_run Cert.PrepFIdeal.defs _ _).mono (fun r h c => ?_) (Value.run_blocks m ρ)
  obtain ⟨h4, h5, k⟩ := h c
  obtain ⟨a0, a1, a2, a3, a4, a5⟩ := hagree c
  beta_reduce
  rw [a0, a1, a2, a3, a4, a5]
  exact ⟨h4.trans (finalA m c), h5.trans (finalB m c), k⟩

end Cert.HeadNorms

end
-- ==== Proof.RefRun.lean ====
/- The reference's results are its stages. -/
module

public import proofs.«01_k».proof.Proof.Gen.ReferenceIdeal.Run
public import proofs.«01_k».proof.Proof.RefStages

@[expose] public section

set_option maxRecDepth 16384

noncomputable section

namespace Cert.Dense

open Idealize.ShloMosaic Idealize.ShloMosaic.TcCoe Idealize.SL.Sem Cert.ReferenceIdeal Cert.ReferenceIdeal.Gen

theorem res_dQ (m : (ℓ : Loc nD τ sig) → Buf (Elt Ideal) ℓ) (c : Dev nD) :
    Cert.ReferenceIdeal.Value.res_out0 m c
      = gradQ (dscores (dprobs (m ((c.tc : Thread nD τ).loc main_arg3)) (m ((c.tc : Thread nD τ).loc main_arg2)))
          (wts (m ((c.tc : Thread nD τ).loc main_arg0)) (m ((c.tc : Thread nD τ).loc main_arg1)))) (m ((c.tc : Thread nD τ).loc main_arg1)) := by
  show Cert.ReferenceIdeal.Value.res_main_v61 m c = _
  unfold Cert.ReferenceIdeal.Value.res_main_v61
  rfl

theorem res_dK (m : (ℓ : Loc nD τ sig) → Buf (Elt Ideal) ℓ) (c : Dev nD) :
    Cert.ReferenceIdeal.Value.res_out1 m c
      = gradK (dscores (dprobs (m ((c.tc : Thread nD τ).loc main_arg3)) (m ((c.tc : Thread nD τ).loc main_arg2)))
          (wts (m ((c.tc : Thread nD τ).loc main_arg0)) (m ((c.tc : Thread nD τ).loc main_arg1)))) (m ((c.tc : Thread nD τ).loc main_arg0)) := by
  show Cert.ReferenceIdeal.Value.res_main_v62 m c = _
  unfold Cert.ReferenceIdeal.Value.res_main_v62
  rfl

/-- Every run of the reference ends with the stages of its arguments, the arguments unchanged. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v61)
        = gradQ (dscores (dprobs (m ((c.tc : Thread nD τ).loc main_arg3)) (m ((c.tc : Thread nD τ).loc main_arg2)))
          (wts (m ((c.tc : Thread nD τ).loc main_arg0)) (m ((c.tc : Thread nD τ).loc main_arg1)))) (m ((c.tc : Thread nD τ).loc main_arg1))
      ∧ r.2.mem ((c.tc : Thread nD τ).loc main_v62)
        = gradK (dscores (dprobs (m ((c.tc : Thread nD τ).loc main_arg3)) (m ((c.tc : Thread nD τ).loc main_arg2)))
          (wts (m ((c.tc : Thread nD τ).loc main_arg0)) (m ((c.tc : Thread nD τ).loc main_arg1)))) (m ((c.tc : Thread nD τ).loc main_arg0))
      ∧ r.2.mem ((c.tc : Thread nD τ).loc main_v63)
        = gradV (probs (wts (m ((c.tc : Thread nD τ).loc main_arg0)) (m ((c.tc : Thread nD τ).loc main_arg1))))
          (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (res_dQ m c), (h c).2.1.trans (res_dK m c), (h c).2.2.1.trans rfl, (h c).2.2.2⟩)
    (Cert.ReferenceIdeal.Value.run m ρ)

end Cert.Dense

end
-- ==== Proof.Points.lean ====
module

public import proofs.«01_k».proof.Proof.HostStages
public import proofs.«01_k».proof.Proof.Tile

/-!
# The grid's points

Point `t` works on batch `t / 16` and on the 128 query rows from `(t % 16) * 128` on. Here the blocks it reads become
entries of the prepared arrays, its weights and score gradients become those of the attention, and the blocks of dk and
dv are followed through the sixteen points of a batch.
-/

@[expose] public section

set_option maxRecDepth 16384

noncomputable section

namespace Cert.Dense

open scoped BigOperators
open Idealize.ShloMosaic Idealize.ShloMosaic.TcCoe Cert.KernelIdeal Cert.KernelIdeal.Gen

theorem pt_lt (t : Fin cfg0.N) : t.val < 32 := lt_of_lt_of_eq t.isLt N_0

/-- A point's batch and its place among the batch's points. -/
def bat (t : Fin cfg0.N) : Fin 2 := ⟨t.val / 16, by have := pt_lt t; omega⟩
def til (t : Fin cfg0.N) : Fin 16 := ⟨t.val % 16, by omega⟩
/-- Row `i` of the `T`-th block of rows. -/
def at' (T : Fin 16) (i : Fin 128) : Fin 2048 := ⟨T.val * 128 + i.val, by omega⟩

variable (m : (ℓ : Loc nD τ sig) → Buf (Elt Ideal) ℓ) (c : Dev nD)

theorem idx0 : ∀ t : Fin cfg0.N, win0_0.index t 0 = t.val / 16 ∧ win0_0.index t 1 = t.val % 16 ∧ win0_0.index t 2 = 2 :=
  (by decide +kernel : ∀ t : Fin grid0.N, win0_0.index t 0 = t.val / 16 ∧ win0_0.index t 1 = t.val % 16 ∧ win0_0.index t 2 = 2)
theorem idx1 : ∀ t : Fin cfg0.N, win0_1.index t 0 = t.val / 16 ∧ win0_1.index t 1 = 0 ∧ win0_1.index t 2 = 6 :=
  (by decide +kernel : ∀ t : Fin grid0.N, win0_1.index t 0 = t.val / 16 ∧ win0_1.index t 1 = 0 ∧ win0_1.index t 2 = 6)
theorem idx2 : ∀ t : Fin cfg0.N, win0_2.index t 0 = t.val / 16 ∧ win0_2.index t 1 = 0 ∧ win0_2.index t 2 = 7 :=
  (by decide +kernel : ∀ t : Fin grid0.N, win0_2.index t 0 = t.val / 16 ∧ win0_2.index t 1 = 0 ∧ win0_2.index t 2 = 7)
theorem idx3 : ∀ t : Fin cfg0.N, win0_3.index t 0 = t.val / 16 ∧ win0_3.index t 1 = t.val % 16 ∧ win0_3.index t 2 = 0 :=
  (by decide +kernel : ∀ t : Fin grid0.N, win0_3.index t 0 = t.val / 16 ∧ win0_3.index t 1 = t.val % 16 ∧ win0_3.index t 2 = 0)
theorem idx4 : ∀ t : Fin cfg0.N, win0_4.index t 0 = t.val / 16 ∧ win0_4.index t 1 = t.val % 16 ∧ win0_4.index t 2 = 0 :=
  (by decide +kernel : ∀ t : Fin grid0.N, win0_4.index t 0 = t.val / 16 ∧ win0_4.index t 1 = t.val % 16 ∧ win0_4.index t 2 = 0)
theorem idx5 : ∀ t : Fin cfg0.N, win0_5.index t 0 = t.val / 16 ∧ win0_5.index t 1 = t.val % 16 ∧ win0_5.index t 2 = 0 :=
  (by decide +kernel : ∀ t : Fin grid0.N, win0_5.index t 0 = t.val / 16 ∧ win0_5.index t 1 = t.val % 16 ∧ win0_5.index t 2 = 0)
theorem idx6 : ∀ t : Fin cfg0.N, win0_6.index t 0 = t.val / 16 ∧ win0_6.index t 1 = t.val % 16 ∧ win0_6.index t 2 = 0 :=
  (by decide +kernel : ∀ t : Fin grid0.N, win0_6.index t 0 = t.val / 16 ∧ win0_6.index t 1 = t.val % 16 ∧ win0_6.index t 2 = 0)
theorem idx7 : ∀ t : Fin cfg0.N, win0_7.index t 0 = t.val / 16 ∧ win0_7.index t 1 = 0 ∧ win0_7.index t 2 = 0 :=
  (by decide +kernel : ∀ t : Fin grid0.N, win0_7.index t 0 = t.val / 16 ∧ win0_7.index t 1 = 0 ∧ win0_7.index t 2 = 0)
theorem idx8 : ∀ t : Fin cfg0.N, win0_8.index t 0 = t.val / 16 ∧ win0_8.index t 1 = 0 ∧ win0_8.index t 2 = 0 :=
  (by decide +kernel : ∀ t : Fin grid0.N, win0_8.index t 0 = t.val / 16 ∧ win0_8.index t 1 = 0 ∧ win0_8.index t 2 = 0)

theorem read_q (X : Vec Ideal S2x2048x1024 .bf16) (t : Fin cfg0.N) (i : Fin 128) (x : Fin 256) :
    (((cfg0.win 0).blk t).view.read (Elt Ideal) X : Vec Ideal S1x128x256 .bf16) (ix3 (0 : Fin 1) i x) = X (ix3 (bat t) (at' (til t) i) (⟨512 + x.val, by omega⟩ : Fin 1024)) := by
  rw [View.read_apply]
  show X _ = X _
  congr 1
  funext a
  apply Fin.ext
  match a with
  | ⟨0, _⟩ => show win0_0.index t 0 * 1 + 1 * 0 = t.val / 16; rw [(idx0 t).1]; omega
  | ⟨1, _⟩ => show win0_0.index t 1 * 128 + 1 * i.val = t.val % 16 * 128 + i.val; rw [(idx0 t).2.1]; omega
  | ⟨2, _⟩ => show win0_0.index t 2 * 256 + 1 * x.val = 512 + x.val; rw [(idx0 t).2.2]; omega

theorem blk_q (t : Fin cfg0.N) (i : Fin 128) (x : Fin 256) : (iblk m c 0 t : Vec Ideal S1x128x256 .bf16) (ix3 (0 : Fin 1) i x)
    = V m c main_v47 (ix3 (bat t) (at' (til t) i) (⟨512 + x.val, by omega⟩ : Fin 1024)) := by
  unfold iblk
  exact read_q (V m c main_v47) t i x

theorem read_k (X : Vec Ideal S2x2048x1024 .bf16) (t : Fin cfg0.N) (j : Fin 2048) (x : Fin 128) :
    (((cfg0.win 1).blk t).view.read (Elt Ideal) X : Vec Ideal S1x2048x128 .bf16) (ix3 (0 : Fin 1) j x) = X (ix3 (bat t) j (⟨768 + x.val, by omega⟩ : Fin 1024)) := by
  rw [View.read_apply]
  show X _ = X _
  congr 1
  funext a
  apply Fin.ext
  match a with
  | ⟨0, _⟩ => show win0_1.index t 0 * 1 + 1 * 0 = t.val / 16; rw [(idx1 t).1]; omega
  | ⟨1, _⟩ => show win0_1.index t 1 * 2048 + 1 * j.val = j.val; rw [(idx1 t).2.1]; omega
  | ⟨2, _⟩ => show win0_1.index t 2 * 128 + 1 * x.val = 768 + x.val; rw [(idx1 t).2.2]; omega

theorem blk_k (t : Fin cfg0.N) (j : Fin 2048) (x : Fin 128) : (iblk m c 1 t : Vec Ideal S1x2048x128 .bf16) (ix3 (0 : Fin 1) j x)
    = V m c main_v47 (ix3 (bat t) j (⟨768 + x.val, by omega⟩ : Fin 1024)) := by
  unfold iblk
  exact read_k (V m c main_v47) t j x

theorem read_v (X : Vec Ideal S2x2048x1024 .bf16) (t : Fin cfg0.N) (j : Fin 2048) (x : Fin 128) :
    (((cfg0.win 2).blk t).view.read (Elt Ideal) X : Vec Ideal S1x2048x128 .bf16) (ix3 (0 : Fin 1) j x) = X (ix3 (bat t) j (⟨896 + x.val, by omega⟩ : Fin 1024)) := by
  rw [View.read_apply]
  show X _ = X _
  congr 1
  funext a
  apply Fin.ext
  match a with
  | ⟨0, _⟩ => show win0_2.index t 0 * 1 + 1 * 0 = t.val / 16; rw [(idx2 t).1]; omega
  | ⟨1, _⟩ => show win0_2.index t 1 * 2048 + 1 * j.val = j.val; rw [(idx2 t).2.1]; omega
  | ⟨2, _⟩ => show win0_2.index t 2 * 128 + 1 * x.val = 896 + x.val; rw [(idx2 t).2.2]; omega

theorem blk_v (t : Fin cfg0.N) (j : Fin 2048) (x : Fin 128) : (iblk m c 2 t : Vec Ideal S1x2048x128 .bf16) (ix3 (0 : Fin 1) j x)
    = V m c main_v47 (ix3 (bat t) j (⟨896 + x.val, by omega⟩ : Fin 1024)) := by
  unfold iblk
  exact read_v (V m c main_v47) t j x

theorem read_ct (X : Vec Ideal S2x2048x256 .f32) (t : Fin cfg0.N) (i : Fin 128) (x : Fin 256) :
    (((cfg0.win 3).blk t).view.read (Elt Ideal) X : Vec Ideal S1x128x256 .f32) (ix3 (0 : Fin 1) i x) = X (ix3 (bat t) (at' (til t) i) x) := by
  rw [View.read_apply]
  show X _ = X _
  congr 1
  funext a
  apply Fin.ext
  match a with
  | ⟨0, _⟩ => show win0_3.index t 0 * 1 + 1 * 0 = t.val / 16; rw [(idx3 t).1]; omega
  | ⟨1, _⟩ => show win0_3.index t 1 * 128 + 1 * i.val = t.val % 16 * 128 + i.val; rw [(idx3 t).2.1]; omega
  | ⟨2, _⟩ => show win0_3.index t 2 * 256 + 1 * x.val = x.val; rw [(idx3 t).2.2]; omega

theorem blk_ct (t : Fin cfg0.N) (i : Fin 128) (x : Fin 256) : (iblk m c 3 t : Vec Ideal S1x128x256 .f32) (ix3 (0 : Fin 1) i x)
    = V m c main_v48 (ix3 (bat t) (at' (til t) i) x) := by
  unfold iblk
  exact read_ct (V m c main_v48) t i x

theorem read_o (X : Vec Ideal S2x2048x256 .f32) (t : Fin cfg0.N) (i : Fin 128) (x : Fin 256) :
    (((cfg0.win 4).blk t).view.read (Elt Ideal) X : Vec Ideal S1x128x256 .f32) (ix3 (0 : Fin 1) i x) = X (ix3 (bat t) (at' (til t) i) x) := by
  rw [View.read_apply]
  show X _ = X _
  congr 1
  funext a
  apply Fin.ext
  match a with
  | ⟨0, _⟩ => show win0_4.index t 0 * 1 + 1 * 0 = t.val / 16; rw [(idx4 t).1]; omega
  | ⟨1, _⟩ => show win0_4.index t 1 * 128 + 1 * i.val = t.val % 16 * 128 + i.val; rw [(idx4 t).2.1]; omega
  | ⟨2, _⟩ => show win0_4.index t 2 * 256 + 1 * x.val = x.val; rw [(idx4 t).2.2]; omega

theorem blk_o (t : Fin cfg0.N) (i : Fin 128) (x : Fin 256) : (iblk m c 4 t : Vec Ideal S1x128x256 .f32) (ix3 (0 : Fin 1) i x)
    = V m c main_v19 (ix3 (bat t) (at' (til t) i) x) := by
  unfold iblk
  exact read_o (V m c main_v19) t i x

theorem read_l (X : Vec Ideal S2x2048x256 .f32) (t : Fin cfg0.N) (i : Fin 128) (x : Fin 256) :
    (((cfg0.win 5).blk t).view.read (Elt Ideal) X : Vec Ideal S1x128x256 .f32) (ix3 (0 : Fin 1) i x) = X (ix3 (bat t) (at' (til t) i) x) := by
  rw [View.read_apply]
  show X _ = X _
  congr 1
  funext a
  apply Fin.ext
  match a with
  | ⟨0, _⟩ => show win0_5.index t 0 * 1 + 1 * 0 = t.val / 16; rw [(idx5 t).1]; omega
  | ⟨1, _⟩ => show win0_5.index t 1 * 128 + 1 * i.val = t.val % 16 * 128 + i.val; rw [(idx5 t).2.1]; omega
  | ⟨2, _⟩ => show win0_5.index t 2 * 256 + 1 * x.val = x.val; rw [(idx5 t).2.2]; omega

theorem blk_l (t : Fin cfg0.N) (i : Fin 128) (x : Fin 256) : (iblk m c 5 t : Vec Ideal S1x128x256 .f32) (ix3 (0 : Fin 1) i x)
    = V m c main_v39 (ix3 (bat t) (at' (til t) i) x) := by
  unfold iblk
  exact read_l (V m c main_v39) t i x

/-- The four arguments are arrays of real numbers. -/
structure RealArgs (Q CT : Fin 2 → Fin 2048 → Fin 4 → Fin 64 → ℝ) (K W : Fin 2 → Fin 2048 → Fin 2 → Fin 64 → ℝ) : Prop where
  q : ∀ b i h d, m ((c.tc : Thread nD τ).loc main_arg0) (ix4 b i h d) = (Q b i h d : EReal)
  k : ∀ b j g d, m ((c.tc : Thread nD τ).loc main_arg1) (ix4 b j g d) = (K b j g d : EReal)
  v : ∀ b j g d, m ((c.tc : Thread nD τ).loc main_arg2) (ix4 b j g d) = (W b j g d : EReal)
  ct : ∀ b i h d, m ((c.tc : Thread nD τ).loc main_arg3) (ix4 b i h d) = (CT b i h d : EReal)

/-- Numbers that the log-sums' array holds: a score measured from its query's number has its weight as exponential. -/
structure LogSums (Q : Fin 2 → Fin 2048 → Fin 4 → Fin 64 → ℝ) (K : Fin 2 → Fin 2048 → Fin 2 → Fin 64 → ℝ)
    (L : Fin 2 → Fin 2 → Fin 2 → Fin 2048 → ℝ) : Prop where
  val : ∀ (b : Fin 2) (i : Fin 2048) (g r : Fin 2) (d : Fin 64), V m c main_v39 (ix3 b i (col g r d)) = (L b g r i : EReal)
  exp : ∀ b g r i j, Real.exp (score Q K b g r i j - L b g r i) = prob Q K b g r i j

variable {m c} {Q CT : Fin 2 → Fin 2048 → Fin 4 → Fin 64 → ℝ} {K W : Fin 2 → Fin 2048 → Fin 2 → Fin 64 → ℝ}
  {L : Fin 2 → Fin 2 → Fin 2 → Fin 2048 → ℝ}

theorem exists_logSums (h : RealArgs m c Q CT K W) : ∃ L, LogSums m c Q K L := by
  obtain ⟨L, h1, h2⟩ := logs_wts h.q h.k
  exact ⟨L, fun b i g r d => by rw [V_logs]; exact h1 b i g r d, h2⟩

/-- A point's rows of the arguments, of the output and of the log-sums. -/
def tQ (Q : Fin 2 → Fin 2048 → Fin 4 → Fin 64 → ℝ) (t : Fin cfg0.N) (g r : Fin 2) (i : Fin 128) (d : Fin 64) : ℝ :=
  Q (bat t) (at' (til t) i) (hd g r) d
def tO (Q : Fin 2 → Fin 2048 → Fin 4 → Fin 64 → ℝ) (K W : Fin 2 → Fin 2048 → Fin 2 → Fin 64 → ℝ) (t : Fin cfg0.N) (g r : Fin 2)
    (i : Fin 128) (d : Fin 64) : ℝ := outp Q K W (bat t) g r (at' (til t) i) d
def tL (L : Fin 2 → Fin 2 → Fin 2 → Fin 2048 → ℝ) (t : Fin cfg0.N) (g r : Fin 2) (i : Fin 128) : ℝ := L (bat t) g r (at' (til t) i)
def tk (K : Fin 2 → Fin 2048 → Fin 2 → Fin 64 → ℝ) (t : Fin cfg0.N) (g : Fin 2) (j : Fin 2048) (d : Fin 64) : ℝ := K (bat t) j g d

theorem in_q (h : RealArgs m c Q CT K W) (t : Fin cfg0.N) (g r : Fin 2) (i : Fin 128) (d : Fin 64) :
    (iblk m c 0 t : Vec Ideal S1x128x256 .bf16) (ix3 (0 : Fin 1) i (col g r d)) = (tQ Q t g r i d : EReal) := by
  rw [blk_q, V_rows]
  exact (rows_q _ _ _ (bat t) (at' (til t) i) (hd g r) d).trans (h.q ..)

theorem in_k (h : RealArgs m c Q CT K W) (t : Fin cfg0.N) (g : Fin 2) (j : Fin 2048) (d : Fin 64) :
    (iblk m c 1 t : Vec Ideal S1x2048x128 .bf16) (ix3 (0 : Fin 1) j (lane g d)) = (tk K t g j d : EReal) := by
  rw [blk_k, V_rows]
  exact (rows_k _ _ _ (bat t) j g d).trans (h.k ..)

theorem in_v (h : RealArgs m c Q CT K W) (t : Fin cfg0.N) (g : Fin 2) (j : Fin 2048) (d : Fin 64) :
    (iblk m c 2 t : Vec Ideal S1x2048x128 .bf16) (ix3 (0 : Fin 1) j (lane g d)) = (tk W t g j d : EReal) := by
  rw [blk_v, V_rows]
  exact (rows_v _ _ _ (bat t) j g d).trans (h.v ..)

theorem in_ct (h : RealArgs m c Q CT K W) (t : Fin cfg0.N) (g r : Fin 2) (i : Fin 128) (d : Fin 64) :
    (iblk m c 3 t : Vec Ideal S1x128x256 .f32) (ix3 (0 : Fin 1) i (col g r d)) = (tQ CT t g r i d : EReal) := by
  rw [blk_ct, V_ct]
  exact (ctRows_apply _ (bat t) (at' (til t) i) (hd g r) d).trans (h.ct ..)

theorem in_o (h : RealArgs m c Q CT K W) (t : Fin cfg0.N) (g r : Fin 2) (i : Fin 128) (d : Fin 64) :
    (iblk m c 4 t : Vec Ideal S1x128x256 .f32) (ix3 (0 : Fin 1) i (col g r d)) = (tO Q K W t g r i d : EReal) := by
  rw [blk_o, V_saved]
  exact saved_apply (probs_wts h.q h.k) h.v (bat t) (at' (til t) i) g r d

theorem in_l (hl : LogSums m c Q K L) (t : Fin cfg0.N) (g r : Fin 2) (i : Fin 128) (d : Fin 64) :
    (iblk m c 5 t : Vec Ideal S1x128x256 .f32) (ix3 (0 : Fin 1) i (col g r d)) = (tL L t g r i : EReal) := by
  rw [blk_l]
  exact hl.val (bat t) (at' (til t) i) g r d

/-- The tile's weights are the attention's. -/
theorem gP_eq (hl : LogSums m c Q K L) (t : Fin cfg0.N) (g r : Fin 2) (i : Fin 128) (j : Fin 2048) :
    gP (tQ Q t) (tL L t) (tk K t) g r i j = prob Q K (bat t) g r (at' (til t) i) j := by
  rw [← hl.exp]
  unfold gP tP sQ tQ tk tL score
  rw [Finset.sum_mul]
  congr 2
  exact Finset.sum_congr rfl fun d _ => by ring

/-- The tile's score gradients are the attention's. -/
theorem gS_eq (hl : LogSums m c Q K L) (t : Fin cfg0.N) (g r : Fin 2) (i : Fin 128) (j : Fin 2048) :
    gS (tQ Q t) (tQ CT t) (tO Q K W t) (tL L t) (tk K t) (tk W t) g r i j = dscore Q CT K W (bat t) g r (at' (til t) i) j := by
  show gP (tQ Q t) (tL L t) (tk K t) g r i j * _ = _
  rw [gP_eq hl]
  unfold dscore
  rw [← sum_ct_outp]
  rfl

/-- What tile `T` of batch `b` adds to dk and to dv. -/
def addK (Q CT : Fin 2 → Fin 2048 → Fin 4 → Fin 64 → ℝ) (K W : Fin 2 → Fin 2048 → Fin 2 → Fin 64 → ℝ) (b g : Fin 2) (j : Fin 2048)
    (d : Fin 64) (T : Fin 16) : ℝ := ∑ r, ∑ i, dscore Q CT K W b g r (at' T i) j * (Q b (at' T i) (hd g r) d * (1 / 8))
def addV (Q CT : Fin 2 → Fin 2048 → Fin 4 → Fin 64 → ℝ) (K : Fin 2 → Fin 2048 → Fin 2 → Fin 64 → ℝ) (b g : Fin 2) (j : Fin 2048)
    (d : Fin 64) (T : Fin 16) : ℝ := ∑ r, ∑ i, prob Q K b g r (at' T i) j * CT b (at' T i) (hd g r) d

/-- The sum of `f` up to its `n`-th term. -/
def upTo (f : Fin 16 → ℝ) (n : ℕ) : ℝ := ∑ T, if T.val ≤ n then f T else 0

theorem upTo_zero (f : Fin 16 → ℝ) : upTo f 0 = f 0 := by
  unfold upTo
  rw [Finset.sum_eq_single (0 : Fin 16)]
  · simp
  · intro T _ h
    rw [if_neg]
    intro h'
    exact h (Fin.ext (by simpa using h'))
  · simp

theorem upTo_succ (f : Fin 16 → ℝ) (n : ℕ) (h : n + 1 < 16) : upTo f (n + 1) = upTo f n + f ⟨n + 1, h⟩ := by
  unfold upTo
  have e1 : f ⟨n + 1, h⟩ = ∑ T, if T = ⟨n + 1, h⟩ then f T else 0 := by simp
  rw [e1, ← Finset.sum_add_distrib]
  refine Finset.sum_congr rfl fun T _ => ?_
  have e : T = ⟨n + 1, h⟩ ↔ T.val = n + 1 := ⟨fun h => by rw [h], fun h => Fin.ext h⟩
  by_cases h1 : T.val ≤ n
  · rw [if_pos (by omega), if_pos h1, if_neg (by rw [e]; omega), add_zero]
  · by_cases h2 : T.val = n + 1
    · rw [if_pos (by omega), if_neg h1, if_pos (e.mpr h2), zero_add]
    · rw [if_neg (by omega), if_neg h1, if_neg (fun h => h2 (e.mp h)), zero_add]

theorem upTo_last (f : Fin 16 → ℝ) : upTo f 15 = ∑ T, f T :=
  Finset.sum_congr rfl fun T _ => if_pos (by omega)

theorem sum_at {M : Type*} [AddCommMonoid M] (f : Fin 2048 → M) : ∑ T, ∑ i, f (at' T i) = ∑ x, f x := by
  rw [← Fintype.sum_prod_type' (f := fun T i => f (at' T i))]
  refine Fintype.sum_equiv (finProdFinEquiv (m := 16) (n := 128)) _ _ fun p => ?_
  congr 1
  exact Fin.ext (by simp [at', finProdFinEquiv]; omega)

theorem sum_addK (b g : Fin 2) (j : Fin 2048) (d : Fin 64) : ∑ T, addK Q CT K W b g j d T = dK Q CT K W b g j d := by
  unfold addK dK
  rw [Finset.sum_comm]
  exact Finset.sum_congr rfl fun r _ =>
    sum_at fun x => dscore Q CT K W b g r x j * (Q b x (hd g r) d * (1 / 8))

theorem sum_addV (b g : Fin 2) (j : Fin 2048) (d : Fin 64) : ∑ T, addV Q CT K b g j d T = dV Q CT K b g j d := by
  unfold addV dV
  rw [Finset.sum_comm]
  exact Finset.sum_congr rfl fun r _ => sum_at fun x => prob Q K b g r x j * CT b x (hd g r) d

theorem zero5 (j : Fin 2048) (l : Fin 128) : (k0_pay5 (F := Ideal)) (ix3 (0 : Fin 1) j l) = 0 := by pointwise [k0_pay5]
theorem zero6 (j : Fin 2048) (l : Fin 128) : (k0_pay6 (F := Ideal)) (ix3 (0 : Fin 1) j l) = 0 := by pointwise [k0_pay6]

/-- What point `t` adds to an entry of its dk block. -/
theorem dk_step (h : RealArgs m c Q CT K W) (hl : LogSums m c Q K L) (t : Fin cfg0.N) (acc : Vec Ideal S1x2048x128 .f32)
    (j : Fin 2048) (g : Fin 2) (d : Fin 64) :
    dkBlock (iblk m c 0 t) (iblk m c 1 t) (iblk m c 2 t) (iblk m c 3 t) (iblk m c 4 t) (iblk m c 5 t) acc (ix3 (0 : Fin 1) j (lane g d))
      = acc (ix3 (0 : Fin 1) j (lane g d)) + (addK Q CT K W (bat t) g j d (til t) : EReal) := by
  rw [dkBlock_apply (in_q h t) (in_ct h t) (in_o h t) (in_l hl t) (in_k h t) (in_v h t)]
  unfold tK addK
  simp only [gS_eq hl]
  rfl

theorem dv_step (h : RealArgs m c Q CT K W) (hl : LogSums m c Q K L) (t : Fin cfg0.N) (acc : Vec Ideal S1x2048x128 .f32)
    (j : Fin 2048) (g : Fin 2) (d : Fin 64) :
    dvBlock (iblk m c 0 t) (iblk m c 1 t) (iblk m c 3 t) (iblk m c 5 t) acc (ix3 (0 : Fin 1) j (lane g d))
      = acc (ix3 (0 : Fin 1) j (lane g d)) + (addV Q CT K (bat t) g j d (til t) : EReal) := by
  rw [dvBlock_apply (in_q h t) (in_ct h t) (in_l hl t) (in_k h t)]
  unfold tK addV
  simp only [gP_eq hl]
  rfl

/-- After point `n` the dk and dv blocks hold the sums over their batch's tiles so far. -/
theorem partial_sums (h : RealArgs m c Q CT K W) (hl : LogSums m c Q K L) : ∀ (n : ℕ) (hn : n < cfg0.N) (j : Fin 2048) (g : Fin 2) (d : Fin 64),
    (outsAt0 m c n hn).2.1 (ix3 (0 : Fin 1) j (lane g d)) = (upTo (addK Q CT K W (bat ⟨n, hn⟩) g j d) (n % 16) : EReal) ∧
    (outsAt0 m c n hn).2.2 (ix3 (0 : Fin 1) j (lane g d)) = (upTo (addV Q CT K (bat ⟨n, hn⟩) g j d) (n % 16) : EReal) := by
  intro n
  induction n with
  | zero =>
    intro hn j g d
    rw [outsAt0_A m c ⟨0, hn⟩ rfl]
    dsimp only
    rw [out0_A_7_eq, out0_A_8_eq, dk_step h hl, dv_step h hl, zero5, zero6, zero_add, zero_add, upTo_zero, upTo_zero]
    exact ⟨rfl, rfl⟩
  | succ n ih =>
    intro hn j g d
    by_cases h0 : (n + 1) % 16 = 0
    · rw [outsAt0_A m c ⟨n + 1, hn⟩ h0]
      dsimp only
      rw [out0_A_7_eq, out0_A_8_eq, dk_step h hl, dv_step h hl, zero5, zero6, zero_add, zero_add, h0, upTo_zero, upTo_zero]
      have e : til ⟨n + 1, hn⟩ = 0 := Fin.ext h0
      rw [e]
      exact ⟨rfl, rfl⟩
    · have hn' : n < cfg0.N := Nat.lt_of_succ_lt hn
      obtain ⟨i1, i2⟩ := ih hn' j g d
      have eb : bat ⟨n, hn'⟩ = bat ⟨n + 1, hn⟩ := Fin.ext (by show n / 16 = (n + 1) / 16; omega)
      have em : (n + 1) % 16 = n % 16 + 1 := by omega
      have et : til ⟨n + 1, hn⟩ = ⟨n % 16 + 1, by omega⟩ := Fin.ext em
      rw [outsAt0_B m c ⟨n + 1, hn⟩ h0]
      dsimp only
      rw [out0_B_7_eq, out0_B_8_eq, dk_step h hl, dv_step h hl, em, upTo_succ _ _ (by omega), upTo_succ _ _ (by omega), EReal.coe_add,
        EReal.coe_add, et, ← eb]
      exact ⟨congrArg (· + _) i1, congrArg (· + _) i2⟩

theorem dq_point (h : RealArgs m c Q CT K W) (hl : LogSums m c Q K L) (t : Fin cfg0.N) (i : Fin 128) (g r : Fin 2) (d : Fin 64) :
    (outsAt0 m c t.val t.isLt).1 (ix3 (0 : Fin 1) i (col g r d)) = (dQ Q CT K W (bat t) g r (at' (til t) i) d : EReal) := by
  have key : dqBlock (iblk m c 0 t) (iblk m c 1 t) (iblk m c 2 t) (iblk m c 3 t) (iblk m c 4 t) (iblk m c 5 t)
      (ix3 (0 : Fin 1) i (col g r d)) = (dQ Q CT K W (bat t) g r (at' (til t) i) d : EReal) := by
    rw [dqBlock_apply (in_q h t) (in_ct h t) (in_o h t) (in_l hl t) (in_k h t) (in_v h t)]
    unfold dQ
    simp only [gS_eq hl]
    rfl
  by_cases h0 : t.val % 16 = 0
  · rw [outsAt0_A m c t h0]
    dsimp only
    rw [out0_A_6_eq, key]
  · rw [outsAt0_B m c t h0]
    dsimp only
    rw [out0_B_6_eq, key]

end Cert.Dense

end
-- ==== Proof.Final.lean ====
module

public import proofs.«01_k».proof.Proof.Gen.KernelIdeal.Value
public import proofs.«01_k».proof.Proof.Points

/-!
# The three result arrays

Every point writes its rows of dq back; the last point of a batch writes dk and dv back. Those blocks tile the arrays, so
the arrays end at the reference's gradients.
-/

@[expose] public section

set_option maxRecDepth 16384

noncomputable section

namespace Cert.Dense

open scoped BigOperators
open Idealize.ShloMosaic Idealize.ShloMosaic.TcCoe Cert.KernelIdeal Cert.KernelIdeal.Gen

theorem exists_col (x : Fin 256) : ∃ g r d, x = col g r d :=
  ⟨⟨x.val / 128, by omega⟩, ⟨x.val / 64 % 2, by omega⟩, ⟨x.val % 64, by omega⟩, Fin.ext (by simp only [col]; omega)⟩

theorem idx_rows (j : S1x128x256.Idx) : ∃ i g r d, j = ix3 (0 : Fin 1) i (col g r d) := by
  obtain ⟨g, r, d, h⟩ := exists_col (j 2)
  refine ⟨j 1, g, r, d, ?_⟩
  rw [← h]
  funext a
  match a with
  | ⟨0, _⟩ => exact Subsingleton.elim (α := Fin 1) _ _
  | ⟨1, _⟩ => rfl
  | ⟨2, _⟩ => rfl

theorem idx_keys (j : S1x2048x128.Idx) : ∃ i g d, j = ix3 (0 : Fin 1) i (lane g d) := by
  obtain ⟨g, d, h⟩ := exists_lane (j 2)
  refine ⟨j 1, g, d, ?_⟩
  rw [← h]
  funext a
  match a with
  | ⟨0, _⟩ => exact Subsingleton.elim (α := Fin 1) _ _
  | ⟨1, _⟩ => rfl
  | ⟨2, _⟩ => rfl

theorem read_dq (X : Vec Ideal S2x2048x256 .f32) (t : Fin cfg0.N) (i : Fin 128) (x : Fin 256) :
    (((cfg0.win 6).blk t).view.read (Elt Ideal) X : Vec Ideal S1x128x256 .f32) (ix3 (0 : Fin 1) i x)
      = X (ix3 (bat t) (at' (til t) i) x) := by
  rw [View.read_apply]
  show X _ = X _
  congr 1
  funext a
  apply Fin.ext
  match a with
  | ⟨0, _⟩ => show win0_6.index t 0 * 1 + 1 * 0 = t.val / 16; rw [(idx6 t).1]; omega
  | ⟨1, _⟩ => show win0_6.index t 1 * 128 + 1 * i.val = t.val % 16 * 128 + i.val; rw [(idx6 t).2.1]; omega
  | ⟨2, _⟩ => show win0_6.index t 2 * 256 + 1 * x.val = x.val; rw [(idx6 t).2.2]; omega

theorem read_dk (X : Vec Ideal S2x2048x128 .f32) (t : Fin cfg0.N) (j : Fin 2048) (x : Fin 128) :
    (((cfg0.win 7).blk t).view.read (Elt Ideal) X : Vec Ideal S1x2048x128 .f32) (ix3 (0 : Fin 1) j x) = X (ix3 (bat t) j x) := by
  rw [View.read_apply]
  show X _ = X _
  congr 1
  funext a
  apply Fin.ext
  match a with
  | ⟨0, _⟩ => show win0_7.index t 0 * 1 + 1 * 0 = t.val / 16; rw [(idx7 t).1]; omega
  | ⟨1, _⟩ => show win0_7.index t 1 * 2048 + 1 * j.val = j.val; rw [(idx7 t).2.1]; omega
  | ⟨2, _⟩ => show win0_7.index t 2 * 128 + 1 * x.val = x.val; rw [(idx7 t).2.2]; omega

theorem read_dv (X : Vec Ideal S2x2048x128 .f32) (t : Fin cfg0.N) (j : Fin 2048) (x : Fin 128) :
    (((cfg0.win 8).blk t).view.read (Elt Ideal) X : Vec Ideal S1x2048x128 .f32) (ix3 (0 : Fin 1) j x) = X (ix3 (bat t) j x) := by
  rw [View.read_apply]
  show X _ = X _
  congr 1
  funext a
  apply Fin.ext
  match a with
  | ⟨0, _⟩ => show win0_8.index t 0 * 1 + 1 * 0 = t.val / 16; rw [(idx8 t).1]; omega
  | ⟨1, _⟩ => show win0_8.index t 1 * 2048 + 1 * j.val = j.val; rw [(idx8 t).2.1]; omega
  | ⟨2, _⟩ => show win0_8.index t 2 * 128 + 1 * x.val = x.val; rw [(idx8 t).2.2]; omega

/-- The point that writes row `y` of batch `b`, and a batch's last point. -/
def ptOf (b : Fin 2) (y : Fin 2048) : Fin cfg0.N := ⟨b.val * 16 + y.val / 128, lt_of_lt_of_eq (by omega : _ < 32) N_0.symm⟩
def lastOf (b : Fin 2) : Fin cfg0.N := ⟨b.val * 16 + 15, lt_of_lt_of_eq (by omega : _ < 32) N_0.symm⟩

variable {m : (ℓ : Loc nD τ sig) → Buf (Elt Ideal) ℓ} {c : Dev nD}
  {Q CT : Fin 2 → Fin 2048 → Fin 4 → Fin 64 → ℝ} {K W : Fin 2 → Fin 2048 → Fin 2 → Fin 64 → ℝ}
  {L : Fin 2 → Fin 2 → Fin 2 → Fin 2048 → ℝ}

theorem flushed_dq (h : RealArgs m c Q CT K W) (hl : LogSums m c Q K L) (X : Vec Ideal S2x2048x256 .f32)
    (hX : ∀ b i g r d, X (ix3 b i (col g r d)) = (dQ Q CT K W b g r i d : EReal)) (t : Fin cfg0.N) :
    (dats m 0 c).flushed 6 t = ((cfg0.win 6).blk t).view.read (Elt Ideal) X := by
  rw [Value.flushed6]
  funext j
  obtain ⟨i, g, r, d, rfl⟩ := idx_rows j
  refine Eq.trans ?_ (read_dq X t i (col g r d)).symm
  rw [hX]
  exact dq_point h hl t i g r d

theorem flushed_dk (h : RealArgs m c Q CT K W) (hl : LogSums m c Q K L) (X : Vec Ideal S2x2048x128 .f32)
    (hX : ∀ b j g d, X (ix3 b j (lane g d)) = (dK Q CT K W b g j d : EReal)) (t : Fin cfg0.N) (hf : (cfg0.win 7).flush t = true) :
    (dats m 0 c).flushed 7 t = ((cfg0.win 7).blk t).view.read (Elt Ideal) X := by
  rw [Value.flushed7]
  funext j
  obtain ⟨j, g, d, rfl⟩ := idx_keys j
  refine Eq.trans ?_ (read_dk X t j (lane g d)).symm
  rw [hX, ← sum_addK, ← upTo_last]
  have e := (partial_sums h hl t.val t.isLt j g d).1
  rw [(flush0_7 t).mp hf] at e
  exact e

theorem flushed_dv (h : RealArgs m c Q CT K W) (hl : LogSums m c Q K L) (X : Vec Ideal S2x2048x128 .f32)
    (hX : ∀ b j g d, X (ix3 b j (lane g d)) = (dV Q CT K b g j d : EReal)) (t : Fin cfg0.N) (hf : (cfg0.win 8).flush t = true) :
    (dats m 0 c).flushed 8 t = ((cfg0.win 8).blk t).view.read (Elt Ideal) X := by
  rw [Value.flushed8]
  funext j
  obtain ⟨j, g, d, rfl⟩ := idx_keys j
  refine Eq.trans ?_ (read_dv X t j (lane g d)).symm
  rw [hX, ← sum_addV, ← upTo_last]
  have e := (partial_sums h hl t.val t.isLt j g d).2
  rw [(flush0_8 t).mp hf] at e
  exact e

theorem final_dq (h : RealArgs m c Q CT K W) (hl : LogSums m c Q K L) (X : Vec Ideal S2x2048x256 .f32)
    (hX : ∀ b i g r d, X (ix3 b i (col g r d)) = (dQ Q CT K W b g r i d : EReal)) : (dats m 0 c).arrAt 6 cfg0.N = X :=
  (dats m 0 c).arrAt_eq_of_cover 6 X (fun t _ => flushed_dq h hl X hX t) fun i =>
    ⟨ptOf (i 0) (i 1), flush0_6 _, by
      show i ∈ ((View.whole main_v49_0).slice (win0_6.rect (ptOf (i 0) (i 1)))).set
      rw [View.set_slice_whole, Rect.mem_set_unit]
      intro a
      have h0 : (i 0 : Nat) < 2 := (i 0).isLt
      have h1 : (i 1 : Nat) < 2048 := (i 1).isLt
      have h2 : (i 2 : Nat) < 256 := (i 2).isLt
      have e : (ptOf (i 0) (i 1)).val = (i 0 : Nat) * 16 + (i 1 : Nat) / 128 := rfl
      match a with
      | ⟨0, _⟩ => show win0_6.index (ptOf (i 0) (i 1)) 0 * 1 ≤ (i 0 : Nat) ∧ (i 0 : Nat) < win0_6.index (ptOf (i 0) (i 1)) 0 * 1 + 1
                  rw [(idx6 _).1, e]; omega
      | ⟨1, _⟩ => show win0_6.index (ptOf (i 0) (i 1)) 1 * 128 ≤ (i 1 : Nat) ∧ (i 1 : Nat) < win0_6.index (ptOf (i 0) (i 1)) 1 * 128 + 128
                  rw [(idx6 _).2.1, e]; omega
      | ⟨2, _⟩ => show win0_6.index (ptOf (i 0) (i 1)) 2 * 256 ≤ (i 2 : Nat) ∧ (i 2 : Nat) < win0_6.index (ptOf (i 0) (i 1)) 2 * 256 + 256
                  rw [(idx6 _).2.2]; omega⟩

theorem final_dk (h : RealArgs m c Q CT K W) (hl : LogSums m c Q K L) (X : Vec Ideal S2x2048x128 .f32)
    (hX : ∀ b j g d, X (ix3 b j (lane g d)) = (dK Q CT K W b g j d : EReal)) : (dats m 0 c).arrAt 7 cfg0.N = X :=
  (dats m 0 c).arrAt_eq_of_cover 7 X (flushed_dk h hl X hX) fun i =>
    ⟨lastOf (i 0), (flush0_7 _).mpr (by show ((i 0 : Nat) * 16 + 15) % 16 = 15; omega), by
      show i ∈ ((View.whole main_v49_1).slice (win0_7.rect (lastOf (i 0)))).set
      rw [View.set_slice_whole, Rect.mem_set_unit]
      intro a
      have h0 : (i 0 : Nat) < 2 := (i 0).isLt
      have h1 : (i 1 : Nat) < 2048 := (i 1).isLt
      have h2 : (i 2 : Nat) < 128 := (i 2).isLt
      have e : (lastOf (i 0)).val = (i 0 : Nat) * 16 + 15 := rfl
      match a with
      | ⟨0, _⟩ => show win0_7.index (lastOf (i 0)) 0 * 1 ≤ (i 0 : Nat) ∧ (i 0 : Nat) < win0_7.index (lastOf (i 0)) 0 * 1 + 1
                  rw [(idx7 _).1, e]; omega
      | ⟨1, _⟩ => show win0_7.index (lastOf (i 0)) 1 * 2048 ≤ (i 1 : Nat) ∧ (i 1 : Nat) < win0_7.index (lastOf (i 0)) 1 * 2048 + 2048
                  rw [(idx7 _).2.1]; omega
      | ⟨2, _⟩ => show win0_7.index (lastOf (i 0)) 2 * 128 ≤ (i 2 : Nat) ∧ (i 2 : Nat) < win0_7.index (lastOf (i 0)) 2 * 128 + 128
                  rw [(idx7 _).2.2]; omega⟩

theorem final_dv (h : RealArgs m c Q CT K W) (hl : LogSums m c Q K L) (X : Vec Ideal S2x2048x128 .f32)
    (hX : ∀ b j g d, X (ix3 b j (lane g d)) = (dV Q CT K b g j d : EReal)) : (dats m 0 c).arrAt 8 cfg0.N = X :=
  (dats m 0 c).arrAt_eq_of_cover 8 X (flushed_dv h hl X hX) fun i =>
    ⟨lastOf (i 0), (flush0_8 _).mpr (by show ((i 0 : Nat) * 16 + 15) % 16 = 15; omega), by
      show i ∈ ((View.whole main_v49_2).slice (win0_8.rect (lastOf (i 0)))).set
      rw [View.set_slice_whole, Rect.mem_set_unit]
      intro a
      have h0 : (i 0 : Nat) < 2 := (i 0).isLt
      have h1 : (i 1 : Nat) < 2048 := (i 1).isLt
      have h2 : (i 2 : Nat) < 128 := (i 2).isLt
      have e : (lastOf (i 0)).val = (i 0 : Nat) * 16 + 15 := rfl
      match a with
      | ⟨0, _⟩ => show win0_8.index (lastOf (i 0)) 0 * 1 ≤ (i 0 : Nat) ∧ (i 0 : Nat) < win0_8.index (lastOf (i 0)) 0 * 1 + 1
                  rw [(idx8 _).1, e]; omega
      | ⟨1, _⟩ => show win0_8.index (lastOf (i 0)) 1 * 2048 ≤ (i 1 : Nat) ∧ (i 1 : Nat) < win0_8.index (lastOf (i 0)) 1 * 2048 + 2048
                  rw [(idx8 _).2.1]; omega
      | ⟨2, _⟩ => show win0_8.index (lastOf (i 0)) 2 * 128 ≤ (i 2 : Nat) ∧ (i 2 : Nat) < win0_8.index (lastOf (i 0)) 2 * 128 + 128
                  rw [(idx8 _).2.2]; omega⟩

end Cert.Dense

end
-- ==== Proof.Claims.lean ====
module

public import proofs.«01_k».proof.Defs
public import proofs.«01_k».proof.Proof.Gen.Kernel
public import proofs.«01_k».proof.Proof.Gen.Kernel.Frame
public import proofs.«01_k».proof.Proof.RefRun
public import proofs.«01_k».proof.Proof.Final
public import proofs.«01_k».proof.Proof.Finite

/-! # The claims -/

@[expose] public section

set_option maxRecDepth 16384

noncomputable section

namespace Cert.Dense

open Idealize.ShloMosaic Idealize.ShloMosaic.TcCoe Idealize.SL.Sem

/-- Under the precondition the arguments are arrays of real numbers. -/
theorem exists_reals (m : (ℓ : Loc KernelIdeal.nD KernelIdeal.τ KernelIdeal.sig) → Buf (Elt Ideal) ℓ)
    (h : @Pre_KernelIdeal_finite preFacts m) (c : Dev KernelIdeal.nD) : ∃ Q CT K W, RealArgs m c Q CT K W := by
  obtain ⟨hq, hk, hv, hct⟩ := reals (h c)
  choose Q hQ using hq
  choose K hK using hk
  choose W hW using hv
  choose CT hCT using hct
  exact ⟨fun b i h d => Q (ix4 b i h d), fun b i h d => CT (ix4 b i h d), fun b i h d => K (ix4 b i h d),
    fun b i h d => W (ix4 b i h d), ⟨fun _ _ _ _ => hQ _, fun _ _ _ _ => hK _, fun _ _ _ _ => hW _, fun _ _ _ _ => hCT _⟩⟩

theorem algebraic : @algebraic_KernelIdeal_ReferenceIdeal_pre_finite Cert.KernelIdeal.Gen.facts Cert.ReferenceIdeal.Gen.facts preFacts := by
  intro m ρ m' ρ' hpre hagree
  refine ⟨fun c => gradQ (dscores (dprobs (m' ((c.tc : Thread ReferenceIdeal.nD ReferenceIdeal.τ).loc ReferenceIdeal.main_arg3)) (m' ((c.tc : Thread ReferenceIdeal.nD ReferenceIdeal.τ).loc ReferenceIdeal.main_arg2)))
      (wts (m' ((c.tc : Thread ReferenceIdeal.nD ReferenceIdeal.τ).loc ReferenceIdeal.main_arg0)) (m' ((c.tc : Thread ReferenceIdeal.nD ReferenceIdeal.τ).loc ReferenceIdeal.main_arg1))))
      (m' ((c.tc : Thread ReferenceIdeal.nD ReferenceIdeal.τ).loc ReferenceIdeal.main_arg1)),
    fun c => gradK (dscores (dprobs (m' ((c.tc : Thread ReferenceIdeal.nD ReferenceIdeal.τ).loc ReferenceIdeal.main_arg3)) (m' ((c.tc : Thread ReferenceIdeal.nD ReferenceIdeal.τ).loc ReferenceIdeal.main_arg2)))
      (wts (m' ((c.tc : Thread ReferenceIdeal.nD ReferenceIdeal.τ).loc ReferenceIdeal.main_arg0)) (m' ((c.tc : Thread ReferenceIdeal.nD ReferenceIdeal.τ).loc ReferenceIdeal.main_arg1))))
      (m' ((c.tc : Thread ReferenceIdeal.nD ReferenceIdeal.τ).loc ReferenceIdeal.main_arg0)),
    fun c => gradV (probs (wts (m' ((c.tc : Thread ReferenceIdeal.nD ReferenceIdeal.τ).loc ReferenceIdeal.main_arg0)) (m' ((c.tc : Thread ReferenceIdeal.nD ReferenceIdeal.τ).loc ReferenceIdeal.main_arg1)))) (m' ((c.tc : Thread ReferenceIdeal.nD ReferenceIdeal.τ).loc ReferenceIdeal.main_arg3)), ?_, ?_⟩
  rotate_left
  · exact (θ_run Cert.ReferenceIdeal.defs _ _).mono (fun r h c => h c) (ref_run m' ρ')
  · refine (θ_run Cert.KernelIdeal.defs _ _).mono (fun r h c => ?_) (Cert.KernelIdeal.Value.run_blocks m ρ)
    obtain ⟨e6, e7, e8, k0, k1, k2, k3⟩ := h c
    obtain ⟨Q, CT, K, W, hr⟩ := exists_reals m hpre c
    obtain ⟨L, hl⟩ := exists_logSums hr
    obtain ⟨a0, a1, a2, a3⟩ := hagree c
    have q' := fun b i h d => (congrFun a0 (ix4 b i h d)).trans (hr.q b i h d)
    have k' := fun b i h d => (congrFun a1 (ix4 b i h d)).trans (hr.k b i h d)
    have v' := fun b i h d => (congrFun a2 (ix4 b i h d)).trans (hr.v b i h d)
    have ct' := fun b i h d => (congrFun a3 (ix4 b i h d)).trans (hr.ct b i h d)
    exact ⟨e6.trans (final_dq hr hl _ fun b i g r d => ref_dQ q' k' v' ct' b i g r d),
      e7.trans (final_dk hr hl _ fun b j g d => ref_dK q' k' v' ct' b j g d),
      e8.trans (final_dv hr hl _ fun b j g d => ref_dV q' k' ct' b j g d), k0, k1, k2, k3⟩

theorem frame_ref (m : (ℓ : Loc ReferenceIdeal.nD ReferenceIdeal.τ ReferenceIdeal.sig) → Buf (Elt Ideal) ℓ) (ρ : Dev ReferenceIdeal.nD → PrngReg) :
    θ_run (ReferenceIdeal.defs (F := Ideal)) (onTc (τ := ReferenceIdeal.τ) (ReferenceIdeal.main (F := Ideal))) ⟨m, fun _ => 0, ρ⟩ (fun r =>
      (∀ c : Dev ReferenceIdeal.nD,
        r.2.mem ((c.tc : Thread ReferenceIdeal.nD ReferenceIdeal.τ).loc ReferenceIdeal.main_arg0) = m ((c.tc : Thread ReferenceIdeal.nD ReferenceIdeal.τ).loc ReferenceIdeal.main_arg0)
        ∧ r.2.mem ((c.tc : Thread ReferenceIdeal.nD ReferenceIdeal.τ).loc ReferenceIdeal.main_arg1) = m ((c.tc : Thread ReferenceIdeal.nD ReferenceIdeal.τ).loc ReferenceIdeal.main_arg1)
        ∧ r.2.mem ((c.tc : Thread ReferenceIdeal.nD ReferenceIdeal.τ).loc ReferenceIdeal.main_arg2) = m ((c.tc : Thread ReferenceIdeal.nD ReferenceIdeal.τ).loc ReferenceIdeal.main_arg2)
        ∧ r.2.mem ((c.tc : Thread ReferenceIdeal.nD ReferenceIdeal.τ).loc ReferenceIdeal.main_arg3) = m ((c.tc : Thread ReferenceIdeal.nD ReferenceIdeal.τ).loc ReferenceIdeal.main_arg3))
      ∧ r.2.sem = fun _ => 0) :=
  (θ_run ReferenceIdeal.defs _ _).mono (fun r h => ⟨fun c => (h c).2.2.2, sem_eq_zero_of_no_sems (by decide) r.2⟩) (ref_run m ρ)

end Cert.Dense

end
-- ==== Proof.UpGateInput.lean ====
module

public import proofs.«01_k».proof.Defs
public import proofs.«01_k».proof.Proof.Gen.UpHIdeal.Value
public import proofs.«01_k».proof.Proof.Gen.UpHRefIdeal.Run
public import proofs.«01_k».proof.Proof.Gen.UpH
public import proofs.«01_k».proof.Proof.Products
public import Idealize.ShloMosaic.Lib.Pipeline.ValueKit.Acc
public import Idealize.ShloMosaic.Lib.Pipeline.ValueKit.Tiles
public import Idealize.ShloMosaic.Lib.Pointwise

/-!
# The gate half of the up product's input gradient

Point `t` of the eight works on the `t / 2`-th quarter of the rows and on the `t % 2`-th half of the 2816 columns that the sum
runs over, the columns of chip `t % 2`.
-/

@[expose] public section

set_option maxRecDepth 16384

noncomputable section

namespace Cert.UpGateInput

open scoped BigOperators
open Idealize.ShloMosaic Idealize.ShloMosaic.TcCoe Idealize.SL.Sem Cert.UpHIdeal Cert.UpHIdeal.Gen Cert.Products

/-- A block product at an entry. -/
theorem part_apply (a : Vec Ideal S1024x1408 .bf16) (b : Vec Ideal S1x1024x1408 .bf16) (i : Fin 1024) (j : Fin 1024) :
    k0_pay1 a b (ix2 i j) = ∑ k : Fin 1408, a (ix2 i k) * b (ix3 0 j k) := by
  pointwise [k0_pay1]

theorem store_apply (a : Vec Ideal S1024x1408 .bf16) (b : Vec Ideal S1x1024x1408 .bf16) (i : Fin 1024) (j : Fin 1024) :
    k0_pay2 a b (ix2 i j) = ∑ k : Fin 1408, a (ix2 i k) * b (ix3 0 j k) := by
  pointwise [k0_pay2]
  exact part_apply a b i j

theorem add_apply (a : Vec Ideal S1024x1408 .bf16) (b : Vec Ideal S1x1024x1408 .bf16) (x : Vec Ideal S1024x1024 .f32)
    (i : Fin 1024) (j : Fin 1024) :
    k0_pay3 a b x (ix2 i j) = x (ix2 i j) + ∑ k : Fin 1408, a (ix2 i k) * b (ix3 0 j k) := by
  pointwise [k0_pay3]
  exact congrArg _ (part_apply a b i j)

theorem readCov_whole {sg : RefSig} {κ : Kind} {sp : Space} (v : View sg κ sp S1024x1024 .f32) (w : Vec Ideal S1024x1024 .f32)
    (L : List (View.Piece (Elt Ideal) S1024x1024 .f32)) (hin hin') :
    v.readCov ((⟨Rect.unit ![0, 0] ![1024, 1024] hin, w⟩ : View.Piece (Elt Ideal) S1024x1024 .f32) :: L)
      (Rect.unit ![0, 0] ![1024, 1024] hin').toLoadRect = w :=
  View.readCov_cons_unit_lit' (S := S1024x1024) v hin hin' w L (fun a => by fin_cases a <;> rfl) (fun a => by fin_cases a <;> rfl)

section out
variable (c : Dev nD) (i : grid0.Coords)
  (arg3 : Memref sig .tc .vmem S1024x1408 .bf16) (harg3 : arg3.IsWhole)
  (arg4 : Memref sig .tc .vmem S1x1024x1408 .bf16) (harg4 : arg4.IsWhole)
  (arg5 : Memref sig .tc .vmem S1024x1024 .f32) (harg5 : arg5.IsWhole)
  (arg6 : Memref sig .tc .vmem S1024x1024 .f32) (harg6 : arg6.IsWhole)
  (x0 : Vec Ideal S1024x1408 .bf16) (x1 : Vec Ideal S1x1024x1408 .bf16) (xs : Vec Ideal S1024x1024 .f32)

/-- What the first point of a pair leaves in the accumulator, and what the second does. -/
theorem acc_first (h0 : cond0_0 i) (h1 : ¬cond0_1 i) (h2 : ¬cond0_2 i) :
    sout0_A_0 c i arg3 harg3 arg4 harg4 arg5 harg5 arg6 harg6 h0 h1 h2 x0 x1 = k0_pay2 x0 x1 := by
  unfold sout0_A_0
  rw [View.read_writes_eq_canon _ _ _ (scover0_A_0 c i arg3 harg3 arg4 harg4 arg5 harg5 arg6 harg6 h0 h1 h2 x0 x1)]
  unfold kernelRun0_A
  dsimp only
  sl_unfold_words
  rw [View.canon_cons_unit_zero (S := S1024x1024) hz]
  simp only [View.readAt_eq_ld, harg3.read_unread, harg4.read_unread, View.ld_unit_zero (S := S1024x1408) hz,
    View.ld_unit_zero (S := S1x1024x1408) hz3]

theorem acc_last (h0 : ¬cond0_0 i) (h1 : cond0_1 i) (h2 : cond0_2 i) :
    sout0_B_0 c i arg3 harg3 arg4 harg4 arg5 harg5 arg6 harg6 h0 h1 h2 x0 x1 xs = k0_pay3 x0 x1 xs := by
  unfold sout0_B_0
  rw [View.read_writes_eq_canon _ _ _ (scover0_B_0 c i arg3 harg3 arg4 harg4 arg5 harg5 arg6 harg6 h0 h1 h2 x0 x1 xs)]
  unfold kernelRun0_B
  dsimp only
  sl_unfold_words
  rw [View.canon_cons_unit_zero (S := S1024x1024) hz]
  simp only [View.readAt_eq_ld, harg3.read_unread, harg4.read_unread, harg6.read_unread, View.ld_unit_zero (S := S1024x1408) hz,
    View.ld_unit_zero (S := S1x1024x1408) hz3, View.ld_unit_zero (S := S1024x1024) hz]

/-- The second point of a pair writes the accumulator out. -/
theorem out_last (h0 : ¬cond0_0 i) (h1 : cond0_1 i) (h2 : cond0_2 i) :
    out0_B_2 c i arg3 harg3 arg4 harg4 arg5 harg5 arg6 harg6 h0 h1 h2 x0 x1 xs = k0_pay3 x0 x1 xs := by
  unfold out0_B_2
  rw [View.read_writes_eq_canon _ _ _ (cover0_B_2 c i arg3 harg3 arg4 harg4 arg5 harg5 arg6 harg6 h0 h1 h2 x0 x1 xs)]
  unfold kernelRun0_B
  dsimp only
  sl_unfold_words
  rw [View.canon_cons_unit_zero (S := S1024x1024) hz]
  simp only [readCov_whole, View.readAt_eq_ld, harg3.read_unread, harg4.read_unread, harg6.read_unread,
    View.ld_unit_zero (S := S1024x1408) hz, View.ld_unit_zero (S := S1x1024x1408) hz3, View.ld_unit_zero (S := S1024x1024) hz]
end out

theorem pt_lt (t : Fin cfg0.N) : t.val < 8 := lt_of_lt_of_eq t.isLt N_0

theorem idx0 : ∀ t : Fin cfg0.N, win0_0.index t 0 = t.val / 2 ∧ win0_0.index t 1 = t.val % 2 :=
  (by decide +kernel : ∀ t : Fin grid0.N, win0_0.index t 0 = t.val / 2 ∧ win0_0.index t 1 = t.val % 2)
theorem idx1 : ∀ t : Fin cfg0.N, win0_1.index t 0 = t.val % 2 ∧ win0_1.index t 1 = 0 ∧ win0_1.index t 2 = 0 :=
  (by decide +kernel : ∀ t : Fin grid0.N, win0_1.index t 0 = t.val % 2 ∧ win0_1.index t 1 = 0 ∧ win0_1.index t 2 = 0)
theorem idx2 : ∀ t : Fin cfg0.N, win0_2.index t 0 = t.val / 2 ∧ win0_2.index t 1 = 0 :=
  (by decide +kernel : ∀ t : Fin grid0.N, win0_2.index t 0 = t.val / 2 ∧ win0_2.index t 1 = 0)

/-- An entry of a point's block of the left operand, of the right one, and of the result. -/
theorem read_a (X : Vec Ideal S4096x2816 .bf16) (t : Fin cfg0.N) (i : Fin 1024) (k : Fin 1408) (p : Fin 4096) (q : Fin 2816)
    (hp : p.val = t.val / 2 * 1024 + i.val) (hq : q.val = t.val % 2 * 1408 + k.val) :
    (((cfg0.win 0).blk t).view.read (Elt Ideal) X : Vec Ideal S1024x1408 .bf16) (ix2 i k) = X (ix2 p q) := by
  rw [View.read_apply]
  show X _ = X _
  congr 1
  funext a
  apply Fin.ext
  match a with
  | ⟨0, _⟩ => show win0_0.index t 0 * 1024 + 1 * i.val = p.val; rw [(idx0 t).1]; omega
  | ⟨1, _⟩ => show win0_0.index t 1 * 1408 + 1 * k.val = q.val; rw [(idx0 t).2]; omega

theorem read_b (X : Vec Ideal S4x1024x1408 .bf16) (t : Fin cfg0.N) (j : Fin 1024) (k : Fin 1408) (p : Fin 4)
    (hp : p.val = t.val % 2) :
    (((cfg0.win 1).blk t).view.read (Elt Ideal) X : Vec Ideal S1x1024x1408 .bf16) (ix3 0 j k) = X (ix3 p j k) := by
  rw [View.read_apply]
  show X _ = X _
  congr 1
  funext a
  apply Fin.ext
  match a with
  | ⟨0, _⟩ => show win0_1.index t 0 * 1 + 1 * 0 = p.val; rw [(idx1 t).1]; omega
  | ⟨1, _⟩ => show win0_1.index t 1 * 1024 + 1 * j.val = j.val; rw [(idx1 t).2.1]; omega
  | ⟨2, _⟩ => show win0_1.index t 2 * 1408 + 1 * k.val = k.val; rw [(idx1 t).2.2]; omega

theorem read_out (X : Vec Ideal S4096x1024 .f32) (t : Fin cfg0.N) (i : Fin 1024) (j : Fin 1024) (p : Fin 4096)
    (hp : p.val = t.val / 2 * 1024 + i.val) :
    (((cfg0.win 2).blk t).view.read (Elt Ideal) X : Vec Ideal S1024x1024 .f32) (ix2 i j) = X (ix2 p j) := by
  rw [View.read_apply]
  show X _ = X _
  congr 1
  funext a
  apply Fin.ext
  match a with
  | ⟨0, _⟩ => show win0_2.index t 0 * 1024 + 1 * i.val = p.val; rw [(idx2 t).1]; omega
  | ⟨1, _⟩ => show win0_2.index t 1 * 1024 + 1 * j.val = j.val; rw [(idx2 t).2]; omega

/-- The weight's columns chip by chip. -/
def byChip (W : FVec Ideal S1024x5632 .f32) : FVec Ideal S4x1024x1408 .bf16 :=
  truncf .bf16 (concatenate S4x1024x1408 0
    [⟨S1x1024x1408, (broadcastInDim S1x1024x1408 ![1, 2] bcast_S1024x1408_S1x1024x1408_1_2
        (extractStridedSlice S1024x1408 ![0, 0] W slices_S1024x5632_S1024x1408_0_0 : FVec Ideal S1024x1408 .f32) : FVec Ideal S1x1024x1408 .f32)⟩,
     ⟨S1x1024x1408, (broadcastInDim S1x1024x1408 ![1, 2] bcast_S1024x1408_S1x1024x1408_1_2
        (extractStridedSlice S1024x1408 ![0, 1408] W slices_S1024x5632_S1024x1408_0_1408 : FVec Ideal S1024x1408 .f32) : FVec Ideal S1x1024x1408 .f32)⟩,
     ⟨S1x1024x1408, (broadcastInDim S1x1024x1408 ![1, 2] bcast_S1024x1408_S1x1024x1408_1_2
        (extractStridedSlice S1024x1408 ![0, 2816] W slices_S1024x5632_S1024x1408_0_2816 : FVec Ideal S1024x1408 .f32) : FVec Ideal S1x1024x1408 .f32)⟩,
     ⟨S1x1024x1408, (broadcastInDim S1x1024x1408 ![1, 2] bcast_S1024x1408_S1x1024x1408_1_2
        (extractStridedSlice S1024x1408 ![0, 4224] W slices_S1024x5632_S1024x1408_0_4224 : FVec Ideal S1024x1408 .f32) : FVec Ideal S1x1024x1408 .f32)⟩]
    concatenates_S1x1024x1408_S1x1024x1408_S1x1024x1408_S1x1024x1408_S4x1024x1408_d0) bitsLt_bf16_f32

theorem byChip_apply (W : FVec Ideal S1024x5632 .f32) (p : Fin 4) (j : Fin 1024) (k : Fin 1408) (q : Fin 5632)
    (hq : q.val = p.val * 1408 + k.val) : byChip W (ix3 p j k) = W (ix2 j q) := by
  have e : q = (⟨p.val * 1408 + k.val, hq ▸ q.isLt⟩ : Fin 5632) := Fin.ext hq
  rw [e]
  fin_cases p <;> pointwise [byChip]

variable (m : (ℓ : Loc nD τ sig) → Buf (Elt Ideal) ℓ) (c : Dev nD)

/-- The host's part: the left operand is an argument, the right one the weight's columns chip by chip. -/
theorem V_a : V m c main_v0 = (m ((c.tc : Thread nD τ).loc main_arg1) : Vec Ideal S4096x2816 .f32) := by
  show StableHlo.after hostOps0 (fun b => m (c, b)) main_v0 = _
  after_results_simp <;> rfl

theorem V_b : V m c main_v10 = byChip (m ((c.tc : Thread nD τ).loc main_arg0)) := by
  show StableHlo.after hostOps0 (fun b => m (c, b)) main_v10 = _
  after_results_simp <;> rfl

/-- A point's blocks of the two operands. -/
def blkA (t : Fin cfg0.N) : Vec Ideal S1024x1408 .bf16 := iblk m c 0 t
def blkB (t : Fin cfg0.N) : Vec Ideal S1x1024x1408 .bf16 := iblk m c 1 t

theorem blk_a (t : Fin cfg0.N) (i : Fin 1024) (k : Fin 1408) (p : Fin 4096) (q : Fin 2816)
    (hp : p.val = t.val / 2 * 1024 + i.val) (hq : q.val = t.val % 2 * 1408 + k.val) :
    blkA m c t (ix2 i k) = (m ((c.tc : Thread nD τ).loc main_arg1) : Vec Ideal S4096x2816 .f32) (ix2 p q) := by
  exact (read_a (V m c main_v0) t i k p q hp hq).trans (congrFun (V_a m c) _)
theorem blk_b (t : Fin cfg0.N) (j : Fin 1024) (k : Fin 1408) (q : Fin 2816) (hq : q.val = t.val % 2 * 1408 + k.val) :
    blkB m c t (ix3 0 j k) = (m ((c.tc : Thread nD τ).loc main_arg0) : Vec Ideal S1024x5632 .f32) (ix2 j ⟨q.val, by omega⟩) := by
  exact (read_b (V m c main_v10) t j k ⟨t.val % 2, by omega⟩ rfl).trans ((congrFun (V_b m c) _).trans
    (byChip_apply _ _ j k _ hq))

/-- The products of two entries that a sum of the result runs over. -/
def term (W : Vec Ideal S1024x5632 .f32) (G : Vec Ideal S4096x2816 .f32) (i : Fin 4096) (j : Fin 1024) (k : Fin 2816) : EReal :=
  G (ix2 i k) * W (ix2 j ⟨k.val, by omega⟩)

/-- A point's part of the sum. -/
theorem point_part (t : Fin cfg0.N) (s : ℕ) (hs : s < 2) (h : t.val % 2 = s) (i : Fin 1024) (j : Fin 1024) (p : Fin 4096)
    (hp : p.val = t.val / 2 * 1024 + i.val) :
    ∑ k : Fin 1408, blkA m c t (ix2 i k) * blkB m c t (ix3 0 j k)
      = ∑ k : Fin 1408, term (m ((c.tc : Thread nD τ).loc main_arg0)) (m ((c.tc : Thread nD τ).loc main_arg1)) p j
          (place (J := 2) (w := 1408) rfl s hs k) := by
  subst h
  exact Finset.sum_congr rfl fun k _ => congrArg₂ (· * ·) (blk_a m c t i k p _ hp rfl) (blk_b m c t j k _ rfl)

theorem first_point (t : Fin cfg0.N) (h : t.val % 2 = 0) (i : Fin 1024) (j : Fin 1024) :
    (outsAt0 m c t.val t.isLt).2 (ix2 i j)
      = ∑ k : Fin 1408, blkA m c t (ix2 i k) * blkB m c t (ix3 0 j k) := by
  rw [outsAt0_A m c t h (by omega) (by omega)]
  dsimp only
  rw [acc_first]
  exact store_apply _ _ i j

theorem next_point (t : Fin cfg0.N) (h : t.val % 2 = 1) (i : Fin 1024) (j : Fin 1024) :
    (outsAt0 m c t.val t.isLt).2 (ix2 i j)
      = (outsAt0 m c (t.val - 1) (Nat.lt_of_le_of_lt (Nat.sub_le _ _) t.isLt)).2 (ix2 i j)
        + ∑ k : Fin 1408, blkA m c t (ix2 i k) * blkB m c t (ix3 0 j k) := by
  rw [outsAt0_B m c t (by omega) h h]
  dsimp only
  rw [acc_last]
  exact add_apply _ _ _ i j

/-- The second point of a pair writes the whole sum. -/
theorem last_point (t : Fin cfg0.N) (h : t.val % 2 = 1) (i : Fin 1024) (j : Fin 1024) (p : Fin 4096)
    (hp : p.val = t.val / 2 * 1024 + i.val) : (outsAt0 m c t.val t.isLt).1 (ix2 i j)
      = ∑ k, term (m ((c.tc : Thread nD τ).loc main_arg0)) (m ((c.tc : Thread nD τ).loc main_arg1)) p j k := by
  have hlt := pt_lt t
  have e : (outsAt0 m c t.val t.isLt).1 = (outsAt0 m c t.val t.isLt).2 := by
    rw [outsAt0_B m c t (by omega) h h]
    dsimp only
    rw [out_last, acc_last]
  rw [e]
  exact whole_sum (J := 2) (w := 1408) rfl _ (fun n hn => (outsAt0 m c n hn).2 (ix2 i j)) (t.val - 1)
    (fun n hn _ en => (first_point m c ⟨n, hn⟩ (by show n % 2 = 0; omega) i j).trans
      (point_part m c ⟨n, hn⟩ 0 _ (by show n % 2 = 0; omega) i j p (by show p.val = n / 2 * 1024 + i.val; omega)))
    (fun n hn s hs en => (next_point m c ⟨n, hn⟩ (by show n % 2 = 1; omega) i j).trans
      (congrArg _ (point_part m c ⟨n, hn⟩ (s + 1) hs (by show n % 2 = s + 1; omega) i j p (by show p.val = n / 2 * 1024 + i.val; omega))))
    t.val t.isLt (by omega) (by omega)

/-- The point that writes row `p`. -/
def ptOf (p : Fin 4096) : Fin cfg0.N := ⟨p.val / 1024 * 2 + 1, lt_of_lt_of_eq (by omega : _ < 8) N_0.symm⟩

/-- The result array: at row `i` and column `j` the whole sum. -/
theorem final (X : Vec Ideal S4096x1024 .f32) (hX : ∀ i j, X (ix2 i j)
      = ∑ k, term (m ((c.tc : Thread nD τ).loc main_arg0)) (m ((c.tc : Thread nD τ).loc main_arg1)) i j k) :
    (dats m 0 c).arrAt 2 cfg0.N = X :=
  (dats m 0 c).arrAt_eq_of_cover 2 X (fun t hf => by
      have h3 := (flush0_2 t).mp hf
      have hlt := pt_lt t
      rw [Value.flushed2]
      funext y
      obtain ⟨i, j, rfl⟩ : ∃ (i : Fin 1024) (j : Fin 1024), y = ix2 i j := ⟨y 0, y 1, (eq_ix2 y)⟩
      refine Eq.trans ?_ (read_out X t i j ⟨t.val / 2 * 1024 + i.val, by omega⟩ rfl).symm
      rw [hX]
      exact last_point m c t h3 i j _ rfl) fun i =>
    ⟨ptOf (i 0), (flush0_2 _).mpr (by show ((i 0 : Nat) / 1024 * 2 + 1) % 2 = 1; omega), by
      show i ∈ ((View.whole main_v11).slice (win0_2.rect (ptOf (i 0)))).set
      rw [View.set_slice_whole, Rect.mem_set_unit]
      have h0 : (i 0 : Nat) < 4096 := (i 0).isLt
      have h1 : (i 1 : Nat) < 1024 := (i 1).isLt
      have e : (ptOf (i 0)).val = (i 0 : Nat) / 1024 * 2 + 1 := rfl
      intro a
      match a with
      | ⟨0, _⟩ => show win0_2.index (ptOf (i 0)) 0 * 1024 ≤ (i 0 : Nat) ∧ (i 0 : Nat) < win0_2.index (ptOf (i 0)) 0 * 1024 + 1024
                  rw [(idx2 _).1]; rw [e]; omega
      | ⟨1, _⟩ => show win0_2.index (ptOf (i 0)) 1 * 1024 ≤ (i 1 : Nat) ∧ (i 1 : Nat) < win0_2.index (ptOf (i 0)) 1 * 1024 + 1024
                  rw [(idx2 _).2]; omega⟩

/-- What the reference computes, at an entry. -/
def ref (W : FVec Ideal S1024x5632 .f32) (G : FVec Ideal S4096x2816 .f32) : Vec Ideal S4096x1024 .f32 :=
  Host.dotGeneral (F := Ideal) UpHRefIdeal.dot_S4096x2816_S1024x2816_S4096x1024_1_1_0_0_n_n none G
    (extractStridedSlice UpHRefIdeal.S1024x2816 ![0, 0] W UpHRefIdeal.Gen.slices_S1024x5632_S1024x2816_0_0 :
      FVec Ideal UpHRefIdeal.S1024x2816 .f32)

theorem ref_apply (W : FVec Ideal S1024x5632 .f32) (G : FVec Ideal S4096x2816 .f32) (i : Fin 4096) (j : Fin 1024) :
    ref W G (ix2 i j) = ∑ k, term W G i j k := by
  pointwise [ref]
  rfl

theorem algebraic : @algebraic_UpHIdeal_UpHRefIdeal Cert.UpHIdeal.Gen.facts Cert.UpHRefIdeal.Gen.facts := by
  intro m ρ m' ρ' _ hagree
  refine ⟨fun c => ref (m' ((c.tc : Thread UpHRefIdeal.nD UpHRefIdeal.τ).loc UpHRefIdeal.main_arg0))
    (m' ((c.tc : Thread UpHRefIdeal.nD UpHRefIdeal.τ).loc UpHRefIdeal.main_arg1)), ?_,
    (θ_run Cert.UpHRefIdeal.defs _ _).mono (fun r h c => h c) (UpHRefIdeal.Value.run m' ρ')⟩
  refine (θ_run Cert.UpHIdeal.defs _ _).mono (fun r h c => ?_) (Value.run_blocks m ρ)
  obtain ⟨e, k0, k1⟩ := h c
  obtain ⟨a0, a1⟩ := hagree c
  exact ⟨e.trans (final m c _ fun i j => (ref_apply _ _ i j).trans (by rw [← a0, ← a1])), k0, k1⟩

end Cert.UpGateInput

end
-- ==== Proof.UpWeight.lean ====
module

public import proofs.«01_k».proof.Defs
public import proofs.«01_k».proof.Proof.Gen.UpWIdeal.Value
public import proofs.«01_k».proof.Proof.Gen.UpWRefIdeal.Run
public import proofs.«01_k».proof.Proof.Gen.UpW
public import proofs.«01_k».proof.Proof.Products
public import Idealize.ShloMosaic.Lib.Pipeline.ValueKit.Acc
public import Idealize.ShloMosaic.Lib.Pipeline.ValueKit.Tiles
public import Idealize.ShloMosaic.Lib.Pointwise

/-!
# The weight gradient of the up product, in the last two chips' columns

Point `t` of the four works on the `t / 2`-th half of the columns, which is chip `2 + t / 2`'s part of the result, and on the
`t % 2`-th half of the 4096 tokens that the sum runs over. The first two chips' parts stay as they were.
-/

@[expose] public section

set_option maxRecDepth 16384

noncomputable section

namespace Cert.UpWeight

open scoped BigOperators
open Idealize.ShloMosaic Idealize.ShloMosaic.TcCoe Idealize.SL.Sem Cert.UpWIdeal Cert.UpWIdeal.Gen Cert.Products

/-- A block product at an entry. -/
theorem part_apply (a : Vec Ideal S1024x2048 .bf16) (b : Vec Ideal S2048x1408 .bf16) (i : Fin 1024) (j : Fin 1408) :
    k0_pay1 a b (ix2 i j) = ∑ k : Fin 2048, a (ix2 i k) * b (ix2 k j) := by
  pointwise [k0_pay1]

theorem store_apply (a : Vec Ideal S1024x2048 .bf16) (b : Vec Ideal S2048x1408 .bf16) (i : Fin 1024) (j : Fin 1408) :
    k0_pay2 a b (ix2 i j) = ∑ k : Fin 2048, a (ix2 i k) * b (ix2 k j) := by
  pointwise [k0_pay2]
  exact part_apply a b i j

theorem add_apply (a : Vec Ideal S1024x2048 .bf16) (b : Vec Ideal S2048x1408 .bf16) (x : Vec Ideal S1024x1408 .f32)
    (i : Fin 1024) (j : Fin 1408) :
    k0_pay3 a b x (ix2 i j) = x (ix2 i j) + ∑ k : Fin 2048, a (ix2 i k) * b (ix2 k j) := by
  pointwise [k0_pay3]
  exact congrArg _ (part_apply a b i j)

theorem chip_apply (x : Vec Ideal S1024x1408 .f32) (i : Fin 1024) (j : Fin 1408) : k0_pay4 x (ix3 0 i j) = x (ix2 i j) := by
  pointwise [k0_pay4]

theorem readCov_whole {sg : RefSig} {κ : Kind} {sp : Space} (v : View sg κ sp S1024x1408 .f32) (w : Vec Ideal S1024x1408 .f32)
    (L : List (View.Piece (Elt Ideal) S1024x1408 .f32)) (hin hin') :
    v.readCov ((⟨Rect.unit ![0, 0] ![1024, 1408] hin, w⟩ : View.Piece (Elt Ideal) S1024x1408 .f32) :: L)
      (Rect.unit ![0, 0] ![1024, 1408] hin').toLoadRect = w :=
  View.readCov_cons_unit_lit' (S := S1024x1408) v hin hin' w L (fun a => by fin_cases a <;> rfl) (fun a => by fin_cases a <;> rfl)

section out
variable (c : Dev nD) (i : grid0.Coords)
  (arg3 : Memref sig .tc .vmem S1024x2048 .bf16) (harg3 : arg3.IsWhole)
  (arg4 : Memref sig .tc .vmem S2048x1408 .bf16) (harg4 : arg4.IsWhole)
  (arg6 : Memref sig .tc .vmem S1x1024x1408 .f32) (harg6 : arg6.IsWhole)
  (arg7 : Memref sig .tc .vmem S1024x1408 .f32) (harg7 : arg7.IsWhole)
  (x0 : Vec Ideal S1024x2048 .bf16) (x1 : Vec Ideal S2048x1408 .bf16) (xs : Vec Ideal S1024x1408 .f32)

/-- What the first point of a pair leaves in the accumulator, and what the second does. -/
theorem acc_first (h0 : cond0_0 i) (h1 : ¬cond0_1 i) (h2 : ¬cond0_2 i) :
    sout0_A_0 c i arg3 harg3 arg4 harg4 arg6 harg6 arg7 harg7 h0 h1 h2 x0 x1 = k0_pay2 x0 x1 := by
  unfold sout0_A_0
  rw [View.read_writes_eq_canon _ _ _ (scover0_A_0 c i arg3 harg3 arg4 harg4 arg6 harg6 arg7 harg7 h0 h1 h2 x0 x1)]
  unfold kernelRun0_A
  dsimp only
  sl_unfold_words
  rw [View.canon_cons_unit_zero (S := S1024x1408) hz]
  simp only [View.readAt_eq_ld, harg3.read_unread, harg4.read_unread, View.ld_unit_zero (S := S1024x2048) hz,
    View.ld_unit_zero (S := S2048x1408) hz]

theorem acc_last (h0 : ¬cond0_0 i) (h1 : cond0_1 i) (h2 : cond0_2 i) :
    sout0_B_0 c i arg3 harg3 arg4 harg4 arg6 harg6 arg7 harg7 h0 h1 h2 x0 x1 xs = k0_pay3 x0 x1 xs := by
  unfold sout0_B_0
  rw [View.read_writes_eq_canon _ _ _ (scover0_B_0 c i arg3 harg3 arg4 harg4 arg6 harg6 arg7 harg7 h0 h1 h2 x0 x1 xs)]
  unfold kernelRun0_B
  dsimp only
  sl_unfold_words
  rw [View.canon_cons_unit_zero (S := S1024x1408) hz]
  simp only [View.readAt_eq_ld, harg3.read_unread, harg4.read_unread, harg7.read_unread, View.ld_unit_zero (S := S1024x2048) hz,
    View.ld_unit_zero (S := S2048x1408) hz, View.ld_unit_zero (S := S1024x1408) hz]

/-- The second point of a pair writes the accumulator out as its chip's part. -/
theorem out_last (h0 : ¬cond0_0 i) (h1 : cond0_1 i) (h2 : cond0_2 i) :
    out0_B_2 c i arg3 harg3 arg4 harg4 arg6 harg6 arg7 harg7 h0 h1 h2 x0 x1 xs = k0_pay4 (k0_pay3 x0 x1 xs) := by
  unfold out0_B_2
  rw [View.read_writes_eq_canon _ _ _ (cover0_B_2 c i arg3 harg3 arg4 harg4 arg6 harg6 arg7 harg7 h0 h1 h2 x0 x1 xs)]
  unfold kernelRun0_B
  dsimp only
  sl_unfold_words
  rw [View.canon_cons_unit_zero (S := S1x1024x1408) hz3]
  simp only [readCov_whole, View.readAt_eq_ld, harg3.read_unread, harg4.read_unread, harg7.read_unread,
    View.ld_unit_zero (S := S1024x2048) hz, View.ld_unit_zero (S := S2048x1408) hz, View.ld_unit_zero (S := S1024x1408) hz]
end out

theorem pt_lt (t : Fin cfg0.N) : t.val < 4 := lt_of_lt_of_eq t.isLt N_0

theorem idx0 : ∀ t : Fin cfg0.N, win0_0.index t 0 = 0 ∧ win0_0.index t 1 = t.val % 2 :=
  (by decide +kernel : ∀ t : Fin grid0.N, win0_0.index t 0 = 0 ∧ win0_0.index t 1 = t.val % 2)
theorem idx1 : ∀ t : Fin cfg0.N, win0_1.index t 0 = t.val % 2 ∧ win0_1.index t 1 = t.val / 2 :=
  (by decide +kernel : ∀ t : Fin grid0.N, win0_1.index t 0 = t.val % 2 ∧ win0_1.index t 1 = t.val / 2)
theorem idx2 : ∀ t : Fin cfg0.N, win0_2.index t 0 = 2 + t.val / 2 ∧ win0_2.index t 1 = 0 ∧ win0_2.index t 2 = 0 :=
  (by decide +kernel : ∀ t : Fin grid0.N, win0_2.index t 0 = 2 + t.val / 2 ∧ win0_2.index t 1 = 0 ∧ win0_2.index t 2 = 0)

/-- An entry of a point's block of the left operand, of the right one, and of the result. -/
theorem read_a (X : Vec Ideal S1024x4096 .bf16) (t : Fin cfg0.N) (i : Fin 1024) (k : Fin 2048) (q : Fin 4096)
    (hq : q.val = t.val % 2 * 2048 + k.val) :
    (((cfg0.win 0).blk t).view.read (Elt Ideal) X : Vec Ideal S1024x2048 .bf16) (ix2 i k) = X (ix2 i q) := by
  rw [View.read_apply]
  show X _ = X _
  congr 1
  funext a
  apply Fin.ext
  match a with
  | ⟨0, _⟩ => show win0_0.index t 0 * 1024 + 1 * i.val = i.val; rw [(idx0 t).1]; omega
  | ⟨1, _⟩ => show win0_0.index t 1 * 2048 + 1 * k.val = q.val; rw [(idx0 t).2]; omega

theorem read_b (X : Vec Ideal S4096x2816 .bf16) (t : Fin cfg0.N) (k : Fin 2048) (j : Fin 1408) (p : Fin 4096) (q : Fin 2816)
    (hp : p.val = t.val % 2 * 2048 + k.val) (hq : q.val = t.val / 2 * 1408 + j.val) :
    (((cfg0.win 1).blk t).view.read (Elt Ideal) X : Vec Ideal S2048x1408 .bf16) (ix2 k j) = X (ix2 p q) := by
  rw [View.read_apply]
  show X _ = X _
  congr 1
  funext a
  apply Fin.ext
  match a with
  | ⟨0, _⟩ => show win0_1.index t 0 * 2048 + 1 * k.val = p.val; rw [(idx1 t).1]; omega
  | ⟨1, _⟩ => show win0_1.index t 1 * 1408 + 1 * j.val = q.val; rw [(idx1 t).2]; omega

theorem read_out (X : Vec Ideal S4x1024x1408 .f32) (t : Fin cfg0.N) (i : Fin 1024) (j : Fin 1408) (p : Fin 4)
    (hp : p.val = 2 + t.val / 2) :
    (((cfg0.win 2).blk t).view.read (Elt Ideal) X : Vec Ideal S1x1024x1408 .f32) (ix3 0 i j) = X (ix3 p i j) := by
  rw [View.read_apply]
  show X _ = X _
  congr 1
  funext a
  apply Fin.ext
  match a with
  | ⟨0, _⟩ => show win0_2.index t 0 * 1 + 1 * 0 = p.val; rw [(idx2 t).1]; omega
  | ⟨1, _⟩ => show win0_2.index t 1 * 1024 + 1 * i.val = i.val; rw [(idx2 t).2.1]; omega
  | ⟨2, _⟩ => show win0_2.index t 2 * 1408 + 1 * j.val = j.val; rw [(idx2 t).2.2]; omega

variable (m : (ℓ : Loc nD τ sig) → Buf (Elt Ideal) ℓ) (c : Dev nD)

/-- The host's part: the left operand is the first argument with its rows as columns, the right one the second argument, and
    the result starts as the third. -/
theorem V_a (i : Fin 1024) (k : Fin 4096) : (V m c main_v1 : Vec Ideal S1024x4096 .bf16) (ix2 i k)
    = (m ((c.tc : Thread nD τ).loc main_arg0) : Vec Ideal S4096x1024 .f32) (ix2 k i) := by
  have e : V m c main_v1 = (truncf .bf16 (transpose S1024x4096 [1, 0] (m ((c.tc : Thread nD τ).loc main_arg0) : FVec Ideal S4096x1024 .f32)
      transposes_S4096x1024_S1024x4096_1_0 : FVec Ideal S1024x4096 .f32) bitsLt_bf16_f32 : FVec Ideal S1024x4096 .bf16) := by
    show StableHlo.after hostOps0 (fun b => m (c, b)) main_v1 = _
    after_results_simp <;> rfl
  rw [e]
  pointwise []
theorem V_b : V m c main_v2 = (m ((c.tc : Thread nD τ).loc main_arg1) : Vec Ideal S4096x2816 .f32) := by
  show StableHlo.after hostOps0 (fun b => m (c, b)) main_v2 = _
  after_results_simp <;> rfl
theorem V_out : V m c main_v3 = (m ((c.tc : Thread nD τ).loc main_arg2) : Vec Ideal S4x1024x1408 .f32) := by
  show StableHlo.after hostOps0 (fun b => m (c, b)) main_v3 = _
  after_results_simp <;> rfl

/-- A point's blocks of the two operands. -/
def blkA (t : Fin cfg0.N) : Vec Ideal S1024x2048 .bf16 := iblk m c 0 t
def blkB (t : Fin cfg0.N) : Vec Ideal S2048x1408 .bf16 := iblk m c 1 t

theorem blk_a (t : Fin cfg0.N) (i : Fin 1024) (k : Fin 2048) (q : Fin 4096) (hq : q.val = t.val % 2 * 2048 + k.val) :
    blkA m c t (ix2 i k) = (m ((c.tc : Thread nD τ).loc main_arg0) : Vec Ideal S4096x1024 .f32) (ix2 q i) := by
  exact (read_a (V m c main_v1) t i k q hq).trans (V_a m c i q)
theorem blk_b (t : Fin cfg0.N) (k : Fin 2048) (j : Fin 1408) (p : Fin 4096) (q : Fin 2816)
    (hp : p.val = t.val % 2 * 2048 + k.val) (hq : q.val = t.val / 2 * 1408 + j.val) :
    blkB m c t (ix2 k j) = (m ((c.tc : Thread nD τ).loc main_arg1) : Vec Ideal S4096x2816 .f32) (ix2 p q) := by
  exact (read_b (V m c main_v2) t k j p q hp hq).trans (congrFun (V_b m c) _)

/-- The products of two entries that a sum of the result runs over. -/
def term (A : Vec Ideal S4096x1024 .f32) (G : Vec Ideal S4096x2816 .f32) (i : Fin 1024) (j : Fin 2816) (k : Fin 4096) : EReal :=
  A (ix2 k i) * G (ix2 k j)

/-- A point's part of the sum. -/
theorem point_part (t : Fin cfg0.N) (s : ℕ) (hs : s < 2) (h : t.val % 2 = s) (i : Fin 1024) (j : Fin 1408) (q : Fin 2816)
    (hq : q.val = t.val / 2 * 1408 + j.val) :
    ∑ k : Fin 2048, blkA m c t (ix2 i k) * blkB m c t (ix2 k j)
      = ∑ k : Fin 2048, term (m ((c.tc : Thread nD τ).loc main_arg0)) (m ((c.tc : Thread nD τ).loc main_arg1)) i q
          (place (J := 2) (w := 2048) rfl s hs k) := by
  subst h
  exact Finset.sum_congr rfl fun k _ => congrArg₂ (· * ·) (blk_a m c t i k _ rfl) (blk_b m c t k j _ q rfl hq)

theorem first_point (t : Fin cfg0.N) (h : t.val % 2 = 0) (i : Fin 1024) (j : Fin 1408) :
    (outsAt0 m c t.val t.isLt).2 (ix2 i j)
      = ∑ k : Fin 2048, blkA m c t (ix2 i k) * blkB m c t (ix2 k j) := by
  rw [outsAt0_A m c t h (by omega) (by omega)]
  dsimp only
  rw [acc_first]
  exact store_apply _ _ i j

theorem next_point (t : Fin cfg0.N) (h : t.val % 2 = 1) (i : Fin 1024) (j : Fin 1408) :
    (outsAt0 m c t.val t.isLt).2 (ix2 i j)
      = (outsAt0 m c (t.val - 1) (Nat.lt_of_le_of_lt (Nat.sub_le _ _) t.isLt)).2 (ix2 i j)
        + ∑ k : Fin 2048, blkA m c t (ix2 i k) * blkB m c t (ix2 k j) := by
  rw [outsAt0_B m c t (by omega) h h]
  dsimp only
  rw [acc_last]
  exact add_apply _ _ _ i j

/-- The second point of a pair writes the whole sum. -/
theorem last_point (t : Fin cfg0.N) (h : t.val % 2 = 1) (i : Fin 1024) (j : Fin 1408) (q : Fin 2816)
    (hq : q.val = t.val / 2 * 1408 + j.val) : (outsAt0 m c t.val t.isLt).1 (ix3 0 i j)
      = ∑ k, term (m ((c.tc : Thread nD τ).loc main_arg0)) (m ((c.tc : Thread nD τ).loc main_arg1)) i q k := by
  have hlt := pt_lt t
  have e : (outsAt0 m c t.val t.isLt).1 = k0_pay4 (outsAt0 m c t.val t.isLt).2 := by
    rw [outsAt0_B m c t (by omega) h h]
    dsimp only
    rw [out_last, acc_last]
  rw [e, chip_apply]
  exact whole_sum (J := 2) (w := 2048) rfl _ (fun n hn => (outsAt0 m c n hn).2 (ix2 i j)) (t.val - 1)
    (fun n hn _ en => (first_point m c ⟨n, hn⟩ (by show n % 2 = 0; omega) i j).trans
      (point_part m c ⟨n, hn⟩ 0 _ (by show n % 2 = 0; omega) i j q (by show q.val = n / 2 * 1408 + j.val; omega)))
    (fun n hn s hs en => (next_point m c ⟨n, hn⟩ (by show n % 2 = 1; omega) i j).trans
      (congrArg _ (point_part m c ⟨n, hn⟩ (s + 1) hs (by show n % 2 = s + 1; omega) i j q (by show q.val = n / 2 * 1408 + j.val; omega))))
    t.val t.isLt (by omega) (by omega)

/-- The result array: at chip `2 + p` the whole sums of the `p`-th half of the columns, at the first two chips what it held. -/
theorem final (X : Vec Ideal S4x1024x1408 .f32)
    (hX : ∀ (p : Fin 4) (h : 2 ≤ p.val) i j, X (ix3 p i j) = ∑ k, term (m ((c.tc : Thread nD τ).loc main_arg0))
      (m ((c.tc : Thread nD τ).loc main_arg1)) i (⟨(p.val - 2) * 1408 + j.val, by omega⟩ : Fin 2816) k)
    (hY : ∀ (p : Fin 4) (h : p.val < 2) i j,
      X (ix3 p i j) = (m ((c.tc : Thread nD τ).loc main_arg2) : Vec Ideal S4x1024x1408 .f32) (ix3 p i j)) :
    (dats m 0 c).arrAt 2 cfg0.N = X := by
  funext i
  have h0 : (i 0 : Nat) < 4 := (i 0).isLt
  have h1 : (i 1 : Nat) < 1024 := (i 1).isLt
  have h2 : (i 2 : Nat) < 1408 := (i 2).isLt
  have ei : i = ix3 (i 0) (i 1) (i 2) := eq_ix3 i
  by_cases h : 2 ≤ (i 0 : Nat)
  · obtain ⟨T, eT⟩ : ∃ T : Fin cfg0.N, T.val = ((i 0 : Nat) - 2) * 2 + 1 :=
      ⟨⟨((i 0 : Nat) - 2) * 2 + 1, lt_of_lt_of_eq (by omega : _ < 4) N_0.symm⟩, rfl⟩
    refine (dats m 0 c).arrAt_apply_of_mem 2 X (fun t hf => ?_) cfg0.N T i T.isLt ((flush0_2 T).mpr (by omega)) ?_
    · have h3 := (flush0_2 t).mp hf
      have hlt := pt_lt t
      rw [Value.flushed2]
      funext y
      obtain ⟨o, i, j, rfl⟩ : ∃ (o : Fin 1) (i : Fin 1024) (j : Fin 1408), y = ix3 o i j := ⟨y 0, y 1, y 2, (eq_ix3 y)⟩
      obtain rfl : o = 0 := Subsingleton.elim _ _
      refine Eq.trans ?_ (read_out X t i j ⟨2 + t.val / 2, by omega⟩ rfl).symm
      rw [hX _ (by show 2 ≤ 2 + t.val / 2; omega)]
      exact last_point m c t h3 i j _ (by show (2 + t.val / 2 - 2) * 1408 + j.val = t.val / 2 * 1408 + j.val; omega)
    · show i ∈ ((View.whole main_v3).slice (win0_2.rect T)).set
      rw [View.set_slice_whole, Rect.mem_set_unit]
      intro a
      match a with
      | ⟨0, _⟩ => show win0_2.index T 0 * 1 ≤ (i 0 : Nat) ∧ (i 0 : Nat) < win0_2.index T 0 * 1 + 1
                  rw [(idx2 _).1]; omega
      | ⟨1, _⟩ => show win0_2.index T 1 * 1024 ≤ (i 1 : Nat) ∧ (i 1 : Nat) < win0_2.index T 1 * 1024 + 1024
                  rw [(idx2 _).2.1]; omega
      | ⟨2, _⟩ => show win0_2.index T 2 * 1408 ≤ (i 2 : Nat) ∧ (i 2 : Nat) < win0_2.index T 2 * 1408 + 1408
                  rw [(idx2 _).2.2]; omega
  · refine (Value.entry2 m c i fun t _ hi => ?_).trans ((congrFun (V_out m c) i).trans ?_)
    · change i ∈ ((View.whole main_v3).slice (win0_2.rect t)).set at hi
      rw [View.set_slice_whole, Rect.mem_set_unit] at hi
      have := hi 0
      change win0_2.index t 0 * 1 ≤ (i 0 : Nat) ∧ _ at this
      rw [(idx2 _).1] at this
      omega
    · rw [ei]
      exact (hY _ (by omega) _ _).symm

/-- What the reference computes, at an entry. -/
def ref (A : FVec Ideal S4096x1024 .f32) (G : FVec Ideal S4096x2816 .f32) (Z : FVec Ideal S4x1024x1408 .f32) : Vec Ideal S4x1024x1408 .f32 :=
  let dw := transpose UpWRefIdeal.S1024x2816 [1, 0]
    (Host.dotGeneral (F := Ideal) UpWRefIdeal.dot_S4096x2816_S4096x1024_S2816x1024_0_0_1_1_n_n none G A :
      FVec Ideal UpWRefIdeal.S2816x1024 .f32) UpWRefIdeal.Gen.transposes_S2816x1024_S1024x2816_1_0
  concatenate S4x1024x1408 0
    [⟨S1x1024x1408, (broadcastInDim S1x1024x1408 ![1, 2] UpWRefIdeal.Gen.bcast_S1024x1408_S1x1024x1408_1_2
        (shapeCast S1024x1408 (extractStridedSlice S1x1024x1408 ![0, 0, 0] Z UpWRefIdeal.Gen.slices_S4x1024x1408_S1x1024x1408_0_0_0 :
          FVec Ideal S1x1024x1408 .f32) UpWRefIdeal.Gen.shapeCasts_S1x1024x1408_S1024x1408 : FVec Ideal S1024x1408 .f32) : FVec Ideal S1x1024x1408 .f32)⟩,
     ⟨S1x1024x1408, (broadcastInDim S1x1024x1408 ![1, 2] UpWRefIdeal.Gen.bcast_S1024x1408_S1x1024x1408_1_2
        (shapeCast S1024x1408 (extractStridedSlice S1x1024x1408 ![1, 0, 0] Z UpWRefIdeal.Gen.slices_S4x1024x1408_S1x1024x1408_1_0_0 :
          FVec Ideal S1x1024x1408 .f32) UpWRefIdeal.Gen.shapeCasts_S1x1024x1408_S1024x1408 : FVec Ideal S1024x1408 .f32) : FVec Ideal S1x1024x1408 .f32)⟩,
     ⟨S1x1024x1408, (broadcastInDim S1x1024x1408 ![1, 2] UpWRefIdeal.Gen.bcast_S1024x1408_S1x1024x1408_1_2
        (extractStridedSlice S1024x1408 ![0, 0] dw UpWRefIdeal.Gen.slices_S1024x2816_S1024x1408_0_0 : FVec Ideal S1024x1408 .f32) : FVec Ideal S1x1024x1408 .f32)⟩,
     ⟨S1x1024x1408, (broadcastInDim S1x1024x1408 ![1, 2] UpWRefIdeal.Gen.bcast_S1024x1408_S1x1024x1408_1_2
        (extractStridedSlice S1024x1408 ![0, 1408] dw UpWRefIdeal.Gen.slices_S1024x2816_S1024x1408_0_1408 : FVec Ideal S1024x1408 .f32) : FVec Ideal S1x1024x1408 .f32)⟩]
    UpWRefIdeal.Gen.concatenates_S1x1024x1408_S1x1024x1408_S1x1024x1408_S1x1024x1408_S4x1024x1408_d0

theorem ref_sum (A : FVec Ideal S4096x1024 .f32) (G : FVec Ideal S4096x2816 .f32) (Z : FVec Ideal S4x1024x1408 .f32) (p : Fin 4) (h : 2 ≤ p.val)
    (i : Fin 1024) (j : Fin 1408) :
    ref A G Z (ix3 p i j) = ∑ k, term A G i (⟨(p.val - 2) * 1408 + j.val, by omega⟩ : Fin 2816) k := by
  fin_cases p
  · exact absurd h (by decide)
  · exact absurd h (by decide)
  · pointwise [ref]
    exact Finset.sum_congr rfl fun k _ => mul_comm _ _
  · pointwise [ref]
    exact Finset.sum_congr rfl fun k _ => mul_comm _ _

theorem ref_kept (A : FVec Ideal S4096x1024 .f32) (G : FVec Ideal S4096x2816 .f32) (Z : FVec Ideal S4x1024x1408 .f32) (p : Fin 4) (h : p.val < 2)
    (i : Fin 1024) (j : Fin 1408) : ref A G Z (ix3 p i j) = Z (ix3 p i j) := by
  fin_cases p
  · pointwise [ref]
  · pointwise [ref]
  · exact absurd h (by decide)
  · exact absurd h (by decide)

theorem algebraic : @algebraic_UpWIdeal_UpWRefIdeal Cert.UpWIdeal.Gen.facts Cert.UpWRefIdeal.Gen.facts := by
  intro m ρ m' ρ' _ hagree
  refine ⟨fun c => ref (m' ((c.tc : Thread UpWRefIdeal.nD UpWRefIdeal.τ).loc UpWRefIdeal.main_arg0))
    (m' ((c.tc : Thread UpWRefIdeal.nD UpWRefIdeal.τ).loc UpWRefIdeal.main_arg1))
    (m' ((c.tc : Thread UpWRefIdeal.nD UpWRefIdeal.τ).loc UpWRefIdeal.main_arg2)), ?_,
    (θ_run Cert.UpWRefIdeal.defs _ _).mono (fun r h c => h c) (UpWRefIdeal.Value.run m' ρ')⟩
  refine (θ_run Cert.UpWIdeal.defs _ _).mono (fun r h c => ?_) (Value.run_blocks m ρ)
  obtain ⟨e, k⟩ := h c
  obtain ⟨a0, a1, a2⟩ := hagree c
  exact ⟨e.trans (final m c _ (fun p h i j => (ref_sum _ _ _ p h i j).trans (by rw [← a0, ← a1]))
    (fun p h i j => (ref_kept _ _ _ p h i j).trans (by rw [← a2]))), k⟩

end Cert.UpWeight

end
-- ==== Proof.UpGateWeight.lean ====
module

public import proofs.«01_k».proof.Defs
public import proofs.«01_k».proof.Proof.Gen.UpWgIdeal.Value
public import proofs.«01_k».proof.Proof.Gen.UpWgRefIdeal.Run
public import proofs.«01_k».proof.Proof.Gen.UpWg
public import proofs.«01_k».proof.Proof.Products
public import Idealize.ShloMosaic.Lib.Pipeline.ValueKit.Acc
public import Idealize.ShloMosaic.Lib.Pipeline.ValueKit.Tiles
public import Idealize.ShloMosaic.Lib.Pointwise

/-!
# The weight gradient of the up product, in the first two chips' columns

Point `t` of the four works on the `t / 2`-th half of the columns, which is chip `t / 2`'s part of the result, and on the
`t % 2`-th half of the 4096 tokens that the sum runs over. The last two chips' parts stay as they were.
-/

@[expose] public section

set_option maxRecDepth 16384

noncomputable section

namespace Cert.UpGateWeight

open scoped BigOperators
open Idealize.ShloMosaic Idealize.ShloMosaic.TcCoe Idealize.SL.Sem Cert.UpWgIdeal Cert.UpWgIdeal.Gen Cert.Products

/-- A block product at an entry. -/
theorem part_apply (a : Vec Ideal S1024x2048 .bf16) (b : Vec Ideal S2048x1408 .bf16) (i : Fin 1024) (j : Fin 1408) :
    k0_pay1 a b (ix2 i j) = ∑ k : Fin 2048, a (ix2 i k) * b (ix2 k j) := by
  pointwise [k0_pay1]

theorem store_apply (a : Vec Ideal S1024x2048 .bf16) (b : Vec Ideal S2048x1408 .bf16) (i : Fin 1024) (j : Fin 1408) :
    k0_pay2 a b (ix2 i j) = ∑ k : Fin 2048, a (ix2 i k) * b (ix2 k j) := by
  pointwise [k0_pay2]
  exact part_apply a b i j

theorem add_apply (a : Vec Ideal S1024x2048 .bf16) (b : Vec Ideal S2048x1408 .bf16) (x : Vec Ideal S1024x1408 .f32)
    (i : Fin 1024) (j : Fin 1408) :
    k0_pay3 a b x (ix2 i j) = x (ix2 i j) + ∑ k : Fin 2048, a (ix2 i k) * b (ix2 k j) := by
  pointwise [k0_pay3]
  exact congrArg _ (part_apply a b i j)

theorem chip_apply (x : Vec Ideal S1024x1408 .f32) (i : Fin 1024) (j : Fin 1408) : k0_pay4 x (ix3 0 i j) = x (ix2 i j) := by
  pointwise [k0_pay4]

theorem readCov_whole {sg : RefSig} {κ : Kind} {sp : Space} (v : View sg κ sp S1024x1408 .f32) (w : Vec Ideal S1024x1408 .f32)
    (L : List (View.Piece (Elt Ideal) S1024x1408 .f32)) (hin hin') :
    v.readCov ((⟨Rect.unit ![0, 0] ![1024, 1408] hin, w⟩ : View.Piece (Elt Ideal) S1024x1408 .f32) :: L)
      (Rect.unit ![0, 0] ![1024, 1408] hin').toLoadRect = w :=
  View.readCov_cons_unit_lit' (S := S1024x1408) v hin hin' w L (fun a => by fin_cases a <;> rfl) (fun a => by fin_cases a <;> rfl)

section out
variable (c : Dev nD) (i : grid0.Coords)
  (arg3 : Memref sig .tc .vmem S1024x2048 .bf16) (harg3 : arg3.IsWhole)
  (arg4 : Memref sig .tc .vmem S2048x1408 .bf16) (harg4 : arg4.IsWhole)
  (arg6 : Memref sig .tc .vmem S1x1024x1408 .f32) (harg6 : arg6.IsWhole)
  (arg7 : Memref sig .tc .vmem S1024x1408 .f32) (harg7 : arg7.IsWhole)
  (x0 : Vec Ideal S1024x2048 .bf16) (x1 : Vec Ideal S2048x1408 .bf16) (xs : Vec Ideal S1024x1408 .f32)

/-- What the first point of a pair leaves in the accumulator, and what the second does. -/
theorem acc_first (h0 : cond0_0 i) (h1 : ¬cond0_1 i) (h2 : ¬cond0_2 i) :
    sout0_A_0 c i arg3 harg3 arg4 harg4 arg6 harg6 arg7 harg7 h0 h1 h2 x0 x1 = k0_pay2 x0 x1 := by
  unfold sout0_A_0
  rw [View.read_writes_eq_canon _ _ _ (scover0_A_0 c i arg3 harg3 arg4 harg4 arg6 harg6 arg7 harg7 h0 h1 h2 x0 x1)]
  unfold kernelRun0_A
  dsimp only
  sl_unfold_words
  rw [View.canon_cons_unit_zero (S := S1024x1408) hz]
  simp only [View.readAt_eq_ld, harg3.read_unread, harg4.read_unread, View.ld_unit_zero (S := S1024x2048) hz,
    View.ld_unit_zero (S := S2048x1408) hz]

theorem acc_last (h0 : ¬cond0_0 i) (h1 : cond0_1 i) (h2 : cond0_2 i) :
    sout0_B_0 c i arg3 harg3 arg4 harg4 arg6 harg6 arg7 harg7 h0 h1 h2 x0 x1 xs = k0_pay3 x0 x1 xs := by
  unfold sout0_B_0
  rw [View.read_writes_eq_canon _ _ _ (scover0_B_0 c i arg3 harg3 arg4 harg4 arg6 harg6 arg7 harg7 h0 h1 h2 x0 x1 xs)]
  unfold kernelRun0_B
  dsimp only
  sl_unfold_words
  rw [View.canon_cons_unit_zero (S := S1024x1408) hz]
  simp only [View.readAt_eq_ld, harg3.read_unread, harg4.read_unread, harg7.read_unread, View.ld_unit_zero (S := S1024x2048) hz,
    View.ld_unit_zero (S := S2048x1408) hz, View.ld_unit_zero (S := S1024x1408) hz]

/-- The second point of a pair writes the accumulator out as its chip's part. -/
theorem out_last (h0 : ¬cond0_0 i) (h1 : cond0_1 i) (h2 : cond0_2 i) :
    out0_B_2 c i arg3 harg3 arg4 harg4 arg6 harg6 arg7 harg7 h0 h1 h2 x0 x1 xs = k0_pay4 (k0_pay3 x0 x1 xs) := by
  unfold out0_B_2
  rw [View.read_writes_eq_canon _ _ _ (cover0_B_2 c i arg3 harg3 arg4 harg4 arg6 harg6 arg7 harg7 h0 h1 h2 x0 x1 xs)]
  unfold kernelRun0_B
  dsimp only
  sl_unfold_words
  rw [View.canon_cons_unit_zero (S := S1x1024x1408) hz3]
  simp only [readCov_whole, View.readAt_eq_ld, harg3.read_unread, harg4.read_unread, harg7.read_unread,
    View.ld_unit_zero (S := S1024x2048) hz, View.ld_unit_zero (S := S2048x1408) hz, View.ld_unit_zero (S := S1024x1408) hz]
end out

theorem pt_lt (t : Fin cfg0.N) : t.val < 4 := lt_of_lt_of_eq t.isLt N_0

theorem idx0 : ∀ t : Fin cfg0.N, win0_0.index t 0 = 0 ∧ win0_0.index t 1 = t.val % 2 :=
  (by decide +kernel : ∀ t : Fin grid0.N, win0_0.index t 0 = 0 ∧ win0_0.index t 1 = t.val % 2)
theorem idx1 : ∀ t : Fin cfg0.N, win0_1.index t 0 = t.val % 2 ∧ win0_1.index t 1 = t.val / 2 :=
  (by decide +kernel : ∀ t : Fin grid0.N, win0_1.index t 0 = t.val % 2 ∧ win0_1.index t 1 = t.val / 2)
theorem idx2 : ∀ t : Fin cfg0.N, win0_2.index t 0 = t.val / 2 ∧ win0_2.index t 1 = 0 ∧ win0_2.index t 2 = 0 :=
  (by decide +kernel : ∀ t : Fin grid0.N, win0_2.index t 0 = t.val / 2 ∧ win0_2.index t 1 = 0 ∧ win0_2.index t 2 = 0)

/-- An entry of a point's block of the left operand, of the right one, and of the result. -/
theorem read_a (X : Vec Ideal S1024x4096 .bf16) (t : Fin cfg0.N) (i : Fin 1024) (k : Fin 2048) (q : Fin 4096)
    (hq : q.val = t.val % 2 * 2048 + k.val) :
    (((cfg0.win 0).blk t).view.read (Elt Ideal) X : Vec Ideal S1024x2048 .bf16) (ix2 i k) = X (ix2 i q) := by
  rw [View.read_apply]
  show X _ = X _
  congr 1
  funext a
  apply Fin.ext
  match a with
  | ⟨0, _⟩ => show win0_0.index t 0 * 1024 + 1 * i.val = i.val; rw [(idx0 t).1]; omega
  | ⟨1, _⟩ => show win0_0.index t 1 * 2048 + 1 * k.val = q.val; rw [(idx0 t).2]; omega

theorem read_b (X : Vec Ideal S4096x2816 .bf16) (t : Fin cfg0.N) (k : Fin 2048) (j : Fin 1408) (p : Fin 4096) (q : Fin 2816)
    (hp : p.val = t.val % 2 * 2048 + k.val) (hq : q.val = t.val / 2 * 1408 + j.val) :
    (((cfg0.win 1).blk t).view.read (Elt Ideal) X : Vec Ideal S2048x1408 .bf16) (ix2 k j) = X (ix2 p q) := by
  rw [View.read_apply]
  show X _ = X _
  congr 1
  funext a
  apply Fin.ext
  match a with
  | ⟨0, _⟩ => show win0_1.index t 0 * 2048 + 1 * k.val = p.val; rw [(idx1 t).1]; omega
  | ⟨1, _⟩ => show win0_1.index t 1 * 1408 + 1 * j.val = q.val; rw [(idx1 t).2]; omega

theorem read_out (X : Vec Ideal S4x1024x1408 .f32) (t : Fin cfg0.N) (i : Fin 1024) (j : Fin 1408) (p : Fin 4)
    (hp : p.val = t.val / 2) :
    (((cfg0.win 2).blk t).view.read (Elt Ideal) X : Vec Ideal S1x1024x1408 .f32) (ix3 0 i j) = X (ix3 p i j) := by
  rw [View.read_apply]
  show X _ = X _
  congr 1
  funext a
  apply Fin.ext
  match a with
  | ⟨0, _⟩ => show win0_2.index t 0 * 1 + 1 * 0 = p.val; rw [(idx2 t).1]; omega
  | ⟨1, _⟩ => show win0_2.index t 1 * 1024 + 1 * i.val = i.val; rw [(idx2 t).2.1]; omega
  | ⟨2, _⟩ => show win0_2.index t 2 * 1408 + 1 * j.val = j.val; rw [(idx2 t).2.2]; omega

variable (m : (ℓ : Loc nD τ sig) → Buf (Elt Ideal) ℓ) (c : Dev nD)

/-- The host's part: the left operand is the first argument with its rows as columns, the right one the second argument, and
    the result starts as the third. -/
theorem V_a (i : Fin 1024) (k : Fin 4096) : (V m c main_v1 : Vec Ideal S1024x4096 .bf16) (ix2 i k)
    = (m ((c.tc : Thread nD τ).loc main_arg0) : Vec Ideal S4096x1024 .f32) (ix2 k i) := by
  have e : V m c main_v1 = (truncf .bf16 (transpose S1024x4096 [1, 0] (m ((c.tc : Thread nD τ).loc main_arg0) : FVec Ideal S4096x1024 .f32)
      transposes_S4096x1024_S1024x4096_1_0 : FVec Ideal S1024x4096 .f32) bitsLt_bf16_f32 : FVec Ideal S1024x4096 .bf16) := by
    show StableHlo.after hostOps0 (fun b => m (c, b)) main_v1 = _
    after_results_simp <;> rfl
  rw [e]
  pointwise []
theorem V_b : V m c main_v2 = (m ((c.tc : Thread nD τ).loc main_arg1) : Vec Ideal S4096x2816 .f32) := by
  show StableHlo.after hostOps0 (fun b => m (c, b)) main_v2 = _
  after_results_simp <;> rfl
theorem V_out : V m c main_v3 = (m ((c.tc : Thread nD τ).loc main_arg2) : Vec Ideal S4x1024x1408 .f32) := by
  show StableHlo.after hostOps0 (fun b => m (c, b)) main_v3 = _
  after_results_simp <;> rfl

/-- A point's blocks of the two operands. -/
def blkA (t : Fin cfg0.N) : Vec Ideal S1024x2048 .bf16 := iblk m c 0 t
def blkB (t : Fin cfg0.N) : Vec Ideal S2048x1408 .bf16 := iblk m c 1 t

theorem blk_a (t : Fin cfg0.N) (i : Fin 1024) (k : Fin 2048) (q : Fin 4096) (hq : q.val = t.val % 2 * 2048 + k.val) :
    blkA m c t (ix2 i k) = (m ((c.tc : Thread nD τ).loc main_arg0) : Vec Ideal S4096x1024 .f32) (ix2 q i) := by
  exact (read_a (V m c main_v1) t i k q hq).trans (V_a m c i q)
theorem blk_b (t : Fin cfg0.N) (k : Fin 2048) (j : Fin 1408) (p : Fin 4096) (q : Fin 2816)
    (hp : p.val = t.val % 2 * 2048 + k.val) (hq : q.val = t.val / 2 * 1408 + j.val) :
    blkB m c t (ix2 k j) = (m ((c.tc : Thread nD τ).loc main_arg1) : Vec Ideal S4096x2816 .f32) (ix2 p q) := by
  exact (read_b (V m c main_v2) t k j p q hp hq).trans (congrFun (V_b m c) _)

/-- The products of two entries that a sum of the result runs over. -/
def term (A : Vec Ideal S4096x1024 .f32) (G : Vec Ideal S4096x2816 .f32) (i : Fin 1024) (j : Fin 2816) (k : Fin 4096) : EReal :=
  A (ix2 k i) * G (ix2 k j)

/-- A point's part of the sum. -/
theorem point_part (t : Fin cfg0.N) (s : ℕ) (hs : s < 2) (h : t.val % 2 = s) (i : Fin 1024) (j : Fin 1408) (q : Fin 2816)
    (hq : q.val = t.val / 2 * 1408 + j.val) :
    ∑ k : Fin 2048, blkA m c t (ix2 i k) * blkB m c t (ix2 k j)
      = ∑ k : Fin 2048, term (m ((c.tc : Thread nD τ).loc main_arg0)) (m ((c.tc : Thread nD τ).loc main_arg1)) i q
          (place (J := 2) (w := 2048) rfl s hs k) := by
  subst h
  exact Finset.sum_congr rfl fun k _ => congrArg₂ (· * ·) (blk_a m c t i k _ rfl) (blk_b m c t k j _ q rfl hq)

theorem first_point (t : Fin cfg0.N) (h : t.val % 2 = 0) (i : Fin 1024) (j : Fin 1408) :
    (outsAt0 m c t.val t.isLt).2 (ix2 i j)
      = ∑ k : Fin 2048, blkA m c t (ix2 i k) * blkB m c t (ix2 k j) := by
  rw [outsAt0_A m c t h (by omega) (by omega)]
  dsimp only
  rw [acc_first]
  exact store_apply _ _ i j

theorem next_point (t : Fin cfg0.N) (h : t.val % 2 = 1) (i : Fin 1024) (j : Fin 1408) :
    (outsAt0 m c t.val t.isLt).2 (ix2 i j)
      = (outsAt0 m c (t.val - 1) (Nat.lt_of_le_of_lt (Nat.sub_le _ _) t.isLt)).2 (ix2 i j)
        + ∑ k : Fin 2048, blkA m c t (ix2 i k) * blkB m c t (ix2 k j) := by
  rw [outsAt0_B m c t (by omega) h h]
  dsimp only
  rw [acc_last]
  exact add_apply _ _ _ i j

/-- The second point of a pair writes the whole sum. -/
theorem last_point (t : Fin cfg0.N) (h : t.val % 2 = 1) (i : Fin 1024) (j : Fin 1408) (q : Fin 2816)
    (hq : q.val = t.val / 2 * 1408 + j.val) : (outsAt0 m c t.val t.isLt).1 (ix3 0 i j)
      = ∑ k, term (m ((c.tc : Thread nD τ).loc main_arg0)) (m ((c.tc : Thread nD τ).loc main_arg1)) i q k := by
  have hlt := pt_lt t
  have e : (outsAt0 m c t.val t.isLt).1 = k0_pay4 (outsAt0 m c t.val t.isLt).2 := by
    rw [outsAt0_B m c t (by omega) h h]
    dsimp only
    rw [out_last, acc_last]
  rw [e, chip_apply]
  exact whole_sum (J := 2) (w := 2048) rfl _ (fun n hn => (outsAt0 m c n hn).2 (ix2 i j)) (t.val - 1)
    (fun n hn _ en => (first_point m c ⟨n, hn⟩ (by show n % 2 = 0; omega) i j).trans
      (point_part m c ⟨n, hn⟩ 0 _ (by show n % 2 = 0; omega) i j q (by show q.val = n / 2 * 1408 + j.val; omega)))
    (fun n hn s hs en => (next_point m c ⟨n, hn⟩ (by show n % 2 = 1; omega) i j).trans
      (congrArg _ (point_part m c ⟨n, hn⟩ (s + 1) hs (by show n % 2 = s + 1; omega) i j q (by show q.val = n / 2 * 1408 + j.val; omega))))
    t.val t.isLt (by omega) (by omega)

/-- The result array: at chip `p` of the first two the whole sums of the `p`-th half of the columns, at the last two chips what it held. -/
theorem final (X : Vec Ideal S4x1024x1408 .f32)
    (hX : ∀ (p : Fin 4) (h : p.val < 2) i j, X (ix3 p i j) = ∑ k, term (m ((c.tc : Thread nD τ).loc main_arg0))
      (m ((c.tc : Thread nD τ).loc main_arg1)) i (⟨p.val * 1408 + j.val, by omega⟩ : Fin 2816) k)
    (hY : ∀ (p : Fin 4) (h : 2 ≤ p.val) i j,
      X (ix3 p i j) = (m ((c.tc : Thread nD τ).loc main_arg2) : Vec Ideal S4x1024x1408 .f32) (ix3 p i j)) :
    (dats m 0 c).arrAt 2 cfg0.N = X := by
  funext i
  have h0 : (i 0 : Nat) < 4 := (i 0).isLt
  have h1 : (i 1 : Nat) < 1024 := (i 1).isLt
  have h2 : (i 2 : Nat) < 1408 := (i 2).isLt
  have ei : i = ix3 (i 0) (i 1) (i 2) := eq_ix3 i
  by_cases h : (i 0 : Nat) < 2
  · obtain ⟨T, eT⟩ : ∃ T : Fin cfg0.N, T.val = (i 0 : Nat) * 2 + 1 :=
      ⟨⟨(i 0 : Nat) * 2 + 1, lt_of_lt_of_eq (by omega : _ < 4) N_0.symm⟩, rfl⟩
    refine (dats m 0 c).arrAt_apply_of_mem 2 X (fun t hf => ?_) cfg0.N T i T.isLt ((flush0_2 T).mpr (by omega)) ?_
    · have h3 := (flush0_2 t).mp hf
      have hlt := pt_lt t
      rw [Value.flushed2]
      funext y
      obtain ⟨o, i, j, rfl⟩ : ∃ (o : Fin 1) (i : Fin 1024) (j : Fin 1408), y = ix3 o i j := ⟨y 0, y 1, y 2, (eq_ix3 y)⟩
      obtain rfl : o = 0 := Subsingleton.elim _ _
      refine Eq.trans ?_ (read_out X t i j ⟨t.val / 2, by omega⟩ rfl).symm
      rw [hX _ (by show t.val / 2 < 2; omega)]
      exact last_point m c t h3 i j _ rfl
    · show i ∈ ((View.whole main_v3).slice (win0_2.rect T)).set
      rw [View.set_slice_whole, Rect.mem_set_unit]
      intro a
      match a with
      | ⟨0, _⟩ => show win0_2.index T 0 * 1 ≤ (i 0 : Nat) ∧ (i 0 : Nat) < win0_2.index T 0 * 1 + 1
                  rw [(idx2 _).1]; omega
      | ⟨1, _⟩ => show win0_2.index T 1 * 1024 ≤ (i 1 : Nat) ∧ (i 1 : Nat) < win0_2.index T 1 * 1024 + 1024
                  rw [(idx2 _).2.1]; omega
      | ⟨2, _⟩ => show win0_2.index T 2 * 1408 ≤ (i 2 : Nat) ∧ (i 2 : Nat) < win0_2.index T 2 * 1408 + 1408
                  rw [(idx2 _).2.2]; omega
  · refine (Value.entry2 m c i fun t _ hi => ?_).trans ((congrFun (V_out m c) i).trans ?_)
    · change i ∈ ((View.whole main_v3).slice (win0_2.rect t)).set at hi
      rw [View.set_slice_whole, Rect.mem_set_unit] at hi
      have := hi 0
      change _ ∧ (i 0 : Nat) < win0_2.index t 0 * 1 + 1 at this
      have hlt := pt_lt t
      rw [(idx2 _).1] at this
      omega
    · rw [ei]
      exact (hY _ (by omega) _ _).symm

/-- What the reference computes, at an entry. -/
def ref (A : FVec Ideal S4096x1024 .f32) (G : FVec Ideal S4096x2816 .f32) (Z : FVec Ideal S4x1024x1408 .f32) : Vec Ideal S4x1024x1408 .f32 :=
  let dw := transpose UpWgRefIdeal.S1024x2816 [1, 0]
    (Host.dotGeneral (F := Ideal) UpWgRefIdeal.dot_S4096x2816_S4096x1024_S2816x1024_0_0_1_1_n_n none G A :
      FVec Ideal UpWgRefIdeal.S2816x1024 .f32) UpWgRefIdeal.Gen.transposes_S2816x1024_S1024x2816_1_0
  concatenate S4x1024x1408 0
    [⟨S1x1024x1408, (broadcastInDim S1x1024x1408 ![1, 2] UpWgRefIdeal.Gen.bcast_S1024x1408_S1x1024x1408_1_2
        (extractStridedSlice S1024x1408 ![0, 0] dw UpWgRefIdeal.Gen.slices_S1024x2816_S1024x1408_0_0 : FVec Ideal S1024x1408 .f32) : FVec Ideal S1x1024x1408 .f32)⟩,
     ⟨S1x1024x1408, (broadcastInDim S1x1024x1408 ![1, 2] UpWgRefIdeal.Gen.bcast_S1024x1408_S1x1024x1408_1_2
        (extractStridedSlice S1024x1408 ![0, 1408] dw UpWgRefIdeal.Gen.slices_S1024x2816_S1024x1408_0_1408 : FVec Ideal S1024x1408 .f32) : FVec Ideal S1x1024x1408 .f32)⟩,
     ⟨S1x1024x1408, (broadcastInDim S1x1024x1408 ![1, 2] UpWgRefIdeal.Gen.bcast_S1024x1408_S1x1024x1408_1_2
        (shapeCast S1024x1408 (extractStridedSlice S1x1024x1408 ![2, 0, 0] Z UpWgRefIdeal.Gen.slices_S4x1024x1408_S1x1024x1408_2_0_0 :
          FVec Ideal S1x1024x1408 .f32) UpWgRefIdeal.Gen.shapeCasts_S1x1024x1408_S1024x1408 : FVec Ideal S1024x1408 .f32) : FVec Ideal S1x1024x1408 .f32)⟩,
     ⟨S1x1024x1408, (broadcastInDim S1x1024x1408 ![1, 2] UpWgRefIdeal.Gen.bcast_S1024x1408_S1x1024x1408_1_2
        (shapeCast S1024x1408 (extractStridedSlice S1x1024x1408 ![3, 0, 0] Z UpWgRefIdeal.Gen.slices_S4x1024x1408_S1x1024x1408_3_0_0 :
          FVec Ideal S1x1024x1408 .f32) UpWgRefIdeal.Gen.shapeCasts_S1x1024x1408_S1024x1408 : FVec Ideal S1024x1408 .f32) : FVec Ideal S1x1024x1408 .f32)⟩]
    UpWgRefIdeal.Gen.concatenates_S1x1024x1408_S1x1024x1408_S1x1024x1408_S1x1024x1408_S4x1024x1408_d0

theorem ref_sum (A : FVec Ideal S4096x1024 .f32) (G : FVec Ideal S4096x2816 .f32) (Z : FVec Ideal S4x1024x1408 .f32) (p : Fin 4) (h : p.val < 2)
    (i : Fin 1024) (j : Fin 1408) :
    ref A G Z (ix3 p i j) = ∑ k, term A G i (⟨p.val * 1408 + j.val, by omega⟩ : Fin 2816) k := by
  fin_cases p
  · pointwise [ref]
    exact Finset.sum_congr rfl fun k _ => mul_comm _ _
  · pointwise [ref]
    exact Finset.sum_congr rfl fun k _ => mul_comm _ _
  · exact absurd h (by decide)
  · exact absurd h (by decide)

theorem ref_kept (A : FVec Ideal S4096x1024 .f32) (G : FVec Ideal S4096x2816 .f32) (Z : FVec Ideal S4x1024x1408 .f32) (p : Fin 4) (h : 2 ≤ p.val)
    (i : Fin 1024) (j : Fin 1408) : ref A G Z (ix3 p i j) = Z (ix3 p i j) := by
  fin_cases p
  · exact absurd h (by decide)
  · exact absurd h (by decide)
  · pointwise [ref]
  · pointwise [ref]

theorem algebraic : @algebraic_UpWgIdeal_UpWgRefIdeal Cert.UpWgIdeal.Gen.facts Cert.UpWgRefIdeal.Gen.facts := by
  intro m ρ m' ρ' _ hagree
  refine ⟨fun c => ref (m' ((c.tc : Thread UpWgRefIdeal.nD UpWgRefIdeal.τ).loc UpWgRefIdeal.main_arg0))
    (m' ((c.tc : Thread UpWgRefIdeal.nD UpWgRefIdeal.τ).loc UpWgRefIdeal.main_arg1))
    (m' ((c.tc : Thread UpWgRefIdeal.nD UpWgRefIdeal.τ).loc UpWgRefIdeal.main_arg2)), ?_,
    (θ_run Cert.UpWgRefIdeal.defs _ _).mono (fun r h c => h c) (UpWgRefIdeal.Value.run m' ρ')⟩
  refine (θ_run Cert.UpWgIdeal.defs _ _).mono (fun r h c => ?_) (Value.run_blocks m ρ)
  obtain ⟨e, k⟩ := h c
  obtain ⟨a0, a1, a2⟩ := hagree c
  exact ⟨e.trans (final m c _ (fun p h i j => (ref_sum _ _ _ p h i j).trans (by rw [← a0, ← a1]))
    (fun p h i j => (ref_kept _ _ _ p h i j).trans (by rw [← a2]))), k⟩

end Cert.UpGateWeight

end
-- ==== Proof.DownInput.lean ====
module

public import proofs.«01_k».proof.Defs
public import proofs.«01_k».proof.Proof.Gen.DownAIdeal.Value
public import proofs.«01_k».proof.Proof.Gen.DownARefIdeal.Run
public import proofs.«01_k».proof.Proof.Gen.DownA
public import proofs.«01_k».proof.Proof.Products
public import Idealize.ShloMosaic.Lib.Pipeline.ValueKit.Acc
public import Idealize.ShloMosaic.Lib.Pipeline.ValueKit.Tiles
public import Idealize.ShloMosaic.Lib.Pointwise

/-!
# The input gradient of the down product

Point `t` of the eight writes the `t / 2`-th quarter of the rows and the `t % 2`-th half of the columns, each entry a whole
sum over the 1024 outputs of the product.
-/

@[expose] public section

set_option maxRecDepth 16384

noncomputable section

namespace Cert.DownInput

open scoped BigOperators
open Idealize.ShloMosaic Idealize.ShloMosaic.TcCoe Idealize.SL.Sem Cert.DownAIdeal Cert.DownAIdeal.Gen Cert.Products

/-- A block product at an entry. -/
theorem store_apply (a : Vec Ideal S1024x1024 .bf16) (b : Vec Ideal S1408x1024 .bf16) (i : Fin 1024) (j : Fin 1408) :
    k0_pay1 a b (ix2 i j) = ∑ k : Fin 1024, a (ix2 i k) * b (ix2 j k) := by
  pointwise [k0_pay1]

/-- What a point writes. -/
theorem out_point (x0 : Vec Ideal S1024x1024 .bf16) (x1 : Vec Ideal S1408x1024 .bf16) : out0_2 x0 x1 = k0_pay1 x0 x1 := by
  unfold out0_2
  rw [View.canon_cons_unit_zero (S := S1024x1408) hz]
  rw [View.ld_unit_zero (S := S1024x1024) hz, View.ld_unit_zero (S := S1408x1024) hz]

theorem pt_lt (t : Fin cfg0.N) : t.val < 8 := lt_of_lt_of_eq t.isLt N_0

theorem idx0 : ∀ t : Fin cfg0.N, win0_0.index t 0 = t.val / 2 ∧ win0_0.index t 1 = 0 :=
  (by decide +kernel : ∀ t : Fin grid0.N, win0_0.index t 0 = t.val / 2 ∧ win0_0.index t 1 = 0)
theorem idx1 : ∀ t : Fin cfg0.N, win0_1.index t 0 = t.val % 2 ∧ win0_1.index t 1 = 0 :=
  (by decide +kernel : ∀ t : Fin grid0.N, win0_1.index t 0 = t.val % 2 ∧ win0_1.index t 1 = 0)
theorem idx2 : ∀ t : Fin cfg0.N, win0_2.index t 0 = t.val / 2 ∧ win0_2.index t 1 = t.val % 2 :=
  (by decide +kernel : ∀ t : Fin grid0.N, win0_2.index t 0 = t.val / 2 ∧ win0_2.index t 1 = t.val % 2)

/-- An entry of a point's block of the left operand, of the right one, and of the result. -/
theorem read_a (X : Vec Ideal S4096x1024 .bf16) (t : Fin cfg0.N) (i : Fin 1024) (k : Fin 1024) (p : Fin 4096)
    (hp : p.val = t.val / 2 * 1024 + i.val) :
    (((cfg0.win 0).blk t).view.read (Elt Ideal) X : Vec Ideal S1024x1024 .bf16) (ix2 i k) = X (ix2 p k) := by
  rw [View.read_apply]
  show X _ = X _
  congr 1
  funext a
  apply Fin.ext
  match a with
  | ⟨0, _⟩ => show win0_0.index t 0 * 1024 + 1 * i.val = p.val; rw [(idx0 t).1]; omega
  | ⟨1, _⟩ => show win0_0.index t 1 * 1024 + 1 * k.val = k.val; rw [(idx0 t).2]; omega

theorem read_b (X : Vec Ideal S2816x1024 .bf16) (t : Fin cfg0.N) (j : Fin 1408) (k : Fin 1024) (q : Fin 2816)
    (hq : q.val = t.val % 2 * 1408 + j.val) :
    (((cfg0.win 1).blk t).view.read (Elt Ideal) X : Vec Ideal S1408x1024 .bf16) (ix2 j k) = X (ix2 q k) := by
  rw [View.read_apply]
  show X _ = X _
  congr 1
  funext a
  apply Fin.ext
  match a with
  | ⟨0, _⟩ => show win0_1.index t 0 * 1408 + 1 * j.val = q.val; rw [(idx1 t).1]; omega
  | ⟨1, _⟩ => show win0_1.index t 1 * 1024 + 1 * k.val = k.val; rw [(idx1 t).2]; omega

theorem read_out (X : Vec Ideal S4096x2816 .f32) (t : Fin cfg0.N) (i : Fin 1024) (j : Fin 1408) (p : Fin 4096) (q : Fin 2816)
    (hp : p.val = t.val / 2 * 1024 + i.val) (hq : q.val = t.val % 2 * 1408 + j.val) :
    (((cfg0.win 2).blk t).view.read (Elt Ideal) X : Vec Ideal S1024x1408 .f32) (ix2 i j) = X (ix2 p q) := by
  rw [View.read_apply]
  show X _ = X _
  congr 1
  funext a
  apply Fin.ext
  match a with
  | ⟨0, _⟩ => show win0_2.index t 0 * 1024 + 1 * i.val = p.val; rw [(idx2 t).1]; omega
  | ⟨1, _⟩ => show win0_2.index t 1 * 1408 + 1 * j.val = q.val; rw [(idx2 t).2]; omega

variable (m : (ℓ : Loc nD τ sig) → Buf (Elt Ideal) ℓ) (c : Dev nD)

/-- The host's part: the operands are the arguments. -/
theorem V_a : V m c main_v0 = (m ((c.tc : Thread nD τ).loc main_arg1) : Vec Ideal S4096x1024 .f32) := by
  show StableHlo.after hostOps0 (fun b => m (c, b)) main_v0 = _
  after_results_simp <;> rfl
theorem V_b : V m c main_v1 = (m ((c.tc : Thread nD τ).loc main_arg0) : Vec Ideal S2816x1024 .f32) := by
  show StableHlo.after hostOps0 (fun b => m (c, b)) main_v1 = _
  after_results_simp <;> rfl

/-- A point's blocks of the two operands. -/
def blkA (t : Fin cfg0.N) : Vec Ideal S1024x1024 .bf16 := iblk m c 0 t
def blkB (t : Fin cfg0.N) : Vec Ideal S1408x1024 .bf16 := iblk m c 1 t

theorem blk_a (t : Fin cfg0.N) (i : Fin 1024) (k : Fin 1024) (p : Fin 4096) (hp : p.val = t.val / 2 * 1024 + i.val) :
    blkA m c t (ix2 i k) = (m ((c.tc : Thread nD τ).loc main_arg1) : Vec Ideal S4096x1024 .f32) (ix2 p k) := by
  exact (read_a (V m c main_v0) t i k p hp).trans (congrFun (V_a m c) _)
theorem blk_b (t : Fin cfg0.N) (j : Fin 1408) (k : Fin 1024) (q : Fin 2816) (hq : q.val = t.val % 2 * 1408 + j.val) :
    blkB m c t (ix2 j k) = (m ((c.tc : Thread nD τ).loc main_arg0) : Vec Ideal S2816x1024 .f32) (ix2 q k) := by
  exact (read_b (V m c main_v1) t j k q hq).trans (congrFun (V_b m c) _)

/-- The products of two entries that a sum of the result runs over. -/
def term (W : Vec Ideal S2816x1024 .f32) (G : Vec Ideal S4096x1024 .f32) (i : Fin 4096) (j : Fin 2816) (k : Fin 1024) : EReal :=
  G (ix2 i k) * W (ix2 j k)

/-- A point's block of the result. -/
theorem point_sum (t : Fin cfg0.N) (i : Fin 1024) (j : Fin 1408) (p : Fin 4096) (q : Fin 2816)
    (hp : p.val = t.val / 2 * 1024 + i.val) (hq : q.val = t.val % 2 * 1408 + j.val) :
    out0_2 (iblk m c 0 t) (iblk m c 1 t) (ix2 i j)
      = ∑ k, term (m ((c.tc : Thread nD τ).loc main_arg0)) (m ((c.tc : Thread nD τ).loc main_arg1)) p q k := by
  rw [out_point]
  exact (store_apply (blkA m c t) (blkB m c t) i j).trans
    (Finset.sum_congr rfl fun k _ => congrArg₂ (· * ·) (blk_a m c t i k p hp) (blk_b m c t j k q hq))

/-- The point that writes row `p` and column `q`. -/
def ptOf (p : Fin 4096) (q : Fin 2816) : Fin cfg0.N :=
  ⟨p.val / 1024 * 2 + q.val / 1408, lt_of_lt_of_eq (by omega : _ < 8) N_0.symm⟩

/-- The result array: at row `i` and column `j` the whole sum. -/
theorem final (X : Vec Ideal S4096x2816 .f32) (hX : ∀ i j, X (ix2 i j)
      = ∑ k, term (m ((c.tc : Thread nD τ).loc main_arg0)) (m ((c.tc : Thread nD τ).loc main_arg1)) i j k) :
    (dats m 0 c).arrAt 2 cfg0.N = X :=
  (dats m 0 c).arrAt_eq_of_cover 2 X (fun t _ => by
      have hlt := pt_lt t
      rw [Value.flushed2]
      funext y
      obtain ⟨i, j, rfl⟩ : ∃ (i : Fin 1024) (j : Fin 1408), y = ix2 i j := ⟨y 0, y 1, (eq_ix2 y)⟩
      refine Eq.trans ?_ (read_out X t i j ⟨t.val / 2 * 1024 + i.val, by omega⟩ ⟨t.val % 2 * 1408 + j.val, by omega⟩ rfl rfl).symm
      rw [hX]
      exact point_sum m c t i j _ _ rfl rfl) fun i =>
    ⟨ptOf (i 0) (i 1), flush0_2 _, by
      show i ∈ ((View.whole main_v2).slice (win0_2.rect (ptOf (i 0) (i 1)))).set
      rw [View.set_slice_whole, Rect.mem_set_unit]
      have h0 : (i 0 : Nat) < 4096 := (i 0).isLt
      have h1 : (i 1 : Nat) < 2816 := (i 1).isLt
      have e : (ptOf (i 0) (i 1)).val = (i 0 : Nat) / 1024 * 2 + (i 1 : Nat) / 1408 := rfl
      intro a
      match a with
      | ⟨0, _⟩ => show win0_2.index (ptOf (i 0) (i 1)) 0 * 1024 ≤ (i 0 : Nat) ∧ (i 0 : Nat) < win0_2.index (ptOf (i 0) (i 1)) 0 * 1024 + 1024
                  rw [(idx2 _).1]; rw [e]; omega
      | ⟨1, _⟩ => show win0_2.index (ptOf (i 0) (i 1)) 1 * 1408 ≤ (i 1 : Nat) ∧ (i 1 : Nat) < win0_2.index (ptOf (i 0) (i 1)) 1 * 1408 + 1408
                  rw [(idx2 _).2]; rw [e]; omega⟩

/-- What the reference computes, at an entry. -/
def ref (W : FVec Ideal S2816x1024 .f32) (G : FVec Ideal S4096x1024 .f32) : Vec Ideal S4096x2816 .f32 :=
  Host.dotGeneral (F := Ideal) DownARefIdeal.dot_S4096x1024_S2816x1024_S4096x2816_1_1_0_0_n_n none G W

theorem ref_apply (W : FVec Ideal S2816x1024 .f32) (G : FVec Ideal S4096x1024 .f32) (i : Fin 4096) (j : Fin 2816) :
    ref W G (ix2 i j) = ∑ k, term W G i j k := by
  pointwise [ref]
  rfl

theorem algebraic : @algebraic_DownAIdeal_DownARefIdeal Cert.DownAIdeal.Gen.facts Cert.DownARefIdeal.Gen.facts := by
  intro m ρ m' ρ' _ hagree
  refine ⟨fun c => ref (m' ((c.tc : Thread DownARefIdeal.nD DownARefIdeal.τ).loc DownARefIdeal.main_arg0))
    (m' ((c.tc : Thread DownARefIdeal.nD DownARefIdeal.τ).loc DownARefIdeal.main_arg1)), ?_,
    (θ_run Cert.DownARefIdeal.defs _ _).mono (fun r h c => h c) (DownARefIdeal.Value.run m' ρ')⟩
  refine (θ_run Cert.DownAIdeal.defs _ _).mono (fun r h c => ?_) (Value.run_blocks m ρ)
  obtain ⟨e, k0, k1⟩ := h c
  obtain ⟨a0, a1⟩ := hagree c
  exact ⟨e.trans (final m c _ fun i j => (ref_apply _ _ i j).trans (by rw [← a0, ← a1])), k0, k1⟩

end Cert.DownInput

end
-- ==== Proof.DownWeight.lean ====
module

public import proofs.«01_k».proof.Defs
public import proofs.«01_k».proof.Proof.Gen.DownWIdeal.Value
public import proofs.«01_k».proof.Proof.Gen.DownWRefIdeal.Run
public import proofs.«01_k».proof.Proof.Gen.DownW
public import proofs.«01_k».proof.Proof.Products
public import Idealize.ShloMosaic.Lib.Pipeline.ValueKit.Acc
public import Idealize.ShloMosaic.Lib.Pipeline.ValueKit.Tiles
public import Idealize.ShloMosaic.Lib.Pointwise

/-!
# The weight gradient of the down product

Point `t` of the eight works on the `t / 4`-th half of the rows and on the `t % 4`-th quarter of the 4096 tokens that the
sum runs over.
-/

@[expose] public section

set_option maxRecDepth 16384

noncomputable section

namespace Cert.DownWeight

open scoped BigOperators
open Idealize.ShloMosaic Idealize.ShloMosaic.TcCoe Idealize.SL.Sem Cert.DownWIdeal Cert.DownWIdeal.Gen Cert.Products

/-- A block product at an entry. -/
theorem part_apply (a : Vec Ideal S1024x1408 .bf16) (b : Vec Ideal S1024x1024 .bf16) (i : Fin 1408) (j : Fin 1024) :
    k0_pay1 a b (ix2 i j) = ∑ k : Fin 1024, a (ix2 k i) * b (ix2 k j) := by
  pointwise [k0_pay1]

theorem store_apply (a : Vec Ideal S1024x1408 .bf16) (b : Vec Ideal S1024x1024 .bf16) (i : Fin 1408) (j : Fin 1024) :
    k0_pay2 a b (ix2 i j) = ∑ k : Fin 1024, a (ix2 k i) * b (ix2 k j) := by
  pointwise [k0_pay2]
  exact part_apply a b i j

theorem add_apply (a : Vec Ideal S1024x1408 .bf16) (b : Vec Ideal S1024x1024 .bf16) (x : Vec Ideal S1408x1024 .f32)
    (i : Fin 1408) (j : Fin 1024) :
    k0_pay3 a b x (ix2 i j) = x (ix2 i j) + ∑ k : Fin 1024, a (ix2 k i) * b (ix2 k j) := by
  pointwise [k0_pay3]
  exact congrArg _ (part_apply a b i j)

theorem readCov_whole {sg : RefSig} {κ : Kind} {sp : Space} (v : View sg κ sp S1408x1024 .f32) (w : Vec Ideal S1408x1024 .f32)
    (L : List (View.Piece (Elt Ideal) S1408x1024 .f32)) (hin hin') :
    v.readCov ((⟨Rect.unit ![0, 0] ![1408, 1024] hin, w⟩ : View.Piece (Elt Ideal) S1408x1024 .f32) :: L)
      (Rect.unit ![0, 0] ![1408, 1024] hin').toLoadRect = w :=
  View.readCov_cons_unit_lit' (S := S1408x1024) v hin hin' w L (fun a => by fin_cases a <;> rfl) (fun a => by fin_cases a <;> rfl)

section out
variable (c : Dev nD) (i : grid0.Coords)
  (arg3 : Memref sig .tc .vmem S1024x1408 .bf16) (harg3 : arg3.IsWhole)
  (arg4 : Memref sig .tc .vmem S1024x1024 .bf16) (harg4 : arg4.IsWhole)
  (arg5 : Memref sig .tc .vmem S1408x1024 .f32) (harg5 : arg5.IsWhole)
  (arg6 : Memref sig .tc .vmem S1408x1024 .f32) (harg6 : arg6.IsWhole)
  (x0 : Vec Ideal S1024x1408 .bf16) (x1 : Vec Ideal S1024x1024 .bf16) (xs : Vec Ideal S1408x1024 .f32)

/-- What the first point of a run leaves in the accumulator, and what a later one does. -/
theorem acc_first (h0 : cond0_0 i) (h1 : ¬cond0_1 i) (h2 : ¬cond0_2 i) :
    sout0_A_0 c i arg3 harg3 arg4 harg4 arg5 harg5 arg6 harg6 h0 h1 h2 x0 x1 = k0_pay2 x0 x1 := by
  unfold sout0_A_0
  rw [View.read_writes_eq_canon _ _ _ (scover0_A_0 c i arg3 harg3 arg4 harg4 arg5 harg5 arg6 harg6 h0 h1 h2 x0 x1)]
  unfold kernelRun0_A
  dsimp only
  sl_unfold_words
  rw [View.canon_cons_unit_zero (S := S1408x1024) hz]
  simp only [View.readAt_eq_ld, harg3.read_unread, harg4.read_unread, View.ld_unit_zero (S := S1024x1408) hz,
    View.ld_unit_zero (S := S1024x1024) hz]

theorem acc_mid (h0 : ¬cond0_0 i) (h1 : cond0_1 i) (h2 : ¬cond0_2 i) :
    sout0_B_0 c i arg3 harg3 arg4 harg4 arg5 harg5 arg6 harg6 h0 h1 h2 x0 x1 xs = k0_pay3 x0 x1 xs := by
  unfold sout0_B_0
  rw [View.read_writes_eq_canon _ _ _ (scover0_B_0 c i arg3 harg3 arg4 harg4 arg5 harg5 arg6 harg6 h0 h1 h2 x0 x1 xs)]
  unfold kernelRun0_B
  dsimp only
  sl_unfold_words
  rw [View.canon_cons_unit_zero (S := S1408x1024) hz]
  simp only [View.readAt_eq_ld, harg3.read_unread, harg4.read_unread, harg6.read_unread, View.ld_unit_zero (S := S1024x1408) hz,
    View.ld_unit_zero (S := S1024x1024) hz, View.ld_unit_zero (S := S1408x1024) hz]

theorem acc_last (h0 : ¬cond0_0 i) (h1 : cond0_1 i) (h2 : cond0_2 i) :
    sout0_C_0 c i arg3 harg3 arg4 harg4 arg5 harg5 arg6 harg6 h0 h1 h2 x0 x1 xs = k0_pay3 x0 x1 xs := by
  unfold sout0_C_0
  rw [View.read_writes_eq_canon _ _ _ (scover0_C_0 c i arg3 harg3 arg4 harg4 arg5 harg5 arg6 harg6 h0 h1 h2 x0 x1 xs)]
  unfold kernelRun0_C
  dsimp only
  sl_unfold_words
  rw [View.canon_cons_unit_zero (S := S1408x1024) hz]
  simp only [View.readAt_eq_ld, harg3.read_unread, harg4.read_unread, harg6.read_unread, View.ld_unit_zero (S := S1024x1408) hz,
    View.ld_unit_zero (S := S1024x1024) hz, View.ld_unit_zero (S := S1408x1024) hz]

/-- The last point of a run writes the accumulator out. -/
theorem out_last (h0 : ¬cond0_0 i) (h1 : cond0_1 i) (h2 : cond0_2 i) :
    out0_C_2 c i arg3 harg3 arg4 harg4 arg5 harg5 arg6 harg6 h0 h1 h2 x0 x1 xs = k0_pay3 x0 x1 xs := by
  unfold out0_C_2
  rw [View.read_writes_eq_canon _ _ _ (cover0_C_2 c i arg3 harg3 arg4 harg4 arg5 harg5 arg6 harg6 h0 h1 h2 x0 x1 xs)]
  unfold kernelRun0_C
  dsimp only
  sl_unfold_words
  rw [View.canon_cons_unit_zero (S := S1408x1024) hz]
  simp only [readCov_whole, View.readAt_eq_ld, harg3.read_unread, harg4.read_unread, harg6.read_unread, View.ld_unit_zero (S := S1024x1408) hz,
    View.ld_unit_zero (S := S1024x1024) hz, View.ld_unit_zero (S := S1408x1024) hz]
end out

theorem pt_lt (t : Fin cfg0.N) : t.val < 8 := lt_of_lt_of_eq t.isLt N_0

theorem idx0 : ∀ t : Fin cfg0.N, win0_0.index t 0 = t.val % 4 ∧ win0_0.index t 1 = t.val / 4 :=
  (by decide +kernel : ∀ t : Fin grid0.N, win0_0.index t 0 = t.val % 4 ∧ win0_0.index t 1 = t.val / 4)
theorem idx1 : ∀ t : Fin cfg0.N, win0_1.index t 0 = t.val % 4 ∧ win0_1.index t 1 = 0 :=
  (by decide +kernel : ∀ t : Fin grid0.N, win0_1.index t 0 = t.val % 4 ∧ win0_1.index t 1 = 0)
theorem idx2 : ∀ t : Fin cfg0.N, win0_2.index t 0 = t.val / 4 ∧ win0_2.index t 1 = 0 :=
  (by decide +kernel : ∀ t : Fin grid0.N, win0_2.index t 0 = t.val / 4 ∧ win0_2.index t 1 = 0)

/-- An entry of a point's block of the left operand, of the right one, and of the result. -/
theorem read_a (X : Vec Ideal S4096x2816 .bf16) (t : Fin cfg0.N) (k : Fin 1024) (i : Fin 1408) (p : Fin 4096) (q : Fin 2816)
    (hp : p.val = t.val % 4 * 1024 + k.val) (hq : q.val = t.val / 4 * 1408 + i.val) :
    (((cfg0.win 0).blk t).view.read (Elt Ideal) X : Vec Ideal S1024x1408 .bf16) (ix2 k i) = X (ix2 p q) := by
  rw [View.read_apply]
  show X _ = X _
  congr 1
  funext a
  apply Fin.ext
  match a with
  | ⟨0, _⟩ => show win0_0.index t 0 * 1024 + 1 * k.val = p.val; rw [(idx0 t).1]; omega
  | ⟨1, _⟩ => show win0_0.index t 1 * 1408 + 1 * i.val = q.val; rw [(idx0 t).2]; omega

theorem read_b (X : Vec Ideal S4096x1024 .bf16) (t : Fin cfg0.N) (k : Fin 1024) (j : Fin 1024) (p : Fin 4096)
    (hp : p.val = t.val % 4 * 1024 + k.val) :
    (((cfg0.win 1).blk t).view.read (Elt Ideal) X : Vec Ideal S1024x1024 .bf16) (ix2 k j) = X (ix2 p j) := by
  rw [View.read_apply]
  show X _ = X _
  congr 1
  funext a
  apply Fin.ext
  match a with
  | ⟨0, _⟩ => show win0_1.index t 0 * 1024 + 1 * k.val = p.val; rw [(idx1 t).1]; omega
  | ⟨1, _⟩ => show win0_1.index t 1 * 1024 + 1 * j.val = j.val; rw [(idx1 t).2]; omega

theorem read_out (X : Vec Ideal S2816x1024 .f32) (t : Fin cfg0.N) (i : Fin 1408) (j : Fin 1024) (p : Fin 2816)
    (hp : p.val = t.val / 4 * 1408 + i.val) :
    (((cfg0.win 2).blk t).view.read (Elt Ideal) X : Vec Ideal S1408x1024 .f32) (ix2 i j) = X (ix2 p j) := by
  rw [View.read_apply]
  show X _ = X _
  congr 1
  funext a
  apply Fin.ext
  match a with
  | ⟨0, _⟩ => show win0_2.index t 0 * 1408 + 1 * i.val = p.val; rw [(idx2 t).1]; omega
  | ⟨1, _⟩ => show win0_2.index t 1 * 1024 + 1 * j.val = j.val; rw [(idx2 t).2]; omega

variable (m : (ℓ : Loc nD τ sig) → Buf (Elt Ideal) ℓ) (c : Dev nD)

/-- The host's part: the operands are the arguments. -/
theorem V_a : V m c main_v0 = (m ((c.tc : Thread nD τ).loc main_arg0) : Vec Ideal S4096x2816 .f32) := by
  show StableHlo.after hostOps0 (fun b => m (c, b)) main_v0 = _
  after_results_simp <;> rfl
theorem V_b : V m c main_v1 = (m ((c.tc : Thread nD τ).loc main_arg1) : Vec Ideal S4096x1024 .f32) := by
  show StableHlo.after hostOps0 (fun b => m (c, b)) main_v1 = _
  after_results_simp <;> rfl

/-- A point's blocks of the two operands. -/
def blkA (t : Fin cfg0.N) : Vec Ideal S1024x1408 .bf16 := iblk m c 0 t
def blkB (t : Fin cfg0.N) : Vec Ideal S1024x1024 .bf16 := iblk m c 1 t

theorem blk_a (t : Fin cfg0.N) (k : Fin 1024) (i : Fin 1408) (p : Fin 4096) (q : Fin 2816)
    (hp : p.val = t.val % 4 * 1024 + k.val) (hq : q.val = t.val / 4 * 1408 + i.val) :
    blkA m c t (ix2 k i) = (m ((c.tc : Thread nD τ).loc main_arg0) : Vec Ideal S4096x2816 .f32) (ix2 p q) := by
  exact (read_a (V m c main_v0) t k i p q hp hq).trans (congrFun (V_a m c) _)
theorem blk_b (t : Fin cfg0.N) (k : Fin 1024) (j : Fin 1024) (p : Fin 4096) (hp : p.val = t.val % 4 * 1024 + k.val) :
    blkB m c t (ix2 k j) = (m ((c.tc : Thread nD τ).loc main_arg1) : Vec Ideal S4096x1024 .f32) (ix2 p j) := by
  exact (read_b (V m c main_v1) t k j p hp).trans (congrFun (V_b m c) _)

/-- The products of two entries that a sum of the result runs over. -/
def term (A : Vec Ideal S4096x2816 .f32) (B : Vec Ideal S4096x1024 .f32) (i : Fin 2816) (j : Fin 1024) (k : Fin 4096) : EReal :=
  A (ix2 k i) * B (ix2 k j)

/-- A point's part of the sum. -/
theorem point_part (t : Fin cfg0.N) (s : ℕ) (hs : s < 4) (h : t.val % 4 = s) (i : Fin 1408) (j : Fin 1024) (p : Fin 2816)
    (hp : p.val = t.val / 4 * 1408 + i.val) :
    ∑ k : Fin 1024, blkA m c t (ix2 k i) * blkB m c t (ix2 k j)
      = ∑ k : Fin 1024, term (m ((c.tc : Thread nD τ).loc main_arg0)) (m ((c.tc : Thread nD τ).loc main_arg1)) p j
          (place (J := 4) (w := 1024) rfl s hs k) := by
  subst h
  exact Finset.sum_congr rfl fun k _ => congrArg₂ (· * ·) (blk_a m c t k i _ p rfl hp) (blk_b m c t k j _ rfl)

theorem first_point (t : Fin cfg0.N) (h : t.val % 4 = 0) (i : Fin 1408) (j : Fin 1024) :
    (outsAt0 m c t.val t.isLt).2 (ix2 i j)
      = ∑ k : Fin 1024, blkA m c t (ix2 k i) * blkB m c t (ix2 k j) := by
  rw [outsAt0_A m c t h (by omega) (by omega)]
  dsimp only
  rw [acc_first]
  exact store_apply _ _ i j

theorem next_point (t : Fin cfg0.N) (h : t.val % 4 ≠ 0) (i : Fin 1408) (j : Fin 1024) :
    (outsAt0 m c t.val t.isLt).2 (ix2 i j)
      = (outsAt0 m c (t.val - 1) (Nat.lt_of_le_of_lt (Nat.sub_le _ _) t.isLt)).2 (ix2 i j)
        + ∑ k : Fin 1024, blkA m c t (ix2 k i) * blkB m c t (ix2 k j) := by
  by_cases h3 : t.val % 4 = 3
  · rw [outsAt0_C m c t h (by omega) h3]
    dsimp only
    rw [acc_last]
    exact add_apply _ _ _ i j
  · rw [outsAt0_B m c t h (by omega) h3]
    dsimp only
    rw [acc_mid]
    exact add_apply _ _ _ i j

/-- The last point of a run writes the whole sum. -/
theorem last_point (t : Fin cfg0.N) (h : t.val % 4 = 3) (i : Fin 1408) (j : Fin 1024) (p : Fin 2816)
    (hp : p.val = t.val / 4 * 1408 + i.val) : (outsAt0 m c t.val t.isLt).1 (ix2 i j) = ∑ k, term (m ((c.tc : Thread nD τ).loc main_arg0)) (m ((c.tc : Thread nD τ).loc main_arg1)) p j k := by
  have hlt := pt_lt t
  have e : (outsAt0 m c t.val t.isLt).1 = (outsAt0 m c t.val t.isLt).2 := by
    rw [outsAt0_C m c t (by omega) (by omega) h]
    dsimp only
    rw [out_last, acc_last]
  rw [e]
  exact whole_sum (J := 4) (w := 1024) rfl _ (fun n hn => (outsAt0 m c n hn).2 (ix2 i j)) (t.val - 3)
    (fun n hn _ en => (first_point m c ⟨n, hn⟩ (by show n % 4 = 0; omega) i j).trans
      (point_part m c ⟨n, hn⟩ 0 _ (by show n % 4 = 0; omega) i j p (by show p.val = n / 4 * 1408 + i.val; omega)))
    (fun n hn s hs en => (next_point m c ⟨n, hn⟩ (by show n % 4 ≠ 0; omega) i j).trans
      (congrArg _ (point_part m c ⟨n, hn⟩ (s + 1) hs (by show n % 4 = s + 1; omega) i j p (by show p.val = n / 4 * 1408 + i.val; omega))))
    t.val t.isLt (by omega) (by omega)

/-- The point that writes row `y`. -/
def ptOf (y : Fin 2816) : Fin cfg0.N := ⟨y.val / 1408 * 4 + 3, lt_of_lt_of_eq (by omega : _ < 8) N_0.symm⟩

/-- The result array: at row `i` and column `j` the whole sum. -/
theorem final (X : Vec Ideal S2816x1024 .f32) (hX : ∀ i j, X (ix2 i j) = ∑ k, term (m ((c.tc : Thread nD τ).loc main_arg0)) (m ((c.tc : Thread nD τ).loc main_arg1)) i j k) :
    (dats m 0 c).arrAt 2 cfg0.N = X :=
  (dats m 0 c).arrAt_eq_of_cover 2 X (fun t hf => by
      have h3 := (flush0_2 t).mp hf
      have hlt := pt_lt t
      rw [Value.flushed2]
      funext y
      obtain ⟨i, j, rfl⟩ : ∃ (i : Fin 1408) (j : Fin 1024), y = ix2 i j := ⟨y 0, y 1, (eq_ix2 y)⟩
      refine Eq.trans ?_ (read_out X t i j ⟨t.val / 4 * 1408 + i.val, by omega⟩ rfl).symm
      rw [hX]
      exact last_point m c t h3 i j _ rfl) fun i =>
    ⟨ptOf (i 0), (flush0_2 _).mpr (by show ((i 0 : Nat) / 1408 * 4 + 3) % 4 = 3; omega), by
      show i ∈ ((View.whole main_v2).slice (win0_2.rect (ptOf (i 0)))).set
      rw [View.set_slice_whole, Rect.mem_set_unit]
      have h0 : (i 0 : Nat) < 2816 := (i 0).isLt
      have h1 : (i 1 : Nat) < 1024 := (i 1).isLt
      have e : (ptOf (i 0)).val = (i 0 : Nat) / 1408 * 4 + 3 := rfl
      intro a
      match a with
      | ⟨0, _⟩ => show win0_2.index (ptOf (i 0)) 0 * 1408 ≤ (i 0 : Nat) ∧ (i 0 : Nat) < win0_2.index (ptOf (i 0)) 0 * 1408 + 1408
                  rw [(idx2 _).1]; rw [e]; omega
      | ⟨1, _⟩ => show win0_2.index (ptOf (i 0)) 1 * 1024 ≤ (i 1 : Nat) ∧ (i 1 : Nat) < win0_2.index (ptOf (i 0)) 1 * 1024 + 1024
                  rw [(idx2 _).2]; omega⟩

/-- What the reference computes, at an entry. -/
def ref (A : FVec Ideal S4096x2816 .f32) (B : FVec Ideal S4096x1024 .f32) : Vec Ideal S2816x1024 .f32 :=
  transpose DownWRefIdeal.S2816x1024 [1, 0]
    (Host.dotGeneral (F := Ideal) DownWRefIdeal.dot_S4096x1024_S4096x2816_S1024x2816_0_0_1_1_n_n none B A :
      Vec Ideal DownWRefIdeal.S1024x2816 .f32)
    DownWRefIdeal.Gen.transposes_S1024x2816_S2816x1024_1_0

theorem ref_apply (A : FVec Ideal S4096x2816 .f32) (B : FVec Ideal S4096x1024 .f32) (i : Fin 2816) (j : Fin 1024) :
    ref A B (ix2 i j) = ∑ k, term A B i j k := by
  pointwise [ref]
  exact Finset.sum_congr rfl fun k _ => mul_comm (B (ix2 k j)) (A (ix2 k i))

theorem algebraic : @algebraic_DownWIdeal_DownWRefIdeal Cert.DownWIdeal.Gen.facts Cert.DownWRefIdeal.Gen.facts := by
  intro m ρ m' ρ' _ hagree
  refine ⟨fun c => ref (m' ((c.tc : Thread DownWRefIdeal.nD DownWRefIdeal.τ).loc DownWRefIdeal.main_arg0))
    (m' ((c.tc : Thread DownWRefIdeal.nD DownWRefIdeal.τ).loc DownWRefIdeal.main_arg1)), ?_,
    (θ_run Cert.DownWRefIdeal.defs _ _).mono (fun r h c => h c) (DownWRefIdeal.Value.run m' ρ')⟩
  refine (θ_run Cert.DownWIdeal.defs _ _).mono (fun r h c => ?_) (Value.run_blocks m ρ)
  obtain ⟨e, k0, k1⟩ := h c
  obtain ⟨a0, a1⟩ := hagree c
  exact ⟨e.trans (final m c _ fun i j => (ref_apply _ _ i j).trans (by rw [← a0, ← a1])), k0, k1⟩

end Cert.DownWeight

end
-- ==== Proof.InInput.lean ====
module

public import proofs.«01_k».proof.Defs
public import proofs.«01_k».proof.Proof.Gen.InDxIdeal.Value
public import proofs.«01_k».proof.Proof.Gen.InDxRefIdeal.Run
public import proofs.«01_k».proof.Proof.Gen.InDx
public import proofs.«01_k».proof.Proof.NormMaths
public import Idealize.ShloMosaic.Lib.Pipeline.ValueKit.Acc
public import Idealize.ShloMosaic.Lib.Pipeline.ValueKit.Geometry
public import Idealize.ShloMosaic.Lib.Pipeline.ValueKit.Tiles
public import Idealize.ShloMosaic.Lib.Pointwise

/-!
# The gradient of the normalised input projection

Point `t` of the eight has a band of 512 rows: it multiplies the band's gradient by the weight, and from the product takes
the band's gradient through the norm, in both formats, and its part of the gain's gradient, which is added up over the points.
-/

@[expose] public section

set_option maxRecDepth 16384

noncomputable section

namespace Cert.InInput

open scoped BigOperators
open Idealize.ShloMosaic Idealize.ShloMosaic.TcCoe Idealize.SL.Sem Cert.InDxIdeal Cert.InDxIdeal.Gen Cert.NormMaths

/-- An entry of the product, of the reciprocal root, of the gradient in the rows and of a block's part of the gain's. -/
theorem prod_apply (a : Vec Ideal S512x2304 .bf16) (b : Vec Ideal S1024x2304 .bf16) (i : Fin 512) (j : Fin 1024) :
    k0_pay3 a b (ix2 i j) = ∑ l : Fin 2304, a (ix2 i l) * b (ix2 j l) := by
  pointwise [k0_pay3]

theorem root_apply (x : Vec Ideal S512x1024 .f32) (i : Fin 512) :
    k0_pay4 x (ix2 i (0 : Fin 1)) = root fun k => x (ix2 i k) := by
  pointwise [k0_pay4]
  rfl

theorem dx_apply (a : Vec Ideal S512x2304 .bf16) (b : Vec Ideal S1024x2304 .bf16) (x : Vec Ideal S512x1024 .f32)
    (g : Vec Ideal S1x1024 .f32) (d : Vec Ideal S512x1024 .f32) (i : Fin 512) (j : Fin 1024) :
    k0_pay5 a b x g d (ix2 i j) = dx (fun k => x (ix2 i k)) (fun k => g (ix2 (0 : Fin 1) k))
      (fun k => ∑ l : Fin 2304, a (ix2 i l) * b (ix2 k l)) (fun k => d (ix2 i k)) j := by
  pointwise [k0_pay5]
  simp only [prod_apply, root_apply]
  rfl

theorem dxb_apply (a : Vec Ideal S512x2304 .bf16) (b : Vec Ideal S1024x2304 .bf16) (x : Vec Ideal S512x1024 .f32)
    (g : Vec Ideal S1x1024 .f32) (d : Vec Ideal S512x1024 .f32) (i : Fin 512) (j : Fin 1024) :
    k0_pay6 a b x g d (ix2 i j) = k0_pay5 a b x g d (ix2 i j) := by
  pointwise [k0_pay6]

theorem part_apply (o : FVec Ideal S512x1024 .f32) (x : Vec Ideal S512x1024 .f32) (r : FVec Ideal S512x1 .f32) (j : Fin 1024) :
    k0_pay1 o x r (ix2 (0 : Fin 1) j) = ∑ i : Fin 512, o (ix2 i j) * x (ix2 i j) * r (ix2 i (0 : Fin 1)) := by
  pointwise [k0_pay1]

theorem next_apply (o : FVec Ideal S512x1024 .f32) (x : Vec Ideal S512x1024 .f32) (r : FVec Ideal S512x1 .f32)
    (v : Vec Ideal S1x1024 .f32) (j : Fin 1024) :
    k0_pay2 o x r v (ix2 (0 : Fin 1) j) = v (ix2 (0 : Fin 1) j) + k0_pay1 o x r (ix2 (0 : Fin 1) j) := by
  pointwise [k0_pay2]

variable (m : (ℓ : Loc nD τ sig) → Buf (Elt Ideal) ℓ) (c : Dev nD)

/-- The arguments: the rows, the gain, the weight, the gradient of the product and the rows' other gradient. -/
abbrev X : Vec Ideal S4096x1024 .f32 := m ((c.tc : Thread nD τ).loc main_arg0)
abbrev G : Vec Ideal S1024 .f32 := m ((c.tc : Thread nD τ).loc main_arg1)
abbrev W : Vec Ideal S1024x2304 .f32 := m ((c.tc : Thread nD τ).loc main_arg2)
abbrev CT : Vec Ideal S4096x2304 .f32 := m ((c.tc : Thread nD τ).loc main_arg3)
abbrev D : Vec Ideal S4096x1024 .f32 := m ((c.tc : Thread nD τ).loc main_arg4)

/-- The host's part: two arguments in the narrow format, and the gain as a row. -/
theorem V_ct : V m c main_v0 = CT m c := by
  show StableHlo.after hostOps0 (fun b => m (c, b)) main_v0 = _
  after_results_simp <;> rfl
theorem V_w : V m c main_v1 = W m c := by
  show StableHlo.after hostOps0 (fun b => m (c, b)) main_v1 = _
  after_results_simp <;> rfl
theorem V_g (j : Fin 1024) : (V m c main_v2 : Vec Ideal S1x1024 .f32) (ix2 (0 : Fin 1) j) = G m c (ix1 j) := by
  have e : V m c main_v2 = shapeCast S1x1024 (G m c) shapeCasts_S1024_S1x1024 := by
    show StableHlo.after hostOps0 (fun b => m (c, b)) main_v2 = _
    after_results_simp <;> rfl
  rw [e]
  pointwise []

theorem e0 : ∀ t : Fin cfg0.N, win0_0.index t = ![t.val, 0] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![t.val, 0] := (by decide +kernel : ∀ t : Fin grid0.N, _)
theorem e3 : ∀ t : Fin cfg0.N, win0_3.index t = ![0, 0] := (by decide +kernel : ∀ t : Fin grid0.N, _)
theorem e4 : ∀ t : Fin cfg0.N, win0_4.index t = ![t.val, 0] := (by decide +kernel : ∀ t : Fin grid0.N, _)
theorem e5 : ∀ t : Fin cfg0.N, win0_5.index t = ![t.val, 0] := (by decide +kernel : ∀ t : Fin grid0.N, _)
theorem e6 : ∀ t : Fin cfg0.N, win0_6.index t = ![t.val, 0] := (by decide +kernel : ∀ t : Fin grid0.N, _)
theorem e7 : ∀ t : Fin cfg0.N, win0_7.index t = ![0, 0] := (by decide +kernel : ∀ t : Fin grid0.N, _)

/-- A point's blocks. -/
def bCT (t : Fin cfg0.N) : Vec Ideal S512x2304 .bf16 := iblk m c 0 t
def bW (t : Fin cfg0.N) : Vec Ideal S1024x2304 .bf16 := iblk m c 1 t
def bX (t : Fin cfg0.N) : Vec Ideal S512x1024 .f32 := iblk m c 2 t
def bG (t : Fin cfg0.N) : Vec Ideal S1x1024 .f32 := iblk m c 3 t
def bD (t : Fin cfg0.N) : Vec Ideal S512x1024 .f32 := iblk m c 4 t

theorem pt_lt (t : Fin cfg0.N) : t.val < 8 := lt_of_lt_of_eq t.isLt N_0

/-- Row `i` of a point's block. -/
abbrev row (t : Fin cfg0.N) (i : Fin 512) : Fin 4096 := band t.val (pt_lt t) i

theorem bCT_apply (t : Fin cfg0.N) (i : Fin 512) (l : Fin 2304) : bCT m c t (ix2 i l) = CT m c (ix2 (row t i) l) := by
  rw [← V_ct]
  unfold bCT
  blk_ext [iblk, e0, band]
theorem bW_apply (t : Fin cfg0.N) (j : Fin 1024) (l : Fin 2304) : bW m c t (ix2 j l) = W m c (ix2 j l) := by
  rw [← V_w]
  unfold bW
  blk_ext [iblk, e1]
theorem bX_apply (t : Fin cfg0.N) (i : Fin 512) (k : Fin 1024) : bX m c t (ix2 i k) = X m c (ix2 (row t i) k) := by
  unfold bX
  blk_ext [iblk, e2, band]
theorem bG_apply (t : Fin cfg0.N) (k : Fin 1024) : bG m c t (ix2 (0 : Fin 1) k) = G m c (ix1 k) := by
  rw [← V_g]
  unfold bG
  blk_ext [iblk, e3]
theorem bD_apply (t : Fin cfg0.N) (i : Fin 512) (k : Fin 1024) : bD m c t (ix2 i k) = D m c (ix2 (row t i) k) := by
  unfold bD
  blk_ext [iblk, e4, band]

/-- The gradient that comes back through the weight, at row `p`. -/
def back (W : Vec Ideal S1024x2304 .f32) (CT : Vec Ideal S4096x2304 .f32) (p : Fin 4096) (k : Fin 1024) : EReal :=
  ∑ l : Fin 2304, CT (ix2 p l) * W (ix2 k l)

/-- The two results' entries, of the arguments. -/
def resX (X : Vec Ideal S4096x1024 .f32) (G : Vec Ideal S1024 .f32) (W : Vec Ideal S1024x2304 .f32)
    (CT : Vec Ideal S4096x2304 .f32) (D : Vec Ideal S4096x1024 .f32) : Fin 4096 → Fin 1024 → EReal :=
  outX (fun p k => X (ix2 p k)) (back W CT) (fun p k => D (ix2 p k)) (fun k => G (ix1 k))
def resG (X : Vec Ideal S4096x1024 .f32) (W : Vec Ideal S1024x2304 .f32) (CT : Vec Ideal S4096x2304 .f32) : Fin 1024 → EReal :=
  outG (fun p k => X (ix2 p k)) (back W CT)

theorem point_dx (t : Fin cfg0.N) (i : Fin 512) (j : Fin 1024) :
    k0_pay5 (bCT m c t) (bW m c t) (bX m c t) (bG m c t) (bD m c t) (ix2 i j)
      = resX (X m c) (G m c) (W m c) (CT m c) (D m c) (row t i) j := by
  rw [dx_apply]
  simp only [bCT_apply, bW_apply, bX_apply, bG_apply, bD_apply]
  rfl

theorem point_dg (t : Fin cfg0.N) (j : Fin 1024) :
    k0_pay1 (k0_pay3 (bCT m c t) (bW m c t)) (bX m c t) (k0_pay4 (bX m c t)) (ix2 (0 : Fin 1) j)
      = ∑ i : Fin 512, dg (fun k => X m c (ix2 (row t i) k)) (back (W m c) (CT m c) (row t i)) j := by
  rw [part_apply]
  simp only [prod_apply, root_apply, bCT_apply, bW_apply, bX_apply]
  rfl

/-- What is at hand after each point, in the two results that every point writes and in the one it adds to. -/
theorem left5 (t : Fin cfg0.N) :
    (outsAt0 m c t.val t.isLt).1 = k0_pay5 (bCT m c t) (bW m c t) (bX m c t) (bG m c t) (bD m c t) := by
  by_cases h0 : t.val % 8 = 0
  · rw [outsAt0_A m c t h0 (by have := pt_lt t; omega)]; frame_out; rfl
  · rw [outsAt0_B m c t h0 (by omega)]; frame_out; rfl
theorem left6 (t : Fin cfg0.N) :
    (outsAt0 m c t.val t.isLt).2.1 = k0_pay6 (bCT m c t) (bW m c t) (bX m c t) (bG m c t) (bD m c t) := by
  by_cases h0 : t.val % 8 = 0
  · rw [outsAt0_A m c t h0 (by have := pt_lt t; omega)]; frame_out; rfl
  · rw [outsAt0_B m c t h0 (by omega)]; frame_out; rfl
theorem first7 (t : Fin cfg0.N) (h0 : t.val % 8 = 0) (h1 : ¬1 ≤ t.val) :
    (outsAt0 m c t.val t.isLt).2.2 = k0_pay1 (k0_pay3 (bCT m c t) (bW m c t)) (bX m c t) (k0_pay4 (bX m c t)) := by
  rw [outsAt0_A m c t h0 h1]; frame_out; rfl
theorem next7 (t : Fin cfg0.N) (h0 : ¬t.val % 8 = 0) (h1 : 1 ≤ t.val) :
    (outsAt0 m c t.val t.isLt).2.2 = k0_pay2 (k0_pay3 (bCT m c t) (bW m c t)) (bX m c t) (k0_pay4 (bX m c t))
      (outsAt0 m c (t.val - 1) (Nat.lt_of_le_of_lt (Nat.sub_le _ _) t.isLt)).2.2 := by
  rw [outsAt0_B m c t h0 h1]; frame_out; rfl

/-- The gain's gradient after point `n`. -/
def gain (j : Fin 1024) (n : ℕ) (h : n < 8) : EReal := (outsAt0 m c n (lt_of_lt_of_eq h N_0.symm)).2.2 (ix2 (0 : Fin 1) j)

theorem gain_first (j : Fin 1024) (n : ℕ) (h : n < 8) (h0 : n = 0) :
    gain m c j n h = ∑ i : Fin 512, dg (fun k => X m c (ix2 (band n h i) k)) (back (W m c) (CT m c) (band n h i)) j := by
  unfold gain
  rw [first7 m c ⟨n, lt_of_lt_of_eq h N_0.symm⟩ (by show n % 8 = 0; omega) (by show ¬1 ≤ n; omega), point_dg]

theorem gain_next (j : Fin 1024) (n : ℕ) (h : n < 8) (h0 : 1 ≤ n) :
    gain m c j n h = gain m c j (n - 1) (by omega)
      + ∑ i : Fin 512, dg (fun k => X m c (ix2 (band n h i) k)) (back (W m c) (CT m c) (band n h i)) j := by
  unfold gain
  rw [next7 m c ⟨n, lt_of_lt_of_eq h N_0.symm⟩ (by show ¬n % 8 = 0; omega) h0, next_apply, point_dg]

/-- After the last point it is the sum over all rows. -/
theorem last7 (t : Fin cfg0.N) (ht : t.val % 8 = 7) (j : Fin 1024) :
    (outsAt0 m c t.val t.isLt).2.2 (ix2 (0 : Fin 1) j) = resG (X m c) (W m c) (CT m c) j := by
  have e : ∀ (n : ℕ) (h : n < 8), n = 7 → gain m c j n h = resG (X m c) (W m c) (CT m c) j := by
    rintro n h rfl
    exact bands_sum (fun p => dg (fun k => X m c (ix2 p k)) (back (W m c) (CT m c) p) j) (gain m c j)
      (gain_first m c j 0 _ rfl) fun s h => gain_next m c j (s + 1) h (by omega)
  exact e t.val (pt_lt t) (by have := pt_lt t; omega)

/-- The result arrays. -/
theorem final5 (R : Vec Ideal S4096x1024 .f32)
    (hR : ∀ p j, R (ix2 p j) = resX (X m c) (G m c) (W m c) (CT m c) (D m c) p j) : (dats m 0 c).arrAt 5 cfg0.N = R := by
  refine (dats m 0 c).arrAt_eq_of_covers 5 _ (by decide +kernel) fun t hf y => ?_
  blk_simp
  rw [after0_5, left5]
  obtain ⟨i, j, rfl⟩ : ∃ (i : Fin 512) (j : Fin 1024), y = ix2 i j := ⟨y 0, y 1, eq_ix2 y⟩
  refine (point_dx m c t i j).trans ((hR (row t i) j).symm.trans ?_)
  blk_ext [e5, band]
theorem final6 (R : Vec Ideal S4096x1024 .bf16)
    (hR : ∀ p j, R (ix2 p j) = resX (X m c) (G m c) (W m c) (CT m c) (D m c) p j) : (dats m 0 c).arrAt 6 cfg0.N = R := by
  refine (dats m 0 c).arrAt_eq_of_covers 6 _ (by decide +kernel) fun t hf y => ?_
  blk_simp
  rw [after0_6, left6]
  obtain ⟨i, j, rfl⟩ : ∃ (i : Fin 512) (j : Fin 1024), y = ix2 i j := ⟨y 0, y 1, eq_ix2 y⟩
  refine (dxb_apply _ _ _ _ _ i j).trans ((point_dx m c t i j).trans ((hR (row t i) j).symm.trans ?_))
  blk_ext [e6, band]
theorem final7 (R : Vec Ideal S1x1024 .f32) (hR : ∀ j, R (ix2 (0 : Fin 1) j) = resG (X m c) (W m c) (CT m c) j) :
    (dats m 0 c).arrAt 7 cfg0.N = R := by
  refine (dats m 0 c).arrAt_eq_of_covers 7 _ (by decide +kernel) fun t hf y => ?_
  blk_simp
  rw [after0_7]
  obtain ⟨i, j, rfl⟩ : ∃ (i : Fin 1) (j : Fin 1024), y = ix2 i j := ⟨y 0, y 1, eq_ix2 y⟩
  obtain rfl : i = 0 := Subsingleton.elim _ _
  refine (last7 m c t ((flush0_7 t).mp hf) j).trans ((hR j).symm.trans ?_)
  blk_ext [e7]

section Reference

variable (m' : (ℓ : Loc InDxRefIdeal.nD InDxRefIdeal.τ InDxRefIdeal.sig) → Buf (Elt Ideal) ℓ)

theorem ref_dx (p : Fin 4096) (j : Fin 1024) :
    (InDxRefIdeal.Value.res_main_v38 m' c : Vec Ideal S4096x1024 .f32) (ix2 p j)
      = resX (m' ((c.tc : Thread InDxRefIdeal.nD InDxRefIdeal.τ).loc InDxRefIdeal.main_arg0))
          (m' ((c.tc : Thread InDxRefIdeal.nD InDxRefIdeal.τ).loc InDxRefIdeal.main_arg1))
          (m' ((c.tc : Thread InDxRefIdeal.nD InDxRefIdeal.τ).loc InDxRefIdeal.main_arg2))
          (m' ((c.tc : Thread InDxRefIdeal.nD InDxRefIdeal.τ).loc InDxRefIdeal.main_arg3))
          (m' ((c.tc : Thread InDxRefIdeal.nD InDxRefIdeal.τ).loc InDxRefIdeal.main_arg4)) p j := by
  rw [resX, outX, dx_eq]
  pointwise [InDxRefIdeal.Value.res_main_v38]
  simp only [Fin.sum_univ_one]
  rfl

theorem ref_dxb (p : Fin 4096) (j : Fin 1024) :
    (InDxRefIdeal.Value.res_main_v39 m' c : Vec Ideal S4096x1024 .bf16) (ix2 p j)
      = (InDxRefIdeal.Value.res_main_v38 m' c : Vec Ideal S4096x1024 .f32) (ix2 p j) := by
  pointwise [InDxRefIdeal.Value.res_main_v39, InDxRefIdeal.Value.res_main_v38]

end Reference

theorem algebraic : @algebraic_InDxIdeal_InDxRefIdeal Cert.InDxIdeal.Gen.facts Cert.InDxRefIdeal.Gen.facts := by
  intro m ρ m' ρ' _ hagree
  refine ⟨_, _, _, ?_, (θ_run Cert.InDxRefIdeal.defs _ _).mono (fun r h c => h c) (InDxRefIdeal.Value.run m' ρ')⟩
  refine (θ_run Cert.InDxIdeal.defs _ _).mono (fun r h c => ?_) (Value.run_blocks m ρ)
  obtain ⟨h5, h6, h7, k⟩ := h c
  obtain ⟨a0, a1, a2, a3, a4⟩ := hagree c
  refine ⟨h5.trans (final5 m c _ fun p j => (ref_dx c m' p j).trans ?_),
    h6.trans (final6 m c _ fun p j => (ref_dxb c m' p j).trans ((ref_dx c m' p j).trans ?_)),
    h7.trans (final7 m c _ fun j => ?_), k⟩
  · rw [X, G, W, CT, D, ← a0, ← a1, ← a2, ← a3, ← a4]
  · rw [X, G, W, CT, D, ← a0, ← a1, ← a2, ← a3, ← a4]
  · rw [X, W, CT, ← a0, ← a2, ← a3]
    unfold resG outG
    simp only [dg_eq]
    pointwise []
    rw [Fin.sum_univ_one]
    rfl

end Cert.InInput

end
-- ==== Proof.GateInput.lean ====
module

public import proofs.«01_k».proof.Defs
public import proofs.«01_k».proof.Proof.Gen.GateDxIdeal.Value
public import proofs.«01_k».proof.Proof.Gen.GateDxRefIdeal.Run
public import proofs.«01_k».proof.Proof.Gen.GateDx
public import proofs.«01_k».proof.Proof.NormMaths
public import Idealize.ShloMosaic.Lib.Pipeline.ValueKit.Acc
public import Idealize.ShloMosaic.Lib.Pipeline.ValueKit.Geometry
public import Idealize.ShloMosaic.Lib.Pipeline.ValueKit.Tiles
public import Idealize.ShloMosaic.Lib.Pointwise

/-!
# The gradient of the normalised gate product

Point `t` of the eight has a band of 512 rows: it multiplies the band's gradient by the weight, and from the product takes
the band's gradient through the norm, in both formats, and its part of the gain's gradient, which is added up over the points.
-/

@[expose] public section

set_option maxRecDepth 16384

noncomputable section

namespace Cert.GateInput

open scoped BigOperators
open Idealize.ShloMosaic Idealize.ShloMosaic.TcCoe Idealize.SL.Sem Cert.GateDxIdeal Cert.GateDxIdeal.Gen Cert.NormMaths

/-- An entry of the product, of the reciprocal root, of the gradient in the rows and of a block's part of the gain's. -/
theorem prod_apply (a : Vec Ideal S512x1024 .bf16) (b : Vec Ideal S1024x1024 .bf16) (i : Fin 512) (j : Fin 1024) :
    k0_pay3 a b (ix2 i j) = ∑ l : Fin 1024, a (ix2 i l) * b (ix2 j l) := by
  pointwise [k0_pay3]

theorem root_apply (x : Vec Ideal S512x1024 .f32) (i : Fin 512) :
    k0_pay4 x (ix2 i (0 : Fin 1)) = root fun k => x (ix2 i k) := by
  pointwise [k0_pay4]
  rfl

theorem dx_apply (a : Vec Ideal S512x1024 .bf16) (b : Vec Ideal S1024x1024 .bf16) (x : Vec Ideal S512x1024 .f32)
    (g : Vec Ideal S1x1024 .f32) (d : Vec Ideal S512x1024 .f32) (i : Fin 512) (j : Fin 1024) :
    k0_pay5 a b x g d (ix2 i j) = dx (fun k => x (ix2 i k)) (fun k => g (ix2 (0 : Fin 1) k))
      (fun k => ∑ l : Fin 1024, a (ix2 i l) * b (ix2 k l)) (fun k => d (ix2 i k)) j := by
  pointwise [k0_pay5]
  simp only [prod_apply, root_apply]
  rfl

theorem dxb_apply (a : Vec Ideal S512x1024 .bf16) (b : Vec Ideal S1024x1024 .bf16) (x : Vec Ideal S512x1024 .f32)
    (g : Vec Ideal S1x1024 .f32) (d : Vec Ideal S512x1024 .f32) (i : Fin 512) (j : Fin 1024) :
    k0_pay6 a b x g d (ix2 i j) = k0_pay5 a b x g d (ix2 i j) := by
  pointwise [k0_pay6]

theorem part_apply (o : FVec Ideal S512x1024 .f32) (x : Vec Ideal S512x1024 .f32) (r : FVec Ideal S512x1 .f32) (j : Fin 1024) :
    k0_pay1 o x r (ix2 (0 : Fin 1) j) = ∑ i : Fin 512, o (ix2 i j) * x (ix2 i j) * r (ix2 i (0 : Fin 1)) := by
  pointwise [k0_pay1]

theorem next_apply (o : FVec Ideal S512x1024 .f32) (x : Vec Ideal S512x1024 .f32) (r : FVec Ideal S512x1 .f32)
    (v : Vec Ideal S1x1024 .f32) (j : Fin 1024) :
    k0_pay2 o x r v (ix2 (0 : Fin 1) j) = v (ix2 (0 : Fin 1) j) + k0_pay1 o x r (ix2 (0 : Fin 1) j) := by
  pointwise [k0_pay2]

variable (m : (ℓ : Loc nD τ sig) → Buf (Elt Ideal) ℓ) (c : Dev nD)

/-- The arguments: the rows, the gain, the weight, the gradient of the product and the rows' other gradient. -/
abbrev X : Vec Ideal S4096x1024 .f32 := m ((c.tc : Thread nD τ).loc main_arg0)
abbrev G : Vec Ideal S1024 .f32 := m ((c.tc : Thread nD τ).loc main_arg1)
abbrev W : Vec Ideal S1024x1024 .f32 := m ((c.tc : Thread nD τ).loc main_arg2)
abbrev CT : Vec Ideal S4096x1024 .f32 := m ((c.tc : Thread nD τ).loc main_arg3)
abbrev D : Vec Ideal S4096x1024 .f32 := m ((c.tc : Thread nD τ).loc main_arg4)

/-- The host's part: two arguments in the narrow format, and the gain as a row. -/
theorem V_ct : V m c main_v0 = CT m c := by
  show StableHlo.after hostOps0 (fun b => m (c, b)) main_v0 = _
  after_results_simp <;> rfl
theorem V_w : V m c main_v1 = W m c := by
  show StableHlo.after hostOps0 (fun b => m (c, b)) main_v1 = _
  after_results_simp <;> rfl
theorem V_g (j : Fin 1024) : (V m c main_v2 : Vec Ideal S1x1024 .f32) (ix2 (0 : Fin 1) j) = G m c (ix1 j) := by
  have e : V m c main_v2 = shapeCast S1x1024 (G m c) shapeCasts_S1024_S1x1024 := by
    show StableHlo.after hostOps0 (fun b => m (c, b)) main_v2 = _
    after_results_simp <;> rfl
  rw [e]
  pointwise []

theorem e0 : ∀ t : Fin cfg0.N, win0_0.index t = ![t.val, 0] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![t.val, 0] := (by decide +kernel : ∀ t : Fin grid0.N, _)
theorem e3 : ∀ t : Fin cfg0.N, win0_3.index t = ![0, 0] := (by decide +kernel : ∀ t : Fin grid0.N, _)
theorem e4 : ∀ t : Fin cfg0.N, win0_4.index t = ![t.val, 0] := (by decide +kernel : ∀ t : Fin grid0.N, _)
theorem e5 : ∀ t : Fin cfg0.N, win0_5.index t = ![t.val, 0] := (by decide +kernel : ∀ t : Fin grid0.N, _)
theorem e6 : ∀ t : Fin cfg0.N, win0_6.index t = ![t.val, 0] := (by decide +kernel : ∀ t : Fin grid0.N, _)
theorem e7 : ∀ t : Fin cfg0.N, win0_7.index t = ![0, 0] := (by decide +kernel : ∀ t : Fin grid0.N, _)

/-- A point's blocks. -/
def bCT (t : Fin cfg0.N) : Vec Ideal S512x1024 .bf16 := iblk m c 0 t
def bW (t : Fin cfg0.N) : Vec Ideal S1024x1024 .bf16 := iblk m c 1 t
def bX (t : Fin cfg0.N) : Vec Ideal S512x1024 .f32 := iblk m c 2 t
def bG (t : Fin cfg0.N) : Vec Ideal S1x1024 .f32 := iblk m c 3 t
def bD (t : Fin cfg0.N) : Vec Ideal S512x1024 .f32 := iblk m c 4 t

theorem pt_lt (t : Fin cfg0.N) : t.val < 8 := lt_of_lt_of_eq t.isLt N_0

/-- Row `i` of a point's block. -/
abbrev row (t : Fin cfg0.N) (i : Fin 512) : Fin 4096 := band t.val (pt_lt t) i

theorem bCT_apply (t : Fin cfg0.N) (i : Fin 512) (l : Fin 1024) : bCT m c t (ix2 i l) = CT m c (ix2 (row t i) l) := by
  rw [← V_ct]
  unfold bCT
  blk_ext [iblk, e0, band]
theorem bW_apply (t : Fin cfg0.N) (j : Fin 1024) (l : Fin 1024) : bW m c t (ix2 j l) = W m c (ix2 j l) := by
  rw [← V_w]
  unfold bW
  blk_ext [iblk, e1]
theorem bX_apply (t : Fin cfg0.N) (i : Fin 512) (k : Fin 1024) : bX m c t (ix2 i k) = X m c (ix2 (row t i) k) := by
  unfold bX
  blk_ext [iblk, e2, band]
theorem bG_apply (t : Fin cfg0.N) (k : Fin 1024) : bG m c t (ix2 (0 : Fin 1) k) = G m c (ix1 k) := by
  rw [← V_g]
  unfold bG
  blk_ext [iblk, e3]
theorem bD_apply (t : Fin cfg0.N) (i : Fin 512) (k : Fin 1024) : bD m c t (ix2 i k) = D m c (ix2 (row t i) k) := by
  unfold bD
  blk_ext [iblk, e4, band]

/-- The gradient that comes back through the weight, at row `p`. -/
def back (W : Vec Ideal S1024x1024 .f32) (CT : Vec Ideal S4096x1024 .f32) (p : Fin 4096) (k : Fin 1024) : EReal :=
  ∑ l : Fin 1024, CT (ix2 p l) * W (ix2 k l)

/-- The two results' entries, of the arguments. -/
def resX (X : Vec Ideal S4096x1024 .f32) (G : Vec Ideal S1024 .f32) (W : Vec Ideal S1024x1024 .f32)
    (CT : Vec Ideal S4096x1024 .f32) (D : Vec Ideal S4096x1024 .f32) : Fin 4096 → Fin 1024 → EReal :=
  outX (fun p k => X (ix2 p k)) (back W CT) (fun p k => D (ix2 p k)) (fun k => G (ix1 k))
def resG (X : Vec Ideal S4096x1024 .f32) (W : Vec Ideal S1024x1024 .f32) (CT : Vec Ideal S4096x1024 .f32) : Fin 1024 → EReal :=
  outG (fun p k => X (ix2 p k)) (back W CT)

theorem point_dx (t : Fin cfg0.N) (i : Fin 512) (j : Fin 1024) :
    k0_pay5 (bCT m c t) (bW m c t) (bX m c t) (bG m c t) (bD m c t) (ix2 i j)
      = resX (X m c) (G m c) (W m c) (CT m c) (D m c) (row t i) j := by
  rw [dx_apply]
  simp only [bCT_apply, bW_apply, bX_apply, bG_apply, bD_apply]
  rfl

theorem point_dg (t : Fin cfg0.N) (j : Fin 1024) :
    k0_pay1 (k0_pay3 (bCT m c t) (bW m c t)) (bX m c t) (k0_pay4 (bX m c t)) (ix2 (0 : Fin 1) j)
      = ∑ i : Fin 512, dg (fun k => X m c (ix2 (row t i) k)) (back (W m c) (CT m c) (row t i)) j := by
  rw [part_apply]
  simp only [prod_apply, root_apply, bCT_apply, bW_apply, bX_apply]
  rfl

/-- What is at hand after each point, in the two results that every point writes and in the one it adds to. -/
theorem left5 (t : Fin cfg0.N) :
    (outsAt0 m c t.val t.isLt).1 = k0_pay5 (bCT m c t) (bW m c t) (bX m c t) (bG m c t) (bD m c t) := by
  by_cases h0 : t.val % 8 = 0
  · rw [outsAt0_A m c t h0 (by have := pt_lt t; omega)]; frame_out; rfl
  · rw [outsAt0_B m c t h0 (by omega)]; frame_out; rfl
theorem left6 (t : Fin cfg0.N) :
    (outsAt0 m c t.val t.isLt).2.1 = k0_pay6 (bCT m c t) (bW m c t) (bX m c t) (bG m c t) (bD m c t) := by
  by_cases h0 : t.val % 8 = 0
  · rw [outsAt0_A m c t h0 (by have := pt_lt t; omega)]; frame_out; rfl
  · rw [outsAt0_B m c t h0 (by omega)]; frame_out; rfl
theorem first7 (t : Fin cfg0.N) (h0 : t.val % 8 = 0) (h1 : ¬1 ≤ t.val) :
    (outsAt0 m c t.val t.isLt).2.2 = k0_pay1 (k0_pay3 (bCT m c t) (bW m c t)) (bX m c t) (k0_pay4 (bX m c t)) := by
  rw [outsAt0_A m c t h0 h1]; frame_out; rfl
theorem next7 (t : Fin cfg0.N) (h0 : ¬t.val % 8 = 0) (h1 : 1 ≤ t.val) :
    (outsAt0 m c t.val t.isLt).2.2 = k0_pay2 (k0_pay3 (bCT m c t) (bW m c t)) (bX m c t) (k0_pay4 (bX m c t))
      (outsAt0 m c (t.val - 1) (Nat.lt_of_le_of_lt (Nat.sub_le _ _) t.isLt)).2.2 := by
  rw [outsAt0_B m c t h0 h1]; frame_out; rfl

/-- The gain's gradient after point `n`. -/
def gain (j : Fin 1024) (n : ℕ) (h : n < 8) : EReal := (outsAt0 m c n (lt_of_lt_of_eq h N_0.symm)).2.2 (ix2 (0 : Fin 1) j)

theorem gain_first (j : Fin 1024) (n : ℕ) (h : n < 8) (h0 : n = 0) :
    gain m c j n h = ∑ i : Fin 512, dg (fun k => X m c (ix2 (band n h i) k)) (back (W m c) (CT m c) (band n h i)) j := by
  unfold gain
  rw [first7 m c ⟨n, lt_of_lt_of_eq h N_0.symm⟩ (by show n % 8 = 0; omega) (by show ¬1 ≤ n; omega), point_dg]

theorem gain_next (j : Fin 1024) (n : ℕ) (h : n < 8) (h0 : 1 ≤ n) :
    gain m c j n h = gain m c j (n - 1) (by omega)
      + ∑ i : Fin 512, dg (fun k => X m c (ix2 (band n h i) k)) (back (W m c) (CT m c) (band n h i)) j := by
  unfold gain
  rw [next7 m c ⟨n, lt_of_lt_of_eq h N_0.symm⟩ (by show ¬n % 8 = 0; omega) h0, next_apply, point_dg]

/-- After the last point it is the sum over all rows. -/
theorem last7 (t : Fin cfg0.N) (ht : t.val % 8 = 7) (j : Fin 1024) :
    (outsAt0 m c t.val t.isLt).2.2 (ix2 (0 : Fin 1) j) = resG (X m c) (W m c) (CT m c) j := by
  have e : ∀ (n : ℕ) (h : n < 8), n = 7 → gain m c j n h = resG (X m c) (W m c) (CT m c) j := by
    rintro n h rfl
    exact bands_sum (fun p => dg (fun k => X m c (ix2 p k)) (back (W m c) (CT m c) p) j) (gain m c j)
      (gain_first m c j 0 _ rfl) fun s h => gain_next m c j (s + 1) h (by omega)
  exact e t.val (pt_lt t) (by have := pt_lt t; omega)

/-- The result arrays. -/
theorem final5 (R : Vec Ideal S4096x1024 .f32)
    (hR : ∀ p j, R (ix2 p j) = resX (X m c) (G m c) (W m c) (CT m c) (D m c) p j) : (dats m 0 c).arrAt 5 cfg0.N = R := by
  refine (dats m 0 c).arrAt_eq_of_covers 5 _ (by decide +kernel) fun t hf y => ?_
  blk_simp
  rw [after0_5, left5]
  obtain ⟨i, j, rfl⟩ : ∃ (i : Fin 512) (j : Fin 1024), y = ix2 i j := ⟨y 0, y 1, eq_ix2 y⟩
  refine (point_dx m c t i j).trans ((hR (row t i) j).symm.trans ?_)
  blk_ext [e5, band]
theorem final6 (R : Vec Ideal S4096x1024 .bf16)
    (hR : ∀ p j, R (ix2 p j) = resX (X m c) (G m c) (W m c) (CT m c) (D m c) p j) : (dats m 0 c).arrAt 6 cfg0.N = R := by
  refine (dats m 0 c).arrAt_eq_of_covers 6 _ (by decide +kernel) fun t hf y => ?_
  blk_simp
  rw [after0_6, left6]
  obtain ⟨i, j, rfl⟩ : ∃ (i : Fin 512) (j : Fin 1024), y = ix2 i j := ⟨y 0, y 1, eq_ix2 y⟩
  refine (dxb_apply _ _ _ _ _ i j).trans ((point_dx m c t i j).trans ((hR (row t i) j).symm.trans ?_))
  blk_ext [e6, band]
theorem final7 (R : Vec Ideal S1x1024 .f32) (hR : ∀ j, R (ix2 (0 : Fin 1) j) = resG (X m c) (W m c) (CT m c) j) :
    (dats m 0 c).arrAt 7 cfg0.N = R := by
  refine (dats m 0 c).arrAt_eq_of_covers 7 _ (by decide +kernel) fun t hf y => ?_
  blk_simp
  rw [after0_7]
  obtain ⟨i, j, rfl⟩ : ∃ (i : Fin 1) (j : Fin 1024), y = ix2 i j := ⟨y 0, y 1, eq_ix2 y⟩
  obtain rfl : i = 0 := Subsingleton.elim _ _
  refine (last7 m c t ((flush0_7 t).mp hf) j).trans ((hR j).symm.trans ?_)
  blk_ext [e7]

section Reference

variable (m' : (ℓ : Loc GateDxRefIdeal.nD GateDxRefIdeal.τ GateDxRefIdeal.sig) → Buf (Elt Ideal) ℓ)

theorem ref_dx (p : Fin 4096) (j : Fin 1024) :
    (GateDxRefIdeal.Value.res_main_v38 m' c : Vec Ideal S4096x1024 .f32) (ix2 p j)
      = resX (m' ((c.tc : Thread GateDxRefIdeal.nD GateDxRefIdeal.τ).loc GateDxRefIdeal.main_arg0))
          (m' ((c.tc : Thread GateDxRefIdeal.nD GateDxRefIdeal.τ).loc GateDxRefIdeal.main_arg1))
          (m' ((c.tc : Thread GateDxRefIdeal.nD GateDxRefIdeal.τ).loc GateDxRefIdeal.main_arg2))
          (m' ((c.tc : Thread GateDxRefIdeal.nD GateDxRefIdeal.τ).loc GateDxRefIdeal.main_arg3))
          (m' ((c.tc : Thread GateDxRefIdeal.nD GateDxRefIdeal.τ).loc GateDxRefIdeal.main_arg4)) p j := by
  rw [resX, outX, dx_eq]
  pointwise [GateDxRefIdeal.Value.res_main_v38]
  simp only [Fin.sum_univ_one]
  rfl

theorem ref_dxb (p : Fin 4096) (j : Fin 1024) :
    (GateDxRefIdeal.Value.res_main_v39 m' c : Vec Ideal S4096x1024 .bf16) (ix2 p j)
      = (GateDxRefIdeal.Value.res_main_v38 m' c : Vec Ideal S4096x1024 .f32) (ix2 p j) := by
  pointwise [GateDxRefIdeal.Value.res_main_v39, GateDxRefIdeal.Value.res_main_v38]

end Reference

theorem algebraic : @algebraic_GateDxIdeal_GateDxRefIdeal Cert.GateDxIdeal.Gen.facts Cert.GateDxRefIdeal.Gen.facts := by
  intro m ρ m' ρ' _ hagree
  refine ⟨_, _, _, ?_, (θ_run Cert.GateDxRefIdeal.defs _ _).mono (fun r h c => h c) (GateDxRefIdeal.Value.run m' ρ')⟩
  refine (θ_run Cert.GateDxIdeal.defs _ _).mono (fun r h c => ?_) (Value.run_blocks m ρ)
  obtain ⟨h5, h6, h7, k⟩ := h c
  obtain ⟨a0, a1, a2, a3, a4⟩ := hagree c
  refine ⟨h5.trans (final5 m c _ fun p j => (ref_dx c m' p j).trans ?_),
    h6.trans (final6 m c _ fun p j => (ref_dxb c m' p j).trans ((ref_dx c m' p j).trans ?_)),
    h7.trans (final7 m c _ fun j => ?_), k⟩
  · rw [X, G, W, CT, D, ← a0, ← a1, ← a2, ← a3, ← a4]
  · rw [X, G, W, CT, D, ← a0, ← a1, ← a2, ← a3, ← a4]
  · rw [X, W, CT, ← a0, ← a2, ← a3]
    unfold resG outG
    simp only [dg_eq]
    pointwise []
    rw [Fin.sum_univ_one]
    rfl

end Cert.GateInput

end
-- ==== Proof.UpInput.lean ====
module

public import proofs.«01_k».proof.Defs
public import proofs.«01_k».proof.Proof.Gen.UpXIdeal.Value
public import proofs.«01_k».proof.Proof.Gen.UpXRefIdeal.Run
public import proofs.«01_k».proof.Proof.Gen.UpX
public import proofs.«01_k».proof.Proof.NormMaths
public import proofs.«01_k».proof.Proof.UpGateInput
public import Idealize.ShloMosaic.Lib.Pipeline.ReadBack
public import Idealize.ShloMosaic.Lib.Pipeline.ValueKit.Acc
public import Idealize.ShloMosaic.Lib.Pipeline.ValueKit.Geometry
public import Idealize.ShloMosaic.Lib.Pipeline.ValueKit.Tiles
public import Idealize.ShloMosaic.Lib.Pointwise

/-!
# The gradient of the normalised up product

The weight's columns lie in four parts: two make the gate and two the other factor. The gradient that comes back through the
gate's half has been taken before. Two points share a band of 512 rows: each multiplies the band's gradient by one of the
other half's parts, the first storing its product and the second adding to it. The second adds what came through the gate's
half, and takes from the whole the band's gradient through the norm, in both formats, and its part of the gain's gradient.
-/

@[expose] public section

set_option maxRecDepth 16384

noncomputable section

namespace Cert.UpInput

open scoped BigOperators
open Idealize.ShloMosaic Idealize.ShloMosaic.TcCoe Idealize.SL.Sem Cert.UpXIdeal Cert.UpXIdeal.Gen Cert.NormMaths

/-- An entry of a part of the product, of the reciprocal root, of the gradient in the rows and of a band's part of the
    gain's. -/
theorem part_apply (a : Vec Ideal S512x1408 .bf16) (b : Vec Ideal S1x1024x1408 .bf16) (i : Fin 512) (j : Fin 1024) :
    k0_pay1 a b (ix2 i j) = ∑ l : Fin 1408, a (ix2 i l) * b (ix3 (0 : Fin 1) j l) := by
  pointwise [k0_pay1]

theorem store_apply (a : Vec Ideal S512x1408 .bf16) (b : Vec Ideal S1x1024x1408 .bf16) (i : Fin 512) (j : Fin 1024) :
    k0_pay2 a b (ix2 i j) = k0_pay1 a b (ix2 i j) := by
  pointwise [k0_pay2]

theorem add_apply (a : Vec Ideal S512x1408 .bf16) (b : Vec Ideal S1x1024x1408 .bf16) (v : Vec Ideal S512x1024 .f32)
    (i : Fin 512) (j : Fin 1024) : k0_pay3 a b v (ix2 i j) = v (ix2 i j) + k0_pay1 a b (ix2 i j) := by
  pointwise [k0_pay3]

theorem whole_apply (v f : Vec Ideal S512x1024 .f32) (i : Fin 512) (j : Fin 1024) :
    k0_pay6 v f (ix2 i j) = v (ix2 i j) + f (ix2 i j) := by
  pointwise [k0_pay6]

theorem root_apply (x : Vec Ideal S512x1024 .f32) (i : Fin 512) :
    k0_pay7 x (ix2 i (0 : Fin 1)) = root fun k => x (ix2 i k) := by
  pointwise [k0_pay7]
  rfl

theorem dx_apply (v f x : Vec Ideal S512x1024 .f32) (g : Vec Ideal S1x1024 .f32) (d : Vec Ideal S512x1024 .f32)
    (i : Fin 512) (j : Fin 1024) :
    k0_pay8 v f x g d (ix2 i j) = dx (fun k => x (ix2 i k)) (fun k => g (ix2 (0 : Fin 1) k))
      (fun k => v (ix2 i k) + f (ix2 i k)) (fun k => d (ix2 i k)) j := by
  pointwise [k0_pay8]
  simp only [whole_apply, root_apply]
  rfl

theorem dxb_apply (v f x : Vec Ideal S512x1024 .f32) (g : Vec Ideal S1x1024 .f32) (d : Vec Ideal S512x1024 .f32)
    (i : Fin 512) (j : Fin 1024) : k0_pay9 v f x g d (ix2 i j) = k0_pay8 v f x g d (ix2 i j) := by
  pointwise [k0_pay9]

theorem dg_apply (v f x : Vec Ideal S512x1024 .f32) (j : Fin 1024) :
    k0_pay4 (k0_pay10 v f x) (ix2 (0 : Fin 1) j)
      = ∑ i : Fin 512, dg (fun k => x (ix2 i k)) (fun k => v (ix2 i k) + f (ix2 i k)) j := by
  pointwise [k0_pay4, k0_pay10]
  simp only [whole_apply, root_apply]
  rfl

theorem next_apply (y : FVec Ideal S512x1024 .f32) (v : Vec Ideal S1x1024 .f32) (j : Fin 1024) :
    k0_pay5 y v (ix2 (0 : Fin 1) j) = v (ix2 (0 : Fin 1) j) + k0_pay4 y (ix2 (0 : Fin 1) j) := by
  pointwise [k0_pay5]

variable (m : (ℓ : Loc nD τ sig) → Buf (Elt Ideal) ℓ) (c : Dev nD)

/-- The arguments: the rows, the gain, the weight, the gradients of the product's two halves and the rows' other gradient. -/
abbrev X : Vec Ideal S4096x1024 .f32 := m ((c.tc : Thread nD τ).loc main_arg0)
abbrev G : Vec Ideal S1024 .f32 := m ((c.tc : Thread nD τ).loc main_arg1)
abbrev W : Vec Ideal S1024x5632 .f32 := m ((c.tc : Thread nD τ).loc main_arg2)
abbrev CG : Vec Ideal S4096x2816 .f32 := m ((c.tc : Thread nD τ).loc main_arg3)
abbrev CU : Vec Ideal S4096x2816 .f32 := m ((c.tc : Thread nD τ).loc main_arg4)
abbrev D : Vec Ideal S4096x1024 .f32 := m ((c.tc : Thread nD τ).loc main_arg5)

/-- What comes back through a half of the weight: its columns from `o` on. -/
def half (W : Vec Ideal S1024x5632 .f32) (C : Vec Ideal S4096x2816 .f32) (o : ℕ) (ho : o ≤ 2816) (p : Fin 4096) (k : Fin 1024) :
    EReal :=
  ∑ l : Fin 2816, C (ix2 p l) * W (ix2 k ⟨o + l.val, by omega⟩)

/-- The host's part: an argument in the narrow format, the weight's columns chip by chip, the gain as a row, and what comes
    back through the gate's half. -/
theorem V_cu : V m c main_v3 = CU m c := by
  show StableHlo.after hostOps0 (fun b => m (c, b)) main_v3 = _
  after_results_simp <;> rfl
theorem V_w : V m c main_v13 = UpGateInput.byChip (W m c) := by
  show StableHlo.after hostOps0 (fun b => m (c, b)) main_v13 = _
  after_results_simp <;> rfl
theorem V_g (j : Fin 1024) : (V m c main_v14 : Vec Ideal S1x1024 .f32) (ix2 (0 : Fin 1) j) = G m c (ix1 j) := by
  have e : V m c main_v14 = shapeCast S1x1024 (G m c) shapeCasts_S1024_S1x1024 := by
    show StableHlo.after hostOps0 (fun b => m (c, b)) main_v14 = _
    after_results_simp <;> rfl
  rw [e]
  pointwise []
/-- The gate's half as the host takes it. -/
def first (W : FVec Ideal S1024x5632 .f32) (C : FVec Ideal S4096x2816 .f32) : FVec Ideal S4096x1024 .f32 :=
  Host.dotGeneral (F := Ideal) dot_S4096x2816_S2816x1024_S4096x1024_1_0_0_1_n_n none C
    (transpose S2816x1024 [1, 0] (extractStridedSlice S1024x2816 ![0, 0] W slices_S1024x5632_S1024x2816_0_0 : FVec Ideal S1024x2816 .f32)
      transposes_S1024x2816_S2816x1024_1_0 : FVec Ideal S2816x1024 .f32)
theorem V_f : V m c main_v2 = first (W m c) (CG m c) := by
  show StableHlo.after hostOps0 (fun b => m (c, b)) main_v2 = _
  after_results_simp <;> rfl
theorem first_apply (W : FVec Ideal S1024x5632 .f32) (C : FVec Ideal S4096x2816 .f32) (p : Fin 4096) (k : Fin 1024) :
    first W C (ix2 p k) = half W C 0 (by norm_num) p k := by
  pointwise [first, half]

theorem e0 : ∀ t : Fin cfg0.N, win0_0.index t = ![t.val / 2, t.val % 2] := (by decide +kernel : ∀ t : Fin grid0.N, _)
theorem e1 : ∀ t : Fin cfg0.N, win0_1.index t = ![2 + t.val % 2, 0, 0] := (by decide +kernel : ∀ t : Fin grid0.N, _)
theorem e2 : ∀ t : Fin cfg0.N, win0_2.index t = ![t.val / 2, 0] := (by decide +kernel : ∀ t : Fin grid0.N, _)
theorem e3 : ∀ t : Fin cfg0.N, win0_3.index t = ![t.val / 2, 0] := (by decide +kernel : ∀ t : Fin grid0.N, _)
theorem e4 : ∀ t : Fin cfg0.N, win0_4.index t = ![0, 0] := (by decide +kernel : ∀ t : Fin grid0.N, _)
theorem e5 : ∀ t : Fin cfg0.N, win0_5.index t = ![t.val / 2, 0] := (by decide +kernel : ∀ t : Fin grid0.N, _)
theorem e6 : ∀ t : Fin cfg0.N, win0_6.index t = ![t.val / 2, 0] := (by decide +kernel : ∀ t : Fin grid0.N, _)
theorem e7 : ∀ t : Fin cfg0.N, win0_7.index t = ![t.val / 2, 0] := (by decide +kernel : ∀ t : Fin grid0.N, _)
theorem e8 : ∀ t : Fin cfg0.N, win0_8.index t = ![0, 0] := (by decide +kernel : ∀ t : Fin grid0.N, _)

/-- A point's blocks. -/
def bCU (t : Fin cfg0.N) : Vec Ideal S512x1408 .bf16 := iblk m c 0 t
def bW (t : Fin cfg0.N) : Vec Ideal S1x1024x1408 .bf16 := iblk m c 1 t
def bF (t : Fin cfg0.N) : Vec Ideal S512x1024 .f32 := iblk m c 2 t
def bX (t : Fin cfg0.N) : Vec Ideal S512x1024 .f32 := iblk m c 3 t
def bG (t : Fin cfg0.N) : Vec Ideal S1x1024 .f32 := iblk m c 4 t
def bD (t : Fin cfg0.N) : Vec Ideal S512x1024 .f32 := iblk m c 5 t

theorem pt_lt (t : Fin cfg0.N) : t.val < 16 := lt_of_lt_of_eq t.isLt N_0

/-- Row `i` of a point's block. -/
abbrev row (t : Fin cfg0.N) (i : Fin 512) : Fin 4096 := band (t.val / 2) (by have := pt_lt t; omega) i

theorem bCU_apply (t : Fin cfg0.N) (i : Fin 512) (l : Fin 1408) :
    bCU m c t (ix2 i l) = CU m c (ix2 (row t i) ⟨t.val % 2 * 1408 + l.val, by omega⟩) := by
  rw [← V_cu]
  unfold bCU
  blk_ext [iblk, e0, band]
theorem bW_apply (t : Fin cfg0.N) (j : Fin 1024) (l : Fin 1408) :
    bW m c t (ix3 (0 : Fin 1) j l) = W m c (ix2 j ⟨2816 + (t.val % 2 * 1408 + l.val), by omega⟩) := by
  refine Eq.trans ?_ (UpGateInput.byChip_apply (W m c) ⟨2 + t.val % 2, by omega⟩ j l _
    (by show 2816 + (t.val % 2 * 1408 + l.val) = (2 + t.val % 2) * 1408 + l.val; omega))
  rw [← V_w]
  unfold bW
  blk_ext [iblk, e1]
theorem bF_apply (t : Fin cfg0.N) (i : Fin 512) (k : Fin 1024) :
    bF m c t (ix2 i k) = half (W m c) (CG m c) 0 (by norm_num) (row t i) k := by
  rw [← first_apply, ← V_f]
  unfold bF
  blk_ext [iblk, e2, band]
theorem bX_apply (t : Fin cfg0.N) (i : Fin 512) (k : Fin 1024) : bX m c t (ix2 i k) = X m c (ix2 (row t i) k) := by
  unfold bX
  blk_ext [iblk, e3, band]
theorem bG_apply (t : Fin cfg0.N) (k : Fin 1024) : bG m c t (ix2 (0 : Fin 1) k) = G m c (ix1 k) := by
  rw [← V_g]
  unfold bG
  blk_ext [iblk, e4]
theorem bD_apply (t : Fin cfg0.N) (i : Fin 512) (k : Fin 1024) : bD m c t (ix2 i k) = D m c (ix2 (row t i) k) := by
  unfold bD
  blk_ext [iblk, e5, band]

/-- The gradient that comes back through the weight, at row `p`. -/
def back (W : Vec Ideal S1024x5632 .f32) (CG CU : Vec Ideal S4096x2816 .f32) (p : Fin 4096) (k : Fin 1024) : EReal :=
  half W CU 2816 (by norm_num) p k + half W CG 0 (by norm_num) p k

/-- The same as the reference has it, over all the columns at once. -/
def backRef (W : Vec Ideal S1024x5632 .f32) (CG CU : Vec Ideal S4096x2816 .f32) (p : Fin 4096) (k : Fin 1024) : EReal :=
  ∑ l : Fin 2816, CG (ix2 p l) * W (ix2 k ⟨l.val, by omega⟩) + ∑ l : Fin 2816, CU (ix2 p l) * W (ix2 k ⟨2816 + l.val, by omega⟩)
theorem back_eq : back = backRef := by
  funext W CG CU p k
  refine (add_comm _ _).trans (congrArg (· + half W CU 2816 (by norm_num) p k) (Finset.sum_congr rfl fun l _ => ?_))
  exact congrArg (fun n : Fin 5632 => CG (ix2 p l) * W (ix2 k n)) (Fin.ext (Nat.zero_add _))

/-- The two results' entries, of the arguments. -/
def resX (X : Vec Ideal S4096x1024 .f32) (G : Vec Ideal S1024 .f32) (W : Vec Ideal S1024x5632 .f32)
    (CG CU : Vec Ideal S4096x2816 .f32) (D : Vec Ideal S4096x1024 .f32) : Fin 4096 → Fin 1024 → EReal :=
  outX (fun p k => X (ix2 p k)) (back W CG CU) (fun p k => D (ix2 p k)) (fun k => G (ix1 k))
def resG (X : Vec Ideal S4096x1024 .f32) (W : Vec Ideal S1024x5632 .f32) (CG CU : Vec Ideal S4096x2816 .f32) : Fin 1024 → EReal :=
  outG (fun p k => X (ix2 p k)) (back W CG CU)

/-- What the second of two points has in the running sum. -/
def acc (t : Fin cfg0.N) : Vec Ideal S512x1024 .f32 :=
  (outsAt0 m c (t.val - 1) (Nat.lt_of_le_of_lt (Nat.sub_le _ _) t.isLt)).2.2.2

theorem scratch_even (t : Fin cfg0.N) (h : t.val % 2 = 0) : (outsAt0 m c t.val t.isLt).2.2.2 = k0_pay2 (bCU m c t) (bW m c t) := by
  rw [outsAt0_A m c t h (by omega) (by omega)]; frame_out; rfl

/-- The running sum after a band's second point. -/
def sum2 (t : Fin cfg0.N) : FVec Ideal S512x1024 .f32 := k0_pay3 (bCU m c t) (bW m c t) (acc m c t)

theorem sum2_apply (t : Fin cfg0.N) (h : t.val % 2 = 1) (i : Fin 512) (k : Fin 1024) :
    sum2 m c t (ix2 i k) = half (W m c) (CU m c) 2816 (by norm_num) (row t i) k := by
  have hlt := pt_lt t
  have ea : acc m c t = k0_pay2 (bCU m c ⟨t.val - 1, by omega⟩) (bW m c ⟨t.val - 1, by omega⟩) :=
    scratch_even m c ⟨t.val - 1, by omega⟩ (by show (t.val - 1) % 2 = 0; omega)
  have er : row ⟨t.val - 1, by omega⟩ i = row t i := Fin.ext (by show (t.val - 1) / 2 * 512 + i.val = t.val / 2 * 512 + i.val; omega)
  unfold sum2
  rw [add_apply, ea, store_apply, part_apply, part_apply]
  simp only [bCU_apply, bW_apply, er]
  unfold half
  rw [← Cert.Products.sum_parts (J := 2) (w := 1408) (K := 2816) (by norm_num), Fin.sum_univ_two]
  refine congrArg₂ (· + ·) (Finset.sum_congr rfl fun l _ => ?_) (Finset.sum_congr rfl fun l _ => ?_)
  · have e : (⟨(t.val - 1) % 2 * 1408 + l.val, by omega⟩ : Fin 2816) = Cert.Products.place (J := 2) (w := 1408) (K := 2816) (by norm_num) 0 (by norm_num) l :=
      Fin.ext (by show (t.val - 1) % 2 * 1408 + l.val = 0 * 1408 + l.val; omega)
    have e' : (⟨2816 + ((t.val - 1) % 2 * 1408 + l.val), by omega⟩ : Fin 5632)
        = ⟨2816 + (Cert.Products.place (J := 2) (w := 1408) (K := 2816) (by norm_num) 0 (by norm_num) l).val, by omega⟩ :=
      congrArg (fun n : Fin 2816 => (⟨2816 + n.val, by omega⟩ : Fin 5632)) e
    exact congrArg₂ (fun u v => CU m c (ix2 (row t i) u) * W m c (ix2 k v)) e e'
  · have e : (⟨t.val % 2 * 1408 + l.val, by omega⟩ : Fin 2816) = Cert.Products.place (J := 2) (w := 1408) (K := 2816) (by norm_num) 1 (by norm_num) l :=
      Fin.ext (by show t.val % 2 * 1408 + l.val = 1 * 1408 + l.val; omega)
    have e' : (⟨2816 + (t.val % 2 * 1408 + l.val), by omega⟩ : Fin 5632)
        = ⟨2816 + (Cert.Products.place (J := 2) (w := 1408) (K := 2816) (by norm_num) 1 (by norm_num) l).val, by omega⟩ :=
      congrArg (fun n : Fin 2816 => (⟨2816 + n.val, by omega⟩ : Fin 5632)) e
    exact congrArg₂ (fun u v => CU m c (ix2 (row t i) u) * W m c (ix2 k v)) e e'

theorem point_dx (t : Fin cfg0.N) (h : t.val % 2 = 1) (i : Fin 512) (j : Fin 1024) :
    k0_pay8 (sum2 m c t) (bF m c t) (bX m c t) (bG m c t) (bD m c t) (ix2 i j)
      = resX (X m c) (G m c) (W m c) (CG m c) (CU m c) (D m c) (row t i) j := by
  rw [dx_apply]
  simp only [sum2_apply m c t h, bF_apply, bX_apply, bG_apply, bD_apply]
  rfl

theorem point_dg (t : Fin cfg0.N) (h : t.val % 2 = 1) (j : Fin 1024) :
    k0_pay4 (k0_pay10 (sum2 m c t) (bF m c t) (bX m c t)) (ix2 (0 : Fin 1) j)
      = ∑ i : Fin 512, dg (fun k => X m c (ix2 (row t i) k)) (back (W m c) (CG m c) (CU m c) (row t i)) j := by
  rw [dg_apply]
  simp only [sum2_apply m c t h, bF_apply, bX_apply]
  rfl

/-- What is at hand after a band's second point in the results that it writes, and after each point in the one that is added
    to. -/
theorem left6 (t : Fin cfg0.N) (h : t.val % 2 = 1) :
    (outsAt0 m c t.val t.isLt).1 = k0_pay8 (sum2 m c t) (bF m c t) (bX m c t) (bG m c t) (bD m c t) := by
  by_cases h3 : t.val < 2
  · rw [outsAt0_B m c t (by omega) h h h3 (by omega)]; frame_out; rw [read_unread_whole]; rfl
  · rw [outsAt0_C m c t (by omega) h h h3 (by omega)]; frame_out; rw [read_unread_whole]; rfl
theorem left7 (t : Fin cfg0.N) (h : t.val % 2 = 1) :
    (outsAt0 m c t.val t.isLt).2.1 = k0_pay9 (sum2 m c t) (bF m c t) (bX m c t) (bG m c t) (bD m c t) := by
  by_cases h3 : t.val < 2
  · rw [outsAt0_B m c t (by omega) h h h3 (by omega)]; frame_out; rw [read_unread_whole]; rfl
  · rw [outsAt0_C m c t (by omega) h h h3 (by omega)]; frame_out; rw [read_unread_whole]; rfl
theorem even8 (t : Fin cfg0.N) (h : t.val % 2 = 0) :
    (outsAt0 m c t.val t.isLt).2.2.1 = (outsAt0 m c (t.val - 1) (Nat.lt_of_le_of_lt (Nat.sub_le _ _) t.isLt)).2.2.1 := by
  rw [outsAt0_A m c t h (by omega) (by omega)]; frame_out; rfl
theorem first8 (t : Fin cfg0.N) (h : t.val % 2 = 1) (h3 : t.val < 2) :
    (outsAt0 m c t.val t.isLt).2.2.1 = k0_pay4 (k0_pay10 (sum2 m c t) (bF m c t) (bX m c t)) := by
  rw [outsAt0_B m c t (by omega) h h h3 (by omega)]; frame_out; rw [read_unread_whole]; rfl
theorem next8 (t : Fin cfg0.N) (h : t.val % 2 = 1) (h3 : ¬t.val < 2) :
    (outsAt0 m c t.val t.isLt).2.2.1 = k0_pay5 (k0_pay10 (sum2 m c t) (bF m c t) (bX m c t))
      (outsAt0 m c (t.val - 1) (Nat.lt_of_le_of_lt (Nat.sub_le _ _) t.isLt)).2.2.1 := by
  rw [outsAt0_C m c t (by omega) h h h3 (by omega)]; frame_out; rw [read_unread_whole]; rfl

/-- The gain's gradient after band `s`. -/
def gain (j : Fin 1024) (s : ℕ) (h : s < 8) : EReal :=
  (outsAt0 m c (2 * s + 1) (lt_of_lt_of_eq (by omega : 2 * s + 1 < 16) N_0.symm)).2.2.1 (ix2 (0 : Fin 1) j)

theorem row_eq (s : ℕ) (h : s < 8) (h' : 2 * s + 1 < cfg0.N) (i : Fin 512) : row ⟨2 * s + 1, h'⟩ i = band s h i :=
  Fin.ext (by show (2 * s + 1) / 2 * 512 + i.val = s * 512 + i.val; omega)

theorem gain_first (j : Fin 1024) (s : ℕ) (h : s < 8) (h0 : s = 0) :
    gain m c j s h = ∑ i : Fin 512, dg (fun k => X m c (ix2 (band s h i) k)) (back (W m c) (CG m c) (CU m c) (band s h i)) j := by
  unfold gain
  rw [first8 m c ⟨2 * s + 1, lt_of_lt_of_eq (by omega) N_0.symm⟩ (by show (2 * s + 1) % 2 = 1; omega) (by show 2 * s + 1 < 2; omega),
    point_dg m c _ (by show (2 * s + 1) % 2 = 1; omega)]
  simp only [row_eq s h]

theorem gain_next (j : Fin 1024) (s : ℕ) (h : s < 8) (h0 : 1 ≤ s) :
    gain m c j s h = gain m c j (s - 1) (by omega)
      + ∑ i : Fin 512, dg (fun k => X m c (ix2 (band s h i) k)) (back (W m c) (CG m c) (CU m c) (band s h i)) j := by
  have e : ∀ (n n' : ℕ) (hn : n < cfg0.N) (hn' : n' < cfg0.N), n = n' →
      (outsAt0 m c n hn).2.2.1 (ix2 (0 : Fin 1) j) = (outsAt0 m c n' hn').2.2.1 (ix2 (0 : Fin 1) j) := by
    rintro n _ _ _ rfl; rfl
  unfold gain
  rw [next8 m c ⟨2 * s + 1, lt_of_lt_of_eq (by omega) N_0.symm⟩ (by show (2 * s + 1) % 2 = 1; omega) (by show ¬2 * s + 1 < 2; omega),
    next_apply, point_dg m c _ (by show (2 * s + 1) % 2 = 1; omega)]
  simp only [row_eq s h]
  refine congrArg (· + _) ?_
  rw [e (2 * s + 1 - 1) (2 * s) _ (lt_of_lt_of_eq (by omega) N_0.symm) (by omega),
    even8 m c ⟨2 * s, lt_of_lt_of_eq (by omega) N_0.symm⟩ (by show 2 * s % 2 = 0; omega)]
  exact e _ _ _ _ (by show 2 * s - 1 = 2 * (s - 1) + 1; omega)

/-- After the last point it is the sum over all rows. -/
theorem last8 (t : Fin cfg0.N) (ht : t.val % 16 = 15) (j : Fin 1024) :
    (outsAt0 m c t.val t.isLt).2.2.1 (ix2 (0 : Fin 1) j) = resG (X m c) (W m c) (CG m c) (CU m c) j := by
  have e : ∀ (s : ℕ) (h : s < 8), s = 7 → gain m c j s h = resG (X m c) (W m c) (CG m c) (CU m c) j := by
    rintro n h rfl
    exact bands_sum (fun p => dg (fun k => X m c (ix2 p k)) (back (W m c) (CG m c) (CU m c) p) j) (gain m c j)
      (gain_first m c j 0 _ rfl) fun s h => gain_next m c j (s + 1) h (by omega)
  have e' : ∀ (n n' : ℕ) (hn : n < cfg0.N) (hn' : n' < cfg0.N), n = n' →
      (outsAt0 m c n hn).2.2.1 (ix2 (0 : Fin 1) j) = (outsAt0 m c n' hn').2.2.1 (ix2 (0 : Fin 1) j) := by
    rintro n _ _ _ rfl; rfl
  refine Eq.trans (e' _ (2 * (t.val / 2) + 1) _ (lt_of_lt_of_eq (by have := pt_lt t; omega) N_0.symm) (by omega)) ?_
  exact e (t.val / 2) (by have := pt_lt t; omega) (by have := pt_lt t; omega)

/-- The result arrays. -/
theorem final6 (R : Vec Ideal S4096x1024 .f32)
    (hR : ∀ p j, R (ix2 p j) = resX (X m c) (G m c) (W m c) (CG m c) (CU m c) (D m c) p j) : (dats m 0 c).arrAt 6 cfg0.N = R := by
  refine (dats m 0 c).arrAt_eq_of_covers 6 _ (by decide +kernel) fun t hf y => ?_
  have h := (flush0_6 t).mp hf
  blk_simp
  rw [after0_6, left6 m c t h]
  obtain ⟨i, j, rfl⟩ : ∃ (i : Fin 512) (j : Fin 1024), y = ix2 i j := ⟨y 0, y 1, eq_ix2 y⟩
  refine (point_dx m c t h i j).trans ((hR (row t i) j).symm.trans ?_)
  blk_ext [e6, band]
theorem final7 (R : Vec Ideal S4096x1024 .bf16)
    (hR : ∀ p j, R (ix2 p j) = resX (X m c) (G m c) (W m c) (CG m c) (CU m c) (D m c) p j) : (dats m 0 c).arrAt 7 cfg0.N = R := by
  refine (dats m 0 c).arrAt_eq_of_covers 7 _ (by decide +kernel) fun t hf y => ?_
  have h := (flush0_7 t).mp hf
  blk_simp
  rw [after0_7, left7 m c t h]
  obtain ⟨i, j, rfl⟩ : ∃ (i : Fin 512) (j : Fin 1024), y = ix2 i j := ⟨y 0, y 1, eq_ix2 y⟩
  refine (dxb_apply _ _ _ _ _ i j).trans ((point_dx m c t h i j).trans ((hR (row t i) j).symm.trans ?_))
  blk_ext [e7, band]
theorem final8 (R : Vec Ideal S1x1024 .f32) (hR : ∀ j, R (ix2 (0 : Fin 1) j) = resG (X m c) (W m c) (CG m c) (CU m c) j) :
    (dats m 0 c).arrAt 8 cfg0.N = R := by
  refine (dats m 0 c).arrAt_eq_of_covers 8 _ (by decide +kernel) fun t hf y => ?_
  blk_simp
  rw [after0_8]
  obtain ⟨i, j, rfl⟩ : ∃ (i : Fin 1) (j : Fin 1024), y = ix2 i j := ⟨y 0, y 1, eq_ix2 y⟩
  obtain rfl : i = 0 := Subsingleton.elim _ _
  refine (last8 m c t ((flush0_8 t).mp hf) j).trans ((hR j).symm.trans ?_)
  blk_ext [e8]

section Reference

variable (m' : (ℓ : Loc UpXRefIdeal.nD UpXRefIdeal.τ UpXRefIdeal.sig) → Buf (Elt Ideal) ℓ)

theorem ref_dx (p : Fin 4096) (j : Fin 1024) :
    (UpXRefIdeal.Value.res_main_v39 m' c : Vec Ideal S4096x1024 .f32) (ix2 p j)
      = resX (m' ((c.tc : Thread UpXRefIdeal.nD UpXRefIdeal.τ).loc UpXRefIdeal.main_arg0))
          (m' ((c.tc : Thread UpXRefIdeal.nD UpXRefIdeal.τ).loc UpXRefIdeal.main_arg1))
          (m' ((c.tc : Thread UpXRefIdeal.nD UpXRefIdeal.τ).loc UpXRefIdeal.main_arg2))
          (m' ((c.tc : Thread UpXRefIdeal.nD UpXRefIdeal.τ).loc UpXRefIdeal.main_arg3))
          (m' ((c.tc : Thread UpXRefIdeal.nD UpXRefIdeal.τ).loc UpXRefIdeal.main_arg4))
          (m' ((c.tc : Thread UpXRefIdeal.nD UpXRefIdeal.τ).loc UpXRefIdeal.main_arg5)) p j := by
  rw [resX, back_eq, outX, dx_eq]
  pointwise [UpXRefIdeal.Value.res_main_v39]
  simp only [Fin.sum_univ_one]
  rfl

theorem ref_dxb (p : Fin 4096) (j : Fin 1024) :
    (UpXRefIdeal.Value.res_main_v40 m' c : Vec Ideal S4096x1024 .bf16) (ix2 p j)
      = (UpXRefIdeal.Value.res_main_v39 m' c : Vec Ideal S4096x1024 .f32) (ix2 p j) := by
  pointwise [UpXRefIdeal.Value.res_main_v40, UpXRefIdeal.Value.res_main_v39]

end Reference

theorem algebraic : @algebraic_UpXIdeal_UpXRefIdeal Cert.UpXIdeal.Gen.facts Cert.UpXRefIdeal.Gen.facts := by
  intro m ρ m' ρ' _ hagree
  refine ⟨_, _, _, ?_, (θ_run Cert.UpXRefIdeal.defs _ _).mono (fun r h c => h c) (UpXRefIdeal.Value.run m' ρ')⟩
  refine (θ_run Cert.UpXIdeal.defs _ _).mono (fun r h c => ?_) (Value.run_blocks m ρ)
  obtain ⟨h6, h7, h8, k⟩ := h c
  obtain ⟨a0, a1, a2, a3, a4, a5⟩ := hagree c
  refine ⟨h6.trans (final6 m c _ fun p j => (ref_dx c m' p j).trans ?_),
    h7.trans (final7 m c _ fun p j => (ref_dxb c m' p j).trans ((ref_dx c m' p j).trans ?_)),
    h8.trans (final8 m c _ fun j => ?_), k⟩
  · rw [X, G, W, CG, CU, D, ← a0, ← a1, ← a2, ← a3, ← a4, ← a5]
  · rw [X, G, W, CG, CU, D, ← a0, ← a1, ← a2, ← a3, ← a4, ← a5]
  · rw [X, W, CG, CU, ← a0, ← a2, ← a3, ← a4]
    unfold resG outG
    simp only [dg_eq, back_eq]
    pointwise []
    rw [Fin.sum_univ_one]
    rfl

end Cert.UpInput

end
-- ==== Proof.InWeight.lean ====
module

public import proofs.«01_k».proof.Defs
public import proofs.«01_k».proof.Proof.Gen.InDwIdeal.Value
public import proofs.«01_k».proof.Proof.Gen.InDwRefIdeal.Run
public import proofs.«01_k».proof.Proof.Gen.InDw
public import proofs.«01_k».proof.Proof.Products
public import Idealize.ShloMosaic.Lib.Pipeline.ReadBack
public import Idealize.ShloMosaic.Lib.Pipeline.ValueKit.Acc
public import Idealize.ShloMosaic.Lib.Pipeline.ValueKit.Geometry
public import Idealize.ShloMosaic.Lib.Pipeline.ValueKit.Tiles
public import Idealize.ShloMosaic.Lib.Pointwise

/-!
# The input projection's gradient in its weight

Two points share a half of the columns: each multiplies half of the tokens, the first storing its product, the second adding to
it and writing the sum.
-/

@[expose] public section

set_option maxRecDepth 16384

noncomputable section

namespace Cert.InWeight

open scoped BigOperators
open Idealize.ShloMosaic Idealize.ShloMosaic.TcCoe Idealize.SL.Sem Cert.InDwIdeal Cert.InDwIdeal.Gen Cert.Products

/-- An entry of a part of a block's product, as the first point stores it and as the second adds it. -/
theorem store_apply (a : Vec Ideal S1024x2048 .bf16) (b : Vec Ideal S2048x1152 .bf16) (i : Fin 1024) (j : Fin 1152) :
    k0_pay2 a b (ix2 i j) = ∑ k : Fin 2048, a (ix2 i k) * b (ix2 k j) := by
  pointwise [k0_pay2, k0_pay1]
theorem add_apply (a : Vec Ideal S1024x2048 .bf16) (b : Vec Ideal S2048x1152 .bf16) (v : Vec Ideal S1024x1152 .f32) (i : Fin 1024) (j : Fin 1152) :
    k0_pay3 a b v (ix2 i j) = v (ix2 i j) + ∑ k : Fin 2048, a (ix2 i k) * b (ix2 k j) := by
  pointwise [k0_pay3, k0_pay1]

variable (m : (ℓ : Loc nD τ sig) → Buf (Elt Ideal) ℓ) (c : Dev nD)

/-- The arguments: the product's input and the gradient of its output. -/
abbrev H : Vec Ideal S4096x1024 .f32 := m ((c.tc : Thread nD τ).loc main_arg0)
abbrev C : Vec Ideal S4096x2304 .f32 := m ((c.tc : Thread nD τ).loc main_arg1)

/-- The host's part: the input is transposed. -/
theorem V_h (i : Fin 1024) (k : Fin 4096) : (V m c main_v1 : Vec Ideal S1024x4096 .bf16) (ix2 i k) = H m c (ix2 k i) := by
  have e : V m c main_v1 = transpose S1024x4096 [1, 0] (H m c) transposes_S4096x1024_S1024x4096_1_0 := by
    show StableHlo.after hostOps0 (fun b => m (c, b)) main_v1 = _
    after_results_simp <;> rfl
  rw [e]
  pointwise []
theorem V_c : V m c main_v2 = C m c := by
  show StableHlo.after hostOps0 (fun b => m (c, b)) main_v2 = _
  after_results_simp <;> rfl

theorem e0 : ∀ t : Fin cfg0.N, win0_0.index t = ![0, t.val % 2] := (by decide +kernel : ∀ t : Fin grid0.N, _)
theorem e1 : ∀ t : Fin cfg0.N, win0_1.index t = ![t.val % 2, t.val / 2] := (by decide +kernel : ∀ t : Fin grid0.N, _)
theorem e2 : ∀ t : Fin cfg0.N, win0_2.index t = ![0, t.val / 2] := (by decide +kernel : ∀ t : Fin grid0.N, _)

theorem pt_lt (t : Fin cfg0.N) : t.val < 4 := lt_of_lt_of_eq t.isLt N_0

/-- The column of the result that column `j` of a point's block is. -/
abbrev col (t : Fin cfg0.N) (j : Fin 1152) : Fin 2304 := ⟨t.val / 2 * 1152 + j.val, by have := pt_lt t; omega⟩

/-- The token that token `l` of a point's half is. -/
abbrev tok (t : Fin cfg0.N) (l : Fin 2048) : Fin 4096 := place (J := 2) (w := 2048) (by norm_num) (t.val % 2) (by omega) l

/-- A point's blocks of the operands. -/
def bH (t : Fin cfg0.N) : Vec Ideal S1024x2048 .bf16 := iblk m c 0 t
def bC (t : Fin cfg0.N) : Vec Ideal S2048x1152 .bf16 := iblk m c 1 t

theorem bH_apply (t : Fin cfg0.N) (i : Fin 1024) (l : Fin 2048) : bH m c t (ix2 i l) = H m c (ix2 (tok t l) i) := by
  rw [← V_h]
  unfold bH
  blk_ext [iblk, e0, place]
theorem bC_apply (t : Fin cfg0.N) (l : Fin 2048) (j : Fin 1152) : bC m c t (ix2 l j) = C m c (ix2 (tok t l) (col t j)) := by
  rw [← V_c]
  unfold bC
  blk_ext [iblk, e1, place]

/-- What the second of two points has in the running sum, and what it writes. -/
def acc (t : Fin cfg0.N) : Vec Ideal S1024x1152 .f32 := (outsAt0 m c (t.val - 1) (Nat.lt_of_le_of_lt (Nat.sub_le _ _) t.isLt)).2

theorem left_even (t : Fin cfg0.N) (h : t.val % 2 = 0) : (outsAt0 m c t.val t.isLt).2 = k0_pay2 (bH m c t) (bC m c t) := by
  rw [outsAt0_A m c t h (by omega) (by omega)]; frame_out; rfl
theorem left_odd (t : Fin cfg0.N) (h : t.val % 2 = 1) : (outsAt0 m c t.val t.isLt).1 = k0_pay3 (bH m c t) (bC m c t) (acc m c t) := by
  rw [outsAt0_B m c t (by omega) h h]; frame_out; rw [read_unread_whole]; rfl

theorem point_sum (t : Fin cfg0.N) (h : t.val % 2 = 1) (i : Fin 1024) (j : Fin 1152) :
    k0_pay3 (bH m c t) (bC m c t) (acc m c t) (ix2 i j) = ∑ k : Fin 4096, H m c (ix2 k i) * C m c (ix2 k (col t j)) := by
  have ht := pt_lt t
  have ea : acc m c t = k0_pay2 (bH m c ⟨t.val - 1, by omega⟩) (bC m c ⟨t.val - 1, by omega⟩) :=
    left_even m c ⟨t.val - 1, by omega⟩ (by show (t.val - 1) % 2 = 0; omega)
  have e0 : (t.val - 1) % 2 = 0 := by omega
  have ec : col ⟨t.val - 1, by omega⟩ j = col t j := Fin.ext (by show (t.val - 1) / 2 * 1152 + j.val = t.val / 2 * 1152 + j.val; omega)
  rw [add_apply, ea, store_apply, ← sum_parts (J := 2) (w := 2048) (K := 4096) (by norm_num), Fin.sum_univ_two]
  simp only [bH_apply, bC_apply, tok, h, e0, ec]
  rfl

/-- The result array. -/
theorem final (R : Vec Ideal S1024x2304 .f32) (hR : ∀ p q, R (ix2 p q) = ∑ k : Fin 4096, H m c (ix2 k p) * C m c (ix2 k q)) :
    (dats m 0 c).arrAt 2 cfg0.N = R := by
  refine (dats m 0 c).arrAt_eq_of_covers 2 _ (by decide +kernel) fun t hf y => ?_
  have h := (flush0_2 t).mp hf
  blk_simp
  rw [after0_2, left_odd m c t h]
  obtain ⟨i, j, rfl⟩ : ∃ (i : Fin 1024) (j : Fin 1152), y = ix2 i j := ⟨y 0, y 1, eq_ix2 y⟩
  refine (point_sum m c t h i j).trans ((hR i (col t j)).symm.trans ?_)
  blk_ext [e2]

theorem algebraic : @algebraic_InDwIdeal_InDwRefIdeal Cert.InDwIdeal.Gen.facts Cert.InDwRefIdeal.Gen.facts := by
  intro m ρ m' ρ' _ hagree
  refine ⟨_, ?_, (θ_run Cert.InDwRefIdeal.defs _ _).mono (fun r h c => h c) (InDwRefIdeal.Value.run m' ρ')⟩
  refine (θ_run Cert.InDwIdeal.defs _ _).mono (fun r h c => ?_) (Value.run_blocks m ρ)
  obtain ⟨e, k⟩ := h c
  obtain ⟨a0, a1⟩ := hagree c
  refine ⟨e.trans (final m c _ fun p q => ?_), k⟩
  rw [H, C, ← a0, ← a1]
  pointwise []
  refine Finset.sum_congr rfl fun k _ => mul_comm _ _

end Cert.InWeight

end
-- ==== Proof.OutInput.lean ====
module

public import proofs.«01_k».proof.Defs
public import proofs.«01_k».proof.Proof.Gen.OutDxIdeal.Value
public import proofs.«01_k».proof.Proof.Gen.OutDxRefIdeal.Run
public import proofs.«01_k».proof.Proof.Gen.OutDx
public import proofs.«01_k».proof.Proof.Products
public import Idealize.ShloMosaic.Lib.Pipeline.ReadBack
public import Idealize.ShloMosaic.Lib.Pipeline.ValueKit.Acc
public import Idealize.ShloMosaic.Lib.Pipeline.ValueKit.Geometry
public import Idealize.ShloMosaic.Lib.Pipeline.ValueKit.Tiles
public import Idealize.ShloMosaic.Lib.Pointwise

/-!
# The output projection's gradient in its input

Each of the four points writes a quarter of the rows, each entry a whole sum.
-/

@[expose] public section

set_option maxRecDepth 16384

noncomputable section

namespace Cert.OutInput

open scoped BigOperators
open Idealize.ShloMosaic Idealize.ShloMosaic.TcCoe Idealize.SL.Sem Cert.OutDxIdeal Cert.OutDxIdeal.Gen Cert.Products

/-- An entry of a block's product. -/
theorem prod_apply (a : Vec Ideal S1024x1024 .bf16) (b : Vec Ideal S1024x1024 .bf16) (i : Fin 1024) (j : Fin 1024) :
    k0_pay1 a b (ix2 i j) = ∑ k : Fin 1024, a (ix2 i k) * b (ix2 j k) := by
  pointwise [k0_pay1]

variable (m : (ℓ : Loc nD τ sig) → Buf (Elt Ideal) ℓ) (c : Dev nD)

/-- The arguments. -/
abbrev A : Vec Ideal S4096x1024 .f32 := m ((c.tc : Thread nD τ).loc main_arg1)
abbrev B : Vec Ideal S1024x1024 .f32 := m ((c.tc : Thread nD τ).loc main_arg0)

/-- The host's part: the operands are the arguments. -/
theorem V_a : V m c main_v0 = A m c := by
  show StableHlo.after hostOps0 (fun b => m (c, b)) main_v0 = _
  after_results_simp <;> rfl
theorem V_b : V m c main_v1 = B m c := by
  show StableHlo.after hostOps0 (fun b => m (c, b)) main_v1 = _
  after_results_simp <;> rfl

theorem e0 : ∀ t : Fin cfg0.N, win0_0.index t = ![t.val, 0] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![t.val, 0] := (by decide +kernel : ∀ t : Fin grid0.N, _)

theorem pt_lt (t : Fin cfg0.N) : t.val < 4 := lt_of_lt_of_eq t.isLt N_0

/-- The row and the column of the result that entry (i, j) of a point's block is. -/
abbrev row (t : Fin cfg0.N) (i : Fin 1024) : Fin 4096 := ⟨t.val * 1024 + i.val, by have := pt_lt t; omega⟩
abbrev col (_ : Fin cfg0.N) (j : Fin 1024) : Fin 1024 := j

/-- A point's blocks of the operands. -/
def bA (t : Fin cfg0.N) : Vec Ideal S1024x1024 .bf16 := iblk m c 0 t
def bB (t : Fin cfg0.N) : Vec Ideal S1024x1024 .bf16 := iblk m c 1 t

theorem bA_apply (t : Fin cfg0.N) (i : Fin 1024) (k : Fin 1024) : bA m c t (ix2 i k) = A m c (ix2 (row t i) k) := by
  rw [← V_a]
  unfold bA
  blk_ext [iblk, e0]
theorem bB_apply (t : Fin cfg0.N) (k : Fin 1024) (j : Fin 1024) : bB m c t (ix2 j k) = B m c (ix2 (col t j) k) := by
  rw [← V_b]
  unfold bB
  blk_ext [iblk, e1]

/-- The result array. -/
theorem final (R : Vec Ideal S4096x1024 .f32) (hR : ∀ p q, R (ix2 p q) = ∑ k : Fin 1024, A m c (ix2 p k) * B m c (ix2 q k)) :
    (dats m 0 c).arrAt 2 cfg0.N = R := by
  refine (dats m 0 c).arrAt_eq_of_covers 2 _ (by decide +kernel) fun t hf y => ?_
  blk_simp
  rw [after0_2]
  frame_out
  obtain ⟨i, j, rfl⟩ : ∃ (i : Fin 1024) (j : Fin 1024), y = ix2 i j := ⟨y 0, y 1, eq_ix2 y⟩
  refine (prod_apply (bA m c t) (bB m c t) i j).trans ?_
  simp only [bA_apply, bB_apply]
  refine (hR (row t i) (col t j)).symm.trans ?_
  blk_ext [e2]

theorem algebraic : @algebraic_OutDxIdeal_OutDxRefIdeal Cert.OutDxIdeal.Gen.facts Cert.OutDxRefIdeal.Gen.facts := by
  intro m ρ m' ρ' _ hagree
  refine ⟨_, ?_, (θ_run Cert.OutDxRefIdeal.defs _ _).mono (fun r h c => h c) (OutDxRefIdeal.Value.run m' ρ')⟩
  refine (θ_run Cert.OutDxIdeal.defs _ _).mono (fun r h c => ?_) (Value.run_blocks m ρ)
  obtain ⟨e, k⟩ := h c
  obtain ⟨a0, a1⟩ := hagree c
  refine ⟨e.trans (final m c _ fun p q => ?_), k⟩
  rw [A, B, ← a1, ← a0]
  pointwise []

end Cert.OutInput

end
-- ==== Proof.OutWeight.lean ====
module

public import proofs.«01_k».proof.Defs
public import proofs.«01_k».proof.Proof.Gen.OutDwIdeal.Value
public import proofs.«01_k».proof.Proof.Gen.OutDwRefIdeal.Run
public import proofs.«01_k».proof.Proof.Gen.OutDw
public import proofs.«01_k».proof.Proof.Products
public import Idealize.ShloMosaic.Lib.Pipeline.ReadBack
public import Idealize.ShloMosaic.Lib.Pipeline.ValueKit.Acc
public import Idealize.ShloMosaic.Lib.Pipeline.ValueKit.Geometry
public import Idealize.ShloMosaic.Lib.Pipeline.ValueKit.Tiles
public import Idealize.ShloMosaic.Lib.Pointwise

/-!
# The output projection's gradient in its weight

Each of the four points multiplies a quarter of the tokens. The first stores its product, the others add to it, and the last
writes the sum.
-/

@[expose] public section

set_option maxRecDepth 16384

noncomputable section

namespace Cert.OutWeight

open scoped BigOperators
open Idealize.ShloMosaic Idealize.ShloMosaic.TcCoe Idealize.SL.Sem Cert.OutDwIdeal Cert.OutDwIdeal.Gen Cert.Products

/-- An entry of a part of the product, as the first point stores it and as the others add it. -/
theorem store_apply (a : Vec Ideal S1024x1024 .bf16) (b : Vec Ideal S1024x1024 .bf16) (i : Fin 1024) (j : Fin 1024) :
    k0_pay2 a b (ix2 i j) = ∑ k : Fin 1024, a (ix2 k i) * b (ix2 k j) := by
  pointwise [k0_pay2, k0_pay1]
theorem add_apply (a : Vec Ideal S1024x1024 .bf16) (b : Vec Ideal S1024x1024 .bf16) (v : Vec Ideal S1024x1024 .f32) (i : Fin 1024) (j : Fin 1024) :
    k0_pay3 a b v (ix2 i j) = v (ix2 i j) + ∑ k : Fin 1024, a (ix2 k i) * b (ix2 k j) := by
  pointwise [k0_pay3, k0_pay1]

variable (m : (ℓ : Loc nD τ sig) → Buf (Elt Ideal) ℓ) (c : Dev nD)

/-- The arguments: the product's input and the gradient of its output. -/
abbrev H : Vec Ideal S4096x1024 .f32 := m ((c.tc : Thread nD τ).loc main_arg0)
abbrev C : Vec Ideal S4096x1024 .f32 := m ((c.tc : Thread nD τ).loc main_arg1)

/-- The host's part: the operands are the arguments. -/
theorem V_h : V m c main_v0 = H m c := by
  show StableHlo.after hostOps0 (fun b => m (c, b)) main_v0 = _
  after_results_simp <;> rfl
theorem V_c : V m c main_v1 = C m c := by
  show StableHlo.after hostOps0 (fun b => m (c, b)) main_v1 = _
  after_results_simp <;> rfl

theorem e0 : ∀ t : Fin cfg0.N, win0_0.index t = ![t.val, 0] := (by decide +kernel : ∀ t : Fin grid0.N, _)
theorem e1 : ∀ t : Fin cfg0.N, win0_1.index t = ![t.val, 0] := (by decide +kernel : ∀ t : Fin grid0.N, _)
theorem e2 : ∀ t : Fin cfg0.N, win0_2.index t = ![0, 0] := (by decide +kernel : ∀ t : Fin grid0.N, _)

theorem pt_lt (t : Fin cfg0.N) : t.val < 4 := lt_of_lt_of_eq t.isLt N_0

/-- The token that token `l` of a point's quarter is. -/
abbrev tok (t : Fin cfg0.N) (l : Fin 1024) : Fin 4096 := place (J := 4) (w := 1024) (by norm_num) t.val (pt_lt t) l

/-- A point's blocks of the operands. -/
def bH (t : Fin cfg0.N) : Vec Ideal S1024x1024 .bf16 := iblk m c 0 t
def bC (t : Fin cfg0.N) : Vec Ideal S1024x1024 .bf16 := iblk m c 1 t

theorem bH_apply (t : Fin cfg0.N) (l : Fin 1024) (i : Fin 1024) : bH m c t (ix2 l i) = H m c (ix2 (tok t l) i) := by
  rw [← V_h]
  unfold bH
  blk_ext [iblk, e0, place]
theorem bC_apply (t : Fin cfg0.N) (l : Fin 1024) (j : Fin 1024) : bC m c t (ix2 l j) = C m c (ix2 (tok t l) j) := by
  rw [← V_c]
  unfold bC
  blk_ext [iblk, e1, place]

/-- What a point has in the running sum from the one before, what it leaves there, and what the last one writes. -/
def prev (t : Fin cfg0.N) : Vec Ideal S1024x1024 .f32 := (outsAt0 m c (t.val - 1) (Nat.lt_of_le_of_lt (Nat.sub_le _ _) t.isLt)).2

theorem left_first (t : Fin cfg0.N) (h : t.val = 0) : (outsAt0 m c t.val t.isLt).2 = k0_pay2 (bH m c t) (bC m c t) := by
  rw [outsAt0_A m c t (by omega) (by omega) (by omega)]; frame_out; rfl
theorem left_next (t : Fin cfg0.N) (h : 1 ≤ t.val) (h' : t.val < 3) :
    (outsAt0 m c t.val t.isLt).2 = k0_pay3 (bH m c t) (bC m c t) (prev m c t) := by
  rw [outsAt0_B m c t (by omega) (by omega) (by omega)]; frame_out; rw [read_unread_whole]; rfl
theorem left_last (t : Fin cfg0.N) (h : t.val = 3) :
    (outsAt0 m c t.val t.isLt).1 = k0_pay3 (bH m c t) (bC m c t) (prev m c t) := by
  rw [outsAt0_C m c t (by omega) (by omega) (by omega)]; frame_out; rw [read_unread_whole]; rfl

/-- An entry of the running sum after point `n`, and the part that point `n` adds. -/
def acc (i : Fin 1024) (j : Fin 1024) (n : ℕ) (h : n < 4) : EReal := (outsAt0 m c n (lt_of_lt_of_eq h N_0.symm)).2 (ix2 i j)
def part (i : Fin 1024) (j : Fin 1024) (n : ℕ) (h : n < 4) : EReal :=
  ∑ l : Fin 1024, H m c (ix2 (place (J := 4) (w := 1024) (K := 4096) (by norm_num) n h l) i) * C m c (ix2 (place (J := 4) (w := 1024) (K := 4096) (by norm_num) n h l) j)

theorem acc_first (i : Fin 1024) (j : Fin 1024) (n : ℕ) (h : n < 4) (h0 : n = 0) : acc m c i j n h = part m c i j n h := by
  unfold acc part
  rw [left_first m c ⟨n, lt_of_lt_of_eq h N_0.symm⟩ h0, store_apply]
  simp only [bH_apply, bC_apply]
theorem acc_next (i : Fin 1024) (j : Fin 1024) (n : ℕ) (h : n < 4) (h0 : 1 ≤ n) (h1 : n < 3) :
    acc m c i j n h = acc m c i j (n - 1) (by omega) + part m c i j n h := by
  unfold acc part
  rw [left_next m c ⟨n, lt_of_lt_of_eq h N_0.symm⟩ h0 h1, add_apply]
  simp only [bH_apply, bC_apply]
  rfl
theorem last (t : Fin cfg0.N) (h : t.val = 3) (i : Fin 1024) (j : Fin 1024) :
    k0_pay3 (bH m c t) (bC m c t) (prev m c t) (ix2 i j) = ∑ k : Fin 4096, H m c (ix2 k i) * C m c (ix2 k j) := by
  have e : ∀ (n : ℕ) (hn : n < 4), n = 3 → acc m c i j (n - 1) (by omega) + part m c i j n hn = ∑ k : Fin 4096, H m c (ix2 k i) * C m c (ix2 k j) := by
    rintro n hn rfl
    rw [acc_next m c i j (3 - 1) _ (by norm_num) (by norm_num), acc_next m c i j (3 - 1 - 1) _ (by norm_num) (by norm_num),
      acc_first m c i j (3 - 1 - 1 - 1) _ rfl, ← sum_parts (J := 4) (w := 1024) (K := 4096) (by norm_num), Fin.sum_univ_four]
    rfl
  refine Eq.trans ?_ (e t.val (pt_lt t) h)
  rw [add_apply]
  simp only [bH_apply, bC_apply]
  rfl

/-- The result array. -/
theorem final (R : Vec Ideal S1024x1024 .f32) (hR : ∀ p q, R (ix2 p q) = ∑ k : Fin 4096, H m c (ix2 k p) * C m c (ix2 k q)) :
    (dats m 0 c).arrAt 2 cfg0.N = R := by
  refine (dats m 0 c).arrAt_eq_of_covers 2 _ (by decide +kernel) fun t hf y => ?_
  have h : t.val = 3 := by have := (flush0_2 t).mp hf; have := pt_lt t; omega
  blk_simp
  rw [after0_2, left_last m c t h]
  obtain ⟨i, j, rfl⟩ : ∃ (i : Fin 1024) (j : Fin 1024), y = ix2 i j := ⟨y 0, y 1, eq_ix2 y⟩
  refine (last m c t h i j).trans ((hR i j).symm.trans ?_)
  blk_ext [e2]

theorem algebraic : @algebraic_OutDwIdeal_OutDwRefIdeal Cert.OutDwIdeal.Gen.facts Cert.OutDwRefIdeal.Gen.facts := by
  intro m ρ m' ρ' _ hagree
  refine ⟨_, ?_, (θ_run Cert.OutDwRefIdeal.defs _ _).mono (fun r h c => h c) (OutDwRefIdeal.Value.run m' ρ')⟩
  refine (θ_run Cert.OutDwIdeal.defs _ _).mono (fun r h c => ?_) (Value.run_blocks m ρ)
  obtain ⟨e, k⟩ := h c
  obtain ⟨a0, a1⟩ := hagree c
  refine ⟨e.trans (final m c _ fun p q => ?_), k⟩
  rw [H, C, ← a0, ← a1]
  pointwise []
  refine Finset.sum_congr rfl fun k _ => mul_comm _ _

end Cert.OutWeight

end
-- ==== Proof.GateWeight.lean ====
module

public import proofs.«01_k».proof.Defs
public import proofs.«01_k».proof.Proof.Gen.GateDwIdeal.Value
public import proofs.«01_k».proof.Proof.Gen.GateDwRefIdeal.Run
public import proofs.«01_k».proof.Proof.Gen.GateDw
public import proofs.«01_k».proof.Proof.Products
public import Idealize.ShloMosaic.Lib.Pipeline.ReadBack
public import Idealize.ShloMosaic.Lib.Pipeline.ValueKit.Acc
public import Idealize.ShloMosaic.Lib.Pipeline.ValueKit.Geometry
public import Idealize.ShloMosaic.Lib.Pipeline.ValueKit.Tiles
public import Idealize.ShloMosaic.Lib.Pointwise

/-!
# The gradient of the embedding's gate product in its weight

Each of the two points multiplies half of the tokens, the first storing its product, the second adding to it and writing the
sum.
-/

@[expose] public section

set_option maxRecDepth 16384

noncomputable section

namespace Cert.GateWeight

open scoped BigOperators
open Idealize.ShloMosaic Idealize.ShloMosaic.TcCoe Idealize.SL.Sem Cert.GateDwIdeal Cert.GateDwIdeal.Gen Cert.Products

/-- An entry of a part of a block's product, as the first point stores it and as the second adds it. -/
theorem store_apply (a : Vec Ideal S1024x2048 .bf16) (b : Vec Ideal S2048x1024 .bf16) (i : Fin 1024) (j : Fin 1024) :
    k0_pay2 a b (ix2 i j) = ∑ k : Fin 2048, a (ix2 i k) * b (ix2 k j) := by
  pointwise [k0_pay2, k0_pay1]
theorem add_apply (a : Vec Ideal S1024x2048 .bf16) (b : Vec Ideal S2048x1024 .bf16) (v : Vec Ideal S1024x1024 .f32) (i : Fin 1024) (j : Fin 1024) :
    k0_pay3 a b v (ix2 i j) = v (ix2 i j) + ∑ k : Fin 2048, a (ix2 i k) * b (ix2 k j) := by
  pointwise [k0_pay3, k0_pay1]

variable (m : (ℓ : Loc nD τ sig) → Buf (Elt Ideal) ℓ) (c : Dev nD)

/-- The arguments: the product's input and the gradient of its output. -/
abbrev H : Vec Ideal S4096x1024 .f32 := m ((c.tc : Thread nD τ).loc main_arg0)
abbrev C : Vec Ideal S4096x1024 .f32 := m ((c.tc : Thread nD τ).loc main_arg1)

/-- The host's part: the input is transposed. -/
theorem V_h (i : Fin 1024) (k : Fin 4096) : (V m c main_v1 : Vec Ideal S1024x4096 .bf16) (ix2 i k) = H m c (ix2 k i) := by
  have e : V m c main_v1 = transpose S1024x4096 [1, 0] (H m c) transposes_S4096x1024_S1024x4096_1_0 := by
    show StableHlo.after hostOps0 (fun b => m (c, b)) main_v1 = _
    after_results_simp <;> rfl
  rw [e]
  pointwise []
theorem V_c : V m c main_v2 = C m c := by
  show StableHlo.after hostOps0 (fun b => m (c, b)) main_v2 = _
  after_results_simp <;> rfl

theorem e0 : ∀ t : Fin cfg0.N, win0_0.index t = ![0, t.val % 2] := (by decide +kernel : ∀ t : Fin grid0.N, _)
theorem e1 : ∀ t : Fin cfg0.N, win0_1.index t = ![t.val % 2, 0] := (by decide +kernel : ∀ t : Fin grid0.N, _)
theorem e2 : ∀ t : Fin cfg0.N, win0_2.index t = ![0, 0] := (by decide +kernel : ∀ t : Fin grid0.N, _)

theorem pt_lt (t : Fin cfg0.N) : t.val < 2 := lt_of_lt_of_eq t.isLt N_0

/-- The column of the result that column `j` of a point's block is. -/
abbrev col (_ : Fin cfg0.N) (j : Fin 1024) : Fin 1024 := j

/-- The token that token `l` of a point's half is. -/
abbrev tok (t : Fin cfg0.N) (l : Fin 2048) : Fin 4096 := place (J := 2) (w := 2048) (by norm_num) (t.val % 2) (by omega) l

/-- A point's blocks of the operands. -/
def bH (t : Fin cfg0.N) : Vec Ideal S1024x2048 .bf16 := iblk m c 0 t
def bC (t : Fin cfg0.N) : Vec Ideal S2048x1024 .bf16 := iblk m c 1 t

theorem bH_apply (t : Fin cfg0.N) (i : Fin 1024) (l : Fin 2048) : bH m c t (ix2 i l) = H m c (ix2 (tok t l) i) := by
  rw [← V_h]
  unfold bH
  blk_ext [iblk, e0, place]
theorem bC_apply (t : Fin cfg0.N) (l : Fin 2048) (j : Fin 1024) : bC m c t (ix2 l j) = C m c (ix2 (tok t l) (col t j)) := by
  rw [← V_c]
  unfold bC
  blk_ext [iblk, e1, place]

/-- What the second of two points has in the running sum, and what it writes. -/
def acc (t : Fin cfg0.N) : Vec Ideal S1024x1024 .f32 := (outsAt0 m c (t.val - 1) (Nat.lt_of_le_of_lt (Nat.sub_le _ _) t.isLt)).2

theorem left_even (t : Fin cfg0.N) (h : t.val % 2 = 0) : (outsAt0 m c t.val t.isLt).2 = k0_pay2 (bH m c t) (bC m c t) := by
  rw [outsAt0_A m c t h (by omega) (by omega)]; frame_out; rfl
theorem left_odd (t : Fin cfg0.N) (h : t.val % 2 = 1) : (outsAt0 m c t.val t.isLt).1 = k0_pay3 (bH m c t) (bC m c t) (acc m c t) := by
  rw [outsAt0_B m c t (by omega) h h]; frame_out; rw [read_unread_whole]; rfl

theorem point_sum (t : Fin cfg0.N) (h : t.val % 2 = 1) (i : Fin 1024) (j : Fin 1024) :
    k0_pay3 (bH m c t) (bC m c t) (acc m c t) (ix2 i j) = ∑ k : Fin 4096, H m c (ix2 k i) * C m c (ix2 k (col t j)) := by
  have ht := pt_lt t
  have ea : acc m c t = k0_pay2 (bH m c ⟨t.val - 1, by omega⟩) (bC m c ⟨t.val - 1, by omega⟩) :=
    left_even m c ⟨t.val - 1, by omega⟩ (by show (t.val - 1) % 2 = 0; omega)
  have e0 : (t.val - 1) % 2 = 0 := by omega
  rw [add_apply, ea, store_apply, ← sum_parts (J := 2) (w := 2048) (K := 4096) (by norm_num), Fin.sum_univ_two]
  simp only [bH_apply, bC_apply, tok, h, e0]
  rfl

/-- The result array. -/
theorem final (R : Vec Ideal S1024x1024 .f32) (hR : ∀ p q, R (ix2 p q) = ∑ k : Fin 4096, H m c (ix2 k p) * C m c (ix2 k q)) :
    (dats m 0 c).arrAt 2 cfg0.N = R := by
  refine (dats m 0 c).arrAt_eq_of_covers 2 _ (by decide +kernel) fun t hf y => ?_
  have h := (flush0_2 t).mp hf
  blk_simp
  rw [after0_2, left_odd m c t h]
  obtain ⟨i, j, rfl⟩ : ∃ (i : Fin 1024) (j : Fin 1024), y = ix2 i j := ⟨y 0, y 1, eq_ix2 y⟩
  refine (point_sum m c t h i j).trans ((hR i (col t j)).symm.trans ?_)
  blk_ext [e2]

theorem algebraic : @algebraic_GateDwIdeal_GateDwRefIdeal Cert.GateDwIdeal.Gen.facts Cert.GateDwRefIdeal.Gen.facts := by
  intro m ρ m' ρ' _ hagree
  refine ⟨_, ?_, (θ_run Cert.GateDwRefIdeal.defs _ _).mono (fun r h c => h c) (GateDwRefIdeal.Value.run m' ρ')⟩
  refine (θ_run Cert.GateDwIdeal.defs _ _).mono (fun r h c => ?_) (Value.run_blocks m ρ)
  obtain ⟨e, k⟩ := h c
  obtain ⟨a0, a1⟩ := hagree c
  refine ⟨e.trans (final m c _ fun p q => ?_), k⟩
  rw [H, C, ← a0, ← a1]
  pointwise []
  refine Finset.sum_congr rfl fun k _ => mul_comm _ _

end Cert.GateWeight

end
-- ==== Proof.ProjWeight.lean ====
module

public import proofs.«01_k».proof.Defs
public import proofs.«01_k».proof.Proof.Gen.ProjDwIdeal.Value
public import proofs.«01_k».proof.Proof.Gen.ProjDwRefIdeal.Run
public import proofs.«01_k».proof.Proof.Gen.ProjDw
public import proofs.«01_k».proof.Proof.Products
public import Idealize.ShloMosaic.Lib.Pipeline.ReadBack
public import Idealize.ShloMosaic.Lib.Pipeline.ValueKit.Acc
public import Idealize.ShloMosaic.Lib.Pipeline.ValueKit.Geometry
public import Idealize.ShloMosaic.Lib.Pipeline.ValueKit.Tiles
public import Idealize.ShloMosaic.Lib.Pointwise

/-!
# The gradient of the embedding's projection in its weight

Each of the four points multiplies a quarter of the tokens. The first stores its product, the others add to it, and the last
writes the sum.
-/

@[expose] public section

set_option maxRecDepth 16384

noncomputable section

namespace Cert.ProjWeight

open scoped BigOperators
open Idealize.ShloMosaic Idealize.ShloMosaic.TcCoe Idealize.SL.Sem Cert.ProjDwIdeal Cert.ProjDwIdeal.Gen Cert.Products

/-- An entry of a part of the product, as the first point stores it and as the others add it. -/
theorem store_apply (a : Vec Ideal S1024x256 .bf16) (b : Vec Ideal S1024x1024 .bf16) (i : Fin 256) (j : Fin 1024) :
    k0_pay2 a b (ix2 i j) = ∑ k : Fin 1024, a (ix2 k i) * b (ix2 k j) := by
  pointwise [k0_pay2, k0_pay1]
theorem add_apply (a : Vec Ideal S1024x256 .bf16) (b : Vec Ideal S1024x1024 .bf16) (v : Vec Ideal S256x1024 .f32) (i : Fin 256) (j : Fin 1024) :
    k0_pay3 a b v (ix2 i j) = v (ix2 i j) + ∑ k : Fin 1024, a (ix2 k i) * b (ix2 k j) := by
  pointwise [k0_pay3, k0_pay1]

variable (m : (ℓ : Loc nD τ sig) → Buf (Elt Ideal) ℓ) (c : Dev nD)

/-- The arguments: the product's input and the gradient of its output. -/
abbrev H : Vec Ideal S4096x256 .f32 := m ((c.tc : Thread nD τ).loc main_arg0)
abbrev C : Vec Ideal S4096x1024 .f32 := m ((c.tc : Thread nD τ).loc main_arg1)

/-- The host's part: the operands are the arguments. -/
theorem V_h : V m c main_v0 = H m c := by
  show StableHlo.after hostOps0 (fun b => m (c, b)) main_v0 = _
  after_results_simp <;> rfl
theorem V_c : V m c main_v1 = C m c := by
  show StableHlo.after hostOps0 (fun b => m (c, b)) main_v1 = _
  after_results_simp <;> rfl

theorem e0 : ∀ t : Fin cfg0.N, win0_0.index t = ![t.val, 0] := (by decide +kernel : ∀ t : Fin grid0.N, _)
theorem e1 : ∀ t : Fin cfg0.N, win0_1.index t = ![t.val, 0] := (by decide +kernel : ∀ t : Fin grid0.N, _)
theorem e2 : ∀ t : Fin cfg0.N, win0_2.index t = ![0, 0] := (by decide +kernel : ∀ t : Fin grid0.N, _)

theorem pt_lt (t : Fin cfg0.N) : t.val < 4 := lt_of_lt_of_eq t.isLt N_0

/-- The token that token `l` of a point's quarter is. -/
abbrev tok (t : Fin cfg0.N) (l : Fin 1024) : Fin 4096 := place (J := 4) (w := 1024) (by norm_num) t.val (pt_lt t) l

/-- A point's blocks of the operands. -/
def bH (t : Fin cfg0.N) : Vec Ideal S1024x256 .bf16 := iblk m c 0 t
def bC (t : Fin cfg0.N) : Vec Ideal S1024x1024 .bf16 := iblk m c 1 t

theorem bH_apply (t : Fin cfg0.N) (l : Fin 1024) (i : Fin 256) : bH m c t (ix2 l i) = H m c (ix2 (tok t l) i) := by
  rw [← V_h]
  unfold bH
  blk_ext [iblk, e0, place]
theorem bC_apply (t : Fin cfg0.N) (l : Fin 1024) (j : Fin 1024) : bC m c t (ix2 l j) = C m c (ix2 (tok t l) j) := by
  rw [← V_c]
  unfold bC
  blk_ext [iblk, e1, place]

/-- What a point has in the running sum from the one before, what it leaves there, and what the last one writes. -/
def prev (t : Fin cfg0.N) : Vec Ideal S256x1024 .f32 := (outsAt0 m c (t.val - 1) (Nat.lt_of_le_of_lt (Nat.sub_le _ _) t.isLt)).2

theorem left_first (t : Fin cfg0.N) (h : t.val = 0) : (outsAt0 m c t.val t.isLt).2 = k0_pay2 (bH m c t) (bC m c t) := by
  rw [outsAt0_A m c t (by omega) (by omega) (by omega)]; frame_out; rfl
theorem left_next (t : Fin cfg0.N) (h : 1 ≤ t.val) (h' : t.val < 3) :
    (outsAt0 m c t.val t.isLt).2 = k0_pay3 (bH m c t) (bC m c t) (prev m c t) := by
  rw [outsAt0_B m c t (by omega) (by omega) (by omega)]; frame_out; rw [read_unread_whole]; rfl
theorem left_last (t : Fin cfg0.N) (h : t.val = 3) :
    (outsAt0 m c t.val t.isLt).1 = k0_pay3 (bH m c t) (bC m c t) (prev m c t) := by
  rw [outsAt0_C m c t (by omega) (by omega) (by omega)]; frame_out; rw [read_unread_whole]; rfl

/-- An entry of the running sum after point `n`, and the part that point `n` adds. -/
def acc (i : Fin 256) (j : Fin 1024) (n : ℕ) (h : n < 4) : EReal := (outsAt0 m c n (lt_of_lt_of_eq h N_0.symm)).2 (ix2 i j)
def part (i : Fin 256) (j : Fin 1024) (n : ℕ) (h : n < 4) : EReal :=
  ∑ l : Fin 1024, H m c (ix2 (place (J := 4) (w := 1024) (K := 4096) (by norm_num) n h l) i) * C m c (ix2 (place (J := 4) (w := 1024) (K := 4096) (by norm_num) n h l) j)

theorem acc_first (i : Fin 256) (j : Fin 1024) (n : ℕ) (h : n < 4) (h0 : n = 0) : acc m c i j n h = part m c i j n h := by
  unfold acc part
  rw [left_first m c ⟨n, lt_of_lt_of_eq h N_0.symm⟩ h0, store_apply]
  simp only [bH_apply, bC_apply]
theorem acc_next (i : Fin 256) (j : Fin 1024) (n : ℕ) (h : n < 4) (h0 : 1 ≤ n) (h1 : n < 3) :
    acc m c i j n h = acc m c i j (n - 1) (by omega) + part m c i j n h := by
  unfold acc part
  rw [left_next m c ⟨n, lt_of_lt_of_eq h N_0.symm⟩ h0 h1, add_apply]
  simp only [bH_apply, bC_apply]
  rfl
theorem last (t : Fin cfg0.N) (h : t.val = 3) (i : Fin 256) (j : Fin 1024) :
    k0_pay3 (bH m c t) (bC m c t) (prev m c t) (ix2 i j) = ∑ k : Fin 4096, H m c (ix2 k i) * C m c (ix2 k j) := by
  have e : ∀ (n : ℕ) (hn : n < 4), n = 3 → acc m c i j (n - 1) (by omega) + part m c i j n hn = ∑ k : Fin 4096, H m c (ix2 k i) * C m c (ix2 k j) := by
    rintro n hn rfl
    rw [acc_next m c i j (3 - 1) _ (by norm_num) (by norm_num), acc_next m c i j (3 - 1 - 1) _ (by norm_num) (by norm_num),
      acc_first m c i j (3 - 1 - 1 - 1) _ rfl, ← sum_parts (J := 4) (w := 1024) (K := 4096) (by norm_num), Fin.sum_univ_four]
    rfl
  refine Eq.trans ?_ (e t.val (pt_lt t) h)
  rw [add_apply]
  simp only [bH_apply, bC_apply]
  rfl

/-- The result array. -/
theorem final (R : Vec Ideal S256x1024 .f32) (hR : ∀ p q, R (ix2 p q) = ∑ k : Fin 4096, H m c (ix2 k p) * C m c (ix2 k q)) :
    (dats m 0 c).arrAt 2 cfg0.N = R := by
  refine (dats m 0 c).arrAt_eq_of_covers 2 _ (by decide +kernel) fun t hf y => ?_
  have h : t.val = 3 := by have := (flush0_2 t).mp hf; have := pt_lt t; omega
  blk_simp
  rw [after0_2, left_last m c t h]
  obtain ⟨i, j, rfl⟩ : ∃ (i : Fin 256) (j : Fin 1024), y = ix2 i j := ⟨y 0, y 1, eq_ix2 y⟩
  refine (last m c t h i j).trans ((hR i j).symm.trans ?_)
  blk_ext [e2]

theorem algebraic : @algebraic_ProjDwIdeal_ProjDwRefIdeal Cert.ProjDwIdeal.Gen.facts Cert.ProjDwRefIdeal.Gen.facts := by
  intro m ρ m' ρ' _ hagree
  refine ⟨_, ?_, (θ_run Cert.ProjDwRefIdeal.defs _ _).mono (fun r h c => h c) (ProjDwRefIdeal.Value.run m' ρ')⟩
  refine (θ_run Cert.ProjDwIdeal.defs _ _).mono (fun r h c => ?_) (Value.run_blocks m ρ)
  obtain ⟨e, k⟩ := h c
  obtain ⟨a0, a1⟩ := hagree c
  refine ⟨e.trans (final m c _ fun p q => ?_), k⟩
  rw [H, C, ← a0, ← a1]
  pointwise []
  refine Finset.sum_congr rfl fun k _ => mul_comm _ _

end Cert.ProjWeight

end
-- ==== Proof.UpForward.lean ====
module

public import proofs.«01_k».proof.Defs
public import proofs.«01_k».proof.Proof.Gen.MmUpIdeal.Value
public import proofs.«01_k».proof.Proof.Gen.MmUpRefIdeal.Run
public import proofs.«01_k».proof.Proof.Gen.MmUp
public import proofs.«01_k».proof.Proof.Products
public import proofs.«01_k».proof.Proof.UpGateInput
public import Idealize.ShloMosaic.Lib.Pipeline.ReadBack
public import Idealize.ShloMosaic.Lib.Pipeline.ValueKit.Acc
public import Idealize.ShloMosaic.Lib.Pipeline.ValueKit.Geometry
public import Idealize.ShloMosaic.Lib.Pipeline.ValueKit.Tiles
public import Idealize.ShloMosaic.Lib.Pointwise

/-!
# The up product

The weight's columns lie in four parts. Point `t` of the sixteen writes the `t / 4`-th quarter of the rows and the columns of
the `t % 4`-th part, each entry a whole sum.
-/

@[expose] public section

set_option maxRecDepth 16384

noncomputable section

namespace Cert.UpForward

open scoped BigOperators
open Idealize.ShloMosaic Idealize.ShloMosaic.TcCoe Idealize.SL.Sem Cert.MmUpIdeal Cert.MmUpIdeal.Gen Cert.Products

/-- An entry of a block's product. -/
theorem prod_apply (a : Vec Ideal S1024x1024 .bf16) (b : Vec Ideal S1x1024x1408 .bf16) (i : Fin 1024) (j : Fin 1408) :
    k0_pay1 a b (ix2 i j) = ∑ k : Fin 1024, a (ix2 i k) * b (ix3 (0 : Fin 1) k j) := by
  pointwise [k0_pay1]

variable (m : (ℓ : Loc nD τ sig) → Buf (Elt Ideal) ℓ) (c : Dev nD)

/-- The arguments. -/
abbrev A : Vec Ideal S4096x1024 .f32 := m ((c.tc : Thread nD τ).loc main_arg0)
abbrev B : Vec Ideal S1024x5632 .f32 := m ((c.tc : Thread nD τ).loc main_arg1)

/-- The host's part: the operands are the arguments, the right one cut into its chips' columns. -/
theorem V_a : V m c main_v0 = A m c := by
  show StableHlo.after hostOps0 (fun b => m (c, b)) main_v0 = _
  after_results_simp <;> rfl
theorem V_b : V m c main_v10 = UpGateInput.byChip (B m c) := by
  show StableHlo.after hostOps0 (fun b => m (c, b)) main_v10 = _
  after_results_simp <;> rfl

theorem e0 : ∀ t : Fin cfg0.N, win0_0.index t = ![t.val / 4, 0] := (by decide +kernel : ∀ t : Fin grid0.N, _)
theorem e1 : ∀ t : Fin cfg0.N, win0_1.index t = ![t.val % 4, 0, 0] := (by decide +kernel : ∀ t : Fin grid0.N, _)
theorem e2 : ∀ t : Fin cfg0.N, win0_2.index t = ![t.val / 4, t.val % 4] := (by decide +kernel : ∀ t : Fin grid0.N, _)

theorem pt_lt (t : Fin cfg0.N) : t.val < 16 := lt_of_lt_of_eq t.isLt N_0

/-- The row and the column of the result that entry (i, j) of a point's block is. -/
abbrev row (t : Fin cfg0.N) (i : Fin 1024) : Fin 4096 := ⟨t.val / 4 * 1024 + i.val, by have := pt_lt t; omega⟩
abbrev col (t : Fin cfg0.N) (j : Fin 1408) : Fin 5632 := ⟨t.val % 4 * 1408 + j.val, by omega⟩

/-- A point's blocks of the operands. -/
def bA (t : Fin cfg0.N) : Vec Ideal S1024x1024 .bf16 := iblk m c 0 t
def bB (t : Fin cfg0.N) : Vec Ideal S1x1024x1408 .bf16 := iblk m c 1 t

theorem bA_apply (t : Fin cfg0.N) (i : Fin 1024) (k : Fin 1024) : bA m c t (ix2 i k) = A m c (ix2 (row t i) k) := by
  rw [← V_a]
  unfold bA
  blk_ext [iblk, e0]
theorem bB_apply (t : Fin cfg0.N) (k : Fin 1024) (j : Fin 1408) : bB m c t (ix3 (0 : Fin 1) k j) = B m c (ix2 k (col t j)) := by
  refine Eq.trans ?_ (UpGateInput.byChip_apply (B m c) ⟨t.val % 4, by omega⟩ k j (col t j) rfl)
  rw [← V_b]
  unfold bB
  blk_ext [iblk, e1]

/-- The result array. -/
theorem final (R : Vec Ideal S4096x5632 .f32) (hR : ∀ p q, R (ix2 p q) = ∑ k : Fin 1024, A m c (ix2 p k) * B m c (ix2 k q)) :
    (dats m 0 c).arrAt 2 cfg0.N = R := by
  refine (dats m 0 c).arrAt_eq_of_covers 2 _ (by decide +kernel) fun t hf y => ?_
  blk_simp
  rw [after0_2]
  frame_out
  obtain ⟨i, j, rfl⟩ : ∃ (i : Fin 1024) (j : Fin 1408), y = ix2 i j := ⟨y 0, y 1, eq_ix2 y⟩
  refine (prod_apply (bA m c t) (bB m c t) i j).trans ?_
  simp only [bA_apply, bB_apply]
  refine (hR (row t i) (col t j)).symm.trans ?_
  blk_ext [e2]

theorem algebraic : @algebraic_MmUpIdeal_MmUpRefIdeal Cert.MmUpIdeal.Gen.facts Cert.MmUpRefIdeal.Gen.facts := by
  intro m ρ m' ρ' _ hagree
  refine ⟨_, ?_, (θ_run Cert.MmUpRefIdeal.defs _ _).mono (fun r h c => h c) (MmUpRefIdeal.Value.run m' ρ')⟩
  refine (θ_run Cert.MmUpIdeal.defs _ _).mono (fun r h c => ?_) (Value.run_blocks m ρ)
  obtain ⟨e, k⟩ := h c
  obtain ⟨a0, a1⟩ := hagree c
  refine ⟨e.trans (final m c _ fun p q => ?_), k⟩
  rw [A, B, ← a0, ← a1]
  pointwise []

end Cert.UpForward

end
-- ==== Proof.DownForward.lean ====
module

public import proofs.«01_k».proof.Defs
public import proofs.«01_k».proof.Proof.Gen.MmDownIdeal.Value
public import proofs.«01_k».proof.Proof.Gen.MmDownRefIdeal.Run
public import proofs.«01_k».proof.Proof.Gen.MmDown
public import proofs.«01_k».proof.Proof.Products
public import Idealize.ShloMosaic.Lib.Pipeline.ReadBack
public import Idealize.ShloMosaic.Lib.Pipeline.ValueKit.Acc
public import Idealize.ShloMosaic.Lib.Pipeline.ValueKit.Geometry
public import Idealize.ShloMosaic.Lib.Pipeline.ValueKit.Tiles
public import Idealize.ShloMosaic.Lib.Pointwise

/-!
# The down product with the residual

Each of the four points writes a quarter of the rows, each entry a whole sum and the entry of the residual.
-/

@[expose] public section

set_option maxRecDepth 16384

noncomputable section

namespace Cert.DownForward

open scoped BigOperators
open Idealize.ShloMosaic Idealize.ShloMosaic.TcCoe Idealize.SL.Sem Cert.MmDownIdeal Cert.MmDownIdeal.Gen Cert.Products

/-- An entry of a block's product, with the residual. -/
theorem prod_apply (a : Vec Ideal S1024x2816 .bf16) (b : Vec Ideal S2816x1024 .bf16) (v : Vec Ideal S1024x1024 .f32) (i : Fin 1024) (j : Fin 1024) :
    k0_pay1 a b v (ix2 i j) = ∑ k : Fin 2816, a (ix2 i k) * b (ix2 k j) + v (ix2 i j) := by
  pointwise [k0_pay1]

variable (m : (ℓ : Loc nD τ sig) → Buf (Elt Ideal) ℓ) (c : Dev nD)

/-- The arguments. -/
abbrev X : Vec Ideal S4096x1024 .f32 := m ((c.tc : Thread nD τ).loc main_arg0)
abbrev A : Vec Ideal S4096x2816 .f32 := m ((c.tc : Thread nD τ).loc main_arg1)
abbrev B : Vec Ideal S2816x1024 .f32 := m ((c.tc : Thread nD τ).loc main_arg2)

/-- The host's part: the operands are the arguments. -/
theorem V_a : V m c main_v0 = A m c := by
  show StableHlo.after hostOps0 (fun b => m (c, b)) main_v0 = _
  after_results_simp <;> rfl
theorem V_b : V m c main_v1 = B m c := by
  show StableHlo.after hostOps0 (fun b => m (c, b)) main_v1 = _
  after_results_simp <;> rfl

theorem e0 : ∀ t : Fin cfg0.N, win0_0.index t = ![t.val, 0] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![t.val, 0] := (by decide +kernel : ∀ t : Fin grid0.N, _)
theorem e3 : ∀ t : Fin cfg0.N, win0_3.index t = ![t.val, 0] := (by decide +kernel : ∀ t : Fin grid0.N, _)

theorem pt_lt (t : Fin cfg0.N) : t.val < 4 := lt_of_lt_of_eq t.isLt N_0

/-- The row and the column of the result that entry (i, j) of a point's block is. -/
abbrev row (t : Fin cfg0.N) (i : Fin 1024) : Fin 4096 := ⟨t.val * 1024 + i.val, by have := pt_lt t; omega⟩
abbrev col (_ : Fin cfg0.N) (j : Fin 1024) : Fin 1024 := j

/-- A point's blocks of the operands. -/
def bA (t : Fin cfg0.N) : Vec Ideal S1024x2816 .bf16 := iblk m c 0 t
def bB (t : Fin cfg0.N) : Vec Ideal S2816x1024 .bf16 := iblk m c 1 t
def bX (t : Fin cfg0.N) : Vec Ideal S1024x1024 .f32 := iblk m c 2 t

theorem bA_apply (t : Fin cfg0.N) (i : Fin 1024) (k : Fin 2816) : bA m c t (ix2 i k) = A m c (ix2 (row t i) k) := by
  rw [← V_a]
  unfold bA
  blk_ext [iblk, e0]
theorem bB_apply (t : Fin cfg0.N) (k : Fin 2816) (j : Fin 1024) : bB m c t (ix2 k j) = B m c (ix2 k (col t j)) := by
  rw [← V_b]
  unfold bB
  blk_ext [iblk, e1]
theorem bX_apply (t : Fin cfg0.N) (i : Fin 1024) (j : Fin 1024) : bX m c t (ix2 i j) = X m c (ix2 (row t i) (col t j)) := by
  unfold bX
  blk_ext [iblk, e2]

/-- The result array. -/
theorem final (R : Vec Ideal S4096x1024 .f32) (hR : ∀ p q, R (ix2 p q) = ∑ k : Fin 2816, A m c (ix2 p k) * B m c (ix2 k q) + X m c (ix2 p q)) :
    (dats m 0 c).arrAt 3 cfg0.N = R := by
  refine (dats m 0 c).arrAt_eq_of_covers 3 _ (by decide +kernel) fun t hf y => ?_
  blk_simp
  rw [after0_3]
  frame_out
  obtain ⟨i, j, rfl⟩ : ∃ (i : Fin 1024) (j : Fin 1024), y = ix2 i j := ⟨y 0, y 1, eq_ix2 y⟩
  refine (prod_apply (bA m c t) (bB m c t) (bX m c t) i j).trans ?_
  simp only [bA_apply, bB_apply, bX_apply]
  refine (hR (row t i) (col t j)).symm.trans ?_
  blk_ext [e3]

theorem algebraic : @algebraic_MmDownIdeal_MmDownRefIdeal Cert.MmDownIdeal.Gen.facts Cert.MmDownRefIdeal.Gen.facts := by
  intro m ρ m' ρ' _ hagree
  refine ⟨_, ?_, (θ_run Cert.MmDownRefIdeal.defs _ _).mono (fun r h c => h c) (MmDownRefIdeal.Value.run m' ρ')⟩
  refine (θ_run Cert.MmDownIdeal.defs _ _).mono (fun r h c => ?_) (Value.run_blocks m ρ)
  obtain ⟨e, k⟩ := h c
  obtain ⟨a0, a1, a2⟩ := hagree c
  refine ⟨e.trans (final m c _ fun p q => ?_), k⟩
  rw [X, A, B, ← a0, ← a1, ← a2]
  pointwise []
  exact add_comm _ _

end Cert.DownForward

end
-- ==== Proof.InForward.lean ====
module

public import proofs.«01_k».proof.Defs
public import proofs.«01_k».proof.Proof.Gen.MmInIdeal.Value
public import proofs.«01_k».proof.Proof.Gen.MmInRefIdeal.Run
public import proofs.«01_k».proof.Proof.Gen.MmIn
public import proofs.«01_k».proof.Proof.Products
public import Idealize.ShloMosaic.Lib.Pipeline.ReadBack
public import Idealize.ShloMosaic.Lib.Pipeline.ValueKit.Acc
public import Idealize.ShloMosaic.Lib.Pipeline.ValueKit.Geometry
public import Idealize.ShloMosaic.Lib.Pipeline.ValueKit.Tiles
public import Idealize.ShloMosaic.Lib.Pointwise

/-!
# The input projection

Point `t` of the eight writes the `t / 2`-th quarter of the rows and the `t % 2`-th half of the columns, each entry a whole
sum.
-/

@[expose] public section

set_option maxRecDepth 16384

noncomputable section

namespace Cert.InForward

open scoped BigOperators
open Idealize.ShloMosaic Idealize.ShloMosaic.TcCoe Idealize.SL.Sem Cert.MmInIdeal Cert.MmInIdeal.Gen Cert.Products

/-- An entry of a block's product. -/
theorem prod_apply (a : Vec Ideal S1024x1024 .bf16) (b : Vec Ideal S1024x1152 .bf16) (i : Fin 1024) (j : Fin 1152) :
    k0_pay1 a b (ix2 i j) = ∑ k : Fin 1024, a (ix2 i k) * b (ix2 k j) := by
  pointwise [k0_pay1]

variable (m : (ℓ : Loc nD τ sig) → Buf (Elt Ideal) ℓ) (c : Dev nD)

/-- The arguments. -/
abbrev A : Vec Ideal S4096x1024 .f32 := m ((c.tc : Thread nD τ).loc main_arg0)
abbrev B : Vec Ideal S1024x2304 .f32 := m ((c.tc : Thread nD τ).loc main_arg1)

/-- The host's part: the operands are the arguments. -/
theorem V_a : V m c main_v0 = A m c := by
  show StableHlo.after hostOps0 (fun b => m (c, b)) main_v0 = _
  after_results_simp <;> rfl
theorem V_b : V m c main_v1 = B m c := by
  show StableHlo.after hostOps0 (fun b => m (c, b)) main_v1 = _
  after_results_simp <;> rfl

theorem e0 : ∀ t : Fin cfg0.N, win0_0.index t = ![t.val / 2, 0] := (by decide +kernel : ∀ t : Fin grid0.N, _)
theorem e1 : ∀ t : Fin cfg0.N, win0_1.index t = ![0, t.val % 2] := (by decide +kernel : ∀ t : Fin grid0.N, _)
theorem e2 : ∀ t : Fin cfg0.N, win0_2.index t = ![t.val / 2, t.val % 2] := (by decide +kernel : ∀ t : Fin grid0.N, _)

theorem pt_lt (t : Fin cfg0.N) : t.val < 8 := lt_of_lt_of_eq t.isLt N_0

/-- The row and the column of the result that entry (i, j) of a point's block is. -/
abbrev row (t : Fin cfg0.N) (i : Fin 1024) : Fin 4096 := ⟨t.val / 2 * 1024 + i.val, by have := pt_lt t; omega⟩
abbrev col (t : Fin cfg0.N) (j : Fin 1152) : Fin 2304 := ⟨t.val % 2 * 1152 + j.val, by omega⟩

/-- A point's blocks of the operands. -/
def bA (t : Fin cfg0.N) : Vec Ideal S1024x1024 .bf16 := iblk m c 0 t
def bB (t : Fin cfg0.N) : Vec Ideal S1024x1152 .bf16 := iblk m c 1 t

theorem bA_apply (t : Fin cfg0.N) (i : Fin 1024) (k : Fin 1024) : bA m c t (ix2 i k) = A m c (ix2 (row t i) k) := by
  rw [← V_a]
  unfold bA
  blk_ext [iblk, e0]
theorem bB_apply (t : Fin cfg0.N) (k : Fin 1024) (j : Fin 1152) : bB m c t (ix2 k j) = B m c (ix2 k (col t j)) := by
  rw [← V_b]
  unfold bB
  blk_ext [iblk, e1]

/-- The result array. -/
theorem final (R : Vec Ideal S4096x2304 .f32) (hR : ∀ p q, R (ix2 p q) = ∑ k : Fin 1024, A m c (ix2 p k) * B m c (ix2 k q)) :
    (dats m 0 c).arrAt 2 cfg0.N = R := by
  refine (dats m 0 c).arrAt_eq_of_covers 2 _ (by decide +kernel) fun t hf y => ?_
  blk_simp
  rw [after0_2]
  frame_out
  obtain ⟨i, j, rfl⟩ : ∃ (i : Fin 1024) (j : Fin 1152), y = ix2 i j := ⟨y 0, y 1, eq_ix2 y⟩
  refine (prod_apply (bA m c t) (bB m c t) i j).trans ?_
  simp only [bA_apply, bB_apply]
  refine (hR (row t i) (col t j)).symm.trans ?_
  blk_ext [e2]

theorem algebraic : @algebraic_MmInIdeal_MmInRefIdeal Cert.MmInIdeal.Gen.facts Cert.MmInRefIdeal.Gen.facts := by
  intro m ρ m' ρ' _ hagree
  refine ⟨_, ?_, (θ_run Cert.MmInRefIdeal.defs _ _).mono (fun r h c => h c) (MmInRefIdeal.Value.run m' ρ')⟩
  refine (θ_run Cert.MmInIdeal.defs _ _).mono (fun r h c => ?_) (Value.run_blocks m ρ)
  obtain ⟨e, k⟩ := h c
  obtain ⟨a0, a1⟩ := hagree c
  refine ⟨e.trans (final m c _ fun p q => ?_), k⟩
  rw [A, B, ← a0, ← a1]
  pointwise []

end Cert.InForward

end
-- ==== Proof.OutForward.lean ====
module

public import proofs.«01_k».proof.Defs
public import proofs.«01_k».proof.Proof.Gen.MmOutIdeal.Value
public import proofs.«01_k».proof.Proof.Gen.MmOutRefIdeal.Run
public import proofs.«01_k».proof.Proof.Gen.MmOut
public import proofs.«01_k».proof.Proof.Products
public import Idealize.ShloMosaic.Lib.Pipeline.ReadBack
public import Idealize.ShloMosaic.Lib.Pipeline.ValueKit.Acc
public import Idealize.ShloMosaic.Lib.Pipeline.ValueKit.Geometry
public import Idealize.ShloMosaic.Lib.Pipeline.ValueKit.Tiles
public import Idealize.ShloMosaic.Lib.Pointwise

/-!
# The output projection with the residual

Each of the four points writes a quarter of the rows, each entry a whole sum and the entry of the residual.
-/

@[expose] public section

set_option maxRecDepth 16384

noncomputable section

namespace Cert.OutForward

open scoped BigOperators
open Idealize.ShloMosaic Idealize.ShloMosaic.TcCoe Idealize.SL.Sem Cert.MmOutIdeal Cert.MmOutIdeal.Gen Cert.Products

/-- An entry of a block's product, with the residual. -/
theorem prod_apply (a : Vec Ideal S1024x1024 .bf16) (b : Vec Ideal S1024x1024 .bf16) (v : Vec Ideal S1024x1024 .f32) (i : Fin 1024) (j : Fin 1024) :
    k0_pay1 a b v (ix2 i j) = ∑ k : Fin 1024, a (ix2 i k) * b (ix2 k j) + v (ix2 i j) := by
  pointwise [k0_pay1]

variable (m : (ℓ : Loc nD τ sig) → Buf (Elt Ideal) ℓ) (c : Dev nD)

/-- The arguments. -/
abbrev X : Vec Ideal S4096x1024 .f32 := m ((c.tc : Thread nD τ).loc main_arg0)
abbrev A : Vec Ideal S4096x1024 .f32 := m ((c.tc : Thread nD τ).loc main_arg1)
abbrev B : Vec Ideal S1024x1024 .f32 := m ((c.tc : Thread nD τ).loc main_arg2)

/-- The host's part: the operands are the arguments. -/
theorem V_a : V m c main_v0 = A m c := by
  show StableHlo.after hostOps0 (fun b => m (c, b)) main_v0 = _
  after_results_simp <;> rfl
theorem V_b : V m c main_v1 = B m c := by
  show StableHlo.after hostOps0 (fun b => m (c, b)) main_v1 = _
  after_results_simp <;> rfl

theorem e0 : ∀ t : Fin cfg0.N, win0_0.index t = ![t.val, 0] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![t.val, 0] := (by decide +kernel : ∀ t : Fin grid0.N, _)
theorem e3 : ∀ t : Fin cfg0.N, win0_3.index t = ![t.val, 0] := (by decide +kernel : ∀ t : Fin grid0.N, _)

theorem pt_lt (t : Fin cfg0.N) : t.val < 4 := lt_of_lt_of_eq t.isLt N_0

/-- The row and the column of the result that entry (i, j) of a point's block is. -/
abbrev row (t : Fin cfg0.N) (i : Fin 1024) : Fin 4096 := ⟨t.val * 1024 + i.val, by have := pt_lt t; omega⟩
abbrev col (_ : Fin cfg0.N) (j : Fin 1024) : Fin 1024 := j

/-- A point's blocks of the operands. -/
def bA (t : Fin cfg0.N) : Vec Ideal S1024x1024 .bf16 := iblk m c 0 t
def bB (t : Fin cfg0.N) : Vec Ideal S1024x1024 .bf16 := iblk m c 1 t
def bX (t : Fin cfg0.N) : Vec Ideal S1024x1024 .f32 := iblk m c 2 t

theorem bA_apply (t : Fin cfg0.N) (i : Fin 1024) (k : Fin 1024) : bA m c t (ix2 i k) = A m c (ix2 (row t i) k) := by
  rw [← V_a]
  unfold bA
  blk_ext [iblk, e0]
theorem bB_apply (t : Fin cfg0.N) (k : Fin 1024) (j : Fin 1024) : bB m c t (ix2 k j) = B m c (ix2 k (col t j)) := by
  rw [← V_b]
  unfold bB
  blk_ext [iblk, e1]
theorem bX_apply (t : Fin cfg0.N) (i : Fin 1024) (j : Fin 1024) : bX m c t (ix2 i j) = X m c (ix2 (row t i) (col t j)) := by
  unfold bX
  blk_ext [iblk, e2]

/-- The result array. -/
theorem final (R : Vec Ideal S4096x1024 .f32) (hR : ∀ p q, R (ix2 p q) = ∑ k : Fin 1024, A m c (ix2 p k) * B m c (ix2 k q) + X m c (ix2 p q)) :
    (dats m 0 c).arrAt 3 cfg0.N = R := by
  refine (dats m 0 c).arrAt_eq_of_covers 3 _ (by decide +kernel) fun t hf y => ?_
  blk_simp
  rw [after0_3]
  frame_out
  obtain ⟨i, j, rfl⟩ : ∃ (i : Fin 1024) (j : Fin 1024), y = ix2 i j := ⟨y 0, y 1, eq_ix2 y⟩
  refine (prod_apply (bA m c t) (bB m c t) (bX m c t) i j).trans ?_
  simp only [bA_apply, bB_apply, bX_apply]
  refine (hR (row t i) (col t j)).symm.trans ?_
  blk_ext [e3]

theorem algebraic : @algebraic_MmOutIdeal_MmOutRefIdeal Cert.MmOutIdeal.Gen.facts Cert.MmOutRefIdeal.Gen.facts := by
  intro m ρ m' ρ' _ hagree
  refine ⟨_, ?_, (θ_run Cert.MmOutRefIdeal.defs _ _).mono (fun r h c => h c) (MmOutRefIdeal.Value.run m' ρ')⟩
  refine (θ_run Cert.MmOutIdeal.defs _ _).mono (fun r h c => ?_) (Value.run_blocks m ρ)
  obtain ⟨e, k⟩ := h c
  obtain ⟨a0, a1, a2⟩ := hagree c
  refine ⟨e.trans (final m c _ fun p q => ?_), k⟩
  rw [X, A, B, ← a0, ← a1, ← a2]
  pointwise []
  exact add_comm _ _

end Cert.OutForward

end
-- ==== Proof.GateForward.lean ====
module

public import proofs.«01_k».proof.Defs
public import proofs.«01_k».proof.Proof.Gen.MmGateIdeal.Value
public import proofs.«01_k».proof.Proof.Gen.MmGateRefIdeal.Run
public import proofs.«01_k».proof.Proof.Gen.MmGate
public import proofs.«01_k».proof.Proof.Products
public import Idealize.ShloMosaic.Lib.Pipeline.ReadBack
public import Idealize.ShloMosaic.Lib.Pipeline.ValueKit.Acc
public import Idealize.ShloMosaic.Lib.Pipeline.ValueKit.Geometry
public import Idealize.ShloMosaic.Lib.Pipeline.ValueKit.Tiles
public import Idealize.ShloMosaic.Lib.Pointwise

/-!
# The gate's product of the embedding

Each of the four points writes a quarter of the rows, each entry a whole sum.
-/

@[expose] public section

set_option maxRecDepth 16384

noncomputable section

namespace Cert.GateForward

open scoped BigOperators
open Idealize.ShloMosaic Idealize.ShloMosaic.TcCoe Idealize.SL.Sem Cert.MmGateIdeal Cert.MmGateIdeal.Gen Cert.Products

/-- An entry of a block's product. -/
theorem prod_apply (a : Vec Ideal S1024x1024 .bf16) (b : Vec Ideal S1024x1024 .bf16) (i : Fin 1024) (j : Fin 1024) :
    k0_pay1 a b (ix2 i j) = ∑ k : Fin 1024, a (ix2 i k) * b (ix2 k j) := by
  pointwise [k0_pay1]

variable (m : (ℓ : Loc nD τ sig) → Buf (Elt Ideal) ℓ) (c : Dev nD)

/-- The arguments. -/
abbrev A : Vec Ideal S4096x1024 .f32 := m ((c.tc : Thread nD τ).loc main_arg0)
abbrev B : Vec Ideal S1024x1024 .f32 := m ((c.tc : Thread nD τ).loc main_arg1)

/-- The host's part: the operands are the arguments. -/
theorem V_a : V m c main_v0 = A m c := by
  show StableHlo.after hostOps0 (fun b => m (c, b)) main_v0 = _
  after_results_simp <;> rfl
theorem V_b : V m c main_v1 = B m c := by
  show StableHlo.after hostOps0 (fun b => m (c, b)) main_v1 = _
  after_results_simp <;> rfl

theorem e0 : ∀ t : Fin cfg0.N, win0_0.index t = ![t.val, 0] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![t.val, 0] := (by decide +kernel : ∀ t : Fin grid0.N, _)

theorem pt_lt (t : Fin cfg0.N) : t.val < 4 := lt_of_lt_of_eq t.isLt N_0

/-- The row and the column of the result that entry (i, j) of a point's block is. -/
abbrev row (t : Fin cfg0.N) (i : Fin 1024) : Fin 4096 := ⟨t.val * 1024 + i.val, by have := pt_lt t; omega⟩
abbrev col (_ : Fin cfg0.N) (j : Fin 1024) : Fin 1024 := j

/-- A point's blocks of the operands. -/
def bA (t : Fin cfg0.N) : Vec Ideal S1024x1024 .bf16 := iblk m c 0 t
def bB (t : Fin cfg0.N) : Vec Ideal S1024x1024 .bf16 := iblk m c 1 t

theorem bA_apply (t : Fin cfg0.N) (i : Fin 1024) (k : Fin 1024) : bA m c t (ix2 i k) = A m c (ix2 (row t i) k) := by
  rw [← V_a]
  unfold bA
  blk_ext [iblk, e0]
theorem bB_apply (t : Fin cfg0.N) (k : Fin 1024) (j : Fin 1024) : bB m c t (ix2 k j) = B m c (ix2 k (col t j)) := by
  rw [← V_b]
  unfold bB
  blk_ext [iblk, e1]

/-- The result array. -/
theorem final (R : Vec Ideal S4096x1024 .f32) (hR : ∀ p q, R (ix2 p q) = ∑ k : Fin 1024, A m c (ix2 p k) * B m c (ix2 k q)) :
    (dats m 0 c).arrAt 2 cfg0.N = R := by
  refine (dats m 0 c).arrAt_eq_of_covers 2 _ (by decide +kernel) fun t hf y => ?_
  blk_simp
  rw [after0_2]
  frame_out
  obtain ⟨i, j, rfl⟩ : ∃ (i : Fin 1024) (j : Fin 1024), y = ix2 i j := ⟨y 0, y 1, eq_ix2 y⟩
  refine (prod_apply (bA m c t) (bB m c t) i j).trans ?_
  simp only [bA_apply, bB_apply]
  refine (hR (row t i) (col t j)).symm.trans ?_
  blk_ext [e2]

theorem algebraic : @algebraic_MmGateIdeal_MmGateRefIdeal Cert.MmGateIdeal.Gen.facts Cert.MmGateRefIdeal.Gen.facts := by
  intro m ρ m' ρ' _ hagree
  refine ⟨_, ?_, (θ_run Cert.MmGateRefIdeal.defs _ _).mono (fun r h c => h c) (MmGateRefIdeal.Value.run m' ρ')⟩
  refine (θ_run Cert.MmGateIdeal.defs _ _).mono (fun r h c => ?_) (Value.run_blocks m ρ)
  obtain ⟨e, k⟩ := h c
  obtain ⟨a0, a1⟩ := hagree c
  refine ⟨e.trans (final m c _ fun p q => ?_), k⟩
  rw [A, B, ← a0, ← a1]
  pointwise []

end Cert.GateForward

end
-- ==== Proof.ProjForward.lean ====
module

public import proofs.«01_k».proof.Defs
public import proofs.«01_k».proof.Proof.Gen.MmProjIdeal.Value
public import proofs.«01_k».proof.Proof.Gen.MmProjRefIdeal.Run
public import proofs.«01_k».proof.Proof.Gen.MmProj
public import proofs.«01_k».proof.Proof.Products
public import Idealize.ShloMosaic.Lib.Pipeline.ReadBack
public import Idealize.ShloMosaic.Lib.Pipeline.ValueKit.Acc
public import Idealize.ShloMosaic.Lib.Pipeline.ValueKit.Geometry
public import Idealize.ShloMosaic.Lib.Pipeline.ValueKit.Tiles
public import Idealize.ShloMosaic.Lib.Pointwise

/-!
# The embedding's projection

Each of the four points writes a quarter of the rows, each entry a whole sum.
-/

@[expose] public section

set_option maxRecDepth 16384

noncomputable section

namespace Cert.ProjForward

open scoped BigOperators
open Idealize.ShloMosaic Idealize.ShloMosaic.TcCoe Idealize.SL.Sem Cert.MmProjIdeal Cert.MmProjIdeal.Gen Cert.Products

/-- An entry of a block's product. -/
theorem prod_apply (a : Vec Ideal S1024x256 .bf16) (b : Vec Ideal S256x1024 .bf16) (i : Fin 1024) (j : Fin 1024) :
    k0_pay1 a b (ix2 i j) = ∑ k : Fin 256, a (ix2 i k) * b (ix2 k j) := by
  pointwise [k0_pay1]

variable (m : (ℓ : Loc nD τ sig) → Buf (Elt Ideal) ℓ) (c : Dev nD)

/-- The arguments. -/
abbrev A : Vec Ideal S4096x256 .f32 := m ((c.tc : Thread nD τ).loc main_arg0)
abbrev B : Vec Ideal S256x1024 .f32 := m ((c.tc : Thread nD τ).loc main_arg1)

/-- The host's part: the operands are the arguments. -/
theorem V_a : V m c main_v0 = A m c := by
  show StableHlo.after hostOps0 (fun b => m (c, b)) main_v0 = _
  after_results_simp <;> rfl
theorem V_b : V m c main_v1 = B m c := by
  show StableHlo.after hostOps0 (fun b => m (c, b)) main_v1 = _
  after_results_simp <;> rfl

theorem e0 : ∀ t : Fin cfg0.N, win0_0.index t = ![t.val, 0] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![t.val, 0] := (by decide +kernel : ∀ t : Fin grid0.N, _)

theorem pt_lt (t : Fin cfg0.N) : t.val < 4 := lt_of_lt_of_eq t.isLt N_0

/-- The row and the column of the result that entry (i, j) of a point's block is. -/
abbrev row (t : Fin cfg0.N) (i : Fin 1024) : Fin 4096 := ⟨t.val * 1024 + i.val, by have := pt_lt t; omega⟩
abbrev col (_ : Fin cfg0.N) (j : Fin 1024) : Fin 1024 := j

/-- A point's blocks of the operands. -/
def bA (t : Fin cfg0.N) : Vec Ideal S1024x256 .bf16 := iblk m c 0 t
def bB (t : Fin cfg0.N) : Vec Ideal S256x1024 .bf16 := iblk m c 1 t

theorem bA_apply (t : Fin cfg0.N) (i : Fin 1024) (k : Fin 256) : bA m c t (ix2 i k) = A m c (ix2 (row t i) k) := by
  rw [← V_a]
  unfold bA
  blk_ext [iblk, e0]
theorem bB_apply (t : Fin cfg0.N) (k : Fin 256) (j : Fin 1024) : bB m c t (ix2 k j) = B m c (ix2 k (col t j)) := by
  rw [← V_b]
  unfold bB
  blk_ext [iblk, e1]

/-- The result array. -/
theorem final (R : Vec Ideal S4096x1024 .f32) (hR : ∀ p q, R (ix2 p q) = ∑ k : Fin 256, A m c (ix2 p k) * B m c (ix2 k q)) :
    (dats m 0 c).arrAt 2 cfg0.N = R := by
  refine (dats m 0 c).arrAt_eq_of_covers 2 _ (by decide +kernel) fun t hf y => ?_
  blk_simp
  rw [after0_2]
  frame_out
  obtain ⟨i, j, rfl⟩ : ∃ (i : Fin 1024) (j : Fin 1024), y = ix2 i j := ⟨y 0, y 1, eq_ix2 y⟩
  refine (prod_apply (bA m c t) (bB m c t) i j).trans ?_
  simp only [bA_apply, bB_apply]
  refine (hR (row t i) (col t j)).symm.trans ?_
  blk_ext [e2]

theorem algebraic : @algebraic_MmProjIdeal_MmProjRefIdeal Cert.MmProjIdeal.Gen.facts Cert.MmProjRefIdeal.Gen.facts := by
  intro m ρ m' ρ' _ hagree
  refine ⟨_, ?_, (θ_run Cert.MmProjRefIdeal.defs _ _).mono (fun r h c => h c) (MmProjRefIdeal.Value.run m' ρ')⟩
  refine (θ_run Cert.MmProjIdeal.defs _ _).mono (fun r h c => ?_) (Value.run_blocks m ρ)
  obtain ⟨e, k⟩ := h c
  obtain ⟨a0, a1⟩ := hagree c
  refine ⟨e.trans (final m c _ fun p q => ?_), k⟩
  rw [A, B, ← a0, ← a1]
  pointwise []

end Cert.ProjForward

end
-- ==== Proof.lean ====
/- The proof of the certificate's claims, put together from the modules under Proof/. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.PleB
public import proofs.«01_k».proof.Proof.Gen.PleB.Frame
public import proofs.«01_k».proof.Proof.Gen.PleBIdeal
public import proofs.«01_k».proof.Proof.Gen.PleBIdeal.Frame
public import proofs.«01_k».proof.Proof.Gen.PleBIdeal.Value
public import proofs.«01_k».proof.Proof.Gen.PleBRefIdeal
public import proofs.«01_k».proof.Proof.Gen.PleBRefIdeal.Run
public import proofs.«01_k».proof.Proof.PleGradient
public import proofs.«01_k».proof.Proof.Gen.GnormB
public import proofs.«01_k».proof.Proof.Gen.GnormB.Frame
public import proofs.«01_k».proof.Proof.Gen.GnormBIdeal
public import proofs.«01_k».proof.Proof.Gen.GnormBIdeal.Frame
public import proofs.«01_k».proof.Proof.Gen.GnormBIdeal.Value
public import proofs.«01_k».proof.Proof.Gen.GnormBRefIdeal
public import proofs.«01_k».proof.Proof.Gen.GnormBRefIdeal.Run
public import proofs.«01_k».proof.Proof.GnormGradient
public import proofs.«01_k».proof.Proof.Gen.AttnF
public import proofs.«01_k».proof.Proof.Gen.AttnF.Frame
public import proofs.«01_k».proof.Proof.Gen.AttnFIdeal
public import proofs.«01_k».proof.Proof.Gen.AttnFIdeal.Frame
public import proofs.«01_k».proof.Proof.Gen.AttnFIdeal.Value
public import proofs.«01_k».proof.Proof.Gen.AttnFRefIdeal
public import proofs.«01_k».proof.Proof.Gen.AttnFRefIdeal.Run
public import proofs.«01_k».proof.Proof.AttnForward
public import proofs.«01_k».proof.Proof.Gen.MixB
public import proofs.«01_k».proof.Proof.Gen.MixB.Frame
public import proofs.«01_k».proof.Proof.Gen.MixBIdeal
public import proofs.«01_k».proof.Proof.Gen.MixBIdeal.Frame
public import proofs.«01_k».proof.Proof.Gen.MixBIdeal.Value
public import proofs.«01_k».proof.Proof.Gen.MixBRefIdeal
public import proofs.«01_k».proof.Proof.Gen.MixBRefIdeal.Run
public import proofs.«01_k».proof.Proof.MixGradient
public import proofs.«01_k».proof.Proof.Gen.Loss
public import proofs.«01_k».proof.Proof.Gen.Loss.Frame
public import proofs.«01_k».proof.Proof.Gen.LossIdeal
public import proofs.«01_k».proof.Proof.Gen.LossIdeal.Frame
public import proofs.«01_k».proof.Proof.Gen.LossIdeal.Value
public import proofs.«01_k».proof.Proof.Gen.LossRefIdeal
public import proofs.«01_k».proof.Proof.Gen.LossRefIdeal.Run
public import proofs.«01_k».proof.Proof.LossGradient
public import proofs.«01_k».proof.Proof.Gen.PleF
public import proofs.«01_k».proof.Proof.Gen.PleF.Frame
public import proofs.«01_k».proof.Proof.Gen.PleFIdeal
public import proofs.«01_k».proof.Proof.Gen.PleFIdeal.Frame
public import proofs.«01_k».proof.Proof.Gen.PleFIdeal.Value
public import proofs.«01_k».proof.Proof.Gen.PleFRefIdeal
public import proofs.«01_k».proof.Proof.Gen.PleFRefIdeal.Run
public import proofs.«01_k».proof.Proof.PleForward
public import proofs.«01_k».proof.Proof.Gen.RmsF
public import proofs.«01_k».proof.Proof.Gen.RmsF.Frame
public import proofs.«01_k».proof.Proof.Gen.RmsFIdeal
public import proofs.«01_k».proof.Proof.Gen.RmsFIdeal.Frame
public import proofs.«01_k».proof.Proof.Gen.RmsFIdeal.Value
public import proofs.«01_k».proof.Proof.Gen.RmsFRefIdeal
public import proofs.«01_k».proof.Proof.Gen.RmsFRefIdeal.Run
public import proofs.«01_k».proof.Proof.RmsForward
public import proofs.«01_k».proof.Proof.Gen.GnormF
public import proofs.«01_k».proof.Proof.Gen.GnormF.Frame
public import proofs.«01_k».proof.Proof.Gen.GnormFIdeal
public import proofs.«01_k».proof.Proof.Gen.GnormFIdeal.Frame
public import proofs.«01_k».proof.Proof.Gen.GnormFIdeal.Value
public import proofs.«01_k».proof.Proof.Gen.GnormFRefIdeal
public import proofs.«01_k».proof.Proof.Gen.GnormFRefIdeal.Run
public import proofs.«01_k».proof.Proof.GnormForward
public import proofs.«01_k».proof.Proof.Gen.MixF
public import proofs.«01_k».proof.Proof.Gen.MixF.Frame
public import proofs.«01_k».proof.Proof.Gen.MixFIdeal
public import proofs.«01_k».proof.Proof.Gen.MixFIdeal.Frame
public import proofs.«01_k».proof.Proof.Gen.MixFIdeal.Value
public import proofs.«01_k».proof.Proof.Gen.MixFRefIdeal
public import proofs.«01_k».proof.Proof.Gen.MixFRefIdeal.Run
public import proofs.«01_k».proof.Proof.MixForward
public import proofs.«01_k».proof.Proof.Gen.GateF
public import proofs.«01_k».proof.Proof.Gen.GateF.Frame
public import proofs.«01_k».proof.Proof.Gen.GateFIdeal
public import proofs.«01_k».proof.Proof.Gen.GateFIdeal.Frame
public import proofs.«01_k».proof.Proof.Gen.GateFIdeal.Value
public import proofs.«01_k».proof.Proof.Gen.GateFRefIdeal
public import proofs.«01_k».proof.Proof.Gen.GateFRefIdeal.Run
public import proofs.«01_k».proof.Proof.SpatialForward
public import proofs.«01_k».proof.Proof.Gen.ConvF
public import proofs.«01_k».proof.Proof.Gen.ConvF.Frame
public import proofs.«01_k».proof.Proof.Gen.ConvFIdeal
public import proofs.«01_k».proof.Proof.Gen.ConvFIdeal.Frame
public import proofs.«01_k».proof.Proof.Gen.ConvFIdeal.Value
public import proofs.«01_k».proof.Proof.Gen.ConvFRefIdeal
public import proofs.«01_k».proof.Proof.Gen.ConvFRefIdeal.Run
public import proofs.«01_k».proof.Proof.ConvForward
public import proofs.«01_k».proof.Proof.Gen.AdWs
public import proofs.«01_k».proof.Proof.Gen.AdWs.Frame
public import proofs.«01_k».proof.Proof.Gen.AdWsIdeal
public import proofs.«01_k».proof.Proof.Gen.AdWsIdeal.Frame
public import proofs.«01_k».proof.Proof.Gen.AdWsIdeal.Value
public import proofs.«01_k».proof.Proof.Gen.AdWsRefIdeal
public import proofs.«01_k».proof.Proof.Gen.AdWsRefIdeal.Run
public import proofs.«01_k».proof.Proof.Adam
public import proofs.«01_k».proof.Proof.Gen.PrepF
public import proofs.«01_k».proof.Proof.Gen.PrepF.Frame
public import proofs.«01_k».proof.Proof.Gen.PrepFIdeal
public import proofs.«01_k».proof.Proof.Gen.PrepFIdeal.Frame
public import proofs.«01_k».proof.Proof.Gen.PrepFIdeal.Value
public import proofs.«01_k».proof.Proof.Gen.PrepFRefIdeal
public import proofs.«01_k».proof.Proof.Gen.PrepFRefIdeal.Run
public import proofs.«01_k».proof.Proof.HeadNorms
public import proofs.«01_k».proof.Proof.Claims
public import proofs.«01_k».proof.Proof.Gen.UpH
public import proofs.«01_k».proof.Proof.Gen.UpH.Frame
public import proofs.«01_k».proof.Proof.Gen.UpHIdeal
public import proofs.«01_k».proof.Proof.Gen.UpHIdeal.Frame
public import proofs.«01_k».proof.Proof.Gen.UpHIdeal.Value
public import proofs.«01_k».proof.Proof.Gen.UpHRefIdeal
public import proofs.«01_k».proof.Proof.Gen.UpHRefIdeal.Run
public import proofs.«01_k».proof.Proof.Gen.UpW
public import proofs.«01_k».proof.Proof.Gen.UpW.Frame
public import proofs.«01_k».proof.Proof.Gen.UpWIdeal
public import proofs.«01_k».proof.Proof.Gen.UpWIdeal.Frame
public import proofs.«01_k».proof.Proof.Gen.UpWIdeal.Value
public import proofs.«01_k».proof.Proof.Gen.UpWRefIdeal
public import proofs.«01_k».proof.Proof.Gen.UpWRefIdeal.Run
public import proofs.«01_k».proof.Proof.Gen.UpWg
public import proofs.«01_k».proof.Proof.Gen.UpWg.Frame
public import proofs.«01_k».proof.Proof.Gen.UpWgIdeal
public import proofs.«01_k».proof.Proof.Gen.UpWgIdeal.Frame
public import proofs.«01_k».proof.Proof.Gen.UpWgIdeal.Value
public import proofs.«01_k».proof.Proof.Gen.UpWgRefIdeal
public import proofs.«01_k».proof.Proof.Gen.UpWgRefIdeal.Run
public import proofs.«01_k».proof.Proof.Gen.DownA
public import proofs.«01_k».proof.Proof.Gen.DownA.Frame
public import proofs.«01_k».proof.Proof.Gen.DownAIdeal
public import proofs.«01_k».proof.Proof.Gen.DownAIdeal.Frame
public import proofs.«01_k».proof.Proof.Gen.DownAIdeal.Value
public import proofs.«01_k».proof.Proof.Gen.DownARefIdeal
public import proofs.«01_k».proof.Proof.Gen.DownARefIdeal.Run
public import proofs.«01_k».proof.Proof.Gen.DownW
public import proofs.«01_k».proof.Proof.Gen.DownW.Frame
public import proofs.«01_k».proof.Proof.Gen.DownWIdeal
public import proofs.«01_k».proof.Proof.Gen.DownWIdeal.Frame
public import proofs.«01_k».proof.Proof.Gen.DownWIdeal.Value
public import proofs.«01_k».proof.Proof.Gen.DownWRefIdeal
public import proofs.«01_k».proof.Proof.Gen.DownWRefIdeal.Run
public import proofs.«01_k».proof.Proof.Gen.InDx
public import proofs.«01_k».proof.Proof.Gen.InDx.Frame
public import proofs.«01_k».proof.Proof.Gen.InDxIdeal
public import proofs.«01_k».proof.Proof.Gen.InDxIdeal.Frame
public import proofs.«01_k».proof.Proof.Gen.InDxIdeal.Value
public import proofs.«01_k».proof.Proof.Gen.InDxRefIdeal
public import proofs.«01_k».proof.Proof.Gen.InDxRefIdeal.Run
public import proofs.«01_k».proof.Proof.Gen.GateDx
public import proofs.«01_k».proof.Proof.Gen.GateDx.Frame
public import proofs.«01_k».proof.Proof.Gen.GateDxIdeal
public import proofs.«01_k».proof.Proof.Gen.GateDxIdeal.Frame
public import proofs.«01_k».proof.Proof.Gen.GateDxIdeal.Value
public import proofs.«01_k».proof.Proof.Gen.GateDxRefIdeal
public import proofs.«01_k».proof.Proof.Gen.GateDxRefIdeal.Run
public import proofs.«01_k».proof.Proof.Gen.UpX
public import proofs.«01_k».proof.Proof.Gen.UpX.Frame
public import proofs.«01_k».proof.Proof.Gen.UpXIdeal
public import proofs.«01_k».proof.Proof.Gen.UpXIdeal.Frame
public import proofs.«01_k».proof.Proof.Gen.UpXIdeal.Value
public import proofs.«01_k».proof.Proof.Gen.UpXRefIdeal
public import proofs.«01_k».proof.Proof.Gen.UpXRefIdeal.Run
public import proofs.«01_k».proof.Proof.Gen.InDw
public import proofs.«01_k».proof.Proof.Gen.InDw.Frame
public import proofs.«01_k».proof.Proof.Gen.InDwIdeal
public import proofs.«01_k».proof.Proof.Gen.InDwIdeal.Frame
public import proofs.«01_k».proof.Proof.Gen.InDwIdeal.Value
public import proofs.«01_k».proof.Proof.Gen.InDwRefIdeal
public import proofs.«01_k».proof.Proof.Gen.InDwRefIdeal.Run
public import proofs.«01_k».proof.Proof.Gen.OutDx
public import proofs.«01_k».proof.Proof.Gen.OutDx.Frame
public import proofs.«01_k».proof.Proof.Gen.OutDxIdeal
public import proofs.«01_k».proof.Proof.Gen.OutDxIdeal.Frame
public import proofs.«01_k».proof.Proof.Gen.OutDxIdeal.Value
public import proofs.«01_k».proof.Proof.Gen.OutDxRefIdeal
public import proofs.«01_k».proof.Proof.Gen.OutDxRefIdeal.Run
public import proofs.«01_k».proof.Proof.Gen.OutDw
public import proofs.«01_k».proof.Proof.Gen.OutDw.Frame
public import proofs.«01_k».proof.Proof.Gen.OutDwIdeal
public import proofs.«01_k».proof.Proof.Gen.OutDwIdeal.Frame
public import proofs.«01_k».proof.Proof.Gen.OutDwIdeal.Value
public import proofs.«01_k».proof.Proof.Gen.OutDwRefIdeal
public import proofs.«01_k».proof.Proof.Gen.OutDwRefIdeal.Run
public import proofs.«01_k».proof.Proof.Gen.GateDw
public import proofs.«01_k».proof.Proof.Gen.GateDw.Frame
public import proofs.«01_k».proof.Proof.Gen.GateDwIdeal
public import proofs.«01_k».proof.Proof.Gen.GateDwIdeal.Frame
public import proofs.«01_k».proof.Proof.Gen.GateDwIdeal.Value
public import proofs.«01_k».proof.Proof.Gen.GateDwRefIdeal
public import proofs.«01_k».proof.Proof.Gen.GateDwRefIdeal.Run
public import proofs.«01_k».proof.Proof.Gen.ProjDw
public import proofs.«01_k».proof.Proof.Gen.ProjDw.Frame
public import proofs.«01_k».proof.Proof.Gen.ProjDwIdeal
public import proofs.«01_k».proof.Proof.Gen.ProjDwIdeal.Frame
public import proofs.«01_k».proof.Proof.Gen.ProjDwIdeal.Value
public import proofs.«01_k».proof.Proof.Gen.ProjDwRefIdeal
public import proofs.«01_k».proof.Proof.Gen.ProjDwRefIdeal.Run
public import proofs.«01_k».proof.Proof.Gen.MmUp
public import proofs.«01_k».proof.Proof.Gen.MmUp.Frame
public import proofs.«01_k».proof.Proof.Gen.MmUpIdeal
public import proofs.«01_k».proof.Proof.Gen.MmUpIdeal.Frame
public import proofs.«01_k».proof.Proof.Gen.MmUpIdeal.Value
public import proofs.«01_k».proof.Proof.Gen.MmUpRefIdeal
public import proofs.«01_k».proof.Proof.Gen.MmUpRefIdeal.Run
public import proofs.«01_k».proof.Proof.Gen.MmDown
public import proofs.«01_k».proof.Proof.Gen.MmDown.Frame
public import proofs.«01_k».proof.Proof.Gen.MmDownIdeal
public import proofs.«01_k».proof.Proof.Gen.MmDownIdeal.Frame
public import proofs.«01_k».proof.Proof.Gen.MmDownIdeal.Value
public import proofs.«01_k».proof.Proof.Gen.MmDownRefIdeal
public import proofs.«01_k».proof.Proof.Gen.MmDownRefIdeal.Run
public import proofs.«01_k».proof.Proof.Gen.MmIn
public import proofs.«01_k».proof.Proof.Gen.MmIn.Frame
public import proofs.«01_k».proof.Proof.Gen.MmInIdeal
public import proofs.«01_k».proof.Proof.Gen.MmInIdeal.Frame
public import proofs.«01_k».proof.Proof.Gen.MmInIdeal.Value
public import proofs.«01_k».proof.Proof.Gen.MmInRefIdeal
public import proofs.«01_k».proof.Proof.Gen.MmInRefIdeal.Run
public import proofs.«01_k».proof.Proof.Gen.MmOut
public import proofs.«01_k».proof.Proof.Gen.MmOut.Frame
public import proofs.«01_k».proof.Proof.Gen.MmOutIdeal
public import proofs.«01_k».proof.Proof.Gen.MmOutIdeal.Frame
public import proofs.«01_k».proof.Proof.Gen.MmOutIdeal.Value
public import proofs.«01_k».proof.Proof.Gen.MmOutRefIdeal
public import proofs.«01_k».proof.Proof.Gen.MmOutRefIdeal.Run
public import proofs.«01_k».proof.Proof.Gen.MmGate
public import proofs.«01_k».proof.Proof.Gen.MmGate.Frame
public import proofs.«01_k».proof.Proof.Gen.MmGateIdeal
public import proofs.«01_k».proof.Proof.Gen.MmGateIdeal.Frame
public import proofs.«01_k».proof.Proof.Gen.MmGateIdeal.Value
public import proofs.«01_k».proof.Proof.Gen.MmGateRefIdeal
public import proofs.«01_k».proof.Proof.Gen.MmGateRefIdeal.Run
public import proofs.«01_k».proof.Proof.Gen.MmProj
public import proofs.«01_k».proof.Proof.Gen.MmProj.Frame
public import proofs.«01_k».proof.Proof.Gen.MmProjIdeal
public import proofs.«01_k».proof.Proof.Gen.MmProjIdeal.Frame
public import proofs.«01_k».proof.Proof.Gen.MmProjIdeal.Value
public import proofs.«01_k».proof.Proof.Gen.MmProjRefIdeal
public import proofs.«01_k».proof.Proof.Gen.MmProjRefIdeal.Run
public import proofs.«01_k».proof.Proof.UpGateInput
public import proofs.«01_k».proof.Proof.UpWeight
public import proofs.«01_k».proof.Proof.UpGateWeight
public import proofs.«01_k».proof.Proof.DownInput
public import proofs.«01_k».proof.Proof.DownWeight
public import proofs.«01_k».proof.Proof.InInput
public import proofs.«01_k».proof.Proof.GateInput
public import proofs.«01_k».proof.Proof.UpInput
public import proofs.«01_k».proof.Proof.InWeight
public import proofs.«01_k».proof.Proof.OutInput
public import proofs.«01_k».proof.Proof.OutWeight
public import proofs.«01_k».proof.Proof.GateWeight
public import proofs.«01_k».proof.Proof.ProjWeight
public import proofs.«01_k».proof.Proof.UpForward
public import proofs.«01_k».proof.Proof.DownForward
public import proofs.«01_k».proof.Proof.InForward
public import proofs.«01_k».proof.Proof.OutForward
public import proofs.«01_k».proof.Proof.GateForward
public import proofs.«01_k».proof.Proof.ProjForward
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts,
    Cert.KernelIdeal.Gen.facts,
    Cert.ReferenceIdeal.Gen.facts,
    Cert.UpH.Gen.facts,
    Cert.UpHIdeal.Gen.facts,
    Cert.UpHRefIdeal.Gen.facts,
    Cert.UpW.Gen.facts,
    Cert.UpWIdeal.Gen.facts,
    Cert.UpWRefIdeal.Gen.facts,
    Cert.UpWg.Gen.facts,
    Cert.UpWgIdeal.Gen.facts,
    Cert.UpWgRefIdeal.Gen.facts,
    Cert.DownA.Gen.facts,
    Cert.DownAIdeal.Gen.facts,
    Cert.DownARefIdeal.Gen.facts,
    Cert.DownW.Gen.facts,
    Cert.DownWIdeal.Gen.facts,
    Cert.DownWRefIdeal.Gen.facts,
    Cert.InDx.Gen.facts,
    Cert.InDxIdeal.Gen.facts,
    Cert.InDxRefIdeal.Gen.facts,
    Cert.GateDx.Gen.facts,
    Cert.GateDxIdeal.Gen.facts,
    Cert.GateDxRefIdeal.Gen.facts,
    Cert.UpX.Gen.facts,
    Cert.UpXIdeal.Gen.facts,
    Cert.UpXRefIdeal.Gen.facts,
    Cert.InDw.Gen.facts,
    Cert.InDwIdeal.Gen.facts,
    Cert.InDwRefIdeal.Gen.facts,
    Cert.OutDx.Gen.facts,
    Cert.OutDxIdeal.Gen.facts,
    Cert.OutDxRefIdeal.Gen.facts,
    Cert.OutDw.Gen.facts,
    Cert.OutDwIdeal.Gen.facts,
    Cert.OutDwRefIdeal.Gen.facts,
    Cert.GateDw.Gen.facts,
    Cert.GateDwIdeal.Gen.facts,
    Cert.GateDwRefIdeal.Gen.facts,
    Cert.ProjDw.Gen.facts,
    Cert.ProjDwIdeal.Gen.facts,
    Cert.ProjDwRefIdeal.Gen.facts,
    Cert.MmUp.Gen.facts,
    Cert.MmUpIdeal.Gen.facts,
    Cert.MmUpRefIdeal.Gen.facts,
    Cert.MmDown.Gen.facts,
    Cert.MmDownIdeal.Gen.facts,
    Cert.MmDownRefIdeal.Gen.facts,
    Cert.MmIn.Gen.facts,
    Cert.MmInIdeal.Gen.facts,
    Cert.MmInRefIdeal.Gen.facts,
    Cert.MmOut.Gen.facts,
    Cert.MmOutIdeal.Gen.facts,
    Cert.MmOutRefIdeal.Gen.facts,
    Cert.MmGate.Gen.facts,
    Cert.MmGateIdeal.Gen.facts,
    Cert.MmGateRefIdeal.Gen.facts,
    Cert.MmProj.Gen.facts,
    Cert.MmProjIdeal.Gen.facts,
    Cert.MmProjRefIdeal.Gen.facts,
    Cert.PleB.Gen.facts,
    Cert.PleBIdeal.Gen.facts,
    Cert.PleBRefIdeal.Gen.facts,
    Cert.GnormB.Gen.facts,
    Cert.GnormBIdeal.Gen.facts,
    Cert.GnormBRefIdeal.Gen.facts,
    Cert.AttnF.Gen.facts,
    Cert.AttnFIdeal.Gen.facts,
    Cert.AttnFRefIdeal.Gen.facts,
    Cert.MixB.Gen.facts,
    Cert.MixBIdeal.Gen.facts,
    Cert.MixBRefIdeal.Gen.facts,
    Cert.Loss.Gen.facts,
    Cert.LossIdeal.Gen.facts,
    Cert.LossRefIdeal.Gen.facts,
    Cert.PleF.Gen.facts,
    Cert.PleFIdeal.Gen.facts,
    Cert.PleFRefIdeal.Gen.facts,
    Cert.RmsF.Gen.facts,
    Cert.RmsFIdeal.Gen.facts,
    Cert.RmsFRefIdeal.Gen.facts,
    Cert.GnormF.Gen.facts,
    Cert.GnormFIdeal.Gen.facts,
    Cert.GnormFRefIdeal.Gen.facts,
    Cert.MixF.Gen.facts,
    Cert.MixFIdeal.Gen.facts,
    Cert.MixFRefIdeal.Gen.facts,
    Cert.GateF.Gen.facts,
    Cert.GateFIdeal.Gen.facts,
    Cert.GateFRefIdeal.Gen.facts,
    Cert.ConvF.Gen.facts,
    Cert.ConvFIdeal.Gen.facts,
    Cert.ConvFRefIdeal.Gen.facts,
    Cert.AdWs.Gen.facts,
    Cert.AdWsIdeal.Gen.facts,
    Cert.AdWsRefIdeal.Gen.facts,
    Cert.PrepF.Gen.facts,
    Cert.PrepFIdeal.Gen.facts,
    Cert.PrepFRefIdeal.Gen.facts,
    Cert.Dense.preFacts,
    Cert.AttnForward.preFacts,
    Cert.MixGradient.preFacts,
    Cert.MixForward.preFacts,
    fun m ρ _ => Cert.Kernel.Gen.frame m ρ,
    fun m ρ _ => Cert.KernelIdeal.Gen.frame m ρ,
    fun m ρ _ => Cert.KernelIdeal.Gen.frame m ρ,
    fun m ρ _ => Cert.Dense.frame_ref m ρ,
    fun m ρ _ => Cert.Dense.frame_ref m ρ,
    fun m ρ _ => Cert.UpH.Gen.frame m ρ,
    fun m ρ _ => Cert.UpHIdeal.Gen.frame m ρ,
    fun m ρ _ => (θ_run Cert.UpHRefIdeal.defs _ _).mono (fun r h => ⟨fun c => (h c).2, sem_eq_zero_of_no_sems (by decide) r.2⟩) (Cert.UpHRefIdeal.Value.run m ρ),
    fun m ρ _ => Cert.UpW.Gen.frame m ρ,
    fun m ρ _ => Cert.UpWIdeal.Gen.frame m ρ,
    fun m ρ _ => (θ_run Cert.UpWRefIdeal.defs _ _).mono (fun r h => ⟨fun c => (h c).2, sem_eq_zero_of_no_sems (by decide) r.2⟩) (Cert.UpWRefIdeal.Value.run m ρ),
    fun m ρ _ => Cert.UpWg.Gen.frame m ρ,
    fun m ρ _ => Cert.UpWgIdeal.Gen.frame m ρ,
    fun m ρ _ => (θ_run Cert.UpWgRefIdeal.defs _ _).mono (fun r h => ⟨fun c => (h c).2, sem_eq_zero_of_no_sems (by decide) r.2⟩) (Cert.UpWgRefIdeal.Value.run m ρ),
    fun m ρ _ => Cert.DownA.Gen.frame m ρ,
    fun m ρ _ => Cert.DownAIdeal.Gen.frame m ρ,
    fun m ρ _ => (θ_run Cert.DownARefIdeal.defs _ _).mono (fun r h => ⟨fun c => (h c).2, sem_eq_zero_of_no_sems (by decide) r.2⟩) (Cert.DownARefIdeal.Value.run m ρ),
    fun m ρ _ => Cert.DownW.Gen.frame m ρ,
    fun m ρ _ => Cert.DownWIdeal.Gen.frame m ρ,
    fun m ρ _ => (θ_run Cert.DownWRefIdeal.defs _ _).mono (fun r h => ⟨fun c => (h c).2, sem_eq_zero_of_no_sems (by decide) r.2⟩) (Cert.DownWRefIdeal.Value.run m ρ),
    fun m ρ _ => Cert.InDx.Gen.frame m ρ,
    fun m ρ _ => Cert.InDxIdeal.Gen.frame m ρ,
    fun m ρ _ => (θ_run Cert.InDxRefIdeal.defs _ _).mono (fun r h => ⟨fun c => (h c).2.2.2, sem_eq_zero_of_no_sems (by decide) r.2⟩) (Cert.InDxRefIdeal.Value.run m ρ),
    fun m ρ _ => Cert.GateDx.Gen.frame m ρ,
    fun m ρ _ => Cert.GateDxIdeal.Gen.frame m ρ,
    fun m ρ _ => (θ_run Cert.GateDxRefIdeal.defs _ _).mono (fun r h => ⟨fun c => (h c).2.2.2, sem_eq_zero_of_no_sems (by decide) r.2⟩) (Cert.GateDxRefIdeal.Value.run m ρ),
    fun m ρ _ => Cert.UpX.Gen.frame m ρ,
    fun m ρ _ => Cert.UpXIdeal.Gen.frame m ρ,
    fun m ρ _ => (θ_run Cert.UpXRefIdeal.defs _ _).mono (fun r h => ⟨fun c => (h c).2.2.2, sem_eq_zero_of_no_sems (by decide) r.2⟩) (Cert.UpXRefIdeal.Value.run m ρ),
    fun m ρ _ => Cert.InDw.Gen.frame m ρ,
    fun m ρ _ => Cert.InDwIdeal.Gen.frame m ρ,
    fun m ρ _ => (θ_run Cert.InDwRefIdeal.defs _ _).mono (fun r h => ⟨fun c => (h c).2, sem_eq_zero_of_no_sems (by decide) r.2⟩) (Cert.InDwRefIdeal.Value.run m ρ),
    fun m ρ _ => Cert.OutDx.Gen.frame m ρ,
    fun m ρ _ => Cert.OutDxIdeal.Gen.frame m ρ,
    fun m ρ _ => (θ_run Cert.OutDxRefIdeal.defs _ _).mono (fun r h => ⟨fun c => (h c).2, sem_eq_zero_of_no_sems (by decide) r.2⟩) (Cert.OutDxRefIdeal.Value.run m ρ),
    fun m ρ _ => Cert.OutDw.Gen.frame m ρ,
    fun m ρ _ => Cert.OutDwIdeal.Gen.frame m ρ,
    fun m ρ _ => (θ_run Cert.OutDwRefIdeal.defs _ _).mono (fun r h => ⟨fun c => (h c).2, sem_eq_zero_of_no_sems (by decide) r.2⟩) (Cert.OutDwRefIdeal.Value.run m ρ),
    fun m ρ _ => Cert.GateDw.Gen.frame m ρ,
    fun m ρ _ => Cert.GateDwIdeal.Gen.frame m ρ,
    fun m ρ _ => (θ_run Cert.GateDwRefIdeal.defs _ _).mono (fun r h => ⟨fun c => (h c).2, sem_eq_zero_of_no_sems (by decide) r.2⟩) (Cert.GateDwRefIdeal.Value.run m ρ),
    fun m ρ _ => Cert.ProjDw.Gen.frame m ρ,
    fun m ρ _ => Cert.ProjDwIdeal.Gen.frame m ρ,
    fun m ρ _ => (θ_run Cert.ProjDwRefIdeal.defs _ _).mono (fun r h => ⟨fun c => (h c).2, sem_eq_zero_of_no_sems (by decide) r.2⟩) (Cert.ProjDwRefIdeal.Value.run m ρ),
    fun m ρ _ => Cert.MmUp.Gen.frame m ρ,
    fun m ρ _ => Cert.MmUpIdeal.Gen.frame m ρ,
    fun m ρ _ => (θ_run Cert.MmUpRefIdeal.defs _ _).mono (fun r h => ⟨fun c => (h c).2, sem_eq_zero_of_no_sems (by decide) r.2⟩) (Cert.MmUpRefIdeal.Value.run m ρ),
    fun m ρ _ => Cert.MmDown.Gen.frame m ρ,
    fun m ρ _ => Cert.MmDownIdeal.Gen.frame m ρ,
    fun m ρ _ => (θ_run Cert.MmDownRefIdeal.defs _ _).mono (fun r h => ⟨fun c => (h c).2, sem_eq_zero_of_no_sems (by decide) r.2⟩) (Cert.MmDownRefIdeal.Value.run m ρ),
    fun m ρ _ => Cert.MmIn.Gen.frame m ρ,
    fun m ρ _ => Cert.MmInIdeal.Gen.frame m ρ,
    fun m ρ _ => (θ_run Cert.MmInRefIdeal.defs _ _).mono (fun r h => ⟨fun c => (h c).2, sem_eq_zero_of_no_sems (by decide) r.2⟩) (Cert.MmInRefIdeal.Value.run m ρ),
    fun m ρ _ => Cert.MmOut.Gen.frame m ρ,
    fun m ρ _ => Cert.MmOutIdeal.Gen.frame m ρ,
    fun m ρ _ => (θ_run Cert.MmOutRefIdeal.defs _ _).mono (fun r h => ⟨fun c => (h c).2, sem_eq_zero_of_no_sems (by decide) r.2⟩) (Cert.MmOutRefIdeal.Value.run m ρ),
    fun m ρ _ => Cert.MmGate.Gen.frame m ρ,
    fun m ρ _ => Cert.MmGateIdeal.Gen.frame m ρ,
    fun m ρ _ => (θ_run Cert.MmGateRefIdeal.defs _ _).mono (fun r h => ⟨fun c => (h c).2, sem_eq_zero_of_no_sems (by decide) r.2⟩) (Cert.MmGateRefIdeal.Value.run m ρ),
    fun m ρ _ => Cert.MmProj.Gen.frame m ρ,
    fun m ρ _ => Cert.MmProjIdeal.Gen.frame m ρ,
    fun m ρ _ => (θ_run Cert.MmProjRefIdeal.defs _ _).mono (fun r h => ⟨fun c => (h c).2, sem_eq_zero_of_no_sems (by decide) r.2⟩) (Cert.MmProjRefIdeal.Value.run m ρ),
    fun m ρ _ => Cert.PleB.Gen.frame m ρ,
    fun m ρ _ => Cert.PleBIdeal.Gen.frame m ρ,
    fun m ρ _ => (θ_run Cert.PleBRefIdeal.defs _ _).mono (fun r h => ⟨fun c => (h c).2.2, sem_eq_zero_of_no_sems (by decide) r.2⟩) (Cert.PleBRefIdeal.Value.run m ρ),
    fun m ρ _ => Cert.GnormB.Gen.frame m ρ,
    fun m ρ _ => Cert.GnormBIdeal.Gen.frame m ρ,
    fun m ρ _ => (θ_run Cert.GnormBRefIdeal.defs _ _).mono (fun r h => ⟨fun c => (h c).2.2.2.2.2, sem_eq_zero_of_no_sems (by decide) r.2⟩) (Cert.GnormBRefIdeal.Value.run m ρ),
    fun m ρ _ => Cert.AttnF.Gen.frame m ρ,
    fun m ρ _ => Cert.AttnFIdeal.Gen.frame m ρ,
    fun m ρ _ => Cert.AttnFIdeal.Gen.frame m ρ,
    fun m ρ _ => (θ_run Cert.AttnFRefIdeal.defs _ _).mono (fun r h => ⟨fun c => (h c).2.2, sem_eq_zero_of_no_sems (by decide) r.2⟩) (Cert.AttnFRefIdeal.Value.run m ρ),
    fun m ρ _ => (θ_run Cert.AttnFRefIdeal.defs _ _).mono (fun r h => ⟨fun c => (h c).2.2, sem_eq_zero_of_no_sems (by decide) r.2⟩) (Cert.AttnFRefIdeal.Value.run m ρ),
    fun m ρ _ => Cert.MixB.Gen.frame m ρ,
    fun m ρ _ => Cert.MixBIdeal.Gen.frame m ρ,
    fun m ρ _ => Cert.MixBIdeal.Gen.frame m ρ,
    fun m ρ _ => (θ_run Cert.MixBRefIdeal.defs _ _).mono (fun r h => ⟨fun c => (h c).2.2.2.2.2.2, sem_eq_zero_of_no_sems (by decide) r.2⟩) (Cert.MixBRefIdeal.Value.run m ρ),
    fun m ρ _ => (θ_run Cert.MixBRefIdeal.defs _ _).mono (fun r h => ⟨fun c => (h c).2.2.2.2.2.2, sem_eq_zero_of_no_sems (by decide) r.2⟩) (Cert.MixBRefIdeal.Value.run m ρ),
    fun m ρ _ => Cert.Loss.Gen.frame m ρ,
    fun m ρ _ => Cert.LossIdeal.Gen.frame m ρ,
    fun m ρ _ => (θ_run Cert.LossRefIdeal.defs _ _).mono (fun r h => ⟨fun c => (h c).2.2, sem_eq_zero_of_no_sems (by decide) r.2⟩) (Cert.LossRefIdeal.Value.run m ρ),
    fun m ρ _ => Cert.PleF.Gen.frame m ρ,
    fun m ρ _ => Cert.PleFIdeal.Gen.frame m ρ,
    fun m ρ _ => (θ_run Cert.PleFRefIdeal.defs _ _).mono (fun r h => ⟨fun c => (h c).2, sem_eq_zero_of_no_sems (by decide) r.2⟩) (Cert.PleFRefIdeal.Value.run m ρ),
    fun m ρ _ => Cert.RmsF.Gen.frame m ρ,
    fun m ρ _ => Cert.RmsFIdeal.Gen.frame m ρ,
    fun m ρ _ => (θ_run Cert.RmsFRefIdeal.defs _ _).mono (fun r h => ⟨fun c => (h c).2.2, sem_eq_zero_of_no_sems (by decide) r.2⟩) (Cert.RmsFRefIdeal.Value.run m ρ),
    fun m ρ _ => Cert.GnormF.Gen.frame m ρ,
    fun m ρ _ => Cert.GnormFIdeal.Gen.frame m ρ,
    fun m ρ _ => (θ_run Cert.GnormFRefIdeal.defs _ _).mono (fun r h => ⟨fun c => (h c).2, sem_eq_zero_of_no_sems (by decide) r.2⟩) (Cert.GnormFRefIdeal.Value.run m ρ),
    fun m ρ _ => Cert.MixF.Gen.frame m ρ,
    fun m ρ _ => Cert.MixFIdeal.Gen.frame m ρ,
    fun m ρ _ => Cert.MixFIdeal.Gen.frame m ρ,
    fun m ρ _ => (θ_run Cert.MixFRefIdeal.defs _ _).mono (fun r h => ⟨fun c => (h c).2, sem_eq_zero_of_no_sems (by decide) r.2⟩) (Cert.MixFRefIdeal.Value.run m ρ),
    fun m ρ _ => (θ_run Cert.MixFRefIdeal.defs _ _).mono (fun r h => ⟨fun c => (h c).2, sem_eq_zero_of_no_sems (by decide) r.2⟩) (Cert.MixFRefIdeal.Value.run m ρ),
    fun m ρ _ => Cert.GateF.Gen.frame m ρ,
    fun m ρ _ => Cert.GateFIdeal.Gen.frame m ρ,
    fun m ρ _ => (θ_run Cert.GateFRefIdeal.defs _ _).mono (fun r h => ⟨fun c => (h c).2, sem_eq_zero_of_no_sems (by decide) r.2⟩) (Cert.GateFRefIdeal.Value.run m ρ),
    fun m ρ _ => Cert.ConvF.Gen.frame m ρ,
    fun m ρ _ => Cert.ConvFIdeal.Gen.frame m ρ,
    fun m ρ _ => (θ_run Cert.ConvFRefIdeal.defs _ _).mono (fun r h => ⟨fun c => (h c).2, sem_eq_zero_of_no_sems (by decide) r.2⟩) (Cert.ConvFRefIdeal.Value.run m ρ),
    fun m ρ _ => Cert.AdWs.Gen.frame m ρ,
    fun m ρ _ => Cert.AdWsIdeal.Gen.frame m ρ,
    fun m ρ _ => (θ_run Cert.AdWsRefIdeal.defs _ _).mono (fun r h => ⟨fun c => (h c).2.2.2, sem_eq_zero_of_no_sems (by decide) r.2⟩) (Cert.AdWsRefIdeal.Value.run m ρ),
    fun m ρ _ => Cert.PrepF.Gen.frame m ρ,
    fun m ρ _ => Cert.PrepFIdeal.Gen.frame m ρ,
    fun m ρ _ => (θ_run Cert.PrepFRefIdeal.defs _ _).mono (fun r h => ⟨fun c => (h c).2.2, sem_eq_zero_of_no_sems (by decide) r.2⟩) (Cert.PrepFRefIdeal.Value.run m ρ),
    IdealRules.named_const.statement Cert.KernelIdeal.κ "never" .f32 0xFF61B1E6#32 ⊥ rfl,
    Cert.Dense.algebraic,
    trivial,
    Cert.UpGateInput.algebraic,
    trivial,
    Cert.UpWeight.algebraic,
    trivial,
    Cert.UpGateWeight.algebraic,
    trivial,
    Cert.DownInput.algebraic,
    trivial,
    Cert.DownWeight.algebraic,
    trivial,
    Cert.InInput.algebraic,
    trivial,
    Cert.GateInput.algebraic,
    trivial,
    Cert.UpInput.algebraic,
    trivial,
    Cert.InWeight.algebraic,
    trivial,
    Cert.OutInput.algebraic,
    trivial,
    Cert.OutWeight.algebraic,
    trivial,
    Cert.GateWeight.algebraic,
    trivial,
    Cert.ProjWeight.algebraic,
    trivial,
    Cert.UpForward.algebraic,
    trivial,
    Cert.DownForward.algebraic,
    trivial,
    Cert.InForward.algebraic,
    trivial,
    Cert.OutForward.algebraic,
    trivial,
    Cert.GateForward.algebraic,
    trivial,
    Cert.ProjForward.algebraic,
    trivial,
    Cert.PleGradient.algebraic,
    trivial,
    Cert.GnormGradient.algebraic,
    trivial,
    Cert.AttnForward.algebraic,
    trivial,
    Cert.MixGradient.algebraic,
    trivial,
    Cert.LossGradient.algebraic,
    trivial,
    Cert.PleForward.algebraic,
    trivial,
    Cert.RmsForward.algebraic,
    trivial,
    Cert.GnormForward.algebraic,
    trivial,
    Cert.MixForward.algebraic,
    trivial,
    Cert.SpatialForward.algebraic,
    trivial,
    Cert.ConvForward.algebraic,
    trivial,
    Cert.Adam.algebraic,
    trivial,
    Cert.HeadNorms.algebraic⟩

end Cert.Proof

end
